-- ==== Defs.lean ====
def Pre_Lstm (m : (ℓ : Loc Cert.Lstm.nD Cert.Lstm.τ Cert.Lstm.sig) → Buf (Elt Bits) ℓ) : Prop :=
  True

def Pre_LstmIdeal (m : (ℓ : Loc Cert.LstmIdeal.nD Cert.LstmIdeal.τ Cert.LstmIdeal.sig) → Buf (Elt Ideal) ℓ) : Prop :=
  True

def Pre_LstmRefIdeal (m : (ℓ : Loc Cert.LstmRefIdeal.nD Cert.LstmRefIdeal.τ Cert.LstmRefIdeal.sig) → Buf (Elt Ideal) ℓ) : Prop :=
  True

def Pre_Dist (m : (ℓ : Loc Cert.Dist.nD Cert.Dist.τ Cert.Dist.sig) → Buf (Elt Bits) ℓ) : Prop :=
  True

def Pre_DistIdeal (m : (ℓ : Loc Cert.DistIdeal.nD Cert.DistIdeal.τ Cert.DistIdeal.sig) → Buf (Elt Ideal) ℓ) : Prop :=
  True

def Pre_DistIdeal_finite_states [hPre_finite_states : Cert.Pre_finite_states.Facts] (m : (ℓ : Loc Cert.DistIdeal.nD Cert.DistIdeal.τ Cert.DistIdeal.sig) → Buf (Elt Ideal) ℓ) : Prop :=
  ∀ c : Dev Cert.DistIdeal.nD,
    (Cert.Pre_finite_states.fn (F := Ideal) (m ((c.tc : Thread Cert.DistIdeal.nD Cert.DistIdeal.τ).loc Cert.DistIdeal.main_arg0))) = (fun _ => 1#1)

def Pre_DistRefIdeal (m : (ℓ : Loc Cert.DistRefIdeal.nD Cert.DistRefIdeal.τ Cert.DistRefIdeal.sig) → Buf (Elt Ideal) ℓ) : Prop :=
  True

def Pre_DistRefIdeal_finite_states [hPre_finite_states : Cert.Pre_finite_states.Facts] (m : (ℓ : Loc Cert.DistRefIdeal.nD Cert.DistRefIdeal.τ Cert.DistRefIdeal.sig) → Buf (Elt Ideal) ℓ) : Prop :=
  ∀ c : Dev Cert.DistRefIdeal.nD,
    (Cert.Pre_finite_states.fn (F := Ideal) (m ((c.tc : Thread Cert.DistRefIdeal.nD Cert.DistRefIdeal.τ).loc Cert.DistRefIdeal.main_arg0))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_finite_head [hPre_finite_head : Cert.Pre_finite_head.Facts] (m : (ℓ : Loc Cert.MlpIdeal.nD Cert.MlpIdeal.τ Cert.MlpIdeal.sig) → Buf (Elt Ideal) ℓ) : Prop :=
  ∀ c : Dev Cert.MlpIdeal.nD,
    (Cert.Pre_finite_head.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11))) = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_finite_head [hPre_finite_head : Cert.Pre_finite_head.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_finite_head.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10)) (m ((c.tc : Thread Cert.MlpRefIdeal.nD Cert.MlpRefIdeal.τ).loc Cert.MlpRefIdeal.main_arg11))) = (fun _ => 1#1)

def Pre_Embed [hPre_tokens : Cert.Pre_tokens.Facts] (m : (ℓ : Loc Cert.Embed.nD Cert.Embed.τ Cert.Embed.sig) → Buf (Elt Bits) ℓ) : Prop :=
  ∀ c : Dev Cert.Embed.nD,
    (Cert.Pre_tokens.fn (F := Bits) (m ((c.tc : Thread Cert.Embed.nD Cert.Embed.τ).loc Cert.Embed.main_arg0)) (m ((c.tc : Thread Cert.Embed.nD Cert.Embed.τ).loc Cert.Embed.main_arg1)) (m ((c.tc : Thread Cert.Embed.nD Cert.Embed.τ).loc Cert.Embed.main_arg2)) (m ((c.tc : Thread Cert.Embed.nD Cert.Embed.τ).loc Cert.Embed.main_arg3)) (m ((c.tc : Thread Cert.Embed.nD Cert.Embed.τ).loc Cert.Embed.main_arg4))) = (fun _ => 1#1)

def Pre_EmbedIdeal [hPre_tokens : Cert.Pre_tokens.Facts] (m : (ℓ : Loc Cert.EmbedIdeal.nD Cert.EmbedIdeal.τ Cert.EmbedIdeal.sig) → Buf (Elt Ideal) ℓ) : Prop :=
  ∀ c : Dev Cert.EmbedIdeal.nD,
    (Cert.Pre_tokens.fn (F := Ideal) (m ((c.tc : Thread Cert.EmbedIdeal.nD Cert.EmbedIdeal.τ).loc Cert.EmbedIdeal.main_arg0)) (m ((c.tc : Thread Cert.EmbedIdeal.nD Cert.EmbedIdeal.τ).loc Cert.EmbedIdeal.main_arg1)) (m ((c.tc : Thread Cert.EmbedIdeal.nD Cert.EmbedIdeal.τ).loc Cert.EmbedIdeal.main_arg2)) (m ((c.tc : Thread Cert.EmbedIdeal.nD Cert.EmbedIdeal.τ).loc Cert.EmbedIdeal.main_arg3)) (m ((c.tc : Thread Cert.EmbedIdeal.nD Cert.EmbedIdeal.τ).loc Cert.EmbedIdeal.main_arg4))) = (fun _ => 1#1)

def Pre_EmbedRefIdeal (m : (ℓ : Loc Cert.EmbedRefIdeal.nD Cert.EmbedRefIdeal.τ Cert.EmbedRefIdeal.sig) → Buf (Elt Ideal) ℓ) : Prop :=
  True

def Pre_EmbedRefIdeal_tokens [hPre_tokens : Cert.Pre_tokens.Facts] (m : (ℓ : Loc Cert.EmbedRefIdeal.nD Cert.EmbedRefIdeal.τ Cert.EmbedRefIdeal.sig) → Buf (Elt Ideal) ℓ) : Prop :=
  ∀ c : Dev Cert.EmbedRefIdeal.nD,
    (Cert.Pre_tokens.fn (F := Ideal) (m ((c.tc : Thread Cert.EmbedRefIdeal.nD Cert.EmbedRefIdeal.τ).loc Cert.EmbedRefIdeal.main_arg0)) (m ((c.tc : Thread Cert.EmbedRefIdeal.nD Cert.EmbedRefIdeal.τ).loc Cert.EmbedRefIdeal.main_arg1)) (m ((c.tc : Thread Cert.EmbedRefIdeal.nD Cert.EmbedRefIdeal.τ).loc Cert.EmbedRefIdeal.main_arg2)) (m ((c.tc : Thread Cert.EmbedRefIdeal.nD Cert.EmbedRefIdeal.τ).loc Cert.EmbedRefIdeal.main_arg3)) (m ((c.tc : Thread Cert.EmbedRefIdeal.nD Cert.EmbedRefIdeal.τ).loc Cert.EmbedRefIdeal.main_arg4))) = (fun _ => 1#1)

def quiescent_Lstm [hLstm : Cert.Lstm.Facts] : Prop :=
  ∀ (m : (ℓ : Loc Cert.Lstm.nD Cert.Lstm.τ Cert.Lstm.sig) → Buf (Elt Bits) ℓ) (g : Dev Cert.Lstm.nD → PrngReg), Pre_Lstm m →
    θ_run (Cert.Lstm.defs (F := Bits)) (onTc (τ := Cert.Lstm.τ) (Cert.Lstm.main (F := Bits))) ⟨m, fun _ => 0, g⟩ (fun r => (∀ c : Dev Cert.Lstm.nD,
      r.2.mem ((c.tc : Thread Cert.Lstm.nD Cert.Lstm.τ).loc Cert.Lstm.main_arg0) = m ((c.tc : Thread Cert.Lstm.nD Cert.Lstm.τ).loc Cert.Lstm.main_arg0)
      ∧ r.2.mem ((c.tc : Thread Cert.Lstm.nD Cert.Lstm.τ).loc Cert.Lstm.main_arg1) = m ((c.tc : Thread Cert.Lstm.nD Cert.Lstm.τ).loc Cert.Lstm.main_arg1)
      ∧ r.2.mem ((c.tc : Thread Cert.Lstm.nD Cert.Lstm.τ).loc Cert.Lstm.main_arg2) = m ((c.tc : Thread Cert.Lstm.nD Cert.Lstm.τ).loc Cert.Lstm.main_arg2)
      ∧ r.2.mem ((c.tc : Thread Cert.Lstm.nD Cert.Lstm.τ).loc Cert.Lstm.main_arg3) = m ((c.tc : Thread Cert.Lstm.nD Cert.Lstm.τ).loc Cert.Lstm.main_arg3)
      ∧ r.2.mem ((c.tc : Thread Cert.Lstm.nD Cert.Lstm.τ).loc Cert.Lstm.main_arg4) = m ((c.tc : Thread Cert.Lstm.nD Cert.Lstm.τ).loc Cert.Lstm.main_arg4)
      ∧ r.2.mem ((c.tc : Thread Cert.Lstm.nD Cert.Lstm.τ).loc Cert.Lstm.main_arg5) = m ((c.tc : Thread Cert.Lstm.nD Cert.Lstm.τ).loc Cert.Lstm.main_arg5)
      ∧ r.2.mem ((c.tc : Thread Cert.Lstm.nD Cert.Lstm.τ).loc Cert.Lstm.main_arg6) = m ((c.tc : Thread Cert.Lstm.nD Cert.Lstm.τ).loc Cert.Lstm.main_arg6)
      ∧ r.2.mem ((c.tc : Thread Cert.Lstm.nD Cert.Lstm.τ).loc Cert.Lstm.main_arg7) = m ((c.tc : Thread Cert.Lstm.nD Cert.Lstm.τ).loc Cert.Lstm.main_arg7))
      ∧ r.2.sem = fun _ => 0)

def quiescent_LstmIdeal [hLstmIdeal : Cert.LstmIdeal.Facts] : Prop :=
  ∀ (m : (ℓ : Loc Cert.LstmIdeal.nD Cert.LstmIdeal.τ Cert.LstmIdeal.sig) → Buf (Elt Ideal) ℓ) (g : Dev Cert.LstmIdeal.nD → PrngReg), Pre_LstmIdeal m →
    θ_run (Cert.LstmIdeal.defs (F := Ideal)) (onTc (τ := Cert.LstmIdeal.τ) (Cert.LstmIdeal.main (F := Ideal))) ⟨m, fun _ => 0, g⟩ (fun r => (∀ c : Dev Cert.LstmIdeal.nD,
      r.2.mem ((c.tc : Thread Cert.LstmIdeal.nD Cert.LstmIdeal.τ).loc Cert.LstmIdeal.main_arg0) = m ((c.tc : Thread Cert.LstmIdeal.nD Cert.LstmIdeal.τ).loc Cert.LstmIdeal.main_arg0)
      ∧ r.2.mem ((c.tc : Thread Cert.LstmIdeal.nD Cert.LstmIdeal.τ).loc Cert.LstmIdeal.main_arg1) = m ((c.tc : Thread Cert.LstmIdeal.nD Cert.LstmIdeal.τ).loc Cert.LstmIdeal.main_arg1)
      ∧ r.2.mem ((c.tc : Thread Cert.LstmIdeal.nD Cert.LstmIdeal.τ).loc Cert.LstmIdeal.main_arg2) = m ((c.tc : Thread Cert.LstmIdeal.nD Cert.LstmIdeal.τ).loc Cert.LstmIdeal.main_arg2)
      ∧ r.2.mem ((c.tc : Thread Cert.LstmIdeal.nD Cert.LstmIdeal.τ).loc Cert.LstmIdeal.main_arg3) = m ((c.tc : Thread Cert.LstmIdeal.nD Cert.LstmIdeal.τ).loc Cert.LstmIdeal.main_arg3)
      ∧ r.2.mem ((c.tc : Thread Cert.LstmIdeal.nD Cert.LstmIdeal.τ).loc Cert.LstmIdeal.main_arg4) = m ((c.tc : Thread Cert.LstmIdeal.nD Cert.LstmIdeal.τ).loc Cert.LstmIdeal.main_arg4)
      ∧ r.2.mem ((c.tc : Thread Cert.LstmIdeal.nD Cert.LstmIdeal.τ).loc Cert.LstmIdeal.main_arg5) = m ((c.tc : Thread Cert.LstmIdeal.nD Cert.LstmIdeal.τ).loc Cert.LstmIdeal.main_arg5)
      ∧ r.2.mem ((c.tc : Thread Cert.LstmIdeal.nD Cert.LstmIdeal.τ).loc Cert.LstmIdeal.main_arg6) = m ((c.tc : Thread Cert.LstmIdeal.nD Cert.LstmIdeal.τ).loc Cert.LstmIdeal.main_arg6)
      ∧ r.2.mem ((c.tc : Thread Cert.LstmIdeal.nD Cert.LstmIdeal.τ).loc Cert.LstmIdeal.main_arg7) = m ((c.tc : Thread Cert.LstmIdeal.nD Cert.LstmIdeal.τ).loc Cert.LstmIdeal.main_arg7))
      ∧ r.2.sem = fun _ => 0)

def quiescent_LstmRefIdeal [hLstmRefIdeal : Cert.LstmRefIdeal.Facts] : Prop :=
  ∀ (m : (ℓ : Loc Cert.LstmRefIdeal.nD Cert.LstmRefIdeal.τ Cert.LstmRefIdeal.sig) → Buf (Elt Ideal) ℓ) (g : Dev Cert.LstmRefIdeal.nD → PrngReg), Pre_LstmRefIdeal m →
    θ_run (Cert.LstmRefIdeal.defs (F := Ideal)) (onTc (τ := Cert.LstmRefIdeal.τ) (Cert.LstmRefIdeal.main (F := Ideal))) ⟨m, fun _ => 0, g⟩ (fun r => (∀ c : Dev Cert.LstmRefIdeal.nD,
      r.2.mem ((c.tc : Thread Cert.LstmRefIdeal.nD Cert.LstmRefIdeal.τ).loc Cert.LstmRefIdeal.main_arg0) = m ((c.tc : Thread Cert.LstmRefIdeal.nD Cert.LstmRefIdeal.τ).loc Cert.LstmRefIdeal.main_arg0)
      ∧ r.2.mem ((c.tc : Thread Cert.LstmRefIdeal.nD Cert.LstmRefIdeal.τ).loc Cert.LstmRefIdeal.main_arg1) = m ((c.tc : Thread Cert.LstmRefIdeal.nD Cert.LstmRefIdeal.τ).loc Cert.LstmRefIdeal.main_arg1)
      ∧ r.2.mem ((c.tc : Thread Cert.LstmRefIdeal.nD Cert.LstmRefIdeal.τ).loc Cert.LstmRefIdeal.main_arg2) = m ((c.tc : Thread Cert.LstmRefIdeal.nD Cert.LstmRefIdeal.τ).loc Cert.LstmRefIdeal.main_arg2)
      ∧ r.2.mem ((c.tc : Thread Cert.LstmRefIdeal.nD Cert.LstmRefIdeal.τ).loc Cert.LstmRefIdeal.main_arg3) = m ((c.tc : Thread Cert.LstmRefIdeal.nD Cert.LstmRefIdeal.τ).loc Cert.LstmRefIdeal.main_arg3)
      ∧ r.2.mem ((c.tc : Thread Cert.LstmRefIdeal.nD Cert.LstmRefIdeal.τ).loc Cert.LstmRefIdeal.main_arg4) = m ((c.tc : Thread Cert.LstmRefIdeal.nD Cert.LstmRefIdeal.τ).loc Cert.LstmRefIdeal.main_arg4)
      ∧ r.2.mem ((c.tc : Thread Cert.LstmRefIdeal.nD Cert.LstmRefIdeal.τ).loc Cert.LstmRefIdeal.main_arg5) = m ((c.tc : Thread Cert.LstmRefIdeal.nD Cert.LstmRefIdeal.τ).loc Cert.LstmRefIdeal.main_arg5)
      ∧ r.2.mem ((c.tc : Thread Cert.LstmRefIdeal.nD Cert.LstmRefIdeal.τ).loc Cert.LstmRefIdeal.main_arg6) = m ((c.tc : Thread Cert.LstmRefIdeal.nD Cert.LstmRefIdeal.τ).loc Cert.LstmRefIdeal.main_arg6)
      ∧ r.2.mem ((c.tc : Thread Cert.LstmRefIdeal.nD Cert.LstmRefIdeal.τ).loc Cert.LstmRefIdeal.main_arg7) = m ((c.tc : Thread Cert.LstmRefIdeal.nD Cert.LstmRefIdeal.τ).loc Cert.LstmRefIdeal.main_arg7))
      ∧ r.2.sem = fun _ => 0)

def quiescent_Dist [hDist : Cert.Dist.Facts] : Prop :=
  ∀ (m : (ℓ : Loc Cert.Dist.nD Cert.Dist.τ Cert.Dist.sig) → Buf (Elt Bits) ℓ) (g : Dev Cert.Dist.nD → PrngReg), Pre_Dist m →
    θ_run (Cert.Dist.defs (F := Bits)) (onTc (τ := Cert.Dist.τ) (Cert.Dist.main (F := Bits))) ⟨m, fun _ => 0, g⟩ (fun r => (∀ c : Dev Cert.Dist.nD,
      r.2.mem ((c.tc : Thread Cert.Dist.nD Cert.Dist.τ).loc Cert.Dist.main_arg0) = m ((c.tc : Thread Cert.Dist.nD Cert.Dist.τ).loc Cert.Dist.main_arg0))
      ∧ r.2.sem = fun _ => 0)

def quiescent_DistIdeal [hDistIdeal : Cert.DistIdeal.Facts] : Prop :=
  ∀ (m : (ℓ : Loc Cert.DistIdeal.nD Cert.DistIdeal.τ Cert.DistIdeal.sig) → Buf (Elt Ideal) ℓ) (g : Dev Cert.DistIdeal.nD → PrngReg), Pre_DistIdeal m →
    θ_run (Cert.DistIdeal.defs (F := Ideal)) (onTc (τ := Cert.DistIdeal.τ) (Cert.DistIdeal.main (F := Ideal))) ⟨m, fun _ => 0, g⟩ (fun r => (∀ c : Dev Cert.DistIdeal.nD,
      r.2.mem ((c.tc : Thread Cert.DistIdeal.nD Cert.DistIdeal.τ).loc Cert.DistIdeal.main_arg0) = m ((c.tc : Thread Cert.DistIdeal.nD Cert.DistIdeal.τ).loc Cert.DistIdeal.main_arg0))
      ∧ r.2.sem = fun _ => 0)

def quiescent_DistIdeal_pre_finite_states [hDistIdeal : Cert.DistIdeal.Facts] [hPre_finite_states : Cert.Pre_finite_states.Facts] : Prop :=
  ∀ (m : (ℓ : Loc Cert.DistIdeal.nD Cert.DistIdeal.τ Cert.DistIdeal.sig) → Buf (Elt Ideal) ℓ) (g : Dev Cert.DistIdeal.nD → PrngReg), Pre_DistIdeal_finite_states m →
    θ_run (Cert.DistIdeal.defs (F := Ideal)) (onTc (τ := Cert.DistIdeal.τ) (Cert.DistIdeal.main (F := Ideal))) ⟨m, fun _ => 0, g⟩ (fun r => (∀ c : Dev Cert.DistIdeal.nD,
      r.2.mem ((c.tc : Thread Cert.DistIdeal.nD Cert.DistIdeal.τ).loc Cert.DistIdeal.main_arg0) = m ((c.tc : Thread Cert.DistIdeal.nD Cert.DistIdeal.τ).loc Cert.DistIdeal.main_arg0))
      ∧ r.2.sem = fun _ => 0)

def quiescent_DistRefIdeal [hDistRefIdeal : Cert.DistRefIdeal.Facts] : Prop :=
  ∀ (m : (ℓ : Loc Cert.DistRefIdeal.nD Cert.DistRefIdeal.τ Cert.DistRefIdeal.sig) → Buf (Elt Ideal) ℓ) (g : Dev Cert.DistRefIdeal.nD → PrngReg), Pre_DistRefIdeal m →
    θ_run (Cert.DistRefIdeal.defs (F := Ideal)) (onTc (τ := Cert.DistRefIdeal.τ) (Cert.DistRefIdeal.main (F := Ideal))) ⟨m, fun _ => 0, g⟩ (fun r => (∀ c : Dev Cert.DistRefIdeal.nD,
      r.2.mem ((c.tc : Thread Cert.DistRefIdeal.nD Cert.DistRefIdeal.τ).loc Cert.DistRefIdeal.main_arg0) = m ((c.tc : Thread Cert.DistRefIdeal.nD Cert.DistRefIdeal.τ).loc Cert.DistRefIdeal.main_arg0))
      ∧ r.2.sem = fun _ => 0)

def quiescent_DistRefIdeal_pre_finite_states [hDistRefIdeal : Cert.DistRefIdeal.Facts] [hPre_finite_states : Cert.Pre_finite_states.Facts] : Prop :=
  ∀ (m : (ℓ : Loc Cert.DistRefIdeal.nD Cert.DistRefIdeal.τ Cert.DistRefIdeal.sig) → Buf (Elt Ideal) ℓ) (g : Dev Cert.DistRefIdeal.nD → PrngReg), Pre_DistRefIdeal_finite_states m →
    θ_run (Cert.DistRefIdeal.defs (F := Ideal)) (onTc (τ := Cert.DistRefIdeal.τ) (Cert.DistRefIdeal.main (F := Ideal))) ⟨m, fun _ => 0, g⟩ (fun r => (∀ c : Dev Cert.DistRefIdeal.nD,
      r.2.mem ((c.tc : Thread Cert.DistRefIdeal.nD Cert.DistRefIdeal.τ).loc Cert.DistRefIdeal.main_arg0) = m ((c.tc : Thread Cert.DistRefIdeal.nD Cert.DistRefIdeal.τ).loc Cert.DistRefIdeal.main_arg0))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9)
      ∧ r.2.mem ((c.tc : Thread Cert.Mlp.nD Cert.Mlp.τ).loc Cert.Mlp.main_arg10) = m ((c.tc : Thread Cert.Mlp.nD Cert.Mlp.τ).loc Cert.Mlp.main_arg10)
      ∧ r.2.mem ((c.tc : Thread Cert.Mlp.nD Cert.Mlp.τ).loc Cert.Mlp.main_arg11) = m ((c.tc : Thread Cert.Mlp.nD Cert.Mlp.τ).loc Cert.Mlp.main_arg11))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
      ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11))
      ∧ r.2.sem = fun _ => 0)

def quiescent_MlpIdeal_pre_finite_head [hMlpIdeal : Cert.MlpIdeal.Facts] [hPre_finite_head : Cert.Pre_finite_head.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_finite_head m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
      ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9)
      ∧ r.2.mem ((c.tc : Thread Cert.MlpRefIdeal.nD Cert.MlpRefIdeal.τ).loc Cert.MlpRefIdeal.main_arg10) = m ((c.tc : Thread Cert.MlpRefIdeal.nD Cert.MlpRefIdeal.τ).loc Cert.MlpRefIdeal.main_arg10)
      ∧ r.2.mem ((c.tc : Thread Cert.MlpRefIdeal.nD Cert.MlpRefIdeal.τ).loc Cert.MlpRefIdeal.main_arg11) = m ((c.tc : Thread Cert.MlpRefIdeal.nD Cert.MlpRefIdeal.τ).loc Cert.MlpRefIdeal.main_arg11))
      ∧ r.2.sem = fun _ => 0)

def quiescent_MlpRefIdeal_pre_finite_head [hMlpRefIdeal : Cert.MlpRefIdeal.Facts] [hPre_finite_head : Cert.Pre_finite_head.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_finite_head m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9)
      ∧ r.2.mem ((c.tc : Thread Cert.MlpRefIdeal.nD Cert.MlpRefIdeal.τ).loc Cert.MlpRefIdeal.main_arg10) = m ((c.tc : Thread Cert.MlpRefIdeal.nD Cert.MlpRefIdeal.τ).loc Cert.MlpRefIdeal.main_arg10)
      ∧ r.2.mem ((c.tc : Thread Cert.MlpRefIdeal.nD Cert.MlpRefIdeal.τ).loc Cert.MlpRefIdeal.main_arg11) = m ((c.tc : Thread Cert.MlpRefIdeal.nD Cert.MlpRefIdeal.τ).loc Cert.MlpRefIdeal.main_arg11))
      ∧ r.2.sem = fun _ => 0)

def quiescent_Embed [hEmbed : Cert.Embed.Facts] [hPre_tokens : Cert.Pre_tokens.Facts] : Prop :=
  ∀ (m : (ℓ : Loc Cert.Embed.nD Cert.Embed.τ Cert.Embed.sig) → Buf (Elt Bits) ℓ) (g : Dev Cert.Embed.nD → PrngReg), Pre_Embed m →
    θ_run (Cert.Embed.defs (F := Bits)) (onTc (τ := Cert.Embed.τ) (Cert.Embed.main (F := Bits))) ⟨m, fun _ => 0, g⟩ (fun r => (∀ c : Dev Cert.Embed.nD,
      r.2.mem ((c.tc : Thread Cert.Embed.nD Cert.Embed.τ).loc Cert.Embed.main_arg0) = m ((c.tc : Thread Cert.Embed.nD Cert.Embed.τ).loc Cert.Embed.main_arg0)
      ∧ r.2.mem ((c.tc : Thread Cert.Embed.nD Cert.Embed.τ).loc Cert.Embed.main_arg1) = m ((c.tc : Thread Cert.Embed.nD Cert.Embed.τ).loc Cert.Embed.main_arg1)
      ∧ r.2.mem ((c.tc : Thread Cert.Embed.nD Cert.Embed.τ).loc Cert.Embed.main_arg2) = m ((c.tc : Thread Cert.Embed.nD Cert.Embed.τ).loc Cert.Embed.main_arg2)
      ∧ r.2.mem ((c.tc : Thread Cert.Embed.nD Cert.Embed.τ).loc Cert.Embed.main_arg3) = m ((c.tc : Thread Cert.Embed.nD Cert.Embed.τ).loc Cert.Embed.main_arg3)
      ∧ r.2.mem ((c.tc : Thread Cert.Embed.nD Cert.Embed.τ).loc Cert.Embed.main_arg4) = m ((c.tc : Thread Cert.Embed.nD Cert.Embed.τ).loc Cert.Embed.main_arg4))
      ∧ r.2.sem = fun _ => 0)

def quiescent_EmbedIdeal [hEmbedIdeal : Cert.EmbedIdeal.Facts] [hPre_tokens : Cert.Pre_tokens.Facts] : Prop :=
  ∀ (m : (ℓ : Loc Cert.EmbedIdeal.nD Cert.EmbedIdeal.τ Cert.EmbedIdeal.sig) → Buf (Elt Ideal) ℓ) (g : Dev Cert.EmbedIdeal.nD → PrngReg), Pre_EmbedIdeal m →
    θ_run (Cert.EmbedIdeal.defs (F := Ideal)) (onTc (τ := Cert.EmbedIdeal.τ) (Cert.EmbedIdeal.main (F := Ideal))) ⟨m, fun _ => 0, g⟩ (fun r => (∀ c : Dev Cert.EmbedIdeal.nD,
      r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
      ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
      ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2)
      ∧ r.2.mem ((c.tc : Thread Cert.EmbedIdeal.nD Cert.EmbedIdeal.τ).loc Cert.EmbedIdeal.main_arg3) = m ((c.tc : Thread Cert.EmbedIdeal.nD Cert.EmbedIdeal.τ).loc Cert.EmbedIdeal.main_arg3)
      ∧ r.2.mem ((c.tc : Thread Cert.EmbedIdeal.nD Cert.EmbedIdeal.τ).loc Cert.EmbedIdeal.main_arg4) = m ((c.tc : Thread Cert.EmbedIdeal.nD Cert.EmbedIdeal.τ).loc Cert.EmbedIdeal.main_arg4))
      ∧ r.2.sem = fun _ => 0)

def quiescent_EmbedRefIdeal [hEmbedRefIdeal : Cert.EmbedRefIdeal.Facts] : Prop :=
  ∀ (m : (ℓ : Loc Cert.EmbedRefIdeal.nD Cert.EmbedRefIdeal.τ Cert.EmbedRefIdeal.sig) → Buf (Elt Ideal) ℓ) (g : Dev Cert.EmbedRefIdeal.nD → PrngReg), Pre_EmbedRefIdeal m →
    θ_run (Cert.EmbedRefIdeal.defs (F := Ideal)) (onTc (τ := Cert.EmbedRefIdeal.τ) (Cert.EmbedRefIdeal.main (F := Ideal))) ⟨m, fun _ => 0, g⟩ (fun r => (∀ c : Dev Cert.EmbedRefIdeal.nD,
      r.2.mem ((c.tc : Thread Cert.EmbedRefIdeal.nD Cert.EmbedRefIdeal.τ).loc Cert.EmbedRefIdeal.main_arg0) = m ((c.tc : Thread Cert.EmbedRefIdeal.nD Cert.EmbedRefIdeal.τ).loc Cert.EmbedRefIdeal.main_arg0)
      ∧ r.2.mem ((c.tc : Thread Cert.EmbedRefIdeal.nD Cert.EmbedRefIdeal.τ).loc Cert.EmbedRefIdeal.main_arg1) = m ((c.tc : Thread Cert.EmbedRefIdeal.nD Cert.EmbedRefIdeal.τ).loc Cert.EmbedRefIdeal.main_arg1)
      ∧ r.2.mem ((c.tc : Thread Cert.EmbedRefIdeal.nD Cert.EmbedRefIdeal.τ).loc Cert.EmbedRefIdeal.main_arg2) = m ((c.tc : Thread Cert.EmbedRefIdeal.nD Cert.EmbedRefIdeal.τ).loc Cert.EmbedRefIdeal.main_arg2)
      ∧ r.2.mem ((c.tc : Thread Cert.EmbedRefIdeal.nD Cert.EmbedRefIdeal.τ).loc Cert.EmbedRefIdeal.main_arg3) = m ((c.tc : Thread Cert.EmbedRefIdeal.nD Cert.EmbedRefIdeal.τ).loc Cert.EmbedRefIdeal.main_arg3)
      ∧ r.2.mem ((c.tc : Thread Cert.EmbedRefIdeal.nD Cert.EmbedRefIdeal.τ).loc Cert.EmbedRefIdeal.main_arg4) = m ((c.tc : Thread Cert.EmbedRefIdeal.nD Cert.EmbedRefIdeal.τ).loc Cert.EmbedRefIdeal.main_arg4))
      ∧ r.2.sem = fun _ => 0)

def quiescent_EmbedRefIdeal_pre_tokens [hEmbedRefIdeal : Cert.EmbedRefIdeal.Facts] [hPre_tokens : Cert.Pre_tokens.Facts] : Prop :=
  ∀ (m : (ℓ : Loc Cert.EmbedRefIdeal.nD Cert.EmbedRefIdeal.τ Cert.EmbedRefIdeal.sig) → Buf (Elt Ideal) ℓ) (g : Dev Cert.EmbedRefIdeal.nD → PrngReg), Pre_EmbedRefIdeal_tokens m →
    θ_run (Cert.EmbedRefIdeal.defs (F := Ideal)) (onTc (τ := Cert.EmbedRefIdeal.τ) (Cert.EmbedRefIdeal.main (F := Ideal))) ⟨m, fun _ => 0, g⟩ (fun r => (∀ c : Dev Cert.EmbedRefIdeal.nD,
      r.2.mem ((c.tc : Thread Cert.EmbedRefIdeal.nD Cert.EmbedRefIdeal.τ).loc Cert.EmbedRefIdeal.main_arg0) = m ((c.tc : Thread Cert.EmbedRefIdeal.nD Cert.EmbedRefIdeal.τ).loc Cert.EmbedRefIdeal.main_arg0)
      ∧ r.2.mem ((c.tc : Thread Cert.EmbedRefIdeal.nD Cert.EmbedRefIdeal.τ).loc Cert.EmbedRefIdeal.main_arg1) = m ((c.tc : Thread Cert.EmbedRefIdeal.nD Cert.EmbedRefIdeal.τ).loc Cert.EmbedRefIdeal.main_arg1)
      ∧ r.2.mem ((c.tc : Thread Cert.EmbedRefIdeal.nD Cert.EmbedRefIdeal.τ).loc Cert.EmbedRefIdeal.main_arg2) = m ((c.tc : Thread Cert.EmbedRefIdeal.nD Cert.EmbedRefIdeal.τ).loc Cert.EmbedRefIdeal.main_arg2)
      ∧ r.2.mem ((c.tc : Thread Cert.EmbedRefIdeal.nD Cert.EmbedRefIdeal.τ).loc Cert.EmbedRefIdeal.main_arg3) = m ((c.tc : Thread Cert.EmbedRefIdeal.nD Cert.EmbedRefIdeal.τ).loc Cert.EmbedRefIdeal.main_arg3)
      ∧ r.2.mem ((c.tc : Thread Cert.EmbedRefIdeal.nD Cert.EmbedRefIdeal.τ).loc Cert.EmbedRefIdeal.main_arg4) = m ((c.tc : Thread Cert.EmbedRefIdeal.nD Cert.EmbedRefIdeal.τ).loc Cert.EmbedRefIdeal.main_arg4))
      ∧ r.2.sem = fun _ => 0)

def preserves_Lstm_LstmIdeal : Prop :=
  True

def algebraic_LstmIdeal_LstmRefIdeal [hLstmIdeal : Cert.LstmIdeal.Facts] [hLstmRefIdeal : Cert.LstmRefIdeal.Facts] : Prop :=
  ∀ (m : (ℓ : Loc Cert.LstmIdeal.nD Cert.LstmIdeal.τ Cert.LstmIdeal.sig) → Buf (Elt Ideal) ℓ) (g : Dev Cert.LstmIdeal.nD → PrngReg)
    (m' : (ℓ : Loc Cert.LstmRefIdeal.nD Cert.LstmRefIdeal.τ Cert.LstmRefIdeal.sig) → Buf (Elt Ideal) ℓ) (g' : Dev Cert.LstmRefIdeal.nD → PrngReg), Pre_LstmIdeal m →
    (∀ c : Dev Cert.LstmIdeal.nD,
      m' ((c.tc : Thread Cert.LstmRefIdeal.nD Cert.LstmRefIdeal.τ).loc Cert.LstmRefIdeal.main_arg0) = m ((c.tc : Thread Cert.LstmIdeal.nD Cert.LstmIdeal.τ).loc Cert.LstmIdeal.main_arg0)
      ∧ m' ((c.tc : Thread Cert.LstmRefIdeal.nD Cert.LstmRefIdeal.τ).loc Cert.LstmRefIdeal.main_arg1) = m ((c.tc : Thread Cert.LstmIdeal.nD Cert.LstmIdeal.τ).loc Cert.LstmIdeal.main_arg1)
      ∧ m' ((c.tc : Thread Cert.LstmRefIdeal.nD Cert.LstmRefIdeal.τ).loc Cert.LstmRefIdeal.main_arg2) = m ((c.tc : Thread Cert.LstmIdeal.nD Cert.LstmIdeal.τ).loc Cert.LstmIdeal.main_arg2)
      ∧ m' ((c.tc : Thread Cert.LstmRefIdeal.nD Cert.LstmRefIdeal.τ).loc Cert.LstmRefIdeal.main_arg3) = m ((c.tc : Thread Cert.LstmIdeal.nD Cert.LstmIdeal.τ).loc Cert.LstmIdeal.main_arg3)
      ∧ m' ((c.tc : Thread Cert.LstmRefIdeal.nD Cert.LstmRefIdeal.τ).loc Cert.LstmRefIdeal.main_arg4) = m ((c.tc : Thread Cert.LstmIdeal.nD Cert.LstmIdeal.τ).loc Cert.LstmIdeal.main_arg4)
      ∧ m' ((c.tc : Thread Cert.LstmRefIdeal.nD Cert.LstmRefIdeal.τ).loc Cert.LstmRefIdeal.main_arg5) = m ((c.tc : Thread Cert.LstmIdeal.nD Cert.LstmIdeal.τ).loc Cert.LstmIdeal.main_arg5)
      ∧ m' ((c.tc : Thread Cert.LstmRefIdeal.nD Cert.LstmRefIdeal.τ).loc Cert.LstmRefIdeal.main_arg6) = m ((c.tc : Thread Cert.LstmIdeal.nD Cert.LstmIdeal.τ).loc Cert.LstmIdeal.main_arg6)
      ∧ m' ((c.tc : Thread Cert.LstmRefIdeal.nD Cert.LstmRefIdeal.τ).loc Cert.LstmRefIdeal.main_arg7) = m ((c.tc : Thread Cert.LstmIdeal.nD Cert.LstmIdeal.τ).loc Cert.LstmIdeal.main_arg7)) →
    ∃ (v0 : (c : Dev Cert.LstmIdeal.nD) → Buf (Elt Ideal) ((c.tc : Thread Cert.LstmIdeal.nD Cert.LstmIdeal.τ).loc Cert.LstmIdeal.main_v11)),
      θ_run (Cert.LstmIdeal.defs (F := Ideal)) (onTc (τ := Cert.LstmIdeal.τ) (Cert.LstmIdeal.main (F := Ideal))) ⟨m, fun _ => 0, g⟩ (fun r => ∀ c : Dev Cert.LstmIdeal.nD,
          r.2.mem ((c.tc : Thread Cert.LstmIdeal.nD Cert.LstmIdeal.τ).loc Cert.LstmIdeal.main_v11) = v0 c
          ∧ r.2.mem ((c.tc : Thread Cert.LstmIdeal.nD Cert.LstmIdeal.τ).loc Cert.LstmIdeal.main_arg0) = m ((c.tc : Thread Cert.LstmIdeal.nD Cert.LstmIdeal.τ).loc Cert.LstmIdeal.main_arg0)
          ∧ r.2.mem ((c.tc : Thread Cert.LstmIdeal.nD Cert.LstmIdeal.τ).loc Cert.LstmIdeal.main_arg1) = m ((c.tc : Thread Cert.LstmIdeal.nD Cert.LstmIdeal.τ).loc Cert.LstmIdeal.main_arg1)
          ∧ r.2.mem ((c.tc : Thread Cert.LstmIdeal.nD Cert.LstmIdeal.τ).loc Cert.LstmIdeal.main_arg2) = m ((c.tc : Thread Cert.LstmIdeal.nD Cert.LstmIdeal.τ).loc Cert.LstmIdeal.main_arg2)
          ∧ r.2.mem ((c.tc : Thread Cert.LstmIdeal.nD Cert.LstmIdeal.τ).loc Cert.LstmIdeal.main_arg3) = m ((c.tc : Thread Cert.LstmIdeal.nD Cert.LstmIdeal.τ).loc Cert.LstmIdeal.main_arg3)
          ∧ r.2.mem ((c.tc : Thread Cert.LstmIdeal.nD Cert.LstmIdeal.τ).loc Cert.LstmIdeal.main_arg4) = m ((c.tc : Thread Cert.LstmIdeal.nD Cert.LstmIdeal.τ).loc Cert.LstmIdeal.main_arg4)
          ∧ r.2.mem ((c.tc : Thread Cert.LstmIdeal.nD Cert.LstmIdeal.τ).loc Cert.LstmIdeal.main_arg5) = m ((c.tc : Thread Cert.LstmIdeal.nD Cert.LstmIdeal.τ).loc Cert.LstmIdeal.main_arg5)
          ∧ r.2.mem ((c.tc : Thread Cert.LstmIdeal.nD Cert.LstmIdeal.τ).loc Cert.LstmIdeal.main_arg6) = m ((c.tc : Thread Cert.LstmIdeal.nD Cert.LstmIdeal.τ).loc Cert.LstmIdeal.main_arg6)
          ∧ r.2.mem ((c.tc : Thread Cert.LstmIdeal.nD Cert.LstmIdeal.τ).loc Cert.LstmIdeal.main_arg7) = m ((c.tc : Thread Cert.LstmIdeal.nD Cert.LstmIdeal.τ).loc Cert.LstmIdeal.main_arg7))
      ∧ θ_run (Cert.LstmRefIdeal.defs (F := Ideal)) (onTc (τ := Cert.LstmRefIdeal.τ) (Cert.LstmRefIdeal.main (F := Ideal))) ⟨m', fun _ => 0, g'⟩ (fun r => ∀ c : Dev Cert.LstmRefIdeal.nD,
          r.2.mem ((c.tc : Thread Cert.LstmRefIdeal.nD Cert.LstmRefIdeal.τ).loc Cert.LstmRefIdeal.main_v28) = v0 c
          ∧ r.2.mem ((c.tc : Thread Cert.LstmRefIdeal.nD Cert.LstmRefIdeal.τ).loc Cert.LstmRefIdeal.main_arg0) = m' ((c.tc : Thread Cert.LstmRefIdeal.nD Cert.LstmRefIdeal.τ).loc Cert.LstmRefIdeal.main_arg0)
          ∧ r.2.mem ((c.tc : Thread Cert.LstmRefIdeal.nD Cert.LstmRefIdeal.τ).loc Cert.LstmRefIdeal.main_arg1) = m' ((c.tc : Thread Cert.LstmRefIdeal.nD Cert.LstmRefIdeal.τ).loc Cert.LstmRefIdeal.main_arg1)
          ∧ r.2.mem ((c.tc : Thread Cert.LstmRefIdeal.nD Cert.LstmRefIdeal.τ).loc Cert.LstmRefIdeal.main_arg2) = m' ((c.tc : Thread Cert.LstmRefIdeal.nD Cert.LstmRefIdeal.τ).loc Cert.LstmRefIdeal.main_arg2)
          ∧ r.2.mem ((c.tc : Thread Cert.LstmRefIdeal.nD Cert.LstmRefIdeal.τ).loc Cert.LstmRefIdeal.main_arg3) = m' ((c.tc : Thread Cert.LstmRefIdeal.nD Cert.LstmRefIdeal.τ).loc Cert.LstmRefIdeal.main_arg3)
          ∧ r.2.mem ((c.tc : Thread Cert.LstmRefIdeal.nD Cert.LstmRefIdeal.τ).loc Cert.LstmRefIdeal.main_arg4) = m' ((c.tc : Thread Cert.LstmRefIdeal.nD Cert.LstmRefIdeal.τ).loc Cert.LstmRefIdeal.main_arg4)
          ∧ r.2.mem ((c.tc : Thread Cert.LstmRefIdeal.nD Cert.LstmRefIdeal.τ).loc Cert.LstmRefIdeal.main_arg5) = m' ((c.tc : Thread Cert.LstmRefIdeal.nD Cert.LstmRefIdeal.τ).loc Cert.LstmRefIdeal.main_arg5)
          ∧ r.2.mem ((c.tc : Thread Cert.LstmRefIdeal.nD Cert.LstmRefIdeal.τ).loc Cert.LstmRefIdeal.main_arg6) = m' ((c.tc : Thread Cert.LstmRefIdeal.nD Cert.LstmRefIdeal.τ).loc Cert.LstmRefIdeal.main_arg6)
          ∧ r.2.mem ((c.tc : Thread Cert.LstmRefIdeal.nD Cert.LstmRefIdeal.τ).loc Cert.LstmRefIdeal.main_arg7) = m' ((c.tc : Thread Cert.LstmRefIdeal.nD Cert.LstmRefIdeal.τ).loc Cert.LstmRefIdeal.main_arg7))

def preserves_Dist_DistIdeal : Prop :=
  True

def algebraic_DistIdeal_DistRefIdeal_pre_finite_states [hDistIdeal : Cert.DistIdeal.Facts] [hDistRefIdeal : Cert.DistRefIdeal.Facts] [hPre_finite_states : Cert.Pre_finite_states.Facts] : Prop :=
  ∀ (m : (ℓ : Loc Cert.DistIdeal.nD Cert.DistIdeal.τ Cert.DistIdeal.sig) → Buf (Elt Ideal) ℓ) (g : Dev Cert.DistIdeal.nD → PrngReg)
    (m' : (ℓ : Loc Cert.DistRefIdeal.nD Cert.DistRefIdeal.τ Cert.DistRefIdeal.sig) → Buf (Elt Ideal) ℓ) (g' : Dev Cert.DistRefIdeal.nD → PrngReg), Pre_DistIdeal_finite_states m →
    (∀ c : Dev Cert.DistIdeal.nD,
      m' ((c.tc : Thread Cert.DistRefIdeal.nD Cert.DistRefIdeal.τ).loc Cert.DistRefIdeal.main_arg0) = m ((c.tc : Thread Cert.DistIdeal.nD Cert.DistIdeal.τ).loc Cert.DistIdeal.main_arg0)) →
    ∃ (v0 : (c : Dev Cert.DistIdeal.nD) → Buf (Elt Ideal) ((c.tc : Thread Cert.DistIdeal.nD Cert.DistIdeal.τ).loc Cert.DistIdeal.main_v1)),
      θ_run (Cert.DistIdeal.defs (F := Ideal)) (onTc (τ := Cert.DistIdeal.τ) (Cert.DistIdeal.main (F := Ideal))) ⟨m, fun _ => 0, g⟩ (fun r => ∀ c : Dev Cert.DistIdeal.nD,
          r.2.mem ((c.tc : Thread Cert.DistIdeal.nD Cert.DistIdeal.τ).loc Cert.DistIdeal.main_v1) = v0 c
          ∧ r.2.mem ((c.tc : Thread Cert.DistIdeal.nD Cert.DistIdeal.τ).loc Cert.DistIdeal.main_arg0) = m ((c.tc : Thread Cert.DistIdeal.nD Cert.DistIdeal.τ).loc Cert.DistIdeal.main_arg0))
      ∧ θ_run (Cert.DistRefIdeal.defs (F := Ideal)) (onTc (τ := Cert.DistRefIdeal.τ) (Cert.DistRefIdeal.main (F := Ideal))) ⟨m', fun _ => 0, g'⟩ (fun r => ∀ c : Dev Cert.DistRefIdeal.nD,
          r.2.mem ((c.tc : Thread Cert.DistRefIdeal.nD Cert.DistRefIdeal.τ).loc Cert.DistRefIdeal.main_v25) = v0 c
          ∧ r.2.mem ((c.tc : Thread Cert.DistRefIdeal.nD Cert.DistRefIdeal.τ).loc Cert.DistRefIdeal.main_arg0) = m' ((c.tc : Thread Cert.DistRefIdeal.nD Cert.DistRefIdeal.τ).loc Cert.DistRefIdeal.main_arg0))

def preserves_Mlp_MlpIdeal : Prop :=
  True

def algebraic_MlpIdeal_MlpRefIdeal_pre_finite_head [hMlpIdeal : Cert.MlpIdeal.Facts] [hMlpRefIdeal : Cert.MlpRefIdeal.Facts] [hPre_finite_head : Cert.Pre_finite_head.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal_finite_head m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)
      ∧ m' ((c.tc : Thread Cert.MlpRefIdeal.nD Cert.MlpRefIdeal.τ).loc Cert.MlpRefIdeal.main_arg9) = m ((c.tc : Thread Cert.MlpIdeal.nD Cert.MlpIdeal.τ).loc Cert.MlpIdeal.main_arg9)
      ∧ m' ((c.tc : Thread Cert.MlpRefIdeal.nD Cert.MlpRefIdeal.τ).loc Cert.MlpRefIdeal.main_arg10) = m ((c.tc : Thread Cert.MlpIdeal.nD Cert.MlpIdeal.τ).loc Cert.MlpIdeal.main_arg10)
      ∧ m' ((c.tc : Thread Cert.MlpRefIdeal.nD Cert.MlpRefIdeal.τ).loc Cert.MlpRefIdeal.main_arg11) = m ((c.tc : Thread Cert.MlpIdeal.nD Cert.MlpIdeal.τ).loc Cert.MlpIdeal.main_arg11)) →
    ∃ (v0 : (c : Dev Cert.MlpIdeal.nD) → Buf (Elt Ideal) ((c.tc : Thread Cert.MlpIdeal.nD Cert.MlpIdeal.τ).loc Cert.MlpIdeal.main_v17)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v17) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
          ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
          ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v55) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8)
          ∧ r.2.mem ((c.tc : Thread Cert.MlpRefIdeal.nD Cert.MlpRefIdeal.τ).loc Cert.MlpRefIdeal.main_arg9) = m' ((c.tc : Thread Cert.MlpRefIdeal.nD Cert.MlpRefIdeal.τ).loc Cert.MlpRefIdeal.main_arg9)
          ∧ r.2.mem ((c.tc : Thread Cert.MlpRefIdeal.nD Cert.MlpRefIdeal.τ).loc Cert.MlpRefIdeal.main_arg10) = m' ((c.tc : Thread Cert.MlpRefIdeal.nD Cert.MlpRefIdeal.τ).loc Cert.MlpRefIdeal.main_arg10)
          ∧ r.2.mem ((c.tc : Thread Cert.MlpRefIdeal.nD Cert.MlpRefIdeal.τ).loc Cert.MlpRefIdeal.main_arg11) = m' ((c.tc : Thread Cert.MlpRefIdeal.nD Cert.MlpRefIdeal.τ).loc Cert.MlpRefIdeal.main_arg11))

def preserves_Embed_EmbedIdeal : Prop :=
  True

def algebraic_EmbedIdeal_EmbedRefIdeal [hEmbedIdeal : Cert.EmbedIdeal.Facts] [hEmbedRefIdeal : Cert.EmbedRefIdeal.Facts] [hPre_tokens : Cert.Pre_tokens.Facts] : Prop :=
  ∀ (m : (ℓ : Loc Cert.EmbedIdeal.nD Cert.EmbedIdeal.τ Cert.EmbedIdeal.sig) → Buf (Elt Ideal) ℓ) (g : Dev Cert.EmbedIdeal.nD → PrngReg)
    (m' : (ℓ : Loc Cert.EmbedRefIdeal.nD Cert.EmbedRefIdeal.τ Cert.EmbedRefIdeal.sig) → Buf (Elt Ideal) ℓ) (g' : Dev Cert.EmbedRefIdeal.nD → PrngReg), Pre_EmbedIdeal m →
    (∀ c : Dev Cert.EmbedIdeal.nD,
      m' ((c.tc : Thread Cert.EmbedRefIdeal.nD Cert.EmbedRefIdeal.τ).loc Cert.EmbedRefIdeal.main_arg0) = m ((c.tc : Thread Cert.EmbedIdeal.nD Cert.EmbedIdeal.τ).loc Cert.EmbedIdeal.main_arg0)
      ∧ m' ((c.tc : Thread Cert.EmbedRefIdeal.nD Cert.EmbedRefIdeal.τ).loc Cert.EmbedRefIdeal.main_arg1) = m ((c.tc : Thread Cert.EmbedIdeal.nD Cert.EmbedIdeal.τ).loc Cert.EmbedIdeal.main_arg1)
      ∧ m' ((c.tc : Thread Cert.EmbedRefIdeal.nD Cert.EmbedRefIdeal.τ).loc Cert.EmbedRefIdeal.main_arg2) = m ((c.tc : Thread Cert.EmbedIdeal.nD Cert.EmbedIdeal.τ).loc Cert.EmbedIdeal.main_arg2)
      ∧ m' ((c.tc : Thread Cert.EmbedRefIdeal.nD Cert.EmbedRefIdeal.τ).loc Cert.EmbedRefIdeal.main_arg3) = m ((c.tc : Thread Cert.EmbedIdeal.nD Cert.EmbedIdeal.τ).loc Cert.EmbedIdeal.main_arg3)
      ∧ m' ((c.tc : Thread Cert.EmbedRefIdeal.nD Cert.EmbedRefIdeal.τ).loc Cert.EmbedRefIdeal.main_arg4) = m ((c.tc : Thread Cert.EmbedIdeal.nD Cert.EmbedIdeal.τ).loc Cert.EmbedIdeal.main_arg4)) →
    ∃ (v0 : (c : Dev Cert.EmbedIdeal.nD) → Buf (Elt Ideal) ((c.tc : Thread Cert.EmbedIdeal.nD Cert.EmbedIdeal.τ).loc Cert.EmbedIdeal.main_v10_0)) (v1 : (c : Dev Cert.EmbedIdeal.nD) → Buf (Elt Ideal) ((c.tc : Thread Cert.EmbedIdeal.nD Cert.EmbedIdeal.τ).loc Cert.EmbedIdeal.main_v10_1)),
      θ_run (Cert.EmbedIdeal.defs (F := Ideal)) (onTc (τ := Cert.EmbedIdeal.τ) (Cert.EmbedIdeal.main (F := Ideal))) ⟨m, fun _ => 0, g⟩ (fun r => ∀ c : Dev Cert.EmbedIdeal.nD,
          r.2.mem ((c.tc : Thread Cert.EmbedIdeal.nD Cert.EmbedIdeal.τ).loc Cert.EmbedIdeal.main_v10_0) = v0 c
          ∧ r.2.mem ((c.tc : Thread Cert.EmbedIdeal.nD Cert.EmbedIdeal.τ).loc Cert.EmbedIdeal.main_v10_1) = v1 c
          ∧ r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
          ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
          ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2)
          ∧ r.2.mem ((c.tc : Thread Cert.EmbedIdeal.nD Cert.EmbedIdeal.τ).loc Cert.EmbedIdeal.main_arg3) = m ((c.tc : Thread Cert.EmbedIdeal.nD Cert.EmbedIdeal.τ).loc Cert.EmbedIdeal.main_arg3)
          ∧ r.2.mem ((c.tc : Thread Cert.EmbedIdeal.nD Cert.EmbedIdeal.τ).loc Cert.EmbedIdeal.main_arg4) = m ((c.tc : Thread Cert.EmbedIdeal.nD Cert.EmbedIdeal.τ).loc Cert.EmbedIdeal.main_arg4))
      ∧ θ_run (Cert.EmbedRefIdeal.defs (F := Ideal)) (onTc (τ := Cert.EmbedRefIdeal.τ) (Cert.EmbedRefIdeal.main (F := Ideal))) ⟨m', fun _ => 0, g'⟩ (fun r => ∀ c : Dev Cert.EmbedRefIdeal.nD,
          r.2.mem ((c.tc : Thread Cert.EmbedRefIdeal.nD Cert.EmbedRefIdeal.τ).loc Cert.EmbedRefIdeal.main_v22) = v0 c
          ∧ r.2.mem ((c.tc : Thread Cert.EmbedRefIdeal.nD Cert.EmbedRefIdeal.τ).loc Cert.EmbedRefIdeal.main_v28) = v1 c
          ∧ r.2.mem ((c.tc : Thread Cert.EmbedRefIdeal.nD Cert.EmbedRefIdeal.τ).loc Cert.EmbedRefIdeal.main_arg0) = m' ((c.tc : Thread Cert.EmbedRefIdeal.nD Cert.EmbedRefIdeal.τ).loc Cert.EmbedRefIdeal.main_arg0)
          ∧ r.2.mem ((c.tc : Thread Cert.EmbedRefIdeal.nD Cert.EmbedRefIdeal.τ).loc Cert.EmbedRefIdeal.main_arg1) = m' ((c.tc : Thread Cert.EmbedRefIdeal.nD Cert.EmbedRefIdeal.τ).loc Cert.EmbedRefIdeal.main_arg1)
          ∧ r.2.mem ((c.tc : Thread Cert.EmbedRefIdeal.nD Cert.EmbedRefIdeal.τ).loc Cert.EmbedRefIdeal.main_arg2) = m' ((c.tc : Thread Cert.EmbedRefIdeal.nD Cert.EmbedRefIdeal.τ).loc Cert.EmbedRefIdeal.main_arg2)
          ∧ r.2.mem ((c.tc : Thread Cert.EmbedRefIdeal.nD Cert.EmbedRefIdeal.τ).loc Cert.EmbedRefIdeal.main_arg3) = m' ((c.tc : Thread Cert.EmbedRefIdeal.nD Cert.EmbedRefIdeal.τ).loc Cert.EmbedRefIdeal.main_arg3)
          ∧ r.2.mem ((c.tc : Thread Cert.EmbedRefIdeal.nD Cert.EmbedRefIdeal.τ).loc Cert.EmbedRefIdeal.main_arg4) = m' ((c.tc : Thread Cert.EmbedRefIdeal.nD Cert.EmbedRefIdeal.τ).loc Cert.EmbedRefIdeal.main_arg4))

def Claim : Prop :=
  ∃ (hLstm : Cert.Lstm.Facts) (hLstmIdeal : Cert.LstmIdeal.Facts) (hLstmRefIdeal : Cert.LstmRefIdeal.Facts) (hDist : Cert.Dist.Facts) (hDistIdeal : Cert.DistIdeal.Facts) (hDistRefIdeal : Cert.DistRefIdeal.Facts) (hMlp : Cert.Mlp.Facts) (hMlpIdeal : Cert.MlpIdeal.Facts) (hMlpRefIdeal : Cert.MlpRefIdeal.Facts) (hEmbed : Cert.Embed.Facts) (hEmbedIdeal : Cert.EmbedIdeal.Facts) (hEmbedRefIdeal : Cert.EmbedRefIdeal.Facts) (hPre_finite_states : Cert.Pre_finite_states.Facts) (hPre_finite_head : Cert.Pre_finite_head.Facts) (hPre_tokens : Cert.Pre_tokens.Facts),
    quiescent_Lstm (hLstm := hLstm)
    ∧ quiescent_LstmIdeal (hLstmIdeal := hLstmIdeal)
    ∧ quiescent_LstmRefIdeal (hLstmRefIdeal := hLstmRefIdeal)
    ∧ quiescent_Dist (hDist := hDist)
    ∧ quiescent_DistIdeal (hDistIdeal := hDistIdeal)
    ∧ quiescent_DistIdeal_pre_finite_states (hDistIdeal := hDistIdeal) (hPre_finite_states := hPre_finite_states)
    ∧ quiescent_DistRefIdeal (hDistRefIdeal := hDistRefIdeal)
    ∧ quiescent_DistRefIdeal_pre_finite_states (hDistRefIdeal := hDistRefIdeal) (hPre_finite_states := hPre_finite_states)
    ∧ quiescent_Mlp (hMlp := hMlp)
    ∧ quiescent_MlpIdeal (hMlpIdeal := hMlpIdeal)
    ∧ quiescent_MlpIdeal_pre_finite_head (hMlpIdeal := hMlpIdeal) (hPre_finite_head := hPre_finite_head)
    ∧ quiescent_MlpRefIdeal (hMlpRefIdeal := hMlpRefIdeal)
    ∧ quiescent_MlpRefIdeal_pre_finite_head (hMlpRefIdeal := hMlpRefIdeal) (hPre_finite_head := hPre_finite_head)
    ∧ quiescent_Embed (hEmbed := hEmbed) (hPre_tokens := hPre_tokens)
    ∧ quiescent_EmbedIdeal (hEmbedIdeal := hEmbedIdeal) (hPre_tokens := hPre_tokens)
    ∧ quiescent_EmbedRefIdeal (hEmbedRefIdeal := hEmbedRefIdeal)
    ∧ quiescent_EmbedRefIdeal_pre_tokens (hEmbedRefIdeal := hEmbedRefIdeal) (hPre_tokens := hPre_tokens)
    ∧ preserves_Lstm_LstmIdeal
    ∧ algebraic_LstmIdeal_LstmRefIdeal (hLstmIdeal := hLstmIdeal) (hLstmRefIdeal := hLstmRefIdeal)
    ∧ preserves_Dist_DistIdeal
    ∧ algebraic_DistIdeal_DistRefIdeal_pre_finite_states (hDistIdeal := hDistIdeal) (hDistRefIdeal := hDistRefIdeal) (hPre_finite_states := hPre_finite_states)
    ∧ preserves_Mlp_MlpIdeal
    ∧ algebraic_MlpIdeal_MlpRefIdeal_pre_finite_head (hMlpIdeal := hMlpIdeal) (hMlpRefIdeal := hMlpRefIdeal) (hPre_finite_head := hPre_finite_head)
    ∧ preserves_Embed_EmbedIdeal
    ∧ algebraic_EmbedIdeal_EmbedRefIdeal (hEmbedIdeal := hEmbedIdeal) (hEmbedRefIdeal := hEmbedRefIdeal) (hPre_tokens := hPre_tokens)
-- ==== Pre_finite_head.lean ====
abbrev S256x15x15 : Shape := ⟨3, ![256, 15, 15]⟩
abbrev S1024x232 : Shape := ⟨2, ![1024, 232]⟩
abbrev S1024 : Shape := ⟨1, ![1024]⟩
abbrev S1024x1024 : Shape := ⟨2, ![1024, 1024]⟩
abbrev S2x1024 : Shape := ⟨2, ![2, 1024]⟩
abbrev S2 : Shape := ⟨1, ![2]⟩
abbrev S256x7 : Shape := ⟨2, ![256, 7]⟩
abbrev S_ : Shape := ⟨0, ![]⟩

class Facts : Prop where
  bcast_S_S256x15x15 : S_.BroadcastsInDim S256x15x15 (![] : Fin 0 → Fin S256x15x15.rank)
  reducesTo_S256x15x15_S_d0_1_2 : S256x15x15.ReducesTo [0, 1, 2] S_
  h_S_ : 0 < S_.numel
  bcast_S_S1024x232 : S_.BroadcastsInDim S1024x232 (![] : Fin 0 → Fin S1024x232.rank)
  reducesTo_S1024x232_S_d0_1 : S1024x232.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S2x1024 : S_.BroadcastsInDim S2x1024 (![] : Fin 0 → Fin S2x1024.rank)
  reducesTo_S2x1024_S_d0_1 : S2x1024.ReducesTo [0, 1] S_
  bcast_S_S2 : S_.BroadcastsInDim S2 (![] : Fin 0 → Fin S2.rank)
  reducesTo_S2_S_d0 : S2.ReducesTo [0] S_
  bcast_S_S256x7 : S_.BroadcastsInDim S256x7 (![] : Fin 0 → Fin S256x7.rank)
  reducesTo_S256x7_S_d0_1 : S256x7.ReducesTo [0, 1] S_

variable [Facts]

def fn_part3 {F : FTy → Type} [FloatOps F] (main_arg11 : FVec F S256x7 .f32) (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  let main_v54 : FVec F S256x7 .f32 := Host.absf main_arg11
  let main_cst_20 : FVec F S_ .f32 := constant S_ .f32 0x7F800000#32
  let main_v55 : FVec F S256x7 .f32 := broadcastInDim S256x7 ![] bcast_S_S256x7 main_cst_20
  let main_v56 : IVec S256x7 1 := cmpf .olt main_v54 main_v55
  let main_c_21 : IVec S_ 1 := constantI S_ 1 1#1
  let main_v57 : IVec S_ 1 := (fun x v => Host.reduce IntOp.andi x v reducesTo_S256x7_S_d0_1 h_S_) main_v56 main_c_21
  let main_v58 : IVec S_ 1 := andi main_v53 main_v57
  main_v58

def fn_part2 {F : FTy → Type} [FloatOps F] (main_arg7 : FVec F S1024 .f32) (main_arg8 : FVec F S1024 .f32) (main_arg9 : FVec F S2x1024 .f32) (main_arg10 : FVec F S2 .f32) (main_arg11 : FVec F S256x7 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S2x1024 .f32 := Host.absf main_arg9
  let main_cst_16 : FVec F S_ .f32 := constant S_ .f32 0x7F800000#32
  let main_v45 : FVec F S2x1024 .f32 := broadcastInDim S2x1024 ![] bcast_S_S2x1024 main_cst_16
  let main_v46 : IVec S2x1024 1 := cmpf .olt main_v44 main_v45
  let main_c_17 : IVec S_ 1 := constantI S_ 1 1#1
  let main_v47 : IVec S_ 1 := (fun x v => Host.reduce IntOp.andi x v reducesTo_S2x1024_S_d0_1 h_S_) main_v46 main_c_17
  let main_v48 : IVec S_ 1 := andi main_v43 main_v47
  let main_v49 : FVec F S2 .f32 := Host.absf main_arg10
  let main_cst_18 : FVec F S_ .f32 := constant S_ .f32 0x7F800000#32
  let main_v50 : FVec F S2 .f32 := broadcastInDim S2 ![] bcast_S_S2 main_cst_18
  fn_part3 (F := F) main_arg11 main_v48 main_v49 main_v50

def fn_part1 {F : FTy → Type} [FloatOps F] (main_arg4 : FVec F S1024 .f32) (main_arg5 : FVec F S1024x1024 .f32) (main_arg6 : FVec F S1024 .f32) (main_arg7 : FVec F S1024 .f32) (main_arg8 : FVec F S1024 .f32) (main_arg9 : FVec F S2x1024 .f32) (main_arg10 : FVec F S2 .f32) (main_arg11 : FVec F S256x7 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S256x15x15 .f32) (main_arg1 : FVec F S1024x232 .f32) (main_arg2 : FVec F S1024 .f32) (main_arg3 : FVec F S1024 .f32) (main_arg4 : FVec F S1024 .f32) (main_arg5 : FVec F S1024x1024 .f32) (main_arg6 : FVec F S1024 .f32) (main_arg7 : FVec F S1024 .f32) (main_arg8 : FVec F S1024 .f32) (main_arg9 : FVec F S2x1024 .f32) (main_arg10 : FVec F S2 .f32) (main_arg11 : FVec F S256x7 .f32) : IVec S_ 1 :=
  let main_v0 : FVec F S256x15x15 .f32 := Host.absf main_arg0
  let main_cst : FVec F S_ .f32 := constant S_ .f32 0x7F800000#32
  let main_v1 : FVec F S256x15x15 .f32 := broadcastInDim S256x15x15 ![] bcast_S_S256x15x15 main_cst
  let main_v2 : IVec S256x15x15 1 := cmpf .olt main_v0 main_v1
  let main_c : IVec S_ 1 := constantI S_ 1 1#1
  let main_v3 : IVec S_ 1 := (fun x v => Host.reduce IntOp.andi x v reducesTo_S256x15x15_S_d0_1_2 h_S_) main_v2 main_c
  let main_v4 : FVec F S1024x232 .f32 := Host.absf main_arg1
  let main_cst_0 : FVec F S_ .f32 := constant S_ .f32 0x7F800000#32
  let main_v5 : FVec F S1024x232 .f32 := broadcastInDim S1024x232 ![] bcast_S_S1024x232 main_cst_0
  let main_v6 : IVec S1024x232 1 := cmpf .olt main_v4 main_v5
  let main_c_1 : IVec S_ 1 := constantI S_ 1 1#1
  let main_v7 : IVec S_ 1 := (fun x v => Host.reduce IntOp.andi x v reducesTo_S1024x232_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_v13 main_v16
-- ==== Pre_finite_states.lean ====
abbrev S2x60x256x512 : Shape := ⟨4, ![2, 60, 256, 512]⟩
abbrev S_ : Shape := ⟨0, ![]⟩

class Facts : Prop where
  bcast_S_S2x60x256x512 : S_.BroadcastsInDim S2x60x256x512 (![] : Fin 0 → Fin S2x60x256x512.rank)
  reducesTo_S2x60x256x512_S_d0_1_2_3 : S2x60x256x512.ReducesTo [0, 1, 2, 3] S_
  h_S_ : 0 < S_.numel

variable [Facts]

def fn {F : FTy → Type} [FloatOps F] (main_arg0 : FVec F S2x60x256x512 .f32) : IVec S_ 1 :=
  let main_v0 : FVec F S2x60x256x512 .f32 := Host.absf main_arg0
  let main_cst : FVec F S_ .f32 := constant S_ .f32 0x7F800000#32
  let main_v1 : FVec F S2x60x256x512 .f32 := broadcastInDim S2x60x256x512 ![] bcast_S_S2x60x256x512 main_cst
  let main_v2 : IVec S2x60x256x512 1 := cmpf .olt main_v0 main_v1
  let main_c : IVec S_ 1 := constantI S_ 1 1#1
  let main_v3 : IVec S_ 1 := (fun x v => Host.reduce IntOp.andi x v reducesTo_S2x60x256x512_S_d0_1_2_3 h_S_) main_v2 main_c
  main_v3
-- ==== Pre_tokens.lean ====
abbrev S100000x128 : Shape := ⟨2, ![100000, 128]⟩
abbrev S300x300 : Shape := ⟨2, ![300, 300]⟩
abbrev S300 : Shape := ⟨1, ![300]⟩
abbrev S60x256 : Shape := ⟨2, ![60, 256]⟩
abbrev S_ : Shape := ⟨0, ![]⟩

class Facts : Prop where
  bcast_S_S60x256 : S_.BroadcastsInDim S60x256 (![] : Fin 0 → Fin S60x256.rank)
  reducesTo_S60x256_S_d0_1 : S60x256.ReducesTo [0, 1] S_
  h_S_ : 0 < S_.numel

variable [Facts]

def fn {F : FTy → Type} [FloatOps F] (main_arg0 : IVec S100000x128 32) (main_arg1 : FVec F S300x300 .f32) (main_arg2 : FVec F S300 .f32) (main_arg3 : IVec S60x256 32) (main_arg4 : IVec S60x256 32) : IVec S_ 1 :=
  let main_c : IVec S_ 32 := constantI S_ 32 0#32
  let main_v0 : IVec S60x256 32 := broadcastInDim S60x256 ![] bcast_S_S60x256 main_c
  let main_v1 : IVec S60x256 1 := cmpi .sge main_arg3 main_v0
  let main_c_0 : IVec S_ 32 := constantI S_ 32 50000#32
  let main_v2 : IVec S60x256 32 := broadcastInDim S60x256 ![] bcast_S_S60x256 main_c_0
  let main_v3 : IVec S60x256 1 := cmpi .slt main_arg3 main_v2
  let main_v4 : IVec S60x256 1 := andi main_v1 main_v3
  let main_c_1 : IVec S_ 32 := constantI S_ 32 0#32
  let main_v5 : IVec S60x256 32 := broadcastInDim S60x256 ![] bcast_S_S60x256 main_c_1
  let main_v6 : IVec S60x256 1 := cmpi .sge main_arg4 main_v5
  let main_v7 : IVec S60x256 1 := andi main_v4 main_v6
  let main_c_2 : IVec S_ 32 := constantI S_ 32 50000#32
  let main_v8 : IVec S60x256 32 := broadcastInDim S60x256 ![] bcast_S_S60x256 main_c_2
  let main_v9 : IVec S60x256 1 := cmpi .slt main_arg4 main_v8
  let main_v10 : IVec S60x256 1 := andi main_v7 main_v9
  let main_c_3 : IVec S_ 1 := constantI S_ 1 1#1
  let main_v11 : IVec S_ 1 := (fun x v => Host.reduce IntOp.andi x v reducesTo_S60x256_S_d0_1 h_S_) main_v10 main_c_3
  main_v11
-- ==== Lstm.lean ====
abbrev S2x15360x384 : Shape := ⟨3, ![2, 15360, 384]⟩
abbrev S2x2x384 : Shape := ⟨3, ![2, 2, 384]⟩
abbrev S300 : Shape := ⟨1, ![300]⟩
abbrev S2048x300 : Shape := ⟨2, ![2048, 300]⟩
abbrev S2048x512 : Shape := ⟨2, ![2048, 512]⟩
abbrev S2048 : Shape := ⟨1, ![2048]⟩
abbrev S300x2048 : Shape := ⟨2, ![300, 2048]⟩
abbrev S_ : Shape := ⟨0, ![]⟩
abbrev S384x2048 : Shape := ⟨2, ![384, 2048]⟩
abbrev S512x2048 : Shape := ⟨2, ![512, 2048]⟩
abbrev S384 : Shape := ⟨1, ![384]⟩
abbrev S1x384 : Shape := ⟨2, ![1, 384]⟩
abbrev S1x2048 : Shape := ⟨2, ![1, 2048]⟩
abbrev S2x60x256x512 : Shape := ⟨4, ![2, 60, 256, 512]⟩
abbrev S1x2x384 : Shape := ⟨3, ![1, 2, 384]⟩
abbrev S2x256x384 : Shape := ⟨3, ![2, 256, 384]⟩
abbrev S256x512 : Shape := ⟨2, ![256, 512]⟩
abbrev S2x256x512 : Shape := ⟨3, ![2, 256, 512]⟩
abbrev S2 : Shape := ⟨1, ![2]⟩
abbrev S1x1x384 : Shape := ⟨3, ![1, 1, 384]⟩
abbrev S1 : Shape := ⟨1, ![1]⟩
abbrev S1x256x384 : Shape := ⟨3, ![1, 256, 384]⟩
abbrev S256x384 : Shape := ⟨2, ![256, 384]⟩
abbrev S256x2048 : Shape := ⟨2, ![256, 2048]⟩
abbrev S1x1x256x512 : Shape := ⟨4, ![1, 1, 256, 512]⟩
abbrev S1x256x512 : Shape := ⟨3, ![1, 256, 512]⟩

abbrev nBuf : Space → Nat
  | .hbm => 26
  | .vmem => 12
  | .smem => 0
  | _ => 0

abbrev bufTy : (tb : Table) → Fin (tcTables nBuf tb) → BufTy
  | .hbm, ⟨0, _⟩ => ⟨S2x15360x384, .f32⟩
  | .hbm, ⟨1, _⟩ => ⟨S2x2x384, .f32⟩
  | .hbm, ⟨2, _⟩ => ⟨S300, .f32⟩
  | .hbm, ⟨3, _⟩ => ⟨S300, .f32⟩
  | .hbm, ⟨4, _⟩ => ⟨S2048x300, .f32⟩
  | .hbm, ⟨5, _⟩ => ⟨S2048x512, .f32⟩
  | .hbm, ⟨6, _⟩ => ⟨S2048, .f32⟩
  | .hbm, ⟨7, _⟩ => ⟨S2048, .f32⟩
  | .hbm, ⟨8, _⟩ => ⟨S300x2048, .f32⟩
  | .hbm, ⟨9, _⟩ => ⟨S_, .i32⟩
  | .hbm, ⟨10, _⟩ => ⟨S_, .f32⟩
  | .hbm, ⟨11, _⟩ => ⟨S384x2048, .f32⟩
  | .hbm, ⟨12, _⟩ => ⟨S384x2048, .bf16⟩
  | .hbm, ⟨13, _⟩ => ⟨S512x2048, .f32⟩
  | .hbm, ⟨14, _⟩ => ⟨S512x2048, .bf16⟩
  | .hbm, ⟨15, _⟩ => ⟨S_, .i32⟩
  | .hbm, ⟨16, _⟩ => ⟨S_, .f32⟩
  | .hbm, ⟨17, _⟩ => ⟨S384, .f32⟩
  | .hbm, ⟨18, _⟩ => ⟨S1x384, .f32⟩
  | .hbm, ⟨19, _⟩ => ⟨S_, .i32⟩
  | .hbm, ⟨20, _⟩ => ⟨S_, .f32⟩
  | .hbm, ⟨21, _⟩ => ⟨S384, .f32⟩
  | .hbm, ⟨22, _⟩ => ⟨S1x384, .f32⟩
  | .hbm, ⟨23, _⟩ => ⟨S1x2048, .f32⟩
  | .hbm, ⟨24, _⟩ => ⟨S1x2048, .f32⟩
  | .hbm, ⟨25, _⟩ => ⟨S2x60x256x512, .f32⟩
  | .local _ .vmem, ⟨0, _⟩ => ⟨S1x2x384, .f32⟩
  | .local _ .vmem, ⟨1, _⟩ => ⟨S1x2x384, .f32⟩
  | .local _ .vmem, ⟨2, _⟩ => ⟨S1x384, .f32⟩
  | .local _ .vmem, ⟨3, _⟩ => ⟨S1x384, .f32⟩
  | .local _ .vmem, ⟨4, _⟩ => ⟨S384x2048, .bf16⟩
  | .local _ .vmem, ⟨5, _⟩ => ⟨S512x2048, .bf16⟩
  | .local _ .vmem, ⟨6, _⟩ => ⟨S1x2048, .f32⟩
  | .local _ .vmem, ⟨7, _⟩ => ⟨S1x2048, .f32⟩
  | .local _ .vmem, ⟨8, _⟩ => ⟨S2x256x384, .f32⟩
  | .local _ .vmem, ⟨9, _⟩ => ⟨S256x512, .f32⟩
  | .local _ .vmem, ⟨10, _⟩ => ⟨S256x512, .f32⟩
  | .local _ .vmem, ⟨11, _⟩ => ⟨S2x256x512, .f32⟩
  | _, _ => ⟨S2x15360x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_call2_v0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7

abbrev nD : Nat := 1
abbrev τ : Topo := Topo.v7x

variable {F : FTy → Type} [FloatOps F]

abbrev grid0 : Pipeline.Grid := ⟨1, ![2], ![false]⟩

def k0_off1 (i : grid0.Coords) : Fin 3 → Nat :=
  let arg0 : BitVec 32 := BitVec.ofNat 32 (i 0).val
  let c0_i32_27 : BitVec 32 := 0#32
  let c0_i32_28 : BitVec 32 := 0#32
  ![arg0.toNat, 0, 0]
@[reducible] def k0_t1_loop : Scf.Loop 32 :=
  let c0_i32_29 : BitVec 32 := 0#32
  let c60_i32 : BitVec 32 := 60#32
  let v40 : BitVec 32 := Scalar.addi c0_i32_29 c60_i32
  let c1_i32 : BitVec 32 := 1#32
  ⟨c0_i32_29, v40, c1_i32⟩
def k0_cond1 (k0_t1 : Fin k0_t1_loop.trips) : BitVec 1 :=
  let c0_i32_29 : BitVec 32 := 0#32
  let c1_i32 : BitVec 32 := 1#32
  let arg16 : BitVec 32 := Scf.iv c0_i32_29 c1_i32 k0_t1
  let c1_i32_45 : BitVec 32 := 1#32
  let v56 : BitVec 32 := Scalar.addi arg16 c1_i32_45
  let c60_i32_46 : BitVec 32 := 60#32
  let v57 : BitVec 1 := Scalar.cmpi .slt v56 c60_i32_46
  let v58 : BitVec 32 := Scalar.extui v57
  let c0_i32_47 : BitVec 32 := 0#32
  let v59 : BitVec 1 := Scalar.cmpi .ne v58 c0_i32_47
  v59

def k0_off2 (k0_t1 : Fin k0_t1_loop.trips) : Fin 1 → Nat :=
  let c0_i32_29 : BitVec 32 := 0#32
  let c1_i32 : BitVec 32 := 1#32
  let arg16 : BitVec 32 := Scf.iv c0_i32_29 c1_i32 k0_t1
  let c1_i32_43 : BitVec 32 := 1#32
  let v54 : BitVec 32 := Scalar.addi arg16 c1_i32_43
  let c2_i32_44 : BitVec 32 := 2#32
  let v55 : BitVec 32 := Scalar.remsi v54 c2_i32_44
  ![v55.toNat]
def k0_off3 (k0_t1 : Fin k0_t1_loop.trips) : Fin 3 → Nat :=
  let c0_i32_29 : BitVec 32 := 0#32
  let c1_i32 : BitVec 32 := 1#32
  let arg16 : BitVec 32 := Scf.iv c0_i32_29 c1_i32 k0_t1
  let c1_i32_43 : BitVec 32 := 1#32
  let v54 : BitVec 32 := Scalar.addi arg16 c1_i32_43
  let c2_i32_44 : BitVec 32 := 2#32
  let v55 : BitVec 32 := Scalar.remsi v54 c2_i32_44
  let c0_i32_73 : BitVec 32 := 0#32
  let c0_i32_74 : BitVec 32 := 0#32
  ![v55.toNat, 0, 0]
def k0_off4 (i : grid0.Coords) (k0_t1 : Fin k0_t1_loop.trips) : Fin 3 → Nat :=
  let arg0 : BitVec 32 := BitVec.ofNat 32 (i 0).val
  let c0_i32_29 : BitVec 32 := 0#32
  let c1_i32 : BitVec 32 := 1#32
  let arg16 : BitVec 32 := Scf.iv c0_i32_29 c1_i32 k0_t1
  let c1_i32_71 : BitVec 32 := 1#32
  let v119 : BitVec 32 := Scalar.addi arg16 c1_i32_71
  let c256_i32_72 : BitVec 32 := 256#32
  let v120 : BitVec 32 := Scalar.muli v119 c256_i32_72
  let c0_i32_75 : BitVec 32 := 0#32
  ![arg0.toNat, v120.toNat, 0]
def k0_off5 (k0_t1 : Fin k0_t1_loop.trips) : Fin 1 → Nat :=
  let c0_i32_29 : BitVec 32 := 0#32
  let c1_i32 : BitVec 32 := 1#32
  let arg16 : BitVec 32 := Scf.iv c0_i32_29 c1_i32 k0_t1
  let c2_i32 : BitVec 32 := 2#32
  let v53 : BitVec 32 := Scalar.remsi arg16 c2_i32
  ![v53.toNat]
def k0_off6 (k0_t1 : Fin k0_t1_loop.trips) : Fin 3 → Nat :=
  let c0_i32_29 : BitVec 32 := 0#32
  let c1_i32 : BitVec 32 := 1#32
  let arg16 : BitVec 32 := Scf.iv c0_i32_29 c1_i32 k0_t1
  let c2_i32 : BitVec 32 := 2#32
  let v53 : BitVec 32 := Scalar.remsi arg16 c2_i32
  let c0_i32_48 : BitVec 32 := 0#32
  let c0_i32_49 : BitVec 32 := 0#32
  ![v53.toNat, 0, 0]
def k0_off7 (i : grid0.Coords) (k0_t1 : Fin k0_t1_loop.trips) : Fin 3 → Nat :=
  let arg0 : BitVec 32 := BitVec.ofNat 32 (i 0).val
  let c0_i32_29 : BitVec 32 := 0#32
  let c1_i32 : BitVec 32 := 1#32
  let arg16 : BitVec 32 := Scf.iv c0_i32_29 c1_i32 k0_t1
  let c256_i32 : BitVec 32 := 256#32
  let v60 : BitVec 32 := Scalar.muli arg16 c256_i32
  let c0_i32_50 : BitVec 32 := 0#32
  ![arg0.toNat, v60.toNat, 0]
def k0_off8 (k0_t1 : Fin k0_t1_loop.trips) : Fin 3 → Nat :=
  let c0_i32_29 : BitVec 32 := 0#32
  let c1_i32 : BitVec 32 := 1#32
  let arg16 : BitVec 32 := Scf.iv c0_i32_29 c1_i32 k0_t1
  let c2_i32 : BitVec 32 := 2#32
  let v53 : BitVec 32 := Scalar.remsi arg16 c2_i32
  let v67 : Index := Scalar.indexCast v53
  let c0_51 : Index := 0#32
  let c0_52 : Index := 0#32
  ![v67.toNat, 0, 0]
def k0_cond2 (k0_t1 : Fin k0_t1_loop.trips) : BitVec 1 :=
  let c0_i32_29 : BitVec 32 := 0#32
  let c1_i32 : BitVec 32 := 1#32
  let arg16 : BitVec 32 := Scf.iv c0_i32_29 c1_i32 k0_t1
  let c2_i32_63 : BitVec 32 := 2#32
  let v106 : BitVec 1 := Scalar.cmpi .sge arg16 c2_i32_63
  let v107 : BitVec 32 := Scalar.extui v106
  let c0_i32_64 : BitVec 32 := 0#32
  let v108 : BitVec 1 := Scalar.cmpi .ne v107 c0_i32_64
  v108

def k0_off9 (k0_t1 : Fin k0_t1_loop.trips) : Fin 1 → Nat :=
  let c0_i32_29 : BitVec 32 := 0#32
  let c1_i32 : BitVec 32 := 1#32
  let arg16 : BitVec 32 := Scf.iv c0_i32_29 c1_i32 k0_t1
  let c2_i32 : BitVec 32 := 2#32
  let v53 : BitVec 32 := Scalar.remsi arg16 c2_i32
  ![v53.toNat]
def k0_off10 (i : grid0.Coords) (k0_t1 : Fin k0_t1_loop.trips) : Fin 4 → Nat :=
  let arg0 : BitVec 32 := BitVec.ofNat 32 (i 0).val
  let c0_i32_29 : BitVec 32 := 0#32
  let c1_i32 : BitVec 32 := 1#32
  let arg16 : BitVec 32 := Scf.iv c0_i32_29 c1_i32 k0_t1
  let c2_i32_71 : BitVec 32 := 2#32
  let v119 : BitVec 32 := Scalar.subi arg16 c2_i32_71
  let c0_i32_72 : BitVec 32 := 0#32
  let c0_i32_73 : BitVec 32 := 0#32
  ![arg0.toNat, v119.toNat, 0, 0]
def k0_off11 (k0_t1 : Fin k0_t1_loop.trips) : Fin 3 → Nat :=
  let c0_i32_29 : BitVec 32 := 0#32
  let c1_i32 : BitVec 32 := 1#32
  let arg16 : BitVec 32 := Scf.iv c0_i32_29 c1_i32 k0_t1
  let c2_i32 : BitVec 32 := 2#32
  let v53 : BitVec 32 := Scalar.remsi arg16 c2_i32
  let c0_i32_74 : BitVec 32 := 0#32
  let c0_i32_75 : BitVec 32 := 0#32
  ![v53.toNat, 0, 0]
def k0_off12 (k0_t1 : Fin k0_t1_loop.trips) : Fin 3 → Nat :=
  let c0_i32_29 : BitVec 32 := 0#32
  let c1_i32 : BitVec 32 := 1#32
  let arg16 : BitVec 32 := Scf.iv c0_i32_29 c1_i32 k0_t1
  let c2_i32 : BitVec 32 := 2#32
  let v53 : BitVec 32 := Scalar.remsi arg16 c2_i32
  let v109 : Index := Scalar.indexCast v53
  let c0_65 : Index := 0#32
  let c0_66 : Index := 0#32
  ![v109.toNat, 0, 0]
def k0_off13 (i : grid0.Coords) (k0_t1 : Fin k0_t1_loop.trips) : Fin 4 → Nat :=
  let arg0 : BitVec 32 := BitVec.ofNat 32 (i 0).val
  let c0_i32_29 : BitVec 32 := 0#32
  let c1_i32 : BitVec 32 := 1#32
  let arg16 : BitVec 32 := Scf.iv c0_i32_29 c1_i32 k0_t1
  let c0_i32_67 : BitVec 32 := 0#32
  let c0_i32_68 : BitVec 32 := 0#32
  ![arg0.toNat, arg16.toNat, 0, 0]
def k0_off14 (k0_t1 : Fin k0_t1_loop.trips) : Fin 3 → Nat :=
  let c0_i32_29 : BitVec 32 := 0#32
  let c1_i32 : BitVec 32 := 1#32
  let arg16 : BitVec 32 := Scf.iv c0_i32_29 c1_i32 k0_t1
  let c2_i32 : BitVec 32 := 2#32
  let v53 : BitVec 32 := Scalar.remsi arg16 c2_i32
  let c0_i32_69 : BitVec 32 := 0#32
  let c0_i32_70 : BitVec 32 := 0#32
  ![v53.toNat, 0, 0]
def k0_off15 (i : grid0.Coords) : Fin 4 → Nat :=
  let arg0 : BitVec 32 := BitVec.ofNat 32 (i 0).val
  let c58_i32 : BitVec 32 := 58#32
  let c0_i32_33 : BitVec 32 := 0#32
  let c0_i32_34 : BitVec 32 := 0#32
  ![arg0.toNat, 58, 0, 0]
def k0_off16 (i : grid0.Coords) : Fin 4 → Nat :=
  let arg0 : BitVec 32 := BitVec.ofNat 32 (i 0).val
  let c59_i32 : BitVec 32 := 59#32
  let c0_i32_39 : BitVec 32 := 0#32
  let c0_i32_40 : BitVec 32 := 0#32
  ![arg0.toNat, 59, 0, 0]
def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LstmRefIdeal.lean ====
abbrev S2x15360x384 : Shape := ⟨3, ![2, 15360, 384]⟩
abbrev S2x2x384 : Shape := ⟨3, ![2, 2, 384]⟩
abbrev S300 : Shape := ⟨1, ![300]⟩
abbrev S2048x300 : Shape := ⟨2, ![2048, 300]⟩
abbrev S2048x512 : Shape := ⟨2, ![2048, 512]⟩
abbrev S2048 : Shape := ⟨1, ![2048]⟩
abbrev S2x15360x300 : Shape := ⟨3, ![2, 15360, 300]⟩
abbrev S2x1x300 : Shape := ⟨3, ![2, 1, 300]⟩
abbrev S_ : Shape := ⟨0, ![]⟩
abbrev S1x1x300 : Shape := ⟨3, ![1, 1, 300]⟩
abbrev S2x60x256x300 : Shape := ⟨4, ![2, 60, 256, 300]⟩
abbrev S60x2x256x300 : Shape := ⟨4, ![60, 2, 256, 300]⟩
abbrev S2x256x512 : Shape := ⟨3, ![2, 256, 512]⟩
abbrev S60x2x256x512 : Shape := ⟨4, ![60, 2, 256, 512]⟩
abbrev S1x2x256x300 : Shape := ⟨4, ![1, 2, 256, 300]⟩
abbrev S2x256x300 : Shape := ⟨3, ![2, 256, 300]⟩
abbrev S300x2048 : Shape := ⟨2, ![300, 2048]⟩
abbrev S2x256x2048 : Shape := ⟨3, ![2, 256, 2048]⟩
abbrev S512x2048 : Shape := ⟨2, ![512, 2048]⟩
abbrev S1x1x2048 : Shape := ⟨3, ![1, 1, 2048]⟩
abbrev S1x2x256x512 : Shape := ⟨4, ![1, 2, 256, 512]⟩
abbrev S2x60x256x512 : Shape := ⟨4, ![2, 60, 256, 512]⟩

abbrev nBuf : Space → Nat
  | .hbm => 109
  | .vmem => 0
  | .smem => 0
  | _ => 0

abbrev bufTy : (tb : Table) → Fin (tcTables nBuf tb) → BufTy
  | .hbm, ⟨0, _⟩ => ⟨S2x15360x384, .f32⟩
  | .hbm, ⟨1, _⟩ => ⟨S2x2x384, .f32⟩
  | .hbm, ⟨2, _⟩ => ⟨S300, .f32⟩
  | .hbm, ⟨3, _⟩ => ⟨S300, .f32⟩
  | .hbm, ⟨4, _⟩ => ⟨S2048x300, .f32⟩
  | .hbm, ⟨5, _⟩ => ⟨S2048x512, .f32⟩
  | .hbm, ⟨6, _⟩ => ⟨S2048, .f32⟩
  | .hbm, ⟨7, _⟩ => ⟨S2048, .f32⟩
  | .hbm, ⟨8, _⟩ => ⟨S2x15360x300, .f32⟩
  | .hbm, ⟨9, _⟩ => ⟨S2x1x300, .f32⟩
  | .hbm, ⟨10, _⟩ => ⟨S_, .f32⟩
  | .hbm, ⟨11, _⟩ => ⟨S2x1x300, .f32⟩
  | .hbm, ⟨12, _⟩ => ⟨S2x1x300, .f32⟩
  | .hbm, ⟨13, _⟩ => ⟨S2x1x300, .f32⟩
  | .hbm, ⟨14, _⟩ => ⟨S_, .f32⟩
  | .hbm, ⟨15, _⟩ => ⟨S2x1x300, .f32⟩
  | .hbm, ⟨16, _⟩ => ⟨S2x1x300, .f32⟩
  | .hbm, ⟨17, _⟩ => ⟨S2x1x300, .f32⟩
  | .hbm, ⟨18, _⟩ => ⟨S2x1x300, .f32⟩
  | .hbm, ⟨19, _⟩ => ⟨S2x15360x300, .f32⟩
  | .hbm, ⟨20, _⟩ => ⟨S2x15360x300, .f32⟩
  | .hbm, ⟨21, _⟩ => ⟨S_, .f32⟩
  | .hbm, ⟨22, _⟩ => ⟨S2x1x300, .f32⟩
  | .hbm, ⟨23, _⟩ => ⟨S2x1x300, .f32⟩
  | .hbm, ⟨24, _⟩ => ⟨S2x1x300, .f32⟩
  | .hbm, ⟨25, _⟩ => ⟨S2x15360x300, .f32⟩
  | .hbm, ⟨26, _⟩ => ⟨S2x15360x300, .f32⟩
  | .hbm, ⟨27, _⟩ => ⟨S1x1x300, .f32⟩
  | .hbm, ⟨28, _⟩ => ⟨S2x15360x300, .f32⟩
  | .hbm, ⟨29, _⟩ => ⟨S2x15360x300, .f32⟩
  | .hbm, ⟨30, _⟩ => ⟨S1x1x300, .f32⟩
  | .hbm, ⟨31, _⟩ => ⟨S2x15360x300, .f32⟩
  | .hbm, ⟨32, _⟩ => ⟨S2x15360x300, .f32⟩
  | .hbm, ⟨33, _⟩ => ⟨S2x60x256x300, .f32⟩
  | .hbm, ⟨34, _⟩ => ⟨S60x2x256x300, .f32⟩
  | .hbm, ⟨35, _⟩ => ⟨S_, .f32⟩
  | .hbm, ⟨36, _⟩ => ⟨S2x256x512, .f32⟩
  | .hbm, ⟨37, _⟩ => ⟨S_, .f32⟩
  | .hbm, ⟨38, _⟩ => ⟨S2x256x512, .f32⟩
  | .hbm, ⟨39, _⟩ => ⟨S_, .f32⟩
  | .hbm, ⟨40, _⟩ => ⟨S60x2x256x512, .f32⟩
  | .hbm, ⟨41, _⟩ => ⟨S_, .i32⟩
  | .hbm, ⟨42, _⟩ => ⟨S60x2x256x300, .f32⟩
  | .hbm, ⟨43, _⟩ => ⟨S2048x300, .f32⟩
  | .hbm, ⟨44, _⟩ => ⟨S2048x512, .f32⟩
  | .hbm, ⟨45, _⟩ => ⟨S2048, .f32⟩
  | .hbm, ⟨46, _⟩ => ⟨S2048, .f32⟩
  | .hbm, ⟨47, _⟩ => ⟨S_, .i32⟩
  | .hbm, ⟨48, _⟩ => ⟨S2x256x512, .f32⟩
  | .hbm, ⟨49, _⟩ => ⟨S2x256x512, .f32⟩
  | .hbm, ⟨50, _⟩ => ⟨S60x2x256x512, .f32⟩
  | .hbm, ⟨51, _⟩ => ⟨S_, .i32⟩
  | .hbm, ⟨52, _⟩ => ⟨S_, .i1⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S1x2x256x300, .f32⟩
  | .hbm, ⟨57, _⟩ => ⟨S2x256x300, .f32⟩
  | .hbm, ⟨58, _⟩ => ⟨S300x2048, .f32⟩
  | .hbm, ⟨59, _⟩ => ⟨S2x256x2048, .f32⟩
  | .hbm, ⟨60, _⟩ => ⟨S512x2048, .f32⟩
  | .hbm, ⟨61, _⟩ => ⟨S2x256x2048, .f32⟩
  | .hbm, ⟨62, _⟩ => ⟨S2x256x2048, .f32⟩
  | .hbm, ⟨63, _⟩ => ⟨S2048, .f32⟩
  | .hbm, ⟨64, _⟩ => ⟨S1x1x2048, .f32⟩
  | .hbm, ⟨65, _⟩ => ⟨S2x256x2048, .f32⟩
  | .hbm, ⟨66, _⟩ => ⟨S2x256x2048, .f32⟩
  | .hbm, ⟨67, _⟩ => ⟨S2x256x512, .f32⟩
  | .hbm, ⟨68, _⟩ => ⟨S2x256x512, .f32⟩
  | .hbm, ⟨69, _⟩ => ⟨S2x256x512, .f32⟩
  | .hbm, ⟨70, _⟩ => ⟨S2x256x512, .f32⟩
  | .hbm, ⟨71, _⟩ => ⟨S2x256x512, .f32⟩
  | .hbm, ⟨72, _⟩ => ⟨S2x256x512, .f32⟩
  | .hbm, ⟨73, _⟩ => ⟨S_, .f32⟩
  | .hbm, ⟨74, _⟩ => ⟨S2x256x512, .f32⟩
  | .hbm, ⟨75, _⟩ => ⟨S2x256x512, .f32⟩
  | .hbm, ⟨76, _⟩ => ⟨S_, .f32⟩
  | .hbm, ⟨77, _⟩ => ⟨S2x256x512, .f32⟩
  | .hbm, ⟨78, _⟩ => ⟨S2x256x512, .f32⟩
  | .hbm, ⟨79, _⟩ => ⟨S2x256x512, .f32⟩
  | .hbm, ⟨80, _⟩ => ⟨S2x256x512, .f32⟩
  | .hbm, ⟨81, _⟩ => ⟨S2x256x512, .f32⟩
  | .hbm, ⟨82, _⟩ => ⟨S_, .f32⟩
  | .hbm, ⟨83, _⟩ => ⟨S2x256x512, .f32⟩
  | .hbm, ⟨84, _⟩ => ⟨S2x256x512, .f32⟩
  | .hbm, ⟨85, _⟩ => ⟨S_, .f32⟩
  | .hbm, ⟨86, _⟩ => ⟨S2x256x512, .f32⟩
  | .hbm, ⟨87, _⟩ => ⟨S2x256x512, .f32⟩
  | .hbm, ⟨88, _⟩ => ⟨S2x256x512, .f32⟩
  | .hbm, ⟨89, _⟩ => ⟨S2x256x512, .f32⟩
  | .hbm, ⟨90, _⟩ => ⟨S2x256x512, .f32⟩
  | .hbm, ⟨91, _⟩ => ⟨S2x256x512, .f32⟩
  | .hbm, ⟨92, _⟩ => ⟨S2x256x512, .f32⟩
  | .hbm, ⟨93, _⟩ => ⟨S_, .f32⟩
  | .hbm, ⟨94, _⟩ => ⟨S2x256x512, .f32⟩
  | .hbm, ⟨95, _⟩ => ⟨S2x256x512, .f32⟩
  | .hbm, ⟨96, _⟩ => ⟨S_, .f32⟩
  | .hbm, ⟨97, _⟩ => ⟨S2x256x512, .f32⟩
  | .hbm, ⟨98, _⟩ => ⟨S2x256x512, .f32⟩
  | .hbm, ⟨99, _⟩ => ⟨S2x256x512, .f32⟩
  | .hbm, ⟨100, _⟩ => ⟨S2x256x512, .f32⟩
  | .hbm, ⟨101, _⟩ => ⟨S1x2x256x512, .f32⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S60x2x256x512, .f32⟩
  | .hbm, ⟨106, _⟩ => ⟨S_, .i32⟩
  | .hbm, ⟨107, _⟩ => ⟨S_, .i32⟩
  | .hbm, ⟨108, _⟩ => ⟨S2x60x256x512, .f32⟩
  | _, _ => ⟨S2x15360x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_c : Ref sig .tc := ⟨.hbm, 41, rfl⟩
abbrev main_v27_0 : Ref sig .tc := ⟨.hbm, 42, rfl⟩
abbrev main_v27_1 : Ref sig .tc := ⟨.hbm, 43, rfl⟩
abbrev main_v27_2 : Ref sig .tc := ⟨.hbm, 44, rfl⟩
abbrev main_v27_3 : Ref sig .tc := ⟨.hbm, 45, rfl⟩
abbrev main_v27_4 : Ref sig .tc := ⟨.hbm, 46, rfl⟩
abbrev main_v27_5 : Ref sig .tc := ⟨.hbm, 47, rfl⟩
abbrev main_v27_6 : Ref sig .tc := ⟨.hbm, 48, rfl⟩
abbrev main_v27_7 : Ref sig .tc := ⟨.hbm, 49, rfl⟩
abbrev main_v27_8 : Ref sig .tc := ⟨.hbm, 50, rfl⟩
abbrev main_while0c_c_13 : Ref sig .tc := ⟨.hbm, 51, rfl⟩
abbrev main_while0c_v29 : Ref sig .tc := ⟨.hbm, 52, rfl⟩
abbrev main_while0b_call0_c : Ref sig .tc := ⟨.hbm, 53, rfl⟩
abbrev main_while0b_call0_c_0 : Ref sig .tc := ⟨.hbm, 54, rfl⟩
abbrev main_while0b_call0_c_1 : Ref sig .tc := ⟨.hbm, 55, rfl⟩
abbrev main_while0b_call0_v0 : Ref sig .tc := ⟨.hbm, 56, rfl⟩
abbrev main_while0b_v29 : Ref sig .tc := ⟨.hbm, 57, rfl⟩
abbrev main_while0b_v30 : Ref sig .tc := ⟨.hbm, 58, rfl⟩
abbrev main_while0b_v31 : Ref sig .tc := ⟨.hbm, 59, rfl⟩
abbrev main_while0b_v32 : Ref sig .tc := ⟨.hbm, 60, rfl⟩
abbrev main_while0b_v33 : Ref sig .tc := ⟨.hbm, 61, rfl⟩
abbrev main_while0b_v34 : Ref sig .tc := ⟨.hbm, 62, rfl⟩
abbrev main_while0b_v35 : Ref sig .tc := ⟨.hbm, 63, rfl⟩
abbrev main_while0b_v36 : Ref sig .tc := ⟨.hbm, 64, rfl⟩
abbrev main_while0b_v37 : Ref sig .tc := ⟨.hbm, 65, rfl⟩
abbrev main_while0b_v38 : Ref sig .tc := ⟨.hbm, 66, rfl⟩
abbrev main_while0b_v39 : Ref sig .tc := ⟨.hbm, 67, rfl⟩
abbrev main_while0b_v40 : Ref sig .tc := ⟨.hbm, 68, rfl⟩
abbrev main_while0b_v41 : Ref sig .tc := ⟨.hbm, 69, rfl⟩
abbrev main_while0b_v42 : Ref sig .tc := ⟨.hbm, 70, rfl⟩
abbrev main_while0b_v43 : Ref sig .tc := ⟨.hbm, 71, rfl⟩
abbrev main_while0b_v44 : Ref sig .tc := ⟨.hbm, 72, rfl⟩
abbrev main_while0b_cst_13 : Ref sig .tc := ⟨.hbm, 73, rfl⟩
abbrev main_while0b_v45 : Ref sig .tc := ⟨.hbm, 74, rfl⟩
abbrev main_while0b_v46 : Ref sig .tc := ⟨.hbm, 75, rfl⟩
abbrev main_while0b_cst_14 : Ref sig .tc := ⟨.hbm, 76, rfl⟩
abbrev main_while0b_v47 : Ref sig .tc := ⟨.hbm, 77, rfl⟩
abbrev main_while0b_v48 : Ref sig .tc := ⟨.hbm, 78, rfl⟩
abbrev main_while0b_v49 : Ref sig .tc := ⟨.hbm, 79, rfl⟩
abbrev main_while0b_v50 : Ref sig .tc := ⟨.hbm, 80, rfl⟩
abbrev main_while0b_v51 : Ref sig .tc := ⟨.hbm, 81, rfl⟩
abbrev main_while0b_cst_15 : Ref sig .tc := ⟨.hbm, 82, rfl⟩
abbrev main_while0b_v52 : Ref sig .tc := ⟨.hbm, 83, rfl⟩
abbrev main_while0b_v53 : Ref sig .tc := ⟨.hbm, 84, rfl⟩
abbrev main_while0b_cst_16 : Ref sig .tc := ⟨.hbm, 85, rfl⟩
abbrev main_while0b_v54 : Ref sig .tc := ⟨.hbm, 86, rfl⟩
abbrev main_while0b_v55 : Ref sig .tc := ⟨.hbm, 87, rfl⟩
abbrev main_while0b_v56 : Ref sig .tc := ⟨.hbm, 88, rfl⟩
abbrev main_while0b_v57 : Ref sig .tc := ⟨.hbm, 89, rfl⟩
abbrev main_while0b_v58 : Ref sig .tc := ⟨.hbm, 90, rfl⟩
abbrev main_while0b_v59 : Ref sig .tc := ⟨.hbm, 91, rfl⟩
abbrev main_while0b_v60 : Ref sig .tc := ⟨.hbm, 92, rfl⟩
abbrev main_while0b_cst_17 : Ref sig .tc := ⟨.hbm, 93, rfl⟩
abbrev main_while0b_v61 : Ref sig .tc := ⟨.hbm, 94, rfl⟩
abbrev main_while0b_v62 : Ref sig .tc := ⟨.hbm, 95, rfl⟩
abbrev main_while0b_cst_18 : Ref sig .tc := ⟨.hbm, 96, rfl⟩
abbrev main_while0b_v63 : Ref sig .tc := ⟨.hbm, 97, rfl⟩
abbrev main_while0b_v64 : Ref sig .tc := ⟨.hbm, 98, rfl⟩
abbrev main_while0b_v65 : Ref sig .tc := ⟨.hbm, 99, rfl⟩
abbrev main_while0b_v66 : Ref sig .tc := ⟨.hbm, 100, rfl⟩
abbrev main_while0b_call1_v0 : Ref sig .tc := ⟨.hbm, 101, rfl⟩
abbrev main_while0b_call1_c : Ref sig .tc := ⟨.hbm, 102, rfl⟩
abbrev main_while0b_call1_c_0 : Ref sig .tc := ⟨.hbm, 103, rfl⟩
abbrev main_while0b_call1_c_1 : Ref sig .tc := ⟨.hbm, 104, rfl⟩
abbrev main_while0b_v67 : Ref sig .tc := ⟨.hbm, 105, rfl⟩
abbrev main_while0b_c_19 : Ref sig .tc := ⟨.hbm, 106, rfl⟩
abbrev main_while0b_v68 : Ref sig .tc := ⟨.hbm, 107, rfl⟩
abbrev main_v28 : Ref sig .tc := ⟨.hbm, 108, rfl⟩

abbrev nD : Nat := 1
abbrev τ : Topo := Topo.v7x

variable {F : FTy → Type} [FloatOps F]

abbrev main_while0_count : Scf.Loop 32 := ⟨0#32, 60#32, 1#32⟩
-- ==== Dist.lean ====
abbrev S2x60x256x512 : Shape := ⟨4, ![2, 60, 256, 512]⟩
abbrev S2x60x131072 : Shape := ⟨3, ![2, 60, 131072]⟩
abbrev S256x15x15 : Shape := ⟨3, ![256, 15, 15]⟩
abbrev S1x60x8192 : Shape := ⟨3, ![1, 60, 8192]⟩
abbrev S16x15x15 : Shape := ⟨3, ![16, 15, 15]⟩
abbrev S60x15 : Shape := ⟨2, ![60, 15]⟩
abbrev S15x60 : Shape := ⟨2, ![15, 60]⟩
abbrev S1x512 : Shape := ⟨2, ![1, 512]⟩
abbrev S1x60x512 : Shape := ⟨3, ![1, 60, 512]⟩
abbrev S60x512 : Shape := ⟨2, ![60, 512]⟩
abbrev S60x60 : Shape := ⟨2, ![60, 60]⟩
abbrev S60 : Shape := ⟨1, ![60]⟩
abbrev S60x1 : Shape := ⟨2, ![60, 1]⟩
abbrev S1x60 : Shape := ⟨2, ![1, 60]⟩
abbrev S60x59 : Shape := ⟨2, ![60, 59]⟩
abbrev S60x58 : Shape := ⟨2, ![60, 58]⟩
abbrev S60x2 : Shape := ⟨2, ![60, 2]⟩
abbrev S60x57 : Shape := ⟨2, ![60, 57]⟩
abbrev S60x3 : Shape := ⟨2, ![60, 3]⟩
abbrev S59x15 : Shape := ⟨2, ![59, 15]⟩
abbrev S1x15 : Shape := ⟨2, ![1, 15]⟩
abbrev S58x15 : Shape := ⟨2, ![58, 15]⟩
abbrev S2x15 : Shape := ⟨2, ![2, 15]⟩
abbrev S57x15 : Shape := ⟨2, ![57, 15]⟩
abbrev S3x15 : Shape := ⟨2, ![3, 15]⟩
abbrev S15x15 : Shape := ⟨2, ![15, 15]⟩
abbrev S1x15x15 : Shape := ⟨3, ![1, 15, 15]⟩

abbrev nBuf : Space → Nat
  | .hbm => 3
  | .vmem => 6
  | .smem => 0
  | _ => 0

abbrev bufTy : (tb : Table) → Fin (tcTables nBuf tb) → BufTy
  | .hbm, ⟨0, _⟩ => ⟨S2x60x256x512, .f32⟩
  | .hbm, ⟨1, _⟩ => ⟨S2x60x131072, .f32⟩
  | .hbm, ⟨2, _⟩ => ⟨S256x15x15, .f32⟩
  | .local _ .vmem, ⟨0, _⟩ => ⟨S1x60x8192, .f32⟩
  | .local _ .vmem, ⟨1, _⟩ => ⟨S1x60x8192, .f32⟩
  | .local _ .vmem, ⟨2, _⟩ => ⟨S1x60x8192, .f32⟩
  | .local _ .vmem, ⟨3, _⟩ => ⟨S1x60x8192, .f32⟩
  | .local _ .vmem, ⟨4, _⟩ => ⟨S16x15x15, .f32⟩
  | .local _ .vmem, ⟨5, _⟩ => ⟨S16x15x15, .f32⟩
  | _, _ => ⟨S2x60x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x60x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x60x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x15x15 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DistRefIdeal.lean ====
abbrev S2x60x256x512 : Shape := ⟨4, ![2, 60, 256, 512]⟩
abbrev S1x60x256x512 : Shape := ⟨4, ![1, 60, 256, 512]⟩
abbrev S60x256x512 : Shape := ⟨3, ![60, 256, 512]⟩
abbrev S256x60x512 : Shape := ⟨3, ![256, 60, 512]⟩
abbrev S_ : Shape := ⟨0, ![]⟩
abbrev S256x60 : Shape := ⟨2, ![256, 60]⟩
abbrev S256x60x1 : Shape := ⟨3, ![256, 60, 1]⟩
abbrev S256x1x60 : Shape := ⟨3, ![256, 1, 60]⟩
abbrev S256x60x60 : Shape := ⟨3, ![256, 60, 60]⟩
abbrev S256x15x4x15x4 : Shape := ⟨5, ![256, 15, 4, 15, 4]⟩
abbrev S256x15x15 : Shape := ⟨3, ![256, 15, 15]⟩

abbrev nBuf : Space → Nat
  | .hbm => 33
  | .vmem => 0
  | .smem => 0
  | _ => 0

abbrev bufTy : (tb : Table) → Fin (tcTables nBuf tb) → BufTy
  | .hbm, ⟨0, _⟩ => ⟨S2x60x256x512, .f32⟩
  | .hbm, ⟨1, _⟩ => ⟨S1x60x256x512, .f32⟩
  | .hbm, ⟨2, _⟩ => ⟨S60x256x512, .f32⟩
  | .hbm, ⟨3, _⟩ => ⟨S256x60x512, .f32⟩
  | .hbm, ⟨4, _⟩ => ⟨S1x60x256x512, .f32⟩
  | .hbm, ⟨5, _⟩ => ⟨S60x256x512, .f32⟩
  | .hbm, ⟨6, _⟩ => ⟨S256x60x512, .f32⟩
  | .hbm, ⟨7, _⟩ => ⟨S256x60x512, .f32⟩
  | .hbm, ⟨8, _⟩ => ⟨S_, .f32⟩
  | .hbm, ⟨9, _⟩ => ⟨S256x60, .f32⟩
  | .hbm, ⟨10, _⟩ => ⟨S256x60x1, .f32⟩
  | .hbm, ⟨11, _⟩ => ⟨S256x60x512, .f32⟩
  | .hbm, ⟨12, _⟩ => ⟨S_, .f32⟩
  | .hbm, ⟨13, _⟩ => ⟨S256x60, .f32⟩
  | .hbm, ⟨14, _⟩ => ⟨S256x1x60, .f32⟩
  | .hbm, ⟨15, _⟩ => ⟨S256x60x60, .f32⟩
  | .hbm, ⟨16, _⟩ => ⟨S256x60x60, .f32⟩
  | .hbm, ⟨17, _⟩ => ⟨S256x60x60, .f32⟩
  | .hbm, ⟨18, _⟩ => ⟨S256x60x60, .f32⟩
  | .hbm, ⟨19, _⟩ => ⟨S_, .f32⟩
  | .hbm, ⟨20, _⟩ => ⟨S256x60x60, .f32⟩
  | .hbm, ⟨21, _⟩ => ⟨S256x60x60, .f32⟩
  | .hbm, ⟨22, _⟩ => ⟨S256x60x60, .f32⟩
  | .hbm, ⟨23, _⟩ => ⟨S_, .f32⟩
  | .hbm, ⟨24, _⟩ => ⟨S256x60x60, .f32⟩
  | .hbm, ⟨25, _⟩ => ⟨S256x60x60, .f32⟩
  | .hbm, ⟨26, _⟩ => ⟨S_, .f32⟩
  | .hbm, ⟨27, _⟩ => ⟨S256x60x60, .f32⟩
  | .hbm, ⟨28, _⟩ => ⟨S256x60x60, .f32⟩
  | .hbm, ⟨29, _⟩ => ⟨S256x60x60, .f32⟩
  | .hbm, ⟨30, _⟩ => ⟨S256x15x4x15x4, .f32⟩
  | .hbm, ⟨31, _⟩ => ⟨S_, .f32⟩
  | .hbm, ⟨32, _⟩ => ⟨S256x15x15, .f32⟩
  | _, _ => ⟨S2x60x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_1 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_2 : Ref sig .tc := ⟨.hbm, 23, rfl⟩
abbrev main_v19 : Ref sig .tc := ⟨.hbm, 24, rfl⟩
abbrev main_v20 : Ref sig .tc := ⟨.hbm, 25, rfl⟩
abbrev main_cst_3 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_4 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Mlp.lean ====
abbrev S256x15x15 : Shape := ⟨3, ![256, 15, 15]⟩
abbrev S1024x232 : Shape := ⟨2, ![1024, 232]⟩
abbrev S1024 : Shape := ⟨1, ![1024]⟩
abbrev S1024x1024 : Shape := ⟨2, ![1024, 1024]⟩
abbrev S2x1024 : Shape := ⟨2, ![2, 1024]⟩
abbrev S2 : Shape := ⟨1, ![2]⟩
abbrev S256x7 : Shape := ⟨2, ![256, 7]⟩
abbrev S256x225 : Shape := ⟨2, ![256, 225]⟩
abbrev S_ : Shape := ⟨0, ![]⟩
abbrev S256x24 : Shape := ⟨2, ![256, 24]⟩
abbrev S256x256 : Shape := ⟨2, ![256, 256]⟩
abbrev S232x1024 : Shape := ⟨2, ![232, 1024]⟩
abbrev S256x1024 : Shape := ⟨2, ![256, 1024]⟩
abbrev S1024x2 : Shape := ⟨2, ![1024, 2]⟩
abbrev S1024x128 : Shape := ⟨2, ![1024, 128]⟩
abbrev S1x1024 : Shape := ⟨2, ![1, 1024]⟩
abbrev S128 : Shape := ⟨1, ![128]⟩
abbrev S1x128 : Shape := ⟨2, ![1, 128]⟩
abbrev S256x128 : Shape := ⟨2, ![256, 128]⟩
abbrev S256 : Shape := ⟨1, ![256]⟩
abbrev S256x1 : Shape := ⟨2, ![256, 1]⟩
abbrev S256x2 : Shape := ⟨2, ![256, 2]⟩

abbrev nBuf : Space → Nat
  | .hbm => 37
  | .vmem => 12
  | .smem => 0
  | _ => 0

abbrev bufTy : (tb : Table) → Fin (tcTables nBuf tb) → BufTy
  | .hbm, ⟨0, _⟩ => ⟨S256x15x15, .f32⟩
  | .hbm, ⟨1, _⟩ => ⟨S1024x232, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S2x1024, .f32⟩
  | .hbm, ⟨10, _⟩ => ⟨S2, .f32⟩
  | .hbm, ⟨11, _⟩ => ⟨S256x7, .f32⟩
  | .hbm, ⟨12, _⟩ => ⟨S256x225, .f32⟩
  | .hbm, ⟨13, _⟩ => ⟨S_, .f32⟩
  | .hbm, ⟨14, _⟩ => ⟨S256x24, .f32⟩
  | .hbm, ⟨15, _⟩ => ⟨S256x256, .f32⟩
  | .hbm, ⟨16, _⟩ => ⟨S232x1024, .f32⟩
  | .hbm, ⟨17, _⟩ => ⟨S_, .i32⟩
  | .hbm, ⟨18, _⟩ => ⟨S_, .f32⟩
  | .hbm, ⟨19, _⟩ => ⟨S256x1024, .f32⟩
  | .hbm, ⟨20, _⟩ => ⟨S1024x2, .f32⟩
  | .hbm, ⟨21, _⟩ => ⟨S_, .i32⟩
  | .hbm, ⟨22, _⟩ => ⟨S_, .f32⟩
  | .hbm, ⟨23, _⟩ => ⟨S1024x128, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1024x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S_, .i32⟩
  | .hbm, ⟨32, _⟩ => ⟨S_, .f32⟩
  | .hbm, ⟨33, _⟩ => ⟨S128, .f32⟩
  | .hbm, ⟨34, _⟩ => ⟨S1x128, .f32⟩
  | .hbm, ⟨35, _⟩ => ⟨S256x128, .f32⟩
  | .hbm, ⟨36, _⟩ => ⟨S256x2, .f32⟩
  | .local _ .vmem, ⟨0, _⟩ => ⟨S256x256, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x128, .f32⟩
  | .local _ .vmem, ⟨10, _⟩ => ⟨S1x128, .f32⟩
  | .local _ .vmem, ⟨11, _⟩ => ⟨S256x128, .f32⟩
  | _, _ => ⟨S256x15x15, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_call0_v0 : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_call1_v0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_1 : Ref sig .tc := ⟨.hbm, 31, rfl⟩
abbrev main_call2_v0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== MlpRefIdeal.lean ====
abbrev S256x15x15 : Shape := ⟨3, ![256, 15, 15]⟩
abbrev S1024x232 : Shape := ⟨2, ![1024, 232]⟩
abbrev S1024 : Shape := ⟨1, ![1024]⟩
abbrev S1024x1024 : Shape := ⟨2, ![1024, 1024]⟩
abbrev S2x1024 : Shape := ⟨2, ![2, 1024]⟩
abbrev S2 : Shape := ⟨1, ![2]⟩
abbrev S256x7 : Shape := ⟨2, ![256, 7]⟩
abbrev S256x225 : Shape := ⟨2, ![256, 225]⟩
abbrev S256x232 : Shape := ⟨2, ![256, 232]⟩
abbrev S232x1024 : Shape := ⟨2, ![232, 1024]⟩
abbrev S256x1024 : Shape := ⟨2, ![256, 1024]⟩
abbrev S1x1024 : Shape := ⟨2, ![1, 1024]⟩
abbrev S_ : Shape := ⟨0, ![]⟩
abbrev S1024x2 : Shape := ⟨2, ![1024, 2]⟩
abbrev S256x2 : Shape := ⟨2, ![256, 2]⟩
abbrev S1x2 : Shape := ⟨2, ![1, 2]⟩
abbrev S256 : Shape := ⟨1, ![256]⟩
abbrev S256x1 : Shape := ⟨2, ![256, 1]⟩

abbrev nBuf : Space → Nat
  | .hbm => 138
  | .vmem => 0
  | .smem => 0
  | _ => 0

abbrev hbmTy0_0 (i : Nat) : BufTy := match i % 128 with
  | 0 => ⟨S256x15x15, .f32⟩
  | 1 => ⟨S1024x232, .f32⟩
  | 2 => ⟨S1024, .f32⟩
  | 3 => ⟨S1024, .f32⟩
  | 4 => ⟨S1024, .f32⟩
  | 5 => ⟨S1024x1024, .f32⟩
  | 6 => ⟨S1024, .f32⟩
  | 7 => ⟨S1024, .f32⟩
  | 8 => ⟨S1024, .f32⟩
  | 9 => ⟨S2x1024, .f32⟩
  | 10 => ⟨S2, .f32⟩
  | 11 => ⟨S256x7, .f32⟩
  | 12 => ⟨S256x225, .f32⟩
  | 13 => ⟨S256x232, .f32⟩
  | 14 => ⟨S232x1024, .f32⟩
  | 15 => ⟨S256x1024, .f32⟩
  | 16 => ⟨S1x1024, .f32⟩
  | 17 => ⟨S256x1024, .f32⟩
  | 18 => ⟨S256x1024, .f32⟩
  | 19 => ⟨S_, .f32⟩
  | 20 => ⟨S256x1024, .f32⟩
  | 21 => ⟨S256x1024, .f32⟩
  | 22 => ⟨S_, .f32⟩
  | 23 => ⟨S1024, .f32⟩
  | 24 => ⟨S1x1024, .f32⟩
  | 25 => ⟨S_, .f32⟩
  | 26 => ⟨S1x1024, .f32⟩
  | 27 => ⟨S1x1024, .f32⟩
  | 28 => ⟨S_, .i32⟩
  | 29 => ⟨S_, .f32⟩
  | 30 => ⟨S1024, .f32⟩
  | 31 => ⟨S1x1024, .f32⟩
  | 32 => ⟨S_, .f32⟩
  | 33 => ⟨S1x1024, .f32⟩
  | 34 => ⟨S1x1024, .f32⟩
  | 35 => ⟨S256x1024, .f32⟩
  | 36 => ⟨S256x1024, .f32⟩
  | 37 => ⟨S256x1024, .f32⟩
  | 38 => ⟨S_, .f32⟩
  | 39 => ⟨S_, .f32⟩
  | 40 => ⟨S_, .f32⟩
  | 41 => ⟨S_, .f32⟩
  | 42 => ⟨S1024, .f32⟩
  | 43 => ⟨S1x1024, .f32⟩
  | 44 => ⟨S1x1024, .f32⟩
  | 45 => ⟨S1x1024, .f32⟩
  | 46 => ⟨S_, .f32⟩
  | 47 => ⟨S_, .i1⟩
  | 48 => ⟨S_, .f32⟩
  | 49 => ⟨S_, .f32⟩
  | 50 => ⟨S1x1024, .f32⟩
  | 51 => ⟨S1x1024, .f32⟩
  | 52 => ⟨S256x1024, .f32⟩
  | 53 => ⟨S256x1024, .f32⟩
  | 54 => ⟨S_, .f32⟩
  | 55 => ⟨S1x1024, .f32⟩
  | 56 => ⟨S1x1024, .f32⟩
  | 57 => ⟨S1x1024, .f32⟩
  | 58 => ⟨S256x1024, .f32⟩
  | 59 => ⟨S256x1024, .f32⟩
  | 60 => ⟨S1x1024, .f32⟩
  | 61 => ⟨S256x1024, .f32⟩
  | 62 => ⟨S256x1024, .f32⟩
  | 63 => ⟨S1x1024, .f32⟩
  | 64 => ⟨S256x1024, .f32⟩
  | 65 => ⟨S256x1024, .f32⟩
  | 66 => ⟨S1024x1024, .f32⟩
  | 67 => ⟨S256x1024, .f32⟩
  | 68 => ⟨S1x1024, .f32⟩
  | 69 => ⟨S256x1024, .f32⟩
  | 70 => ⟨S256x1024, .f32⟩
  | 71 => ⟨S_, .f32⟩
  | 72 => ⟨S256x1024, .f32⟩
  | 73 => ⟨S256x1024, .f32⟩
  | 74 => ⟨S_, .f32⟩
  | 75 => ⟨S1024, .f32⟩
  | 76 => ⟨S1x1024, .f32⟩
  | 77 => ⟨S_, .f32⟩
  | 78 => ⟨S1x1024, .f32⟩
  | 79 => ⟨S1x1024, .f32⟩
  | 80 => ⟨S_, .i32⟩
  | 81 => ⟨S_, .f32⟩
  | 82 => ⟨S1024, .f32⟩
  | 83 => ⟨S1x1024, .f32⟩
  | 84 => ⟨S_, .f32⟩
  | 85 => ⟨S1x1024, .f32⟩
  | 86 => ⟨S1x1024, .f32⟩
  | 87 => ⟨S256x1024, .f32⟩
  | 88 => ⟨S256x1024, .f32⟩
  | 89 => ⟨S256x1024, .f32⟩
  | 90 => ⟨S_, .f32⟩
  | 91 => ⟨S_, .f32⟩
  | 92 => ⟨S_, .f32⟩
  | 93 => ⟨S_, .f32⟩
  | 94 => ⟨S1024, .f32⟩
  | 95 => ⟨S1x1024, .f32⟩
  | 96 => ⟨S1x1024, .f32⟩
  | 97 => ⟨S1x1024, .f32⟩
  | 98 => ⟨S_, .f32⟩
  | 99 => ⟨S_, .i1⟩
  | 100 => ⟨S_, .f32⟩
  | 101 => ⟨S_, .f32⟩
  | 102 => ⟨S1x1024, .f32⟩
  | 103 => ⟨S1x1024, .f32⟩
  | 104 => ⟨S256x1024, .f32⟩
  | 105 => ⟨S256x1024, .f32⟩
  | 106 => ⟨S_, .f32⟩
  | 107 => ⟨S1x1024, .f32⟩
  | 108 => ⟨S1x1024, .f32⟩
  | 109 => ⟨S1x1024, .f32⟩
  | 110 => ⟨S256x1024, .f32⟩
  | 111 => ⟨S256x1024, .f32⟩
  | 112 => ⟨S1x1024, .f32⟩
  | 113 => ⟨S256x1024, .f32⟩
  | 114 => ⟨S256x1024, .f32⟩
  | 115 => ⟨S1x1024, .f32⟩
  | 116 => ⟨S256x1024, .f32⟩
  | 117 => ⟨S256x1024, .f32⟩
  | 118 => ⟨S1024x2, .f32⟩
  | 119 => ⟨S256x2, .f32⟩
  | 120 => ⟨S1x2, .f32⟩
  | 121 => ⟨S256x2, .f32⟩
  | 122 => ⟨S256x2, .f32⟩
  | 123 => ⟨S_, .f32⟩
  | 124 => ⟨S256, .f32⟩
  | 125 => ⟨S_, .f32⟩
  | 126 => ⟨S256, .f32⟩
  | 127 => ⟨S256, .f32⟩
  | _ => ⟨S256x15x15, .f32⟩

abbrev hbmTy0_1 (i : Nat) : BufTy := match i % 128 with
  | 0 => ⟨S256x1, .f32⟩
  | 1 => ⟨S256x2, .f32⟩
  | 2 => ⟨S256x2, .f32⟩
  | 3 => ⟨S256x2, .f32⟩
  | 4 => ⟨S_, .f32⟩
  | 5 => ⟨S256, .f32⟩
  | 6 => ⟨S256x1, .f32⟩
  | 7 => ⟨S256x1, .f32⟩
  | 8 => ⟨S256x2, .f32⟩
  | 9 => ⟨S256x2, .f32⟩
  | _ => ⟨S256x15x15, .f32⟩

abbrev hbmTy (i : Nat) : BufTy := match i / 128 with
  | 0 => hbmTy0_0 i
  | 1 => hbmTy0_1 i
  | _ => ⟨S256x15x15, .f32⟩

abbrev bufTy : (tb : Table) → Fin (tcTables nBuf tb) → BufTy
  | .hbm, ⟨i, _⟩ => hbmTy i
  | _, _ => ⟨S256x15x15, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call0_cst : Ref sig .tc := ⟨.hbm, 19, rfl⟩
abbrev main_call0_v0 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_call1_cst : Ref sig .tc := ⟨.hbm, 29, rfl⟩
abbrev main_call1_v0 : Ref sig .tc := ⟨.hbm, 30, rfl⟩
abbrev main_call1_v1 : Ref sig .tc := ⟨.hbm, 31, rfl⟩
abbrev main_call1_cst_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_cst_1 : Ref sig .tc := ⟨.hbm, 39, rfl⟩
abbrev main_call1_v8 : Ref sig .tc := ⟨.hbm, 40, rfl⟩
abbrev main_call1_cst_2 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_cst_3 : Ref sig .tc := ⟨.hbm, 46, rfl⟩
abbrev main_call1_v13 : Ref sig .tc := ⟨.hbm, 47, rfl⟩
abbrev main_call1_cst_4 : Ref sig .tc := ⟨.hbm, 48, rfl⟩
abbrev main_call1_call0_v0 : Ref sig .tc := ⟨.hbm, 49, rfl⟩
abbrev main_call1_call0_v1 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_cst_1 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_call2_cst : Ref sig .tc := ⟨.hbm, 71, rfl⟩
abbrev main_call2_v0 : Ref sig .tc := ⟨.hbm, 72, rfl⟩
abbrev main_v31 : Ref sig .tc := ⟨.hbm, 73, rfl⟩
abbrev main_cst_2 : Ref sig .tc := ⟨.hbm, 74, rfl⟩
abbrev main_v32 : Ref sig .tc := ⟨.hbm, 75, rfl⟩
abbrev main_v33 : Ref sig .tc := ⟨.hbm, 76, rfl⟩
abbrev main_cst_3 : Ref sig .tc := ⟨.hbm, 77, rfl⟩
abbrev main_v34 : Ref sig .tc := ⟨.hbm, 78, rfl⟩
abbrev main_v35 : Ref sig .tc := ⟨.hbm, 79, rfl⟩
abbrev main_c_4 : Ref sig .tc := ⟨.hbm, 80, rfl⟩
abbrev main_call3_cst : Ref sig .tc := ⟨.hbm, 81, rfl⟩
abbrev main_call3_v0 : Ref sig .tc := ⟨.hbm, 82, rfl⟩
abbrev main_call3_v1 : Ref sig .tc := ⟨.hbm, 83, rfl⟩
abbrev main_call3_cst_0 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_v5 : Ref sig .tc := ⟨.hbm, 88, rfl⟩
abbrev main_call3_v6 : Ref sig .tc := ⟨.hbm, 89, rfl⟩
abbrev main_call3_v7 : Ref sig .tc := ⟨.hbm, 90, rfl⟩
abbrev main_call3_cst_1 : Ref sig .tc := ⟨.hbm, 91, rfl⟩
abbrev main_call3_v8 : Ref sig .tc := ⟨.hbm, 92, rfl⟩
abbrev main_call3_cst_2 : Ref sig .tc := ⟨.hbm, 93, rfl⟩
abbrev main_call3_v9 : Ref sig .tc := ⟨.hbm, 94, rfl⟩
abbrev main_call3_v10 : Ref sig .tc := ⟨.hbm, 95, rfl⟩
abbrev main_call3_v11 : Ref sig .tc := ⟨.hbm, 96, rfl⟩
abbrev main_call3_v12 : Ref sig .tc := ⟨.hbm, 97, rfl⟩
abbrev main_call3_cst_3 : Ref sig .tc := ⟨.hbm, 98, rfl⟩
abbrev main_call3_v13 : Ref sig .tc := ⟨.hbm, 99, rfl⟩
abbrev main_call3_cst_4 : Ref sig .tc := ⟨.hbm, 100, rfl⟩
abbrev main_call3_call0_v0 : Ref sig .tc := ⟨.hbm, 101, rfl⟩
abbrev main_call3_call0_v1 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_cst_5 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_call4_cst : Ref sig .tc := ⟨.hbm, 123, rfl⟩
abbrev main_call4_v0 : Ref sig .tc := ⟨.hbm, 124, rfl⟩
abbrev main_call4_cst_0 : Ref sig .tc := ⟨.hbm, 125, rfl⟩
abbrev main_call4_v1 : Ref sig .tc := ⟨.hbm, 126, rfl⟩
abbrev main_call4_v2 : Ref sig .tc := ⟨.hbm, 127, rfl⟩
abbrev main_call4_v3 : Ref sig .tc := ⟨.hbm, 128, rfl⟩
abbrev main_call4_v4 : Ref sig .tc := ⟨.hbm, 129, rfl⟩
abbrev main_call4_v5 : Ref sig .tc := ⟨.hbm, 130, rfl⟩
abbrev main_call4_v6 : Ref sig .tc := ⟨.hbm, 131, rfl⟩
abbrev main_call4_cst_1 : Ref sig .tc := ⟨.hbm, 132, rfl⟩
abbrev main_call4_v7 : Ref sig .tc := ⟨.hbm, 133, rfl⟩
abbrev main_call4_v8 : Ref sig .tc := ⟨.hbm, 134, rfl⟩
abbrev main_call4_v9 : Ref sig .tc := ⟨.hbm, 135, rfl⟩
abbrev main_call4_v10 : Ref sig .tc := ⟨.hbm, 136, rfl⟩
abbrev main_v55 : Ref sig .tc := ⟨.hbm, 137, rfl⟩

abbrev nD : Nat := 1
abbrev τ : Topo := Topo.v7x

variable {F : FTy → Type} [FloatOps F]
-- ==== Embed.lean ====
abbrev S100000x128 : Shape := ⟨2, ![100000, 128]⟩
abbrev S300x300 : Shape := ⟨2, ![300, 300]⟩
abbrev S300 : Shape := ⟨1, ![300]⟩
abbrev S60x256 : Shape := ⟨2, ![60, 256]⟩
abbrev S15360 : Shape := ⟨1, ![15360]⟩
abbrev S30720 : Shape := ⟨1, ![30720]⟩
abbrev S_ : Shape := ⟨0, ![]⟩
abbrev S512x384 : Shape := ⟨2, ![512, 384]⟩
abbrev S384 : Shape := ⟨1, ![384]⟩
abbrev S1x384 : Shape := ⟨2, ![1, 384]⟩
abbrev S2x15360x384 : Shape := ⟨3, ![2, 15360, 384]⟩
abbrev S2x2x384 : Shape := ⟨3, ![2, 2, 384]⟩
abbrev S1x256x384 : Shape := ⟨3, ![1, 256, 384]⟩
abbrev S1x2x384 : Shape := ⟨3, ![1, 2, 384]⟩
abbrev S512x128 : Shape := ⟨2, ![512, 128]⟩
abbrev S1 : Shape := ⟨1, ![1]⟩
abbrev S2x128 : Shape := ⟨2, ![2, 128]⟩
abbrev S1024x128 : Shape := ⟨2, ![1024, 128]⟩
abbrev S256x4x128 : Shape := ⟨3, ![256, 4, 128]⟩
abbrev S256x1x128 : Shape := ⟨3, ![256, 1, 128]⟩
abbrev S256x128 : Shape := ⟨2, ![256, 128]⟩
abbrev S128x384 : Shape := ⟨2, ![128, 384]⟩
abbrev S256x384 : Shape := ⟨2, ![256, 384]⟩
abbrev S1x1x384 : Shape := ⟨3, ![1, 1, 384]⟩

abbrev nBuf : Space → Nat
  | .hbm => 21
  | .vmem => 8
  | .smem => 1
  | _ => 0

abbrev bufTy : (tb : Table) → Fin (tcTables nBuf tb) → BufTy
  | .hbm, ⟨0, _⟩ => ⟨S100000x128, .i32⟩
  | .hbm, ⟨1, _⟩ => ⟨S300x300, .f32⟩
  | .hbm, ⟨2, _⟩ => ⟨S300, .f32⟩
  | .hbm, ⟨3, _⟩ => ⟨S60x256, .i32⟩
  | .hbm, ⟨4, _⟩ => ⟨S60x256, .i32⟩
  | .hbm, ⟨5, _⟩ => ⟨S15360, .i32⟩
  | .hbm, ⟨6, _⟩ => ⟨S15360, .i32⟩
  | .hbm, ⟨7, _⟩ => ⟨S30720, .i32⟩
  | .hbm, ⟨8, _⟩ => ⟨S_, .i32⟩
  | .hbm, ⟨9, _⟩ => ⟨S30720, .i32⟩
  | .hbm, ⟨10, _⟩ => ⟨S300x300, .f32⟩
  | .hbm, ⟨11, _⟩ => ⟨S_, .i32⟩
  | .hbm, ⟨12, _⟩ => ⟨S_, .f32⟩
  | .hbm, ⟨13, _⟩ => ⟨S512x384, .f32⟩
  | .hbm, ⟨14, _⟩ => ⟨S512x384, .bf16⟩
  | .hbm, ⟨15, _⟩ => ⟨S_, .i32⟩
  | .hbm, ⟨16, _⟩ => ⟨S_, .f32⟩
  | .hbm, ⟨17, _⟩ => ⟨S384, .f32⟩
  | .hbm, ⟨18, _⟩ => ⟨S1x384, .f32⟩
  | .hbm, ⟨19, _⟩ => ⟨S2x15360x384, .f32⟩
  | .hbm, ⟨20, _⟩ => ⟨S2x2x384, .f32⟩
  | .local _ .vmem, ⟨0, _⟩ => ⟨S512x384, .bf16⟩
  | .local _ .vmem, ⟨1, _⟩ => ⟨S1x384, .f32⟩
  | .local _ .vmem, ⟨2, _⟩ => ⟨S1x256x384, .f32⟩
  | .local _ .vmem, ⟨3, _⟩ => ⟨S1x256x384, .f32⟩
  | .local _ .vmem, ⟨4, _⟩ => ⟨S1x2x384, .f32⟩
  | .local _ .vmem, ⟨5, _⟩ => ⟨S1x2x384, .f32⟩
  | .local _ .vmem, ⟨6, _⟩ => ⟨S100000x128, .i32⟩
  | .local _ .vmem, ⟨7, _⟩ => ⟨S512x128, .i32⟩
  | .local _ .smem, ⟨0, _⟩ => ⟨S30720, .i32⟩
  | _, _ => ⟨S100000x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v5 : Ref sig .tc := ⟨.hbm, 10, rfl⟩
abbrev main_c_0 : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 60], ![false, false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c0_i32_1 : BitVec 32 := 0#32
  let v6 : BitVec 32 := Scalar.addi v5 c0_i32_1
  let v7 : Index := Scalar.indexCast v6
  ![v7.toNat]
def k0_mult1 (v8 : BitVec 32) : BitVec 32 :=
  v8

def k0_off2 (v8 : BitVec 32) : Fin 2 → Nat :=
  let v9 : BitVec 32 := v8
  let v10 : Index := Scalar.indexCast v9
  let c0 : Index := 0#32
  ![v10.toNat, 0]

def k0_chk1 (v8 : BitVec 32) : Prop :=
  (2 ∣ (k0_mult1 v8).toNat) ∧
  (∀ a, (k0_off2 v8) a + S2x128.size a ≤ S100000x128.size a)
theorem k0_mult1_dvd : ∀ (v8 : BitVec 32) (k0_hw1 : k0_chk1 v8), 2 ∣ (k0_mult1 v8).toNat := fun v8 k0_hw1 => k0_hw1.1
theorem k0_off2_inb : ∀ (v8 : BitVec 32) (k0_hw1 : k0_chk1 v8), ∀ a, (k0_off2 v8) a + S2x128.size a ≤ S100000x128.size a := fun v8 k0_hw1 => k0_hw1.2

def k0_off3 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c1_i32 : BitVec 32 := 1#32
  let v15 : BitVec 32 := Scalar.addi v5 c1_i32
  let v16 : Index := Scalar.indexCast v15
  ![v16.toNat]
def k0_mult2 (v17 : BitVec 32) : BitVec 32 :=
  v17

def k0_off4 (v17 : BitVec 32) : Fin 2 → Nat :=
  let v18 : BitVec 32 := v17
  let v19 : Index := Scalar.indexCast v18
  let c0_4 : Index := 0#32
  ![v19.toNat, 0]

def k0_chk2 (v17 : BitVec 32) : Prop :=
  (2 ∣ (k0_mult2 v17).toNat) ∧
  (∀ a, (k0_off4 v17) a + S2x128.size a ≤ S100000x128.size a)
theorem k0_mult2_dvd : ∀ (v17 : BitVec 32) (k0_hw2 : k0_chk2 v17), 2 ∣ (k0_mult2 v17).toNat := fun v17 k0_hw2 => k0_hw2.1
theorem k0_off4_inb : ∀ (v17 : BitVec 32) (k0_hw2 : k0_chk2 v17), ∀ a, (k0_off4 v17) a + S2x128.size a ≤ S100000x128.size a := fun v17 k0_hw2 => k0_hw2.2

def k0_off5 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c2_i32 : BitVec 32 := 2#32
  let v24 : BitVec 32 := Scalar.addi v5 c2_i32
  let v25 : Index := Scalar.indexCast v24
  ![v25.toNat]
def k0_mult3 (v26 : BitVec 32) : BitVec 32 :=
  v26

def k0_off6 (v26 : BitVec 32) : Fin 2 → Nat :=
  let v27 : BitVec 32 := v26
  let v28 : Index := Scalar.indexCast v27
  let c0_6 : Index := 0#32
  ![v28.toNat, 0]

def k0_chk3 (v26 : BitVec 32) : Prop :=
  (2 ∣ (k0_mult3 v26).toNat) ∧
  (∀ a, (k0_off6 v26) a + S2x128.size a ≤ S100000x128.size a)
theorem k0_mult3_dvd : ∀ (v26 : BitVec 32) (k0_hw3 : k0_chk3 v26), 2 ∣ (k0_mult3 v26).toNat := fun v26 k0_hw3 => k0_hw3.1
theorem k0_off6_inb : ∀ (v26 : BitVec 32) (k0_hw3 : k0_chk3 v26), ∀ a, (k0_off6 v26) a + S2x128.size a ≤ S100000x128.size a := fun v26 k0_hw3 => k0_hw3.2

def k0_off7 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c3_i32 : BitVec 32 := 3#32
  let v33 : BitVec 32 := Scalar.addi v5 c3_i32
  let v34 : Index := Scalar.indexCast v33
  ![v34.toNat]
def k0_mult4 (v35 : BitVec 32) : BitVec 32 :=
  v35

def k0_off8 (v35 : BitVec 32) : Fin 2 → Nat :=
  let v36 : BitVec 32 := v35
  let v37 : Index := Scalar.indexCast v36
  let c0_8 : Index := 0#32
  ![v37.toNat, 0]

def k0_chk4 (v35 : BitVec 32) : Prop :=
  (2 ∣ (k0_mult4 v35).toNat) ∧
  (∀ a, (k0_off8 v35) a + S2x128.size a ≤ S100000x128.size a)
theorem k0_mult4_dvd : ∀ (v35 : BitVec 32) (k0_hw4 : k0_chk4 v35), 2 ∣ (k0_mult4 v35).toNat := fun v35 k0_hw4 => k0_hw4.1
theorem k0_off8_inb : ∀ (v35 : BitVec 32) (k0_hw4 : k0_chk4 v35), ∀ a, (k0_off8 v35) a + S2x128.size a ≤ S100000x128.size a := fun v35 k0_hw4 => k0_hw4.2

def k0_off9 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c4_i32 : BitVec 32 := 4#32
  let v42 : BitVec 32 := Scalar.addi v5 c4_i32
  let v43 : Index := Scalar.indexCast v42
  ![v43.toNat]
def k0_mult5 (v44 : BitVec 32) : BitVec 32 :=
  v44

def k0_off10 (v44 : BitVec 32) : Fin 2 → Nat :=
  let v45 : BitVec 32 := v44
  let v46 : Index := Scalar.indexCast v45
  let c0_10 : Index := 0#32
  ![v46.toNat, 0]

def k0_chk5 (v44 : BitVec 32) : Prop :=
  (2 ∣ (k0_mult5 v44).toNat) ∧
  (∀ a, (k0_off10 v44) a + S2x128.size a ≤ S100000x128.size a)
theorem k0_mult5_dvd : ∀ (v44 : BitVec 32) (k0_hw5 : k0_chk5 v44), 2 ∣ (k0_mult5 v44).toNat := fun v44 k0_hw5 => k0_hw5.1
theorem k0_off10_inb : ∀ (v44 : BitVec 32) (k0_hw5 : k0_chk5 v44), ∀ a, (k0_off10 v44) a + S2x128.size a ≤ S100000x128.size a := fun v44 k0_hw5 => k0_hw5.2

def k0_off11 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c5_i32 : BitVec 32 := 5#32
  let v51 : BitVec 32 := Scalar.addi v5 c5_i32
  let v52 : Index := Scalar.indexCast v51
  ![v52.toNat]
def k0_mult6 (v53 : BitVec 32) : BitVec 32 :=
  v53

def k0_off12 (v53 : BitVec 32) : Fin 2 → Nat :=
  let v54 : BitVec 32 := v53
  let v55 : Index := Scalar.indexCast v54
  let c0_12 : Index := 0#32
  ![v55.toNat, 0]

def k0_chk6 (v53 : BitVec 32) : Prop :=
  (2 ∣ (k0_mult6 v53).toNat) ∧
  (∀ a, (k0_off12 v53) a + S2x128.size a ≤ S100000x128.size a)
theorem k0_mult6_dvd : ∀ (v53 : BitVec 32) (k0_hw6 : k0_chk6 v53), 2 ∣ (k0_mult6 v53).toNat := fun v53 k0_hw6 => k0_hw6.1
theorem k0_off12_inb : ∀ (v53 : BitVec 32) (k0_hw6 : k0_chk6 v53), ∀ a, (k0_off12 v53) a + S2x128.size a ≤ S100000x128.size a := fun v53 k0_hw6 => k0_hw6.2

def k0_off13 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c6_i32 : BitVec 32 := 6#32
  let v60 : BitVec 32 := Scalar.addi v5 c6_i32
  let v61 : Index := Scalar.indexCast v60
  ![v61.toNat]
def k0_mult7 (v62 : BitVec 32) : BitVec 32 :=
  v62

def k0_off14 (v62 : BitVec 32) : Fin 2 → Nat :=
  let v63 : BitVec 32 := v62
  let v64 : Index := Scalar.indexCast v63
  let c0_14 : Index := 0#32
  ![v64.toNat, 0]

def k0_chk7 (v62 : BitVec 32) : Prop :=
  (2 ∣ (k0_mult7 v62).toNat) ∧
  (∀ a, (k0_off14 v62) a + S2x128.size a ≤ S100000x128.size a)
theorem k0_mult7_dvd : ∀ (v62 : BitVec 32) (k0_hw7 : k0_chk7 v62), 2 ∣ (k0_mult7 v62).toNat := fun v62 k0_hw7 => k0_hw7.1
theorem k0_off14_inb : ∀ (v62 : BitVec 32) (k0_hw7 : k0_chk7 v62), ∀ a, (k0_off14 v62) a + S2x128.size a ≤ S100000x128.size a := fun v62 k0_hw7 => k0_hw7.2

def k0_off15 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c7_i32 : BitVec 32 := 7#32
  let v69 : BitVec 32 := Scalar.addi v5 c7_i32
  let v70 : Index := Scalar.indexCast v69
  ![v70.toNat]
def k0_mult8 (v71 : BitVec 32) : BitVec 32 :=
  v71

def k0_off16 (v71 : BitVec 32) : Fin 2 → Nat :=
  let v72 : BitVec 32 := v71
  let v73 : Index := Scalar.indexCast v72
  let c0_16 : Index := 0#32
  ![v73.toNat, 0]

def k0_chk8 (v71 : BitVec 32) : Prop :=
  (2 ∣ (k0_mult8 v71).toNat) ∧
  (∀ a, (k0_off16 v71) a + S2x128.size a ≤ S100000x128.size a)
theorem k0_mult8_dvd : ∀ (v71 : BitVec 32) (k0_hw8 : k0_chk8 v71), 2 ∣ (k0_mult8 v71).toNat := fun v71 k0_hw8 => k0_hw8.1
theorem k0_off16_inb : ∀ (v71 : BitVec 32) (k0_hw8 : k0_chk8 v71), ∀ a, (k0_off16 v71) a + S2x128.size a ≤ S100000x128.size a := fun v71 k0_hw8 => k0_hw8.2

def k0_off17 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c8_i32 : BitVec 32 := 8#32
  let v78 : BitVec 32 := Scalar.addi v5 c8_i32
  let v79 : Index := Scalar.indexCast v78
  ![v79.toNat]
def k0_mult9 (v80 : BitVec 32) : BitVec 32 :=
  v80

def k0_off18 (v80 : BitVec 32) : Fin 2 → Nat :=
  let v81 : BitVec 32 := v80
  let v82 : Index := Scalar.indexCast v81
  let c0_18 : Index := 0#32
  ![v82.toNat, 0]

def k0_chk9 (v80 : BitVec 32) : Prop :=
  (2 ∣ (k0_mult9 v80).toNat) ∧
  (∀ a, (k0_off18 v80) a + S2x128.size a ≤ S100000x128.size a)
theorem k0_mult9_dvd : ∀ (v80 : BitVec 32) (k0_hw9 : k0_chk9 v80), 2 ∣ (k0_mult9 v80).toNat := fun v80 k0_hw9 => k0_hw9.1
theorem k0_off18_inb : ∀ (v80 : BitVec 32) (k0_hw9 : k0_chk9 v80), ∀ a, (k0_off18 v80) a + S2x128.size a ≤ S100000x128.size a := fun v80 k0_hw9 => k0_hw9.2

def k0_off19 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c9_i32 : BitVec 32 := 9#32
  let v87 : BitVec 32 := Scalar.addi v5 c9_i32
  let v88 : Index := Scalar.indexCast v87
  ![v88.toNat]
def k0_mult10 (v89 : BitVec 32) : BitVec 32 :=
  v89

def k0_off20 (v89 : BitVec 32) : Fin 2 → Nat :=
  let v90 : BitVec 32 := v89
  let v91 : Index := Scalar.indexCast v90
  let c0_20 : Index := 0#32
  ![v91.toNat, 0]

def k0_chk10 (v89 : BitVec 32) : Prop :=
  (2 ∣ (k0_mult10 v89).toNat) ∧
  (∀ a, (k0_off20 v89) a + S2x128.size a ≤ S100000x128.size a)
theorem k0_mult10_dvd : ∀ (v89 : BitVec 32) (k0_hw10 : k0_chk10 v89), 2 ∣ (k0_mult10 v89).toNat := fun v89 k0_hw10 => k0_hw10.1
theorem k0_off20_inb : ∀ (v89 : BitVec 32) (k0_hw10 : k0_chk10 v89), ∀ a, (k0_off20 v89) a + S2x128.size a ≤ S100000x128.size a := fun v89 k0_hw10 => k0_hw10.2

def k0_off21 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c10_i32 : BitVec 32 := 10#32
  let v96 : BitVec 32 := Scalar.addi v5 c10_i32
  let v97 : Index := Scalar.indexCast v96
  ![v97.toNat]
def k0_mult11 (v98 : BitVec 32) : BitVec 32 :=
  v98

def k0_off22 (v98 : BitVec 32) : Fin 2 → Nat :=
  let v99 : BitVec 32 := v98
  let v100 : Index := Scalar.indexCast v99
  let c0_22 : Index := 0#32
  ![v100.toNat, 0]

def k0_chk11 (v98 : BitVec 32) : Prop :=
  (2 ∣ (k0_mult11 v98).toNat) ∧
  (∀ a, (k0_off22 v98) a + S2x128.size a ≤ S100000x128.size a)
theorem k0_mult11_dvd : ∀ (v98 : BitVec 32) (k0_hw11 : k0_chk11 v98), 2 ∣ (k0_mult11 v98).toNat := fun v98 k0_hw11 => k0_hw11.1
theorem k0_off22_inb : ∀ (v98 : BitVec 32) (k0_hw11 : k0_chk11 v98), ∀ a, (k0_off22 v98) a + S2x128.size a ≤ S100000x128.size a := fun v98 k0_hw11 => k0_hw11.2

def k0_off23 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c11_i32 : BitVec 32 := 11#32
  let v105 : BitVec 32 := Scalar.addi v5 c11_i32
  let v106 : Index := Scalar.indexCast v105
  ![v106.toNat]
def k0_mult12 (v107 : BitVec 32) : BitVec 32 :=
  v107

def k0_off24 (v107 : BitVec 32) : Fin 2 → Nat :=
  let v108 : BitVec 32 := v107
  let v109 : Index := Scalar.indexCast v108
  let c0_24 : Index := 0#32
  ![v109.toNat, 0]

def k0_chk12 (v107 : BitVec 32) : Prop :=
  (2 ∣ (k0_mult12 v107).toNat) ∧
  (∀ a, (k0_off24 v107) a + S2x128.size a ≤ S100000x128.size a)
theorem k0_mult12_dvd : ∀ (v107 : BitVec 32) (k0_hw12 : k0_chk12 v107), 2 ∣ (k0_mult12 v107).toNat := fun v107 k0_hw12 => k0_hw12.1
theorem k0_off24_inb : ∀ (v107 : BitVec 32) (k0_hw12 : k0_chk12 v107), ∀ a, (k0_off24 v107) a + S2x128.size a ≤ S100000x128.size a := fun v107 k0_hw12 => k0_hw12.2

def k0_off25 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c12_i32 : BitVec 32 := 12#32
  let v114 : BitVec 32 := Scalar.addi v5 c12_i32
  let v115 : Index := Scalar.indexCast v114
  ![v115.toNat]
def k0_mult13 (v116 : BitVec 32) : BitVec 32 :=
  v116

def k0_off26 (v116 : BitVec 32) : Fin 2 → Nat :=
  let v117 : BitVec 32 := v116
  let v118 : Index := Scalar.indexCast v117
  let c0_26 : Index := 0#32
  ![v118.toNat, 0]

def k0_chk13 (v116 : BitVec 32) : Prop :=
  (2 ∣ (k0_mult13 v116).toNat) ∧
  (∀ a, (k0_off26 v116) a + S2x128.size a ≤ S100000x128.size a)
theorem k0_mult13_dvd : ∀ (v116 : BitVec 32) (k0_hw13 : k0_chk13 v116), 2 ∣ (k0_mult13 v116).toNat := fun v116 k0_hw13 => k0_hw13.1
theorem k0_off26_inb : ∀ (v116 : BitVec 32) (k0_hw13 : k0_chk13 v116), ∀ a, (k0_off26 v116) a + S2x128.size a ≤ S100000x128.size a := fun v116 k0_hw13 => k0_hw13.2

def k0_off27 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c13_i32 : BitVec 32 := 13#32
  let v123 : BitVec 32 := Scalar.addi v5 c13_i32
  let v124 : Index := Scalar.indexCast v123
  ![v124.toNat]
def k0_mult14 (v125 : BitVec 32) : BitVec 32 :=
  v125

def k0_off28 (v125 : BitVec 32) : Fin 2 → Nat :=
  let v126 : BitVec 32 := v125
  let v127 : Index := Scalar.indexCast v126
  let c0_28 : Index := 0#32
  ![v127.toNat, 0]

def k0_chk14 (v125 : BitVec 32) : Prop :=
  (2 ∣ (k0_mult14 v125).toNat) ∧
  (∀ a, (k0_off28 v125) a + S2x128.size a ≤ S100000x128.size a)
theorem k0_mult14_dvd : ∀ (v125 : BitVec 32) (k0_hw14 : k0_chk14 v125), 2 ∣ (k0_mult14 v125).toNat := fun v125 k0_hw14 => k0_hw14.1
theorem k0_off28_inb : ∀ (v125 : BitVec 32) (k0_hw14 : k0_chk14 v125), ∀ a, (k0_off28 v125) a + S2x128.size a ≤ S100000x128.size a := fun v125 k0_hw14 => k0_hw14.2

def k0_off29 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c14_i32 : BitVec 32 := 14#32
  let v132 : BitVec 32 := Scalar.addi v5 c14_i32
  let v133 : Index := Scalar.indexCast v132
  ![v133.toNat]
def k0_mult15 (v134 : BitVec 32) : BitVec 32 :=
  v134

def k0_off30 (v134 : BitVec 32) : Fin 2 → Nat :=
  let v135 : BitVec 32 := v134
  let v136 : Index := Scalar.indexCast v135
  let c0_30 : Index := 0#32
  ![v136.toNat, 0]

def k0_chk15 (v134 : BitVec 32) : Prop :=
  (2 ∣ (k0_mult15 v134).toNat) ∧
  (∀ a, (k0_off30 v134) a + S2x128.size a ≤ S100000x128.size a)
theorem k0_mult15_dvd : ∀ (v134 : BitVec 32) (k0_hw15 : k0_chk15 v134), 2 ∣ (k0_mult15 v134).toNat := fun v134 k0_hw15 => k0_hw15.1
theorem k0_off30_inb : ∀ (v134 : BitVec 32) (k0_hw15 : k0_chk15 v134), ∀ a, (k0_off30 v134) a + S2x128.size a ≤ S100000x128.size a := fun v134 k0_hw15 => k0_hw15.2

def k0_off31 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c15_i32 : BitVec 32 := 15#32
  let v141 : BitVec 32 := Scalar.addi v5 c15_i32
  let v142 : Index := Scalar.indexCast v141
  ![v142.toNat]
def k0_mult16 (v143 : BitVec 32) : BitVec 32 :=
  v143

def k0_off32 (v143 : BitVec 32) : Fin 2 → Nat :=
  let v144 : BitVec 32 := v143
  let v145 : Index := Scalar.indexCast v144
  let c0_32 : Index := 0#32
  ![v145.toNat, 0]

def k0_chk16 (v143 : BitVec 32) : Prop :=
  (2 ∣ (k0_mult16 v143).toNat) ∧
  (∀ a, (k0_off32 v143) a + S2x128.size a ≤ S100000x128.size a)
theorem k0_mult16_dvd : ∀ (v143 : BitVec 32) (k0_hw16 : k0_chk16 v143), 2 ∣ (k0_mult16 v143).toNat := fun v143 k0_hw16 => k0_hw16.1
theorem k0_off32_inb : ∀ (v143 : BitVec 32) (k0_hw16 : k0_chk16 v143), ∀ a, (k0_off32 v143) a + S2x128.size a ≤ S100000x128.size a := fun v143 k0_hw16 => k0_hw16.2

def k0_off33 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c16_i32 : BitVec 32 := 16#32
  let v150 : BitVec 32 := Scalar.addi v5 c16_i32
  let v151 : Index := Scalar.indexCast v150
  ![v151.toNat]
def k0_mult17 (v152 : BitVec 32) : BitVec 32 :=
  v152

def k0_off34 (v152 : BitVec 32) : Fin 2 → Nat :=
  let v153 : BitVec 32 := v152
  let v154 : Index := Scalar.indexCast v153
  let c0_34 : Index := 0#32
  ![v154.toNat, 0]

def k0_chk17 (v152 : BitVec 32) : Prop :=
  (2 ∣ (k0_mult17 v152).toNat) ∧
  (∀ a, (k0_off34 v152) a + S2x128.size a ≤ S100000x128.size a)
theorem k0_mult17_dvd : ∀ (v152 : BitVec 32) (k0_hw17 : k0_chk17 v152), 2 ∣ (k0_mult17 v152).toNat := fun v152 k0_hw17 => k0_hw17.1
theorem k0_off34_inb : ∀ (v152 : BitVec 32) (k0_hw17 : k0_chk17 v152), ∀ a, (k0_off34 v152) a + S2x128.size a ≤ S100000x128.size a := fun v152 k0_hw17 => k0_hw17.2

def k0_off35 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c17_i32 : BitVec 32 := 17#32
  let v159 : BitVec 32 := Scalar.addi v5 c17_i32
  let v160 : Index := Scalar.indexCast v159
  ![v160.toNat]
def k0_mult18 (v161 : BitVec 32) : BitVec 32 :=
  v161

def k0_off36 (v161 : BitVec 32) : Fin 2 → Nat :=
  let v162 : BitVec 32 := v161
  let v163 : Index := Scalar.indexCast v162
  let c0_36 : Index := 0#32
  ![v163.toNat, 0]

def k0_chk18 (v161 : BitVec 32) : Prop :=
  (2 ∣ (k0_mult18 v161).toNat) ∧
  (∀ a, (k0_off36 v161) a + S2x128.size a ≤ S100000x128.size a)
theorem k0_mult18_dvd : ∀ (v161 : BitVec 32) (k0_hw18 : k0_chk18 v161), 2 ∣ (k0_mult18 v161).toNat := fun v161 k0_hw18 => k0_hw18.1
theorem k0_off36_inb : ∀ (v161 : BitVec 32) (k0_hw18 : k0_chk18 v161), ∀ a, (k0_off36 v161) a + S2x128.size a ≤ S100000x128.size a := fun v161 k0_hw18 => k0_hw18.2

def k0_off37 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c18_i32 : BitVec 32 := 18#32
  let v168 : BitVec 32 := Scalar.addi v5 c18_i32
  let v169 : Index := Scalar.indexCast v168
  ![v169.toNat]
def k0_mult19 (v170 : BitVec 32) : BitVec 32 :=
  v170

def k0_off38 (v170 : BitVec 32) : Fin 2 → Nat :=
  let v171 : BitVec 32 := v170
  let v172 : Index := Scalar.indexCast v171
  let c0_38 : Index := 0#32
  ![v172.toNat, 0]

def k0_chk19 (v170 : BitVec 32) : Prop :=
  (2 ∣ (k0_mult19 v170).toNat) ∧
  (∀ a, (k0_off38 v170) a + S2x128.size a ≤ S100000x128.size a)
theorem k0_mult19_dvd : ∀ (v170 : BitVec 32) (k0_hw19 : k0_chk19 v170), 2 ∣ (k0_mult19 v170).toNat := fun v170 k0_hw19 => k0_hw19.1
theorem k0_off38_inb : ∀ (v170 : BitVec 32) (k0_hw19 : k0_chk19 v170), ∀ a, (k0_off38 v170) a + S2x128.size a ≤ S100000x128.size a := fun v170 k0_hw19 => k0_hw19.2

def k0_off39 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c19_i32 : BitVec 32 := 19#32
  let v177 : BitVec 32 := Scalar.addi v5 c19_i32
  let v178 : Index := Scalar.indexCast v177
  ![v178.toNat]
def k0_mult20 (v179 : BitVec 32) : BitVec 32 :=
  v179

def k0_off40 (v179 : BitVec 32) : Fin 2 → Nat :=
  let v180 : BitVec 32 := v179
  let v181 : Index := Scalar.indexCast v180
  let c0_40 : Index := 0#32
  ![v181.toNat, 0]

def k0_chk20 (v179 : BitVec 32) : Prop :=
  (2 ∣ (k0_mult20 v179).toNat) ∧
  (∀ a, (k0_off40 v179) a + S2x128.size a ≤ S100000x128.size a)
theorem k0_mult20_dvd : ∀ (v179 : BitVec 32) (k0_hw20 : k0_chk20 v179), 2 ∣ (k0_mult20 v179).toNat := fun v179 k0_hw20 => k0_hw20.1
theorem k0_off40_inb : ∀ (v179 : BitVec 32) (k0_hw20 : k0_chk20 v179), ∀ a, (k0_off40 v179) a + S2x128.size a ≤ S100000x128.size a := fun v179 k0_hw20 => k0_hw20.2

def k0_off41 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c20_i32 : BitVec 32 := 20#32
  let v186 : BitVec 32 := Scalar.addi v5 c20_i32
  let v187 : Index := Scalar.indexCast v186
  ![v187.toNat]
def k0_mult21 (v188 : BitVec 32) : BitVec 32 :=
  v188

def k0_off42 (v188 : BitVec 32) : Fin 2 → Nat :=
  let v189 : BitVec 32 := v188
  let v190 : Index := Scalar.indexCast v189
  let c0_42 : Index := 0#32
  ![v190.toNat, 0]

def k0_chk21 (v188 : BitVec 32) : Prop :=
  (2 ∣ (k0_mult21 v188).toNat) ∧
  (∀ a, (k0_off42 v188) a + S2x128.size a ≤ S100000x128.size a)
theorem k0_mult21_dvd : ∀ (v188 : BitVec 32) (k0_hw21 : k0_chk21 v188), 2 ∣ (k0_mult21 v188).toNat := fun v188 k0_hw21 => k0_hw21.1
theorem k0_off42_inb : ∀ (v188 : BitVec 32) (k0_hw21 : k0_chk21 v188), ∀ a, (k0_off42 v188) a + S2x128.size a ≤ S100000x128.size a := fun v188 k0_hw21 => k0_hw21.2

def k0_off43 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c21_i32 : BitVec 32 := 21#32
  let v195 : BitVec 32 := Scalar.addi v5 c21_i32
  let v196 : Index := Scalar.indexCast v195
  ![v196.toNat]
def k0_mult22 (v197 : BitVec 32) : BitVec 32 :=
  v197

def k0_off44 (v197 : BitVec 32) : Fin 2 → Nat :=
  let v198 : BitVec 32 := v197
  let v199 : Index := Scalar.indexCast v198
  let c0_44 : Index := 0#32
  ![v199.toNat, 0]

def k0_chk22 (v197 : BitVec 32) : Prop :=
  (2 ∣ (k0_mult22 v197).toNat) ∧
  (∀ a, (k0_off44 v197) a + S2x128.size a ≤ S100000x128.size a)
theorem k0_mult22_dvd : ∀ (v197 : BitVec 32) (k0_hw22 : k0_chk22 v197), 2 ∣ (k0_mult22 v197).toNat := fun v197 k0_hw22 => k0_hw22.1
theorem k0_off44_inb : ∀ (v197 : BitVec 32) (k0_hw22 : k0_chk22 v197), ∀ a, (k0_off44 v197) a + S2x128.size a ≤ S100000x128.size a := fun v197 k0_hw22 => k0_hw22.2

def k0_off45 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c22_i32 : BitVec 32 := 22#32
  let v204 : BitVec 32 := Scalar.addi v5 c22_i32
  let v205 : Index := Scalar.indexCast v204
  ![v205.toNat]
def k0_mult23 (v206 : BitVec 32) : BitVec 32 :=
  v206

def k0_off46 (v206 : BitVec 32) : Fin 2 → Nat :=
  let v207 : BitVec 32 := v206
  let v208 : Index := Scalar.indexCast v207
  let c0_46 : Index := 0#32
  ![v208.toNat, 0]

def k0_chk23 (v206 : BitVec 32) : Prop :=
  (2 ∣ (k0_mult23 v206).toNat) ∧
  (∀ a, (k0_off46 v206) a + S2x128.size a ≤ S100000x128.size a)
theorem k0_mult23_dvd : ∀ (v206 : BitVec 32) (k0_hw23 : k0_chk23 v206), 2 ∣ (k0_mult23 v206).toNat := fun v206 k0_hw23 => k0_hw23.1
theorem k0_off46_inb : ∀ (v206 : BitVec 32) (k0_hw23 : k0_chk23 v206), ∀ a, (k0_off46 v206) a + S2x128.size a ≤ S100000x128.size a := fun v206 k0_hw23 => k0_hw23.2

def k0_off47 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c23_i32 : BitVec 32 := 23#32
  let v213 : BitVec 32 := Scalar.addi v5 c23_i32
  let v214 : Index := Scalar.indexCast v213
  ![v214.toNat]
def k0_mult24 (v215 : BitVec 32) : BitVec 32 :=
  v215

def k0_off48 (v215 : BitVec 32) : Fin 2 → Nat :=
  let v216 : BitVec 32 := v215
  let v217 : Index := Scalar.indexCast v216
  let c0_48 : Index := 0#32
  ![v217.toNat, 0]

def k0_chk24 (v215 : BitVec 32) : Prop :=
  (2 ∣ (k0_mult24 v215).toNat) ∧
  (∀ a, (k0_off48 v215) a + S2x128.size a ≤ S100000x128.size a)
theorem k0_mult24_dvd : ∀ (v215 : BitVec 32) (k0_hw24 : k0_chk24 v215), 2 ∣ (k0_mult24 v215).toNat := fun v215 k0_hw24 => k0_hw24.1
theorem k0_off48_inb : ∀ (v215 : BitVec 32) (k0_hw24 : k0_chk24 v215), ∀ a, (k0_off48 v215) a + S2x128.size a ≤ S100000x128.size a := fun v215 k0_hw24 => k0_hw24.2

def k0_off49 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c24_i32 : BitVec 32 := 24#32
  let v222 : BitVec 32 := Scalar.addi v5 c24_i32
  let v223 : Index := Scalar.indexCast v222
  ![v223.toNat]
def k0_mult25 (v224 : BitVec 32) : BitVec 32 :=
  v224

def k0_off50 (v224 : BitVec 32) : Fin 2 → Nat :=
  let v225 : BitVec 32 := v224
  let v226 : Index := Scalar.indexCast v225
  let c0_50 : Index := 0#32
  ![v226.toNat, 0]

def k0_chk25 (v224 : BitVec 32) : Prop :=
  (2 ∣ (k0_mult25 v224).toNat) ∧
  (∀ a, (k0_off50 v224) a + S2x128.size a ≤ S100000x128.size a)
theorem k0_mult25_dvd : ∀ (v224 : BitVec 32) (k0_hw25 : k0_chk25 v224), 2 ∣ (k0_mult25 v224).toNat := fun v224 k0_hw25 => k0_hw25.1
theorem k0_off50_inb : ∀ (v224 : BitVec 32) (k0_hw25 : k0_chk25 v224), ∀ a, (k0_off50 v224) a + S2x128.size a ≤ S100000x128.size a := fun v224 k0_hw25 => k0_hw25.2

def k0_off51 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c25_i32 : BitVec 32 := 25#32
  let v231 : BitVec 32 := Scalar.addi v5 c25_i32
  let v232 : Index := Scalar.indexCast v231
  ![v232.toNat]
def k0_mult26 (v233 : BitVec 32) : BitVec 32 :=
  v233

def k0_off52 (v233 : BitVec 32) : Fin 2 → Nat :=
  let v234 : BitVec 32 := v233
  let v235 : Index := Scalar.indexCast v234
  let c0_52 : Index := 0#32
  ![v235.toNat, 0]

def k0_chk26 (v233 : BitVec 32) : Prop :=
  (2 ∣ (k0_mult26 v233).toNat) ∧
  (∀ a, (k0_off52 v233) a + S2x128.size a ≤ S100000x128.size a)
theorem k0_mult26_dvd : ∀ (v233 : BitVec 32) (k0_hw26 : k0_chk26 v233), 2 ∣ (k0_mult26 v233).toNat := fun v233 k0_hw26 => k0_hw26.1
theorem k0_off52_inb : ∀ (v233 : BitVec 32) (k0_hw26 : k0_chk26 v233), ∀ a, (k0_off52 v233) a + S2x128.size a ≤ S100000x128.size a := fun v233 k0_hw26 => k0_hw26.2

def k0_off53 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c26_i32 : BitVec 32 := 26#32
  let v240 : BitVec 32 := Scalar.addi v5 c26_i32
  let v241 : Index := Scalar.indexCast v240
  ![v241.toNat]
def k0_mult27 (v242 : BitVec 32) : BitVec 32 :=
  v242

def k0_off54 (v242 : BitVec 32) : Fin 2 → Nat :=
  let v243 : BitVec 32 := v242
  let v244 : Index := Scalar.indexCast v243
  let c0_54 : Index := 0#32
  ![v244.toNat, 0]

def k0_chk27 (v242 : BitVec 32) : Prop :=
  (2 ∣ (k0_mult27 v242).toNat) ∧
  (∀ a, (k0_off54 v242) a + S2x128.size a ≤ S100000x128.size a)
theorem k0_mult27_dvd : ∀ (v242 : BitVec 32) (k0_hw27 : k0_chk27 v242), 2 ∣ (k0_mult27 v242).toNat := fun v242 k0_hw27 => k0_hw27.1
theorem k0_off54_inb : ∀ (v242 : BitVec 32) (k0_hw27 : k0_chk27 v242), ∀ a, (k0_off54 v242) a + S2x128.size a ≤ S100000x128.size a := fun v242 k0_hw27 => k0_hw27.2

def k0_off55 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c27_i32 : BitVec 32 := 27#32
  let v249 : BitVec 32 := Scalar.addi v5 c27_i32
  let v250 : Index := Scalar.indexCast v249
  ![v250.toNat]
def k0_mult28 (v251 : BitVec 32) : BitVec 32 :=
  v251

def k0_off56 (v251 : BitVec 32) : Fin 2 → Nat :=
  let v252 : BitVec 32 := v251
  let v253 : Index := Scalar.indexCast v252
  let c0_56 : Index := 0#32
  ![v253.toNat, 0]

def k0_chk28 (v251 : BitVec 32) : Prop :=
  (2 ∣ (k0_mult28 v251).toNat) ∧
  (∀ a, (k0_off56 v251) a + S2x128.size a ≤ S100000x128.size a)
theorem k0_mult28_dvd : ∀ (v251 : BitVec 32) (k0_hw28 : k0_chk28 v251), 2 ∣ (k0_mult28 v251).toNat := fun v251 k0_hw28 => k0_hw28.1
theorem k0_off56_inb : ∀ (v251 : BitVec 32) (k0_hw28 : k0_chk28 v251), ∀ a, (k0_off56 v251) a + S2x128.size a ≤ S100000x128.size a := fun v251 k0_hw28 => k0_hw28.2

def k0_off57 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c28_i32 : BitVec 32 := 28#32
  let v258 : BitVec 32 := Scalar.addi v5 c28_i32
  let v259 : Index := Scalar.indexCast v258
  ![v259.toNat]
def k0_mult29 (v260 : BitVec 32) : BitVec 32 :=
  v260

def k0_off58 (v260 : BitVec 32) : Fin 2 → Nat :=
  let v261 : BitVec 32 := v260
  let v262 : Index := Scalar.indexCast v261
  let c0_58 : Index := 0#32
  ![v262.toNat, 0]

def k0_chk29 (v260 : BitVec 32) : Prop :=
  (2 ∣ (k0_mult29 v260).toNat) ∧
  (∀ a, (k0_off58 v260) a + S2x128.size a ≤ S100000x128.size a)
theorem k0_mult29_dvd : ∀ (v260 : BitVec 32) (k0_hw29 : k0_chk29 v260), 2 ∣ (k0_mult29 v260).toNat := fun v260 k0_hw29 => k0_hw29.1
theorem k0_off58_inb : ∀ (v260 : BitVec 32) (k0_hw29 : k0_chk29 v260), ∀ a, (k0_off58 v260) a + S2x128.size a ≤ S100000x128.size a := fun v260 k0_hw29 => k0_hw29.2

def k0_off59 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c29_i32 : BitVec 32 := 29#32
  let v267 : BitVec 32 := Scalar.addi v5 c29_i32
  let v268 : Index := Scalar.indexCast v267
  ![v268.toNat]
def k0_mult30 (v269 : BitVec 32) : BitVec 32 :=
  v269

def k0_off60 (v269 : BitVec 32) : Fin 2 → Nat :=
  let v270 : BitVec 32 := v269
  let v271 : Index := Scalar.indexCast v270
  let c0_60 : Index := 0#32
  ![v271.toNat, 0]

def k0_chk30 (v269 : BitVec 32) : Prop :=
  (2 ∣ (k0_mult30 v269).toNat) ∧
  (∀ a, (k0_off60 v269) a + S2x128.size a ≤ S100000x128.size a)
theorem k0_mult30_dvd : ∀ (v269 : BitVec 32) (k0_hw30 : k0_chk30 v269), 2 ∣ (k0_mult30 v269).toNat := fun v269 k0_hw30 => k0_hw30.1
theorem k0_off60_inb : ∀ (v269 : BitVec 32) (k0_hw30 : k0_chk30 v269), ∀ a, (k0_off60 v269) a + S2x128.size a ≤ S100000x128.size a := fun v269 k0_hw30 => k0_hw30.2

def k0_off61 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c30_i32 : BitVec 32 := 30#32
  let v276 : BitVec 32 := Scalar.addi v5 c30_i32
  let v277 : Index := Scalar.indexCast v276
  ![v277.toNat]
def k0_mult31 (v278 : BitVec 32) : BitVec 32 :=
  v278

def k0_off62 (v278 : BitVec 32) : Fin 2 → Nat :=
  let v279 : BitVec 32 := v278
  let v280 : Index := Scalar.indexCast v279
  let c0_62 : Index := 0#32
  ![v280.toNat, 0]

def k0_chk31 (v278 : BitVec 32) : Prop :=
  (2 ∣ (k0_mult31 v278).toNat) ∧
  (∀ a, (k0_off62 v278) a + S2x128.size a ≤ S100000x128.size a)
theorem k0_mult31_dvd : ∀ (v278 : BitVec 32) (k0_hw31 : k0_chk31 v278), 2 ∣ (k0_mult31 v278).toNat := fun v278 k0_hw31 => k0_hw31.1
theorem k0_off62_inb : ∀ (v278 : BitVec 32) (k0_hw31 : k0_chk31 v278), ∀ a, (k0_off62 v278) a + S2x128.size a ≤ S100000x128.size a := fun v278 k0_hw31 => k0_hw31.2

def k0_off63 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c31_i32 : BitVec 32 := 31#32
  let v285 : BitVec 32 := Scalar.addi v5 c31_i32
  let v286 : Index := Scalar.indexCast v285
  ![v286.toNat]
def k0_mult32 (v287 : BitVec 32) : BitVec 32 :=
  v287

def k0_off64 (v287 : BitVec 32) : Fin 2 → Nat :=
  let v288 : BitVec 32 := v287
  let v289 : Index := Scalar.indexCast v288
  let c0_64 : Index := 0#32
  ![v289.toNat, 0]

def k0_chk32 (v287 : BitVec 32) : Prop :=
  (2 ∣ (k0_mult32 v287).toNat) ∧
  (∀ a, (k0_off64 v287) a + S2x128.size a ≤ S100000x128.size a)
theorem k0_mult32_dvd : ∀ (v287 : BitVec 32) (k0_hw32 : k0_chk32 v287), 2 ∣ (k0_mult32 v287).toNat := fun v287 k0_hw32 => k0_hw32.1
theorem k0_off64_inb : ∀ (v287 : BitVec 32) (k0_hw32 : k0_chk32 v287), ∀ a, (k0_off64 v287) a + S2x128.size a ≤ S100000x128.size a := fun v287 k0_hw32 => k0_hw32.2

def k0_off65 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c32_i32 : BitVec 32 := 32#32
  let v294 : BitVec 32 := Scalar.addi v5 c32_i32
  let v295 : Index := Scalar.indexCast v294
  ![v295.toNat]
def k0_mult33 (v296 : BitVec 32) : BitVec 32 :=
  v296

def k0_off66 (v296 : BitVec 32) : Fin 2 → Nat :=
  let v297 : BitVec 32 := v296
  let v298 : Index := Scalar.indexCast v297
  let c0_66 : Index := 0#32
  ![v298.toNat, 0]

def k0_chk33 (v296 : BitVec 32) : Prop :=
  (2 ∣ (k0_mult33 v296).toNat) ∧
  (∀ a, (k0_off66 v296) a + S2x128.size a ≤ S100000x128.size a)
theorem k0_mult33_dvd : ∀ (v296 : BitVec 32) (k0_hw33 : k0_chk33 v296), 2 ∣ (k0_mult33 v296).toNat := fun v296 k0_hw33 => k0_hw33.1
theorem k0_off66_inb : ∀ (v296 : BitVec 32) (k0_hw33 : k0_chk33 v296), ∀ a, (k0_off66 v296) a + S2x128.size a ≤ S100000x128.size a := fun v296 k0_hw33 => k0_hw33.2

def k0_off67 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c33_i32 : BitVec 32 := 33#32
  let v303 : BitVec 32 := Scalar.addi v5 c33_i32
  let v304 : Index := Scalar.indexCast v303
  ![v304.toNat]
def k0_mult34 (v305 : BitVec 32) : BitVec 32 :=
  v305

def k0_off68 (v305 : BitVec 32) : Fin 2 → Nat :=
  let v306 : BitVec 32 := v305
  let v307 : Index := Scalar.indexCast v306
  let c0_68 : Index := 0#32
  ![v307.toNat, 0]

def k0_chk34 (v305 : BitVec 32) : Prop :=
  (2 ∣ (k0_mult34 v305).toNat) ∧
  (∀ a, (k0_off68 v305) a + S2x128.size a ≤ S100000x128.size a)
theorem k0_mult34_dvd : ∀ (v305 : BitVec 32) (k0_hw34 : k0_chk34 v305), 2 ∣ (k0_mult34 v305).toNat := fun v305 k0_hw34 => k0_hw34.1
theorem k0_off68_inb : ∀ (v305 : BitVec 32) (k0_hw34 : k0_chk34 v305), ∀ a, (k0_off68 v305) a + S2x128.size a ≤ S100000x128.size a := fun v305 k0_hw34 => k0_hw34.2

def k0_off69 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c34_i32 : BitVec 32 := 34#32
  let v312 : BitVec 32 := Scalar.addi v5 c34_i32
  let v313 : Index := Scalar.indexCast v312
  ![v313.toNat]
def k0_mult35 (v314 : BitVec 32) : BitVec 32 :=
  v314

def k0_off70 (v314 : BitVec 32) : Fin 2 → Nat :=
  let v315 : BitVec 32 := v314
  let v316 : Index := Scalar.indexCast v315
  let c0_70 : Index := 0#32
  ![v316.toNat, 0]

def k0_chk35 (v314 : BitVec 32) : Prop :=
  (2 ∣ (k0_mult35 v314).toNat) ∧
  (∀ a, (k0_off70 v314) a + S2x128.size a ≤ S100000x128.size a)
theorem k0_mult35_dvd : ∀ (v314 : BitVec 32) (k0_hw35 : k0_chk35 v314), 2 ∣ (k0_mult35 v314).toNat := fun v314 k0_hw35 => k0_hw35.1
theorem k0_off70_inb : ∀ (v314 : BitVec 32) (k0_hw35 : k0_chk35 v314), ∀ a, (k0_off70 v314) a + S2x128.size a ≤ S100000x128.size a := fun v314 k0_hw35 => k0_hw35.2

def k0_off71 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c35_i32 : BitVec 32 := 35#32
  let v321 : BitVec 32 := Scalar.addi v5 c35_i32
  let v322 : Index := Scalar.indexCast v321
  ![v322.toNat]
def k0_mult36 (v323 : BitVec 32) : BitVec 32 :=
  v323

def k0_off72 (v323 : BitVec 32) : Fin 2 → Nat :=
  let v324 : BitVec 32 := v323
  let v325 : Index := Scalar.indexCast v324
  let c0_72 : Index := 0#32
  ![v325.toNat, 0]

def k0_chk36 (v323 : BitVec 32) : Prop :=
  (2 ∣ (k0_mult36 v323).toNat) ∧
  (∀ a, (k0_off72 v323) a + S2x128.size a ≤ S100000x128.size a)
theorem k0_mult36_dvd : ∀ (v323 : BitVec 32) (k0_hw36 : k0_chk36 v323), 2 ∣ (k0_mult36 v323).toNat := fun v323 k0_hw36 => k0_hw36.1
theorem k0_off72_inb : ∀ (v323 : BitVec 32) (k0_hw36 : k0_chk36 v323), ∀ a, (k0_off72 v323) a + S2x128.size a ≤ S100000x128.size a := fun v323 k0_hw36 => k0_hw36.2

def k0_off73 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c36_i32 : BitVec 32 := 36#32
  let v330 : BitVec 32 := Scalar.addi v5 c36_i32
  let v331 : Index := Scalar.indexCast v330
  ![v331.toNat]
def k0_mult37 (v332 : BitVec 32) : BitVec 32 :=
  v332

def k0_off74 (v332 : BitVec 32) : Fin 2 → Nat :=
  let v333 : BitVec 32 := v332
  let v334 : Index := Scalar.indexCast v333
  let c0_74 : Index := 0#32
  ![v334.toNat, 0]

def k0_chk37 (v332 : BitVec 32) : Prop :=
  (2 ∣ (k0_mult37 v332).toNat) ∧
  (∀ a, (k0_off74 v332) a + S2x128.size a ≤ S100000x128.size a)
theorem k0_mult37_dvd : ∀ (v332 : BitVec 32) (k0_hw37 : k0_chk37 v332), 2 ∣ (k0_mult37 v332).toNat := fun v332 k0_hw37 => k0_hw37.1
theorem k0_off74_inb : ∀ (v332 : BitVec 32) (k0_hw37 : k0_chk37 v332), ∀ a, (k0_off74 v332) a + S2x128.size a ≤ S100000x128.size a := fun v332 k0_hw37 => k0_hw37.2

def k0_off75 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c37_i32 : BitVec 32 := 37#32
  let v339 : BitVec 32 := Scalar.addi v5 c37_i32
  let v340 : Index := Scalar.indexCast v339
  ![v340.toNat]
def k0_mult38 (v341 : BitVec 32) : BitVec 32 :=
  v341

def k0_off76 (v341 : BitVec 32) : Fin 2 → Nat :=
  let v342 : BitVec 32 := v341
  let v343 : Index := Scalar.indexCast v342
  let c0_76 : Index := 0#32
  ![v343.toNat, 0]

def k0_chk38 (v341 : BitVec 32) : Prop :=
  (2 ∣ (k0_mult38 v341).toNat) ∧
  (∀ a, (k0_off76 v341) a + S2x128.size a ≤ S100000x128.size a)
theorem k0_mult38_dvd : ∀ (v341 : BitVec 32) (k0_hw38 : k0_chk38 v341), 2 ∣ (k0_mult38 v341).toNat := fun v341 k0_hw38 => k0_hw38.1
theorem k0_off76_inb : ∀ (v341 : BitVec 32) (k0_hw38 : k0_chk38 v341), ∀ a, (k0_off76 v341) a + S2x128.size a ≤ S100000x128.size a := fun v341 k0_hw38 => k0_hw38.2

def k0_off77 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c38_i32 : BitVec 32 := 38#32
  let v348 : BitVec 32 := Scalar.addi v5 c38_i32
  let v349 : Index := Scalar.indexCast v348
  ![v349.toNat]
def k0_mult39 (v350 : BitVec 32) : BitVec 32 :=
  v350

def k0_off78 (v350 : BitVec 32) : Fin 2 → Nat :=
  let v351 : BitVec 32 := v350
  let v352 : Index := Scalar.indexCast v351
  let c0_78 : Index := 0#32
  ![v352.toNat, 0]

def k0_chk39 (v350 : BitVec 32) : Prop :=
  (2 ∣ (k0_mult39 v350).toNat) ∧
  (∀ a, (k0_off78 v350) a + S2x128.size a ≤ S100000x128.size a)
theorem k0_mult39_dvd : ∀ (v350 : BitVec 32) (k0_hw39 : k0_chk39 v350), 2 ∣ (k0_mult39 v350).toNat := fun v350 k0_hw39 => k0_hw39.1
theorem k0_off78_inb : ∀ (v350 : BitVec 32) (k0_hw39 : k0_chk39 v350), ∀ a, (k0_off78 v350) a + S2x128.size a ≤ S100000x128.size a := fun v350 k0_hw39 => k0_hw39.2

def k0_off79 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c39_i32 : BitVec 32 := 39#32
  let v357 : BitVec 32 := Scalar.addi v5 c39_i32
  let v358 : Index := Scalar.indexCast v357
  ![v358.toNat]
def k0_mult40 (v359 : BitVec 32) : BitVec 32 :=
  v359

def k0_off80 (v359 : BitVec 32) : Fin 2 → Nat :=
  let v360 : BitVec 32 := v359
  let v361 : Index := Scalar.indexCast v360
  let c0_80 : Index := 0#32
  ![v361.toNat, 0]

def k0_chk40 (v359 : BitVec 32) : Prop :=
  (2 ∣ (k0_mult40 v359).toNat) ∧
  (∀ a, (k0_off80 v359) a + S2x128.size a ≤ S100000x128.size a)
theorem k0_mult40_dvd : ∀ (v359 : BitVec 32) (k0_hw40 : k0_chk40 v359), 2 ∣ (k0_mult40 v359).toNat := fun v359 k0_hw40 => k0_hw40.1
theorem k0_off80_inb : ∀ (v359 : BitVec 32) (k0_hw40 : k0_chk40 v359), ∀ a, (k0_off80 v359) a + S2x128.size a ≤ S100000x128.size a := fun v359 k0_hw40 => k0_hw40.2

def k0_off81 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c40_i32 : BitVec 32 := 40#32
  let v366 : BitVec 32 := Scalar.addi v5 c40_i32
  let v367 : Index := Scalar.indexCast v366
  ![v367.toNat]
def k0_mult41 (v368 : BitVec 32) : BitVec 32 :=
  v368

def k0_off82 (v368 : BitVec 32) : Fin 2 → Nat :=
  let v369 : BitVec 32 := v368
  let v370 : Index := Scalar.indexCast v369
  let c0_82 : Index := 0#32
  ![v370.toNat, 0]

def k0_chk41 (v368 : BitVec 32) : Prop :=
  (2 ∣ (k0_mult41 v368).toNat) ∧
  (∀ a, (k0_off82 v368) a + S2x128.size a ≤ S100000x128.size a)
theorem k0_mult41_dvd : ∀ (v368 : BitVec 32) (k0_hw41 : k0_chk41 v368), 2 ∣ (k0_mult41 v368).toNat := fun v368 k0_hw41 => k0_hw41.1
theorem k0_off82_inb : ∀ (v368 : BitVec 32) (k0_hw41 : k0_chk41 v368), ∀ a, (k0_off82 v368) a + S2x128.size a ≤ S100000x128.size a := fun v368 k0_hw41 => k0_hw41.2

def k0_off83 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c41_i32 : BitVec 32 := 41#32
  let v375 : BitVec 32 := Scalar.addi v5 c41_i32
  let v376 : Index := Scalar.indexCast v375
  ![v376.toNat]
def k0_mult42 (v377 : BitVec 32) : BitVec 32 :=
  v377

def k0_off84 (v377 : BitVec 32) : Fin 2 → Nat :=
  let v378 : BitVec 32 := v377
  let v379 : Index := Scalar.indexCast v378
  let c0_84 : Index := 0#32
  ![v379.toNat, 0]

def k0_chk42 (v377 : BitVec 32) : Prop :=
  (2 ∣ (k0_mult42 v377).toNat) ∧
  (∀ a, (k0_off84 v377) a + S2x128.size a ≤ S100000x128.size a)
theorem k0_mult42_dvd : ∀ (v377 : BitVec 32) (k0_hw42 : k0_chk42 v377), 2 ∣ (k0_mult42 v377).toNat := fun v377 k0_hw42 => k0_hw42.1
theorem k0_off84_inb : ∀ (v377 : BitVec 32) (k0_hw42 : k0_chk42 v377), ∀ a, (k0_off84 v377) a + S2x128.size a ≤ S100000x128.size a := fun v377 k0_hw42 => k0_hw42.2

def k0_off85 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c42_i32 : BitVec 32 := 42#32
  let v384 : BitVec 32 := Scalar.addi v5 c42_i32
  let v385 : Index := Scalar.indexCast v384
  ![v385.toNat]
def k0_mult43 (v386 : BitVec 32) : BitVec 32 :=
  v386

def k0_off86 (v386 : BitVec 32) : Fin 2 → Nat :=
  let v387 : BitVec 32 := v386
  let v388 : Index := Scalar.indexCast v387
  let c0_86 : Index := 0#32
  ![v388.toNat, 0]

def k0_chk43 (v386 : BitVec 32) : Prop :=
  (2 ∣ (k0_mult43 v386).toNat) ∧
  (∀ a, (k0_off86 v386) a + S2x128.size a ≤ S100000x128.size a)
theorem k0_mult43_dvd : ∀ (v386 : BitVec 32) (k0_hw43 : k0_chk43 v386), 2 ∣ (k0_mult43 v386).toNat := fun v386 k0_hw43 => k0_hw43.1
theorem k0_off86_inb : ∀ (v386 : BitVec 32) (k0_hw43 : k0_chk43 v386), ∀ a, (k0_off86 v386) a + S2x128.size a ≤ S100000x128.size a := fun v386 k0_hw43 => k0_hw43.2

def k0_off87 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c43_i32 : BitVec 32 := 43#32
  let v393 : BitVec 32 := Scalar.addi v5 c43_i32
  let v394 : Index := Scalar.indexCast v393
  ![v394.toNat]
def k0_mult44 (v395 : BitVec 32) : BitVec 32 :=
  v395

def k0_off88 (v395 : BitVec 32) : Fin 2 → Nat :=
  let v396 : BitVec 32 := v395
  let v397 : Index := Scalar.indexCast v396
  let c0_88 : Index := 0#32
  ![v397.toNat, 0]

def k0_chk44 (v395 : BitVec 32) : Prop :=
  (2 ∣ (k0_mult44 v395).toNat) ∧
  (∀ a, (k0_off88 v395) a + S2x128.size a ≤ S100000x128.size a)
theorem k0_mult44_dvd : ∀ (v395 : BitVec 32) (k0_hw44 : k0_chk44 v395), 2 ∣ (k0_mult44 v395).toNat := fun v395 k0_hw44 => k0_hw44.1
theorem k0_off88_inb : ∀ (v395 : BitVec 32) (k0_hw44 : k0_chk44 v395), ∀ a, (k0_off88 v395) a + S2x128.size a ≤ S100000x128.size a := fun v395 k0_hw44 => k0_hw44.2

def k0_off89 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c44_i32 : BitVec 32 := 44#32
  let v402 : BitVec 32 := Scalar.addi v5 c44_i32
  let v403 : Index := Scalar.indexCast v402
  ![v403.toNat]
def k0_mult45 (v404 : BitVec 32) : BitVec 32 :=
  v404

def k0_off90 (v404 : BitVec 32) : Fin 2 → Nat :=
  let v405 : BitVec 32 := v404
  let v406 : Index := Scalar.indexCast v405
  let c0_90 : Index := 0#32
  ![v406.toNat, 0]

def k0_chk45 (v404 : BitVec 32) : Prop :=
  (2 ∣ (k0_mult45 v404).toNat) ∧
  (∀ a, (k0_off90 v404) a + S2x128.size a ≤ S100000x128.size a)
theorem k0_mult45_dvd : ∀ (v404 : BitVec 32) (k0_hw45 : k0_chk45 v404), 2 ∣ (k0_mult45 v404).toNat := fun v404 k0_hw45 => k0_hw45.1
theorem k0_off90_inb : ∀ (v404 : BitVec 32) (k0_hw45 : k0_chk45 v404), ∀ a, (k0_off90 v404) a + S2x128.size a ≤ S100000x128.size a := fun v404 k0_hw45 => k0_hw45.2

def k0_off91 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c45_i32 : BitVec 32 := 45#32
  let v411 : BitVec 32 := Scalar.addi v5 c45_i32
  let v412 : Index := Scalar.indexCast v411
  ![v412.toNat]
def k0_mult46 (v413 : BitVec 32) : BitVec 32 :=
  v413

def k0_off92 (v413 : BitVec 32) : Fin 2 → Nat :=
  let v414 : BitVec 32 := v413
  let v415 : Index := Scalar.indexCast v414
  let c0_92 : Index := 0#32
  ![v415.toNat, 0]

def k0_chk46 (v413 : BitVec 32) : Prop :=
  (2 ∣ (k0_mult46 v413).toNat) ∧
  (∀ a, (k0_off92 v413) a + S2x128.size a ≤ S100000x128.size a)
theorem k0_mult46_dvd : ∀ (v413 : BitVec 32) (k0_hw46 : k0_chk46 v413), 2 ∣ (k0_mult46 v413).toNat := fun v413 k0_hw46 => k0_hw46.1
theorem k0_off92_inb : ∀ (v413 : BitVec 32) (k0_hw46 : k0_chk46 v413), ∀ a, (k0_off92 v413) a + S2x128.size a ≤ S100000x128.size a := fun v413 k0_hw46 => k0_hw46.2

def k0_off93 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c46_i32 : BitVec 32 := 46#32
  let v420 : BitVec 32 := Scalar.addi v5 c46_i32
  let v421 : Index := Scalar.indexCast v420
  ![v421.toNat]
def k0_mult47 (v422 : BitVec 32) : BitVec 32 :=
  v422

def k0_off94 (v422 : BitVec 32) : Fin 2 → Nat :=
  let v423 : BitVec 32 := v422
  let v424 : Index := Scalar.indexCast v423
  let c0_94 : Index := 0#32
  ![v424.toNat, 0]

def k0_chk47 (v422 : BitVec 32) : Prop :=
  (2 ∣ (k0_mult47 v422).toNat) ∧
  (∀ a, (k0_off94 v422) a + S2x128.size a ≤ S100000x128.size a)
theorem k0_mult47_dvd : ∀ (v422 : BitVec 32) (k0_hw47 : k0_chk47 v422), 2 ∣ (k0_mult47 v422).toNat := fun v422 k0_hw47 => k0_hw47.1
theorem k0_off94_inb : ∀ (v422 : BitVec 32) (k0_hw47 : k0_chk47 v422), ∀ a, (k0_off94 v422) a + S2x128.size a ≤ S100000x128.size a := fun v422 k0_hw47 => k0_hw47.2

def k0_off95 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c47_i32 : BitVec 32 := 47#32
  let v429 : BitVec 32 := Scalar.addi v5 c47_i32
  let v430 : Index := Scalar.indexCast v429
  ![v430.toNat]
def k0_mult48 (v431 : BitVec 32) : BitVec 32 :=
  v431

def k0_off96 (v431 : BitVec 32) : Fin 2 → Nat :=
  let v432 : BitVec 32 := v431
  let v433 : Index := Scalar.indexCast v432
  let c0_96 : Index := 0#32
  ![v433.toNat, 0]

def k0_chk48 (v431 : BitVec 32) : Prop :=
  (2 ∣ (k0_mult48 v431).toNat) ∧
  (∀ a, (k0_off96 v431) a + S2x128.size a ≤ S100000x128.size a)
theorem k0_mult48_dvd : ∀ (v431 : BitVec 32) (k0_hw48 : k0_chk48 v431), 2 ∣ (k0_mult48 v431).toNat := fun v431 k0_hw48 => k0_hw48.1
theorem k0_off96_inb : ∀ (v431 : BitVec 32) (k0_hw48 : k0_chk48 v431), ∀ a, (k0_off96 v431) a + S2x128.size a ≤ S100000x128.size a := fun v431 k0_hw48 => k0_hw48.2

def k0_off97 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c48_i32 : BitVec 32 := 48#32
  let v438 : BitVec 32 := Scalar.addi v5 c48_i32
  let v439 : Index := Scalar.indexCast v438
  ![v439.toNat]
def k0_mult49 (v440 : BitVec 32) : BitVec 32 :=
  v440

def k0_off98 (v440 : BitVec 32) : Fin 2 → Nat :=
  let v441 : BitVec 32 := v440
  let v442 : Index := Scalar.indexCast v441
  let c0_98 : Index := 0#32
  ![v442.toNat, 0]

def k0_chk49 (v440 : BitVec 32) : Prop :=
  (2 ∣ (k0_mult49 v440).toNat) ∧
  (∀ a, (k0_off98 v440) a + S2x128.size a ≤ S100000x128.size a)
theorem k0_mult49_dvd : ∀ (v440 : BitVec 32) (k0_hw49 : k0_chk49 v440), 2 ∣ (k0_mult49 v440).toNat := fun v440 k0_hw49 => k0_hw49.1
theorem k0_off98_inb : ∀ (v440 : BitVec 32) (k0_hw49 : k0_chk49 v440), ∀ a, (k0_off98 v440) a + S2x128.size a ≤ S100000x128.size a := fun v440 k0_hw49 => k0_hw49.2

def k0_off99 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c49_i32 : BitVec 32 := 49#32
  let v447 : BitVec 32 := Scalar.addi v5 c49_i32
  let v448 : Index := Scalar.indexCast v447
  ![v448.toNat]
def k0_mult50 (v449 : BitVec 32) : BitVec 32 :=
  v449

def k0_off100 (v449 : BitVec 32) : Fin 2 → Nat :=
  let v450 : BitVec 32 := v449
  let v451 : Index := Scalar.indexCast v450
  let c0_100 : Index := 0#32
  ![v451.toNat, 0]

def k0_chk50 (v449 : BitVec 32) : Prop :=
  (2 ∣ (k0_mult50 v449).toNat) ∧
  (∀ a, (k0_off100 v449) a + S2x128.size a ≤ S100000x128.size a)
theorem k0_mult50_dvd : ∀ (v449 : BitVec 32) (k0_hw50 : k0_chk50 v449), 2 ∣ (k0_mult50 v449).toNat := fun v449 k0_hw50 => k0_hw50.1
theorem k0_off100_inb : ∀ (v449 : BitVec 32) (k0_hw50 : k0_chk50 v449), ∀ a, (k0_off100 v449) a + S2x128.size a ≤ S100000x128.size a := fun v449 k0_hw50 => k0_hw50.2

def k0_off101 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c50_i32 : BitVec 32 := 50#32
  let v456 : BitVec 32 := Scalar.addi v5 c50_i32
  let v457 : Index := Scalar.indexCast v456
  ![v457.toNat]
def k0_mult51 (v458 : BitVec 32) : BitVec 32 :=
  v458

def k0_off102 (v458 : BitVec 32) : Fin 2 → Nat :=
  let v459 : BitVec 32 := v458
  let v460 : Index := Scalar.indexCast v459
  let c0_102 : Index := 0#32
  ![v460.toNat, 0]

def k0_chk51 (v458 : BitVec 32) : Prop :=
  (2 ∣ (k0_mult51 v458).toNat) ∧
  (∀ a, (k0_off102 v458) a + S2x128.size a ≤ S100000x128.size a)
theorem k0_mult51_dvd : ∀ (v458 : BitVec 32) (k0_hw51 : k0_chk51 v458), 2 ∣ (k0_mult51 v458).toNat := fun v458 k0_hw51 => k0_hw51.1
theorem k0_off102_inb : ∀ (v458 : BitVec 32) (k0_hw51 : k0_chk51 v458), ∀ a, (k0_off102 v458) a + S2x128.size a ≤ S100000x128.size a := fun v458 k0_hw51 => k0_hw51.2

def k0_off103 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c51_i32 : BitVec 32 := 51#32
  let v465 : BitVec 32 := Scalar.addi v5 c51_i32
  let v466 : Index := Scalar.indexCast v465
  ![v466.toNat]
def k0_mult52 (v467 : BitVec 32) : BitVec 32 :=
  v467

def k0_off104 (v467 : BitVec 32) : Fin 2 → Nat :=
  let v468 : BitVec 32 := v467
  let v469 : Index := Scalar.indexCast v468
  let c0_104 : Index := 0#32
  ![v469.toNat, 0]

def k0_chk52 (v467 : BitVec 32) : Prop :=
  (2 ∣ (k0_mult52 v467).toNat) ∧
  (∀ a, (k0_off104 v467) a + S2x128.size a ≤ S100000x128.size a)
theorem k0_mult52_dvd : ∀ (v467 : BitVec 32) (k0_hw52 : k0_chk52 v467), 2 ∣ (k0_mult52 v467).toNat := fun v467 k0_hw52 => k0_hw52.1
theorem k0_off104_inb : ∀ (v467 : BitVec 32) (k0_hw52 : k0_chk52 v467), ∀ a, (k0_off104 v467) a + S2x128.size a ≤ S100000x128.size a := fun v467 k0_hw52 => k0_hw52.2

def k0_off105 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c52_i32 : BitVec 32 := 52#32
  let v474 : BitVec 32 := Scalar.addi v5 c52_i32
  let v475 : Index := Scalar.indexCast v474
  ![v475.toNat]
def k0_mult53 (v476 : BitVec 32) : BitVec 32 :=
  v476

def k0_off106 (v476 : BitVec 32) : Fin 2 → Nat :=
  let v477 : BitVec 32 := v476
  let v478 : Index := Scalar.indexCast v477
  let c0_106 : Index := 0#32
  ![v478.toNat, 0]

def k0_chk53 (v476 : BitVec 32) : Prop :=
  (2 ∣ (k0_mult53 v476).toNat) ∧
  (∀ a, (k0_off106 v476) a + S2x128.size a ≤ S100000x128.size a)
theorem k0_mult53_dvd : ∀ (v476 : BitVec 32) (k0_hw53 : k0_chk53 v476), 2 ∣ (k0_mult53 v476).toNat := fun v476 k0_hw53 => k0_hw53.1
theorem k0_off106_inb : ∀ (v476 : BitVec 32) (k0_hw53 : k0_chk53 v476), ∀ a, (k0_off106 v476) a + S2x128.size a ≤ S100000x128.size a := fun v476 k0_hw53 => k0_hw53.2

def k0_off107 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c53_i32 : BitVec 32 := 53#32
  let v483 : BitVec 32 := Scalar.addi v5 c53_i32
  let v484 : Index := Scalar.indexCast v483
  ![v484.toNat]
def k0_mult54 (v485 : BitVec 32) : BitVec 32 :=
  v485

def k0_off108 (v485 : BitVec 32) : Fin 2 → Nat :=
  let v486 : BitVec 32 := v485
  let v487 : Index := Scalar.indexCast v486
  let c0_108 : Index := 0#32
  ![v487.toNat, 0]

def k0_chk54 (v485 : BitVec 32) : Prop :=
  (2 ∣ (k0_mult54 v485).toNat) ∧
  (∀ a, (k0_off108 v485) a + S2x128.size a ≤ S100000x128.size a)
theorem k0_mult54_dvd : ∀ (v485 : BitVec 32) (k0_hw54 : k0_chk54 v485), 2 ∣ (k0_mult54 v485).toNat := fun v485 k0_hw54 => k0_hw54.1
theorem k0_off108_inb : ∀ (v485 : BitVec 32) (k0_hw54 : k0_chk54 v485), ∀ a, (k0_off108 v485) a + S2x128.size a ≤ S100000x128.size a := fun v485 k0_hw54 => k0_hw54.2

def k0_off109 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c54_i32 : BitVec 32 := 54#32
  let v492 : BitVec 32 := Scalar.addi v5 c54_i32
  let v493 : Index := Scalar.indexCast v492
  ![v493.toNat]
def k0_mult55 (v494 : BitVec 32) : BitVec 32 :=
  v494

def k0_off110 (v494 : BitVec 32) : Fin 2 → Nat :=
  let v495 : BitVec 32 := v494
  let v496 : Index := Scalar.indexCast v495
  let c0_110 : Index := 0#32
  ![v496.toNat, 0]

def k0_chk55 (v494 : BitVec 32) : Prop :=
  (2 ∣ (k0_mult55 v494).toNat) ∧
  (∀ a, (k0_off110 v494) a + S2x128.size a ≤ S100000x128.size a)
theorem k0_mult55_dvd : ∀ (v494 : BitVec 32) (k0_hw55 : k0_chk55 v494), 2 ∣ (k0_mult55 v494).toNat := fun v494 k0_hw55 => k0_hw55.1
theorem k0_off110_inb : ∀ (v494 : BitVec 32) (k0_hw55 : k0_chk55 v494), ∀ a, (k0_off110 v494) a + S2x128.size a ≤ S100000x128.size a := fun v494 k0_hw55 => k0_hw55.2

def k0_off111 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c55_i32 : BitVec 32 := 55#32
  let v501 : BitVec 32 := Scalar.addi v5 c55_i32
  let v502 : Index := Scalar.indexCast v501
  ![v502.toNat]
def k0_mult56 (v503 : BitVec 32) : BitVec 32 :=
  v503

def k0_off112 (v503 : BitVec 32) : Fin 2 → Nat :=
  let v504 : BitVec 32 := v503
  let v505 : Index := Scalar.indexCast v504
  let c0_112 : Index := 0#32
  ![v505.toNat, 0]

def k0_chk56 (v503 : BitVec 32) : Prop :=
  (2 ∣ (k0_mult56 v503).toNat) ∧
  (∀ a, (k0_off112 v503) a + S2x128.size a ≤ S100000x128.size a)
theorem k0_mult56_dvd : ∀ (v503 : BitVec 32) (k0_hw56 : k0_chk56 v503), 2 ∣ (k0_mult56 v503).toNat := fun v503 k0_hw56 => k0_hw56.1
theorem k0_off112_inb : ∀ (v503 : BitVec 32) (k0_hw56 : k0_chk56 v503), ∀ a, (k0_off112 v503) a + S2x128.size a ≤ S100000x128.size a := fun v503 k0_hw56 => k0_hw56.2

def k0_off113 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c56_i32 : BitVec 32 := 56#32
  let v510 : BitVec 32 := Scalar.addi v5 c56_i32
  let v511 : Index := Scalar.indexCast v510
  ![v511.toNat]
def k0_mult57 (v512 : BitVec 32) : BitVec 32 :=
  v512

def k0_off114 (v512 : BitVec 32) : Fin 2 → Nat :=
  let v513 : BitVec 32 := v512
  let v514 : Index := Scalar.indexCast v513
  let c0_114 : Index := 0#32
  ![v514.toNat, 0]

def k0_chk57 (v512 : BitVec 32) : Prop :=
  (2 ∣ (k0_mult57 v512).toNat) ∧
  (∀ a, (k0_off114 v512) a + S2x128.size a ≤ S100000x128.size a)
theorem k0_mult57_dvd : ∀ (v512 : BitVec 32) (k0_hw57 : k0_chk57 v512), 2 ∣ (k0_mult57 v512).toNat := fun v512 k0_hw57 => k0_hw57.1
theorem k0_off114_inb : ∀ (v512 : BitVec 32) (k0_hw57 : k0_chk57 v512), ∀ a, (k0_off114 v512) a + S2x128.size a ≤ S100000x128.size a := fun v512 k0_hw57 => k0_hw57.2

def k0_off115 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c57_i32 : BitVec 32 := 57#32
  let v519 : BitVec 32 := Scalar.addi v5 c57_i32
  let v520 : Index := Scalar.indexCast v519
  ![v520.toNat]
def k0_mult58 (v521 : BitVec 32) : BitVec 32 :=
  v521

def k0_off116 (v521 : BitVec 32) : Fin 2 → Nat :=
  let v522 : BitVec 32 := v521
  let v523 : Index := Scalar.indexCast v522
  let c0_116 : Index := 0#32
  ![v523.toNat, 0]

def k0_chk58 (v521 : BitVec 32) : Prop :=
  (2 ∣ (k0_mult58 v521).toNat) ∧
  (∀ a, (k0_off116 v521) a + S2x128.size a ≤ S100000x128.size a)
theorem k0_mult58_dvd : ∀ (v521 : BitVec 32) (k0_hw58 : k0_chk58 v521), 2 ∣ (k0_mult58 v521).toNat := fun v521 k0_hw58 => k0_hw58.1
theorem k0_off116_inb : ∀ (v521 : BitVec 32) (k0_hw58 : k0_chk58 v521), ∀ a, (k0_off116 v521) a + S2x128.size a ≤ S100000x128.size a := fun v521 k0_hw58 => k0_hw58.2

def k0_off117 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c58_i32 : BitVec 32 := 58#32
  let v528 : BitVec 32 := Scalar.addi v5 c58_i32
  let v529 : Index := Scalar.indexCast v528
  ![v529.toNat]
def k0_mult59 (v530 : BitVec 32) : BitVec 32 :=
  v530

def k0_off118 (v530 : BitVec 32) : Fin 2 → Nat :=
  let v531 : BitVec 32 := v530
  let v532 : Index := Scalar.indexCast v531
  let c0_118 : Index := 0#32
  ![v532.toNat, 0]

def k0_chk59 (v530 : BitVec 32) : Prop :=
  (2 ∣ (k0_mult59 v530).toNat) ∧
  (∀ a, (k0_off118 v530) a + S2x128.size a ≤ S100000x128.size a)
theorem k0_mult59_dvd : ∀ (v530 : BitVec 32) (k0_hw59 : k0_chk59 v530), 2 ∣ (k0_mult59 v530).toNat := fun v530 k0_hw59 => k0_hw59.1
theorem k0_off118_inb : ∀ (v530 : BitVec 32) (k0_hw59 : k0_chk59 v530), ∀ a, (k0_off118 v530) a + S2x128.size a ≤ S100000x128.size a := fun v530 k0_hw59 => k0_hw59.2

def k0_off119 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c59_i32 : BitVec 32 := 59#32
  let v537 : BitVec 32 := Scalar.addi v5 c59_i32
  let v538 : Index := Scalar.indexCast v537
  ![v538.toNat]
def k0_mult60 (v539 : BitVec 32) : BitVec 32 :=
  v539

def k0_off120 (v539 : BitVec 32) : Fin 2 → Nat :=
  let v540 : BitVec 32 := v539
  let v541 : Index := Scalar.indexCast v540
  let c0_120 : Index := 0#32
  ![v541.toNat, 0]

def k0_chk60 (v539 : BitVec 32) : Prop :=
  (2 ∣ (k0_mult60 v539).toNat) ∧
  (∀ a, (k0_off120 v539) a + S2x128.size a ≤ S100000x128.size a)
theorem k0_mult60_dvd : ∀ (v539 : BitVec 32) (k0_hw60 : k0_chk60 v539), 2 ∣ (k0_mult60 v539).toNat := fun v539 k0_hw60 => k0_hw60.1
theorem k0_off120_inb : ∀ (v539 : BitVec 32) (k0_hw60 : k0_chk60 v539), ∀ a, (k0_off120 v539) a + S2x128.size a ≤ S100000x128.size a := fun v539 k0_hw60 => k0_hw60.2

def k0_off121 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c60_i32 : BitVec 32 := 60#32
  let v546 : BitVec 32 := Scalar.addi v5 c60_i32
  let v547 : Index := Scalar.indexCast v546
  ![v547.toNat]
def k0_mult61 (v548 : BitVec 32) : BitVec 32 :=
  v548

def k0_off122 (v548 : BitVec 32) : Fin 2 → Nat :=
  let v549 : BitVec 32 := v548
  let v550 : Index := Scalar.indexCast v549
  let c0_122 : Index := 0#32
  ![v550.toNat, 0]

def k0_chk61 (v548 : BitVec 32) : Prop :=
  (2 ∣ (k0_mult61 v548).toNat) ∧
  (∀ a, (k0_off122 v548) a + S2x128.size a ≤ S100000x128.size a)
theorem k0_mult61_dvd : ∀ (v548 : BitVec 32) (k0_hw61 : k0_chk61 v548), 2 ∣ (k0_mult61 v548).toNat := fun v548 k0_hw61 => k0_hw61.1
theorem k0_off122_inb : ∀ (v548 : BitVec 32) (k0_hw61 : k0_chk61 v548), ∀ a, (k0_off122 v548) a + S2x128.size a ≤ S100000x128.size a := fun v548 k0_hw61 => k0_hw61.2

def k0_off123 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c61_i32 : BitVec 32 := 61#32
  let v555 : BitVec 32 := Scalar.addi v5 c61_i32
  let v556 : Index := Scalar.indexCast v555
  ![v556.toNat]
def k0_mult62 (v557 : BitVec 32) : BitVec 32 :=
  v557

def k0_off124 (v557 : BitVec 32) : Fin 2 → Nat :=
  let v558 : BitVec 32 := v557
  let v559 : Index := Scalar.indexCast v558
  let c0_124 : Index := 0#32
  ![v559.toNat, 0]

def k0_chk62 (v557 : BitVec 32) : Prop :=
  (2 ∣ (k0_mult62 v557).toNat) ∧
  (∀ a, (k0_off124 v557) a + S2x128.size a ≤ S100000x128.size a)
theorem k0_mult62_dvd : ∀ (v557 : BitVec 32) (k0_hw62 : k0_chk62 v557), 2 ∣ (k0_mult62 v557).toNat := fun v557 k0_hw62 => k0_hw62.1
theorem k0_off124_inb : ∀ (v557 : BitVec 32) (k0_hw62 : k0_chk62 v557), ∀ a, (k0_off124 v557) a + S2x128.size a ≤ S100000x128.size a := fun v557 k0_hw62 => k0_hw62.2

def k0_off125 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c62_i32 : BitVec 32 := 62#32
  let v564 : BitVec 32 := Scalar.addi v5 c62_i32
  let v565 : Index := Scalar.indexCast v564
  ![v565.toNat]
def k0_mult63 (v566 : BitVec 32) : BitVec 32 :=
  v566

def k0_off126 (v566 : BitVec 32) : Fin 2 → Nat :=
  let v567 : BitVec 32 := v566
  let v568 : Index := Scalar.indexCast v567
  let c0_126 : Index := 0#32
  ![v568.toNat, 0]

def k0_chk63 (v566 : BitVec 32) : Prop :=
  (2 ∣ (k0_mult63 v566).toNat) ∧
  (∀ a, (k0_off126 v566) a + S2x128.size a ≤ S100000x128.size a)
theorem k0_mult63_dvd : ∀ (v566 : BitVec 32) (k0_hw63 : k0_chk63 v566), 2 ∣ (k0_mult63 v566).toNat := fun v566 k0_hw63 => k0_hw63.1
theorem k0_off126_inb : ∀ (v566 : BitVec 32) (k0_hw63 : k0_chk63 v566), ∀ a, (k0_off126 v566) a + S2x128.size a ≤ S100000x128.size a := fun v566 k0_hw63 => k0_hw63.2

def k0_off127 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c63_i32 : BitVec 32 := 63#32
  let v573 : BitVec 32 := Scalar.addi v5 c63_i32
  let v574 : Index := Scalar.indexCast v573
  ![v574.toNat]
def k0_mult64 (v575 : BitVec 32) : BitVec 32 :=
  v575

def k0_off128 (v575 : BitVec 32) : Fin 2 → Nat :=
  let v576 : BitVec 32 := v575
  let v577 : Index := Scalar.indexCast v576
  let c0_128 : Index := 0#32
  ![v577.toNat, 0]

def k0_chk64 (v575 : BitVec 32) : Prop :=
  (2 ∣ (k0_mult64 v575).toNat) ∧
  (∀ a, (k0_off128 v575) a + S2x128.size a ≤ S100000x128.size a)
theorem k0_mult64_dvd : ∀ (v575 : BitVec 32) (k0_hw64 : k0_chk64 v575), 2 ∣ (k0_mult64 v575).toNat := fun v575 k0_hw64 => k0_hw64.1
theorem k0_off128_inb : ∀ (v575 : BitVec 32) (k0_hw64 : k0_chk64 v575), ∀ a, (k0_off128 v575) a + S2x128.size a ≤ S100000x128.size a := fun v575 k0_hw64 => k0_hw64.2

def k0_off129 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c64_i32 : BitVec 32 := 64#32
  let v582 : BitVec 32 := Scalar.addi v5 c64_i32
  let v583 : Index := Scalar.indexCast v582
  ![v583.toNat]
def k0_mult65 (v584 : BitVec 32) : BitVec 32 :=
  v584

def k0_off130 (v584 : BitVec 32) : Fin 2 → Nat :=
  let v585 : BitVec 32 := v584
  let v586 : Index := Scalar.indexCast v585
  let c0_130 : Index := 0#32
  ![v586.toNat, 0]

def k0_chk65 (v584 : BitVec 32) : Prop :=
  (2 ∣ (k0_mult65 v584).toNat) ∧
  (∀ a, (k0_off130 v584) a + S2x128.size a ≤ S100000x128.size a)
theorem k0_mult65_dvd : ∀ (v584 : BitVec 32) (k0_hw65 : k0_chk65 v584), 2 ∣ (k0_mult65 v584).toNat := fun v584 k0_hw65 => k0_hw65.1
theorem k0_off130_inb : ∀ (v584 : BitVec 32) (k0_hw65 : k0_chk65 v584), ∀ a, (k0_off130 v584) a + S2x128.size a ≤ S100000x128.size a := fun v584 k0_hw65 => k0_hw65.2

def k0_off131 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c65_i32 : BitVec 32 := 65#32
  let v591 : BitVec 32 := Scalar.addi v5 c65_i32
  let v592 : Index := Scalar.indexCast v591
  ![v592.toNat]
def k0_mult66 (v593 : BitVec 32) : BitVec 32 :=
  v593

def k0_off132 (v593 : BitVec 32) : Fin 2 → Nat :=
  let v594 : BitVec 32 := v593
  let v595 : Index := Scalar.indexCast v594
  let c0_132 : Index := 0#32
  ![v595.toNat, 0]

def k0_chk66 (v593 : BitVec 32) : Prop :=
  (2 ∣ (k0_mult66 v593).toNat) ∧
  (∀ a, (k0_off132 v593) a + S2x128.size a ≤ S100000x128.size a)
theorem k0_mult66_dvd : ∀ (v593 : BitVec 32) (k0_hw66 : k0_chk66 v593), 2 ∣ (k0_mult66 v593).toNat := fun v593 k0_hw66 => k0_hw66.1
theorem k0_off132_inb : ∀ (v593 : BitVec 32) (k0_hw66 : k0_chk66 v593), ∀ a, (k0_off132 v593) a + S2x128.size a ≤ S100000x128.size a := fun v593 k0_hw66 => k0_hw66.2

def k0_off133 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c66_i32 : BitVec 32 := 66#32
  let v600 : BitVec 32 := Scalar.addi v5 c66_i32
  let v601 : Index := Scalar.indexCast v600
  ![v601.toNat]
def k0_mult67 (v602 : BitVec 32) : BitVec 32 :=
  v602

def k0_off134 (v602 : BitVec 32) : Fin 2 → Nat :=
  let v603 : BitVec 32 := v602
  let v604 : Index := Scalar.indexCast v603
  let c0_134 : Index := 0#32
  ![v604.toNat, 0]

def k0_chk67 (v602 : BitVec 32) : Prop :=
  (2 ∣ (k0_mult67 v602).toNat) ∧
  (∀ a, (k0_off134 v602) a + S2x128.size a ≤ S100000x128.size a)
theorem k0_mult67_dvd : ∀ (v602 : BitVec 32) (k0_hw67 : k0_chk67 v602), 2 ∣ (k0_mult67 v602).toNat := fun v602 k0_hw67 => k0_hw67.1
theorem k0_off134_inb : ∀ (v602 : BitVec 32) (k0_hw67 : k0_chk67 v602), ∀ a, (k0_off134 v602) a + S2x128.size a ≤ S100000x128.size a := fun v602 k0_hw67 => k0_hw67.2

def k0_off135 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c67_i32 : BitVec 32 := 67#32
  let v609 : BitVec 32 := Scalar.addi v5 c67_i32
  let v610 : Index := Scalar.indexCast v609
  ![v610.toNat]
def k0_mult68 (v611 : BitVec 32) : BitVec 32 :=
  v611

def k0_off136 (v611 : BitVec 32) : Fin 2 → Nat :=
  let v612 : BitVec 32 := v611
  let v613 : Index := Scalar.indexCast v612
  let c0_136 : Index := 0#32
  ![v613.toNat, 0]

def k0_chk68 (v611 : BitVec 32) : Prop :=
  (2 ∣ (k0_mult68 v611).toNat) ∧
  (∀ a, (k0_off136 v611) a + S2x128.size a ≤ S100000x128.size a)
theorem k0_mult68_dvd : ∀ (v611 : BitVec 32) (k0_hw68 : k0_chk68 v611), 2 ∣ (k0_mult68 v611).toNat := fun v611 k0_hw68 => k0_hw68.1
theorem k0_off136_inb : ∀ (v611 : BitVec 32) (k0_hw68 : k0_chk68 v611), ∀ a, (k0_off136 v611) a + S2x128.size a ≤ S100000x128.size a := fun v611 k0_hw68 => k0_hw68.2

def k0_off137 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c68_i32 : BitVec 32 := 68#32
  let v618 : BitVec 32 := Scalar.addi v5 c68_i32
  let v619 : Index := Scalar.indexCast v618
  ![v619.toNat]
def k0_mult69 (v620 : BitVec 32) : BitVec 32 :=
  v620

def k0_off138 (v620 : BitVec 32) : Fin 2 → Nat :=
  let v621 : BitVec 32 := v620
  let v622 : Index := Scalar.indexCast v621
  let c0_138 : Index := 0#32
  ![v622.toNat, 0]

def k0_chk69 (v620 : BitVec 32) : Prop :=
  (2 ∣ (k0_mult69 v620).toNat) ∧
  (∀ a, (k0_off138 v620) a + S2x128.size a ≤ S100000x128.size a)
theorem k0_mult69_dvd : ∀ (v620 : BitVec 32) (k0_hw69 : k0_chk69 v620), 2 ∣ (k0_mult69 v620).toNat := fun v620 k0_hw69 => k0_hw69.1
theorem k0_off138_inb : ∀ (v620 : BitVec 32) (k0_hw69 : k0_chk69 v620), ∀ a, (k0_off138 v620) a + S2x128.size a ≤ S100000x128.size a := fun v620 k0_hw69 => k0_hw69.2

def k0_off139 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c69_i32 : BitVec 32 := 69#32
  let v627 : BitVec 32 := Scalar.addi v5 c69_i32
  let v628 : Index := Scalar.indexCast v627
  ![v628.toNat]
def k0_mult70 (v629 : BitVec 32) : BitVec 32 :=
  v629

def k0_off140 (v629 : BitVec 32) : Fin 2 → Nat :=
  let v630 : BitVec 32 := v629
  let v631 : Index := Scalar.indexCast v630
  let c0_140 : Index := 0#32
  ![v631.toNat, 0]

def k0_chk70 (v629 : BitVec 32) : Prop :=
  (2 ∣ (k0_mult70 v629).toNat) ∧
  (∀ a, (k0_off140 v629) a + S2x128.size a ≤ S100000x128.size a)
theorem k0_mult70_dvd : ∀ (v629 : BitVec 32) (k0_hw70 : k0_chk70 v629), 2 ∣ (k0_mult70 v629).toNat := fun v629 k0_hw70 => k0_hw70.1
theorem k0_off140_inb : ∀ (v629 : BitVec 32) (k0_hw70 : k0_chk70 v629), ∀ a, (k0_off140 v629) a + S2x128.size a ≤ S100000x128.size a := fun v629 k0_hw70 => k0_hw70.2

def k0_off141 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c70_i32 : BitVec 32 := 70#32
  let v636 : BitVec 32 := Scalar.addi v5 c70_i32
  let v637 : Index := Scalar.indexCast v636
  ![v637.toNat]
def k0_mult71 (v638 : BitVec 32) : BitVec 32 :=
  v638

def k0_off142 (v638 : BitVec 32) : Fin 2 → Nat :=
  let v639 : BitVec 32 := v638
  let v640 : Index := Scalar.indexCast v639
  let c0_142 : Index := 0#32
  ![v640.toNat, 0]

def k0_chk71 (v638 : BitVec 32) : Prop :=
  (2 ∣ (k0_mult71 v638).toNat) ∧
  (∀ a, (k0_off142 v638) a + S2x128.size a ≤ S100000x128.size a)
theorem k0_mult71_dvd : ∀ (v638 : BitVec 32) (k0_hw71 : k0_chk71 v638), 2 ∣ (k0_mult71 v638).toNat := fun v638 k0_hw71 => k0_hw71.1
theorem k0_off142_inb : ∀ (v638 : BitVec 32) (k0_hw71 : k0_chk71 v638), ∀ a, (k0_off142 v638) a + S2x128.size a ≤ S100000x128.size a := fun v638 k0_hw71 => k0_hw71.2

def k0_off143 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c71_i32 : BitVec 32 := 71#32
  let v645 : BitVec 32 := Scalar.addi v5 c71_i32
  let v646 : Index := Scalar.indexCast v645
  ![v646.toNat]
def k0_mult72 (v647 : BitVec 32) : BitVec 32 :=
  v647

def k0_off144 (v647 : BitVec 32) : Fin 2 → Nat :=
  let v648 : BitVec 32 := v647
  let v649 : Index := Scalar.indexCast v648
  let c0_144 : Index := 0#32
  ![v649.toNat, 0]

def k0_chk72 (v647 : BitVec 32) : Prop :=
  (2 ∣ (k0_mult72 v647).toNat) ∧
  (∀ a, (k0_off144 v647) a + S2x128.size a ≤ S100000x128.size a)
theorem k0_mult72_dvd : ∀ (v647 : BitVec 32) (k0_hw72 : k0_chk72 v647), 2 ∣ (k0_mult72 v647).toNat := fun v647 k0_hw72 => k0_hw72.1
theorem k0_off144_inb : ∀ (v647 : BitVec 32) (k0_hw72 : k0_chk72 v647), ∀ a, (k0_off144 v647) a + S2x128.size a ≤ S100000x128.size a := fun v647 k0_hw72 => k0_hw72.2

def k0_off145 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c72_i32 : BitVec 32 := 72#32
  let v654 : BitVec 32 := Scalar.addi v5 c72_i32
  let v655 : Index := Scalar.indexCast v654
  ![v655.toNat]
def k0_mult73 (v656 : BitVec 32) : BitVec 32 :=
  v656

def k0_off146 (v656 : BitVec 32) : Fin 2 → Nat :=
  let v657 : BitVec 32 := v656
  let v658 : Index := Scalar.indexCast v657
  let c0_146 : Index := 0#32
  ![v658.toNat, 0]

def k0_chk73 (v656 : BitVec 32) : Prop :=
  (2 ∣ (k0_mult73 v656).toNat) ∧
  (∀ a, (k0_off146 v656) a + S2x128.size a ≤ S100000x128.size a)
theorem k0_mult73_dvd : ∀ (v656 : BitVec 32) (k0_hw73 : k0_chk73 v656), 2 ∣ (k0_mult73 v656).toNat := fun v656 k0_hw73 => k0_hw73.1
theorem k0_off146_inb : ∀ (v656 : BitVec 32) (k0_hw73 : k0_chk73 v656), ∀ a, (k0_off146 v656) a + S2x128.size a ≤ S100000x128.size a := fun v656 k0_hw73 => k0_hw73.2

def k0_off147 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c73_i32 : BitVec 32 := 73#32
  let v663 : BitVec 32 := Scalar.addi v5 c73_i32
  let v664 : Index := Scalar.indexCast v663
  ![v664.toNat]
def k0_mult74 (v665 : BitVec 32) : BitVec 32 :=
  v665

def k0_off148 (v665 : BitVec 32) : Fin 2 → Nat :=
  let v666 : BitVec 32 := v665
  let v667 : Index := Scalar.indexCast v666
  let c0_148 : Index := 0#32
  ![v667.toNat, 0]

def k0_chk74 (v665 : BitVec 32) : Prop :=
  (2 ∣ (k0_mult74 v665).toNat) ∧
  (∀ a, (k0_off148 v665) a + S2x128.size a ≤ S100000x128.size a)
theorem k0_mult74_dvd : ∀ (v665 : BitVec 32) (k0_hw74 : k0_chk74 v665), 2 ∣ (k0_mult74 v665).toNat := fun v665 k0_hw74 => k0_hw74.1
theorem k0_off148_inb : ∀ (v665 : BitVec 32) (k0_hw74 : k0_chk74 v665), ∀ a, (k0_off148 v665) a + S2x128.size a ≤ S100000x128.size a := fun v665 k0_hw74 => k0_hw74.2

def k0_off149 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c74_i32 : BitVec 32 := 74#32
  let v672 : BitVec 32 := Scalar.addi v5 c74_i32
  let v673 : Index := Scalar.indexCast v672
  ![v673.toNat]
def k0_mult75 (v674 : BitVec 32) : BitVec 32 :=
  v674

def k0_off150 (v674 : BitVec 32) : Fin 2 → Nat :=
  let v675 : BitVec 32 := v674
  let v676 : Index := Scalar.indexCast v675
  let c0_150 : Index := 0#32
  ![v676.toNat, 0]

def k0_chk75 (v674 : BitVec 32) : Prop :=
  (2 ∣ (k0_mult75 v674).toNat) ∧
  (∀ a, (k0_off150 v674) a + S2x128.size a ≤ S100000x128.size a)
theorem k0_mult75_dvd : ∀ (v674 : BitVec 32) (k0_hw75 : k0_chk75 v674), 2 ∣ (k0_mult75 v674).toNat := fun v674 k0_hw75 => k0_hw75.1
theorem k0_off150_inb : ∀ (v674 : BitVec 32) (k0_hw75 : k0_chk75 v674), ∀ a, (k0_off150 v674) a + S2x128.size a ≤ S100000x128.size a := fun v674 k0_hw75 => k0_hw75.2

def k0_off151 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c75_i32 : BitVec 32 := 75#32
  let v681 : BitVec 32 := Scalar.addi v5 c75_i32
  let v682 : Index := Scalar.indexCast v681
  ![v682.toNat]
def k0_mult76 (v683 : BitVec 32) : BitVec 32 :=
  v683

def k0_off152 (v683 : BitVec 32) : Fin 2 → Nat :=
  let v684 : BitVec 32 := v683
  let v685 : Index := Scalar.indexCast v684
  let c0_152 : Index := 0#32
  ![v685.toNat, 0]

def k0_chk76 (v683 : BitVec 32) : Prop :=
  (2 ∣ (k0_mult76 v683).toNat) ∧
  (∀ a, (k0_off152 v683) a + S2x128.size a ≤ S100000x128.size a)
theorem k0_mult76_dvd : ∀ (v683 : BitVec 32) (k0_hw76 : k0_chk76 v683), 2 ∣ (k0_mult76 v683).toNat := fun v683 k0_hw76 => k0_hw76.1
theorem k0_off152_inb : ∀ (v683 : BitVec 32) (k0_hw76 : k0_chk76 v683), ∀ a, (k0_off152 v683) a + S2x128.size a ≤ S100000x128.size a := fun v683 k0_hw76 => k0_hw76.2

def k0_off153 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c76_i32 : BitVec 32 := 76#32
  let v690 : BitVec 32 := Scalar.addi v5 c76_i32
  let v691 : Index := Scalar.indexCast v690
  ![v691.toNat]
def k0_mult77 (v692 : BitVec 32) : BitVec 32 :=
  v692

def k0_off154 (v692 : BitVec 32) : Fin 2 → Nat :=
  let v693 : BitVec 32 := v692
  let v694 : Index := Scalar.indexCast v693
  let c0_154 : Index := 0#32
  ![v694.toNat, 0]

def k0_chk77 (v692 : BitVec 32) : Prop :=
  (2 ∣ (k0_mult77 v692).toNat) ∧
  (∀ a, (k0_off154 v692) a + S2x128.size a ≤ S100000x128.size a)
theorem k0_mult77_dvd : ∀ (v692 : BitVec 32) (k0_hw77 : k0_chk77 v692), 2 ∣ (k0_mult77 v692).toNat := fun v692 k0_hw77 => k0_hw77.1
theorem k0_off154_inb : ∀ (v692 : BitVec 32) (k0_hw77 : k0_chk77 v692), ∀ a, (k0_off154 v692) a + S2x128.size a ≤ S100000x128.size a := fun v692 k0_hw77 => k0_hw77.2

def k0_off155 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c77_i32 : BitVec 32 := 77#32
  let v699 : BitVec 32 := Scalar.addi v5 c77_i32
  let v700 : Index := Scalar.indexCast v699
  ![v700.toNat]
def k0_mult78 (v701 : BitVec 32) : BitVec 32 :=
  v701

def k0_off156 (v701 : BitVec 32) : Fin 2 → Nat :=
  let v702 : BitVec 32 := v701
  let v703 : Index := Scalar.indexCast v702
  let c0_156 : Index := 0#32
  ![v703.toNat, 0]

def k0_chk78 (v701 : BitVec 32) : Prop :=
  (2 ∣ (k0_mult78 v701).toNat) ∧
  (∀ a, (k0_off156 v701) a + S2x128.size a ≤ S100000x128.size a)
theorem k0_mult78_dvd : ∀ (v701 : BitVec 32) (k0_hw78 : k0_chk78 v701), 2 ∣ (k0_mult78 v701).toNat := fun v701 k0_hw78 => k0_hw78.1
theorem k0_off156_inb : ∀ (v701 : BitVec 32) (k0_hw78 : k0_chk78 v701), ∀ a, (k0_off156 v701) a + S2x128.size a ≤ S100000x128.size a := fun v701 k0_hw78 => k0_hw78.2

def k0_off157 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c78_i32 : BitVec 32 := 78#32
  let v708 : BitVec 32 := Scalar.addi v5 c78_i32
  let v709 : Index := Scalar.indexCast v708
  ![v709.toNat]
def k0_mult79 (v710 : BitVec 32) : BitVec 32 :=
  v710

def k0_off158 (v710 : BitVec 32) : Fin 2 → Nat :=
  let v711 : BitVec 32 := v710
  let v712 : Index := Scalar.indexCast v711
  let c0_158 : Index := 0#32
  ![v712.toNat, 0]

def k0_chk79 (v710 : BitVec 32) : Prop :=
  (2 ∣ (k0_mult79 v710).toNat) ∧
  (∀ a, (k0_off158 v710) a + S2x128.size a ≤ S100000x128.size a)
theorem k0_mult79_dvd : ∀ (v710 : BitVec 32) (k0_hw79 : k0_chk79 v710), 2 ∣ (k0_mult79 v710).toNat := fun v710 k0_hw79 => k0_hw79.1
theorem k0_off158_inb : ∀ (v710 : BitVec 32) (k0_hw79 : k0_chk79 v710), ∀ a, (k0_off158 v710) a + S2x128.size a ≤ S100000x128.size a := fun v710 k0_hw79 => k0_hw79.2

def k0_off159 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c79_i32 : BitVec 32 := 79#32
  let v717 : BitVec 32 := Scalar.addi v5 c79_i32
  let v718 : Index := Scalar.indexCast v717
  ![v718.toNat]
def k0_mult80 (v719 : BitVec 32) : BitVec 32 :=
  v719

def k0_off160 (v719 : BitVec 32) : Fin 2 → Nat :=
  let v720 : BitVec 32 := v719
  let v721 : Index := Scalar.indexCast v720
  let c0_160 : Index := 0#32
  ![v721.toNat, 0]

def k0_chk80 (v719 : BitVec 32) : Prop :=
  (2 ∣ (k0_mult80 v719).toNat) ∧
  (∀ a, (k0_off160 v719) a + S2x128.size a ≤ S100000x128.size a)
theorem k0_mult80_dvd : ∀ (v719 : BitVec 32) (k0_hw80 : k0_chk80 v719), 2 ∣ (k0_mult80 v719).toNat := fun v719 k0_hw80 => k0_hw80.1
theorem k0_off160_inb : ∀ (v719 : BitVec 32) (k0_hw80 : k0_chk80 v719), ∀ a, (k0_off160 v719) a + S2x128.size a ≤ S100000x128.size a := fun v719 k0_hw80 => k0_hw80.2

def k0_off161 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c80_i32 : BitVec 32 := 80#32
  let v726 : BitVec 32 := Scalar.addi v5 c80_i32
  let v727 : Index := Scalar.indexCast v726
  ![v727.toNat]
def k0_mult81 (v728 : BitVec 32) : BitVec 32 :=
  v728

def k0_off162 (v728 : BitVec 32) : Fin 2 → Nat :=
  let v729 : BitVec 32 := v728
  let v730 : Index := Scalar.indexCast v729
  let c0_162 : Index := 0#32
  ![v730.toNat, 0]

def k0_chk81 (v728 : BitVec 32) : Prop :=
  (2 ∣ (k0_mult81 v728).toNat) ∧
  (∀ a, (k0_off162 v728) a + S2x128.size a ≤ S100000x128.size a)
theorem k0_mult81_dvd : ∀ (v728 : BitVec 32) (k0_hw81 : k0_chk81 v728), 2 ∣ (k0_mult81 v728).toNat := fun v728 k0_hw81 => k0_hw81.1
theorem k0_off162_inb : ∀ (v728 : BitVec 32) (k0_hw81 : k0_chk81 v728), ∀ a, (k0_off162 v728) a + S2x128.size a ≤ S100000x128.size a := fun v728 k0_hw81 => k0_hw81.2

def k0_off163 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c81_i32 : BitVec 32 := 81#32
  let v735 : BitVec 32 := Scalar.addi v5 c81_i32
  let v736 : Index := Scalar.indexCast v735
  ![v736.toNat]
def k0_mult82 (v737 : BitVec 32) : BitVec 32 :=
  v737

def k0_off164 (v737 : BitVec 32) : Fin 2 → Nat :=
  let v738 : BitVec 32 := v737
  let v739 : Index := Scalar.indexCast v738
  let c0_164 : Index := 0#32
  ![v739.toNat, 0]

def k0_chk82 (v737 : BitVec 32) : Prop :=
  (2 ∣ (k0_mult82 v737).toNat) ∧
  (∀ a, (k0_off164 v737) a + S2x128.size a ≤ S100000x128.size a)
theorem k0_mult82_dvd : ∀ (v737 : BitVec 32) (k0_hw82 : k0_chk82 v737), 2 ∣ (k0_mult82 v737).toNat := fun v737 k0_hw82 => k0_hw82.1
theorem k0_off164_inb : ∀ (v737 : BitVec 32) (k0_hw82 : k0_chk82 v737), ∀ a, (k0_off164 v737) a + S2x128.size a ≤ S100000x128.size a := fun v737 k0_hw82 => k0_hw82.2

def k0_off165 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c82_i32 : BitVec 32 := 82#32
  let v744 : BitVec 32 := Scalar.addi v5 c82_i32
  let v745 : Index := Scalar.indexCast v744
  ![v745.toNat]
def k0_mult83 (v746 : BitVec 32) : BitVec 32 :=
  v746

def k0_off166 (v746 : BitVec 32) : Fin 2 → Nat :=
  let v747 : BitVec 32 := v746
  let v748 : Index := Scalar.indexCast v747
  let c0_166 : Index := 0#32
  ![v748.toNat, 0]

def k0_chk83 (v746 : BitVec 32) : Prop :=
  (2 ∣ (k0_mult83 v746).toNat) ∧
  (∀ a, (k0_off166 v746) a + S2x128.size a ≤ S100000x128.size a)
theorem k0_mult83_dvd : ∀ (v746 : BitVec 32) (k0_hw83 : k0_chk83 v746), 2 ∣ (k0_mult83 v746).toNat := fun v746 k0_hw83 => k0_hw83.1
theorem k0_off166_inb : ∀ (v746 : BitVec 32) (k0_hw83 : k0_chk83 v746), ∀ a, (k0_off166 v746) a + S2x128.size a ≤ S100000x128.size a := fun v746 k0_hw83 => k0_hw83.2

def k0_off167 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c83_i32 : BitVec 32 := 83#32
  let v753 : BitVec 32 := Scalar.addi v5 c83_i32
  let v754 : Index := Scalar.indexCast v753
  ![v754.toNat]
def k0_mult84 (v755 : BitVec 32) : BitVec 32 :=
  v755

def k0_off168 (v755 : BitVec 32) : Fin 2 → Nat :=
  let v756 : BitVec 32 := v755
  let v757 : Index := Scalar.indexCast v756
  let c0_168 : Index := 0#32
  ![v757.toNat, 0]

def k0_chk84 (v755 : BitVec 32) : Prop :=
  (2 ∣ (k0_mult84 v755).toNat) ∧
  (∀ a, (k0_off168 v755) a + S2x128.size a ≤ S100000x128.size a)
theorem k0_mult84_dvd : ∀ (v755 : BitVec 32) (k0_hw84 : k0_chk84 v755), 2 ∣ (k0_mult84 v755).toNat := fun v755 k0_hw84 => k0_hw84.1
theorem k0_off168_inb : ∀ (v755 : BitVec 32) (k0_hw84 : k0_chk84 v755), ∀ a, (k0_off168 v755) a + S2x128.size a ≤ S100000x128.size a := fun v755 k0_hw84 => k0_hw84.2

def k0_off169 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c84_i32 : BitVec 32 := 84#32
  let v762 : BitVec 32 := Scalar.addi v5 c84_i32
  let v763 : Index := Scalar.indexCast v762
  ![v763.toNat]
def k0_mult85 (v764 : BitVec 32) : BitVec 32 :=
  v764

def k0_off170 (v764 : BitVec 32) : Fin 2 → Nat :=
  let v765 : BitVec 32 := v764
  let v766 : Index := Scalar.indexCast v765
  let c0_170 : Index := 0#32
  ![v766.toNat, 0]

def k0_chk85 (v764 : BitVec 32) : Prop :=
  (2 ∣ (k0_mult85 v764).toNat) ∧
  (∀ a, (k0_off170 v764) a + S2x128.size a ≤ S100000x128.size a)
theorem k0_mult85_dvd : ∀ (v764 : BitVec 32) (k0_hw85 : k0_chk85 v764), 2 ∣ (k0_mult85 v764).toNat := fun v764 k0_hw85 => k0_hw85.1
theorem k0_off170_inb : ∀ (v764 : BitVec 32) (k0_hw85 : k0_chk85 v764), ∀ a, (k0_off170 v764) a + S2x128.size a ≤ S100000x128.size a := fun v764 k0_hw85 => k0_hw85.2

def k0_off171 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c85_i32 : BitVec 32 := 85#32
  let v771 : BitVec 32 := Scalar.addi v5 c85_i32
  let v772 : Index := Scalar.indexCast v771
  ![v772.toNat]
def k0_mult86 (v773 : BitVec 32) : BitVec 32 :=
  v773

def k0_off172 (v773 : BitVec 32) : Fin 2 → Nat :=
  let v774 : BitVec 32 := v773
  let v775 : Index := Scalar.indexCast v774
  let c0_172 : Index := 0#32
  ![v775.toNat, 0]

def k0_chk86 (v773 : BitVec 32) : Prop :=
  (2 ∣ (k0_mult86 v773).toNat) ∧
  (∀ a, (k0_off172 v773) a + S2x128.size a ≤ S100000x128.size a)
theorem k0_mult86_dvd : ∀ (v773 : BitVec 32) (k0_hw86 : k0_chk86 v773), 2 ∣ (k0_mult86 v773).toNat := fun v773 k0_hw86 => k0_hw86.1
theorem k0_off172_inb : ∀ (v773 : BitVec 32) (k0_hw86 : k0_chk86 v773), ∀ a, (k0_off172 v773) a + S2x128.size a ≤ S100000x128.size a := fun v773 k0_hw86 => k0_hw86.2

def k0_off173 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c86_i32 : BitVec 32 := 86#32
  let v780 : BitVec 32 := Scalar.addi v5 c86_i32
  let v781 : Index := Scalar.indexCast v780
  ![v781.toNat]
def k0_mult87 (v782 : BitVec 32) : BitVec 32 :=
  v782

def k0_off174 (v782 : BitVec 32) : Fin 2 → Nat :=
  let v783 : BitVec 32 := v782
  let v784 : Index := Scalar.indexCast v783
  let c0_174 : Index := 0#32
  ![v784.toNat, 0]

def k0_chk87 (v782 : BitVec 32) : Prop :=
  (2 ∣ (k0_mult87 v782).toNat) ∧
  (∀ a, (k0_off174 v782) a + S2x128.size a ≤ S100000x128.size a)
theorem k0_mult87_dvd : ∀ (v782 : BitVec 32) (k0_hw87 : k0_chk87 v782), 2 ∣ (k0_mult87 v782).toNat := fun v782 k0_hw87 => k0_hw87.1
theorem k0_off174_inb : ∀ (v782 : BitVec 32) (k0_hw87 : k0_chk87 v782), ∀ a, (k0_off174 v782) a + S2x128.size a ≤ S100000x128.size a := fun v782 k0_hw87 => k0_hw87.2

def k0_off175 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c87_i32 : BitVec 32 := 87#32
  let v789 : BitVec 32 := Scalar.addi v5 c87_i32
  let v790 : Index := Scalar.indexCast v789
  ![v790.toNat]
def k0_mult88 (v791 : BitVec 32) : BitVec 32 :=
  v791

def k0_off176 (v791 : BitVec 32) : Fin 2 → Nat :=
  let v792 : BitVec 32 := v791
  let v793 : Index := Scalar.indexCast v792
  let c0_176 : Index := 0#32
  ![v793.toNat, 0]

def k0_chk88 (v791 : BitVec 32) : Prop :=
  (2 ∣ (k0_mult88 v791).toNat) ∧
  (∀ a, (k0_off176 v791) a + S2x128.size a ≤ S100000x128.size a)
theorem k0_mult88_dvd : ∀ (v791 : BitVec 32) (k0_hw88 : k0_chk88 v791), 2 ∣ (k0_mult88 v791).toNat := fun v791 k0_hw88 => k0_hw88.1
theorem k0_off176_inb : ∀ (v791 : BitVec 32) (k0_hw88 : k0_chk88 v791), ∀ a, (k0_off176 v791) a + S2x128.size a ≤ S100000x128.size a := fun v791 k0_hw88 => k0_hw88.2

def k0_off177 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c88_i32 : BitVec 32 := 88#32
  let v798 : BitVec 32 := Scalar.addi v5 c88_i32
  let v799 : Index := Scalar.indexCast v798
  ![v799.toNat]
def k0_mult89 (v800 : BitVec 32) : BitVec 32 :=
  v800

def k0_off178 (v800 : BitVec 32) : Fin 2 → Nat :=
  let v801 : BitVec 32 := v800
  let v802 : Index := Scalar.indexCast v801
  let c0_178 : Index := 0#32
  ![v802.toNat, 0]

def k0_chk89 (v800 : BitVec 32) : Prop :=
  (2 ∣ (k0_mult89 v800).toNat) ∧
  (∀ a, (k0_off178 v800) a + S2x128.size a ≤ S100000x128.size a)
theorem k0_mult89_dvd : ∀ (v800 : BitVec 32) (k0_hw89 : k0_chk89 v800), 2 ∣ (k0_mult89 v800).toNat := fun v800 k0_hw89 => k0_hw89.1
theorem k0_off178_inb : ∀ (v800 : BitVec 32) (k0_hw89 : k0_chk89 v800), ∀ a, (k0_off178 v800) a + S2x128.size a ≤ S100000x128.size a := fun v800 k0_hw89 => k0_hw89.2

def k0_off179 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c89_i32 : BitVec 32 := 89#32
  let v807 : BitVec 32 := Scalar.addi v5 c89_i32
  let v808 : Index := Scalar.indexCast v807
  ![v808.toNat]
def k0_mult90 (v809 : BitVec 32) : BitVec 32 :=
  v809

def k0_off180 (v809 : BitVec 32) : Fin 2 → Nat :=
  let v810 : BitVec 32 := v809
  let v811 : Index := Scalar.indexCast v810
  let c0_180 : Index := 0#32
  ![v811.toNat, 0]

def k0_chk90 (v809 : BitVec 32) : Prop :=
  (2 ∣ (k0_mult90 v809).toNat) ∧
  (∀ a, (k0_off180 v809) a + S2x128.size a ≤ S100000x128.size a)
theorem k0_mult90_dvd : ∀ (v809 : BitVec 32) (k0_hw90 : k0_chk90 v809), 2 ∣ (k0_mult90 v809).toNat := fun v809 k0_hw90 => k0_hw90.1
theorem k0_off180_inb : ∀ (v809 : BitVec 32) (k0_hw90 : k0_chk90 v809), ∀ a, (k0_off180 v809) a + S2x128.size a ≤ S100000x128.size a := fun v809 k0_hw90 => k0_hw90.2

def k0_off181 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c90_i32 : BitVec 32 := 90#32
  let v816 : BitVec 32 := Scalar.addi v5 c90_i32
  let v817 : Index := Scalar.indexCast v816
  ![v817.toNat]
def k0_mult91 (v818 : BitVec 32) : BitVec 32 :=
  v818

def k0_off182 (v818 : BitVec 32) : Fin 2 → Nat :=
  let v819 : BitVec 32 := v818
  let v820 : Index := Scalar.indexCast v819
  let c0_182 : Index := 0#32
  ![v820.toNat, 0]

def k0_chk91 (v818 : BitVec 32) : Prop :=
  (2 ∣ (k0_mult91 v818).toNat) ∧
  (∀ a, (k0_off182 v818) a + S2x128.size a ≤ S100000x128.size a)
theorem k0_mult91_dvd : ∀ (v818 : BitVec 32) (k0_hw91 : k0_chk91 v818), 2 ∣ (k0_mult91 v818).toNat := fun v818 k0_hw91 => k0_hw91.1
theorem k0_off182_inb : ∀ (v818 : BitVec 32) (k0_hw91 : k0_chk91 v818), ∀ a, (k0_off182 v818) a + S2x128.size a ≤ S100000x128.size a := fun v818 k0_hw91 => k0_hw91.2

def k0_off183 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c91_i32 : BitVec 32 := 91#32
  let v825 : BitVec 32 := Scalar.addi v5 c91_i32
  let v826 : Index := Scalar.indexCast v825
  ![v826.toNat]
def k0_mult92 (v827 : BitVec 32) : BitVec 32 :=
  v827

def k0_off184 (v827 : BitVec 32) : Fin 2 → Nat :=
  let v828 : BitVec 32 := v827
  let v829 : Index := Scalar.indexCast v828
  let c0_184 : Index := 0#32
  ![v829.toNat, 0]

def k0_chk92 (v827 : BitVec 32) : Prop :=
  (2 ∣ (k0_mult92 v827).toNat) ∧
  (∀ a, (k0_off184 v827) a + S2x128.size a ≤ S100000x128.size a)
theorem k0_mult92_dvd : ∀ (v827 : BitVec 32) (k0_hw92 : k0_chk92 v827), 2 ∣ (k0_mult92 v827).toNat := fun v827 k0_hw92 => k0_hw92.1
theorem k0_off184_inb : ∀ (v827 : BitVec 32) (k0_hw92 : k0_chk92 v827), ∀ a, (k0_off184 v827) a + S2x128.size a ≤ S100000x128.size a := fun v827 k0_hw92 => k0_hw92.2

def k0_off185 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c92_i32 : BitVec 32 := 92#32
  let v834 : BitVec 32 := Scalar.addi v5 c92_i32
  let v835 : Index := Scalar.indexCast v834
  ![v835.toNat]
def k0_mult93 (v836 : BitVec 32) : BitVec 32 :=
  v836

def k0_off186 (v836 : BitVec 32) : Fin 2 → Nat :=
  let v837 : BitVec 32 := v836
  let v838 : Index := Scalar.indexCast v837
  let c0_186 : Index := 0#32
  ![v838.toNat, 0]

def k0_chk93 (v836 : BitVec 32) : Prop :=
  (2 ∣ (k0_mult93 v836).toNat) ∧
  (∀ a, (k0_off186 v836) a + S2x128.size a ≤ S100000x128.size a)
theorem k0_mult93_dvd : ∀ (v836 : BitVec 32) (k0_hw93 : k0_chk93 v836), 2 ∣ (k0_mult93 v836).toNat := fun v836 k0_hw93 => k0_hw93.1
theorem k0_off186_inb : ∀ (v836 : BitVec 32) (k0_hw93 : k0_chk93 v836), ∀ a, (k0_off186 v836) a + S2x128.size a ≤ S100000x128.size a := fun v836 k0_hw93 => k0_hw93.2

def k0_off187 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c93_i32 : BitVec 32 := 93#32
  let v843 : BitVec 32 := Scalar.addi v5 c93_i32
  let v844 : Index := Scalar.indexCast v843
  ![v844.toNat]
def k0_mult94 (v845 : BitVec 32) : BitVec 32 :=
  v845

def k0_off188 (v845 : BitVec 32) : Fin 2 → Nat :=
  let v846 : BitVec 32 := v845
  let v847 : Index := Scalar.indexCast v846
  let c0_188 : Index := 0#32
  ![v847.toNat, 0]

def k0_chk94 (v845 : BitVec 32) : Prop :=
  (2 ∣ (k0_mult94 v845).toNat) ∧
  (∀ a, (k0_off188 v845) a + S2x128.size a ≤ S100000x128.size a)
theorem k0_mult94_dvd : ∀ (v845 : BitVec 32) (k0_hw94 : k0_chk94 v845), 2 ∣ (k0_mult94 v845).toNat := fun v845 k0_hw94 => k0_hw94.1
theorem k0_off188_inb : ∀ (v845 : BitVec 32) (k0_hw94 : k0_chk94 v845), ∀ a, (k0_off188 v845) a + S2x128.size a ≤ S100000x128.size a := fun v845 k0_hw94 => k0_hw94.2

def k0_off189 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c94_i32 : BitVec 32 := 94#32
  let v852 : BitVec 32 := Scalar.addi v5 c94_i32
  let v853 : Index := Scalar.indexCast v852
  ![v853.toNat]
def k0_mult95 (v854 : BitVec 32) : BitVec 32 :=
  v854

def k0_off190 (v854 : BitVec 32) : Fin 2 → Nat :=
  let v855 : BitVec 32 := v854
  let v856 : Index := Scalar.indexCast v855
  let c0_190 : Index := 0#32
  ![v856.toNat, 0]

def k0_chk95 (v854 : BitVec 32) : Prop :=
  (2 ∣ (k0_mult95 v854).toNat) ∧
  (∀ a, (k0_off190 v854) a + S2x128.size a ≤ S100000x128.size a)
theorem k0_mult95_dvd : ∀ (v854 : BitVec 32) (k0_hw95 : k0_chk95 v854), 2 ∣ (k0_mult95 v854).toNat := fun v854 k0_hw95 => k0_hw95.1
theorem k0_off190_inb : ∀ (v854 : BitVec 32) (k0_hw95 : k0_chk95 v854), ∀ a, (k0_off190 v854) a + S2x128.size a ≤ S100000x128.size a := fun v854 k0_hw95 => k0_hw95.2

def k0_off191 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c95_i32 : BitVec 32 := 95#32
  let v861 : BitVec 32 := Scalar.addi v5 c95_i32
  let v862 : Index := Scalar.indexCast v861
  ![v862.toNat]
def k0_mult96 (v863 : BitVec 32) : BitVec 32 :=
  v863

def k0_off192 (v863 : BitVec 32) : Fin 2 → Nat :=
  let v864 : BitVec 32 := v863
  let v865 : Index := Scalar.indexCast v864
  let c0_192 : Index := 0#32
  ![v865.toNat, 0]

def k0_chk96 (v863 : BitVec 32) : Prop :=
  (2 ∣ (k0_mult96 v863).toNat) ∧
  (∀ a, (k0_off192 v863) a + S2x128.size a ≤ S100000x128.size a)
theorem k0_mult96_dvd : ∀ (v863 : BitVec 32) (k0_hw96 : k0_chk96 v863), 2 ∣ (k0_mult96 v863).toNat := fun v863 k0_hw96 => k0_hw96.1
theorem k0_off192_inb : ∀ (v863 : BitVec 32) (k0_hw96 : k0_chk96 v863), ∀ a, (k0_off192 v863) a + S2x128.size a ≤ S100000x128.size a := fun v863 k0_hw96 => k0_hw96.2

def k0_off193 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c96_i32 : BitVec 32 := 96#32
  let v870 : BitVec 32 := Scalar.addi v5 c96_i32
  let v871 : Index := Scalar.indexCast v870
  ![v871.toNat]
def k0_mult97 (v872 : BitVec 32) : BitVec 32 :=
  v872

def k0_off194 (v872 : BitVec 32) : Fin 2 → Nat :=
  let v873 : BitVec 32 := v872
  let v874 : Index := Scalar.indexCast v873
  let c0_194 : Index := 0#32
  ![v874.toNat, 0]

def k0_chk97 (v872 : BitVec 32) : Prop :=
  (2 ∣ (k0_mult97 v872).toNat) ∧
  (∀ a, (k0_off194 v872) a + S2x128.size a ≤ S100000x128.size a)
theorem k0_mult97_dvd : ∀ (v872 : BitVec 32) (k0_hw97 : k0_chk97 v872), 2 ∣ (k0_mult97 v872).toNat := fun v872 k0_hw97 => k0_hw97.1
theorem k0_off194_inb : ∀ (v872 : BitVec 32) (k0_hw97 : k0_chk97 v872), ∀ a, (k0_off194 v872) a + S2x128.size a ≤ S100000x128.size a := fun v872 k0_hw97 => k0_hw97.2

def k0_off195 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c97_i32 : BitVec 32 := 97#32
  let v879 : BitVec 32 := Scalar.addi v5 c97_i32
  let v880 : Index := Scalar.indexCast v879
  ![v880.toNat]
def k0_mult98 (v881 : BitVec 32) : BitVec 32 :=
  v881

def k0_off196 (v881 : BitVec 32) : Fin 2 → Nat :=
  let v882 : BitVec 32 := v881
  let v883 : Index := Scalar.indexCast v882
  let c0_196 : Index := 0#32
  ![v883.toNat, 0]

def k0_chk98 (v881 : BitVec 32) : Prop :=
  (2 ∣ (k0_mult98 v881).toNat) ∧
  (∀ a, (k0_off196 v881) a + S2x128.size a ≤ S100000x128.size a)
theorem k0_mult98_dvd : ∀ (v881 : BitVec 32) (k0_hw98 : k0_chk98 v881), 2 ∣ (k0_mult98 v881).toNat := fun v881 k0_hw98 => k0_hw98.1
theorem k0_off196_inb : ∀ (v881 : BitVec 32) (k0_hw98 : k0_chk98 v881), ∀ a, (k0_off196 v881) a + S2x128.size a ≤ S100000x128.size a := fun v881 k0_hw98 => k0_hw98.2

def k0_off197 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c98_i32 : BitVec 32 := 98#32
  let v888 : BitVec 32 := Scalar.addi v5 c98_i32
  let v889 : Index := Scalar.indexCast v888
  ![v889.toNat]
def k0_mult99 (v890 : BitVec 32) : BitVec 32 :=
  v890

def k0_off198 (v890 : BitVec 32) : Fin 2 → Nat :=
  let v891 : BitVec 32 := v890
  let v892 : Index := Scalar.indexCast v891
  let c0_198 : Index := 0#32
  ![v892.toNat, 0]

def k0_chk99 (v890 : BitVec 32) : Prop :=
  (2 ∣ (k0_mult99 v890).toNat) ∧
  (∀ a, (k0_off198 v890) a + S2x128.size a ≤ S100000x128.size a)
theorem k0_mult99_dvd : ∀ (v890 : BitVec 32) (k0_hw99 : k0_chk99 v890), 2 ∣ (k0_mult99 v890).toNat := fun v890 k0_hw99 => k0_hw99.1
theorem k0_off198_inb : ∀ (v890 : BitVec 32) (k0_hw99 : k0_chk99 v890), ∀ a, (k0_off198 v890) a + S2x128.size a ≤ S100000x128.size a := fun v890 k0_hw99 => k0_hw99.2

def k0_off199 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c99_i32 : BitVec 32 := 99#32
  let v897 : BitVec 32 := Scalar.addi v5 c99_i32
  let v898 : Index := Scalar.indexCast v897
  ![v898.toNat]
def k0_mult100 (v899 : BitVec 32) : BitVec 32 :=
  v899

def k0_off200 (v899 : BitVec 32) : Fin 2 → Nat :=
  let v900 : BitVec 32 := v899
  let v901 : Index := Scalar.indexCast v900
  let c0_200 : Index := 0#32
  ![v901.toNat, 0]

def k0_chk100 (v899 : BitVec 32) : Prop :=
  (2 ∣ (k0_mult100 v899).toNat) ∧
  (∀ a, (k0_off200 v899) a + S2x128.size a ≤ S100000x128.size a)
theorem k0_mult100_dvd : ∀ (v899 : BitVec 32) (k0_hw100 : k0_chk100 v899), 2 ∣ (k0_mult100 v899).toNat := fun v899 k0_hw100 => k0_hw100.1
theorem k0_off200_inb : ∀ (v899 : BitVec 32) (k0_hw100 : k0_chk100 v899), ∀ a, (k0_off200 v899) a + S2x128.size a ≤ S100000x128.size a := fun v899 k0_hw100 => k0_hw100.2

def k0_off201 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c100_i32 : BitVec 32 := 100#32
  let v906 : BitVec 32 := Scalar.addi v5 c100_i32
  let v907 : Index := Scalar.indexCast v906
  ![v907.toNat]
def k0_mult101 (v908 : BitVec 32) : BitVec 32 :=
  v908

def k0_off202 (v908 : BitVec 32) : Fin 2 → Nat :=
  let v909 : BitVec 32 := v908
  let v910 : Index := Scalar.indexCast v909
  let c0_202 : Index := 0#32
  ![v910.toNat, 0]

def k0_chk101 (v908 : BitVec 32) : Prop :=
  (2 ∣ (k0_mult101 v908).toNat) ∧
  (∀ a, (k0_off202 v908) a + S2x128.size a ≤ S100000x128.size a)
theorem k0_mult101_dvd : ∀ (v908 : BitVec 32) (k0_hw101 : k0_chk101 v908), 2 ∣ (k0_mult101 v908).toNat := fun v908 k0_hw101 => k0_hw101.1
theorem k0_off202_inb : ∀ (v908 : BitVec 32) (k0_hw101 : k0_chk101 v908), ∀ a, (k0_off202 v908) a + S2x128.size a ≤ S100000x128.size a := fun v908 k0_hw101 => k0_hw101.2

def k0_off203 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c101_i32 : BitVec 32 := 101#32
  let v915 : BitVec 32 := Scalar.addi v5 c101_i32
  let v916 : Index := Scalar.indexCast v915
  ![v916.toNat]
def k0_mult102 (v917 : BitVec 32) : BitVec 32 :=
  v917

def k0_off204 (v917 : BitVec 32) : Fin 2 → Nat :=
  let v918 : BitVec 32 := v917
  let v919 : Index := Scalar.indexCast v918
  let c0_204 : Index := 0#32
  ![v919.toNat, 0]

def k0_chk102 (v917 : BitVec 32) : Prop :=
  (2 ∣ (k0_mult102 v917).toNat) ∧
  (∀ a, (k0_off204 v917) a + S2x128.size a ≤ S100000x128.size a)
theorem k0_mult102_dvd : ∀ (v917 : BitVec 32) (k0_hw102 : k0_chk102 v917), 2 ∣ (k0_mult102 v917).toNat := fun v917 k0_hw102 => k0_hw102.1
theorem k0_off204_inb : ∀ (v917 : BitVec 32) (k0_hw102 : k0_chk102 v917), ∀ a, (k0_off204 v917) a + S2x128.size a ≤ S100000x128.size a := fun v917 k0_hw102 => k0_hw102.2

def k0_off205 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c102_i32 : BitVec 32 := 102#32
  let v924 : BitVec 32 := Scalar.addi v5 c102_i32
  let v925 : Index := Scalar.indexCast v924
  ![v925.toNat]
def k0_mult103 (v926 : BitVec 32) : BitVec 32 :=
  v926

def k0_off206 (v926 : BitVec 32) : Fin 2 → Nat :=
  let v927 : BitVec 32 := v926
  let v928 : Index := Scalar.indexCast v927
  let c0_206 : Index := 0#32
  ![v928.toNat, 0]

def k0_chk103 (v926 : BitVec 32) : Prop :=
  (2 ∣ (k0_mult103 v926).toNat) ∧
  (∀ a, (k0_off206 v926) a + S2x128.size a ≤ S100000x128.size a)
theorem k0_mult103_dvd : ∀ (v926 : BitVec 32) (k0_hw103 : k0_chk103 v926), 2 ∣ (k0_mult103 v926).toNat := fun v926 k0_hw103 => k0_hw103.1
theorem k0_off206_inb : ∀ (v926 : BitVec 32) (k0_hw103 : k0_chk103 v926), ∀ a, (k0_off206 v926) a + S2x128.size a ≤ S100000x128.size a := fun v926 k0_hw103 => k0_hw103.2

def k0_off207 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c103_i32 : BitVec 32 := 103#32
  let v933 : BitVec 32 := Scalar.addi v5 c103_i32
  let v934 : Index := Scalar.indexCast v933
  ![v934.toNat]
def k0_mult104 (v935 : BitVec 32) : BitVec 32 :=
  v935

def k0_off208 (v935 : BitVec 32) : Fin 2 → Nat :=
  let v936 : BitVec 32 := v935
  let v937 : Index := Scalar.indexCast v936
  let c0_208 : Index := 0#32
  ![v937.toNat, 0]

def k0_chk104 (v935 : BitVec 32) : Prop :=
  (2 ∣ (k0_mult104 v935).toNat) ∧
  (∀ a, (k0_off208 v935) a + S2x128.size a ≤ S100000x128.size a)
theorem k0_mult104_dvd : ∀ (v935 : BitVec 32) (k0_hw104 : k0_chk104 v935), 2 ∣ (k0_mult104 v935).toNat := fun v935 k0_hw104 => k0_hw104.1
theorem k0_off208_inb : ∀ (v935 : BitVec 32) (k0_hw104 : k0_chk104 v935), ∀ a, (k0_off208 v935) a + S2x128.size a ≤ S100000x128.size a := fun v935 k0_hw104 => k0_hw104.2

def k0_off209 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c104_i32 : BitVec 32 := 104#32
  let v942 : BitVec 32 := Scalar.addi v5 c104_i32
  let v943 : Index := Scalar.indexCast v942
  ![v943.toNat]
def k0_mult105 (v944 : BitVec 32) : BitVec 32 :=
  v944

def k0_off210 (v944 : BitVec 32) : Fin 2 → Nat :=
  let v945 : BitVec 32 := v944
  let v946 : Index := Scalar.indexCast v945
  let c0_210 : Index := 0#32
  ![v946.toNat, 0]

def k0_chk105 (v944 : BitVec 32) : Prop :=
  (2 ∣ (k0_mult105 v944).toNat) ∧
  (∀ a, (k0_off210 v944) a + S2x128.size a ≤ S100000x128.size a)
theorem k0_mult105_dvd : ∀ (v944 : BitVec 32) (k0_hw105 : k0_chk105 v944), 2 ∣ (k0_mult105 v944).toNat := fun v944 k0_hw105 => k0_hw105.1
theorem k0_off210_inb : ∀ (v944 : BitVec 32) (k0_hw105 : k0_chk105 v944), ∀ a, (k0_off210 v944) a + S2x128.size a ≤ S100000x128.size a := fun v944 k0_hw105 => k0_hw105.2

def k0_off211 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c105_i32 : BitVec 32 := 105#32
  let v951 : BitVec 32 := Scalar.addi v5 c105_i32
  let v952 : Index := Scalar.indexCast v951
  ![v952.toNat]
def k0_mult106 (v953 : BitVec 32) : BitVec 32 :=
  v953

def k0_off212 (v953 : BitVec 32) : Fin 2 → Nat :=
  let v954 : BitVec 32 := v953
  let v955 : Index := Scalar.indexCast v954
  let c0_212 : Index := 0#32
  ![v955.toNat, 0]

def k0_chk106 (v953 : BitVec 32) : Prop :=
  (2 ∣ (k0_mult106 v953).toNat) ∧
  (∀ a, (k0_off212 v953) a + S2x128.size a ≤ S100000x128.size a)
theorem k0_mult106_dvd : ∀ (v953 : BitVec 32) (k0_hw106 : k0_chk106 v953), 2 ∣ (k0_mult106 v953).toNat := fun v953 k0_hw106 => k0_hw106.1
theorem k0_off212_inb : ∀ (v953 : BitVec 32) (k0_hw106 : k0_chk106 v953), ∀ a, (k0_off212 v953) a + S2x128.size a ≤ S100000x128.size a := fun v953 k0_hw106 => k0_hw106.2

def k0_off213 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c106_i32 : BitVec 32 := 106#32
  let v960 : BitVec 32 := Scalar.addi v5 c106_i32
  let v961 : Index := Scalar.indexCast v960
  ![v961.toNat]
def k0_mult107 (v962 : BitVec 32) : BitVec 32 :=
  v962

def k0_off214 (v962 : BitVec 32) : Fin 2 → Nat :=
  let v963 : BitVec 32 := v962
  let v964 : Index := Scalar.indexCast v963
  let c0_214 : Index := 0#32
  ![v964.toNat, 0]

def k0_chk107 (v962 : BitVec 32) : Prop :=
  (2 ∣ (k0_mult107 v962).toNat) ∧
  (∀ a, (k0_off214 v962) a + S2x128.size a ≤ S100000x128.size a)
theorem k0_mult107_dvd : ∀ (v962 : BitVec 32) (k0_hw107 : k0_chk107 v962), 2 ∣ (k0_mult107 v962).toNat := fun v962 k0_hw107 => k0_hw107.1
theorem k0_off214_inb : ∀ (v962 : BitVec 32) (k0_hw107 : k0_chk107 v962), ∀ a, (k0_off214 v962) a + S2x128.size a ≤ S100000x128.size a := fun v962 k0_hw107 => k0_hw107.2

def k0_off215 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c107_i32 : BitVec 32 := 107#32
  let v969 : BitVec 32 := Scalar.addi v5 c107_i32
  let v970 : Index := Scalar.indexCast v969
  ![v970.toNat]
def k0_mult108 (v971 : BitVec 32) : BitVec 32 :=
  v971

def k0_off216 (v971 : BitVec 32) : Fin 2 → Nat :=
  let v972 : BitVec 32 := v971
  let v973 : Index := Scalar.indexCast v972
  let c0_216 : Index := 0#32
  ![v973.toNat, 0]

def k0_chk108 (v971 : BitVec 32) : Prop :=
  (2 ∣ (k0_mult108 v971).toNat) ∧
  (∀ a, (k0_off216 v971) a + S2x128.size a ≤ S100000x128.size a)
theorem k0_mult108_dvd : ∀ (v971 : BitVec 32) (k0_hw108 : k0_chk108 v971), 2 ∣ (k0_mult108 v971).toNat := fun v971 k0_hw108 => k0_hw108.1
theorem k0_off216_inb : ∀ (v971 : BitVec 32) (k0_hw108 : k0_chk108 v971), ∀ a, (k0_off216 v971) a + S2x128.size a ≤ S100000x128.size a := fun v971 k0_hw108 => k0_hw108.2

def k0_off217 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c108_i32 : BitVec 32 := 108#32
  let v978 : BitVec 32 := Scalar.addi v5 c108_i32
  let v979 : Index := Scalar.indexCast v978
  ![v979.toNat]
def k0_mult109 (v980 : BitVec 32) : BitVec 32 :=
  v980

def k0_off218 (v980 : BitVec 32) : Fin 2 → Nat :=
  let v981 : BitVec 32 := v980
  let v982 : Index := Scalar.indexCast v981
  let c0_218 : Index := 0#32
  ![v982.toNat, 0]

def k0_chk109 (v980 : BitVec 32) : Prop :=
  (2 ∣ (k0_mult109 v980).toNat) ∧
  (∀ a, (k0_off218 v980) a + S2x128.size a ≤ S100000x128.size a)
theorem k0_mult109_dvd : ∀ (v980 : BitVec 32) (k0_hw109 : k0_chk109 v980), 2 ∣ (k0_mult109 v980).toNat := fun v980 k0_hw109 => k0_hw109.1
theorem k0_off218_inb : ∀ (v980 : BitVec 32) (k0_hw109 : k0_chk109 v980), ∀ a, (k0_off218 v980) a + S2x128.size a ≤ S100000x128.size a := fun v980 k0_hw109 => k0_hw109.2

def k0_off219 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c109_i32 : BitVec 32 := 109#32
  let v987 : BitVec 32 := Scalar.addi v5 c109_i32
  let v988 : Index := Scalar.indexCast v987
  ![v988.toNat]
def k0_mult110 (v989 : BitVec 32) : BitVec 32 :=
  v989

def k0_off220 (v989 : BitVec 32) : Fin 2 → Nat :=
  let v990 : BitVec 32 := v989
  let v991 : Index := Scalar.indexCast v990
  let c0_220 : Index := 0#32
  ![v991.toNat, 0]

def k0_chk110 (v989 : BitVec 32) : Prop :=
  (2 ∣ (k0_mult110 v989).toNat) ∧
  (∀ a, (k0_off220 v989) a + S2x128.size a ≤ S100000x128.size a)
theorem k0_mult110_dvd : ∀ (v989 : BitVec 32) (k0_hw110 : k0_chk110 v989), 2 ∣ (k0_mult110 v989).toNat := fun v989 k0_hw110 => k0_hw110.1
theorem k0_off220_inb : ∀ (v989 : BitVec 32) (k0_hw110 : k0_chk110 v989), ∀ a, (k0_off220 v989) a + S2x128.size a ≤ S100000x128.size a := fun v989 k0_hw110 => k0_hw110.2

def k0_off221 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c110_i32 : BitVec 32 := 110#32
  let v996 : BitVec 32 := Scalar.addi v5 c110_i32
  let v997 : Index := Scalar.indexCast v996
  ![v997.toNat]
def k0_mult111 (v998 : BitVec 32) : BitVec 32 :=
  v998

def k0_off222 (v998 : BitVec 32) : Fin 2 → Nat :=
  let v999 : BitVec 32 := v998
  let v1000 : Index := Scalar.indexCast v999
  let c0_222 : Index := 0#32
  ![v1000.toNat, 0]

def k0_chk111 (v998 : BitVec 32) : Prop :=
  (2 ∣ (k0_mult111 v998).toNat) ∧
  (∀ a, (k0_off222 v998) a + S2x128.size a ≤ S100000x128.size a)
theorem k0_mult111_dvd : ∀ (v998 : BitVec 32) (k0_hw111 : k0_chk111 v998), 2 ∣ (k0_mult111 v998).toNat := fun v998 k0_hw111 => k0_hw111.1
theorem k0_off222_inb : ∀ (v998 : BitVec 32) (k0_hw111 : k0_chk111 v998), ∀ a, (k0_off222 v998) a + S2x128.size a ≤ S100000x128.size a := fun v998 k0_hw111 => k0_hw111.2

def k0_off223 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c111_i32 : BitVec 32 := 111#32
  let v1005 : BitVec 32 := Scalar.addi v5 c111_i32
  let v1006 : Index := Scalar.indexCast v1005
  ![v1006.toNat]
def k0_mult112 (v1007 : BitVec 32) : BitVec 32 :=
  v1007

def k0_off224 (v1007 : BitVec 32) : Fin 2 → Nat :=
  let v1008 : BitVec 32 := v1007
  let v1009 : Index := Scalar.indexCast v1008
  let c0_224 : Index := 0#32
  ![v1009.toNat, 0]

def k0_chk112 (v1007 : BitVec 32) : Prop :=
  (2 ∣ (k0_mult112 v1007).toNat) ∧
  (∀ a, (k0_off224 v1007) a + S2x128.size a ≤ S100000x128.size a)
theorem k0_mult112_dvd : ∀ (v1007 : BitVec 32) (k0_hw112 : k0_chk112 v1007), 2 ∣ (k0_mult112 v1007).toNat := fun v1007 k0_hw112 => k0_hw112.1
theorem k0_off224_inb : ∀ (v1007 : BitVec 32) (k0_hw112 : k0_chk112 v1007), ∀ a, (k0_off224 v1007) a + S2x128.size a ≤ S100000x128.size a := fun v1007 k0_hw112 => k0_hw112.2

def k0_off225 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c112_i32 : BitVec 32 := 112#32
  let v1014 : BitVec 32 := Scalar.addi v5 c112_i32
  let v1015 : Index := Scalar.indexCast v1014
  ![v1015.toNat]
def k0_mult113 (v1016 : BitVec 32) : BitVec 32 :=
  v1016

def k0_off226 (v1016 : BitVec 32) : Fin 2 → Nat :=
  let v1017 : BitVec 32 := v1016
  let v1018 : Index := Scalar.indexCast v1017
  let c0_226 : Index := 0#32
  ![v1018.toNat, 0]

def k0_chk113 (v1016 : BitVec 32) : Prop :=
  (2 ∣ (k0_mult113 v1016).toNat) ∧
  (∀ a, (k0_off226 v1016) a + S2x128.size a ≤ S100000x128.size a)
theorem k0_mult113_dvd : ∀ (v1016 : BitVec 32) (k0_hw113 : k0_chk113 v1016), 2 ∣ (k0_mult113 v1016).toNat := fun v1016 k0_hw113 => k0_hw113.1
theorem k0_off226_inb : ∀ (v1016 : BitVec 32) (k0_hw113 : k0_chk113 v1016), ∀ a, (k0_off226 v1016) a + S2x128.size a ≤ S100000x128.size a := fun v1016 k0_hw113 => k0_hw113.2

def k0_off227 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c113_i32 : BitVec 32 := 113#32
  let v1023 : BitVec 32 := Scalar.addi v5 c113_i32
  let v1024 : Index := Scalar.indexCast v1023
  ![v1024.toNat]
def k0_mult114 (v1025 : BitVec 32) : BitVec 32 :=
  v1025

def k0_off228 (v1025 : BitVec 32) : Fin 2 → Nat :=
  let v1026 : BitVec 32 := v1025
  let v1027 : Index := Scalar.indexCast v1026
  let c0_228 : Index := 0#32
  ![v1027.toNat, 0]

def k0_chk114 (v1025 : BitVec 32) : Prop :=
  (2 ∣ (k0_mult114 v1025).toNat) ∧
  (∀ a, (k0_off228 v1025) a + S2x128.size a ≤ S100000x128.size a)
theorem k0_mult114_dvd : ∀ (v1025 : BitVec 32) (k0_hw114 : k0_chk114 v1025), 2 ∣ (k0_mult114 v1025).toNat := fun v1025 k0_hw114 => k0_hw114.1
theorem k0_off228_inb : ∀ (v1025 : BitVec 32) (k0_hw114 : k0_chk114 v1025), ∀ a, (k0_off228 v1025) a + S2x128.size a ≤ S100000x128.size a := fun v1025 k0_hw114 => k0_hw114.2

def k0_off229 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c114_i32 : BitVec 32 := 114#32
  let v1032 : BitVec 32 := Scalar.addi v5 c114_i32
  let v1033 : Index := Scalar.indexCast v1032
  ![v1033.toNat]
def k0_mult115 (v1034 : BitVec 32) : BitVec 32 :=
  v1034

def k0_off230 (v1034 : BitVec 32) : Fin 2 → Nat :=
  let v1035 : BitVec 32 := v1034
  let v1036 : Index := Scalar.indexCast v1035
  let c0_230 : Index := 0#32
  ![v1036.toNat, 0]

def k0_chk115 (v1034 : BitVec 32) : Prop :=
  (2 ∣ (k0_mult115 v1034).toNat) ∧
  (∀ a, (k0_off230 v1034) a + S2x128.size a ≤ S100000x128.size a)
theorem k0_mult115_dvd : ∀ (v1034 : BitVec 32) (k0_hw115 : k0_chk115 v1034), 2 ∣ (k0_mult115 v1034).toNat := fun v1034 k0_hw115 => k0_hw115.1
theorem k0_off230_inb : ∀ (v1034 : BitVec 32) (k0_hw115 : k0_chk115 v1034), ∀ a, (k0_off230 v1034) a + S2x128.size a ≤ S100000x128.size a := fun v1034 k0_hw115 => k0_hw115.2

def k0_off231 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c115_i32 : BitVec 32 := 115#32
  let v1041 : BitVec 32 := Scalar.addi v5 c115_i32
  let v1042 : Index := Scalar.indexCast v1041
  ![v1042.toNat]
def k0_mult116 (v1043 : BitVec 32) : BitVec 32 :=
  v1043

def k0_off232 (v1043 : BitVec 32) : Fin 2 → Nat :=
  let v1044 : BitVec 32 := v1043
  let v1045 : Index := Scalar.indexCast v1044
  let c0_232 : Index := 0#32
  ![v1045.toNat, 0]

def k0_chk116 (v1043 : BitVec 32) : Prop :=
  (2 ∣ (k0_mult116 v1043).toNat) ∧
  (∀ a, (k0_off232 v1043) a + S2x128.size a ≤ S100000x128.size a)
theorem k0_mult116_dvd : ∀ (v1043 : BitVec 32) (k0_hw116 : k0_chk116 v1043), 2 ∣ (k0_mult116 v1043).toNat := fun v1043 k0_hw116 => k0_hw116.1
theorem k0_off232_inb : ∀ (v1043 : BitVec 32) (k0_hw116 : k0_chk116 v1043), ∀ a, (k0_off232 v1043) a + S2x128.size a ≤ S100000x128.size a := fun v1043 k0_hw116 => k0_hw116.2

def k0_off233 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c116_i32 : BitVec 32 := 116#32
  let v1050 : BitVec 32 := Scalar.addi v5 c116_i32
  let v1051 : Index := Scalar.indexCast v1050
  ![v1051.toNat]
def k0_mult117 (v1052 : BitVec 32) : BitVec 32 :=
  v1052

def k0_off234 (v1052 : BitVec 32) : Fin 2 → Nat :=
  let v1053 : BitVec 32 := v1052
  let v1054 : Index := Scalar.indexCast v1053
  let c0_234 : Index := 0#32
  ![v1054.toNat, 0]

def k0_chk117 (v1052 : BitVec 32) : Prop :=
  (2 ∣ (k0_mult117 v1052).toNat) ∧
  (∀ a, (k0_off234 v1052) a + S2x128.size a ≤ S100000x128.size a)
theorem k0_mult117_dvd : ∀ (v1052 : BitVec 32) (k0_hw117 : k0_chk117 v1052), 2 ∣ (k0_mult117 v1052).toNat := fun v1052 k0_hw117 => k0_hw117.1
theorem k0_off234_inb : ∀ (v1052 : BitVec 32) (k0_hw117 : k0_chk117 v1052), ∀ a, (k0_off234 v1052) a + S2x128.size a ≤ S100000x128.size a := fun v1052 k0_hw117 => k0_hw117.2

def k0_off235 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c117_i32 : BitVec 32 := 117#32
  let v1059 : BitVec 32 := Scalar.addi v5 c117_i32
  let v1060 : Index := Scalar.indexCast v1059
  ![v1060.toNat]
def k0_mult118 (v1061 : BitVec 32) : BitVec 32 :=
  v1061

def k0_off236 (v1061 : BitVec 32) : Fin 2 → Nat :=
  let v1062 : BitVec 32 := v1061
  let v1063 : Index := Scalar.indexCast v1062
  let c0_236 : Index := 0#32
  ![v1063.toNat, 0]

def k0_chk118 (v1061 : BitVec 32) : Prop :=
  (2 ∣ (k0_mult118 v1061).toNat) ∧
  (∀ a, (k0_off236 v1061) a + S2x128.size a ≤ S100000x128.size a)
theorem k0_mult118_dvd : ∀ (v1061 : BitVec 32) (k0_hw118 : k0_chk118 v1061), 2 ∣ (k0_mult118 v1061).toNat := fun v1061 k0_hw118 => k0_hw118.1
theorem k0_off236_inb : ∀ (v1061 : BitVec 32) (k0_hw118 : k0_chk118 v1061), ∀ a, (k0_off236 v1061) a + S2x128.size a ≤ S100000x128.size a := fun v1061 k0_hw118 => k0_hw118.2

def k0_off237 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c118_i32 : BitVec 32 := 118#32
  let v1068 : BitVec 32 := Scalar.addi v5 c118_i32
  let v1069 : Index := Scalar.indexCast v1068
  ![v1069.toNat]
def k0_mult119 (v1070 : BitVec 32) : BitVec 32 :=
  v1070

def k0_off238 (v1070 : BitVec 32) : Fin 2 → Nat :=
  let v1071 : BitVec 32 := v1070
  let v1072 : Index := Scalar.indexCast v1071
  let c0_238 : Index := 0#32
  ![v1072.toNat, 0]

def k0_chk119 (v1070 : BitVec 32) : Prop :=
  (2 ∣ (k0_mult119 v1070).toNat) ∧
  (∀ a, (k0_off238 v1070) a + S2x128.size a ≤ S100000x128.size a)
theorem k0_mult119_dvd : ∀ (v1070 : BitVec 32) (k0_hw119 : k0_chk119 v1070), 2 ∣ (k0_mult119 v1070).toNat := fun v1070 k0_hw119 => k0_hw119.1
theorem k0_off238_inb : ∀ (v1070 : BitVec 32) (k0_hw119 : k0_chk119 v1070), ∀ a, (k0_off238 v1070) a + S2x128.size a ≤ S100000x128.size a := fun v1070 k0_hw119 => k0_hw119.2

def k0_off239 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c119_i32 : BitVec 32 := 119#32
  let v1077 : BitVec 32 := Scalar.addi v5 c119_i32
  let v1078 : Index := Scalar.indexCast v1077
  ![v1078.toNat]
def k0_mult120 (v1079 : BitVec 32) : BitVec 32 :=
  v1079

def k0_off240 (v1079 : BitVec 32) : Fin 2 → Nat :=
  let v1080 : BitVec 32 := v1079
  let v1081 : Index := Scalar.indexCast v1080
  let c0_240 : Index := 0#32
  ![v1081.toNat, 0]

def k0_chk120 (v1079 : BitVec 32) : Prop :=
  (2 ∣ (k0_mult120 v1079).toNat) ∧
  (∀ a, (k0_off240 v1079) a + S2x128.size a ≤ S100000x128.size a)
theorem k0_mult120_dvd : ∀ (v1079 : BitVec 32) (k0_hw120 : k0_chk120 v1079), 2 ∣ (k0_mult120 v1079).toNat := fun v1079 k0_hw120 => k0_hw120.1
theorem k0_off240_inb : ∀ (v1079 : BitVec 32) (k0_hw120 : k0_chk120 v1079), ∀ a, (k0_off240 v1079) a + S2x128.size a ≤ S100000x128.size a := fun v1079 k0_hw120 => k0_hw120.2

def k0_off241 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c120_i32 : BitVec 32 := 120#32
  let v1086 : BitVec 32 := Scalar.addi v5 c120_i32
  let v1087 : Index := Scalar.indexCast v1086
  ![v1087.toNat]
def k0_mult121 (v1088 : BitVec 32) : BitVec 32 :=
  v1088

def k0_off242 (v1088 : BitVec 32) : Fin 2 → Nat :=
  let v1089 : BitVec 32 := v1088
  let v1090 : Index := Scalar.indexCast v1089
  let c0_242 : Index := 0#32
  ![v1090.toNat, 0]

def k0_chk121 (v1088 : BitVec 32) : Prop :=
  (2 ∣ (k0_mult121 v1088).toNat) ∧
  (∀ a, (k0_off242 v1088) a + S2x128.size a ≤ S100000x128.size a)
theorem k0_mult121_dvd : ∀ (v1088 : BitVec 32) (k0_hw121 : k0_chk121 v1088), 2 ∣ (k0_mult121 v1088).toNat := fun v1088 k0_hw121 => k0_hw121.1
theorem k0_off242_inb : ∀ (v1088 : BitVec 32) (k0_hw121 : k0_chk121 v1088), ∀ a, (k0_off242 v1088) a + S2x128.size a ≤ S100000x128.size a := fun v1088 k0_hw121 => k0_hw121.2

def k0_off243 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c121_i32 : BitVec 32 := 121#32
  let v1095 : BitVec 32 := Scalar.addi v5 c121_i32
  let v1096 : Index := Scalar.indexCast v1095
  ![v1096.toNat]
def k0_mult122 (v1097 : BitVec 32) : BitVec 32 :=
  v1097

def k0_off244 (v1097 : BitVec 32) : Fin 2 → Nat :=
  let v1098 : BitVec 32 := v1097
  let v1099 : Index := Scalar.indexCast v1098
  let c0_244 : Index := 0#32
  ![v1099.toNat, 0]

def k0_chk122 (v1097 : BitVec 32) : Prop :=
  (2 ∣ (k0_mult122 v1097).toNat) ∧
  (∀ a, (k0_off244 v1097) a + S2x128.size a ≤ S100000x128.size a)
theorem k0_mult122_dvd : ∀ (v1097 : BitVec 32) (k0_hw122 : k0_chk122 v1097), 2 ∣ (k0_mult122 v1097).toNat := fun v1097 k0_hw122 => k0_hw122.1
theorem k0_off244_inb : ∀ (v1097 : BitVec 32) (k0_hw122 : k0_chk122 v1097), ∀ a, (k0_off244 v1097) a + S2x128.size a ≤ S100000x128.size a := fun v1097 k0_hw122 => k0_hw122.2

def k0_off245 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c122_i32 : BitVec 32 := 122#32
  let v1104 : BitVec 32 := Scalar.addi v5 c122_i32
  let v1105 : Index := Scalar.indexCast v1104
  ![v1105.toNat]
def k0_mult123 (v1106 : BitVec 32) : BitVec 32 :=
  v1106

def k0_off246 (v1106 : BitVec 32) : Fin 2 → Nat :=
  let v1107 : BitVec 32 := v1106
  let v1108 : Index := Scalar.indexCast v1107
  let c0_246 : Index := 0#32
  ![v1108.toNat, 0]

def k0_chk123 (v1106 : BitVec 32) : Prop :=
  (2 ∣ (k0_mult123 v1106).toNat) ∧
  (∀ a, (k0_off246 v1106) a + S2x128.size a ≤ S100000x128.size a)
theorem k0_mult123_dvd : ∀ (v1106 : BitVec 32) (k0_hw123 : k0_chk123 v1106), 2 ∣ (k0_mult123 v1106).toNat := fun v1106 k0_hw123 => k0_hw123.1
theorem k0_off246_inb : ∀ (v1106 : BitVec 32) (k0_hw123 : k0_chk123 v1106), ∀ a, (k0_off246 v1106) a + S2x128.size a ≤ S100000x128.size a := fun v1106 k0_hw123 => k0_hw123.2

def k0_off247 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c123_i32 : BitVec 32 := 123#32
  let v1113 : BitVec 32 := Scalar.addi v5 c123_i32
  let v1114 : Index := Scalar.indexCast v1113
  ![v1114.toNat]
def k0_mult124 (v1115 : BitVec 32) : BitVec 32 :=
  v1115

def k0_off248 (v1115 : BitVec 32) : Fin 2 → Nat :=
  let v1116 : BitVec 32 := v1115
  let v1117 : Index := Scalar.indexCast v1116
  let c0_248 : Index := 0#32
  ![v1117.toNat, 0]

def k0_chk124 (v1115 : BitVec 32) : Prop :=
  (2 ∣ (k0_mult124 v1115).toNat) ∧
  (∀ a, (k0_off248 v1115) a + S2x128.size a ≤ S100000x128.size a)
theorem k0_mult124_dvd : ∀ (v1115 : BitVec 32) (k0_hw124 : k0_chk124 v1115), 2 ∣ (k0_mult124 v1115).toNat := fun v1115 k0_hw124 => k0_hw124.1
theorem k0_off248_inb : ∀ (v1115 : BitVec 32) (k0_hw124 : k0_chk124 v1115), ∀ a, (k0_off248 v1115) a + S2x128.size a ≤ S100000x128.size a := fun v1115 k0_hw124 => k0_hw124.2

def k0_off249 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c124_i32 : BitVec 32 := 124#32
  let v1122 : BitVec 32 := Scalar.addi v5 c124_i32
  let v1123 : Index := Scalar.indexCast v1122
  ![v1123.toNat]
def k0_mult125 (v1124 : BitVec 32) : BitVec 32 :=
  v1124

def k0_off250 (v1124 : BitVec 32) : Fin 2 → Nat :=
  let v1125 : BitVec 32 := v1124
  let v1126 : Index := Scalar.indexCast v1125
  let c0_250 : Index := 0#32
  ![v1126.toNat, 0]

def k0_chk125 (v1124 : BitVec 32) : Prop :=
  (2 ∣ (k0_mult125 v1124).toNat) ∧
  (∀ a, (k0_off250 v1124) a + S2x128.size a ≤ S100000x128.size a)
theorem k0_mult125_dvd : ∀ (v1124 : BitVec 32) (k0_hw125 : k0_chk125 v1124), 2 ∣ (k0_mult125 v1124).toNat := fun v1124 k0_hw125 => k0_hw125.1
theorem k0_off250_inb : ∀ (v1124 : BitVec 32) (k0_hw125 : k0_chk125 v1124), ∀ a, (k0_off250 v1124) a + S2x128.size a ≤ S100000x128.size a := fun v1124 k0_hw125 => k0_hw125.2

def k0_off251 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c125_i32 : BitVec 32 := 125#32
  let v1131 : BitVec 32 := Scalar.addi v5 c125_i32
  let v1132 : Index := Scalar.indexCast v1131
  ![v1132.toNat]
def k0_mult126 (v1133 : BitVec 32) : BitVec 32 :=
  v1133

def k0_off252 (v1133 : BitVec 32) : Fin 2 → Nat :=
  let v1134 : BitVec 32 := v1133
  let v1135 : Index := Scalar.indexCast v1134
  let c0_252 : Index := 0#32
  ![v1135.toNat, 0]

def k0_chk126 (v1133 : BitVec 32) : Prop :=
  (2 ∣ (k0_mult126 v1133).toNat) ∧
  (∀ a, (k0_off252 v1133) a + S2x128.size a ≤ S100000x128.size a)
theorem k0_mult126_dvd : ∀ (v1133 : BitVec 32) (k0_hw126 : k0_chk126 v1133), 2 ∣ (k0_mult126 v1133).toNat := fun v1133 k0_hw126 => k0_hw126.1
theorem k0_off252_inb : ∀ (v1133 : BitVec 32) (k0_hw126 : k0_chk126 v1133), ∀ a, (k0_off252 v1133) a + S2x128.size a ≤ S100000x128.size a := fun v1133 k0_hw126 => k0_hw126.2

def k0_off253 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c126_i32 : BitVec 32 := 126#32
  let v1140 : BitVec 32 := Scalar.addi v5 c126_i32
  let v1141 : Index := Scalar.indexCast v1140
  ![v1141.toNat]
def k0_mult127 (v1142 : BitVec 32) : BitVec 32 :=
  v1142

def k0_off254 (v1142 : BitVec 32) : Fin 2 → Nat :=
  let v1143 : BitVec 32 := v1142
  let v1144 : Index := Scalar.indexCast v1143
  let c0_254 : Index := 0#32
  ![v1144.toNat, 0]

def k0_chk127 (v1142 : BitVec 32) : Prop :=
  (2 ∣ (k0_mult127 v1142).toNat) ∧
  (∀ a, (k0_off254 v1142) a + S2x128.size a ≤ S100000x128.size a)
theorem k0_mult127_dvd : ∀ (v1142 : BitVec 32) (k0_hw127 : k0_chk127 v1142), 2 ∣ (k0_mult127 v1142).toNat := fun v1142 k0_hw127 => k0_hw127.1
theorem k0_off254_inb : ∀ (v1142 : BitVec 32) (k0_hw127 : k0_chk127 v1142), ∀ a, (k0_off254 v1142) a + S2x128.size a ≤ S100000x128.size a := fun v1142 k0_hw127 => k0_hw127.2

def k0_off255 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c127_i32 : BitVec 32 := 127#32
  let v1149 : BitVec 32 := Scalar.addi v5 c127_i32
  let v1150 : Index := Scalar.indexCast v1149
  ![v1150.toNat]
def k0_mult128 (v1151 : BitVec 32) : BitVec 32 :=
  v1151

def k0_off256 (v1151 : BitVec 32) : Fin 2 → Nat :=
  let v1152 : BitVec 32 := v1151
  let v1153 : Index := Scalar.indexCast v1152
  let c0_256 : Index := 0#32
  ![v1153.toNat, 0]

def k0_chk128 (v1151 : BitVec 32) : Prop :=
  (2 ∣ (k0_mult128 v1151).toNat) ∧
  (∀ a, (k0_off256 v1151) a + S2x128.size a ≤ S100000x128.size a)
theorem k0_mult128_dvd : ∀ (v1151 : BitVec 32) (k0_hw128 : k0_chk128 v1151), 2 ∣ (k0_mult128 v1151).toNat := fun v1151 k0_hw128 => k0_hw128.1
theorem k0_off256_inb : ∀ (v1151 : BitVec 32) (k0_hw128 : k0_chk128 v1151), ∀ a, (k0_off256 v1151) a + S2x128.size a ≤ S100000x128.size a := fun v1151 k0_hw128 => k0_hw128.2

def k0_off257 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c128_i32 : BitVec 32 := 128#32
  let v1158 : BitVec 32 := Scalar.addi v5 c128_i32
  let v1159 : Index := Scalar.indexCast v1158
  ![v1159.toNat]
def k0_mult129 (v1160 : BitVec 32) : BitVec 32 :=
  v1160

def k0_off258 (v1160 : BitVec 32) : Fin 2 → Nat :=
  let v1161 : BitVec 32 := v1160
  let v1162 : Index := Scalar.indexCast v1161
  let c0_258 : Index := 0#32
  ![v1162.toNat, 0]

def k0_chk129 (v1160 : BitVec 32) : Prop :=
  (2 ∣ (k0_mult129 v1160).toNat) ∧
  (∀ a, (k0_off258 v1160) a + S2x128.size a ≤ S100000x128.size a)
theorem k0_mult129_dvd : ∀ (v1160 : BitVec 32) (k0_hw129 : k0_chk129 v1160), 2 ∣ (k0_mult129 v1160).toNat := fun v1160 k0_hw129 => k0_hw129.1
theorem k0_off258_inb : ∀ (v1160 : BitVec 32) (k0_hw129 : k0_chk129 v1160), ∀ a, (k0_off258 v1160) a + S2x128.size a ≤ S100000x128.size a := fun v1160 k0_hw129 => k0_hw129.2

def k0_off259 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c129_i32 : BitVec 32 := 129#32
  let v1167 : BitVec 32 := Scalar.addi v5 c129_i32
  let v1168 : Index := Scalar.indexCast v1167
  ![v1168.toNat]
def k0_mult130 (v1169 : BitVec 32) : BitVec 32 :=
  v1169

def k0_off260 (v1169 : BitVec 32) : Fin 2 → Nat :=
  let v1170 : BitVec 32 := v1169
  let v1171 : Index := Scalar.indexCast v1170
  let c0_260 : Index := 0#32
  ![v1171.toNat, 0]

def k0_chk130 (v1169 : BitVec 32) : Prop :=
  (2 ∣ (k0_mult130 v1169).toNat) ∧
  (∀ a, (k0_off260 v1169) a + S2x128.size a ≤ S100000x128.size a)
theorem k0_mult130_dvd : ∀ (v1169 : BitVec 32) (k0_hw130 : k0_chk130 v1169), 2 ∣ (k0_mult130 v1169).toNat := fun v1169 k0_hw130 => k0_hw130.1
theorem k0_off260_inb : ∀ (v1169 : BitVec 32) (k0_hw130 : k0_chk130 v1169), ∀ a, (k0_off260 v1169) a + S2x128.size a ≤ S100000x128.size a := fun v1169 k0_hw130 => k0_hw130.2

def k0_off261 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c130_i32 : BitVec 32 := 130#32
  let v1176 : BitVec 32 := Scalar.addi v5 c130_i32
  let v1177 : Index := Scalar.indexCast v1176
  ![v1177.toNat]
def k0_mult131 (v1178 : BitVec 32) : BitVec 32 :=
  v1178

def k0_off262 (v1178 : BitVec 32) : Fin 2 → Nat :=
  let v1179 : BitVec 32 := v1178
  let v1180 : Index := Scalar.indexCast v1179
  let c0_262 : Index := 0#32
  ![v1180.toNat, 0]

def k0_chk131 (v1178 : BitVec 32) : Prop :=
  (2 ∣ (k0_mult131 v1178).toNat) ∧
  (∀ a, (k0_off262 v1178) a + S2x128.size a ≤ S100000x128.size a)
theorem k0_mult131_dvd : ∀ (v1178 : BitVec 32) (k0_hw131 : k0_chk131 v1178), 2 ∣ (k0_mult131 v1178).toNat := fun v1178 k0_hw131 => k0_hw131.1
theorem k0_off262_inb : ∀ (v1178 : BitVec 32) (k0_hw131 : k0_chk131 v1178), ∀ a, (k0_off262 v1178) a + S2x128.size a ≤ S100000x128.size a := fun v1178 k0_hw131 => k0_hw131.2

def k0_off263 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c131_i32 : BitVec 32 := 131#32
  let v1185 : BitVec 32 := Scalar.addi v5 c131_i32
  let v1186 : Index := Scalar.indexCast v1185
  ![v1186.toNat]
def k0_mult132 (v1187 : BitVec 32) : BitVec 32 :=
  v1187

def k0_off264 (v1187 : BitVec 32) : Fin 2 → Nat :=
  let v1188 : BitVec 32 := v1187
  let v1189 : Index := Scalar.indexCast v1188
  let c0_264 : Index := 0#32
  ![v1189.toNat, 0]

def k0_chk132 (v1187 : BitVec 32) : Prop :=
  (2 ∣ (k0_mult132 v1187).toNat) ∧
  (∀ a, (k0_off264 v1187) a + S2x128.size a ≤ S100000x128.size a)
theorem k0_mult132_dvd : ∀ (v1187 : BitVec 32) (k0_hw132 : k0_chk132 v1187), 2 ∣ (k0_mult132 v1187).toNat := fun v1187 k0_hw132 => k0_hw132.1
theorem k0_off264_inb : ∀ (v1187 : BitVec 32) (k0_hw132 : k0_chk132 v1187), ∀ a, (k0_off264 v1187) a + S2x128.size a ≤ S100000x128.size a := fun v1187 k0_hw132 => k0_hw132.2

def k0_off265 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c132_i32 : BitVec 32 := 132#32
  let v1194 : BitVec 32 := Scalar.addi v5 c132_i32
  let v1195 : Index := Scalar.indexCast v1194
  ![v1195.toNat]
def k0_mult133 (v1196 : BitVec 32) : BitVec 32 :=
  v1196

def k0_off266 (v1196 : BitVec 32) : Fin 2 → Nat :=
  let v1197 : BitVec 32 := v1196
  let v1198 : Index := Scalar.indexCast v1197
  let c0_266 : Index := 0#32
  ![v1198.toNat, 0]

def k0_chk133 (v1196 : BitVec 32) : Prop :=
  (2 ∣ (k0_mult133 v1196).toNat) ∧
  (∀ a, (k0_off266 v1196) a + S2x128.size a ≤ S100000x128.size a)
theorem k0_mult133_dvd : ∀ (v1196 : BitVec 32) (k0_hw133 : k0_chk133 v1196), 2 ∣ (k0_mult133 v1196).toNat := fun v1196 k0_hw133 => k0_hw133.1
theorem k0_off266_inb : ∀ (v1196 : BitVec 32) (k0_hw133 : k0_chk133 v1196), ∀ a, (k0_off266 v1196) a + S2x128.size a ≤ S100000x128.size a := fun v1196 k0_hw133 => k0_hw133.2

def k0_off267 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c133_i32 : BitVec 32 := 133#32
  let v1203 : BitVec 32 := Scalar.addi v5 c133_i32
  let v1204 : Index := Scalar.indexCast v1203
  ![v1204.toNat]
def k0_mult134 (v1205 : BitVec 32) : BitVec 32 :=
  v1205

def k0_off268 (v1205 : BitVec 32) : Fin 2 → Nat :=
  let v1206 : BitVec 32 := v1205
  let v1207 : Index := Scalar.indexCast v1206
  let c0_268 : Index := 0#32
  ![v1207.toNat, 0]

def k0_chk134 (v1205 : BitVec 32) : Prop :=
  (2 ∣ (k0_mult134 v1205).toNat) ∧
  (∀ a, (k0_off268 v1205) a + S2x128.size a ≤ S100000x128.size a)
theorem k0_mult134_dvd : ∀ (v1205 : BitVec 32) (k0_hw134 : k0_chk134 v1205), 2 ∣ (k0_mult134 v1205).toNat := fun v1205 k0_hw134 => k0_hw134.1
theorem k0_off268_inb : ∀ (v1205 : BitVec 32) (k0_hw134 : k0_chk134 v1205), ∀ a, (k0_off268 v1205) a + S2x128.size a ≤ S100000x128.size a := fun v1205 k0_hw134 => k0_hw134.2

def k0_off269 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c134_i32 : BitVec 32 := 134#32
  let v1212 : BitVec 32 := Scalar.addi v5 c134_i32
  let v1213 : Index := Scalar.indexCast v1212
  ![v1213.toNat]
def k0_mult135 (v1214 : BitVec 32) : BitVec 32 :=
  v1214

def k0_off270 (v1214 : BitVec 32) : Fin 2 → Nat :=
  let v1215 : BitVec 32 := v1214
  let v1216 : Index := Scalar.indexCast v1215
  let c0_270 : Index := 0#32
  ![v1216.toNat, 0]

def k0_chk135 (v1214 : BitVec 32) : Prop :=
  (2 ∣ (k0_mult135 v1214).toNat) ∧
  (∀ a, (k0_off270 v1214) a + S2x128.size a ≤ S100000x128.size a)
theorem k0_mult135_dvd : ∀ (v1214 : BitVec 32) (k0_hw135 : k0_chk135 v1214), 2 ∣ (k0_mult135 v1214).toNat := fun v1214 k0_hw135 => k0_hw135.1
theorem k0_off270_inb : ∀ (v1214 : BitVec 32) (k0_hw135 : k0_chk135 v1214), ∀ a, (k0_off270 v1214) a + S2x128.size a ≤ S100000x128.size a := fun v1214 k0_hw135 => k0_hw135.2

def k0_off271 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c135_i32 : BitVec 32 := 135#32
  let v1221 : BitVec 32 := Scalar.addi v5 c135_i32
  let v1222 : Index := Scalar.indexCast v1221
  ![v1222.toNat]
def k0_mult136 (v1223 : BitVec 32) : BitVec 32 :=
  v1223

def k0_off272 (v1223 : BitVec 32) : Fin 2 → Nat :=
  let v1224 : BitVec 32 := v1223
  let v1225 : Index := Scalar.indexCast v1224
  let c0_272 : Index := 0#32
  ![v1225.toNat, 0]

def k0_chk136 (v1223 : BitVec 32) : Prop :=
  (2 ∣ (k0_mult136 v1223).toNat) ∧
  (∀ a, (k0_off272 v1223) a + S2x128.size a ≤ S100000x128.size a)
theorem k0_mult136_dvd : ∀ (v1223 : BitVec 32) (k0_hw136 : k0_chk136 v1223), 2 ∣ (k0_mult136 v1223).toNat := fun v1223 k0_hw136 => k0_hw136.1
theorem k0_off272_inb : ∀ (v1223 : BitVec 32) (k0_hw136 : k0_chk136 v1223), ∀ a, (k0_off272 v1223) a + S2x128.size a ≤ S100000x128.size a := fun v1223 k0_hw136 => k0_hw136.2

def k0_off273 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c136_i32 : BitVec 32 := 136#32
  let v1230 : BitVec 32 := Scalar.addi v5 c136_i32
  let v1231 : Index := Scalar.indexCast v1230
  ![v1231.toNat]
def k0_mult137 (v1232 : BitVec 32) : BitVec 32 :=
  v1232

def k0_off274 (v1232 : BitVec 32) : Fin 2 → Nat :=
  let v1233 : BitVec 32 := v1232
  let v1234 : Index := Scalar.indexCast v1233
  let c0_274 : Index := 0#32
  ![v1234.toNat, 0]

def k0_chk137 (v1232 : BitVec 32) : Prop :=
  (2 ∣ (k0_mult137 v1232).toNat) ∧
  (∀ a, (k0_off274 v1232) a + S2x128.size a ≤ S100000x128.size a)
theorem k0_mult137_dvd : ∀ (v1232 : BitVec 32) (k0_hw137 : k0_chk137 v1232), 2 ∣ (k0_mult137 v1232).toNat := fun v1232 k0_hw137 => k0_hw137.1
theorem k0_off274_inb : ∀ (v1232 : BitVec 32) (k0_hw137 : k0_chk137 v1232), ∀ a, (k0_off274 v1232) a + S2x128.size a ≤ S100000x128.size a := fun v1232 k0_hw137 => k0_hw137.2

def k0_off275 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c137_i32 : BitVec 32 := 137#32
  let v1239 : BitVec 32 := Scalar.addi v5 c137_i32
  let v1240 : Index := Scalar.indexCast v1239
  ![v1240.toNat]
def k0_mult138 (v1241 : BitVec 32) : BitVec 32 :=
  v1241

def k0_off276 (v1241 : BitVec 32) : Fin 2 → Nat :=
  let v1242 : BitVec 32 := v1241
  let v1243 : Index := Scalar.indexCast v1242
  let c0_276 : Index := 0#32
  ![v1243.toNat, 0]

def k0_chk138 (v1241 : BitVec 32) : Prop :=
  (2 ∣ (k0_mult138 v1241).toNat) ∧
  (∀ a, (k0_off276 v1241) a + S2x128.size a ≤ S100000x128.size a)
theorem k0_mult138_dvd : ∀ (v1241 : BitVec 32) (k0_hw138 : k0_chk138 v1241), 2 ∣ (k0_mult138 v1241).toNat := fun v1241 k0_hw138 => k0_hw138.1
theorem k0_off276_inb : ∀ (v1241 : BitVec 32) (k0_hw138 : k0_chk138 v1241), ∀ a, (k0_off276 v1241) a + S2x128.size a ≤ S100000x128.size a := fun v1241 k0_hw138 => k0_hw138.2

def k0_off277 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c138_i32 : BitVec 32 := 138#32
  let v1248 : BitVec 32 := Scalar.addi v5 c138_i32
  let v1249 : Index := Scalar.indexCast v1248
  ![v1249.toNat]
def k0_mult139 (v1250 : BitVec 32) : BitVec 32 :=
  v1250

def k0_off278 (v1250 : BitVec 32) : Fin 2 → Nat :=
  let v1251 : BitVec 32 := v1250
  let v1252 : Index := Scalar.indexCast v1251
  let c0_278 : Index := 0#32
  ![v1252.toNat, 0]

def k0_chk139 (v1250 : BitVec 32) : Prop :=
  (2 ∣ (k0_mult139 v1250).toNat) ∧
  (∀ a, (k0_off278 v1250) a + S2x128.size a ≤ S100000x128.size a)
theorem k0_mult139_dvd : ∀ (v1250 : BitVec 32) (k0_hw139 : k0_chk139 v1250), 2 ∣ (k0_mult139 v1250).toNat := fun v1250 k0_hw139 => k0_hw139.1
theorem k0_off278_inb : ∀ (v1250 : BitVec 32) (k0_hw139 : k0_chk139 v1250), ∀ a, (k0_off278 v1250) a + S2x128.size a ≤ S100000x128.size a := fun v1250 k0_hw139 => k0_hw139.2

def k0_off279 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c139_i32 : BitVec 32 := 139#32
  let v1257 : BitVec 32 := Scalar.addi v5 c139_i32
  let v1258 : Index := Scalar.indexCast v1257
  ![v1258.toNat]
def k0_mult140 (v1259 : BitVec 32) : BitVec 32 :=
  v1259

def k0_off280 (v1259 : BitVec 32) : Fin 2 → Nat :=
  let v1260 : BitVec 32 := v1259
  let v1261 : Index := Scalar.indexCast v1260
  let c0_280 : Index := 0#32
  ![v1261.toNat, 0]

def k0_chk140 (v1259 : BitVec 32) : Prop :=
  (2 ∣ (k0_mult140 v1259).toNat) ∧
  (∀ a, (k0_off280 v1259) a + S2x128.size a ≤ S100000x128.size a)
theorem k0_mult140_dvd : ∀ (v1259 : BitVec 32) (k0_hw140 : k0_chk140 v1259), 2 ∣ (k0_mult140 v1259).toNat := fun v1259 k0_hw140 => k0_hw140.1
theorem k0_off280_inb : ∀ (v1259 : BitVec 32) (k0_hw140 : k0_chk140 v1259), ∀ a, (k0_off280 v1259) a + S2x128.size a ≤ S100000x128.size a := fun v1259 k0_hw140 => k0_hw140.2

def k0_off281 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c140_i32 : BitVec 32 := 140#32
  let v1266 : BitVec 32 := Scalar.addi v5 c140_i32
  let v1267 : Index := Scalar.indexCast v1266
  ![v1267.toNat]
def k0_mult141 (v1268 : BitVec 32) : BitVec 32 :=
  v1268

def k0_off282 (v1268 : BitVec 32) : Fin 2 → Nat :=
  let v1269 : BitVec 32 := v1268
  let v1270 : Index := Scalar.indexCast v1269
  let c0_282 : Index := 0#32
  ![v1270.toNat, 0]

def k0_chk141 (v1268 : BitVec 32) : Prop :=
  (2 ∣ (k0_mult141 v1268).toNat) ∧
  (∀ a, (k0_off282 v1268) a + S2x128.size a ≤ S100000x128.size a)
theorem k0_mult141_dvd : ∀ (v1268 : BitVec 32) (k0_hw141 : k0_chk141 v1268), 2 ∣ (k0_mult141 v1268).toNat := fun v1268 k0_hw141 => k0_hw141.1
theorem k0_off282_inb : ∀ (v1268 : BitVec 32) (k0_hw141 : k0_chk141 v1268), ∀ a, (k0_off282 v1268) a + S2x128.size a ≤ S100000x128.size a := fun v1268 k0_hw141 => k0_hw141.2

def k0_off283 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c141_i32 : BitVec 32 := 141#32
  let v1275 : BitVec 32 := Scalar.addi v5 c141_i32
  let v1276 : Index := Scalar.indexCast v1275
  ![v1276.toNat]
def k0_mult142 (v1277 : BitVec 32) : BitVec 32 :=
  v1277

def k0_off284 (v1277 : BitVec 32) : Fin 2 → Nat :=
  let v1278 : BitVec 32 := v1277
  let v1279 : Index := Scalar.indexCast v1278
  let c0_284 : Index := 0#32
  ![v1279.toNat, 0]

def k0_chk142 (v1277 : BitVec 32) : Prop :=
  (2 ∣ (k0_mult142 v1277).toNat) ∧
  (∀ a, (k0_off284 v1277) a + S2x128.size a ≤ S100000x128.size a)
theorem k0_mult142_dvd : ∀ (v1277 : BitVec 32) (k0_hw142 : k0_chk142 v1277), 2 ∣ (k0_mult142 v1277).toNat := fun v1277 k0_hw142 => k0_hw142.1
theorem k0_off284_inb : ∀ (v1277 : BitVec 32) (k0_hw142 : k0_chk142 v1277), ∀ a, (k0_off284 v1277) a + S2x128.size a ≤ S100000x128.size a := fun v1277 k0_hw142 => k0_hw142.2

def k0_off285 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c142_i32 : BitVec 32 := 142#32
  let v1284 : BitVec 32 := Scalar.addi v5 c142_i32
  let v1285 : Index := Scalar.indexCast v1284
  ![v1285.toNat]
def k0_mult143 (v1286 : BitVec 32) : BitVec 32 :=
  v1286

def k0_off286 (v1286 : BitVec 32) : Fin 2 → Nat :=
  let v1287 : BitVec 32 := v1286
  let v1288 : Index := Scalar.indexCast v1287
  let c0_286 : Index := 0#32
  ![v1288.toNat, 0]

def k0_chk143 (v1286 : BitVec 32) : Prop :=
  (2 ∣ (k0_mult143 v1286).toNat) ∧
  (∀ a, (k0_off286 v1286) a + S2x128.size a ≤ S100000x128.size a)
theorem k0_mult143_dvd : ∀ (v1286 : BitVec 32) (k0_hw143 : k0_chk143 v1286), 2 ∣ (k0_mult143 v1286).toNat := fun v1286 k0_hw143 => k0_hw143.1
theorem k0_off286_inb : ∀ (v1286 : BitVec 32) (k0_hw143 : k0_chk143 v1286), ∀ a, (k0_off286 v1286) a + S2x128.size a ≤ S100000x128.size a := fun v1286 k0_hw143 => k0_hw143.2

def k0_off287 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c143_i32 : BitVec 32 := 143#32
  let v1293 : BitVec 32 := Scalar.addi v5 c143_i32
  let v1294 : Index := Scalar.indexCast v1293
  ![v1294.toNat]
def k0_mult144 (v1295 : BitVec 32) : BitVec 32 :=
  v1295

def k0_off288 (v1295 : BitVec 32) : Fin 2 → Nat :=
  let v1296 : BitVec 32 := v1295
  let v1297 : Index := Scalar.indexCast v1296
  let c0_288 : Index := 0#32
  ![v1297.toNat, 0]

def k0_chk144 (v1295 : BitVec 32) : Prop :=
  (2 ∣ (k0_mult144 v1295).toNat) ∧
  (∀ a, (k0_off288 v1295) a + S2x128.size a ≤ S100000x128.size a)
theorem k0_mult144_dvd : ∀ (v1295 : BitVec 32) (k0_hw144 : k0_chk144 v1295), 2 ∣ (k0_mult144 v1295).toNat := fun v1295 k0_hw144 => k0_hw144.1
theorem k0_off288_inb : ∀ (v1295 : BitVec 32) (k0_hw144 : k0_chk144 v1295), ∀ a, (k0_off288 v1295) a + S2x128.size a ≤ S100000x128.size a := fun v1295 k0_hw144 => k0_hw144.2

def k0_off289 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c144_i32 : BitVec 32 := 144#32
  let v1302 : BitVec 32 := Scalar.addi v5 c144_i32
  let v1303 : Index := Scalar.indexCast v1302
  ![v1303.toNat]
def k0_mult145 (v1304 : BitVec 32) : BitVec 32 :=
  v1304

def k0_off290 (v1304 : BitVec 32) : Fin 2 → Nat :=
  let v1305 : BitVec 32 := v1304
  let v1306 : Index := Scalar.indexCast v1305
  let c0_290 : Index := 0#32
  ![v1306.toNat, 0]

def k0_chk145 (v1304 : BitVec 32) : Prop :=
  (2 ∣ (k0_mult145 v1304).toNat) ∧
  (∀ a, (k0_off290 v1304) a + S2x128.size a ≤ S100000x128.size a)
theorem k0_mult145_dvd : ∀ (v1304 : BitVec 32) (k0_hw145 : k0_chk145 v1304), 2 ∣ (k0_mult145 v1304).toNat := fun v1304 k0_hw145 => k0_hw145.1
theorem k0_off290_inb : ∀ (v1304 : BitVec 32) (k0_hw145 : k0_chk145 v1304), ∀ a, (k0_off290 v1304) a + S2x128.size a ≤ S100000x128.size a := fun v1304 k0_hw145 => k0_hw145.2

def k0_off291 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c145_i32 : BitVec 32 := 145#32
  let v1311 : BitVec 32 := Scalar.addi v5 c145_i32
  let v1312 : Index := Scalar.indexCast v1311
  ![v1312.toNat]
def k0_mult146 (v1313 : BitVec 32) : BitVec 32 :=
  v1313

def k0_off292 (v1313 : BitVec 32) : Fin 2 → Nat :=
  let v1314 : BitVec 32 := v1313
  let v1315 : Index := Scalar.indexCast v1314
  let c0_292 : Index := 0#32
  ![v1315.toNat, 0]

def k0_chk146 (v1313 : BitVec 32) : Prop :=
  (2 ∣ (k0_mult146 v1313).toNat) ∧
  (∀ a, (k0_off292 v1313) a + S2x128.size a ≤ S100000x128.size a)
theorem k0_mult146_dvd : ∀ (v1313 : BitVec 32) (k0_hw146 : k0_chk146 v1313), 2 ∣ (k0_mult146 v1313).toNat := fun v1313 k0_hw146 => k0_hw146.1
theorem k0_off292_inb : ∀ (v1313 : BitVec 32) (k0_hw146 : k0_chk146 v1313), ∀ a, (k0_off292 v1313) a + S2x128.size a ≤ S100000x128.size a := fun v1313 k0_hw146 => k0_hw146.2

def k0_off293 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c146_i32 : BitVec 32 := 146#32
  let v1320 : BitVec 32 := Scalar.addi v5 c146_i32
  let v1321 : Index := Scalar.indexCast v1320
  ![v1321.toNat]
def k0_mult147 (v1322 : BitVec 32) : BitVec 32 :=
  v1322

def k0_off294 (v1322 : BitVec 32) : Fin 2 → Nat :=
  let v1323 : BitVec 32 := v1322
  let v1324 : Index := Scalar.indexCast v1323
  let c0_294 : Index := 0#32
  ![v1324.toNat, 0]

def k0_chk147 (v1322 : BitVec 32) : Prop :=
  (2 ∣ (k0_mult147 v1322).toNat) ∧
  (∀ a, (k0_off294 v1322) a + S2x128.size a ≤ S100000x128.size a)
theorem k0_mult147_dvd : ∀ (v1322 : BitVec 32) (k0_hw147 : k0_chk147 v1322), 2 ∣ (k0_mult147 v1322).toNat := fun v1322 k0_hw147 => k0_hw147.1
theorem k0_off294_inb : ∀ (v1322 : BitVec 32) (k0_hw147 : k0_chk147 v1322), ∀ a, (k0_off294 v1322) a + S2x128.size a ≤ S100000x128.size a := fun v1322 k0_hw147 => k0_hw147.2

def k0_off295 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c147_i32 : BitVec 32 := 147#32
  let v1329 : BitVec 32 := Scalar.addi v5 c147_i32
  let v1330 : Index := Scalar.indexCast v1329
  ![v1330.toNat]
def k0_mult148 (v1331 : BitVec 32) : BitVec 32 :=
  v1331

def k0_off296 (v1331 : BitVec 32) : Fin 2 → Nat :=
  let v1332 : BitVec 32 := v1331
  let v1333 : Index := Scalar.indexCast v1332
  let c0_296 : Index := 0#32
  ![v1333.toNat, 0]

def k0_chk148 (v1331 : BitVec 32) : Prop :=
  (2 ∣ (k0_mult148 v1331).toNat) ∧
  (∀ a, (k0_off296 v1331) a + S2x128.size a ≤ S100000x128.size a)
theorem k0_mult148_dvd : ∀ (v1331 : BitVec 32) (k0_hw148 : k0_chk148 v1331), 2 ∣ (k0_mult148 v1331).toNat := fun v1331 k0_hw148 => k0_hw148.1
theorem k0_off296_inb : ∀ (v1331 : BitVec 32) (k0_hw148 : k0_chk148 v1331), ∀ a, (k0_off296 v1331) a + S2x128.size a ≤ S100000x128.size a := fun v1331 k0_hw148 => k0_hw148.2

def k0_off297 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c148_i32 : BitVec 32 := 148#32
  let v1338 : BitVec 32 := Scalar.addi v5 c148_i32
  let v1339 : Index := Scalar.indexCast v1338
  ![v1339.toNat]
def k0_mult149 (v1340 : BitVec 32) : BitVec 32 :=
  v1340

def k0_off298 (v1340 : BitVec 32) : Fin 2 → Nat :=
  let v1341 : BitVec 32 := v1340
  let v1342 : Index := Scalar.indexCast v1341
  let c0_298 : Index := 0#32
  ![v1342.toNat, 0]

def k0_chk149 (v1340 : BitVec 32) : Prop :=
  (2 ∣ (k0_mult149 v1340).toNat) ∧
  (∀ a, (k0_off298 v1340) a + S2x128.size a ≤ S100000x128.size a)
theorem k0_mult149_dvd : ∀ (v1340 : BitVec 32) (k0_hw149 : k0_chk149 v1340), 2 ∣ (k0_mult149 v1340).toNat := fun v1340 k0_hw149 => k0_hw149.1
theorem k0_off298_inb : ∀ (v1340 : BitVec 32) (k0_hw149 : k0_chk149 v1340), ∀ a, (k0_off298 v1340) a + S2x128.size a ≤ S100000x128.size a := fun v1340 k0_hw149 => k0_hw149.2

def k0_off299 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c149_i32 : BitVec 32 := 149#32
  let v1347 : BitVec 32 := Scalar.addi v5 c149_i32
  let v1348 : Index := Scalar.indexCast v1347
  ![v1348.toNat]
def k0_mult150 (v1349 : BitVec 32) : BitVec 32 :=
  v1349

def k0_off300 (v1349 : BitVec 32) : Fin 2 → Nat :=
  let v1350 : BitVec 32 := v1349
  let v1351 : Index := Scalar.indexCast v1350
  let c0_300 : Index := 0#32
  ![v1351.toNat, 0]

def k0_chk150 (v1349 : BitVec 32) : Prop :=
  (2 ∣ (k0_mult150 v1349).toNat) ∧
  (∀ a, (k0_off300 v1349) a + S2x128.size a ≤ S100000x128.size a)
theorem k0_mult150_dvd : ∀ (v1349 : BitVec 32) (k0_hw150 : k0_chk150 v1349), 2 ∣ (k0_mult150 v1349).toNat := fun v1349 k0_hw150 => k0_hw150.1
theorem k0_off300_inb : ∀ (v1349 : BitVec 32) (k0_hw150 : k0_chk150 v1349), ∀ a, (k0_off300 v1349) a + S2x128.size a ≤ S100000x128.size a := fun v1349 k0_hw150 => k0_hw150.2

def k0_off301 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c150_i32 : BitVec 32 := 150#32
  let v1356 : BitVec 32 := Scalar.addi v5 c150_i32
  let v1357 : Index := Scalar.indexCast v1356
  ![v1357.toNat]
def k0_mult151 (v1358 : BitVec 32) : BitVec 32 :=
  v1358

def k0_off302 (v1358 : BitVec 32) : Fin 2 → Nat :=
  let v1359 : BitVec 32 := v1358
  let v1360 : Index := Scalar.indexCast v1359
  let c0_302 : Index := 0#32
  ![v1360.toNat, 0]

def k0_chk151 (v1358 : BitVec 32) : Prop :=
  (2 ∣ (k0_mult151 v1358).toNat) ∧
  (∀ a, (k0_off302 v1358) a + S2x128.size a ≤ S100000x128.size a)
theorem k0_mult151_dvd : ∀ (v1358 : BitVec 32) (k0_hw151 : k0_chk151 v1358), 2 ∣ (k0_mult151 v1358).toNat := fun v1358 k0_hw151 => k0_hw151.1
theorem k0_off302_inb : ∀ (v1358 : BitVec 32) (k0_hw151 : k0_chk151 v1358), ∀ a, (k0_off302 v1358) a + S2x128.size a ≤ S100000x128.size a := fun v1358 k0_hw151 => k0_hw151.2

def k0_off303 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c151_i32 : BitVec 32 := 151#32
  let v1365 : BitVec 32 := Scalar.addi v5 c151_i32
  let v1366 : Index := Scalar.indexCast v1365
  ![v1366.toNat]
def k0_mult152 (v1367 : BitVec 32) : BitVec 32 :=
  v1367

def k0_off304 (v1367 : BitVec 32) : Fin 2 → Nat :=
  let v1368 : BitVec 32 := v1367
  let v1369 : Index := Scalar.indexCast v1368
  let c0_304 : Index := 0#32
  ![v1369.toNat, 0]

def k0_chk152 (v1367 : BitVec 32) : Prop :=
  (2 ∣ (k0_mult152 v1367).toNat) ∧
  (∀ a, (k0_off304 v1367) a + S2x128.size a ≤ S100000x128.size a)
theorem k0_mult152_dvd : ∀ (v1367 : BitVec 32) (k0_hw152 : k0_chk152 v1367), 2 ∣ (k0_mult152 v1367).toNat := fun v1367 k0_hw152 => k0_hw152.1
theorem k0_off304_inb : ∀ (v1367 : BitVec 32) (k0_hw152 : k0_chk152 v1367), ∀ a, (k0_off304 v1367) a + S2x128.size a ≤ S100000x128.size a := fun v1367 k0_hw152 => k0_hw152.2

def k0_off305 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c152_i32 : BitVec 32 := 152#32
  let v1374 : BitVec 32 := Scalar.addi v5 c152_i32
  let v1375 : Index := Scalar.indexCast v1374
  ![v1375.toNat]
def k0_mult153 (v1376 : BitVec 32) : BitVec 32 :=
  v1376

def k0_off306 (v1376 : BitVec 32) : Fin 2 → Nat :=
  let v1377 : BitVec 32 := v1376
  let v1378 : Index := Scalar.indexCast v1377
  let c0_306 : Index := 0#32
  ![v1378.toNat, 0]

def k0_chk153 (v1376 : BitVec 32) : Prop :=
  (2 ∣ (k0_mult153 v1376).toNat) ∧
  (∀ a, (k0_off306 v1376) a + S2x128.size a ≤ S100000x128.size a)
theorem k0_mult153_dvd : ∀ (v1376 : BitVec 32) (k0_hw153 : k0_chk153 v1376), 2 ∣ (k0_mult153 v1376).toNat := fun v1376 k0_hw153 => k0_hw153.1
theorem k0_off306_inb : ∀ (v1376 : BitVec 32) (k0_hw153 : k0_chk153 v1376), ∀ a, (k0_off306 v1376) a + S2x128.size a ≤ S100000x128.size a := fun v1376 k0_hw153 => k0_hw153.2

def k0_off307 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c153_i32 : BitVec 32 := 153#32
  let v1383 : BitVec 32 := Scalar.addi v5 c153_i32
  let v1384 : Index := Scalar.indexCast v1383
  ![v1384.toNat]
def k0_mult154 (v1385 : BitVec 32) : BitVec 32 :=
  v1385

def k0_off308 (v1385 : BitVec 32) : Fin 2 → Nat :=
  let v1386 : BitVec 32 := v1385
  let v1387 : Index := Scalar.indexCast v1386
  let c0_308 : Index := 0#32
  ![v1387.toNat, 0]

def k0_chk154 (v1385 : BitVec 32) : Prop :=
  (2 ∣ (k0_mult154 v1385).toNat) ∧
  (∀ a, (k0_off308 v1385) a + S2x128.size a ≤ S100000x128.size a)
theorem k0_mult154_dvd : ∀ (v1385 : BitVec 32) (k0_hw154 : k0_chk154 v1385), 2 ∣ (k0_mult154 v1385).toNat := fun v1385 k0_hw154 => k0_hw154.1
theorem k0_off308_inb : ∀ (v1385 : BitVec 32) (k0_hw154 : k0_chk154 v1385), ∀ a, (k0_off308 v1385) a + S2x128.size a ≤ S100000x128.size a := fun v1385 k0_hw154 => k0_hw154.2

def k0_off309 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c154_i32 : BitVec 32 := 154#32
  let v1392 : BitVec 32 := Scalar.addi v5 c154_i32
  let v1393 : Index := Scalar.indexCast v1392
  ![v1393.toNat]
def k0_mult155 (v1394 : BitVec 32) : BitVec 32 :=
  v1394

def k0_off310 (v1394 : BitVec 32) : Fin 2 → Nat :=
  let v1395 : BitVec 32 := v1394
  let v1396 : Index := Scalar.indexCast v1395
  let c0_310 : Index := 0#32
  ![v1396.toNat, 0]

def k0_chk155 (v1394 : BitVec 32) : Prop :=
  (2 ∣ (k0_mult155 v1394).toNat) ∧
  (∀ a, (k0_off310 v1394) a + S2x128.size a ≤ S100000x128.size a)
theorem k0_mult155_dvd : ∀ (v1394 : BitVec 32) (k0_hw155 : k0_chk155 v1394), 2 ∣ (k0_mult155 v1394).toNat := fun v1394 k0_hw155 => k0_hw155.1
theorem k0_off310_inb : ∀ (v1394 : BitVec 32) (k0_hw155 : k0_chk155 v1394), ∀ a, (k0_off310 v1394) a + S2x128.size a ≤ S100000x128.size a := fun v1394 k0_hw155 => k0_hw155.2

def k0_off311 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c155_i32 : BitVec 32 := 155#32
  let v1401 : BitVec 32 := Scalar.addi v5 c155_i32
  let v1402 : Index := Scalar.indexCast v1401
  ![v1402.toNat]
def k0_mult156 (v1403 : BitVec 32) : BitVec 32 :=
  v1403

def k0_off312 (v1403 : BitVec 32) : Fin 2 → Nat :=
  let v1404 : BitVec 32 := v1403
  let v1405 : Index := Scalar.indexCast v1404
  let c0_312 : Index := 0#32
  ![v1405.toNat, 0]

def k0_chk156 (v1403 : BitVec 32) : Prop :=
  (2 ∣ (k0_mult156 v1403).toNat) ∧
  (∀ a, (k0_off312 v1403) a + S2x128.size a ≤ S100000x128.size a)
theorem k0_mult156_dvd : ∀ (v1403 : BitVec 32) (k0_hw156 : k0_chk156 v1403), 2 ∣ (k0_mult156 v1403).toNat := fun v1403 k0_hw156 => k0_hw156.1
theorem k0_off312_inb : ∀ (v1403 : BitVec 32) (k0_hw156 : k0_chk156 v1403), ∀ a, (k0_off312 v1403) a + S2x128.size a ≤ S100000x128.size a := fun v1403 k0_hw156 => k0_hw156.2

def k0_off313 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c156_i32 : BitVec 32 := 156#32
  let v1410 : BitVec 32 := Scalar.addi v5 c156_i32
  let v1411 : Index := Scalar.indexCast v1410
  ![v1411.toNat]
def k0_mult157 (v1412 : BitVec 32) : BitVec 32 :=
  v1412

def k0_off314 (v1412 : BitVec 32) : Fin 2 → Nat :=
  let v1413 : BitVec 32 := v1412
  let v1414 : Index := Scalar.indexCast v1413
  let c0_314 : Index := 0#32
  ![v1414.toNat, 0]

def k0_chk157 (v1412 : BitVec 32) : Prop :=
  (2 ∣ (k0_mult157 v1412).toNat) ∧
  (∀ a, (k0_off314 v1412) a + S2x128.size a ≤ S100000x128.size a)
theorem k0_mult157_dvd : ∀ (v1412 : BitVec 32) (k0_hw157 : k0_chk157 v1412), 2 ∣ (k0_mult157 v1412).toNat := fun v1412 k0_hw157 => k0_hw157.1
theorem k0_off314_inb : ∀ (v1412 : BitVec 32) (k0_hw157 : k0_chk157 v1412), ∀ a, (k0_off314 v1412) a + S2x128.size a ≤ S100000x128.size a := fun v1412 k0_hw157 => k0_hw157.2

def k0_off315 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c157_i32 : BitVec 32 := 157#32
  let v1419 : BitVec 32 := Scalar.addi v5 c157_i32
  let v1420 : Index := Scalar.indexCast v1419
  ![v1420.toNat]
def k0_mult158 (v1421 : BitVec 32) : BitVec 32 :=
  v1421

def k0_off316 (v1421 : BitVec 32) : Fin 2 → Nat :=
  let v1422 : BitVec 32 := v1421
  let v1423 : Index := Scalar.indexCast v1422
  let c0_316 : Index := 0#32
  ![v1423.toNat, 0]

def k0_chk158 (v1421 : BitVec 32) : Prop :=
  (2 ∣ (k0_mult158 v1421).toNat) ∧
  (∀ a, (k0_off316 v1421) a + S2x128.size a ≤ S100000x128.size a)
theorem k0_mult158_dvd : ∀ (v1421 : BitVec 32) (k0_hw158 : k0_chk158 v1421), 2 ∣ (k0_mult158 v1421).toNat := fun v1421 k0_hw158 => k0_hw158.1
theorem k0_off316_inb : ∀ (v1421 : BitVec 32) (k0_hw158 : k0_chk158 v1421), ∀ a, (k0_off316 v1421) a + S2x128.size a ≤ S100000x128.size a := fun v1421 k0_hw158 => k0_hw158.2

def k0_off317 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c158_i32 : BitVec 32 := 158#32
  let v1428 : BitVec 32 := Scalar.addi v5 c158_i32
  let v1429 : Index := Scalar.indexCast v1428
  ![v1429.toNat]
def k0_mult159 (v1430 : BitVec 32) : BitVec 32 :=
  v1430

def k0_off318 (v1430 : BitVec 32) : Fin 2 → Nat :=
  let v1431 : BitVec 32 := v1430
  let v1432 : Index := Scalar.indexCast v1431
  let c0_318 : Index := 0#32
  ![v1432.toNat, 0]

def k0_chk159 (v1430 : BitVec 32) : Prop :=
  (2 ∣ (k0_mult159 v1430).toNat) ∧
  (∀ a, (k0_off318 v1430) a + S2x128.size a ≤ S100000x128.size a)
theorem k0_mult159_dvd : ∀ (v1430 : BitVec 32) (k0_hw159 : k0_chk159 v1430), 2 ∣ (k0_mult159 v1430).toNat := fun v1430 k0_hw159 => k0_hw159.1
theorem k0_off318_inb : ∀ (v1430 : BitVec 32) (k0_hw159 : k0_chk159 v1430), ∀ a, (k0_off318 v1430) a + S2x128.size a ≤ S100000x128.size a := fun v1430 k0_hw159 => k0_hw159.2

def k0_off319 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c159_i32 : BitVec 32 := 159#32
  let v1437 : BitVec 32 := Scalar.addi v5 c159_i32
  let v1438 : Index := Scalar.indexCast v1437
  ![v1438.toNat]
def k0_mult160 (v1439 : BitVec 32) : BitVec 32 :=
  v1439

def k0_off320 (v1439 : BitVec 32) : Fin 2 → Nat :=
  let v1440 : BitVec 32 := v1439
  let v1441 : Index := Scalar.indexCast v1440
  let c0_320 : Index := 0#32
  ![v1441.toNat, 0]

def k0_chk160 (v1439 : BitVec 32) : Prop :=
  (2 ∣ (k0_mult160 v1439).toNat) ∧
  (∀ a, (k0_off320 v1439) a + S2x128.size a ≤ S100000x128.size a)
theorem k0_mult160_dvd : ∀ (v1439 : BitVec 32) (k0_hw160 : k0_chk160 v1439), 2 ∣ (k0_mult160 v1439).toNat := fun v1439 k0_hw160 => k0_hw160.1
theorem k0_off320_inb : ∀ (v1439 : BitVec 32) (k0_hw160 : k0_chk160 v1439), ∀ a, (k0_off320 v1439) a + S2x128.size a ≤ S100000x128.size a := fun v1439 k0_hw160 => k0_hw160.2

def k0_off321 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c160_i32 : BitVec 32 := 160#32
  let v1446 : BitVec 32 := Scalar.addi v5 c160_i32
  let v1447 : Index := Scalar.indexCast v1446
  ![v1447.toNat]
def k0_mult161 (v1448 : BitVec 32) : BitVec 32 :=
  v1448

def k0_off322 (v1448 : BitVec 32) : Fin 2 → Nat :=
  let v1449 : BitVec 32 := v1448
  let v1450 : Index := Scalar.indexCast v1449
  let c0_322 : Index := 0#32
  ![v1450.toNat, 0]

def k0_chk161 (v1448 : BitVec 32) : Prop :=
  (2 ∣ (k0_mult161 v1448).toNat) ∧
  (∀ a, (k0_off322 v1448) a + S2x128.size a ≤ S100000x128.size a)
theorem k0_mult161_dvd : ∀ (v1448 : BitVec 32) (k0_hw161 : k0_chk161 v1448), 2 ∣ (k0_mult161 v1448).toNat := fun v1448 k0_hw161 => k0_hw161.1
theorem k0_off322_inb : ∀ (v1448 : BitVec 32) (k0_hw161 : k0_chk161 v1448), ∀ a, (k0_off322 v1448) a + S2x128.size a ≤ S100000x128.size a := fun v1448 k0_hw161 => k0_hw161.2

def k0_off323 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c161_i32 : BitVec 32 := 161#32
  let v1455 : BitVec 32 := Scalar.addi v5 c161_i32
  let v1456 : Index := Scalar.indexCast v1455
  ![v1456.toNat]
def k0_mult162 (v1457 : BitVec 32) : BitVec 32 :=
  v1457

def k0_off324 (v1457 : BitVec 32) : Fin 2 → Nat :=
  let v1458 : BitVec 32 := v1457
  let v1459 : Index := Scalar.indexCast v1458
  let c0_324 : Index := 0#32
  ![v1459.toNat, 0]

def k0_chk162 (v1457 : BitVec 32) : Prop :=
  (2 ∣ (k0_mult162 v1457).toNat) ∧
  (∀ a, (k0_off324 v1457) a + S2x128.size a ≤ S100000x128.size a)
theorem k0_mult162_dvd : ∀ (v1457 : BitVec 32) (k0_hw162 : k0_chk162 v1457), 2 ∣ (k0_mult162 v1457).toNat := fun v1457 k0_hw162 => k0_hw162.1
theorem k0_off324_inb : ∀ (v1457 : BitVec 32) (k0_hw162 : k0_chk162 v1457), ∀ a, (k0_off324 v1457) a + S2x128.size a ≤ S100000x128.size a := fun v1457 k0_hw162 => k0_hw162.2

def k0_off325 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c162_i32 : BitVec 32 := 162#32
  let v1464 : BitVec 32 := Scalar.addi v5 c162_i32
  let v1465 : Index := Scalar.indexCast v1464
  ![v1465.toNat]
def k0_mult163 (v1466 : BitVec 32) : BitVec 32 :=
  v1466

def k0_off326 (v1466 : BitVec 32) : Fin 2 → Nat :=
  let v1467 : BitVec 32 := v1466
  let v1468 : Index := Scalar.indexCast v1467
  let c0_326 : Index := 0#32
  ![v1468.toNat, 0]

def k0_chk163 (v1466 : BitVec 32) : Prop :=
  (2 ∣ (k0_mult163 v1466).toNat) ∧
  (∀ a, (k0_off326 v1466) a + S2x128.size a ≤ S100000x128.size a)
theorem k0_mult163_dvd : ∀ (v1466 : BitVec 32) (k0_hw163 : k0_chk163 v1466), 2 ∣ (k0_mult163 v1466).toNat := fun v1466 k0_hw163 => k0_hw163.1
theorem k0_off326_inb : ∀ (v1466 : BitVec 32) (k0_hw163 : k0_chk163 v1466), ∀ a, (k0_off326 v1466) a + S2x128.size a ≤ S100000x128.size a := fun v1466 k0_hw163 => k0_hw163.2

def k0_off327 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c163_i32 : BitVec 32 := 163#32
  let v1473 : BitVec 32 := Scalar.addi v5 c163_i32
  let v1474 : Index := Scalar.indexCast v1473
  ![v1474.toNat]
def k0_mult164 (v1475 : BitVec 32) : BitVec 32 :=
  v1475

def k0_off328 (v1475 : BitVec 32) : Fin 2 → Nat :=
  let v1476 : BitVec 32 := v1475
  let v1477 : Index := Scalar.indexCast v1476
  let c0_328 : Index := 0#32
  ![v1477.toNat, 0]

def k0_chk164 (v1475 : BitVec 32) : Prop :=
  (2 ∣ (k0_mult164 v1475).toNat) ∧
  (∀ a, (k0_off328 v1475) a + S2x128.size a ≤ S100000x128.size a)
theorem k0_mult164_dvd : ∀ (v1475 : BitVec 32) (k0_hw164 : k0_chk164 v1475), 2 ∣ (k0_mult164 v1475).toNat := fun v1475 k0_hw164 => k0_hw164.1
theorem k0_off328_inb : ∀ (v1475 : BitVec 32) (k0_hw164 : k0_chk164 v1475), ∀ a, (k0_off328 v1475) a + S2x128.size a ≤ S100000x128.size a := fun v1475 k0_hw164 => k0_hw164.2

def k0_off329 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c164_i32 : BitVec 32 := 164#32
  let v1482 : BitVec 32 := Scalar.addi v5 c164_i32
  let v1483 : Index := Scalar.indexCast v1482
  ![v1483.toNat]
def k0_mult165 (v1484 : BitVec 32) : BitVec 32 :=
  v1484

def k0_off330 (v1484 : BitVec 32) : Fin 2 → Nat :=
  let v1485 : BitVec 32 := v1484
  let v1486 : Index := Scalar.indexCast v1485
  let c0_330 : Index := 0#32
  ![v1486.toNat, 0]

def k0_chk165 (v1484 : BitVec 32) : Prop :=
  (2 ∣ (k0_mult165 v1484).toNat) ∧
  (∀ a, (k0_off330 v1484) a + S2x128.size a ≤ S100000x128.size a)
theorem k0_mult165_dvd : ∀ (v1484 : BitVec 32) (k0_hw165 : k0_chk165 v1484), 2 ∣ (k0_mult165 v1484).toNat := fun v1484 k0_hw165 => k0_hw165.1
theorem k0_off330_inb : ∀ (v1484 : BitVec 32) (k0_hw165 : k0_chk165 v1484), ∀ a, (k0_off330 v1484) a + S2x128.size a ≤ S100000x128.size a := fun v1484 k0_hw165 => k0_hw165.2

def k0_off331 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c165_i32 : BitVec 32 := 165#32
  let v1491 : BitVec 32 := Scalar.addi v5 c165_i32
  let v1492 : Index := Scalar.indexCast v1491
  ![v1492.toNat]
def k0_mult166 (v1493 : BitVec 32) : BitVec 32 :=
  v1493

def k0_off332 (v1493 : BitVec 32) : Fin 2 → Nat :=
  let v1494 : BitVec 32 := v1493
  let v1495 : Index := Scalar.indexCast v1494
  let c0_332 : Index := 0#32
  ![v1495.toNat, 0]

def k0_chk166 (v1493 : BitVec 32) : Prop :=
  (2 ∣ (k0_mult166 v1493).toNat) ∧
  (∀ a, (k0_off332 v1493) a + S2x128.size a ≤ S100000x128.size a)
theorem k0_mult166_dvd : ∀ (v1493 : BitVec 32) (k0_hw166 : k0_chk166 v1493), 2 ∣ (k0_mult166 v1493).toNat := fun v1493 k0_hw166 => k0_hw166.1
theorem k0_off332_inb : ∀ (v1493 : BitVec 32) (k0_hw166 : k0_chk166 v1493), ∀ a, (k0_off332 v1493) a + S2x128.size a ≤ S100000x128.size a := fun v1493 k0_hw166 => k0_hw166.2

def k0_off333 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c166_i32 : BitVec 32 := 166#32
  let v1500 : BitVec 32 := Scalar.addi v5 c166_i32
  let v1501 : Index := Scalar.indexCast v1500
  ![v1501.toNat]
def k0_mult167 (v1502 : BitVec 32) : BitVec 32 :=
  v1502

def k0_off334 (v1502 : BitVec 32) : Fin 2 → Nat :=
  let v1503 : BitVec 32 := v1502
  let v1504 : Index := Scalar.indexCast v1503
  let c0_334 : Index := 0#32
  ![v1504.toNat, 0]

def k0_chk167 (v1502 : BitVec 32) : Prop :=
  (2 ∣ (k0_mult167 v1502).toNat) ∧
  (∀ a, (k0_off334 v1502) a + S2x128.size a ≤ S100000x128.size a)
theorem k0_mult167_dvd : ∀ (v1502 : BitVec 32) (k0_hw167 : k0_chk167 v1502), 2 ∣ (k0_mult167 v1502).toNat := fun v1502 k0_hw167 => k0_hw167.1
theorem k0_off334_inb : ∀ (v1502 : BitVec 32) (k0_hw167 : k0_chk167 v1502), ∀ a, (k0_off334 v1502) a + S2x128.size a ≤ S100000x128.size a := fun v1502 k0_hw167 => k0_hw167.2

def k0_off335 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c167_i32 : BitVec 32 := 167#32
  let v1509 : BitVec 32 := Scalar.addi v5 c167_i32
  let v1510 : Index := Scalar.indexCast v1509
  ![v1510.toNat]
def k0_mult168 (v1511 : BitVec 32) : BitVec 32 :=
  v1511

def k0_off336 (v1511 : BitVec 32) : Fin 2 → Nat :=
  let v1512 : BitVec 32 := v1511
  let v1513 : Index := Scalar.indexCast v1512
  let c0_336 : Index := 0#32
  ![v1513.toNat, 0]

def k0_chk168 (v1511 : BitVec 32) : Prop :=
  (2 ∣ (k0_mult168 v1511).toNat) ∧
  (∀ a, (k0_off336 v1511) a + S2x128.size a ≤ S100000x128.size a)
theorem k0_mult168_dvd : ∀ (v1511 : BitVec 32) (k0_hw168 : k0_chk168 v1511), 2 ∣ (k0_mult168 v1511).toNat := fun v1511 k0_hw168 => k0_hw168.1
theorem k0_off336_inb : ∀ (v1511 : BitVec 32) (k0_hw168 : k0_chk168 v1511), ∀ a, (k0_off336 v1511) a + S2x128.size a ≤ S100000x128.size a := fun v1511 k0_hw168 => k0_hw168.2

def k0_off337 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c168_i32 : BitVec 32 := 168#32
  let v1518 : BitVec 32 := Scalar.addi v5 c168_i32
  let v1519 : Index := Scalar.indexCast v1518
  ![v1519.toNat]
def k0_mult169 (v1520 : BitVec 32) : BitVec 32 :=
  v1520

def k0_off338 (v1520 : BitVec 32) : Fin 2 → Nat :=
  let v1521 : BitVec 32 := v1520
  let v1522 : Index := Scalar.indexCast v1521
  let c0_338 : Index := 0#32
  ![v1522.toNat, 0]

def k0_chk169 (v1520 : BitVec 32) : Prop :=
  (2 ∣ (k0_mult169 v1520).toNat) ∧
  (∀ a, (k0_off338 v1520) a + S2x128.size a ≤ S100000x128.size a)
theorem k0_mult169_dvd : ∀ (v1520 : BitVec 32) (k0_hw169 : k0_chk169 v1520), 2 ∣ (k0_mult169 v1520).toNat := fun v1520 k0_hw169 => k0_hw169.1
theorem k0_off338_inb : ∀ (v1520 : BitVec 32) (k0_hw169 : k0_chk169 v1520), ∀ a, (k0_off338 v1520) a + S2x128.size a ≤ S100000x128.size a := fun v1520 k0_hw169 => k0_hw169.2

def k0_off339 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c169_i32 : BitVec 32 := 169#32
  let v1527 : BitVec 32 := Scalar.addi v5 c169_i32
  let v1528 : Index := Scalar.indexCast v1527
  ![v1528.toNat]
def k0_mult170 (v1529 : BitVec 32) : BitVec 32 :=
  v1529

def k0_off340 (v1529 : BitVec 32) : Fin 2 → Nat :=
  let v1530 : BitVec 32 := v1529
  let v1531 : Index := Scalar.indexCast v1530
  let c0_340 : Index := 0#32
  ![v1531.toNat, 0]

def k0_chk170 (v1529 : BitVec 32) : Prop :=
  (2 ∣ (k0_mult170 v1529).toNat) ∧
  (∀ a, (k0_off340 v1529) a + S2x128.size a ≤ S100000x128.size a)
theorem k0_mult170_dvd : ∀ (v1529 : BitVec 32) (k0_hw170 : k0_chk170 v1529), 2 ∣ (k0_mult170 v1529).toNat := fun v1529 k0_hw170 => k0_hw170.1
theorem k0_off340_inb : ∀ (v1529 : BitVec 32) (k0_hw170 : k0_chk170 v1529), ∀ a, (k0_off340 v1529) a + S2x128.size a ≤ S100000x128.size a := fun v1529 k0_hw170 => k0_hw170.2

def k0_off341 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c170_i32 : BitVec 32 := 170#32
  let v1536 : BitVec 32 := Scalar.addi v5 c170_i32
  let v1537 : Index := Scalar.indexCast v1536
  ![v1537.toNat]
def k0_mult171 (v1538 : BitVec 32) : BitVec 32 :=
  v1538

def k0_off342 (v1538 : BitVec 32) : Fin 2 → Nat :=
  let v1539 : BitVec 32 := v1538
  let v1540 : Index := Scalar.indexCast v1539
  let c0_342 : Index := 0#32
  ![v1540.toNat, 0]

def k0_chk171 (v1538 : BitVec 32) : Prop :=
  (2 ∣ (k0_mult171 v1538).toNat) ∧
  (∀ a, (k0_off342 v1538) a + S2x128.size a ≤ S100000x128.size a)
theorem k0_mult171_dvd : ∀ (v1538 : BitVec 32) (k0_hw171 : k0_chk171 v1538), 2 ∣ (k0_mult171 v1538).toNat := fun v1538 k0_hw171 => k0_hw171.1
theorem k0_off342_inb : ∀ (v1538 : BitVec 32) (k0_hw171 : k0_chk171 v1538), ∀ a, (k0_off342 v1538) a + S2x128.size a ≤ S100000x128.size a := fun v1538 k0_hw171 => k0_hw171.2

def k0_off343 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c171_i32 : BitVec 32 := 171#32
  let v1545 : BitVec 32 := Scalar.addi v5 c171_i32
  let v1546 : Index := Scalar.indexCast v1545
  ![v1546.toNat]
def k0_mult172 (v1547 : BitVec 32) : BitVec 32 :=
  v1547

def k0_off344 (v1547 : BitVec 32) : Fin 2 → Nat :=
  let v1548 : BitVec 32 := v1547
  let v1549 : Index := Scalar.indexCast v1548
  let c0_344 : Index := 0#32
  ![v1549.toNat, 0]

def k0_chk172 (v1547 : BitVec 32) : Prop :=
  (2 ∣ (k0_mult172 v1547).toNat) ∧
  (∀ a, (k0_off344 v1547) a + S2x128.size a ≤ S100000x128.size a)
theorem k0_mult172_dvd : ∀ (v1547 : BitVec 32) (k0_hw172 : k0_chk172 v1547), 2 ∣ (k0_mult172 v1547).toNat := fun v1547 k0_hw172 => k0_hw172.1
theorem k0_off344_inb : ∀ (v1547 : BitVec 32) (k0_hw172 : k0_chk172 v1547), ∀ a, (k0_off344 v1547) a + S2x128.size a ≤ S100000x128.size a := fun v1547 k0_hw172 => k0_hw172.2

def k0_off345 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c172_i32 : BitVec 32 := 172#32
  let v1554 : BitVec 32 := Scalar.addi v5 c172_i32
  let v1555 : Index := Scalar.indexCast v1554
  ![v1555.toNat]
def k0_mult173 (v1556 : BitVec 32) : BitVec 32 :=
  v1556

def k0_off346 (v1556 : BitVec 32) : Fin 2 → Nat :=
  let v1557 : BitVec 32 := v1556
  let v1558 : Index := Scalar.indexCast v1557
  let c0_346 : Index := 0#32
  ![v1558.toNat, 0]

def k0_chk173 (v1556 : BitVec 32) : Prop :=
  (2 ∣ (k0_mult173 v1556).toNat) ∧
  (∀ a, (k0_off346 v1556) a + S2x128.size a ≤ S100000x128.size a)
theorem k0_mult173_dvd : ∀ (v1556 : BitVec 32) (k0_hw173 : k0_chk173 v1556), 2 ∣ (k0_mult173 v1556).toNat := fun v1556 k0_hw173 => k0_hw173.1
theorem k0_off346_inb : ∀ (v1556 : BitVec 32) (k0_hw173 : k0_chk173 v1556), ∀ a, (k0_off346 v1556) a + S2x128.size a ≤ S100000x128.size a := fun v1556 k0_hw173 => k0_hw173.2

def k0_off347 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c173_i32 : BitVec 32 := 173#32
  let v1563 : BitVec 32 := Scalar.addi v5 c173_i32
  let v1564 : Index := Scalar.indexCast v1563
  ![v1564.toNat]
def k0_mult174 (v1565 : BitVec 32) : BitVec 32 :=
  v1565

def k0_off348 (v1565 : BitVec 32) : Fin 2 → Nat :=
  let v1566 : BitVec 32 := v1565
  let v1567 : Index := Scalar.indexCast v1566
  let c0_348 : Index := 0#32
  ![v1567.toNat, 0]

def k0_chk174 (v1565 : BitVec 32) : Prop :=
  (2 ∣ (k0_mult174 v1565).toNat) ∧
  (∀ a, (k0_off348 v1565) a + S2x128.size a ≤ S100000x128.size a)
theorem k0_mult174_dvd : ∀ (v1565 : BitVec 32) (k0_hw174 : k0_chk174 v1565), 2 ∣ (k0_mult174 v1565).toNat := fun v1565 k0_hw174 => k0_hw174.1
theorem k0_off348_inb : ∀ (v1565 : BitVec 32) (k0_hw174 : k0_chk174 v1565), ∀ a, (k0_off348 v1565) a + S2x128.size a ≤ S100000x128.size a := fun v1565 k0_hw174 => k0_hw174.2

def k0_off349 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c174_i32 : BitVec 32 := 174#32
  let v1572 : BitVec 32 := Scalar.addi v5 c174_i32
  let v1573 : Index := Scalar.indexCast v1572
  ![v1573.toNat]
def k0_mult175 (v1574 : BitVec 32) : BitVec 32 :=
  v1574

def k0_off350 (v1574 : BitVec 32) : Fin 2 → Nat :=
  let v1575 : BitVec 32 := v1574
  let v1576 : Index := Scalar.indexCast v1575
  let c0_350 : Index := 0#32
  ![v1576.toNat, 0]

def k0_chk175 (v1574 : BitVec 32) : Prop :=
  (2 ∣ (k0_mult175 v1574).toNat) ∧
  (∀ a, (k0_off350 v1574) a + S2x128.size a ≤ S100000x128.size a)
theorem k0_mult175_dvd : ∀ (v1574 : BitVec 32) (k0_hw175 : k0_chk175 v1574), 2 ∣ (k0_mult175 v1574).toNat := fun v1574 k0_hw175 => k0_hw175.1
theorem k0_off350_inb : ∀ (v1574 : BitVec 32) (k0_hw175 : k0_chk175 v1574), ∀ a, (k0_off350 v1574) a + S2x128.size a ≤ S100000x128.size a := fun v1574 k0_hw175 => k0_hw175.2

def k0_off351 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c175_i32 : BitVec 32 := 175#32
  let v1581 : BitVec 32 := Scalar.addi v5 c175_i32
  let v1582 : Index := Scalar.indexCast v1581
  ![v1582.toNat]
def k0_mult176 (v1583 : BitVec 32) : BitVec 32 :=
  v1583

def k0_off352 (v1583 : BitVec 32) : Fin 2 → Nat :=
  let v1584 : BitVec 32 := v1583
  let v1585 : Index := Scalar.indexCast v1584
  let c0_352 : Index := 0#32
  ![v1585.toNat, 0]

def k0_chk176 (v1583 : BitVec 32) : Prop :=
  (2 ∣ (k0_mult176 v1583).toNat) ∧
  (∀ a, (k0_off352 v1583) a + S2x128.size a ≤ S100000x128.size a)
theorem k0_mult176_dvd : ∀ (v1583 : BitVec 32) (k0_hw176 : k0_chk176 v1583), 2 ∣ (k0_mult176 v1583).toNat := fun v1583 k0_hw176 => k0_hw176.1
theorem k0_off352_inb : ∀ (v1583 : BitVec 32) (k0_hw176 : k0_chk176 v1583), ∀ a, (k0_off352 v1583) a + S2x128.size a ≤ S100000x128.size a := fun v1583 k0_hw176 => k0_hw176.2

def k0_off353 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c176_i32 : BitVec 32 := 176#32
  let v1590 : BitVec 32 := Scalar.addi v5 c176_i32
  let v1591 : Index := Scalar.indexCast v1590
  ![v1591.toNat]
def k0_mult177 (v1592 : BitVec 32) : BitVec 32 :=
  v1592

def k0_off354 (v1592 : BitVec 32) : Fin 2 → Nat :=
  let v1593 : BitVec 32 := v1592
  let v1594 : Index := Scalar.indexCast v1593
  let c0_354 : Index := 0#32
  ![v1594.toNat, 0]

def k0_chk177 (v1592 : BitVec 32) : Prop :=
  (2 ∣ (k0_mult177 v1592).toNat) ∧
  (∀ a, (k0_off354 v1592) a + S2x128.size a ≤ S100000x128.size a)
theorem k0_mult177_dvd : ∀ (v1592 : BitVec 32) (k0_hw177 : k0_chk177 v1592), 2 ∣ (k0_mult177 v1592).toNat := fun v1592 k0_hw177 => k0_hw177.1
theorem k0_off354_inb : ∀ (v1592 : BitVec 32) (k0_hw177 : k0_chk177 v1592), ∀ a, (k0_off354 v1592) a + S2x128.size a ≤ S100000x128.size a := fun v1592 k0_hw177 => k0_hw177.2

def k0_off355 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c177_i32 : BitVec 32 := 177#32
  let v1599 : BitVec 32 := Scalar.addi v5 c177_i32
  let v1600 : Index := Scalar.indexCast v1599
  ![v1600.toNat]
def k0_mult178 (v1601 : BitVec 32) : BitVec 32 :=
  v1601

def k0_off356 (v1601 : BitVec 32) : Fin 2 → Nat :=
  let v1602 : BitVec 32 := v1601
  let v1603 : Index := Scalar.indexCast v1602
  let c0_356 : Index := 0#32
  ![v1603.toNat, 0]

def k0_chk178 (v1601 : BitVec 32) : Prop :=
  (2 ∣ (k0_mult178 v1601).toNat) ∧
  (∀ a, (k0_off356 v1601) a + S2x128.size a ≤ S100000x128.size a)
theorem k0_mult178_dvd : ∀ (v1601 : BitVec 32) (k0_hw178 : k0_chk178 v1601), 2 ∣ (k0_mult178 v1601).toNat := fun v1601 k0_hw178 => k0_hw178.1
theorem k0_off356_inb : ∀ (v1601 : BitVec 32) (k0_hw178 : k0_chk178 v1601), ∀ a, (k0_off356 v1601) a + S2x128.size a ≤ S100000x128.size a := fun v1601 k0_hw178 => k0_hw178.2

def k0_off357 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c178_i32 : BitVec 32 := 178#32
  let v1608 : BitVec 32 := Scalar.addi v5 c178_i32
  let v1609 : Index := Scalar.indexCast v1608
  ![v1609.toNat]
def k0_mult179 (v1610 : BitVec 32) : BitVec 32 :=
  v1610

def k0_off358 (v1610 : BitVec 32) : Fin 2 → Nat :=
  let v1611 : BitVec 32 := v1610
  let v1612 : Index := Scalar.indexCast v1611
  let c0_358 : Index := 0#32
  ![v1612.toNat, 0]

def k0_chk179 (v1610 : BitVec 32) : Prop :=
  (2 ∣ (k0_mult179 v1610).toNat) ∧
  (∀ a, (k0_off358 v1610) a + S2x128.size a ≤ S100000x128.size a)
theorem k0_mult179_dvd : ∀ (v1610 : BitVec 32) (k0_hw179 : k0_chk179 v1610), 2 ∣ (k0_mult179 v1610).toNat := fun v1610 k0_hw179 => k0_hw179.1
theorem k0_off358_inb : ∀ (v1610 : BitVec 32) (k0_hw179 : k0_chk179 v1610), ∀ a, (k0_off358 v1610) a + S2x128.size a ≤ S100000x128.size a := fun v1610 k0_hw179 => k0_hw179.2

def k0_off359 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c179_i32 : BitVec 32 := 179#32
  let v1617 : BitVec 32 := Scalar.addi v5 c179_i32
  let v1618 : Index := Scalar.indexCast v1617
  ![v1618.toNat]
def k0_mult180 (v1619 : BitVec 32) : BitVec 32 :=
  v1619

def k0_off360 (v1619 : BitVec 32) : Fin 2 → Nat :=
  let v1620 : BitVec 32 := v1619
  let v1621 : Index := Scalar.indexCast v1620
  let c0_360 : Index := 0#32
  ![v1621.toNat, 0]

def k0_chk180 (v1619 : BitVec 32) : Prop :=
  (2 ∣ (k0_mult180 v1619).toNat) ∧
  (∀ a, (k0_off360 v1619) a + S2x128.size a ≤ S100000x128.size a)
theorem k0_mult180_dvd : ∀ (v1619 : BitVec 32) (k0_hw180 : k0_chk180 v1619), 2 ∣ (k0_mult180 v1619).toNat := fun v1619 k0_hw180 => k0_hw180.1
theorem k0_off360_inb : ∀ (v1619 : BitVec 32) (k0_hw180 : k0_chk180 v1619), ∀ a, (k0_off360 v1619) a + S2x128.size a ≤ S100000x128.size a := fun v1619 k0_hw180 => k0_hw180.2

def k0_off361 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c180_i32 : BitVec 32 := 180#32
  let v1626 : BitVec 32 := Scalar.addi v5 c180_i32
  let v1627 : Index := Scalar.indexCast v1626
  ![v1627.toNat]
def k0_mult181 (v1628 : BitVec 32) : BitVec 32 :=
  v1628

def k0_off362 (v1628 : BitVec 32) : Fin 2 → Nat :=
  let v1629 : BitVec 32 := v1628
  let v1630 : Index := Scalar.indexCast v1629
  let c0_362 : Index := 0#32
  ![v1630.toNat, 0]

def k0_chk181 (v1628 : BitVec 32) : Prop :=
  (2 ∣ (k0_mult181 v1628).toNat) ∧
  (∀ a, (k0_off362 v1628) a + S2x128.size a ≤ S100000x128.size a)
theorem k0_mult181_dvd : ∀ (v1628 : BitVec 32) (k0_hw181 : k0_chk181 v1628), 2 ∣ (k0_mult181 v1628).toNat := fun v1628 k0_hw181 => k0_hw181.1
theorem k0_off362_inb : ∀ (v1628 : BitVec 32) (k0_hw181 : k0_chk181 v1628), ∀ a, (k0_off362 v1628) a + S2x128.size a ≤ S100000x128.size a := fun v1628 k0_hw181 => k0_hw181.2

def k0_off363 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c181_i32 : BitVec 32 := 181#32
  let v1635 : BitVec 32 := Scalar.addi v5 c181_i32
  let v1636 : Index := Scalar.indexCast v1635
  ![v1636.toNat]
def k0_mult182 (v1637 : BitVec 32) : BitVec 32 :=
  v1637

def k0_off364 (v1637 : BitVec 32) : Fin 2 → Nat :=
  let v1638 : BitVec 32 := v1637
  let v1639 : Index := Scalar.indexCast v1638
  let c0_364 : Index := 0#32
  ![v1639.toNat, 0]

def k0_chk182 (v1637 : BitVec 32) : Prop :=
  (2 ∣ (k0_mult182 v1637).toNat) ∧
  (∀ a, (k0_off364 v1637) a + S2x128.size a ≤ S100000x128.size a)
theorem k0_mult182_dvd : ∀ (v1637 : BitVec 32) (k0_hw182 : k0_chk182 v1637), 2 ∣ (k0_mult182 v1637).toNat := fun v1637 k0_hw182 => k0_hw182.1
theorem k0_off364_inb : ∀ (v1637 : BitVec 32) (k0_hw182 : k0_chk182 v1637), ∀ a, (k0_off364 v1637) a + S2x128.size a ≤ S100000x128.size a := fun v1637 k0_hw182 => k0_hw182.2

def k0_off365 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c182_i32 : BitVec 32 := 182#32
  let v1644 : BitVec 32 := Scalar.addi v5 c182_i32
  let v1645 : Index := Scalar.indexCast v1644
  ![v1645.toNat]
def k0_mult183 (v1646 : BitVec 32) : BitVec 32 :=
  v1646

def k0_off366 (v1646 : BitVec 32) : Fin 2 → Nat :=
  let v1647 : BitVec 32 := v1646
  let v1648 : Index := Scalar.indexCast v1647
  let c0_366 : Index := 0#32
  ![v1648.toNat, 0]

def k0_chk183 (v1646 : BitVec 32) : Prop :=
  (2 ∣ (k0_mult183 v1646).toNat) ∧
  (∀ a, (k0_off366 v1646) a + S2x128.size a ≤ S100000x128.size a)
theorem k0_mult183_dvd : ∀ (v1646 : BitVec 32) (k0_hw183 : k0_chk183 v1646), 2 ∣ (k0_mult183 v1646).toNat := fun v1646 k0_hw183 => k0_hw183.1
theorem k0_off366_inb : ∀ (v1646 : BitVec 32) (k0_hw183 : k0_chk183 v1646), ∀ a, (k0_off366 v1646) a + S2x128.size a ≤ S100000x128.size a := fun v1646 k0_hw183 => k0_hw183.2

def k0_off367 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c183_i32 : BitVec 32 := 183#32
  let v1653 : BitVec 32 := Scalar.addi v5 c183_i32
  let v1654 : Index := Scalar.indexCast v1653
  ![v1654.toNat]
def k0_mult184 (v1655 : BitVec 32) : BitVec 32 :=
  v1655

def k0_off368 (v1655 : BitVec 32) : Fin 2 → Nat :=
  let v1656 : BitVec 32 := v1655
  let v1657 : Index := Scalar.indexCast v1656
  let c0_368 : Index := 0#32
  ![v1657.toNat, 0]

def k0_chk184 (v1655 : BitVec 32) : Prop :=
  (2 ∣ (k0_mult184 v1655).toNat) ∧
  (∀ a, (k0_off368 v1655) a + S2x128.size a ≤ S100000x128.size a)
theorem k0_mult184_dvd : ∀ (v1655 : BitVec 32) (k0_hw184 : k0_chk184 v1655), 2 ∣ (k0_mult184 v1655).toNat := fun v1655 k0_hw184 => k0_hw184.1
theorem k0_off368_inb : ∀ (v1655 : BitVec 32) (k0_hw184 : k0_chk184 v1655), ∀ a, (k0_off368 v1655) a + S2x128.size a ≤ S100000x128.size a := fun v1655 k0_hw184 => k0_hw184.2

def k0_off369 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c184_i32 : BitVec 32 := 184#32
  let v1662 : BitVec 32 := Scalar.addi v5 c184_i32
  let v1663 : Index := Scalar.indexCast v1662
  ![v1663.toNat]
def k0_mult185 (v1664 : BitVec 32) : BitVec 32 :=
  v1664

def k0_off370 (v1664 : BitVec 32) : Fin 2 → Nat :=
  let v1665 : BitVec 32 := v1664
  let v1666 : Index := Scalar.indexCast v1665
  let c0_370 : Index := 0#32
  ![v1666.toNat, 0]

def k0_chk185 (v1664 : BitVec 32) : Prop :=
  (2 ∣ (k0_mult185 v1664).toNat) ∧
  (∀ a, (k0_off370 v1664) a + S2x128.size a ≤ S100000x128.size a)
theorem k0_mult185_dvd : ∀ (v1664 : BitVec 32) (k0_hw185 : k0_chk185 v1664), 2 ∣ (k0_mult185 v1664).toNat := fun v1664 k0_hw185 => k0_hw185.1
theorem k0_off370_inb : ∀ (v1664 : BitVec 32) (k0_hw185 : k0_chk185 v1664), ∀ a, (k0_off370 v1664) a + S2x128.size a ≤ S100000x128.size a := fun v1664 k0_hw185 => k0_hw185.2

def k0_off371 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c185_i32 : BitVec 32 := 185#32
  let v1671 : BitVec 32 := Scalar.addi v5 c185_i32
  let v1672 : Index := Scalar.indexCast v1671
  ![v1672.toNat]
def k0_mult186 (v1673 : BitVec 32) : BitVec 32 :=
  v1673

def k0_off372 (v1673 : BitVec 32) : Fin 2 → Nat :=
  let v1674 : BitVec 32 := v1673
  let v1675 : Index := Scalar.indexCast v1674
  let c0_372 : Index := 0#32
  ![v1675.toNat, 0]

def k0_chk186 (v1673 : BitVec 32) : Prop :=
  (2 ∣ (k0_mult186 v1673).toNat) ∧
  (∀ a, (k0_off372 v1673) a + S2x128.size a ≤ S100000x128.size a)
theorem k0_mult186_dvd : ∀ (v1673 : BitVec 32) (k0_hw186 : k0_chk186 v1673), 2 ∣ (k0_mult186 v1673).toNat := fun v1673 k0_hw186 => k0_hw186.1
theorem k0_off372_inb : ∀ (v1673 : BitVec 32) (k0_hw186 : k0_chk186 v1673), ∀ a, (k0_off372 v1673) a + S2x128.size a ≤ S100000x128.size a := fun v1673 k0_hw186 => k0_hw186.2

def k0_off373 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c186_i32 : BitVec 32 := 186#32
  let v1680 : BitVec 32 := Scalar.addi v5 c186_i32
  let v1681 : Index := Scalar.indexCast v1680
  ![v1681.toNat]
def k0_mult187 (v1682 : BitVec 32) : BitVec 32 :=
  v1682

def k0_off374 (v1682 : BitVec 32) : Fin 2 → Nat :=
  let v1683 : BitVec 32 := v1682
  let v1684 : Index := Scalar.indexCast v1683
  let c0_374 : Index := 0#32
  ![v1684.toNat, 0]

def k0_chk187 (v1682 : BitVec 32) : Prop :=
  (2 ∣ (k0_mult187 v1682).toNat) ∧
  (∀ a, (k0_off374 v1682) a + S2x128.size a ≤ S100000x128.size a)
theorem k0_mult187_dvd : ∀ (v1682 : BitVec 32) (k0_hw187 : k0_chk187 v1682), 2 ∣ (k0_mult187 v1682).toNat := fun v1682 k0_hw187 => k0_hw187.1
theorem k0_off374_inb : ∀ (v1682 : BitVec 32) (k0_hw187 : k0_chk187 v1682), ∀ a, (k0_off374 v1682) a + S2x128.size a ≤ S100000x128.size a := fun v1682 k0_hw187 => k0_hw187.2

def k0_off375 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c187_i32 : BitVec 32 := 187#32
  let v1689 : BitVec 32 := Scalar.addi v5 c187_i32
  let v1690 : Index := Scalar.indexCast v1689
  ![v1690.toNat]
def k0_mult188 (v1691 : BitVec 32) : BitVec 32 :=
  v1691

def k0_off376 (v1691 : BitVec 32) : Fin 2 → Nat :=
  let v1692 : BitVec 32 := v1691
  let v1693 : Index := Scalar.indexCast v1692
  let c0_376 : Index := 0#32
  ![v1693.toNat, 0]

def k0_chk188 (v1691 : BitVec 32) : Prop :=
  (2 ∣ (k0_mult188 v1691).toNat) ∧
  (∀ a, (k0_off376 v1691) a + S2x128.size a ≤ S100000x128.size a)
theorem k0_mult188_dvd : ∀ (v1691 : BitVec 32) (k0_hw188 : k0_chk188 v1691), 2 ∣ (k0_mult188 v1691).toNat := fun v1691 k0_hw188 => k0_hw188.1
theorem k0_off376_inb : ∀ (v1691 : BitVec 32) (k0_hw188 : k0_chk188 v1691), ∀ a, (k0_off376 v1691) a + S2x128.size a ≤ S100000x128.size a := fun v1691 k0_hw188 => k0_hw188.2

def k0_off377 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c188_i32 : BitVec 32 := 188#32
  let v1698 : BitVec 32 := Scalar.addi v5 c188_i32
  let v1699 : Index := Scalar.indexCast v1698
  ![v1699.toNat]
def k0_mult189 (v1700 : BitVec 32) : BitVec 32 :=
  v1700

def k0_off378 (v1700 : BitVec 32) : Fin 2 → Nat :=
  let v1701 : BitVec 32 := v1700
  let v1702 : Index := Scalar.indexCast v1701
  let c0_378 : Index := 0#32
  ![v1702.toNat, 0]

def k0_chk189 (v1700 : BitVec 32) : Prop :=
  (2 ∣ (k0_mult189 v1700).toNat) ∧
  (∀ a, (k0_off378 v1700) a + S2x128.size a ≤ S100000x128.size a)
theorem k0_mult189_dvd : ∀ (v1700 : BitVec 32) (k0_hw189 : k0_chk189 v1700), 2 ∣ (k0_mult189 v1700).toNat := fun v1700 k0_hw189 => k0_hw189.1
theorem k0_off378_inb : ∀ (v1700 : BitVec 32) (k0_hw189 : k0_chk189 v1700), ∀ a, (k0_off378 v1700) a + S2x128.size a ≤ S100000x128.size a := fun v1700 k0_hw189 => k0_hw189.2

def k0_off379 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c189_i32 : BitVec 32 := 189#32
  let v1707 : BitVec 32 := Scalar.addi v5 c189_i32
  let v1708 : Index := Scalar.indexCast v1707
  ![v1708.toNat]
def k0_mult190 (v1709 : BitVec 32) : BitVec 32 :=
  v1709

def k0_off380 (v1709 : BitVec 32) : Fin 2 → Nat :=
  let v1710 : BitVec 32 := v1709
  let v1711 : Index := Scalar.indexCast v1710
  let c0_380 : Index := 0#32
  ![v1711.toNat, 0]

def k0_chk190 (v1709 : BitVec 32) : Prop :=
  (2 ∣ (k0_mult190 v1709).toNat) ∧
  (∀ a, (k0_off380 v1709) a + S2x128.size a ≤ S100000x128.size a)
theorem k0_mult190_dvd : ∀ (v1709 : BitVec 32) (k0_hw190 : k0_chk190 v1709), 2 ∣ (k0_mult190 v1709).toNat := fun v1709 k0_hw190 => k0_hw190.1
theorem k0_off380_inb : ∀ (v1709 : BitVec 32) (k0_hw190 : k0_chk190 v1709), ∀ a, (k0_off380 v1709) a + S2x128.size a ≤ S100000x128.size a := fun v1709 k0_hw190 => k0_hw190.2

def k0_off381 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c190_i32 : BitVec 32 := 190#32
  let v1716 : BitVec 32 := Scalar.addi v5 c190_i32
  let v1717 : Index := Scalar.indexCast v1716
  ![v1717.toNat]
def k0_mult191 (v1718 : BitVec 32) : BitVec 32 :=
  v1718

def k0_off382 (v1718 : BitVec 32) : Fin 2 → Nat :=
  let v1719 : BitVec 32 := v1718
  let v1720 : Index := Scalar.indexCast v1719
  let c0_382 : Index := 0#32
  ![v1720.toNat, 0]

def k0_chk191 (v1718 : BitVec 32) : Prop :=
  (2 ∣ (k0_mult191 v1718).toNat) ∧
  (∀ a, (k0_off382 v1718) a + S2x128.size a ≤ S100000x128.size a)
theorem k0_mult191_dvd : ∀ (v1718 : BitVec 32) (k0_hw191 : k0_chk191 v1718), 2 ∣ (k0_mult191 v1718).toNat := fun v1718 k0_hw191 => k0_hw191.1
theorem k0_off382_inb : ∀ (v1718 : BitVec 32) (k0_hw191 : k0_chk191 v1718), ∀ a, (k0_off382 v1718) a + S2x128.size a ≤ S100000x128.size a := fun v1718 k0_hw191 => k0_hw191.2

def k0_off383 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c191_i32 : BitVec 32 := 191#32
  let v1725 : BitVec 32 := Scalar.addi v5 c191_i32
  let v1726 : Index := Scalar.indexCast v1725
  ![v1726.toNat]
def k0_mult192 (v1727 : BitVec 32) : BitVec 32 :=
  v1727

def k0_off384 (v1727 : BitVec 32) : Fin 2 → Nat :=
  let v1728 : BitVec 32 := v1727
  let v1729 : Index := Scalar.indexCast v1728
  let c0_384 : Index := 0#32
  ![v1729.toNat, 0]

def k0_chk192 (v1727 : BitVec 32) : Prop :=
  (2 ∣ (k0_mult192 v1727).toNat) ∧
  (∀ a, (k0_off384 v1727) a + S2x128.size a ≤ S100000x128.size a)
theorem k0_mult192_dvd : ∀ (v1727 : BitVec 32) (k0_hw192 : k0_chk192 v1727), 2 ∣ (k0_mult192 v1727).toNat := fun v1727 k0_hw192 => k0_hw192.1
theorem k0_off384_inb : ∀ (v1727 : BitVec 32) (k0_hw192 : k0_chk192 v1727), ∀ a, (k0_off384 v1727) a + S2x128.size a ≤ S100000x128.size a := fun v1727 k0_hw192 => k0_hw192.2

def k0_off385 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c192_i32 : BitVec 32 := 192#32
  let v1734 : BitVec 32 := Scalar.addi v5 c192_i32
  let v1735 : Index := Scalar.indexCast v1734
  ![v1735.toNat]
def k0_mult193 (v1736 : BitVec 32) : BitVec 32 :=
  v1736

def k0_off386 (v1736 : BitVec 32) : Fin 2 → Nat :=
  let v1737 : BitVec 32 := v1736
  let v1738 : Index := Scalar.indexCast v1737
  let c0_386 : Index := 0#32
  ![v1738.toNat, 0]

def k0_chk193 (v1736 : BitVec 32) : Prop :=
  (2 ∣ (k0_mult193 v1736).toNat) ∧
  (∀ a, (k0_off386 v1736) a + S2x128.size a ≤ S100000x128.size a)
theorem k0_mult193_dvd : ∀ (v1736 : BitVec 32) (k0_hw193 : k0_chk193 v1736), 2 ∣ (k0_mult193 v1736).toNat := fun v1736 k0_hw193 => k0_hw193.1
theorem k0_off386_inb : ∀ (v1736 : BitVec 32) (k0_hw193 : k0_chk193 v1736), ∀ a, (k0_off386 v1736) a + S2x128.size a ≤ S100000x128.size a := fun v1736 k0_hw193 => k0_hw193.2

def k0_off387 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c193_i32 : BitVec 32 := 193#32
  let v1743 : BitVec 32 := Scalar.addi v5 c193_i32
  let v1744 : Index := Scalar.indexCast v1743
  ![v1744.toNat]
def k0_mult194 (v1745 : BitVec 32) : BitVec 32 :=
  v1745

def k0_off388 (v1745 : BitVec 32) : Fin 2 → Nat :=
  let v1746 : BitVec 32 := v1745
  let v1747 : Index := Scalar.indexCast v1746
  let c0_388 : Index := 0#32
  ![v1747.toNat, 0]

def k0_chk194 (v1745 : BitVec 32) : Prop :=
  (2 ∣ (k0_mult194 v1745).toNat) ∧
  (∀ a, (k0_off388 v1745) a + S2x128.size a ≤ S100000x128.size a)
theorem k0_mult194_dvd : ∀ (v1745 : BitVec 32) (k0_hw194 : k0_chk194 v1745), 2 ∣ (k0_mult194 v1745).toNat := fun v1745 k0_hw194 => k0_hw194.1
theorem k0_off388_inb : ∀ (v1745 : BitVec 32) (k0_hw194 : k0_chk194 v1745), ∀ a, (k0_off388 v1745) a + S2x128.size a ≤ S100000x128.size a := fun v1745 k0_hw194 => k0_hw194.2

def k0_off389 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c194_i32 : BitVec 32 := 194#32
  let v1752 : BitVec 32 := Scalar.addi v5 c194_i32
  let v1753 : Index := Scalar.indexCast v1752
  ![v1753.toNat]
def k0_mult195 (v1754 : BitVec 32) : BitVec 32 :=
  v1754

def k0_off390 (v1754 : BitVec 32) : Fin 2 → Nat :=
  let v1755 : BitVec 32 := v1754
  let v1756 : Index := Scalar.indexCast v1755
  let c0_390 : Index := 0#32
  ![v1756.toNat, 0]

def k0_chk195 (v1754 : BitVec 32) : Prop :=
  (2 ∣ (k0_mult195 v1754).toNat) ∧
  (∀ a, (k0_off390 v1754) a + S2x128.size a ≤ S100000x128.size a)
theorem k0_mult195_dvd : ∀ (v1754 : BitVec 32) (k0_hw195 : k0_chk195 v1754), 2 ∣ (k0_mult195 v1754).toNat := fun v1754 k0_hw195 => k0_hw195.1
theorem k0_off390_inb : ∀ (v1754 : BitVec 32) (k0_hw195 : k0_chk195 v1754), ∀ a, (k0_off390 v1754) a + S2x128.size a ≤ S100000x128.size a := fun v1754 k0_hw195 => k0_hw195.2

def k0_off391 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c195_i32 : BitVec 32 := 195#32
  let v1761 : BitVec 32 := Scalar.addi v5 c195_i32
  let v1762 : Index := Scalar.indexCast v1761
  ![v1762.toNat]
def k0_mult196 (v1763 : BitVec 32) : BitVec 32 :=
  v1763

def k0_off392 (v1763 : BitVec 32) : Fin 2 → Nat :=
  let v1764 : BitVec 32 := v1763
  let v1765 : Index := Scalar.indexCast v1764
  let c0_392 : Index := 0#32
  ![v1765.toNat, 0]

def k0_chk196 (v1763 : BitVec 32) : Prop :=
  (2 ∣ (k0_mult196 v1763).toNat) ∧
  (∀ a, (k0_off392 v1763) a + S2x128.size a ≤ S100000x128.size a)
theorem k0_mult196_dvd : ∀ (v1763 : BitVec 32) (k0_hw196 : k0_chk196 v1763), 2 ∣ (k0_mult196 v1763).toNat := fun v1763 k0_hw196 => k0_hw196.1
theorem k0_off392_inb : ∀ (v1763 : BitVec 32) (k0_hw196 : k0_chk196 v1763), ∀ a, (k0_off392 v1763) a + S2x128.size a ≤ S100000x128.size a := fun v1763 k0_hw196 => k0_hw196.2

def k0_off393 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c196_i32 : BitVec 32 := 196#32
  let v1770 : BitVec 32 := Scalar.addi v5 c196_i32
  let v1771 : Index := Scalar.indexCast v1770
  ![v1771.toNat]
def k0_mult197 (v1772 : BitVec 32) : BitVec 32 :=
  v1772

def k0_off394 (v1772 : BitVec 32) : Fin 2 → Nat :=
  let v1773 : BitVec 32 := v1772
  let v1774 : Index := Scalar.indexCast v1773
  let c0_394 : Index := 0#32
  ![v1774.toNat, 0]

def k0_chk197 (v1772 : BitVec 32) : Prop :=
  (2 ∣ (k0_mult197 v1772).toNat) ∧
  (∀ a, (k0_off394 v1772) a + S2x128.size a ≤ S100000x128.size a)
theorem k0_mult197_dvd : ∀ (v1772 : BitVec 32) (k0_hw197 : k0_chk197 v1772), 2 ∣ (k0_mult197 v1772).toNat := fun v1772 k0_hw197 => k0_hw197.1
theorem k0_off394_inb : ∀ (v1772 : BitVec 32) (k0_hw197 : k0_chk197 v1772), ∀ a, (k0_off394 v1772) a + S2x128.size a ≤ S100000x128.size a := fun v1772 k0_hw197 => k0_hw197.2

def k0_off395 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c197_i32 : BitVec 32 := 197#32
  let v1779 : BitVec 32 := Scalar.addi v5 c197_i32
  let v1780 : Index := Scalar.indexCast v1779
  ![v1780.toNat]
def k0_mult198 (v1781 : BitVec 32) : BitVec 32 :=
  v1781

def k0_off396 (v1781 : BitVec 32) : Fin 2 → Nat :=
  let v1782 : BitVec 32 := v1781
  let v1783 : Index := Scalar.indexCast v1782
  let c0_396 : Index := 0#32
  ![v1783.toNat, 0]

def k0_chk198 (v1781 : BitVec 32) : Prop :=
  (2 ∣ (k0_mult198 v1781).toNat) ∧
  (∀ a, (k0_off396 v1781) a + S2x128.size a ≤ S100000x128.size a)
theorem k0_mult198_dvd : ∀ (v1781 : BitVec 32) (k0_hw198 : k0_chk198 v1781), 2 ∣ (k0_mult198 v1781).toNat := fun v1781 k0_hw198 => k0_hw198.1
theorem k0_off396_inb : ∀ (v1781 : BitVec 32) (k0_hw198 : k0_chk198 v1781), ∀ a, (k0_off396 v1781) a + S2x128.size a ≤ S100000x128.size a := fun v1781 k0_hw198 => k0_hw198.2

def k0_off397 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c198_i32 : BitVec 32 := 198#32
  let v1788 : BitVec 32 := Scalar.addi v5 c198_i32
  let v1789 : Index := Scalar.indexCast v1788
  ![v1789.toNat]
def k0_mult199 (v1790 : BitVec 32) : BitVec 32 :=
  v1790

def k0_off398 (v1790 : BitVec 32) : Fin 2 → Nat :=
  let v1791 : BitVec 32 := v1790
  let v1792 : Index := Scalar.indexCast v1791
  let c0_398 : Index := 0#32
  ![v1792.toNat, 0]

def k0_chk199 (v1790 : BitVec 32) : Prop :=
  (2 ∣ (k0_mult199 v1790).toNat) ∧
  (∀ a, (k0_off398 v1790) a + S2x128.size a ≤ S100000x128.size a)
theorem k0_mult199_dvd : ∀ (v1790 : BitVec 32) (k0_hw199 : k0_chk199 v1790), 2 ∣ (k0_mult199 v1790).toNat := fun v1790 k0_hw199 => k0_hw199.1
theorem k0_off398_inb : ∀ (v1790 : BitVec 32) (k0_hw199 : k0_chk199 v1790), ∀ a, (k0_off398 v1790) a + S2x128.size a ≤ S100000x128.size a := fun v1790 k0_hw199 => k0_hw199.2

def k0_off399 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c199_i32 : BitVec 32 := 199#32
  let v1797 : BitVec 32 := Scalar.addi v5 c199_i32
  let v1798 : Index := Scalar.indexCast v1797
  ![v1798.toNat]
def k0_mult200 (v1799 : BitVec 32) : BitVec 32 :=
  v1799

def k0_off400 (v1799 : BitVec 32) : Fin 2 → Nat :=
  let v1800 : BitVec 32 := v1799
  let v1801 : Index := Scalar.indexCast v1800
  let c0_400 : Index := 0#32
  ![v1801.toNat, 0]

def k0_chk200 (v1799 : BitVec 32) : Prop :=
  (2 ∣ (k0_mult200 v1799).toNat) ∧
  (∀ a, (k0_off400 v1799) a + S2x128.size a ≤ S100000x128.size a)
theorem k0_mult200_dvd : ∀ (v1799 : BitVec 32) (k0_hw200 : k0_chk200 v1799), 2 ∣ (k0_mult200 v1799).toNat := fun v1799 k0_hw200 => k0_hw200.1
theorem k0_off400_inb : ∀ (v1799 : BitVec 32) (k0_hw200 : k0_chk200 v1799), ∀ a, (k0_off400 v1799) a + S2x128.size a ≤ S100000x128.size a := fun v1799 k0_hw200 => k0_hw200.2

def k0_off401 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c200_i32 : BitVec 32 := 200#32
  let v1806 : BitVec 32 := Scalar.addi v5 c200_i32
  let v1807 : Index := Scalar.indexCast v1806
  ![v1807.toNat]
def k0_mult201 (v1808 : BitVec 32) : BitVec 32 :=
  v1808

def k0_off402 (v1808 : BitVec 32) : Fin 2 → Nat :=
  let v1809 : BitVec 32 := v1808
  let v1810 : Index := Scalar.indexCast v1809
  let c0_402 : Index := 0#32
  ![v1810.toNat, 0]

def k0_chk201 (v1808 : BitVec 32) : Prop :=
  (2 ∣ (k0_mult201 v1808).toNat) ∧
  (∀ a, (k0_off402 v1808) a + S2x128.size a ≤ S100000x128.size a)
theorem k0_mult201_dvd : ∀ (v1808 : BitVec 32) (k0_hw201 : k0_chk201 v1808), 2 ∣ (k0_mult201 v1808).toNat := fun v1808 k0_hw201 => k0_hw201.1
theorem k0_off402_inb : ∀ (v1808 : BitVec 32) (k0_hw201 : k0_chk201 v1808), ∀ a, (k0_off402 v1808) a + S2x128.size a ≤ S100000x128.size a := fun v1808 k0_hw201 => k0_hw201.2

def k0_off403 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c201_i32 : BitVec 32 := 201#32
  let v1815 : BitVec 32 := Scalar.addi v5 c201_i32
  let v1816 : Index := Scalar.indexCast v1815
  ![v1816.toNat]
def k0_mult202 (v1817 : BitVec 32) : BitVec 32 :=
  v1817

def k0_off404 (v1817 : BitVec 32) : Fin 2 → Nat :=
  let v1818 : BitVec 32 := v1817
  let v1819 : Index := Scalar.indexCast v1818
  let c0_404 : Index := 0#32
  ![v1819.toNat, 0]

def k0_chk202 (v1817 : BitVec 32) : Prop :=
  (2 ∣ (k0_mult202 v1817).toNat) ∧
  (∀ a, (k0_off404 v1817) a + S2x128.size a ≤ S100000x128.size a)
theorem k0_mult202_dvd : ∀ (v1817 : BitVec 32) (k0_hw202 : k0_chk202 v1817), 2 ∣ (k0_mult202 v1817).toNat := fun v1817 k0_hw202 => k0_hw202.1
theorem k0_off404_inb : ∀ (v1817 : BitVec 32) (k0_hw202 : k0_chk202 v1817), ∀ a, (k0_off404 v1817) a + S2x128.size a ≤ S100000x128.size a := fun v1817 k0_hw202 => k0_hw202.2

def k0_off405 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c202_i32 : BitVec 32 := 202#32
  let v1824 : BitVec 32 := Scalar.addi v5 c202_i32
  let v1825 : Index := Scalar.indexCast v1824
  ![v1825.toNat]
def k0_mult203 (v1826 : BitVec 32) : BitVec 32 :=
  v1826

def k0_off406 (v1826 : BitVec 32) : Fin 2 → Nat :=
  let v1827 : BitVec 32 := v1826
  let v1828 : Index := Scalar.indexCast v1827
  let c0_406 : Index := 0#32
  ![v1828.toNat, 0]

def k0_chk203 (v1826 : BitVec 32) : Prop :=
  (2 ∣ (k0_mult203 v1826).toNat) ∧
  (∀ a, (k0_off406 v1826) a + S2x128.size a ≤ S100000x128.size a)
theorem k0_mult203_dvd : ∀ (v1826 : BitVec 32) (k0_hw203 : k0_chk203 v1826), 2 ∣ (k0_mult203 v1826).toNat := fun v1826 k0_hw203 => k0_hw203.1
theorem k0_off406_inb : ∀ (v1826 : BitVec 32) (k0_hw203 : k0_chk203 v1826), ∀ a, (k0_off406 v1826) a + S2x128.size a ≤ S100000x128.size a := fun v1826 k0_hw203 => k0_hw203.2

def k0_off407 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c203_i32 : BitVec 32 := 203#32
  let v1833 : BitVec 32 := Scalar.addi v5 c203_i32
  let v1834 : Index := Scalar.indexCast v1833
  ![v1834.toNat]
def k0_mult204 (v1835 : BitVec 32) : BitVec 32 :=
  v1835

def k0_off408 (v1835 : BitVec 32) : Fin 2 → Nat :=
  let v1836 : BitVec 32 := v1835
  let v1837 : Index := Scalar.indexCast v1836
  let c0_408 : Index := 0#32
  ![v1837.toNat, 0]

def k0_chk204 (v1835 : BitVec 32) : Prop :=
  (2 ∣ (k0_mult204 v1835).toNat) ∧
  (∀ a, (k0_off408 v1835) a + S2x128.size a ≤ S100000x128.size a)
theorem k0_mult204_dvd : ∀ (v1835 : BitVec 32) (k0_hw204 : k0_chk204 v1835), 2 ∣ (k0_mult204 v1835).toNat := fun v1835 k0_hw204 => k0_hw204.1
theorem k0_off408_inb : ∀ (v1835 : BitVec 32) (k0_hw204 : k0_chk204 v1835), ∀ a, (k0_off408 v1835) a + S2x128.size a ≤ S100000x128.size a := fun v1835 k0_hw204 => k0_hw204.2

def k0_off409 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c204_i32 : BitVec 32 := 204#32
  let v1842 : BitVec 32 := Scalar.addi v5 c204_i32
  let v1843 : Index := Scalar.indexCast v1842
  ![v1843.toNat]
def k0_mult205 (v1844 : BitVec 32) : BitVec 32 :=
  v1844

def k0_off410 (v1844 : BitVec 32) : Fin 2 → Nat :=
  let v1845 : BitVec 32 := v1844
  let v1846 : Index := Scalar.indexCast v1845
  let c0_410 : Index := 0#32
  ![v1846.toNat, 0]

def k0_chk205 (v1844 : BitVec 32) : Prop :=
  (2 ∣ (k0_mult205 v1844).toNat) ∧
  (∀ a, (k0_off410 v1844) a + S2x128.size a ≤ S100000x128.size a)
theorem k0_mult205_dvd : ∀ (v1844 : BitVec 32) (k0_hw205 : k0_chk205 v1844), 2 ∣ (k0_mult205 v1844).toNat := fun v1844 k0_hw205 => k0_hw205.1
theorem k0_off410_inb : ∀ (v1844 : BitVec 32) (k0_hw205 : k0_chk205 v1844), ∀ a, (k0_off410 v1844) a + S2x128.size a ≤ S100000x128.size a := fun v1844 k0_hw205 => k0_hw205.2

def k0_off411 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c205_i32 : BitVec 32 := 205#32
  let v1851 : BitVec 32 := Scalar.addi v5 c205_i32
  let v1852 : Index := Scalar.indexCast v1851
  ![v1852.toNat]
def k0_mult206 (v1853 : BitVec 32) : BitVec 32 :=
  v1853

def k0_off412 (v1853 : BitVec 32) : Fin 2 → Nat :=
  let v1854 : BitVec 32 := v1853
  let v1855 : Index := Scalar.indexCast v1854
  let c0_412 : Index := 0#32
  ![v1855.toNat, 0]

def k0_chk206 (v1853 : BitVec 32) : Prop :=
  (2 ∣ (k0_mult206 v1853).toNat) ∧
  (∀ a, (k0_off412 v1853) a + S2x128.size a ≤ S100000x128.size a)
theorem k0_mult206_dvd : ∀ (v1853 : BitVec 32) (k0_hw206 : k0_chk206 v1853), 2 ∣ (k0_mult206 v1853).toNat := fun v1853 k0_hw206 => k0_hw206.1
theorem k0_off412_inb : ∀ (v1853 : BitVec 32) (k0_hw206 : k0_chk206 v1853), ∀ a, (k0_off412 v1853) a + S2x128.size a ≤ S100000x128.size a := fun v1853 k0_hw206 => k0_hw206.2

def k0_off413 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c206_i32 : BitVec 32 := 206#32
  let v1860 : BitVec 32 := Scalar.addi v5 c206_i32
  let v1861 : Index := Scalar.indexCast v1860
  ![v1861.toNat]
def k0_mult207 (v1862 : BitVec 32) : BitVec 32 :=
  v1862

def k0_off414 (v1862 : BitVec 32) : Fin 2 → Nat :=
  let v1863 : BitVec 32 := v1862
  let v1864 : Index := Scalar.indexCast v1863
  let c0_414 : Index := 0#32
  ![v1864.toNat, 0]

def k0_chk207 (v1862 : BitVec 32) : Prop :=
  (2 ∣ (k0_mult207 v1862).toNat) ∧
  (∀ a, (k0_off414 v1862) a + S2x128.size a ≤ S100000x128.size a)
theorem k0_mult207_dvd : ∀ (v1862 : BitVec 32) (k0_hw207 : k0_chk207 v1862), 2 ∣ (k0_mult207 v1862).toNat := fun v1862 k0_hw207 => k0_hw207.1
theorem k0_off414_inb : ∀ (v1862 : BitVec 32) (k0_hw207 : k0_chk207 v1862), ∀ a, (k0_off414 v1862) a + S2x128.size a ≤ S100000x128.size a := fun v1862 k0_hw207 => k0_hw207.2

def k0_off415 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c207_i32 : BitVec 32 := 207#32
  let v1869 : BitVec 32 := Scalar.addi v5 c207_i32
  let v1870 : Index := Scalar.indexCast v1869
  ![v1870.toNat]
def k0_mult208 (v1871 : BitVec 32) : BitVec 32 :=
  v1871

def k0_off416 (v1871 : BitVec 32) : Fin 2 → Nat :=
  let v1872 : BitVec 32 := v1871
  let v1873 : Index := Scalar.indexCast v1872
  let c0_416 : Index := 0#32
  ![v1873.toNat, 0]

def k0_chk208 (v1871 : BitVec 32) : Prop :=
  (2 ∣ (k0_mult208 v1871).toNat) ∧
  (∀ a, (k0_off416 v1871) a + S2x128.size a ≤ S100000x128.size a)
theorem k0_mult208_dvd : ∀ (v1871 : BitVec 32) (k0_hw208 : k0_chk208 v1871), 2 ∣ (k0_mult208 v1871).toNat := fun v1871 k0_hw208 => k0_hw208.1
theorem k0_off416_inb : ∀ (v1871 : BitVec 32) (k0_hw208 : k0_chk208 v1871), ∀ a, (k0_off416 v1871) a + S2x128.size a ≤ S100000x128.size a := fun v1871 k0_hw208 => k0_hw208.2

def k0_off417 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c208_i32 : BitVec 32 := 208#32
  let v1878 : BitVec 32 := Scalar.addi v5 c208_i32
  let v1879 : Index := Scalar.indexCast v1878
  ![v1879.toNat]
def k0_mult209 (v1880 : BitVec 32) : BitVec 32 :=
  v1880

def k0_off418 (v1880 : BitVec 32) : Fin 2 → Nat :=
  let v1881 : BitVec 32 := v1880
  let v1882 : Index := Scalar.indexCast v1881
  let c0_418 : Index := 0#32
  ![v1882.toNat, 0]

def k0_chk209 (v1880 : BitVec 32) : Prop :=
  (2 ∣ (k0_mult209 v1880).toNat) ∧
  (∀ a, (k0_off418 v1880) a + S2x128.size a ≤ S100000x128.size a)
theorem k0_mult209_dvd : ∀ (v1880 : BitVec 32) (k0_hw209 : k0_chk209 v1880), 2 ∣ (k0_mult209 v1880).toNat := fun v1880 k0_hw209 => k0_hw209.1
theorem k0_off418_inb : ∀ (v1880 : BitVec 32) (k0_hw209 : k0_chk209 v1880), ∀ a, (k0_off418 v1880) a + S2x128.size a ≤ S100000x128.size a := fun v1880 k0_hw209 => k0_hw209.2

def k0_off419 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c209_i32 : BitVec 32 := 209#32
  let v1887 : BitVec 32 := Scalar.addi v5 c209_i32
  let v1888 : Index := Scalar.indexCast v1887
  ![v1888.toNat]
def k0_mult210 (v1889 : BitVec 32) : BitVec 32 :=
  v1889

def k0_off420 (v1889 : BitVec 32) : Fin 2 → Nat :=
  let v1890 : BitVec 32 := v1889
  let v1891 : Index := Scalar.indexCast v1890
  let c0_420 : Index := 0#32
  ![v1891.toNat, 0]

def k0_chk210 (v1889 : BitVec 32) : Prop :=
  (2 ∣ (k0_mult210 v1889).toNat) ∧
  (∀ a, (k0_off420 v1889) a + S2x128.size a ≤ S100000x128.size a)
theorem k0_mult210_dvd : ∀ (v1889 : BitVec 32) (k0_hw210 : k0_chk210 v1889), 2 ∣ (k0_mult210 v1889).toNat := fun v1889 k0_hw210 => k0_hw210.1
theorem k0_off420_inb : ∀ (v1889 : BitVec 32) (k0_hw210 : k0_chk210 v1889), ∀ a, (k0_off420 v1889) a + S2x128.size a ≤ S100000x128.size a := fun v1889 k0_hw210 => k0_hw210.2

def k0_off421 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c210_i32 : BitVec 32 := 210#32
  let v1896 : BitVec 32 := Scalar.addi v5 c210_i32
  let v1897 : Index := Scalar.indexCast v1896
  ![v1897.toNat]
def k0_mult211 (v1898 : BitVec 32) : BitVec 32 :=
  v1898

def k0_off422 (v1898 : BitVec 32) : Fin 2 → Nat :=
  let v1899 : BitVec 32 := v1898
  let v1900 : Index := Scalar.indexCast v1899
  let c0_422 : Index := 0#32
  ![v1900.toNat, 0]

def k0_chk211 (v1898 : BitVec 32) : Prop :=
  (2 ∣ (k0_mult211 v1898).toNat) ∧
  (∀ a, (k0_off422 v1898) a + S2x128.size a ≤ S100000x128.size a)
theorem k0_mult211_dvd : ∀ (v1898 : BitVec 32) (k0_hw211 : k0_chk211 v1898), 2 ∣ (k0_mult211 v1898).toNat := fun v1898 k0_hw211 => k0_hw211.1
theorem k0_off422_inb : ∀ (v1898 : BitVec 32) (k0_hw211 : k0_chk211 v1898), ∀ a, (k0_off422 v1898) a + S2x128.size a ≤ S100000x128.size a := fun v1898 k0_hw211 => k0_hw211.2

def k0_off423 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c211_i32 : BitVec 32 := 211#32
  let v1905 : BitVec 32 := Scalar.addi v5 c211_i32
  let v1906 : Index := Scalar.indexCast v1905
  ![v1906.toNat]
def k0_mult212 (v1907 : BitVec 32) : BitVec 32 :=
  v1907

def k0_off424 (v1907 : BitVec 32) : Fin 2 → Nat :=
  let v1908 : BitVec 32 := v1907
  let v1909 : Index := Scalar.indexCast v1908
  let c0_424 : Index := 0#32
  ![v1909.toNat, 0]

def k0_chk212 (v1907 : BitVec 32) : Prop :=
  (2 ∣ (k0_mult212 v1907).toNat) ∧
  (∀ a, (k0_off424 v1907) a + S2x128.size a ≤ S100000x128.size a)
theorem k0_mult212_dvd : ∀ (v1907 : BitVec 32) (k0_hw212 : k0_chk212 v1907), 2 ∣ (k0_mult212 v1907).toNat := fun v1907 k0_hw212 => k0_hw212.1
theorem k0_off424_inb : ∀ (v1907 : BitVec 32) (k0_hw212 : k0_chk212 v1907), ∀ a, (k0_off424 v1907) a + S2x128.size a ≤ S100000x128.size a := fun v1907 k0_hw212 => k0_hw212.2

def k0_off425 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c212_i32 : BitVec 32 := 212#32
  let v1914 : BitVec 32 := Scalar.addi v5 c212_i32
  let v1915 : Index := Scalar.indexCast v1914
  ![v1915.toNat]
def k0_mult213 (v1916 : BitVec 32) : BitVec 32 :=
  v1916

def k0_off426 (v1916 : BitVec 32) : Fin 2 → Nat :=
  let v1917 : BitVec 32 := v1916
  let v1918 : Index := Scalar.indexCast v1917
  let c0_426 : Index := 0#32
  ![v1918.toNat, 0]

def k0_chk213 (v1916 : BitVec 32) : Prop :=
  (2 ∣ (k0_mult213 v1916).toNat) ∧
  (∀ a, (k0_off426 v1916) a + S2x128.size a ≤ S100000x128.size a)
theorem k0_mult213_dvd : ∀ (v1916 : BitVec 32) (k0_hw213 : k0_chk213 v1916), 2 ∣ (k0_mult213 v1916).toNat := fun v1916 k0_hw213 => k0_hw213.1
theorem k0_off426_inb : ∀ (v1916 : BitVec 32) (k0_hw213 : k0_chk213 v1916), ∀ a, (k0_off426 v1916) a + S2x128.size a ≤ S100000x128.size a := fun v1916 k0_hw213 => k0_hw213.2

def k0_off427 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c213_i32 : BitVec 32 := 213#32
  let v1923 : BitVec 32 := Scalar.addi v5 c213_i32
  let v1924 : Index := Scalar.indexCast v1923
  ![v1924.toNat]
def k0_mult214 (v1925 : BitVec 32) : BitVec 32 :=
  v1925

def k0_off428 (v1925 : BitVec 32) : Fin 2 → Nat :=
  let v1926 : BitVec 32 := v1925
  let v1927 : Index := Scalar.indexCast v1926
  let c0_428 : Index := 0#32
  ![v1927.toNat, 0]

def k0_chk214 (v1925 : BitVec 32) : Prop :=
  (2 ∣ (k0_mult214 v1925).toNat) ∧
  (∀ a, (k0_off428 v1925) a + S2x128.size a ≤ S100000x128.size a)
theorem k0_mult214_dvd : ∀ (v1925 : BitVec 32) (k0_hw214 : k0_chk214 v1925), 2 ∣ (k0_mult214 v1925).toNat := fun v1925 k0_hw214 => k0_hw214.1
theorem k0_off428_inb : ∀ (v1925 : BitVec 32) (k0_hw214 : k0_chk214 v1925), ∀ a, (k0_off428 v1925) a + S2x128.size a ≤ S100000x128.size a := fun v1925 k0_hw214 => k0_hw214.2

def k0_off429 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c214_i32 : BitVec 32 := 214#32
  let v1932 : BitVec 32 := Scalar.addi v5 c214_i32
  let v1933 : Index := Scalar.indexCast v1932
  ![v1933.toNat]
def k0_mult215 (v1934 : BitVec 32) : BitVec 32 :=
  v1934

def k0_off430 (v1934 : BitVec 32) : Fin 2 → Nat :=
  let v1935 : BitVec 32 := v1934
  let v1936 : Index := Scalar.indexCast v1935
  let c0_430 : Index := 0#32
  ![v1936.toNat, 0]

def k0_chk215 (v1934 : BitVec 32) : Prop :=
  (2 ∣ (k0_mult215 v1934).toNat) ∧
  (∀ a, (k0_off430 v1934) a + S2x128.size a ≤ S100000x128.size a)
theorem k0_mult215_dvd : ∀ (v1934 : BitVec 32) (k0_hw215 : k0_chk215 v1934), 2 ∣ (k0_mult215 v1934).toNat := fun v1934 k0_hw215 => k0_hw215.1
theorem k0_off430_inb : ∀ (v1934 : BitVec 32) (k0_hw215 : k0_chk215 v1934), ∀ a, (k0_off430 v1934) a + S2x128.size a ≤ S100000x128.size a := fun v1934 k0_hw215 => k0_hw215.2

def k0_off431 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c215_i32 : BitVec 32 := 215#32
  let v1941 : BitVec 32 := Scalar.addi v5 c215_i32
  let v1942 : Index := Scalar.indexCast v1941
  ![v1942.toNat]
def k0_mult216 (v1943 : BitVec 32) : BitVec 32 :=
  v1943

def k0_off432 (v1943 : BitVec 32) : Fin 2 → Nat :=
  let v1944 : BitVec 32 := v1943
  let v1945 : Index := Scalar.indexCast v1944
  let c0_432 : Index := 0#32
  ![v1945.toNat, 0]

def k0_chk216 (v1943 : BitVec 32) : Prop :=
  (2 ∣ (k0_mult216 v1943).toNat) ∧
  (∀ a, (k0_off432 v1943) a + S2x128.size a ≤ S100000x128.size a)
theorem k0_mult216_dvd : ∀ (v1943 : BitVec 32) (k0_hw216 : k0_chk216 v1943), 2 ∣ (k0_mult216 v1943).toNat := fun v1943 k0_hw216 => k0_hw216.1
theorem k0_off432_inb : ∀ (v1943 : BitVec 32) (k0_hw216 : k0_chk216 v1943), ∀ a, (k0_off432 v1943) a + S2x128.size a ≤ S100000x128.size a := fun v1943 k0_hw216 => k0_hw216.2

def k0_off433 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c216_i32 : BitVec 32 := 216#32
  let v1950 : BitVec 32 := Scalar.addi v5 c216_i32
  let v1951 : Index := Scalar.indexCast v1950
  ![v1951.toNat]
def k0_mult217 (v1952 : BitVec 32) : BitVec 32 :=
  v1952

def k0_off434 (v1952 : BitVec 32) : Fin 2 → Nat :=
  let v1953 : BitVec 32 := v1952
  let v1954 : Index := Scalar.indexCast v1953
  let c0_434 : Index := 0#32
  ![v1954.toNat, 0]

def k0_chk217 (v1952 : BitVec 32) : Prop :=
  (2 ∣ (k0_mult217 v1952).toNat) ∧
  (∀ a, (k0_off434 v1952) a + S2x128.size a ≤ S100000x128.size a)
theorem k0_mult217_dvd : ∀ (v1952 : BitVec 32) (k0_hw217 : k0_chk217 v1952), 2 ∣ (k0_mult217 v1952).toNat := fun v1952 k0_hw217 => k0_hw217.1
theorem k0_off434_inb : ∀ (v1952 : BitVec 32) (k0_hw217 : k0_chk217 v1952), ∀ a, (k0_off434 v1952) a + S2x128.size a ≤ S100000x128.size a := fun v1952 k0_hw217 => k0_hw217.2

def k0_off435 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c217_i32 : BitVec 32 := 217#32
  let v1959 : BitVec 32 := Scalar.addi v5 c217_i32
  let v1960 : Index := Scalar.indexCast v1959
  ![v1960.toNat]
def k0_mult218 (v1961 : BitVec 32) : BitVec 32 :=
  v1961

def k0_off436 (v1961 : BitVec 32) : Fin 2 → Nat :=
  let v1962 : BitVec 32 := v1961
  let v1963 : Index := Scalar.indexCast v1962
  let c0_436 : Index := 0#32
  ![v1963.toNat, 0]

def k0_chk218 (v1961 : BitVec 32) : Prop :=
  (2 ∣ (k0_mult218 v1961).toNat) ∧
  (∀ a, (k0_off436 v1961) a + S2x128.size a ≤ S100000x128.size a)
theorem k0_mult218_dvd : ∀ (v1961 : BitVec 32) (k0_hw218 : k0_chk218 v1961), 2 ∣ (k0_mult218 v1961).toNat := fun v1961 k0_hw218 => k0_hw218.1
theorem k0_off436_inb : ∀ (v1961 : BitVec 32) (k0_hw218 : k0_chk218 v1961), ∀ a, (k0_off436 v1961) a + S2x128.size a ≤ S100000x128.size a := fun v1961 k0_hw218 => k0_hw218.2

def k0_off437 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c218_i32 : BitVec 32 := 218#32
  let v1968 : BitVec 32 := Scalar.addi v5 c218_i32
  let v1969 : Index := Scalar.indexCast v1968
  ![v1969.toNat]
def k0_mult219 (v1970 : BitVec 32) : BitVec 32 :=
  v1970

def k0_off438 (v1970 : BitVec 32) : Fin 2 → Nat :=
  let v1971 : BitVec 32 := v1970
  let v1972 : Index := Scalar.indexCast v1971
  let c0_438 : Index := 0#32
  ![v1972.toNat, 0]

def k0_chk219 (v1970 : BitVec 32) : Prop :=
  (2 ∣ (k0_mult219 v1970).toNat) ∧
  (∀ a, (k0_off438 v1970) a + S2x128.size a ≤ S100000x128.size a)
theorem k0_mult219_dvd : ∀ (v1970 : BitVec 32) (k0_hw219 : k0_chk219 v1970), 2 ∣ (k0_mult219 v1970).toNat := fun v1970 k0_hw219 => k0_hw219.1
theorem k0_off438_inb : ∀ (v1970 : BitVec 32) (k0_hw219 : k0_chk219 v1970), ∀ a, (k0_off438 v1970) a + S2x128.size a ≤ S100000x128.size a := fun v1970 k0_hw219 => k0_hw219.2

def k0_off439 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c219_i32 : BitVec 32 := 219#32
  let v1977 : BitVec 32 := Scalar.addi v5 c219_i32
  let v1978 : Index := Scalar.indexCast v1977
  ![v1978.toNat]
def k0_mult220 (v1979 : BitVec 32) : BitVec 32 :=
  v1979

def k0_off440 (v1979 : BitVec 32) : Fin 2 → Nat :=
  let v1980 : BitVec 32 := v1979
  let v1981 : Index := Scalar.indexCast v1980
  let c0_440 : Index := 0#32
  ![v1981.toNat, 0]

def k0_chk220 (v1979 : BitVec 32) : Prop :=
  (2 ∣ (k0_mult220 v1979).toNat) ∧
  (∀ a, (k0_off440 v1979) a + S2x128.size a ≤ S100000x128.size a)
theorem k0_mult220_dvd : ∀ (v1979 : BitVec 32) (k0_hw220 : k0_chk220 v1979), 2 ∣ (k0_mult220 v1979).toNat := fun v1979 k0_hw220 => k0_hw220.1
theorem k0_off440_inb : ∀ (v1979 : BitVec 32) (k0_hw220 : k0_chk220 v1979), ∀ a, (k0_off440 v1979) a + S2x128.size a ≤ S100000x128.size a := fun v1979 k0_hw220 => k0_hw220.2

def k0_off441 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c220_i32 : BitVec 32 := 220#32
  let v1986 : BitVec 32 := Scalar.addi v5 c220_i32
  let v1987 : Index := Scalar.indexCast v1986
  ![v1987.toNat]
def k0_mult221 (v1988 : BitVec 32) : BitVec 32 :=
  v1988

def k0_off442 (v1988 : BitVec 32) : Fin 2 → Nat :=
  let v1989 : BitVec 32 := v1988
  let v1990 : Index := Scalar.indexCast v1989
  let c0_442 : Index := 0#32
  ![v1990.toNat, 0]

def k0_chk221 (v1988 : BitVec 32) : Prop :=
  (2 ∣ (k0_mult221 v1988).toNat) ∧
  (∀ a, (k0_off442 v1988) a + S2x128.size a ≤ S100000x128.size a)
theorem k0_mult221_dvd : ∀ (v1988 : BitVec 32) (k0_hw221 : k0_chk221 v1988), 2 ∣ (k0_mult221 v1988).toNat := fun v1988 k0_hw221 => k0_hw221.1
theorem k0_off442_inb : ∀ (v1988 : BitVec 32) (k0_hw221 : k0_chk221 v1988), ∀ a, (k0_off442 v1988) a + S2x128.size a ≤ S100000x128.size a := fun v1988 k0_hw221 => k0_hw221.2

def k0_off443 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c221_i32 : BitVec 32 := 221#32
  let v1995 : BitVec 32 := Scalar.addi v5 c221_i32
  let v1996 : Index := Scalar.indexCast v1995
  ![v1996.toNat]
def k0_mult222 (v1997 : BitVec 32) : BitVec 32 :=
  v1997

def k0_off444 (v1997 : BitVec 32) : Fin 2 → Nat :=
  let v1998 : BitVec 32 := v1997
  let v1999 : Index := Scalar.indexCast v1998
  let c0_444 : Index := 0#32
  ![v1999.toNat, 0]

def k0_chk222 (v1997 : BitVec 32) : Prop :=
  (2 ∣ (k0_mult222 v1997).toNat) ∧
  (∀ a, (k0_off444 v1997) a + S2x128.size a ≤ S100000x128.size a)
theorem k0_mult222_dvd : ∀ (v1997 : BitVec 32) (k0_hw222 : k0_chk222 v1997), 2 ∣ (k0_mult222 v1997).toNat := fun v1997 k0_hw222 => k0_hw222.1
theorem k0_off444_inb : ∀ (v1997 : BitVec 32) (k0_hw222 : k0_chk222 v1997), ∀ a, (k0_off444 v1997) a + S2x128.size a ≤ S100000x128.size a := fun v1997 k0_hw222 => k0_hw222.2

def k0_off445 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c222_i32 : BitVec 32 := 222#32
  let v2004 : BitVec 32 := Scalar.addi v5 c222_i32
  let v2005 : Index := Scalar.indexCast v2004
  ![v2005.toNat]
def k0_mult223 (v2006 : BitVec 32) : BitVec 32 :=
  v2006

def k0_off446 (v2006 : BitVec 32) : Fin 2 → Nat :=
  let v2007 : BitVec 32 := v2006
  let v2008 : Index := Scalar.indexCast v2007
  let c0_446 : Index := 0#32
  ![v2008.toNat, 0]

def k0_chk223 (v2006 : BitVec 32) : Prop :=
  (2 ∣ (k0_mult223 v2006).toNat) ∧
  (∀ a, (k0_off446 v2006) a + S2x128.size a ≤ S100000x128.size a)
theorem k0_mult223_dvd : ∀ (v2006 : BitVec 32) (k0_hw223 : k0_chk223 v2006), 2 ∣ (k0_mult223 v2006).toNat := fun v2006 k0_hw223 => k0_hw223.1
theorem k0_off446_inb : ∀ (v2006 : BitVec 32) (k0_hw223 : k0_chk223 v2006), ∀ a, (k0_off446 v2006) a + S2x128.size a ≤ S100000x128.size a := fun v2006 k0_hw223 => k0_hw223.2

def k0_off447 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c223_i32 : BitVec 32 := 223#32
  let v2013 : BitVec 32 := Scalar.addi v5 c223_i32
  let v2014 : Index := Scalar.indexCast v2013
  ![v2014.toNat]
def k0_mult224 (v2015 : BitVec 32) : BitVec 32 :=
  v2015

def k0_off448 (v2015 : BitVec 32) : Fin 2 → Nat :=
  let v2016 : BitVec 32 := v2015
  let v2017 : Index := Scalar.indexCast v2016
  let c0_448 : Index := 0#32
  ![v2017.toNat, 0]

def k0_chk224 (v2015 : BitVec 32) : Prop :=
  (2 ∣ (k0_mult224 v2015).toNat) ∧
  (∀ a, (k0_off448 v2015) a + S2x128.size a ≤ S100000x128.size a)
theorem k0_mult224_dvd : ∀ (v2015 : BitVec 32) (k0_hw224 : k0_chk224 v2015), 2 ∣ (k0_mult224 v2015).toNat := fun v2015 k0_hw224 => k0_hw224.1
theorem k0_off448_inb : ∀ (v2015 : BitVec 32) (k0_hw224 : k0_chk224 v2015), ∀ a, (k0_off448 v2015) a + S2x128.size a ≤ S100000x128.size a := fun v2015 k0_hw224 => k0_hw224.2

def k0_off449 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c224_i32 : BitVec 32 := 224#32
  let v2022 : BitVec 32 := Scalar.addi v5 c224_i32
  let v2023 : Index := Scalar.indexCast v2022
  ![v2023.toNat]
def k0_mult225 (v2024 : BitVec 32) : BitVec 32 :=
  v2024

def k0_off450 (v2024 : BitVec 32) : Fin 2 → Nat :=
  let v2025 : BitVec 32 := v2024
  let v2026 : Index := Scalar.indexCast v2025
  let c0_450 : Index := 0#32
  ![v2026.toNat, 0]

def k0_chk225 (v2024 : BitVec 32) : Prop :=
  (2 ∣ (k0_mult225 v2024).toNat) ∧
  (∀ a, (k0_off450 v2024) a + S2x128.size a ≤ S100000x128.size a)
theorem k0_mult225_dvd : ∀ (v2024 : BitVec 32) (k0_hw225 : k0_chk225 v2024), 2 ∣ (k0_mult225 v2024).toNat := fun v2024 k0_hw225 => k0_hw225.1
theorem k0_off450_inb : ∀ (v2024 : BitVec 32) (k0_hw225 : k0_chk225 v2024), ∀ a, (k0_off450 v2024) a + S2x128.size a ≤ S100000x128.size a := fun v2024 k0_hw225 => k0_hw225.2

def k0_off451 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c225_i32 : BitVec 32 := 225#32
  let v2031 : BitVec 32 := Scalar.addi v5 c225_i32
  let v2032 : Index := Scalar.indexCast v2031
  ![v2032.toNat]
def k0_mult226 (v2033 : BitVec 32) : BitVec 32 :=
  v2033

def k0_off452 (v2033 : BitVec 32) : Fin 2 → Nat :=
  let v2034 : BitVec 32 := v2033
  let v2035 : Index := Scalar.indexCast v2034
  let c0_452 : Index := 0#32
  ![v2035.toNat, 0]

def k0_chk226 (v2033 : BitVec 32) : Prop :=
  (2 ∣ (k0_mult226 v2033).toNat) ∧
  (∀ a, (k0_off452 v2033) a + S2x128.size a ≤ S100000x128.size a)
theorem k0_mult226_dvd : ∀ (v2033 : BitVec 32) (k0_hw226 : k0_chk226 v2033), 2 ∣ (k0_mult226 v2033).toNat := fun v2033 k0_hw226 => k0_hw226.1
theorem k0_off452_inb : ∀ (v2033 : BitVec 32) (k0_hw226 : k0_chk226 v2033), ∀ a, (k0_off452 v2033) a + S2x128.size a ≤ S100000x128.size a := fun v2033 k0_hw226 => k0_hw226.2

def k0_off453 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c226_i32 : BitVec 32 := 226#32
  let v2040 : BitVec 32 := Scalar.addi v5 c226_i32
  let v2041 : Index := Scalar.indexCast v2040
  ![v2041.toNat]
def k0_mult227 (v2042 : BitVec 32) : BitVec 32 :=
  v2042

def k0_off454 (v2042 : BitVec 32) : Fin 2 → Nat :=
  let v2043 : BitVec 32 := v2042
  let v2044 : Index := Scalar.indexCast v2043
  let c0_454 : Index := 0#32
  ![v2044.toNat, 0]

def k0_chk227 (v2042 : BitVec 32) : Prop :=
  (2 ∣ (k0_mult227 v2042).toNat) ∧
  (∀ a, (k0_off454 v2042) a + S2x128.size a ≤ S100000x128.size a)
theorem k0_mult227_dvd : ∀ (v2042 : BitVec 32) (k0_hw227 : k0_chk227 v2042), 2 ∣ (k0_mult227 v2042).toNat := fun v2042 k0_hw227 => k0_hw227.1
theorem k0_off454_inb : ∀ (v2042 : BitVec 32) (k0_hw227 : k0_chk227 v2042), ∀ a, (k0_off454 v2042) a + S2x128.size a ≤ S100000x128.size a := fun v2042 k0_hw227 => k0_hw227.2

def k0_off455 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c227_i32 : BitVec 32 := 227#32
  let v2049 : BitVec 32 := Scalar.addi v5 c227_i32
  let v2050 : Index := Scalar.indexCast v2049
  ![v2050.toNat]
def k0_mult228 (v2051 : BitVec 32) : BitVec 32 :=
  v2051

def k0_off456 (v2051 : BitVec 32) : Fin 2 → Nat :=
  let v2052 : BitVec 32 := v2051
  let v2053 : Index := Scalar.indexCast v2052
  let c0_456 : Index := 0#32
  ![v2053.toNat, 0]

def k0_chk228 (v2051 : BitVec 32) : Prop :=
  (2 ∣ (k0_mult228 v2051).toNat) ∧
  (∀ a, (k0_off456 v2051) a + S2x128.size a ≤ S100000x128.size a)
theorem k0_mult228_dvd : ∀ (v2051 : BitVec 32) (k0_hw228 : k0_chk228 v2051), 2 ∣ (k0_mult228 v2051).toNat := fun v2051 k0_hw228 => k0_hw228.1
theorem k0_off456_inb : ∀ (v2051 : BitVec 32) (k0_hw228 : k0_chk228 v2051), ∀ a, (k0_off456 v2051) a + S2x128.size a ≤ S100000x128.size a := fun v2051 k0_hw228 => k0_hw228.2

def k0_off457 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c228_i32 : BitVec 32 := 228#32
  let v2058 : BitVec 32 := Scalar.addi v5 c228_i32
  let v2059 : Index := Scalar.indexCast v2058
  ![v2059.toNat]
def k0_mult229 (v2060 : BitVec 32) : BitVec 32 :=
  v2060

def k0_off458 (v2060 : BitVec 32) : Fin 2 → Nat :=
  let v2061 : BitVec 32 := v2060
  let v2062 : Index := Scalar.indexCast v2061
  let c0_458 : Index := 0#32
  ![v2062.toNat, 0]

def k0_chk229 (v2060 : BitVec 32) : Prop :=
  (2 ∣ (k0_mult229 v2060).toNat) ∧
  (∀ a, (k0_off458 v2060) a + S2x128.size a ≤ S100000x128.size a)
theorem k0_mult229_dvd : ∀ (v2060 : BitVec 32) (k0_hw229 : k0_chk229 v2060), 2 ∣ (k0_mult229 v2060).toNat := fun v2060 k0_hw229 => k0_hw229.1
theorem k0_off458_inb : ∀ (v2060 : BitVec 32) (k0_hw229 : k0_chk229 v2060), ∀ a, (k0_off458 v2060) a + S2x128.size a ≤ S100000x128.size a := fun v2060 k0_hw229 => k0_hw229.2

def k0_off459 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c229_i32 : BitVec 32 := 229#32
  let v2067 : BitVec 32 := Scalar.addi v5 c229_i32
  let v2068 : Index := Scalar.indexCast v2067
  ![v2068.toNat]
def k0_mult230 (v2069 : BitVec 32) : BitVec 32 :=
  v2069

def k0_off460 (v2069 : BitVec 32) : Fin 2 → Nat :=
  let v2070 : BitVec 32 := v2069
  let v2071 : Index := Scalar.indexCast v2070
  let c0_460 : Index := 0#32
  ![v2071.toNat, 0]

def k0_chk230 (v2069 : BitVec 32) : Prop :=
  (2 ∣ (k0_mult230 v2069).toNat) ∧
  (∀ a, (k0_off460 v2069) a + S2x128.size a ≤ S100000x128.size a)
theorem k0_mult230_dvd : ∀ (v2069 : BitVec 32) (k0_hw230 : k0_chk230 v2069), 2 ∣ (k0_mult230 v2069).toNat := fun v2069 k0_hw230 => k0_hw230.1
theorem k0_off460_inb : ∀ (v2069 : BitVec 32) (k0_hw230 : k0_chk230 v2069), ∀ a, (k0_off460 v2069) a + S2x128.size a ≤ S100000x128.size a := fun v2069 k0_hw230 => k0_hw230.2

def k0_off461 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c230_i32 : BitVec 32 := 230#32
  let v2076 : BitVec 32 := Scalar.addi v5 c230_i32
  let v2077 : Index := Scalar.indexCast v2076
  ![v2077.toNat]
def k0_mult231 (v2078 : BitVec 32) : BitVec 32 :=
  v2078

def k0_off462 (v2078 : BitVec 32) : Fin 2 → Nat :=
  let v2079 : BitVec 32 := v2078
  let v2080 : Index := Scalar.indexCast v2079
  let c0_462 : Index := 0#32
  ![v2080.toNat, 0]

def k0_chk231 (v2078 : BitVec 32) : Prop :=
  (2 ∣ (k0_mult231 v2078).toNat) ∧
  (∀ a, (k0_off462 v2078) a + S2x128.size a ≤ S100000x128.size a)
theorem k0_mult231_dvd : ∀ (v2078 : BitVec 32) (k0_hw231 : k0_chk231 v2078), 2 ∣ (k0_mult231 v2078).toNat := fun v2078 k0_hw231 => k0_hw231.1
theorem k0_off462_inb : ∀ (v2078 : BitVec 32) (k0_hw231 : k0_chk231 v2078), ∀ a, (k0_off462 v2078) a + S2x128.size a ≤ S100000x128.size a := fun v2078 k0_hw231 => k0_hw231.2

def k0_off463 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c231_i32 : BitVec 32 := 231#32
  let v2085 : BitVec 32 := Scalar.addi v5 c231_i32
  let v2086 : Index := Scalar.indexCast v2085
  ![v2086.toNat]
def k0_mult232 (v2087 : BitVec 32) : BitVec 32 :=
  v2087

def k0_off464 (v2087 : BitVec 32) : Fin 2 → Nat :=
  let v2088 : BitVec 32 := v2087
  let v2089 : Index := Scalar.indexCast v2088
  let c0_464 : Index := 0#32
  ![v2089.toNat, 0]

def k0_chk232 (v2087 : BitVec 32) : Prop :=
  (2 ∣ (k0_mult232 v2087).toNat) ∧
  (∀ a, (k0_off464 v2087) a + S2x128.size a ≤ S100000x128.size a)
theorem k0_mult232_dvd : ∀ (v2087 : BitVec 32) (k0_hw232 : k0_chk232 v2087), 2 ∣ (k0_mult232 v2087).toNat := fun v2087 k0_hw232 => k0_hw232.1
theorem k0_off464_inb : ∀ (v2087 : BitVec 32) (k0_hw232 : k0_chk232 v2087), ∀ a, (k0_off464 v2087) a + S2x128.size a ≤ S100000x128.size a := fun v2087 k0_hw232 => k0_hw232.2

def k0_off465 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c232_i32 : BitVec 32 := 232#32
  let v2094 : BitVec 32 := Scalar.addi v5 c232_i32
  let v2095 : Index := Scalar.indexCast v2094
  ![v2095.toNat]
def k0_mult233 (v2096 : BitVec 32) : BitVec 32 :=
  v2096

def k0_off466 (v2096 : BitVec 32) : Fin 2 → Nat :=
  let v2097 : BitVec 32 := v2096
  let v2098 : Index := Scalar.indexCast v2097
  let c0_466 : Index := 0#32
  ![v2098.toNat, 0]

def k0_chk233 (v2096 : BitVec 32) : Prop :=
  (2 ∣ (k0_mult233 v2096).toNat) ∧
  (∀ a, (k0_off466 v2096) a + S2x128.size a ≤ S100000x128.size a)
theorem k0_mult233_dvd : ∀ (v2096 : BitVec 32) (k0_hw233 : k0_chk233 v2096), 2 ∣ (k0_mult233 v2096).toNat := fun v2096 k0_hw233 => k0_hw233.1
theorem k0_off466_inb : ∀ (v2096 : BitVec 32) (k0_hw233 : k0_chk233 v2096), ∀ a, (k0_off466 v2096) a + S2x128.size a ≤ S100000x128.size a := fun v2096 k0_hw233 => k0_hw233.2

def k0_off467 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c233_i32 : BitVec 32 := 233#32
  let v2103 : BitVec 32 := Scalar.addi v5 c233_i32
  let v2104 : Index := Scalar.indexCast v2103
  ![v2104.toNat]
def k0_mult234 (v2105 : BitVec 32) : BitVec 32 :=
  v2105

def k0_off468 (v2105 : BitVec 32) : Fin 2 → Nat :=
  let v2106 : BitVec 32 := v2105
  let v2107 : Index := Scalar.indexCast v2106
  let c0_468 : Index := 0#32
  ![v2107.toNat, 0]

def k0_chk234 (v2105 : BitVec 32) : Prop :=
  (2 ∣ (k0_mult234 v2105).toNat) ∧
  (∀ a, (k0_off468 v2105) a + S2x128.size a ≤ S100000x128.size a)
theorem k0_mult234_dvd : ∀ (v2105 : BitVec 32) (k0_hw234 : k0_chk234 v2105), 2 ∣ (k0_mult234 v2105).toNat := fun v2105 k0_hw234 => k0_hw234.1
theorem k0_off468_inb : ∀ (v2105 : BitVec 32) (k0_hw234 : k0_chk234 v2105), ∀ a, (k0_off468 v2105) a + S2x128.size a ≤ S100000x128.size a := fun v2105 k0_hw234 => k0_hw234.2

def k0_off469 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c234_i32 : BitVec 32 := 234#32
  let v2112 : BitVec 32 := Scalar.addi v5 c234_i32
  let v2113 : Index := Scalar.indexCast v2112
  ![v2113.toNat]
def k0_mult235 (v2114 : BitVec 32) : BitVec 32 :=
  v2114

def k0_off470 (v2114 : BitVec 32) : Fin 2 → Nat :=
  let v2115 : BitVec 32 := v2114
  let v2116 : Index := Scalar.indexCast v2115
  let c0_470 : Index := 0#32
  ![v2116.toNat, 0]

def k0_chk235 (v2114 : BitVec 32) : Prop :=
  (2 ∣ (k0_mult235 v2114).toNat) ∧
  (∀ a, (k0_off470 v2114) a + S2x128.size a ≤ S100000x128.size a)
theorem k0_mult235_dvd : ∀ (v2114 : BitVec 32) (k0_hw235 : k0_chk235 v2114), 2 ∣ (k0_mult235 v2114).toNat := fun v2114 k0_hw235 => k0_hw235.1
theorem k0_off470_inb : ∀ (v2114 : BitVec 32) (k0_hw235 : k0_chk235 v2114), ∀ a, (k0_off470 v2114) a + S2x128.size a ≤ S100000x128.size a := fun v2114 k0_hw235 => k0_hw235.2

def k0_off471 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c235_i32 : BitVec 32 := 235#32
  let v2121 : BitVec 32 := Scalar.addi v5 c235_i32
  let v2122 : Index := Scalar.indexCast v2121
  ![v2122.toNat]
def k0_mult236 (v2123 : BitVec 32) : BitVec 32 :=
  v2123

def k0_off472 (v2123 : BitVec 32) : Fin 2 → Nat :=
  let v2124 : BitVec 32 := v2123
  let v2125 : Index := Scalar.indexCast v2124
  let c0_472 : Index := 0#32
  ![v2125.toNat, 0]

def k0_chk236 (v2123 : BitVec 32) : Prop :=
  (2 ∣ (k0_mult236 v2123).toNat) ∧
  (∀ a, (k0_off472 v2123) a + S2x128.size a ≤ S100000x128.size a)
theorem k0_mult236_dvd : ∀ (v2123 : BitVec 32) (k0_hw236 : k0_chk236 v2123), 2 ∣ (k0_mult236 v2123).toNat := fun v2123 k0_hw236 => k0_hw236.1
theorem k0_off472_inb : ∀ (v2123 : BitVec 32) (k0_hw236 : k0_chk236 v2123), ∀ a, (k0_off472 v2123) a + S2x128.size a ≤ S100000x128.size a := fun v2123 k0_hw236 => k0_hw236.2

def k0_off473 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c236_i32 : BitVec 32 := 236#32
  let v2130 : BitVec 32 := Scalar.addi v5 c236_i32
  let v2131 : Index := Scalar.indexCast v2130
  ![v2131.toNat]
def k0_mult237 (v2132 : BitVec 32) : BitVec 32 :=
  v2132

def k0_off474 (v2132 : BitVec 32) : Fin 2 → Nat :=
  let v2133 : BitVec 32 := v2132
  let v2134 : Index := Scalar.indexCast v2133
  let c0_474 : Index := 0#32
  ![v2134.toNat, 0]

def k0_chk237 (v2132 : BitVec 32) : Prop :=
  (2 ∣ (k0_mult237 v2132).toNat) ∧
  (∀ a, (k0_off474 v2132) a + S2x128.size a ≤ S100000x128.size a)
theorem k0_mult237_dvd : ∀ (v2132 : BitVec 32) (k0_hw237 : k0_chk237 v2132), 2 ∣ (k0_mult237 v2132).toNat := fun v2132 k0_hw237 => k0_hw237.1
theorem k0_off474_inb : ∀ (v2132 : BitVec 32) (k0_hw237 : k0_chk237 v2132), ∀ a, (k0_off474 v2132) a + S2x128.size a ≤ S100000x128.size a := fun v2132 k0_hw237 => k0_hw237.2

def k0_off475 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c237_i32 : BitVec 32 := 237#32
  let v2139 : BitVec 32 := Scalar.addi v5 c237_i32
  let v2140 : Index := Scalar.indexCast v2139
  ![v2140.toNat]
def k0_mult238 (v2141 : BitVec 32) : BitVec 32 :=
  v2141

def k0_off476 (v2141 : BitVec 32) : Fin 2 → Nat :=
  let v2142 : BitVec 32 := v2141
  let v2143 : Index := Scalar.indexCast v2142
  let c0_476 : Index := 0#32
  ![v2143.toNat, 0]

def k0_chk238 (v2141 : BitVec 32) : Prop :=
  (2 ∣ (k0_mult238 v2141).toNat) ∧
  (∀ a, (k0_off476 v2141) a + S2x128.size a ≤ S100000x128.size a)
theorem k0_mult238_dvd : ∀ (v2141 : BitVec 32) (k0_hw238 : k0_chk238 v2141), 2 ∣ (k0_mult238 v2141).toNat := fun v2141 k0_hw238 => k0_hw238.1
theorem k0_off476_inb : ∀ (v2141 : BitVec 32) (k0_hw238 : k0_chk238 v2141), ∀ a, (k0_off476 v2141) a + S2x128.size a ≤ S100000x128.size a := fun v2141 k0_hw238 => k0_hw238.2

def k0_off477 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c238_i32 : BitVec 32 := 238#32
  let v2148 : BitVec 32 := Scalar.addi v5 c238_i32
  let v2149 : Index := Scalar.indexCast v2148
  ![v2149.toNat]
def k0_mult239 (v2150 : BitVec 32) : BitVec 32 :=
  v2150

def k0_off478 (v2150 : BitVec 32) : Fin 2 → Nat :=
  let v2151 : BitVec 32 := v2150
  let v2152 : Index := Scalar.indexCast v2151
  let c0_478 : Index := 0#32
  ![v2152.toNat, 0]

def k0_chk239 (v2150 : BitVec 32) : Prop :=
  (2 ∣ (k0_mult239 v2150).toNat) ∧
  (∀ a, (k0_off478 v2150) a + S2x128.size a ≤ S100000x128.size a)
theorem k0_mult239_dvd : ∀ (v2150 : BitVec 32) (k0_hw239 : k0_chk239 v2150), 2 ∣ (k0_mult239 v2150).toNat := fun v2150 k0_hw239 => k0_hw239.1
theorem k0_off478_inb : ∀ (v2150 : BitVec 32) (k0_hw239 : k0_chk239 v2150), ∀ a, (k0_off478 v2150) a + S2x128.size a ≤ S100000x128.size a := fun v2150 k0_hw239 => k0_hw239.2

def k0_off479 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c239_i32 : BitVec 32 := 239#32
  let v2157 : BitVec 32 := Scalar.addi v5 c239_i32
  let v2158 : Index := Scalar.indexCast v2157
  ![v2158.toNat]
def k0_mult240 (v2159 : BitVec 32) : BitVec 32 :=
  v2159

def k0_off480 (v2159 : BitVec 32) : Fin 2 → Nat :=
  let v2160 : BitVec 32 := v2159
  let v2161 : Index := Scalar.indexCast v2160
  let c0_480 : Index := 0#32
  ![v2161.toNat, 0]

def k0_chk240 (v2159 : BitVec 32) : Prop :=
  (2 ∣ (k0_mult240 v2159).toNat) ∧
  (∀ a, (k0_off480 v2159) a + S2x128.size a ≤ S100000x128.size a)
theorem k0_mult240_dvd : ∀ (v2159 : BitVec 32) (k0_hw240 : k0_chk240 v2159), 2 ∣ (k0_mult240 v2159).toNat := fun v2159 k0_hw240 => k0_hw240.1
theorem k0_off480_inb : ∀ (v2159 : BitVec 32) (k0_hw240 : k0_chk240 v2159), ∀ a, (k0_off480 v2159) a + S2x128.size a ≤ S100000x128.size a := fun v2159 k0_hw240 => k0_hw240.2

def k0_off481 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c240_i32 : BitVec 32 := 240#32
  let v2166 : BitVec 32 := Scalar.addi v5 c240_i32
  let v2167 : Index := Scalar.indexCast v2166
  ![v2167.toNat]
def k0_mult241 (v2168 : BitVec 32) : BitVec 32 :=
  v2168

def k0_off482 (v2168 : BitVec 32) : Fin 2 → Nat :=
  let v2169 : BitVec 32 := v2168
  let v2170 : Index := Scalar.indexCast v2169
  let c0_482 : Index := 0#32
  ![v2170.toNat, 0]

def k0_chk241 (v2168 : BitVec 32) : Prop :=
  (2 ∣ (k0_mult241 v2168).toNat) ∧
  (∀ a, (k0_off482 v2168) a + S2x128.size a ≤ S100000x128.size a)
theorem k0_mult241_dvd : ∀ (v2168 : BitVec 32) (k0_hw241 : k0_chk241 v2168), 2 ∣ (k0_mult241 v2168).toNat := fun v2168 k0_hw241 => k0_hw241.1
theorem k0_off482_inb : ∀ (v2168 : BitVec 32) (k0_hw241 : k0_chk241 v2168), ∀ a, (k0_off482 v2168) a + S2x128.size a ≤ S100000x128.size a := fun v2168 k0_hw241 => k0_hw241.2

def k0_off483 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c241_i32 : BitVec 32 := 241#32
  let v2175 : BitVec 32 := Scalar.addi v5 c241_i32
  let v2176 : Index := Scalar.indexCast v2175
  ![v2176.toNat]
def k0_mult242 (v2177 : BitVec 32) : BitVec 32 :=
  v2177

def k0_off484 (v2177 : BitVec 32) : Fin 2 → Nat :=
  let v2178 : BitVec 32 := v2177
  let v2179 : Index := Scalar.indexCast v2178
  let c0_484 : Index := 0#32
  ![v2179.toNat, 0]

def k0_chk242 (v2177 : BitVec 32) : Prop :=
  (2 ∣ (k0_mult242 v2177).toNat) ∧
  (∀ a, (k0_off484 v2177) a + S2x128.size a ≤ S100000x128.size a)
theorem k0_mult242_dvd : ∀ (v2177 : BitVec 32) (k0_hw242 : k0_chk242 v2177), 2 ∣ (k0_mult242 v2177).toNat := fun v2177 k0_hw242 => k0_hw242.1
theorem k0_off484_inb : ∀ (v2177 : BitVec 32) (k0_hw242 : k0_chk242 v2177), ∀ a, (k0_off484 v2177) a + S2x128.size a ≤ S100000x128.size a := fun v2177 k0_hw242 => k0_hw242.2

def k0_off485 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c242_i32 : BitVec 32 := 242#32
  let v2184 : BitVec 32 := Scalar.addi v5 c242_i32
  let v2185 : Index := Scalar.indexCast v2184
  ![v2185.toNat]
def k0_mult243 (v2186 : BitVec 32) : BitVec 32 :=
  v2186

def k0_off486 (v2186 : BitVec 32) : Fin 2 → Nat :=
  let v2187 : BitVec 32 := v2186
  let v2188 : Index := Scalar.indexCast v2187
  let c0_486 : Index := 0#32
  ![v2188.toNat, 0]

def k0_chk243 (v2186 : BitVec 32) : Prop :=
  (2 ∣ (k0_mult243 v2186).toNat) ∧
  (∀ a, (k0_off486 v2186) a + S2x128.size a ≤ S100000x128.size a)
theorem k0_mult243_dvd : ∀ (v2186 : BitVec 32) (k0_hw243 : k0_chk243 v2186), 2 ∣ (k0_mult243 v2186).toNat := fun v2186 k0_hw243 => k0_hw243.1
theorem k0_off486_inb : ∀ (v2186 : BitVec 32) (k0_hw243 : k0_chk243 v2186), ∀ a, (k0_off486 v2186) a + S2x128.size a ≤ S100000x128.size a := fun v2186 k0_hw243 => k0_hw243.2

def k0_off487 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c243_i32 : BitVec 32 := 243#32
  let v2193 : BitVec 32 := Scalar.addi v5 c243_i32
  let v2194 : Index := Scalar.indexCast v2193
  ![v2194.toNat]
def k0_mult244 (v2195 : BitVec 32) : BitVec 32 :=
  v2195

def k0_off488 (v2195 : BitVec 32) : Fin 2 → Nat :=
  let v2196 : BitVec 32 := v2195
  let v2197 : Index := Scalar.indexCast v2196
  let c0_488 : Index := 0#32
  ![v2197.toNat, 0]

def k0_chk244 (v2195 : BitVec 32) : Prop :=
  (2 ∣ (k0_mult244 v2195).toNat) ∧
  (∀ a, (k0_off488 v2195) a + S2x128.size a ≤ S100000x128.size a)
theorem k0_mult244_dvd : ∀ (v2195 : BitVec 32) (k0_hw244 : k0_chk244 v2195), 2 ∣ (k0_mult244 v2195).toNat := fun v2195 k0_hw244 => k0_hw244.1
theorem k0_off488_inb : ∀ (v2195 : BitVec 32) (k0_hw244 : k0_chk244 v2195), ∀ a, (k0_off488 v2195) a + S2x128.size a ≤ S100000x128.size a := fun v2195 k0_hw244 => k0_hw244.2

def k0_off489 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c244_i32 : BitVec 32 := 244#32
  let v2202 : BitVec 32 := Scalar.addi v5 c244_i32
  let v2203 : Index := Scalar.indexCast v2202
  ![v2203.toNat]
def k0_mult245 (v2204 : BitVec 32) : BitVec 32 :=
  v2204

def k0_off490 (v2204 : BitVec 32) : Fin 2 → Nat :=
  let v2205 : BitVec 32 := v2204
  let v2206 : Index := Scalar.indexCast v2205
  let c0_490 : Index := 0#32
  ![v2206.toNat, 0]

def k0_chk245 (v2204 : BitVec 32) : Prop :=
  (2 ∣ (k0_mult245 v2204).toNat) ∧
  (∀ a, (k0_off490 v2204) a + S2x128.size a ≤ S100000x128.size a)
theorem k0_mult245_dvd : ∀ (v2204 : BitVec 32) (k0_hw245 : k0_chk245 v2204), 2 ∣ (k0_mult245 v2204).toNat := fun v2204 k0_hw245 => k0_hw245.1
theorem k0_off490_inb : ∀ (v2204 : BitVec 32) (k0_hw245 : k0_chk245 v2204), ∀ a, (k0_off490 v2204) a + S2x128.size a ≤ S100000x128.size a := fun v2204 k0_hw245 => k0_hw245.2

def k0_off491 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c245_i32 : BitVec 32 := 245#32
  let v2211 : BitVec 32 := Scalar.addi v5 c245_i32
  let v2212 : Index := Scalar.indexCast v2211
  ![v2212.toNat]
def k0_mult246 (v2213 : BitVec 32) : BitVec 32 :=
  v2213

def k0_off492 (v2213 : BitVec 32) : Fin 2 → Nat :=
  let v2214 : BitVec 32 := v2213
  let v2215 : Index := Scalar.indexCast v2214
  let c0_492 : Index := 0#32
  ![v2215.toNat, 0]

def k0_chk246 (v2213 : BitVec 32) : Prop :=
  (2 ∣ (k0_mult246 v2213).toNat) ∧
  (∀ a, (k0_off492 v2213) a + S2x128.size a ≤ S100000x128.size a)
theorem k0_mult246_dvd : ∀ (v2213 : BitVec 32) (k0_hw246 : k0_chk246 v2213), 2 ∣ (k0_mult246 v2213).toNat := fun v2213 k0_hw246 => k0_hw246.1
theorem k0_off492_inb : ∀ (v2213 : BitVec 32) (k0_hw246 : k0_chk246 v2213), ∀ a, (k0_off492 v2213) a + S2x128.size a ≤ S100000x128.size a := fun v2213 k0_hw246 => k0_hw246.2

def k0_off493 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c246_i32 : BitVec 32 := 246#32
  let v2220 : BitVec 32 := Scalar.addi v5 c246_i32
  let v2221 : Index := Scalar.indexCast v2220
  ![v2221.toNat]
def k0_mult247 (v2222 : BitVec 32) : BitVec 32 :=
  v2222

def k0_off494 (v2222 : BitVec 32) : Fin 2 → Nat :=
  let v2223 : BitVec 32 := v2222
  let v2224 : Index := Scalar.indexCast v2223
  let c0_494 : Index := 0#32
  ![v2224.toNat, 0]

def k0_chk247 (v2222 : BitVec 32) : Prop :=
  (2 ∣ (k0_mult247 v2222).toNat) ∧
  (∀ a, (k0_off494 v2222) a + S2x128.size a ≤ S100000x128.size a)
theorem k0_mult247_dvd : ∀ (v2222 : BitVec 32) (k0_hw247 : k0_chk247 v2222), 2 ∣ (k0_mult247 v2222).toNat := fun v2222 k0_hw247 => k0_hw247.1
theorem k0_off494_inb : ∀ (v2222 : BitVec 32) (k0_hw247 : k0_chk247 v2222), ∀ a, (k0_off494 v2222) a + S2x128.size a ≤ S100000x128.size a := fun v2222 k0_hw247 => k0_hw247.2

def k0_off495 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c247_i32 : BitVec 32 := 247#32
  let v2229 : BitVec 32 := Scalar.addi v5 c247_i32
  let v2230 : Index := Scalar.indexCast v2229
  ![v2230.toNat]
def k0_mult248 (v2231 : BitVec 32) : BitVec 32 :=
  v2231

def k0_off496 (v2231 : BitVec 32) : Fin 2 → Nat :=
  let v2232 : BitVec 32 := v2231
  let v2233 : Index := Scalar.indexCast v2232
  let c0_496 : Index := 0#32
  ![v2233.toNat, 0]

def k0_chk248 (v2231 : BitVec 32) : Prop :=
  (2 ∣ (k0_mult248 v2231).toNat) ∧
  (∀ a, (k0_off496 v2231) a + S2x128.size a ≤ S100000x128.size a)
theorem k0_mult248_dvd : ∀ (v2231 : BitVec 32) (k0_hw248 : k0_chk248 v2231), 2 ∣ (k0_mult248 v2231).toNat := fun v2231 k0_hw248 => k0_hw248.1
theorem k0_off496_inb : ∀ (v2231 : BitVec 32) (k0_hw248 : k0_chk248 v2231), ∀ a, (k0_off496 v2231) a + S2x128.size a ≤ S100000x128.size a := fun v2231 k0_hw248 => k0_hw248.2

def k0_off497 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c248_i32 : BitVec 32 := 248#32
  let v2238 : BitVec 32 := Scalar.addi v5 c248_i32
  let v2239 : Index := Scalar.indexCast v2238
  ![v2239.toNat]
def k0_mult249 (v2240 : BitVec 32) : BitVec 32 :=
  v2240

def k0_off498 (v2240 : BitVec 32) : Fin 2 → Nat :=
  let v2241 : BitVec 32 := v2240
  let v2242 : Index := Scalar.indexCast v2241
  let c0_498 : Index := 0#32
  ![v2242.toNat, 0]

def k0_chk249 (v2240 : BitVec 32) : Prop :=
  (2 ∣ (k0_mult249 v2240).toNat) ∧
  (∀ a, (k0_off498 v2240) a + S2x128.size a ≤ S100000x128.size a)
theorem k0_mult249_dvd : ∀ (v2240 : BitVec 32) (k0_hw249 : k0_chk249 v2240), 2 ∣ (k0_mult249 v2240).toNat := fun v2240 k0_hw249 => k0_hw249.1
theorem k0_off498_inb : ∀ (v2240 : BitVec 32) (k0_hw249 : k0_chk249 v2240), ∀ a, (k0_off498 v2240) a + S2x128.size a ≤ S100000x128.size a := fun v2240 k0_hw249 => k0_hw249.2

def k0_off499 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c249_i32 : BitVec 32 := 249#32
  let v2247 : BitVec 32 := Scalar.addi v5 c249_i32
  let v2248 : Index := Scalar.indexCast v2247
  ![v2248.toNat]
def k0_mult250 (v2249 : BitVec 32) : BitVec 32 :=
  v2249

def k0_off500 (v2249 : BitVec 32) : Fin 2 → Nat :=
  let v2250 : BitVec 32 := v2249
  let v2251 : Index := Scalar.indexCast v2250
  let c0_500 : Index := 0#32
  ![v2251.toNat, 0]

def k0_chk250 (v2249 : BitVec 32) : Prop :=
  (2 ∣ (k0_mult250 v2249).toNat) ∧
  (∀ a, (k0_off500 v2249) a + S2x128.size a ≤ S100000x128.size a)
theorem k0_mult250_dvd : ∀ (v2249 : BitVec 32) (k0_hw250 : k0_chk250 v2249), 2 ∣ (k0_mult250 v2249).toNat := fun v2249 k0_hw250 => k0_hw250.1
theorem k0_off500_inb : ∀ (v2249 : BitVec 32) (k0_hw250 : k0_chk250 v2249), ∀ a, (k0_off500 v2249) a + S2x128.size a ≤ S100000x128.size a := fun v2249 k0_hw250 => k0_hw250.2

def k0_off501 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c250_i32 : BitVec 32 := 250#32
  let v2256 : BitVec 32 := Scalar.addi v5 c250_i32
  let v2257 : Index := Scalar.indexCast v2256
  ![v2257.toNat]
def k0_mult251 (v2258 : BitVec 32) : BitVec 32 :=
  v2258

def k0_off502 (v2258 : BitVec 32) : Fin 2 → Nat :=
  let v2259 : BitVec 32 := v2258
  let v2260 : Index := Scalar.indexCast v2259
  let c0_502 : Index := 0#32
  ![v2260.toNat, 0]

def k0_chk251 (v2258 : BitVec 32) : Prop :=
  (2 ∣ (k0_mult251 v2258).toNat) ∧
  (∀ a, (k0_off502 v2258) a + S2x128.size a ≤ S100000x128.size a)
theorem k0_mult251_dvd : ∀ (v2258 : BitVec 32) (k0_hw251 : k0_chk251 v2258), 2 ∣ (k0_mult251 v2258).toNat := fun v2258 k0_hw251 => k0_hw251.1
theorem k0_off502_inb : ∀ (v2258 : BitVec 32) (k0_hw251 : k0_chk251 v2258), ∀ a, (k0_off502 v2258) a + S2x128.size a ≤ S100000x128.size a := fun v2258 k0_hw251 => k0_hw251.2

def k0_off503 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c251_i32 : BitVec 32 := 251#32
  let v2265 : BitVec 32 := Scalar.addi v5 c251_i32
  let v2266 : Index := Scalar.indexCast v2265
  ![v2266.toNat]
def k0_mult252 (v2267 : BitVec 32) : BitVec 32 :=
  v2267

def k0_off504 (v2267 : BitVec 32) : Fin 2 → Nat :=
  let v2268 : BitVec 32 := v2267
  let v2269 : Index := Scalar.indexCast v2268
  let c0_504 : Index := 0#32
  ![v2269.toNat, 0]

def k0_chk252 (v2267 : BitVec 32) : Prop :=
  (2 ∣ (k0_mult252 v2267).toNat) ∧
  (∀ a, (k0_off504 v2267) a + S2x128.size a ≤ S100000x128.size a)
theorem k0_mult252_dvd : ∀ (v2267 : BitVec 32) (k0_hw252 : k0_chk252 v2267), 2 ∣ (k0_mult252 v2267).toNat := fun v2267 k0_hw252 => k0_hw252.1
theorem k0_off504_inb : ∀ (v2267 : BitVec 32) (k0_hw252 : k0_chk252 v2267), ∀ a, (k0_off504 v2267) a + S2x128.size a ≤ S100000x128.size a := fun v2267 k0_hw252 => k0_hw252.2

def k0_off505 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c252_i32 : BitVec 32 := 252#32
  let v2274 : BitVec 32 := Scalar.addi v5 c252_i32
  let v2275 : Index := Scalar.indexCast v2274
  ![v2275.toNat]
def k0_mult253 (v2276 : BitVec 32) : BitVec 32 :=
  v2276

def k0_off506 (v2276 : BitVec 32) : Fin 2 → Nat :=
  let v2277 : BitVec 32 := v2276
  let v2278 : Index := Scalar.indexCast v2277
  let c0_506 : Index := 0#32
  ![v2278.toNat, 0]

def k0_chk253 (v2276 : BitVec 32) : Prop :=
  (2 ∣ (k0_mult253 v2276).toNat) ∧
  (∀ a, (k0_off506 v2276) a + S2x128.size a ≤ S100000x128.size a)
theorem k0_mult253_dvd : ∀ (v2276 : BitVec 32) (k0_hw253 : k0_chk253 v2276), 2 ∣ (k0_mult253 v2276).toNat := fun v2276 k0_hw253 => k0_hw253.1
theorem k0_off506_inb : ∀ (v2276 : BitVec 32) (k0_hw253 : k0_chk253 v2276), ∀ a, (k0_off506 v2276) a + S2x128.size a ≤ S100000x128.size a := fun v2276 k0_hw253 => k0_hw253.2

def k0_off507 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c253_i32 : BitVec 32 := 253#32
  let v2283 : BitVec 32 := Scalar.addi v5 c253_i32
  let v2284 : Index := Scalar.indexCast v2283
  ![v2284.toNat]
def k0_mult254 (v2285 : BitVec 32) : BitVec 32 :=
  v2285

def k0_off508 (v2285 : BitVec 32) : Fin 2 → Nat :=
  let v2286 : BitVec 32 := v2285
  let v2287 : Index := Scalar.indexCast v2286
  let c0_508 : Index := 0#32
  ![v2287.toNat, 0]

def k0_chk254 (v2285 : BitVec 32) : Prop :=
  (2 ∣ (k0_mult254 v2285).toNat) ∧
  (∀ a, (k0_off508 v2285) a + S2x128.size a ≤ S100000x128.size a)
theorem k0_mult254_dvd : ∀ (v2285 : BitVec 32) (k0_hw254 : k0_chk254 v2285), 2 ∣ (k0_mult254 v2285).toNat := fun v2285 k0_hw254 => k0_hw254.1
theorem k0_off508_inb : ∀ (v2285 : BitVec 32) (k0_hw254 : k0_chk254 v2285), ∀ a, (k0_off508 v2285) a + S2x128.size a ≤ S100000x128.size a := fun v2285 k0_hw254 => k0_hw254.2

def k0_off509 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c254_i32 : BitVec 32 := 254#32
  let v2292 : BitVec 32 := Scalar.addi v5 c254_i32
  let v2293 : Index := Scalar.indexCast v2292
  ![v2293.toNat]
def k0_mult255 (v2294 : BitVec 32) : BitVec 32 :=
  v2294

def k0_off510 (v2294 : BitVec 32) : Fin 2 → Nat :=
  let v2295 : BitVec 32 := v2294
  let v2296 : Index := Scalar.indexCast v2295
  let c0_510 : Index := 0#32
  ![v2296.toNat, 0]

def k0_chk255 (v2294 : BitVec 32) : Prop :=
  (2 ∣ (k0_mult255 v2294).toNat) ∧
  (∀ a, (k0_off510 v2294) a + S2x128.size a ≤ S100000x128.size a)
theorem k0_mult255_dvd : ∀ (v2294 : BitVec 32) (k0_hw255 : k0_chk255 v2294), 2 ∣ (k0_mult255 v2294).toNat := fun v2294 k0_hw255 => k0_hw255.1
theorem k0_off510_inb : ∀ (v2294 : BitVec 32) (k0_hw255 : k0_chk255 v2294), ∀ a, (k0_off510 v2294) a + S2x128.size a ≤ S100000x128.size a := fun v2294 k0_hw255 => k0_hw255.2

def k0_off511 (i : grid0.Coords) : Fin 1 → Nat :=
  let arg0 : BitVec 32 := BitVec.ofNat 32 (i 0).val
  let c15360_i32 : BitVec 32 := 15360#32
  let v3 : BitVec 32 := Scalar.muli arg0 c15360_i32
  let arg1 : BitVec 32 := BitVec.ofNat 32 (i 1).val
  let c256_i32 : BitVec 32 := 256#32
  let v4 : BitVec 32 := Scalar.muli arg1 c256_i32
  let v5 : BitVec 32 := Scalar.addi v3 v4
  let c255_i32 : BitVec 32 := 255#32
  let v2301 : BitVec 32 := Scalar.addi v5 c255_i32
  let v2302 : Index := Scalar.indexCast v2301
  ![v2302.toNat]
def k0_mult256 (v2303 : BitVec 32) : BitVec 32 :=
  v2303

def k0_off512 (v2303 : BitVec 32) : Fin 2 → Nat :=
  let v2304 : BitVec 32 := v2303
  let v2305 : Index := Scalar.indexCast v2304
  let c0_512 : Index := 0#32
  ![v2305.toNat, 0]

def k0_chk256 (v2303 : BitVec 32) : Prop :=
  (2 ∣ (k0_mult256 v2303).toNat) ∧
  (∀ a, (k0_off512 v2303) a + S2x128.size a ≤ S100000x128.size a)
theorem k0_mult256_dvd : ∀ (v2303 : BitVec 32) (k0_hw256 : k0_chk256 v2303), 2 ∣ (k0_mult256 v2303).toNat := fun v2303 k0_hw256 => k0_hw256.1
theorem k0_off512_inb : ∀ (v2303 : BitVec 32) (k0_hw256 : k0_chk256 v2303), ∀ a, (k0_off512 v2303) a + S2x128.size a ≤ S100000x128.size a := fun v2303 k0_hw256 => k0_hw256.2

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== EmbedRefIdeal.lean ====
abbrev S100000x128 : Shape := ⟨2, ![100000, 128]⟩
abbrev S300x300 : Shape := ⟨2, ![300, 300]⟩
abbrev S300 : Shape := ⟨1, ![300]⟩
abbrev S60x256 : Shape := ⟨2, ![60, 256]⟩
abbrev S100000x128x2 : Shape := ⟨3, ![100000, 128, 2]⟩
abbrev S50000x2x128x2 : Shape := ⟨4, ![50000, 2, 128, 2]⟩
abbrev S50000x2x2x128 : Shape := ⟨4, ![50000, 2, 2, 128]⟩
abbrev S50000x512 : Shape := ⟨2, ![50000, 512]⟩
abbrev S50000x300 : Shape := ⟨2, ![50000, 300]⟩
abbrev S15360 : Shape := ⟨1, ![15360]⟩
abbrev S30720 : Shape := ⟨1, ![30720]⟩
abbrev S_ : Shape := ⟨0, ![]⟩
abbrev S30720x1 : Shape := ⟨2, ![30720, 1]⟩
abbrev S30720x300 : Shape := ⟨2, ![30720, 300]⟩
abbrev S1x300 : Shape := ⟨2, ![1, 300]⟩
abbrev S2x15360x300 : Shape := ⟨3, ![2, 15360, 300]⟩
abbrev S2x15360x384 : Shape := ⟨3, ![2, 15360, 384]⟩
abbrev S2x384 : Shape := ⟨2, ![2, 384]⟩
abbrev S2x1x384 : Shape := ⟨3, ![2, 1, 384]⟩
abbrev S2x2x384 : Shape := ⟨3, ![2, 2, 384]⟩

abbrev nBuf : Space → Nat
  | .hbm => 40
  | .vmem => 0
  | .smem => 0
  | _ => 0

abbrev bufTy : (tb : Table) → Fin (tcTables nBuf tb) → BufTy
  | .hbm, ⟨0, _⟩ => ⟨S100000x128, .i32⟩
  | .hbm, ⟨1, _⟩ => ⟨S300x300, .f32⟩
  | .hbm, ⟨2, _⟩ => ⟨S300, .f32⟩
  | .hbm, ⟨3, _⟩ => ⟨S60x256, .i32⟩
  | .hbm, ⟨4, _⟩ => ⟨S60x256, .i32⟩
  | .hbm, ⟨5, _⟩ => ⟨S100000x128x2, .bf16⟩
  | .hbm, ⟨6, _⟩ => ⟨S100000x128x2, .f32⟩
  | .hbm, ⟨7, _⟩ => ⟨S50000x2x128x2, .f32⟩
  | .hbm, ⟨8, _⟩ => ⟨S50000x2x2x128, .f32⟩
  | .hbm, ⟨9, _⟩ => ⟨S50000x512, .f32⟩
  | .hbm, ⟨10, _⟩ => ⟨S50000x300, .f32⟩
  | .hbm, ⟨11, _⟩ => ⟨S15360, .i32⟩
  | .hbm, ⟨12, _⟩ => ⟨S15360, .i32⟩
  | .hbm, ⟨13, _⟩ => ⟨S30720, .i32⟩
  | .hbm, ⟨14, _⟩ => ⟨S_, .i32⟩
  | .hbm, ⟨15, _⟩ => ⟨S30720, .i32⟩
  | .hbm, ⟨16, _⟩ => ⟨S30720, .i1⟩
  | .hbm, ⟨17, _⟩ => ⟨S_, .i32⟩
  | .hbm, ⟨18, _⟩ => ⟨S30720, .i32⟩
  | .hbm, ⟨19, _⟩ => ⟨S30720, .i32⟩
  | .hbm, ⟨20, _⟩ => ⟨S30720, .i32⟩
  | .hbm, ⟨21, _⟩ => ⟨S30720x1, .i32⟩
  | .hbm, ⟨22, _⟩ => ⟨S30720x300, .f32⟩
  | .hbm, ⟨23, _⟩ => ⟨S300x300, .f32⟩
  | .hbm, ⟨24, _⟩ => ⟨S30720x300, .f32⟩
  | .hbm, ⟨25, _⟩ => ⟨S1x300, .f32⟩
  | .hbm, ⟨26, _⟩ => ⟨S30720x300, .f32⟩
  | .hbm, ⟨27, _⟩ => ⟨S30720x300, .f32⟩
  | .hbm, ⟨28, _⟩ => ⟨S2x15360x300, .f32⟩
  | .hbm, ⟨29, _⟩ => ⟨S_, .i32⟩
  | .hbm, ⟨30, _⟩ => ⟨S_, .f32⟩
  | .hbm, ⟨31, _⟩ => ⟨S2x15360x384, .f32⟩
  | .hbm, ⟨32, _⟩ => ⟨S_, .f32⟩
  | .hbm, ⟨33, _⟩ => ⟨S2x384, .f32⟩
  | .hbm, ⟨34, _⟩ => ⟨S2x15360x384, .f32⟩
  | .hbm, ⟨35, _⟩ => ⟨S_, .f32⟩
  | .hbm, ⟨36, _⟩ => ⟨S2x384, .f32⟩
  | .hbm, ⟨37, _⟩ => ⟨S2x1x384, .f32⟩
  | .hbm, ⟨38, _⟩ => ⟨S2x1x384, .f32⟩
  | .hbm, ⟨39, _⟩ => ⟨S2x2x384, .f32⟩
  | _, _ => ⟨S100000x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_1 : Ref sig .tc := ⟨.hbm, 29, rfl⟩
abbrev main_call0_v0 : Ref sig .tc := ⟨.hbm, 30, rfl⟩
abbrev main_v22 : Ref sig .tc := ⟨.hbm, 31, rfl⟩
abbrev main_cst : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Proof.LstmIdealNames.lean ====
/-
  The idealized LSTM call's memory in plain names: time block `(p, s)` of the embeddings and of the result, the two slots of
  the input and of the output buffer, the slots' semaphore cells; the loop's offsets and conditions in closed form,
  and the equations by which the printed slices are those names.
-/
module

public import proofs.«01_k».proof.Defs
public import proofs.«01_k».proof.Proof.Gen.LstmIdeal.Launch
public import proofs.«01_k».proof.Proof.Gen.LstmIdeal.Skeleton
public import proofs.«01_k».proof.Proof.Gen.LstmIdeal.Loops
public import proofs.«01_k».proof.Proof.Gen.LstmIdeal.Points
public import proofs.«01_k».proof.Proof.Gen.LstmIdeal.Frame
public import Idealize.ShloMosaic.Lib.Pipeline.FrameValue
public import Idealize.ShloMosaic.Lib.Ring
public import Idealize.ShloMosaic.Lib.Affine
public import Idealize.ShloMosaic.Lib.Tactic

@[expose] public section

set_option maxRecDepth 16384

noncomputable section

namespace Cert.LstmIdeal.Run

open Cert.LstmIdeal Cert.LstmIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The buffers -/

abbrev yM : Memref sig .tc .hbm S2x15360x384 .f32 := Memref.whole main_arg0
abbrev outM : Memref sig .tc .hbm S2x60x256x512 .f32 := Memref.whole main_v11
abbrev xbM : Memref sig .tc .vmem S2x256x384 .f32 := Memref.whole cc0_scratch0
abbrev hM : Memref sig .tc .vmem S256x512 .f32 := Memref.whole cc0_scratch1
abbrev cM : Memref sig .tc .vmem S256x512 .f32 := Memref.whole cc0_scratch2
abbrev hbM : Memref sig .tc .vmem S2x256x512 .f32 := Memref.whole cc0_scratch3

/-! ## Offsets -/

/-- A time block: the sentence and the step. -/
abbrev Blk : Type := Fin 2 × Fin 60
abbrev yOff (b : Blk) : Fin 3 → Nat := ![b.1.val, 256 * b.2.val, 0]
abbrev oOff (b : Blk) : Fin 4 → Nat := ![b.1.val, b.2.val, 0, 0]
abbrev slOff (s : Fin 2) : Fin 3 → Nat := ![s.val, 0, 0]
abbrev smOff (s : Fin 2) : Fin 1 → Nat := ![s.val]

theorem yOff_inb (b : Blk) : ∀ a, yOff b a + S1x256x384.size a ≤ S2x15360x384.size a := by
  have h1 := b.1.isLt; have h2 := b.2.isLt; intro a; fin_cases a
  · show b.1.val + 1 ≤ 2; omega
  · show 256 * b.2.val + 256 ≤ 15360; omega
  · show 0 + 384 ≤ 384; omega
theorem oOff_inb (b : Blk) : ∀ a, oOff b a + S1x1x256x512.size a ≤ S2x60x256x512.size a := by
  have h1 := b.1.isLt; have h2 := b.2.isLt; intro a; fin_cases a
  · show b.1.val + 1 ≤ 2; omega
  · show b.2.val + 1 ≤ 60; omega
  · show 0 + 256 ≤ 256; omega
  · show 0 + 512 ≤ 512; omega
theorem xsOff_inb (s : Fin 2) : ∀ a, slOff s a + S1x256x384.size a ≤ S2x256x384.size a := by
  have := s.isLt; intro a; fin_cases a
  · show s.val + 1 ≤ 2; omega
  · show 0 + 256 ≤ 256; omega
  · show 0 + 384 ≤ 384; omega
theorem hsOff_inb (s : Fin 2) : ∀ a, slOff s a + S1x256x512.size a ≤ S2x256x512.size a := by
  have := s.isLt; intro a; fin_cases a
  · show s.val + 1 ≤ 2; omega
  · show 0 + 256 ≤ 256; omega
  · show 0 + 512 ≤ 512; omega
theorem smOff_inb (s : Fin 2) : ∀ a, smOff s a + S1.size a ≤ S2.size a := by
  have := s.isLt; intro a; fin_cases a; show s.val + 1 ≤ 2; omega

/-! ## The pieces as the body slices and squeezes them -/

/-- Time block `b` of the embeddings. -/
def yB (b : Blk) : Memref sig .tc .hbm S256x384 .f32 :=
  (yM.slice (Rect.unit (s := S2x15360x384) (yOff b) S1x256x384.size (yOff_inb b)) (fun _ => rfl)).squeeze S256x384 squeezes_S1x256x384_S256x384
/-- Time block `b` of the hidden states. -/
def oB (b : Blk) : Memref sig .tc .hbm S256x512 .f32 :=
  (outM.slice (Rect.unit (s := S2x60x256x512) (oOff b) S1x1x256x512.size (oOff_inb b)) (fun _ => rfl)).squeeze S256x512 squeezes_S1x1x256x512_S256x512
/-- Slot `s` of the input buffer. -/
def xS (s : Fin 2) : Memref sig .tc .vmem S256x384 .f32 :=
  (xbM.slice (Rect.unit (s := S2x256x384) (slOff s) S1x256x384.size (xsOff_inb s)) (fun _ => rfl)).squeeze S256x384 squeezes_S1x256x384_S256x384
/-- Slot `s` of the output buffer. -/
def hS (s : Fin 2) : Memref sig .tc .vmem S256x512 .f32 :=
  (hbM.slice (Rect.unit (s := S2x256x512) (slOff s) S1x256x512.size (hsOff_inb s)) (fun _ => rfl)).squeeze S256x512 squeezes_S1x256x512_S256x512
/-- The input slot's cell and the output slot's. -/
def iC (s : Fin 2) : DmaSems sig S_ := (cc0_scratch4.slice (Rect.unit (s := S2) (smOff s) S1.size (smOff_inb s))).squeeze S_ squeezes_S1_S_
def oC (s : Fin 2) : DmaSems sig S_ := (cc0_scratch5.slice (Rect.unit (s := S2) (smOff s) S1.size (smOff_inb s))).squeeze S_ squeezes_S1_S_

/-! ## The loop's words in closed form -/

theorem trips_eq : k0_t1_loop.trips = 60 := by decide

/-- The sentence of a grid point. -/
def pt (i : grid0.Coords) : Fin 2 := ⟨(i 0).val, (i 0).isLt⟩

theorem cond1_iff : ∀ k : Fin k0_t1_loop.trips, k0_cond1 k = 1#1 ↔ k.val + 1 < 60 := by decide +kernel
theorem cond2_iff : ∀ k : Fin k0_t1_loop.trips, k0_cond2 k = 1#1 ↔ 2 ≤ k.val := by decide +kernel

theorem off2_eq : ∀ k : Fin k0_t1_loop.trips, k0_off2 k = smOff (Ring.sl 2 (k.val + 1)) := by decide +kernel
theorem off3_eq : ∀ k : Fin k0_t1_loop.trips, k0_off3 k = slOff (Ring.sl 2 (k.val + 1)) := by decide +kernel
theorem off5_eq : ∀ k : Fin k0_t1_loop.trips, k0_off5 k = smOff (Ring.sl 2 k.val) := by decide +kernel
theorem off6_eq : ∀ k : Fin k0_t1_loop.trips, k0_off6 k = slOff (Ring.sl 2 k.val) := by decide +kernel
theorem off8_eq : ∀ k : Fin k0_t1_loop.trips, k0_off8 k = slOff (Ring.sl 2 k.val) := by decide +kernel
theorem off9_eq : ∀ k : Fin k0_t1_loop.trips, k0_off9 k = smOff (Ring.sl 2 k.val) := by decide +kernel
theorem off11_eq : ∀ k : Fin k0_t1_loop.trips, k0_off11 k = slOff (Ring.sl 2 k.val) := by decide +kernel
theorem off12_eq : ∀ k : Fin k0_t1_loop.trips, k0_off12 k = slOff (Ring.sl 2 k.val) := by decide +kernel
theorem off14_eq : ∀ k : Fin k0_t1_loop.trips, k0_off14 k = slOff (Ring.sl 2 k.val) := by decide +kernel
theorem off1_eq : ∀ i : grid0.Coords, k0_off1 i = yOff (pt i, 0) := by decide +kernel
theorem off15_eq : ∀ i : grid0.Coords, k0_off15 i = oOff (pt i, 58) := by decide +kernel
theorem off16_eq : ∀ i : grid0.Coords, k0_off16 i = oOff (pt i, 59) := by decide +kernel
theorem off4_eq : ∀ (i : grid0.Coords) (k : Fin k0_t1_loop.trips), k.val + 1 < 60 → k0_off4 i k = yOff (pt i, Ring.bk 60 (k.val + 1)) := by decide +kernel
theorem off7_eq : ∀ (i : grid0.Coords) (k : Fin k0_t1_loop.trips), k0_off7 i k = yOff (pt i, Ring.bk 60 k.val) := by decide +kernel
theorem off10_eq : ∀ (i : grid0.Coords) (k : Fin k0_t1_loop.trips), 2 ≤ k.val → k0_off10 i k = oOff (pt i, Ring.bk 60 (k.val - 2)) := by decide +kernel
theorem off13_eq : ∀ (i : grid0.Coords) (k : Fin k0_t1_loop.trips), k0_off13 i k = oOff (pt i, Ring.bk 60 k.val) := by decide +kernel

instance (s : Fin 2) : ClosedOff (slOff s) := ⟨slOff s, rfl⟩
instance (b : Blk) : ClosedOff (yOff b) := ⟨yOff b, rfl⟩
instance (b : Blk) : ClosedOff (oOff b) := ⟨oOff b, rfl⟩
instance (k : Fin k0_t1_loop.trips) : ClosedOff (k0_off8 k) := ⟨slOff (Ring.sl 2 k.val), off8_eq k⟩
instance (k : Fin k0_t1_loop.trips) : ClosedOff (k0_off12 k) := ⟨slOff (Ring.sl 2 k.val), off12_eq k⟩
instance (k : Fin k0_t1_loop.trips) : ClosedOff (k0_off6 k) := ⟨slOff (Ring.sl 2 k.val), off6_eq k⟩
instance (k : Fin k0_t1_loop.trips) : ClosedOff (k0_off14 k) := ⟨slOff (Ring.sl 2 k.val), off14_eq k⟩

/-! ## The printed slices are the names -/

private theorem iC_congr {off : Fin 1 → Nat} {s : Fin 2} (e : off = smOff s) (hh) :
    (cc0_scratch4.slice (Rect.unit (s := S2) off S1.size hh)).squeeze S_ squeezes_S1_S_ = iC s :=
  congrArg (fun A : DmaSems sig S1 => A.squeeze S_ squeezes_S1_S_) (SemArray.slice_unit_congr _ e _ _)
private theorem oC_congr {off : Fin 1 → Nat} {s : Fin 2} (e : off = smOff s) (hh) :
    (cc0_scratch5.slice (Rect.unit (s := S2) off S1.size hh)).squeeze S_ squeezes_S1_S_ = oC s :=
  congrArg (fun A : DmaSems sig S1 => A.squeeze S_ squeezes_S1_S_) (SemArray.slice_unit_congr _ e _ _)
private theorem xS_congr {off : Fin 3 → Nat} {s : Fin 2} (e : off = slOff s) (hh hs) :
    (xbM.slice (Rect.unit (s := S2x256x384) off S1x256x384.size hh) hs).squeeze S256x384 squeezes_S1x256x384_S256x384 = xS s :=
  congrArg (fun M : Memref sig .tc .vmem S1x256x384 .f32 => M.squeeze S256x384 squeezes_S1x256x384_S256x384) (Memref.slice_unit_congr _ e _ _ _ _)
private theorem hS_congr {off : Fin 3 → Nat} {s : Fin 2} (e : off = slOff s) (hh hs) :
    (hbM.slice (Rect.unit (s := S2x256x512) off S1x256x512.size hh) hs).squeeze S256x512 squeezes_S1x256x512_S256x512 = hS s :=
  congrArg (fun M : Memref sig .tc .vmem S1x256x512 .f32 => M.squeeze S256x512 squeezes_S1x256x512_S256x512) (Memref.slice_unit_congr _ e _ _ _ _)
private theorem yB_congr {off : Fin 3 → Nat} {b : Blk} (e : off = yOff b) (hh hs) :
    (yM.slice (Rect.unit (s := S2x15360x384) off S1x256x384.size hh) hs).squeeze S256x384 squeezes_S1x256x384_S256x384 = yB b :=
  congrArg (fun M : Memref sig .tc .hbm S1x256x384 .f32 => M.squeeze S256x384 squeezes_S1x256x384_S256x384) (Memref.slice_unit_congr _ e _ _ _ _)
private theorem oB_congr {off : Fin 4 → Nat} {b : Blk} (e : off = oOff b) (hh hs) :
    (outM.slice (Rect.unit (s := S2x60x256x512) off S1x1x256x512.size hh) hs).squeeze S256x512 squeezes_S1x1x256x512_S256x512 = oB b :=
  congrArg (fun M : Memref sig .tc .hbm S1x1x256x512 .f32 => M.squeeze S256x512 squeezes_S1x1x256x512_S256x512) (Memref.slice_unit_congr _ e _ _ _ _)

/-- Outside the loop: the literal slots and cells, blocks 0, 58 and 59. -/
@[sl_canon] theorem iC_0 (hh) : (cc0_scratch4.slice (Rect.unit (s := S2) ![0] S1.size hh)).squeeze S_ squeezes_S1_S_ = iC 0 := iC_congr (by decide) _
@[sl_canon] theorem oC_0 (hh) : (cc0_scratch5.slice (Rect.unit (s := S2) ![0] S1.size hh)).squeeze S_ squeezes_S1_S_ = oC 0 := oC_congr (by decide) _
@[sl_canon] theorem oC_1 (hh) : (cc0_scratch5.slice (Rect.unit (s := S2) ![1] S1.size hh)).squeeze S_ squeezes_S1_S_ = oC 1 := oC_congr (by decide) _
@[sl_canon] theorem xS_0 (hh hs) : (xbM.slice (Rect.unit (s := S2x256x384) ![0, 0, 0] S1x256x384.size hh) hs).squeeze S256x384 squeezes_S1x256x384_S256x384 = xS 0 := xS_congr (by decide) _ _
@[sl_canon] theorem hS_0 (hh hs) : (hbM.slice (Rect.unit (s := S2x256x512) ![0, 0, 0] S1x256x512.size hh) hs).squeeze S256x512 squeezes_S1x256x512_S256x512 = hS 0 := hS_congr (by decide) _ _
@[sl_canon] theorem hS_1 (hh hs) : (hbM.slice (Rect.unit (s := S2x256x512) ![1, 0, 0] S1x256x512.size hh) hs).squeeze S256x512 squeezes_S1x256x512_S256x512 = hS 1 := hS_congr (by decide) _ _
@[sl_canon] theorem yB_0 (i : grid0.Coords) (hh hs) : (yM.slice (Rect.unit (s := S2x15360x384) (k0_off1 i) S1x256x384.size hh) hs).squeeze S256x384 squeezes_S1x256x384_S256x384 = yB (pt i, 0) := yB_congr (off1_eq i) _ _
@[sl_canon] theorem oB_58 (i : grid0.Coords) (hh hs) : (outM.slice (Rect.unit (s := S2x60x256x512) (k0_off15 i) S1x1x256x512.size hh) hs).squeeze S256x512 squeezes_S1x1x256x512_S256x512 = oB (pt i, 58) := oB_congr (off15_eq i) _ _
@[sl_canon] theorem oB_59 (i : grid0.Coords) (hh hs) : (outM.slice (Rect.unit (s := S2x60x256x512) (k0_off16 i) S1x1x256x512.size hh) hs).squeeze S256x512 squeezes_S1x1x256x512_S256x512 = oB (pt i, 59) := oB_congr (off16_eq i) _ _

section Trip
variable (i : grid0.Coords) (k : Fin k0_t1_loop.trips)

/-- Trip `k`: slots `k % 2` and `(k + 1) % 2`, blocks `k`, `k + 1`, and `k - 2`. -/
@[sl_canon] theorem iC_next (hh) : (cc0_scratch4.slice (Rect.unit (s := S2) (k0_off2 k) S1.size hh)).squeeze S_ squeezes_S1_S_ = iC (Ring.sl 2 (k.val + 1)) := iC_congr (off2_eq k) _
@[sl_canon] theorem iC_cur (hh) : (cc0_scratch4.slice (Rect.unit (s := S2) (k0_off5 k) S1.size hh)).squeeze S_ squeezes_S1_S_ = iC (Ring.sl 2 k.val) := iC_congr (off5_eq k) _
@[sl_canon] theorem oC_old (hh) : (cc0_scratch5.slice (Rect.unit (s := S2) (k0_off9 k) S1.size hh)).squeeze S_ squeezes_S1_S_ = oC (Ring.sl 2 k.val) := oC_congr (off9_eq k) _
@[sl_canon] theorem oC_cur (hh) : (cc0_scratch5.slice (Rect.unit (s := S2) (k0_off5 k) S1.size hh)).squeeze S_ squeezes_S1_S_ = oC (Ring.sl 2 k.val) := oC_congr (off5_eq k) _
@[sl_canon] theorem xS_next (hh hs) : (xbM.slice (Rect.unit (s := S2x256x384) (k0_off3 k) S1x256x384.size hh) hs).squeeze S256x384 squeezes_S1x256x384_S256x384 = xS (Ring.sl 2 (k.val + 1)) := xS_congr (off3_eq k) _ _
@[sl_canon] theorem xS_cur (hh hs) : (xbM.slice (Rect.unit (s := S2x256x384) (k0_off6 k) S1x256x384.size hh) hs).squeeze S256x384 squeezes_S1x256x384_S256x384 = xS (Ring.sl 2 k.val) := xS_congr (off6_eq k) _ _
@[sl_canon] theorem hS_old (hh hs) : (hbM.slice (Rect.unit (s := S2x256x512) (k0_off11 k) S1x256x512.size hh) hs).squeeze S256x512 squeezes_S1x256x512_S256x512 = hS (Ring.sl 2 k.val) := hS_congr (off11_eq k) _ _
@[sl_canon] theorem hS_cur (hh hs) : (hbM.slice (Rect.unit (s := S2x256x512) (k0_off14 k) S1x256x512.size hh) hs).squeeze S256x512 squeezes_S1x256x512_S256x512 = hS (Ring.sl 2 k.val) := hS_congr (off14_eq k) _ _
@[sl_canon] theorem yB_next (hk : k.val + 1 < 60) (hh hs) : (yM.slice (Rect.unit (s := S2x15360x384) (k0_off4 i k) S1x256x384.size hh) hs).squeeze S256x384 squeezes_S1x256x384_S256x384 = yB (pt i, Ring.bk 60 (k.val + 1)) := yB_congr (off4_eq i k hk) _ _
@[sl_canon] theorem yB_cur (hh hs) : (yM.slice (Rect.unit (s := S2x15360x384) (k0_off7 i k) S1x256x384.size hh) hs).squeeze S256x384 squeezes_S1x256x384_S256x384 = yB (pt i, Ring.bk 60 k.val) := yB_congr (off7_eq i k) _ _
@[sl_canon] theorem oB_old (hk : 2 ≤ k.val) (hh hs) : (outM.slice (Rect.unit (s := S2x60x256x512) (k0_off10 i k) S1x1x256x512.size hh) hs).squeeze S256x512 squeezes_S1x1x256x512_S256x512 = oB (pt i, Ring.bk 60 (k.val - 2)) := oB_congr (off10_eq i k hk) _ _
@[sl_canon] theorem oB_cur (hh hs) : (outM.slice (Rect.unit (s := S2x60x256x512) (k0_off13 i k) S1x1x256x512.size hh) hs).squeeze S256x512 squeezes_S1x1x256x512_S256x512 = oB (pt i, Ring.bk 60 k.val) := oB_congr (off13_eq i k) _ _
end Trip

/-! ## Element sets -/

abbrev YI (b : Blk) : Finset S2x15360x384.Idx := (Rect.unit (s := S2x15360x384) (yOff b) S1x256x384.size (yOff_inb b)).set
abbrev OI (b : Blk) : Finset S2x60x256x512.Idx := (Rect.unit (s := S2x60x256x512) (oOff b) S1x1x256x512.size (oOff_inb b)).set
abbrev XI (s : Fin 2) : Finset S2x256x384.Idx := (Rect.unit (s := S2x256x384) (slOff s) S1x256x384.size (xsOff_inb s)).set
abbrev HI (s : Fin 2) : Finset S2x256x512.Idx := (Rect.unit (s := S2x256x512) (slOff s) S1x256x512.size (hsOff_inb s)).set

theorem yB_set (b : Blk) : (yB b : Memref sig .tc .hbm _ _).view.set = YI b := (View.set_reshape _ _).trans (View.set_slice_whole _ _)
theorem oB_set (b : Blk) : (oB b : Memref sig .tc .hbm _ _).view.set = OI b := (View.set_reshape _ _).trans (View.set_slice_whole _ _)
theorem xS_set (s : Fin 2) : (xS s : Memref sig .tc .vmem _ _).view.set = XI s := (View.set_reshape _ _).trans (View.set_slice_whole _ _)
theorem hS_set (s : Fin 2) : (hS s : Memref sig .tc .vmem _ _).view.set = HI s := (View.set_reshape _ _).trans (View.set_slice_whole _ _)

theorem mem_YI (b : Blk) (y : S2x15360x384.Idx) : y ∈ YI b ↔ (y 0).val = b.1.val ∧ (y 1).val / 256 = b.2.val := by
  rw [Rect.mem_set_unit]
  have h2 : (y 2).val < 384 := (y 2).isLt
  constructor
  · intro H
    have a0 : b.1.val ≤ (y 0).val ∧ (y 0).val < b.1.val + 1 := H 0
    have a1 : 256 * b.2.val ≤ (y 1).val ∧ (y 1).val < 256 * b.2.val + 256 := H 1
    omega
  · rintro ⟨e0, e1⟩ i; fin_cases i
    · show b.1.val ≤ (y 0).val ∧ (y 0).val < b.1.val + 1; omega
    · show 256 * b.2.val ≤ (y 1).val ∧ (y 1).val < 256 * b.2.val + 256; omega
    · show 0 ≤ (y 2).val ∧ (y 2).val < 0 + 384; omega
theorem mem_OI (b : Blk) (y : S2x60x256x512.Idx) : y ∈ OI b ↔ (y 0).val = b.1.val ∧ (y 1).val = b.2.val := by
  rw [Rect.mem_set_unit]
  have h2 : (y 2).val < 256 := (y 2).isLt
  have h3 : (y 3).val < 512 := (y 3).isLt
  constructor
  · intro H
    have a0 : b.1.val ≤ (y 0).val ∧ (y 0).val < b.1.val + 1 := H 0
    have a1 : b.2.val ≤ (y 1).val ∧ (y 1).val < b.2.val + 1 := H 1
    omega
  · rintro ⟨e0, e1⟩ i; fin_cases i
    · show b.1.val ≤ (y 0).val ∧ (y 0).val < b.1.val + 1; omega
    · show b.2.val ≤ (y 1).val ∧ (y 1).val < b.2.val + 1; omega
    · show 0 ≤ (y 2).val ∧ (y 2).val < 0 + 256; omega
    · show 0 ≤ (y 3).val ∧ (y 3).val < 0 + 512; omega
theorem mem_XI (s : Fin 2) (y : S2x256x384.Idx) : y ∈ XI s ↔ (y 0).val = s.val := by
  rw [Rect.mem_set_unit]
  have h1 : (y 1).val < 256 := (y 1).isLt
  have h2 : (y 2).val < 384 := (y 2).isLt
  constructor
  · intro H; have a0 : s.val ≤ (y 0).val ∧ (y 0).val < s.val + 1 := H 0; omega
  · intro e i; fin_cases i
    · show s.val ≤ (y 0).val ∧ (y 0).val < s.val + 1; omega
    · show 0 ≤ (y 1).val ∧ (y 1).val < 0 + 256; omega
    · show 0 ≤ (y 2).val ∧ (y 2).val < 0 + 384; omega
theorem mem_HI (s : Fin 2) (y : S2x256x512.Idx) : y ∈ HI s ↔ (y 0).val = s.val := by
  rw [Rect.mem_set_unit]
  have h1 : (y 1).val < 256 := (y 1).isLt
  have h2 : (y 2).val < 512 := (y 2).isLt
  constructor
  · intro H; have a0 : s.val ≤ (y 0).val ∧ (y 0).val < s.val + 1 := H 0; omega
  · intro e i; fin_cases i
    · show s.val ≤ (y 0).val ∧ (y 0).val < s.val + 1; omega
    · show 0 ≤ (y 1).val ∧ (y 1).val < 0 + 256; omega
    · show 0 ≤ (y 2).val ∧ (y 2).val < 0 + 512; omega

theorem YI_disjoint : ∀ b b' : Blk, b ≠ b' → Disjoint (YI b) (YI b') := by
  intro b b' hne; rw [Finset.disjoint_left]; intro y hy hy'; rw [mem_YI] at hy hy'
  exact hne (Prod.ext (Fin.ext (hy.1.symm.trans hy'.1)) (Fin.ext (hy.2.symm.trans hy'.2)))
theorem YI_cover : (Finset.univ : Finset Blk).biUnion YI = Finset.univ := by
  ext y; simp only [Finset.mem_biUnion, Finset.mem_univ, true_and, iff_true]
  have h0 : (y 0).val < 2 := (y 0).isLt
  have h1 : (y 1).val < 15360 := (y 1).isLt
  exact ⟨(⟨(y 0).val, h0⟩, ⟨(y 1).val / 256, by omega⟩), by rw [mem_YI]; exact ⟨rfl, rfl⟩⟩
theorem OI_disjoint : ∀ b b' : Blk, b ≠ b' → Disjoint (OI b) (OI b') := by
  intro b b' hne; rw [Finset.disjoint_left]; intro y hy hy'; rw [mem_OI] at hy hy'
  exact hne (Prod.ext (Fin.ext (hy.1.symm.trans hy'.1)) (Fin.ext (hy.2.symm.trans hy'.2)))
theorem OI_cover : (Finset.univ : Finset Blk).biUnion OI = Finset.univ := by
  ext y; simp only [Finset.mem_biUnion, Finset.mem_univ, true_and, iff_true]
  have h0 : (y 0).val < 2 := (y 0).isLt
  have h1 : (y 1).val < 60 := (y 1).isLt
  exact ⟨(⟨(y 0).val, h0⟩, ⟨(y 1).val, h1⟩), by rw [mem_OI]; exact ⟨rfl, rfl⟩⟩
theorem XI_disjoint : ∀ s s' : Fin 2, s ≠ s' → Disjoint (XI s) (XI s') := by
  intro s s' hne; rw [Finset.disjoint_left]; intro y hy hy'; rw [mem_XI] at hy hy'; exact hne (Fin.ext (hy.symm.trans hy'))
theorem XI_cover : (Finset.univ : Finset (Fin 2)).biUnion XI = Finset.univ := by
  ext y; simp only [Finset.mem_biUnion, Finset.mem_univ, true_and, iff_true]; exact ⟨(y 0).cast (by decide), by rw [mem_XI]; rfl⟩
theorem HI_disjoint : ∀ s s' : Fin 2, s ≠ s' → Disjoint (HI s) (HI s') := by
  intro s s' hne; rw [Finset.disjoint_left]; intro y hy hy'; rw [mem_HI] at hy hy'; exact hne (Fin.ext (hy.symm.trans hy'))
theorem HI_cover : (Finset.univ : Finset (Fin 2)).biUnion HI = Finset.univ := by
  ext y; simp only [Finset.mem_biUnion, Finset.mem_univ, true_and, iff_true]; exact ⟨(y 0).cast (by decide), by rw [mem_HI]; rfl⟩

end Cert.LstmIdeal.Run

end
-- ==== Proof.LstmIdealTrip.lean ====
/-
  One trip of the LSTM call's loop over a symbolic step `k`: the invariant (what is in flight, what is home, what the
  state buffers hold) and the step.
-/
module

public import proofs.«01_k».proof.Proof.LstmIdealNames
public import Idealize.ShloMosaic.Lib.ViewIndex
public import Idealize.ShloMosaic.Lib.VecWindow

@[expose] public section

set_option maxRecDepth 16384

noncomputable section

namespace Cert.LstmIdeal.Run

open Cert.LstmIdeal Cert.LstmIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := Pipeline.UD sig nD τ
local notation "𝕄" => MT nD τ sig Unit (Elt F) ℕ (UU nD τ) ℕ
abbrev 𝒱₀ : Variants := Variants.none

omit [FloatOps F] in
theorem entails_of_eq {P Q : sProp 𝕄} (e : P = Q) : P ⊢ Q := e ▸ .rfl

/-! ## The recurrence -/

section Cell
variable (v4 : FVec F S1x2048 .f32) (v8 : FVec F S1x384 .f32) (v17 : FVec F S1x384 .f32) (v19 : FVec F S1x384 .f32) (v21 : FVec F S1x384 .f32)
  (v31 : FVec F S384x2048 .bf16) (v32 : Vec F S512x2048 .bf16) (x : ℕ → Vec F S1x256x384 .f32)

/-- The new cell state and the new hidden state from the step's embeddings and the old ones. -/
def cNext (xv : Vec F S1x256x384 .f32) (h c : Vec F S256x512 .f32) : Vec F S256x512 .f32 :=
  k0_pay4 (k0_pay8 v4 v8 v17 v19 v21 v31 (k0_pay1 v32) xv h) (k0_pay9 v4 v8 v17 v19 v21 v31 (k0_pay1 v32) xv h)
    (k0_pay11 v4 v8 v17 v19 v21 v31 (k0_pay1 v32) xv h) c
def hNext (xv : Vec F S1x256x384 .f32) (h c : Vec F S256x512 .f32) : Vec F S256x512 .f32 :=
  k0_pay5 (k0_pay8 v4 v8 v17 v19 v21 v31 (k0_pay1 v32) xv h) (k0_pay9 v4 v8 v17 v19 v21 v31 (k0_pay1 v32) xv h)
    (k0_pay10 v4 v8 v17 v19 v21 v31 (k0_pay1 v32) xv h) (k0_pay11 v4 v8 v17 v19 v21 v31 (k0_pay1 v32) xv h) c

/-- The hidden and the cell state before step `k`. -/
def hc : ℕ → Vec F S256x512 .f32 × Vec F S256x512 .f32
  | 0 => (k0_pay17, k0_pay18)
  | k + 1 => (hNext v4 v8 v17 v19 v21 v31 v32 (x k) (hc k).1 (hc k).2, cNext v4 v8 v17 v19 v21 v31 v32 (x k) (hc k).1 (hc k).2)
end Cell

/-! ## The pieces held -/

section Pieces
variable (c : Dev nD) (XA : Buf (Elt F) (yM.view.loc (c : Thread nD τ))) (VO G : Buf (Elt F) (outM.view.loc (c : Thread nD τ))) (p : Fin 2)

abbrev iCell (s : Fin 2) : sProp 𝕄 := semVal ((c : Thread nD τ), SemLoc.dma (iC s).sem) 0
abbrev oCell (s : Fin 2) : sProp 𝕄 := semVal ((c : Thread nD τ), SemLoc.dma (oC s).sem) 0
abbrev xSlot (s : Fin 2) (f : Buf (Elt F) ((xS s).view.loc (c : Thread nD τ))) : sProp 𝕄 :=
  (xS s).view.loc (c : Thread nD τ) ↦[(xS s).view.set]{fullShare} f
abbrev hSlot (s : Fin 2) (f : Buf (Elt F) ((hS s).view.loc (c : Thread nD τ))) : sProp 𝕄 :=
  (hS s).view.loc (c : Thread nD τ) ↦[(hS s).view.set]{fullShare} f
abbrev yHome (b : Blk) : sProp 𝕄 := (yB b).view.loc (c : Thread nD τ) ↦[(yB b).view.set]{fullShare} XA
abbrev oHome (b : Blk) (f : Buf (Elt F) (outM.view.loc (c : Thread nD τ))) : sProp 𝕄 := (oB b).view.loc (c : Thread nD τ) ↦[(oB b).view.set]{fullShare} f
abbrev hBuf (f : Buf (Elt F) (hM.view.loc (c : Thread nD τ))) : sProp 𝕄 := hM.view.loc (c : Thread nD τ) ↦[hM.view.set]{fullShare} f
abbrev cBuf (f : Buf (Elt F) (cM.view.loc (c : Thread nD τ))) : sProp 𝕄 := cM.view.loc (c : Thread nD τ) ↦[cM.view.set]{fullShare} f

/-- What block `b`'s transfer leaves in input slot `s` over `f`. -/
abbrev xLanded (s : Fin 2) (b : Blk) (f : Buf (Elt F) ((xS s).view.loc (c : Thread nD τ))) : Buf (Elt F) ((xS s).view.loc (c : Thread nD τ)) :=
  (xS s).view.writes (Elt F) f [⟨Rect.whole S256x384, ReadAs.same.apply ((yB b).view.read (Elt F) XA)⟩]
/-- Input slot `s` in flight with block `b`. -/
abbrev xFlight (s : Fin 2) (b : Blk) (f : Buf (Elt F) ((xS s).view.loc (c : Thread nD τ))) : sProp 𝕄 :=
  Transfers.Flight countersEmb (c : Thread nD τ) (SemLoc.dma (iC s).sem) () 12288 iprop(xSlot c s (xLanded c XA s b f) ∗ yHome c XA b)
/-- Output slot `s` in flight to block `b`, which will hold `G`. -/
abbrev oFlight (s : Fin 2) (b : Blk) (fs : Buf (Elt F) ((hS s).view.loc (c : Thread nD τ))) : sProp 𝕄 :=
  Transfers.Flight countersEmb (c : Thread nD τ) (SemLoc.dma (oC s).sem) () 16384 iprop(oHome c b G ∗ hSlot c s fs)

/-- Input slot `k % 2` before trip `k`: in flight with block `k`, or free past the last. -/
def inCur (k : ℕ) : sProp 𝕄 :=
  if k < 60 then iprop(∃ f, xFlight c XA (Ring.sl 2 k) (p, Ring.bk 60 k) f) else iprop((∃ f, xSlot c (Ring.sl 2 k) f) ∗ iCell c (Ring.sl 2 k))
/-- the other input slot: free. -/
def inOther (k : ℕ) : sProp 𝕄 := iprop((∃ f, xSlot c (Ring.sl 2 (k + 1)) f) ∗ iCell c (Ring.sl 2 (k + 1)))
/-- Output slot `k % 2` before trip `k`: in flight to block `k - 2`, or free at the first two trips. -/
def outSlot (k : ℕ) : sProp 𝕄 :=
  if 2 ≤ k then iprop(∃ fs, oFlight c G (Ring.sl 2 k) (p, Ring.bk 60 (k - 2)) fs) else iprop((∃ f, hSlot c (Ring.sl 2 k) f) ∗ oCell c (Ring.sl 2 k))
/-- The embeddings' blocks at home before trip `k`: all but block `k`. -/
def yHomes (k : ℕ) : sProp 𝕄 := bigSep (Finset.univ.filter fun b : Blk => ¬(b.1 = p ∧ b.2.val = k)) (yHome c XA)
def yRest (k : ℕ) : sProp 𝕄 := bigSep (Finset.univ.filter fun b : Blk => ¬(b.1 = p ∧ (b.2.val = k ∨ b.2.val = k + 1))) (yHome c XA)
/-- What result block `b` holds before trip `k` when it is not in flight. -/
def oCur (k : ℕ) (b : Blk) : Buf (Elt F) (outM.view.loc (c : Thread nD τ)) :=
  if b.1.val < p.val ∨ (b.1.val = p.val ∧ b.2.val < k) then G else VO
/-- The result's blocks at home before trip `k`: all but blocks `k - 2` and `k - 1`. -/
def oHomes (k : ℕ) : sProp 𝕄 :=
  bigSep (Finset.univ.filter fun b : Blk => ¬(b.1 = p ∧ b.2.val < k ∧ k ≤ b.2.val + 2)) (fun b => oHome c b (oCur c VO G p k b))
def oRest (k : ℕ) : sProp 𝕄 :=
  bigSep (Finset.univ.filter fun b : Blk => ¬(b.1 = p ∧ b.2.val ≤ k ∧ k ≤ b.2.val + 2)) (fun b => oHome c b (oCur c VO G p k b))

theorem filter_pull (P Q : Blk → Prop) [DecidablePred P] [DecidablePred Q] (b₀ : Blk) (h₀ : P b₀) (hQ : ∀ b, Q b ↔ P b ∧ b ≠ b₀) (Φ : Blk → sProp 𝕄) :
    bigSep (Finset.univ.filter P) Φ = iprop(Φ b₀ ∗ bigSep (Finset.univ.filter Q) Φ) := by
  have e : Finset.univ.filter P = insert b₀ (Finset.univ.filter Q) := by
    ext b; simp only [Finset.mem_filter, Finset.mem_univ, true_and, Finset.mem_insert, hQ]
    constructor
    · intro h; by_cases hb : b = b₀
      · exact .inl hb
      · exact .inr ⟨h, hb⟩
    · rintro (rfl | h)
      · exact h₀
      · exact h.1
  rw [e, bigSep_insert (by simp [hQ])]; rfl

theorem blk_ne (b : Blk) (k : ℕ) (hk : k < 60) : b ≠ (p, Ring.bk 60 k) ↔ ¬(b.1 = p ∧ b.2.val = k) := by
  rw [not_iff_not, Prod.ext_iff, Fin.ext_iff (a := b.2), Ring.bk_val hk]

theorem yHomes_out (k : ℕ) (hk : k + 1 < 60) : yHomes c XA p k = iprop(yHome c XA (p, Ring.bk 60 (k + 1)) ∗ yRest c XA p k) :=
  filter_pull _ _ (p, Ring.bk 60 (k + 1)) (by rw [Ring.bk_val hk]; omega) (fun b => by rw [blk_ne p b _ hk]; tauto) _
theorem yHomes_in (k : ℕ) (hk : k < 60) : yHomes c XA p (k + 1) = iprop(yHome c XA (p, Ring.bk 60 k) ∗ yRest c XA p k) :=
  filter_pull _ _ (p, Ring.bk 60 k) (by rw [Ring.bk_val hk]; omega) (fun b => by rw [blk_ne p b _ hk]; tauto) _
theorem yHomes_last : yRest c XA p 59 = yHomes c XA p 59 := by
  unfold yRest yHomes
  congr 1; ext b; have := b.2.isLt; simp only [Finset.mem_filter, Finset.mem_univ, true_and]
  have : ¬ b.2.val = 59 + 1 := by omega
  tauto

theorem oHomes_out (k : ℕ) (hk : k < 60) : oHomes c VO G p k = iprop(oHome c (p, Ring.bk 60 k) VO ∗ oRest c VO G p k) := by
  unfold oHomes oRest
  rw [filter_pull _ _ (p, Ring.bk 60 k) (by rw [Ring.bk_val hk]; omega) (fun b => (show ¬(b.1 = p ∧ b.2.val ≤ k ∧ k ≤ b.2.val + 2) ↔ _ by rw [blk_ne p b _ hk]; omega)) _]
  rw [show oCur c VO G p k (p, Ring.bk 60 k) = VO by unfold oCur; rw [Ring.bk_val hk, if_neg (by dsimp only; omega)]]
theorem oRest_congr (k : ℕ) :
    oRest c VO G p k = bigSep (Finset.univ.filter fun b : Blk => ¬(b.1 = p ∧ b.2.val ≤ k ∧ k ≤ b.2.val + 2)) (fun b => oHome c b (oCur c VO G p (k + 1) b)) := by
  unfold oRest
  refine bigSep_congr fun b hb => ?_
  simp only [Finset.mem_filter, Finset.mem_univ, true_and] at hb
  rw [show oCur c VO G p (k + 1) b = oCur c VO G p k b by
    unfold oCur
    by_cases h : b.1.val < p.val ∨ (b.1.val = p.val ∧ b.2.val < k)
    · rw [if_pos h, if_pos (by omega)]
    · rw [if_neg h, if_neg (by rw [Fin.ext_iff] at hb; omega)]]
theorem oHomes_in (k : ℕ) (hk : k < 60) (h2 : 2 ≤ k) : oHomes c VO G p (k + 1) = iprop(oHome c (p, Ring.bk 60 (k - 2)) G ∗ oRest c VO G p k) := by
  rw [oRest_congr]; unfold oHomes
  rw [filter_pull _ _ (p, Ring.bk 60 (k - 2)) (by rw [Ring.bk_val (by omega)]; omega) (fun b => (show ¬(b.1 = p ∧ b.2.val ≤ k ∧ k ≤ b.2.val + 2) ↔ _ by rw [blk_ne p b _ (by omega)]; omega)) _]
  rw [show oCur c VO G p (k + 1) (p, Ring.bk 60 (k - 2)) = G by unfold oCur; rw [Ring.bk_val (by omega), if_pos (by right; exact ⟨rfl, by omega⟩)]]
theorem oHomes_in' (k : ℕ) (h2 : ¬ 2 ≤ k) : oHomes c VO G p (k + 1) = oRest c VO G p k := by
  rw [oRest_congr]; unfold oHomes
  congr 1; ext b; simp only [Finset.mem_filter, Finset.mem_univ, true_and]; omega

end Pieces

/-! ## What the slots hold -/

/-- A view written through a reshape of itself, read back as it stands. -/
theorem read_reshape_write {κ : Kind} {sp : Space} {s s' : Shape} {e : EltTy} (v : View sig κ sp s e) (h : s'.numel = s.numel) (f : v.ty.Contents (Elt F)) (w : s.Idx → Elt F e) :
    v.read (Elt F) ((v.reshape s' h).writes (Elt F) f [⟨Rect.whole s', fun y => w (Shape.reshapeEquiv h y)⟩]) = w := by
  funext x
  obtain ⟨y, rfl⟩ := (Shape.reshapeEquiv h).surjective x
  exact congrFun (View.read_writes_whole (v.reshape s' h) f (fun y => w (Shape.reshapeEquiv h y))) y

/-- Step `k`'s embeddings, as the body loads them. -/
def xBlk (c : Dev nD) (XA : Buf (Elt F) (yM.view.loc (c : Thread nD τ))) (p : Fin 2) (k : ℕ) : Vec F S1x256x384 .f32 :=
  (yM.view.slice (Rect.unit (s := S2x15360x384) (yOff (p, Ring.bk 60 k)) S1x256x384.size (yOff_inb _))).read (Elt F) XA

/-- The landed input slot, loaded. -/
theorem load_x (c : Dev nD) (XA : Buf (Elt F) (yM.view.loc (c : Thread nD τ))) (p : Fin 2) (k : ℕ) {off : Fin 3 → Nat} (e : off = slOff (Ring.sl 2 k)) (hh)
    (f : Buf (Elt F) ((xS (Ring.sl 2 k)).view.loc (c : Thread nD τ))) :
    xbM.view.readAt (Elt F) (Rect.unit (s := S2x256x384) off S1x256x384.size hh).toLoadRect (xLanded c XA (Ring.sl 2 k) (p, Ring.bk 60 k) f) = xBlk c XA p k := by
  subst e
  exact read_reshape_write (xbM.view.slice (Rect.unit (s := S2x256x384) (slOff (Ring.sl 2 k)) S1x256x384.size (xsOff_inb _))) _ f (xBlk c XA p k)

/-- The stored output slot, read by the transfer. -/
theorem read_h (k : ℕ) {off : Fin 3 → Nat} (e : off = slOff (Ring.sl 2 k)) (hh)
    (f : hbM.view.ty.Contents (Elt F)) (w : Vec F S256x512 .f32) :
    (hS (Ring.sl 2 k)).view.read (Elt F) (View.write (Elt F) (hbM.access (Rect.unit (s := S2x256x512) off S1x256x512.size hh)) f
      (shapeCast S1x256x512 w shapeCasts_S256x512_S1x256x512) Finset.univ) = w := by
  subst e
  have e1 := View.read_write_univ (Val := Elt F) (v := hbM.access (Rect.unit (s := S2x256x512) (slOff (Ring.sl 2 k)) S1x256x512.size hh)) f (shapeCast S1x256x512 w shapeCasts_S256x512_S1x256x512)
  funext y
  refine (congrFun e1 (Shape.reshapeEquiv squeezes_S1x256x512_S256x512.numel_eq y)).trans ?_
  unfold shapeCast
  rw [Shape.reshapeEquiv_reshapeEquiv, Shape.reshapeEquiv_self]

section Close
variable (c : Dev nD) (XA : Buf (Elt F) (yM.view.loc (c : Thread nD τ))) (VO G : Buf (Elt F) (outM.view.loc (c : Thread nD τ)))

/-- A whole store leaves what it stored. -/
theorem stored (M : Memref sig .tc .vmem S256x512 .f32) (off : Fin 2 → Nat) (e : off = ![0, 0]) (hh) (f : M.view.ty.Contents (Elt F)) (w : Vec F S256x512 .f32) :
    M.view.read (Elt F) (M.view.writes (Elt F) f [⟨Rect.unit (s := S256x512) off S256x512.size hh, w⟩]) = w := by
  subst e
  exact View.read_writes_full M.view f hh w []

/-- A block written with what `G` holds there holds `G`. -/
theorem oHome_eq (b : Blk) (w : Vec F S256x512 .f32) (hw : (oB b).view.read (Elt F) G = w) :
    ((oB b).view.loc (c : Thread nD τ) ↦[(oB b).view.set]{fullShare} (oB b).view.writes (Elt F) VO [⟨Rect.whole S256x512, w⟩] : sProp 𝕄) = oHome c b G :=
  pointsTo_congr fun i hi => by
    obtain ⟨x, -, rfl⟩ := Finset.mem_map.mp hi
    exact View.eq_of_read_eq (congrFun ((View.read_writes_whole (Val := Elt F) (oB b).view VO w).trans hw.symm) x)
end Close

end Cert.LstmIdeal.Run

end
-- ==== Proof.LstmIdealStep.lean ====
/-
  One trip of the LSTM call's loop over a symbolic step `k`: from the state before the step to the state after it, the
  hidden and the cell state following the recurrence.
-/
module

public import proofs.«01_k».proof.Proof.LstmIdealTrip

@[expose] public section

set_option maxRecDepth 16384

noncomputable section

namespace Cert.LstmIdeal.Run

open Cert.LstmIdeal Cert.LstmIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## One trip -/

section Trip
variable (c : Dev nD) (XA : Buf (Elt F) (yM.view.loc (c : Thread nD τ))) (VO G : Buf (Elt F) (outM.view.loc (c : Thread nD τ)))
  (i : grid0.Coords)
  (arg2 : Memref sig .tc .vmem S1x2x384 .f32) (harg2 : arg2.IsWhole) (arg3 : Memref sig .tc .vmem S1x384 .f32) (harg3 : arg3.IsWhole)
  (arg4 : Memref sig .tc .vmem S1x384 .f32) (harg4 : arg4.IsWhole) (arg5 : Memref sig .tc .vmem S384x2048 .bf16) (harg5 : arg5.IsWhole)
  (arg6 : Memref sig .tc .vmem S512x2048 .bf16) (harg6 : arg6.IsWhole) (arg7 : Memref sig .tc .vmem S1x2048 .f32) (harg7 : arg7.IsWhole)
  (arg8 : Memref sig .tc .vmem S1x2048 .f32) (harg8 : arg8.IsWhole)
  (v4 : FVec F S1x2048 .f32) (v8 : FVec F S1x384 .f32) (v17 : FVec F S1x384 .f32) (v19 : FVec F S1x384 .f32) (v21 : FVec F S1x384 .f32)
  (v31 : FVec F S384x2048 .bf16) (v32 : Vec F S512x2048 .bf16)

abbrev tripG (k : Fin k0_t1_loop.trips) : Prog (TpuEff nD τ sig (Elt F) Λ₀ .tc) Unit :=
  k0_t1_body (F := F) i yM (Memref.isWhole_whole _) arg2 harg2 arg3 harg3 arg4 harg4 arg5 harg5 arg6 harg6 arg7 harg7 arg8 harg8
    outM (Memref.isWhole_whole _) xbM (Memref.isWhole_whole _) hM (Memref.isWhole_whole _) cM (Memref.isWhole_whole _) hbM (Memref.isWhole_whole _)
    cc0_scratch4 cc0_scratch5 v4 v8 v17 v19 v21 v31 v32 k ()

/-- The hidden and the cell state before step `k` of the grid point's sentence. -/
abbrev hcAt (k : ℕ) : Vec F S256x512 .f32 × Vec F S256x512 .f32 := hc v4 v8 v17 v19 v21 v31 v32 (xBlk c XA (pt i)) k

/-- The state before trip `k`. -/
def inv (k : ℕ) : sProp 𝕄 :=
  iprop((∃ fh, hBuf c fh ∗ ⌜hM.view.read (Elt F) fh = (hcAt c XA i v4 v8 v17 v19 v21 v31 v32 k).1⌝)
    ∗ (∃ fc, cBuf c fc ∗ ⌜cM.view.read (Elt F) fc = (hcAt c XA i v4 v8 v17 v19 v21 v31 v32 k).2⌝)
    ∗ (∃ W, owes (c : Thread nD τ) 0 W) ∗ yHomes c XA (pt i) k ∗ oHomes c VO G (pt i) k
    ∗ inCur c XA (pt i) k ∗ inOther c k ∗ outSlot c G (pt i) k ∗ outSlot c G (pt i) (k + 1))

theorem sl_two (k : ℕ) : Ring.sl 2 (k + 1 + 1) = Ring.sl 2 k := Fin.ext (by show (k + 1 + 1) % 2 = k % 2; omega)

/-- What the trip's stores leave is the recurrence's next step, whatever names the run gave the loads. -/
theorem next_h {k : ℕ} {xv : Vec F S1x256x384 .f32} {h c' : Vec F S256x512 .f32} (ex : xv = xBlk c XA (pt i) k)
    (eh : h = (hcAt c XA i v4 v8 v17 v19 v21 v31 v32 k).1) (ec : c' = (hcAt c XA i v4 v8 v17 v19 v21 v31 v32 k).2) :
    hNext v4 v8 v17 v19 v21 v31 v32 xv h c' = (hcAt c XA i v4 v8 v17 v19 v21 v31 v32 (k + 1)).1 := by
  subst ex eh ec; rfl
theorem next_c {k : ℕ} {xv : Vec F S1x256x384 .f32} {h c' : Vec F S256x512 .f32} (ex : xv = xBlk c XA (pt i) k)
    (eh : h = (hcAt c XA i v4 v8 v17 v19 v21 v31 v32 k).1) (ec : c' = (hcAt c XA i v4 v8 v17 v19 v21 v31 v32 k).2) :
    cNext v4 v8 v17 v19 v21 v31 v32 xv h c' = (hcAt c XA i v4 v8 v17 v19 v21 v31 v32 (k + 1)).2 := by
  subst ex eh ec; rfl
theorem shapeCast_same {s : Shape} {α : Type} (v : s.Idx → α) (h : s.ShapeCasts s) : shapeCast s v h = v :=
  funext fun j => congrArg v (Shape.reshapeEquiv_self h j)
theorem pay6_eq (a b d e : FVec F S256x512 .f32) (g : Vec F S256x512 .f32) : k0_pay6 a b d e g = shapeCast S1x256x512 (k0_pay5 a b d e g) shapeCasts_S256x512_S1x256x512 := by
  unfold k0_pay6 k0_pay5; dsimp only; rw [shapeCast_same]

theorem read_pay6 (k : ℕ) {off : Fin 3 → Nat} (e : off = slOff (Ring.sl 2 k)) (hh) (f : hbM.view.ty.Contents (Elt F)) (a b d e' : FVec F S256x512 .f32) (g : Vec F S256x512 .f32) :
    (hS (Ring.sl 2 k)).view.read (Elt F) (View.write (Elt F) (hbM.access (Rect.unit (s := S2x256x512) off S1x256x512.size hh)) f (k0_pay6 a b d e' g) Finset.univ)
      = k0_pay5 a b d e' g := by
  rw [pay6_eq]; exact read_h k e hh f _

variable (hG : ∀ k, k < 60 → (oB (pt i, Ring.bk 60 k)).view.read (Elt F) G = (hcAt c XA i v4 v8 v17 v19 v21 v31 v32 (k + 1)).1)
include hG

theorem step_mid (k : Fin k0_t1_loop.trips) (h1 : k.val + 1 < 60) (h2 : 2 ≤ k.val) :
    inv c XA VO G i v4 v8 v17 v19 v21 v31 v32 k.val
    ⊢ wp frame (wpE (defs₀ (F := F)) 𝒱₀ (c : Thread nD τ) none) Set.univ
        (tripG i arg2 harg2 arg3 harg3 arg4 harg4 arg5 harg5 arg6 harg6 arg7 harg7 arg8 harg8 v4 v8 v17 v19 v21 v31 v32 k)
        (fun _ => inv c XA VO G i v4 v8 v17 v19 v21 v31 v32 (k.val + 1)) := by
  have hk : k.val < 60 := by omega
  have hc1 : k0_cond1 k = 1#1 := (cond1_iff k).mpr h1
  have hc2 : k0_cond2 k = 1#1 := (cond2_iff k).mpr h2
  unfold inv inCur inOther
  rw [show outSlot c G (pt i) k.val = _ from if_pos h2, show outSlot c G (pt i) (k.val + 1 + 1) = _ from if_pos (by omega), sl_two, show k.val + 1 + 1 - 2 = k.val by omega,
    if_pos hk, if_pos h1, yHomes_out c XA _ k.val h1, yHomes_in c XA _ k.val hk, oHomes_out c VO G _ k.val hk, oHomes_in c VO G _ k.val hk h2]
  iintro ⟨⟨%fh, Hh, %eh⟩, ⟨%fc, Hc, %ec⟩, ⟨%W, HW⟩, ⟨Hy, Hyr⟩, ⟨Ho, Hor⟩, ⟨%fx, HX⟩, ⟨⟨%fx1, HX1⟩, HX1c⟩, ⟨%fs, HO⟩, HOn⟩
  dsimp only [tripG]
  sl_unfold [k0_t1_body]
  sl_exec
  sl_step
  have ex := load_x c XA (pt i) k.val (off8_eq k) (k0_off8_inb k) (xS (Ring.sl 2 k.val)).view.junk
  have eh' := (View.readAt_full hM.view fh inb_S256x512_S256x512_0_0).trans eh
  have ec' := (View.readAt_full cM.view fc inb_S256x512_S256x512_0_0).trans ec
  have enh := next_h c XA i v4 v8 v17 v19 v21 v31 v32 ex eh' ec'
  have enc := next_c c XA i v4 v8 v17 v19 v21 v31 v32 ex eh' ec'
  have hw : (oB (pt i, Ring.bk 60 k.val)).view.read (Elt F) G = step_mid.sl.dma9 c XA i v4 v8 v17 v19 v21 v31 v32 k fh fc fs :=
    (hG k.val hk).trans (enh.symm.trans (read_pay6 k.val (off12_eq k) (k0_off12_inb k) fs _ _ _ _ _).symm)
  rw [oHome_eq c VO G _ _ hw]
  isplitl [Hh]
  · iexists _; isplitl [Hh]; · iexact Hh
    ipureintro; exact (stored hM _ rfl _ fh _).trans enh
  isplitl [Hc]
  · iexists _; isplitl [Hc]; · iexact Hc
    ipureintro; exact (stored cM _ rfl _ fc _).trans enc
  isplitl [HW]; · iexists _; iexact HW
  isplitl [HX_src Hyr]; · isplitl [HX_src]; · iexact HX_src
                          iexact Hyr
  isplitl [HO_dst Hor]; · isplitl [HO_dst]; · iexact HO_dst
                          iexact Hor
  isplitl [HX1c]; · iexists _; iexact HX1c
  isplitl [HX_dst HX]; · isplitl [HX_dst]; · iexists _; iexact HX_dst
                         iexact HX
  isplitl [HOn]; · iexact HOn
  iexists _; iexact HO

theorem step_lo (k : Fin k0_t1_loop.trips) (h1 : k.val + 1 < 60) (h2 : ¬ 2 ≤ k.val) :
    inv c XA VO G i v4 v8 v17 v19 v21 v31 v32 k.val
    ⊢ wp frame (wpE (defs₀ (F := F)) 𝒱₀ (c : Thread nD τ) none) Set.univ
        (tripG i arg2 harg2 arg3 harg3 arg4 harg4 arg5 harg5 arg6 harg6 arg7 harg7 arg8 harg8 v4 v8 v17 v19 v21 v31 v32 k)
        (fun _ => inv c XA VO G i v4 v8 v17 v19 v21 v31 v32 (k.val + 1)) := by
  have hk : k.val < 60 := by omega
  have hc1 : k0_cond1 k = 1#1 := (cond1_iff k).mpr h1
  have hc2 : ¬ k0_cond2 k = 1#1 := fun h => h2 ((cond2_iff k).mp h)
  unfold inv inCur inOther
  rw [show outSlot c G (pt i) k.val = _ from if_neg h2, show outSlot c G (pt i) (k.val + 1 + 1) = _ from if_pos (by omega), sl_two, show k.val + 1 + 1 - 2 = k.val by omega,
    if_pos hk, if_pos h1, yHomes_out c XA _ k.val h1, yHomes_in c XA _ k.val hk, oHomes_out c VO G _ k.val hk, oHomes_in' c VO G _ k.val h2]
  iintro ⟨⟨%fh, Hh, %eh⟩, ⟨%fc, Hc, %ec⟩, ⟨%W, HW⟩, ⟨Hy, Hyr⟩, ⟨Ho, Hor⟩, ⟨%fx, HX⟩, ⟨⟨%fx1, HX1⟩, HX1c⟩, ⟨⟨%fs, HO⟩, HOc⟩, HOn⟩
  dsimp only [tripG]
  sl_unfold [k0_t1_body]
  sl_exec
  sl_step
  have ex := load_x c XA (pt i) k.val (off8_eq k) (k0_off8_inb k) (xS (Ring.sl 2 k.val)).view.junk
  have eh' := (View.readAt_full hM.view fh inb_S256x512_S256x512_0_0).trans eh
  have ec' := (View.readAt_full cM.view fc inb_S256x512_S256x512_0_0).trans ec
  have enh := next_h c XA i v4 v8 v17 v19 v21 v31 v32 ex eh' ec'
  have enc := next_c c XA i v4 v8 v17 v19 v21 v31 v32 ex eh' ec'
  have hw : (oB (pt i, Ring.bk 60 k.val)).view.read (Elt F) G = step_lo.sl.dma9 c XA i v4 v8 v17 v19 v21 v31 v32 k fh fc fs :=
    (hG k.val hk).trans (enh.symm.trans (read_pay6 k.val (off12_eq k) (k0_off12_inb k) fs _ _ _ _ _).symm)
  rw [oHome_eq c VO G _ _ hw]
  isplitl [Hh]
  · iexists _; isplitl [Hh]; · iexact Hh
    ipureintro; exact (stored hM _ rfl _ fh _).trans enh
  isplitl [Hc]
  · iexists _; isplitl [Hc]; · iexact Hc
    ipureintro; exact (stored cM _ rfl _ fc _).trans enc
  isplitl [HW]; · iexists _; iexact HW
  isplitl [HX_src Hyr]; · isplitl [HX_src]; · iexact HX_src
                          iexact Hyr
  isplitl [Hor]; · iexact Hor
  isplitl [HX1c]; · iexists _; iexact HX1c
  isplitl [HX_dst HX]; · isplitl [HX_dst]; · iexists _; iexact HX_dst
                         iexact HX
  isplitl [HOn]; · iexact HOn
  iexists _; iexact HOc

theorem step_last (k : Fin k0_t1_loop.trips) (h1 : k.val = 59) :
    inv c XA VO G i v4 v8 v17 v19 v21 v31 v32 k.val
    ⊢ wp frame (wpE (defs₀ (F := F)) 𝒱₀ (c : Thread nD τ) none) Set.univ
        (tripG i arg2 harg2 arg3 harg3 arg4 harg4 arg5 harg5 arg6 harg6 arg7 harg7 arg8 harg8 v4 v8 v17 v19 v21 v31 v32 k)
        (fun _ => inv c XA VO G i v4 v8 v17 v19 v21 v31 v32 (k.val + 1)) := by
  have hk : k.val < 60 := by omega
  have h2 : 2 ≤ k.val := by omega
  have h1' : ¬ k.val + 1 < 60 := by omega
  have hc1 : ¬ k0_cond1 k = 1#1 := fun h => h1' ((cond1_iff k).mp h)
  have hc2 : k0_cond2 k = 1#1 := (cond2_iff k).mpr h2
  unfold inv inCur inOther
  rw [show outSlot c G (pt i) k.val = _ from if_pos h2, show outSlot c G (pt i) (k.val + 1 + 1) = _ from if_pos (by omega), sl_two, show k.val + 1 + 1 - 2 = k.val by omega,
    if_pos hk, if_neg h1', yHomes_in c XA _ k.val hk, show yHomes c XA (pt i) k.val = yRest c XA (pt i) k.val by rw [h1, yHomes_last], oHomes_out c VO G _ k.val hk, oHomes_in c VO G _ k.val hk h2]
  iintro ⟨⟨%fh, Hh, %eh⟩, ⟨%fc, Hc, %ec⟩, ⟨%W, HW⟩, Hyr, ⟨Ho, Hor⟩, ⟨%fx, HX⟩, ⟨⟨%fx1, HX1⟩, HX1c⟩, ⟨%fs, HO⟩, HOn⟩
  dsimp only [tripG]
  sl_unfold [k0_t1_body]
  sl_exec
  sl_step
  have ex := load_x c XA (pt i) k.val (off8_eq k) (k0_off8_inb k) (xS (Ring.sl 2 k.val)).view.junk
  have eh' := (View.readAt_full hM.view fh inb_S256x512_S256x512_0_0).trans eh
  have ec' := (View.readAt_full cM.view fc inb_S256x512_S256x512_0_0).trans ec
  have enh := next_h c XA i v4 v8 v17 v19 v21 v31 v32 ex eh' ec'
  have enc := next_c c XA i v4 v8 v17 v19 v21 v31 v32 ex eh' ec'
  have hw : (oB (pt i, Ring.bk 60 k.val)).view.read (Elt F) G = step_last.sl.dma9 c XA i v4 v8 v17 v19 v21 v31 v32 k fh fc fs :=
    (hG k.val hk).trans (enh.symm.trans (read_pay6 k.val (off12_eq k) (k0_off12_inb k) fs _ _ _ _ _).symm)
  rw [oHome_eq c VO G _ _ hw]
  isplitl [Hh]
  · iexists _; isplitl [Hh]; · iexact Hh
    ipureintro; exact (stored hM _ rfl _ fh _).trans enh
  isplitl [Hc]
  · iexists _; isplitl [Hc]; · iexact Hc
    ipureintro; exact (stored cM _ rfl _ fc _).trans enc
  isplitl [HW]; · iexists _; iexact HW
  isplitl [HX_src Hyr]; · isplitl [HX_src]; · iexact HX_src
                          iexact Hyr
  isplitl [HO_dst Hor]; · isplitl [HO_dst]; · iexact HO_dst
                          iexact Hor
  isplitl [HX1 HX1c]
  · isplitl [HX1]
    · iexists _; iexact HX1
    iexact HX1c
  isplitl [HX_dst HX]; · isplitl [HX_dst]; · iexists _; iexact HX_dst
                         iexact HX
  isplitl [HOn]; · iexact HOn
  iexists _; iexact HO

/-- A trip takes the state before its step to the state after it. -/
theorem step (k : Fin k0_t1_loop.trips) :
    inv c XA VO G i v4 v8 v17 v19 v21 v31 v32 k.val
    ⊢ wp frame (wpE (defs₀ (F := F)) 𝒱₀ (c : Thread nD τ) none) Set.univ
        (tripG i arg2 harg2 arg3 harg3 arg4 harg4 arg5 harg5 arg6 harg6 arg7 harg7 arg8 harg8 v4 v8 v17 v19 v21 v31 v32 k)
        (fun _ => inv c XA VO G i v4 v8 v17 v19 v21 v31 v32 (k.val + 1)) := by
  have hk : k.val < 60 := lt_of_lt_of_eq k.isLt trips_eq
  by_cases h1 : k.val + 1 < 60
  · by_cases h2 : 2 ≤ k.val
    · exact step_mid c XA VO G i arg2 harg2 arg3 harg3 arg4 harg4 arg5 harg5 arg6 harg6 arg7 harg7 arg8 harg8 v4 v8 v17 v19 v21 v31 v32 hG k h1 h2
    · exact step_lo c XA VO G i arg2 harg2 arg3 harg3 arg4 harg4 arg5 harg5 arg6 harg6 arg7 harg7 arg8 harg8 v4 v8 v17 v19 v21 v31 v32 hG k h1 h2
  · exact step_last c XA VO G i arg2 harg2 arg3 harg3 arg4 harg4 arg5 harg5 arg6 harg6 arg7 harg7 arg8 harg8 v4 v8 v17 v19 v21 v31 v32 hG k (by omega)

end Trip

end Cert.LstmIdeal.Run

end
-- ==== Proof.LstmIdealBody.lean ====
/-
  The idealized LSTM call's body at one grid point: the first block's transfer issued, the loop by its invariant, the last two
  blocks' transfers awaited.
-/
module

public import proofs.«01_k».proof.Proof.LstmIdealStep

@[expose] public section

set_option maxRecDepth 16384

noncomputable section

namespace Cert.LstmIdeal.Run

open Cert.LstmIdeal Cert.LstmIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Body
variable (c : Dev nD) (XA : Buf (Elt F) (yM.view.loc (c : Thread nD τ))) (VO G : Buf (Elt F) (outM.view.loc (c : Thread nD τ)))
  (i : grid0.Coords)
  (arg2 : Memref sig .tc .vmem S1x2x384 .f32) (harg2 : arg2.IsWhole) (arg3 : Memref sig .tc .vmem S1x384 .f32) (harg3 : arg3.IsWhole)
  (arg4 : Memref sig .tc .vmem S1x384 .f32) (harg4 : arg4.IsWhole) (arg5 : Memref sig .tc .vmem S384x2048 .bf16) (harg5 : arg5.IsWhole)
  (arg6 : Memref sig .tc .vmem S512x2048 .bf16) (harg6 : arg6.IsWhole) (arg7 : Memref sig .tc .vmem S1x2048 .f32) (harg7 : arg7.IsWhole)
  (arg8 : Memref sig .tc .vmem S1x2048 .f32) (harg8 : arg8.IsWhole)

abbrev bodyG : Prog (TpuEff nD τ sig (Elt F) Λ₀ .tc) PUnit :=
  cc0_lstm_encoder (F := F) i yM (Memref.isWhole_whole _) arg2 harg2 arg3 harg3 arg4 harg4 arg5 harg5 arg6 harg6 arg7 harg7 arg8 harg8
    outM (Memref.isWhole_whole _) xbM (Memref.isWhole_whole _) hM (Memref.isWhole_whole _) cM (Memref.isWhole_whole _) hbM (Memref.isWhole_whole _)
    cc0_scratch4 cc0_scratch5

/-- A staged operand's buffer at contents `g`. -/
abbrev stg {s : Shape} {e : EltTy} (a : Memref sig .tc .vmem s e) (g : Buf (Elt F) (a.view.loc (c : Thread nD τ))) : sProp 𝕄 := a.view.loc (c : Thread nD τ) ↦[a.view.set]{fullShare} g

variable (g2 : Buf (Elt F) (arg2.view.loc (c : Thread nD τ))) (g3 : Buf (Elt F) (arg3.view.loc (c : Thread nD τ))) (g4 : Buf (Elt F) (arg4.view.loc (c : Thread nD τ)))
  (g5 : Buf (Elt F) (arg5.view.loc (c : Thread nD τ))) (g6 : Buf (Elt F) (arg6.view.loc (c : Thread nD τ))) (g7 : Buf (Elt F) (arg7.view.loc (c : Thread nD τ)))
  (g8 : Buf (Elt F) (arg8.view.loc (c : Thread nD τ)))

abbrev staged : sProp 𝕄 := iprop(stg c arg2 g2 ∗ stg c arg3 g3 ∗ stg c arg4 g4 ∗ stg c arg5 g5 ∗ stg c arg6 g6 ∗ stg c arg7 g7 ∗ stg c arg8 g8)
/-- What the body is handed beside its staged operands. -/
abbrev scr : sProp 𝕄 := iprop((∃ f, hBuf c f) ∗ (∃ f, cBuf c f) ∗ (∃ f, xSlot c 0 f) ∗ (∃ f, xSlot c 1 f) ∗ (∃ f, hSlot c 0 f) ∗ (∃ f, hSlot c 1 f)
  ∗ iCell c 0 ∗ iCell c 1 ∗ oCell c 0 ∗ oCell c 1)

/-! ## The operands the body loads before the loop -/

abbrev V4 : FVec F S1x2048 .f32 :=
  k0_pay12 (arg7.view.readAt (Elt F) (Rect.unit (s := S1x2048) ![0, 0] S1x2048.size inb_S1x2048_S1x2048_0_0).toLoadRect g7)
    (arg8.view.readAt (Elt F) (Rect.unit (s := S1x2048) ![0, 0] S1x2048.size inb_S1x2048_S1x2048_0_0).toLoadRect g8)
abbrev V8 : FVec F S1x384 .f32 :=
  k0_pay13 (arg2.view.readAt (Elt F) (Rect.unit (s := S1x2x384) ![0, 0, 0] S1x1x384.size inb_S1x2x384_S1x1x384_0_0_0).toLoadRect g2)
abbrev V17 : FVec F S1x384 .f32 :=
  k0_pay14 (arg2.view.readAt (Elt F) (Rect.unit (s := S1x2x384) ![0, 0, 0] S1x1x384.size inb_S1x2x384_S1x1x384_0_0_0).toLoadRect g2)
    (arg2.view.readAt (Elt F) (Rect.unit (s := S1x2x384) ![0, 1, 0] S1x1x384.size inb_S1x2x384_S1x1x384_0_1_0).toLoadRect g2)
abbrev V19 : FVec F S1x384 .f32 :=
  k0_pay15 (arg3.view.readAt (Elt F) (Rect.unit (s := S1x384) ![0, 0] S1x384.size inb_S1x384_S1x384_0_0).toLoadRect g3)
abbrev V21 : FVec F S1x384 .f32 :=
  k0_pay16 (arg4.view.readAt (Elt F) (Rect.unit (s := S1x384) ![0, 0] S1x384.size inb_S1x384_S1x384_0_0).toLoadRect g4)
abbrev V31 : FVec F S384x2048 .bf16 :=
  k0_pay19 (arg5.view.readAt (Elt F) (Rect.unit (s := S384x2048) ![0, 0] S384x2048.size inb_S384x2048_S384x2048_0_0).toLoadRect g5)
abbrev V32 : Vec F S512x2048 .bf16 :=
  arg6.view.readAt (Elt F) (Rect.unit (s := S512x2048) ![0, 0] S512x2048.size inb_S512x2048_S512x2048_0_0).toLoadRect g6

/-- The states of the grid point's sentence, from its staged operands. -/
abbrev hcS (k : ℕ) : Vec F S256x512 .f32 × Vec F S256x512 .f32 :=
  hcAt c XA i (V4 c arg7 arg8 g7 g8) (V8 c arg2 g2) (V17 c arg2 g2) (V19 c arg3 g3) (V21 c arg4 g4) (V31 c arg5 g5) (V32 c arg6 g6) k
abbrev invS (k : ℕ) : sProp 𝕄 :=
  inv c XA VO G i (V4 c arg7 arg8 g7 g8) (V8 c arg2 g2) (V17 c arg2 g2) (V19 c arg3 g3) (V21 c arg4 g4) (V31 c arg5 g5) (V32 c arg6 g6) k

/-! ## The state at the loop's ends -/

theorem sl2_0 : Ring.sl 2 0 = 0 := Fin.ext (by rfl)
theorem sl2_1 : Ring.sl 2 (0 + 1) = 1 := Fin.ext (by rfl)
theorem sl2_60 : Ring.sl 2 60 = 0 := Fin.ext (by rfl)
theorem sl2_61 : Ring.sl 2 (60 + 1) = 1 := Fin.ext (by rfl)
theorem bk60_0 : Ring.bk 60 0 = 0 := Fin.ext (by rfl)
theorem bk60_58 : Ring.bk 60 (60 - 2) = 58 := Fin.ext (by rfl)
theorem bk60_59 : Ring.bk 60 (60 + 1 - 2) = 59 := Fin.ext (by rfl)

section Ends
variable (p : Fin 2)
theorem filter_all (P : Blk → Prop) [DecidablePred P] (h : ∀ b, P b) : (Finset.univ.filter P) = Finset.univ :=
  Finset.filter_true_of_mem fun b _ => h b
/-- Before the loop: block 0 apart from the others. -/
theorem yHomes_start : bigSep Finset.univ (yHome c XA) = iprop(yHome c XA (p, 0) ∗ yHomes c XA p 0) := by
  rw [← filter_all (fun _ : Blk => True) (fun _ => trivial)]
  exact filter_pull _ _ (p, 0) trivial (fun b => by
    have := blk_ne p b 0 (by omega)
    rw [bk60_0] at this; rw [this]; tauto) _
theorem yHomes_end : yHomes c XA p 60 = bigSep Finset.univ (yHome c XA) := by
  unfold yHomes; rw [filter_all]; intro b; have := b.2.isLt; omega
theorem oHomes_start : oHomes c VO G p 0 = bigSep Finset.univ (fun b => oHome c b (oCur c VO G p 0 b)) := by
  unfold oHomes; rw [filter_all]; intro b; omega
/-- After the last waits: the two last blocks back beside the others. -/
theorem oHomes_end : iprop(oHome c (p, 58) G ∗ oHome c (p, 59) G ∗ oHomes c VO G p 60) = bigSep Finset.univ (fun b => oHome c b (oCur c VO G p 60 b)) := by
  have e1 : oCur c VO G p 60 (p, 58) = G := by unfold oCur; rw [if_pos]; right; exact ⟨rfl, show (58 : Fin 60).val < 60 by decide⟩
  have e2 : oCur c VO G p 60 (p, 59) = G := by unfold oCur; rw [if_pos]; right; exact ⟨rfl, show (59 : Fin 60).val < 60 by decide⟩
  have h58 := blk_ne p (k := 58) (hk := by omega)
  have h59 := blk_ne p (k := 59) (hk := by omega)
  rw [show Ring.bk 60 58 = 58 from bk60_58] at h58
  rw [show Ring.bk 60 59 = 59 from bk60_59] at h59
  rw [← filter_all (fun _ : Blk => True) (fun _ => trivial),
    filter_pull (fun _ => True) (fun b : Blk => ¬(b.1 = p ∧ b.2.val = 58)) (p, 58) trivial (fun b => by rw [h58]; tauto),
    filter_pull _ (fun b : Blk => ¬(b.1 = p ∧ b.2.val < 60 ∧ 60 ≤ b.2.val + 2)) (p, 59) (fun h => absurd h.2 (show ¬ (59 : Fin 60).val = 58 by decide))
      (fun b => by rw [h59]; omega), e1, e2]
  rfl
theorem inCur_start : inCur c XA p 0 = iprop(∃ f, xFlight c XA 0 (p, 0) f) := by
  unfold inCur; rw [if_pos (by omega), sl2_0, bk60_0]
theorem inCur_end : inCur c XA p 60 = iprop((∃ f, xSlot c 0 f) ∗ iCell c 0) := by
  unfold inCur; rw [if_neg (by omega), sl2_60]
theorem inOther_start : inOther c 0 = iprop((∃ f, xSlot (F := F) c 1 f) ∗ iCell c 1) := by
  unfold inOther; rw [sl2_1]
theorem inOther_end : inOther c 60 = iprop((∃ f, xSlot (F := F) c 1 f) ∗ iCell c 1) := by
  unfold inOther; rw [sl2_61]
theorem outSlot_start : outSlot c G p 0 = iprop((∃ f, hSlot c 0 f) ∗ oCell c 0) := by
  unfold outSlot; rw [if_neg (by omega), sl2_0]
theorem outSlot_start' : outSlot c G p (0 + 1) = iprop((∃ f, hSlot c 1 f) ∗ oCell c 1) := by
  unfold outSlot; rw [if_neg (by omega), sl2_1]
theorem outSlot_end : outSlot c G p 60 = iprop(∃ fs, oFlight c G 0 (p, 58) fs) := by
  unfold outSlot; rw [if_pos (by omega), sl2_60, bk60_58]
theorem outSlot_end' : outSlot c G p (60 + 1) = iprop(∃ fs, oFlight c G 1 (p, 59) fs) := by
  unfold outSlot; rw [if_pos (by omega), sl2_61, bk60_59]
end Ends

/-! ## The body -/

variable (hG : ∀ k, k < 60 → (oB (pt i, Ring.bk 60 k)).view.read (Elt F) G = (hcS c XA i arg2 arg3 arg4 arg5 arg6 arg7 arg8 g2 g3 g4 g5 g6 g7 g8 (k + 1)).1)
include hG

/-- The loop at the head of what is left of the body, by the trips' invariant. -/
theorem loop_rule (kk : Unit → Prog (TpuEff nD τ sig (Elt F) Λ₀ .tc) PUnit) (Q : PUnit → sProp 𝕄) :
    invS c XA VO G i arg2 arg3 arg4 arg5 arg6 arg7 arg8 g2 g3 g4 g5 g6 g7 g8 0
      ⊢ iprop((invS c XA VO G i arg2 arg3 arg4 arg5 arg6 arg7 arg8 g2 g3 g4 g5 g6 g7 g8 60 -∗ wp frame (wpE (defs₀ (F := F)) 𝒱₀ (c : Thread nD τ) none) Set.univ (kk ()) Q)
        -∗ wp frame (wpE (defs₀ (F := F)) 𝒱₀ (c : Thread nD τ) none) Set.univ
          (Scf.Loop.for k0_t1_loop k0_t1_ok PUnit.unit (fun k _ => tripG i arg2 harg2 arg3 harg3 arg4 harg4 arg5 harg5 arg6 harg6 arg7 harg7 arg8 harg8
            (V4 c arg7 arg8 g7 g8) (V8 c arg2 g2) (V17 c arg2 g2) (V19 c arg3 g3) (V21 c arg4 g4) (V31 c arg5 g5) (V32 c arg6 g6) k) >>= kk) Q) := by
  have h := exec_loop frame (wpE (defs₀ (F := F)) 𝒱₀ (c : Thread nD τ) none) Set.univ k0_t1_loop.lb k0_t1_loop.ub k0_t1_loop.st k0_t1_ok PUnit.unit
    (fun k _ => tripG i arg2 harg2 arg3 harg3 arg4 harg4 arg5 harg5 arg6 harg6 arg7 harg7 arg8 harg8
            (V4 c arg7 arg8 g7 g8) (V8 c arg2 g2) (V17 c arg2 g2) (V19 c arg3 g3) (V21 c arg4 g4) (V31 c arg5 g5) (V32 c arg6 g6) k)
    { inv := fun k _ => invS c XA VO G i arg2 arg3 arg4 arg5 arg6 arg7 arg8 g2 g3 g4 g5 g6 g7 g8 k
      step := fun k _ => step c XA VO G i arg2 harg2 arg3 harg3 arg4 harg4 arg5 harg5 arg6 harg6 arg7 harg7 arg8 harg8 _ _ _ _ _ _ _ hG k } (kk := kk) (Q := Q)
  refine h.trans ?_
  iintro H HK
  iapply H
  iintro %acc HI
  iapply HK
  rw [show invS c XA VO G i arg2 arg3 arg4 arg5 arg6 arg7 arg8 g2 g3 g4 g5 g6 g7 g8 60 = invS c XA VO G i arg2 arg3 arg4 arg5 arg6 arg7 arg8 g2 g3 g4 g5 g6 g7 g8 k0_t1_loop.trips by rw [trips_eq]]
  iexact HI

theorem bodyRun (hf cf x0 x1 h0 h1 W) (Q : PUnit → sProp 𝕄) :
    iprop((staged c arg2 arg3 arg4 arg5 arg6 arg7 arg8 g2 g3 g4 g5 g6 g7 g8 ∗ hBuf c hf ∗ cBuf c cf ∗ xSlot c 0 x0 ∗ xSlot c 1 x1 ∗ hSlot c 0 h0 ∗ hSlot c 1 h1
        ∗ iCell c 0 ∗ iCell c 1 ∗ oCell c 0 ∗ oCell c 1 ∗ bigSep Finset.univ (yHome c XA) ∗ bigSep Finset.univ (fun b => oHome c b (oCur c VO G (pt i) 0 b)) ∗ owes (c : Thread nD τ) 0 W)
      ∗ (iprop(staged c arg2 arg3 arg4 arg5 arg6 arg7 arg8 g2 g3 g4 g5 g6 g7 g8 ∗ scr c
        ∗ bigSep Finset.univ (yHome c XA) ∗ bigSep Finset.univ (fun b => oHome c b (oCur c VO G (pt i) 60 b)) ∗ ∃ W, owes (c : Thread nD τ) 0 W) -∗ Q ⟨⟩))
      ⊢ wp frame (wpE (defs₀ (F := F)) 𝒱₀ (c : Thread nD τ) none) Set.univ (bodyG i arg2 harg2 arg3 harg3 arg4 harg4 arg5 harg5 arg6 harg6 arg7 harg7 arg8 harg8) Q := by
  rw [yHomes_start c XA (pt i), ← oHomes_start, ← oHomes_end]
  iintro ⟨⟨⟨H2, H3, H4, H5, H6, H7, H8⟩, Hh, Hc, Hx0, Hx1, Hh0, Hh1, Hi0, Hi1, Ho0, Ho1, ⟨Hy0, Hy⟩, Ho, HW⟩, HK⟩
  dsimp only [bodyG]
  sl_exec
  ihave HI := (.rfl : invS c XA VO G i arg2 arg3 arg4 arg5 arg6 arg7 arg8 g2 g3 g4 g5 g6 g7 g8 0 ⊢ _) $$ [Hh Hc Hx1 Hh0 Hh1 Hi1 Ho0 Ho1 Hy Ho HW Hi0]
  · unfold invS inv
    rw [inCur_start, inOther_start, outSlot_start, outSlot_start']
    isplitl [Hh]
    · iexists _; isplitl [Hh]; · iexact Hh
      ipureintro; exact stored hM _ rfl _ _ _
    isplitl [Hc]
    · iexists _; isplitl [Hc]; · iexact Hc
      ipureintro; exact stored cM _ rfl _ _ _
    isplitl [HW]; · iexists _; iexact HW
    isplitl [Hy]; · iexact Hy
    isplitl [Ho]; · iexact Ho
    isplitl [Hi0]; · iexists _; iexact Hi0
    isplitl [Hx1 Hi1]
    · isplitl [Hx1]; · iexists _; iexact Hx1
      iexact Hi1
    isplitl [Hh0 Ho0]
    · isplitl [Hh0]; · iexists _; iexact Hh0
      iexact Ho0
    · isplitl [Hh1]; · iexists _; iexact Hh1
      iexact Ho1
  ihave HR := (loop_rule c XA VO G i arg2 harg2 arg3 harg3 arg4 harg4 arg5 harg5 arg6 harg6 arg7 harg7 arg8 harg8 g2 g3 g4 g5 g6 g7 g8 hG _ Q) $$ HI
  iapply HR
  unfold invS inv
  rw [← yHomes_start]
  irw [inCur_end, inOther_end, outSlot_end, outSlot_end', yHomes_end]
  iintro ⟨⟨%fh, Hh, -⟩, ⟨%fc, Hc, -⟩, ⟨%W', HW⟩, Hy, Ho, ⟨⟨%x0', Hx0⟩, Hi0⟩, ⟨⟨%x1', Hx1⟩, Hi1⟩, ⟨%fs0, Ho0⟩, ⟨%fs1, Ho1⟩⟩
  sl_exec
  sl_step
  iapply HK
  isplitl [H2 H3 H4 H5 H6 H7 H8]
  · isplitl [H2]; · iexact H2
    isplitl [H3]; · iexact H3
    isplitl [H4]; · iexact H4
    isplitl [H5]; · iexact H5
    isplitl [H6]; · iexact H6
    isplitl [H7]; · iexact H7
    iexact H8
  isplitl [Hh Hc Hx0 Hx1 Ho0_src Ho1_src Hi0 Hi1 Ho0 Ho1]
  · isplitl [Hh]; · iexists _; iexact Hh
    isplitl [Hc]; · iexists _; iexact Hc
    isplitl [Hx0]; · iexists _; iexact Hx0
    isplitl [Hx1]; · iexists _; iexact Hx1
    isplitl [Ho0_src]; · iexists _; iexact Ho0_src
    isplitl [Ho1_src]; · iexists _; iexact Ho1_src
    isplitl [Hi0]; · iexact Hi0
    isplitl [Hi1]; · iexact Hi1
    isplitl [Ho0]; · iexact Ho0
    iexact Ho1
  isplitl [Hy]; · iexact Hy
  isplitl [Ho0_dst Ho1_dst Ho]
  · isplitl [Ho0_dst]; · iexact Ho0_dst
    isplitl [Ho1_dst]; · iexact Ho1_dst
    iexact Ho
  iexists _; iexact HW
end Body

end Cert.LstmIdeal.Run

end
-- ==== Proof.LstmIdealRun.lean ====
/-
  The idealized LSTM call's launch: the pipeline's proof data over the body's run, the region invariant between the two grid points,
  and the run of @main from any memory: the hidden states at the recurrence's values, every argument unchanged.
-/
module

public import proofs.«01_k».proof.Proof.LstmIdealBody
public import proofs.«01_k».proof.Proof.Gen.LstmIdeal.Frame
public import Idealize.ShloMosaic.Lib.Pipeline.FrameValue
public import Idealize.ShloMosaic.Lib.ValueLayout

@[expose] public section

set_option maxRecDepth 16384

noncomputable section

namespace Cert.LstmIdeal.Run

open Cert.LstmIdeal Cert.LstmIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Idealize.ShloMosaic.ValueIdx

variable {F : FTy → Type} [FloatOps F]

local notation "𝕄" => MT nD τ sig Unit (Elt F) ℕ (UU nD τ) ℕ

variable (m : (ℓ : Loc nD τ sig) → Buf (Elt F) ℓ) (ρ : Dev nD → PrngReg)

/-! ## The hidden states -/

/-- The grid point of a sentence. -/
def tp (p : Fin 2) : Fin cfg0.N := ⟨p.val, by rw [show cfg0.N = 2 from N_0]; exact p.isLt⟩
theorem pt_tp : ∀ p : Fin 2, pt (grid0.coords (tp p)) = p := by decide
theorem pt_val : ∀ t : Fin grid0.N, (pt (grid0.coords t)).val = t.val := by decide

/-- The states of grid point `t`, the staged operands at their blocks. -/
def hcT (c : Dev nD) (t : Fin cfg0.N) (k : ℕ) : Vec F S256x512 .f32 × Vec F S256x512 .f32 :=
  hcS c (V m c main_arg0) (grid0.coords t) (st0_0 t) (st0_1 t) (st0_2 t) (st0_3 t) (st0_4 t) (st0_5 t) (st0_6 t)
    ((st0_0 t).view.rep (iblk m c 0 t)) ((st0_1 t).view.rep (iblk m c 1 t)) ((st0_2 t).view.rep (iblk m c 2 t)) ((st0_3 t).view.rep (iblk m c 3 t)) ((st0_4 t).view.rep (iblk m c 4 t)) ((st0_5 t).view.rep (iblk m c 5 t)) ((st0_6 t).view.rep (iblk m c 6 t)) k

/-- The result: sentence `p`'s hidden state after step `s` at `(p, s)`. -/
def Gout (c : Dev nD) : S2x60x256x512.Idx → Elt F .f32 := fun j => (hcT m c (tp (j 0)) ((j 1).val + 1)).1 (ix2 (j 2) (j 3))

omit [FloatOps F] in
theorem read_oB (b : Blk) (f : S2x60x256x512.Idx → Elt F .f32) (x : Fin 256) (y : Fin 512) :
    (oB b).view.read (Elt F) f (ix2 x y) = f (ix4 b.1 b.2 x y) := by
  show f ((Rect.unit (s := S2x60x256x512) (oOff b) S1x1x256x512.size (oOff_inb b)).emb (Shape.reshapeEquiv _ (ix2 x y))) = _
  congr 1
  refine (congrArg _ (reshapeEquiv_ix2_11ab _ x y)).trans ?_
  funext a; apply Fin.ext; fin_cases a
  · show b.1.val + 0 * 1 = b.1.val; omega
  · show b.2.val + 0 * 1 = b.2.val; omega
  · show 0 + 1 * x.val = x.val; omega
  · show 0 + 1 * y.val = y.val; omega

theorem hG (c : Dev nD) (t : Fin cfg0.N) (k : ℕ) (hk : k < 60) :
    (oB (pt (grid0.coords t), Ring.bk 60 k)).view.read (Elt F) (Gout m c) = (hcT m c t (k + 1)).1 := by
  funext j
  obtain ⟨x, y, rfl⟩ : ∃ (x : Fin 256) (y : Fin 512), j = ix2 x y := ⟨j 0, j 1, by funext a; fin_cases a <;> rfl⟩
  rw [read_oB]
  have e : tp (pt (grid0.coords t)) = t := Fin.ext (pt_val t)
  have e2 : (Ring.bk 60 k : Fin 60).val = k := Ring.bk_val hk
  show (hcT m c (tp (pt (grid0.coords t))) ((Ring.bk 60 k : Fin 60).val + 1)).1 (ix2 x y) = _
  rw [e, e2]

/-! ## The region invariant -/

/-- What result block `b` holds before point `n`. -/
def oAt (c : Dev nD) (n : ℕ) (b : Blk) : S2x60x256x512.Idx → Elt F .f32 := if b.1.val < n then Gout m c else V m c main_v11

theorem oCur_start (c : Dev nD) (t : Fin cfg0.N) (b : Blk) : oCur c (V m c main_v11) (Gout m c) (pt (grid0.coords t)) 0 b = oAt m c t.val b := by
  unfold oCur oAt; rw [pt_val]
  by_cases h : b.1.val < t.val
  · rw [if_pos h, if_pos (.inl h)]
  · rw [if_neg h, if_neg (by omega)]
theorem oCur_end (c : Dev nD) (t : Fin cfg0.N) (b : Blk) : oCur c (V m c main_v11) (Gout m c) (pt (grid0.coords t)) 60 b = oAt m c (t.val + 1) b := by
  unfold oCur oAt; rw [pt_val]
  have := b.2.isLt
  by_cases h : b.1.val < t.val + 1
  · rw [if_pos h, if_pos (by omega)]
  · rw [if_neg h, if_neg (by omega)]

/-- Before point `n`: the embeddings home, the results of the sentences done, the buffers at anything, the cells at zero. -/
def Φ (c : Dev nD) (n : ℕ) : sProp 𝕄 :=
  iprop(bigSep Finset.univ (yHome c (V m c main_arg0)) ∗ bigSep Finset.univ (fun b => oHome c b (oAt m c n b)) ∗ scr c ∗ ∃ r, prngReg c r)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ t := Φ m c t.val
  q _ := fullShare
  owed _ := 0

theorem A_eq (c : Dev nD) (w) : (dats m 0 c).A w = V m c (Pipeline.arrRef spec0 w) := rfl
theorem after_w0 (c : Dev nD) (t : Fin cfg0.N) : (dats m 0 c).after 0 t = iblk m c 0 t := by dsimp only [dats]
theorem before_w0 (c : Dev nD) (t : Fin cfg0.N) (d) : (dats m 0 c).before 0 t d = iblk m c 0 t :=
  ((dats m 0 c).before_in_eq_fetched 0 rfl (fun _ => rfl) (fun _ _ _ => rfl) (fun t => by rw [after_w0]; unfold Dat.blockOf iblk; rw [A_eq]; try rfl) t d).trans
    (by unfold Dat.fetched Dat.blockOf iblk; rw [A_eq]; try rfl)
theorem after_w1 (c : Dev nD) (t : Fin cfg0.N) : (dats m 0 c).after 1 t = iblk m c 1 t := by dsimp only [dats]
theorem before_w1 (c : Dev nD) (t : Fin cfg0.N) (d) : (dats m 0 c).before 1 t d = iblk m c 1 t :=
  ((dats m 0 c).before_in_eq_fetched 1 rfl (fun _ => rfl) (fun _ _ _ => rfl) (fun t => by rw [after_w1]; unfold Dat.blockOf iblk; rw [A_eq]; try rfl) t d).trans
    (by unfold Dat.fetched Dat.blockOf iblk; rw [A_eq]; try rfl)
theorem after_w2 (c : Dev nD) (t : Fin cfg0.N) : (dats m 0 c).after 2 t = iblk m c 2 t := by dsimp only [dats]
theorem before_w2 (c : Dev nD) (t : Fin cfg0.N) (d) : (dats m 0 c).before 2 t d = iblk m c 2 t :=
  ((dats m 0 c).before_in_eq_fetched 2 rfl (fun _ => rfl) (fun _ _ _ => rfl) (fun t => by rw [after_w2]; unfold Dat.blockOf iblk; rw [A_eq]; try rfl) t d).trans
    (by unfold Dat.fetched Dat.blockOf iblk; rw [A_eq]; try rfl)
theorem after_w3 (c : Dev nD) (t : Fin cfg0.N) : (dats m 0 c).after 3 t = iblk m c 3 t := by dsimp only [dats]
theorem before_w3 (c : Dev nD) (t : Fin cfg0.N) (d) : (dats m 0 c).before 3 t d = iblk m c 3 t :=
  ((dats m 0 c).before_in_eq_fetched 3 rfl (fun _ => rfl) (fun _ _ _ => rfl) (fun t => by rw [after_w3]; unfold Dat.blockOf iblk; rw [A_eq]; try rfl) t d).trans
    (by unfold Dat.fetched Dat.blockOf iblk; rw [A_eq]; try rfl)
theorem after_w4 (c : Dev nD) (t : Fin cfg0.N) : (dats m 0 c).after 4 t = iblk m c 4 t := by dsimp only [dats]
theorem before_w4 (c : Dev nD) (t : Fin cfg0.N) (d) : (dats m 0 c).before 4 t d = iblk m c 4 t :=
  ((dats m 0 c).before_in_eq_fetched 4 rfl (fun _ => rfl) (fun _ _ _ => rfl) (fun t => by rw [after_w4]; unfold Dat.blockOf iblk; rw [A_eq]; try rfl) t d).trans
    (by unfold Dat.fetched Dat.blockOf iblk; rw [A_eq]; try rfl)
theorem after_w5 (c : Dev nD) (t : Fin cfg0.N) : (dats m 0 c).after 5 t = iblk m c 5 t := by dsimp only [dats]
theorem before_w5 (c : Dev nD) (t : Fin cfg0.N) (d) : (dats m 0 c).before 5 t d = iblk m c 5 t :=
  ((dats m 0 c).before_in_eq_fetched 5 rfl (fun _ => rfl) (fun _ _ _ => rfl) (fun t => by rw [after_w5]; unfold Dat.blockOf iblk; rw [A_eq]; try rfl) t d).trans
    (by unfold Dat.fetched Dat.blockOf iblk; rw [A_eq]; try rfl)
theorem after_w6 (c : Dev nD) (t : Fin cfg0.N) : (dats m 0 c).after 6 t = iblk m c 6 t := by dsimp only [dats]
theorem before_w6 (c : Dev nD) (t : Fin cfg0.N) (d) : (dats m 0 c).before 6 t d = iblk m c 6 t :=
  ((dats m 0 c).before_in_eq_fetched 6 rfl (fun _ => rfl) (fun _ _ _ => rfl) (fun t => by rw [after_w6]; unfold Dat.blockOf iblk; rw [A_eq]; try rfl) t d).trans
    (by unfold Dat.fetched Dat.blockOf iblk; rw [A_eq]; try rfl)

/-! ## The body obligation -/

theorem defs_tc : (defs₀ (F := F)) .tc cfg0.body = fun a => bodyG (grid0.coords a.1) (win0_0.stage (a.2 0)) (hstage0_0 ((a.2 0).cast nbuf0_0)) (win0_1.stage (a.2 1)) (hstage0_1 ((a.2 1).cast nbuf0_1)) (win0_2.stage (a.2 2)) (hstage0_2 ((a.2 2).cast nbuf0_2)) (win0_3.stage (a.2 3)) (hstage0_3 ((a.2 3).cast nbuf0_3)) (win0_4.stage (a.2 4)) (hstage0_4 ((a.2 4).cast nbuf0_4)) (win0_5.stage (a.2 5)) (hstage0_5 ((a.2 5).cast nbuf0_5)) (win0_6.stage (a.2 6)) (hstage0_6 ((a.2 6).cast nbuf0_6)) := rfl
theorem prog_eq (t : Fin cfg0.N) : (defs₀ (F := F)) .tc cfg0.body (cfg0.bodyArgs t (cfg0.slots t)) = bodyG (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) :=
  (congrFun defs_tc _).trans rfl

set_option maxHeartbeats 2000000 in
set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, after_w0, before_w1, after_w1, before_w2, after_w2, before_w3, after_w3, before_w4, after_w4, before_w5, after_w5, before_w6, after_w6]
  rw [show (dats m 0 c).Φ t.castSucc = Φ m c t.val from rfl, show (dats m 0 c).Φ t.succ = Φ m c (t.val + 1) from rfl]
  unfold Dat.owesAt Pipeline.owesWithin
  rw [show (dats m 0 c).owed t.castSucc = 0 from rfl, show (dats m 0 c).owed t.succ = 0 from rfl]
  unfold owns Φ
  rw [show (fun b => oHome c b (oAt m c t.val b)) = fun b => oHome c b (oCur c (V m c main_v11) (Gout m c) (pt (grid0.coords t)) 0 b) from
      funext fun b => by rw [oCur_start],
    show (fun b => oHome c b (oAt m c (t.val + 1) b)) = fun b => oHome c b (oCur c (V m c main_v11) (Gout m c) (pt (grid0.coords t)) 60 b) from
      funext fun b => by rw [oCur_end]]
  iintro ⟨⟨Hy, Ho, ⟨⟨%hf, Hh⟩, ⟨%cf, Hc⟩, ⟨%x0, Hx0⟩, ⟨%x1, Hx1⟩, ⟨%h0, Hh0⟩, ⟨%h1, Hh1⟩, Hi0, Hi1, Ho0, Ho1⟩, Hr⟩, ⟨%W, -, HW⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩, ⟨%d6, %g6, %hg6, H6⟩⟩
  ihave K0 := (pointsTo_rep_entails (c : Thread nD τ) (st0_0 t) g0 fullShare) $$ H0
  ihave K1 := (pointsTo_rep_entails (c : Thread nD τ) (st0_1 t) g1 fullShare) $$ H1
  ihave K2 := (pointsTo_rep_entails (c : Thread nD τ) (st0_2 t) g2 fullShare) $$ H2
  ihave K3 := (pointsTo_rep_entails (c : Thread nD τ) (st0_3 t) g3 fullShare) $$ H3
  ihave K4 := (pointsTo_rep_entails (c : Thread nD τ) (st0_4 t) g4 fullShare) $$ H4
  ihave K5 := (pointsTo_rep_entails (c : Thread nD τ) (st0_5 t) g5 fullShare) $$ H5
  ihave K6 := (pointsTo_rep_entails (c : Thread nD τ) (st0_6 t) g6 fullShare) $$ H6
  rw [hg0, hg1, hg2, hg3, hg4, hg5, hg6]
  sl_rw [prog_eq t]
  iapply (bodyRun c (V m c main_arg0) (V m c main_v11) (Gout m c) (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6))
    ((st0_0 t).view.rep (iblk m c 0 t)) ((st0_1 t).view.rep (iblk m c 1 t)) ((st0_2 t).view.rep (iblk m c 2 t)) ((st0_3 t).view.rep (iblk m c 3 t)) ((st0_4 t).view.rep (iblk m c 4 t)) ((st0_5 t).view.rep (iblk m c 5 t)) ((st0_6 t).view.rep (iblk m c 6 t)) (hG m c t) hf cf x0 x1 h0 h1 W _)
  isplitl [K0 K1 K2 K3 K4 K5 K6 Hh Hc Hx0 Hx1 Hh0 Hh1 Hi0 Hi1 Ho0 Ho1 Hy Ho HW]
  · isplitl [K0 K1 K2 K3 K4 K5 K6]
    · isplitl [K0]; · iexact K0
      isplitl [K1]; · iexact K1
      isplitl [K2]; · iexact K2
      isplitl [K3]; · iexact K3
      isplitl [K4]; · iexact K4
      isplitl [K5]; · iexact K5
      iexact K6
    isplitl [Hh]; · iexact Hh
    isplitl [Hc]; · iexact Hc
    isplitl [Hx0]; · iexact Hx0
    isplitl [Hx1]; · iexact Hx1
    isplitl [Hh0]; · iexact Hh0
    isplitl [Hh1]; · iexact Hh1
    isplitl [Hi0]; · iexact Hi0
    isplitl [Hi1]; · iexact Hi1
    isplitl [Ho0]; · iexact Ho0
    isplitl [Ho1]; · iexact Ho1
    isplitl [Hy]; · iexact Hy
    isplitl [Ho]; · iexact Ho
    iexact HW
  · iintro ⟨⟨K0, K1, K2, K3, K4, K5, K6⟩, Hs, Hy, Ho, ⟨%W', HW⟩⟩
    isplitl [Hy Ho Hs Hr]
    · isplitl [Hy]; · iexact Hy
      isplitl [Ho]; · iexact Ho
      isplitl [Hs]; · iexact Hs
      iexact Hr
    isplitl [HW]
    · iexists W'; isplitr; · ipureintro; exact fun _ _ => Or.inl trivial
      iexact HW
    isplitl [K0]
    · iexists _; isplitr; · ipureintro; exact View.read_rep _ _
      iexact K0
    isplitl [K1]
    · iexists _; isplitr; · ipureintro; exact View.read_rep _ _
      iexact K1
    isplitl [K2]
    · iexists _; isplitr; · ipureintro; exact View.read_rep _ _
      iexact K2
    isplitl [K3]
    · iexists _; isplitr; · ipureintro; exact View.read_rep _ _
      iexact K3
    isplitl [K4]
    · iexists _; isplitr; · ipureintro; exact View.read_rep _ _
      iexact K4
    isplitl [K5]
    · iexists _; isplitr; · ipureintro; exact View.read_rep _ _
      iexact K5
    iexists _; isplitr; · ipureintro; exact View.read_rep _ _
    iexact K6

/-! ## The pieces and the buffers -/

/-- The kernel's own semaphores: the two input cells and the two output cells. -/
def osem0 : Fin 4 → SemLoc sig := ![.dma (iC 0).sem, .dma (iC 1).sem, .dma (oC 0).sem, .dma (oC 1).sem]
theorem ownSemFacts0 : Pipeline.OwnSemFacts spec0 osem0 := by decide
/-- What the kernel reads unstaged, and what it writes. -/
def H0 : Finset (Ref sig .tc) := {main_arg0}
def R0 : Finset (Ref sig .tc) := {main_v11}
theorem H0_sub : H0 ⊆ Pipeline.restRefs sig spec0 := by decide
theorem R0_sub : R0 ⊆ Pipeline.restRefs sig spec0 \ H0 := by decide

omit [FloatOps F] in
theorem bigSep_fin2 (Ψ : Fin 2 → sProp 𝕄) : bigSep Finset.univ Ψ = iprop(Ψ 0 ∗ Ψ 1) :=
  bigSep_univ_eq_bigSepL [(0 : Fin 2), (1 : Fin 2)] (by decide) (by decide) Ψ

omit [FloatOps F] in
theorem y_eq (c : Dev nD) (f : Buf (Elt F) ((c : Thread nD τ).loc main_arg0)) :
    (((c : Thread nD τ).loc main_arg0) ↦{fullShare} f : sProp 𝕄) = bigSep Finset.univ (yHome c f) := by
  rw [Ring.pointsTo_blocks (ℓ := (c : Thread nD τ).loc main_arg0) YI YI_disjoint YI_cover]
  exact bigSep_congr fun b _ => by rw [← yB_set]; rfl
omit [FloatOps F] in
theorem o_eq (c : Dev nD) (f : Buf (Elt F) ((c : Thread nD τ).loc main_v11)) :
    (((c : Thread nD τ).loc main_v11) ↦{fullShare} f : sProp 𝕄) = bigSep Finset.univ (fun b => oHome c b f) := by
  rw [Ring.pointsTo_blocks (ℓ := (c : Thread nD τ).loc main_v11) OI OI_disjoint OI_cover]
  exact bigSep_congr fun b _ => by rw [← oB_set]; rfl

omit [FloatOps F] in
theorem xSlot_eq (c : Dev nD) (s : Fin 2) (f) : xSlot c s f = (((c : Thread nD τ).loc cc0_scratch0) ↦[XI s]{fullShare} f : sProp 𝕄) :=
  congrArg (fun S => (_ ↦[S]{fullShare} f : sProp 𝕄)) (xS_set s)
omit [FloatOps F] in
theorem hSlot_eq (c : Dev nD) (s : Fin 2) (f) : hSlot c s f = (((c : Thread nD τ).loc cc0_scratch3) ↦[HI s]{fullShare} f : sProp 𝕄) :=
  congrArg (fun S => (_ ↦[S]{fullShare} f : sProp 𝕄)) (hS_set s)
omit [FloatOps F] in
theorem hBuf_eq (c : Dev nD) (f) : hBuf c f = (((c : Thread nD τ).loc cc0_scratch1) ↦{fullShare} f : sProp 𝕄) :=
  congrArg (fun S => (_ ↦[S]{fullShare} f : sProp 𝕄)) (View.set_whole _)
omit [FloatOps F] in
theorem cBuf_eq (c : Dev nD) (f) : cBuf c f = (((c : Thread nD τ).loc cc0_scratch2) ↦{fullShare} f : sProp 𝕄) :=
  congrArg (fun S => (_ ↦[S]{fullShare} f : sProp 𝕄)) (View.set_whole _)

omit [FloatOps F] in
/-- Scratch buffer 0 whole is its two slots, and back. -/
theorem x_split (c : Dev nD) :
    iprop(∃ f : Buf (Elt F) ((c : Thread nD τ).loc cc0_scratch0), ((c : Thread nD τ).loc cc0_scratch0) ↦{fullShare} f)
      ⊢ (iprop((∃ f, xSlot c 0 f) ∗ ∃ f, xSlot c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch0) XI XI_disjoint XI_cover f).trans (bigSep_fin2 _))) $$ H
  icases H2 with ⟨H0, H1⟩
  isplitl [H0]
  · iexists f; iapply (entails_of_eq (xSlot_eq c 0 f).symm); iexact H0
  · iexists f; iapply (entails_of_eq (xSlot_eq c 1 f).symm); iexact H1
omit [FloatOps F] in
theorem x_join (c : Dev nD) :
    iprop((∃ f, xSlot c 0 f) ∗ ∃ f, xSlot c 1 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩⟩
  iapply (Ring.pointsTo_blocks_join_exists (ℓ := (c : Thread nD τ).loc cc0_scratch0) XI XI_disjoint XI_cover f0)
  irw [bigSep_fin2]
  isplitl [H0]
  · iexists f0; iapply (entails_of_eq (xSlot_eq c 0 f0)); iexact H0
  · iexists f1; iapply (entails_of_eq (xSlot_eq c 1 f1)); iexact H1

omit [FloatOps F] in
/-- Scratch buffer 3 whole is its two slots, and back. -/
theorem h_split (c : Dev nD) :
    iprop(∃ f : Buf (Elt F) ((c : Thread nD τ).loc cc0_scratch3), ((c : Thread nD τ).loc cc0_scratch3) ↦{fullShare} f)
      ⊢ (iprop((∃ f, hSlot c 0 f) ∗ ∃ f, hSlot c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch3) HI HI_disjoint HI_cover f).trans (bigSep_fin2 _))) $$ H
  icases H2 with ⟨H0, H1⟩
  isplitl [H0]
  · iexists f; iapply (entails_of_eq (hSlot_eq c 0 f).symm); iexact H0
  · iexists f; iapply (entails_of_eq (hSlot_eq c 1 f).symm); iexact H1
omit [FloatOps F] in
theorem h_join (c : Dev nD) :
    iprop((∃ f, hSlot c 0 f) ∗ ∃ f, hSlot c 1 f)
      ⊢ (iprop(∃ f : Buf (Elt F) ((c : Thread nD τ).loc cc0_scratch3), ((c : Thread nD τ).loc cc0_scratch3) ↦{fullShare} f) : sProp 𝕄) := by
  iintro ⟨⟨%f0, H0⟩, ⟨%f1, H1⟩⟩
  iapply (Ring.pointsTo_blocks_join_exists (ℓ := (c : Thread nD τ).loc cc0_scratch3) HI HI_disjoint HI_cover f0)
  irw [bigSep_fin2]
  isplitl [H0]
  · iexists f0; iapply (entails_of_eq (hSlot_eq c 0 f0)); iexact H0
  · iexists f1; iapply (entails_of_eq (hSlot_eq c 1 f1)); iexact H1

omit [FloatOps F] in
theorem ownSems0_eq (c : Dev nD) : (Pipeline.ownSems0 (Ix := Unit) (Name := ℕ) (U := UU nD τ) (Lvl := ℕ) (Val := Elt F) (τ := τ) osem0 c : sProp 𝕄)
    = iprop(iCell c 0 ∗ iCell c 1 ∗ oCell c 0 ∗ oCell c 1) :=
  Pipeline.ownSems0_eq_of_list c osem0 [0, 1, 2, 3] (by decide) (by decide)

/-- What the written buffer ends at. -/
def Gall (c : Dev nD) (b : Ref sig .tc) : Buf (Elt F) ((c : Thread nD τ).loc b) :=
  if h : b = main_v11 then h ▸ (Gout m c : Buf (Elt F) ((c : Thread nD τ).loc main_v11)) else V m c b
theorem Gall_v11 (c : Dev nD) : Gall m c main_v11 = Gout m c := by unfold Gall; rw [dif_pos rfl]

theorem routed_eq (c : Dev nD) (W : (b : Ref sig .tc) → Buf (Elt F) ((c : Thread nD τ).loc b)) :
    (Pipeline.routed R0 c W : sProp 𝕄) = (((c : Thread nD τ).loc main_v11) ↦{fullShare} W main_v11 : sProp 𝕄) := by
  unfold Pipeline.routed
  exact BI.bigSep_eq_bigSepL_of_eq (S := R0) [main_v11] (by decide) (by decide) _
theorem held_eq (c : Dev nD) (W : (b : Ref sig .tc) → Buf (Elt F) ((c : Thread nD τ).loc b)) :
    (bigSep H0 fun b => ((c : Thread nD τ).loc b) ↦{fullShare} W b : sProp 𝕄) = (((c : Thread nD τ).loc main_arg0) ↦{fullShare} W main_arg0 : sProp 𝕄) :=
  BI.bigSep_eq_bigSepL_of_eq (S := H0) [main_arg0] (by decide) (by decide) _

theorem Φ_zero (c : Dev nD) : bigSep Finset.univ (fun b => oHome c b (oAt m c 0 b)) = (((c : Thread nD τ).loc main_v11) ↦{fullShare} V m c main_v11 : sProp 𝕄) := by
  rw [o_eq]; rfl
theorem Φ_two (c : Dev nD) : bigSep Finset.univ (fun b => oHome c b (oAt m c 2 b)) = (((c : Thread nD τ).loc main_v11) ↦{fullShare} Gall m c main_v11 : sProp 𝕄) := by
  rw [Gall_v11, o_eq]
  exact bigSep_congr fun b _ => by unfold oAt; rw [if_pos b.1.isLt]

theorem hin (c : Dev nD) : Pipeline.ΦDRG osem0 spec0 H0 R0 (V m) (V m) c ⊢ (Φ m c 0 : sProp 𝕄) := by
  rw [Pipeline.ΦDRG_eq, scopedRest0_eq, ownSems0_eq, routed_eq, held_eq, y_eq]
  unfold Φ
  rw [Φ_zero]
  iintro ⟨⟨Hx, ⟨%hf, Hh⟩, ⟨%cf, Hc⟩, Hb⟩, Hr, ⟨Hi0, Hi1, Ho0, Ho1⟩, Hy, Ho⟩
  ihave Hx2 := (x_split c) $$ Hx
  ihave Hb2 := (h_split c) $$ Hb
  icases Hx2 with ⟨Hx0, Hx1⟩
  icases Hb2 with ⟨Hb0, Hb1⟩
  isplitl [Hy]; · iexact Hy
  isplitl [Ho]; · iexact Ho
  isplitr [Hr]; swap; · iexact Hr
  isplitl [Hh]; · iexists hf; iapply (entails_of_eq (hBuf_eq c hf).symm); iexact Hh
  isplitl [Hc]; · iexists cf; iapply (entails_of_eq (cBuf_eq c cf).symm); iexact Hc
  isplitl [Hx0]; · iexact Hx0
  isplitl [Hx1]; · iexact Hx1
  isplitl [Hb0]; · iexact Hb0
  isplitl [Hb1]; · iexact Hb1
  isplitl [Hi0]; · iexact Hi0
  isplitl [Hi1]; · iexact Hi1
  isplitl [Ho0]; · iexact Ho0
  iexact Ho1

theorem hout (c : Dev nD) : (Φ m c 2 : sProp 𝕄) ⊢ Pipeline.ΦDRG osem0 spec0 H0 R0 (V m) (Gall m) c := by
  rw [Pipeline.ΦDRG_eq, scopedRest0_eq, ownSems0_eq, routed_eq, held_eq, y_eq]
  unfold Φ
  rw [Φ_two]
  iintro ⟨Hy, Ho, ⟨⟨%hf, Hh⟩, ⟨%cf, Hc⟩, Hx0, Hx1, Hb0, Hb1, Hi0, Hi1, Ho0, Ho1⟩, Hr⟩
  ihave Hx := (x_join c) $$ [Hx0 Hx1]
  · isplitl [Hx0]; · iexact Hx0
    iexact Hx1
  ihave Hb := (h_join c) $$ [Hb0 Hb1]
  · isplitl [Hb0]; · iexact Hb0
    iexact Hb1
  isplitl [Hx Hh Hc Hb]
  · isplitl [Hx]; · iexact Hx
    isplitl [Hh]; · iexists hf; iapply (entails_of_eq (hBuf_eq c hf)); iexact Hh
    isplitl [Hc]; · iexists cf; iapply (entails_of_eq (cBuf_eq c cf)); iexact Hc
    iexact Hb
  isplitl [Hr]; · iexact Hr
  isplitl [Hi0 Hi1 Ho0 Ho1]
  · isplitl [Hi0]; · iexact Hi0
    isplitl [Hi1]; · iexact Hi1
    isplitl [Ho0]; · iexact Ho0
    iexact Ho1
  isplitl [Hy]; · iexact Hy
  iexact Ho

/-! ## The run -/

set_option maxHeartbeats 800000 in
theorem hmainD : Pipeline.HMain (Ix := Unit) (Name := ℕ) (U := UU nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

set_option backward.isDefEq.respectTransparency.types false in
theorem run_main : θ_run defs (onTc (τ := τ) (main (F := F))) (s₀ m ρ)
    (fun r => Pipeline.FramePostRG cfgs (dats m) 0 R0 (V m) (Gall m) r ∧ r.2.sem = fun _ => 0) :=
  Pipeline.θ_run_frame_dmaRG (Q' := _) cfgs (dats m) (0 : Fin 1) launch0 osem0 defs₀ 𝒱₀ ownSemFacts0 H0 R0 H0_sub R0_sub m ρ main
    (hbody := fun c => (body_obligation m c).loose) (hshare := fun c => (dats m 0 c).share_full fun _ => rfl)
    (howed := fun _ _ => rfl) (V := V m) (hmain := hmainD m) (hA := A_eq m) (G := Gall m) (hin := hin m) (hout := hout m)
    (hQ' := fun _ h => h)

theorem rest_mem (b : Ref sig .tc) (h : b ∈ Pipeline.restRefs sig spec0) (h' : b ∉ R0) : b ∈ Pipeline.restRefs sig spec0 \ R0 := Finset.mem_sdiff.mpr ⟨h, h'⟩

/-- From any memory and zero counters, every execution of @main ends, the hidden states at the recurrence's values, the
    arguments as launched, every semaphore counter at zero. -/
theorem run : θ_run defs (onTc (τ := τ) (main (F := F))) (s₀ m ρ) (fun r =>
    (∀ c : Dev nD, r.2.mem ((c.tc : Thread nD τ).loc main_v11) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
    ∧ r.2.sem = fun _ => 0) :=
  (θ_run _ _ _).mono (fun r ⟨⟨h, hg⟩, hs⟩ => ⟨fun c =>
    ⟨(hg c main_v11 (Finset.mem_singleton_self _)).trans (Gall_v11 m c),
      ((h c).2 main_arg0 (rest_mem _ (Pipeline.mem_restRefs_of main_arg0 (by decide) (by decide)) (by decide))).trans (V_main_arg0 m c),
      ((h c).1 0).trans (((dats m 0 c).arrAt_in 0 rfl _).trans ((A_eq m c 0).trans (V_main_arg1 m c))),
      ((h c).2 main_arg2 (rest_mem _ (Pipeline.mem_restRefs_of main_arg2 (by decide) (by decide)) (by decide))).trans (V_main_arg2 m c),
      ((h c).2 main_arg3 (rest_mem _ (Pipeline.mem_restRefs_of main_arg3 (by decide) (by decide)) (by decide))).trans (V_main_arg3 m c),
      ((h c).2 main_arg4 (rest_mem _ (Pipeline.mem_restRefs_of main_arg4 (by decide) (by decide)) (by decide))).trans (V_main_arg4 m c),
      ((h c).2 main_arg5 (rest_mem _ (Pipeline.mem_restRefs_of main_arg5 (by decide) (by decide)) (by decide))).trans (V_main_arg5 m c),
      ((h c).2 main_arg6 (rest_mem _ (Pipeline.mem_restRefs_of main_arg6 (by decide) (by decide)) (by decide))).trans (V_main_arg6 m c),
      ((h c).2 main_arg7 (rest_mem _ (Pipeline.mem_restRefs_of main_arg7 (by decide) (by decide)) (by decide))).trans (V_main_arg7 m c)⟩, hs⟩) (run_main m ρ)

end Cert.LstmIdeal.Run

end
-- ==== Proof.LstmRefSteps.lean ====
/-  The reference's run over the trips of its scan: the scan's valuation holds the state made by so many trips of
    `Step.step`, so the run leaves the result of the sixtieth state. -/
module

public import proofs.«01_k».proof.Proof.Gen.LstmRefIdeal.Run
public import proofs.«01_k».proof.Proof.Gen.LstmRefIdeal.Step

@[expose] public section

set_option maxRecDepth 16384

noncomputable section

namespace Cert.LstmRefIdeal.Trips

open Idealize.ShloMosaic Idealize.ShloMosaic.TcCoe Idealize.SL.Sem Idealize.ShloMosaic.StableHlo
open Cert.LstmRefIdeal Cert.LstmRefIdeal.Gen Cert.LstmRefIdeal.Value
open Cert.LstmRefIdeal.Step (State step init)

variable {F : FTy → Type} [FloatOps F]

/-- The state after so many trips. -/
def trips (s : State F) : ℕ → State F
  | 0 => s
  | n + 1 => step n (trips s n)

/-- The scan's buffers hold the state `s` and the number of trips done is `j`. -/
structure Holds (V : Valuation τ sig (Elt F)) (s : State F) (j : ℕ) : Prop where
  h : V (Proc.devRef .tc main_v27_6) = s.main_v27_6
  c : V (Proc.devRef .tc main_v27_7) = s.main_v27_7
  hs : V (Proc.devRef .tc main_v27_8) = s.main_v27_8
  x : V (Proc.devRef .tc main_v27_0) = s.main_v27_0
  wih : V (Proc.devRef .tc main_v27_1) = s.main_v27_1
  whh : V (Proc.devRef .tc main_v27_2) = s.main_v27_2
  bih : V (Proc.devRef .tc main_v27_3) = s.main_v27_3
  bhh : V (Proc.devRef .tc main_v27_4) = s.main_v27_4
  n : V (Proc.devRef .tc main_v27_5) = constantI S_ 32 (BitVec.ofNat 32 j)

variable {V : Valuation τ sig (Elt F)} {s : State F} {j : ℕ}

/-- The trip's pre-activations. -/
theorem gates_eq (H : Holds V s j) : res_main_while0b_v38 V = Step.b13 j s := by
  unfold res_main_while0b_v38
  rw [H.x, H.n, H.wih, H.h, H.whh, H.bih, H.bhh]
  rfl

/-- The trip's new cell state. -/
theorem cell_eq (H : Holds V s j) : res_main_while0b_v58 V = Step.b37 j s := by
  unfold res_main_while0b_v58
  rw [gates_eq H, H.c]
  rfl

/-- The trip's new hidden state. -/
theorem hid_eq (H : Holds V s j) : res_main_while0b_v66 V = Step.b47 j s := by
  unfold res_main_while0b_v66
  rw [gates_eq H, cell_eq H]
  rfl

/-- The hidden states stored so far. -/
theorem stored_eq (H : Holds V s j) : Value.step_main_v27_8 V = Step.b52 j s := by
  unfold Value.step_main_v27_8
  rw [hid_eq H, H.hs, H.n]
  rfl

/-- The counter. -/
theorem count_eq (H : Holds V s j) : Value.step_main_v27_5 V = constantI S_ 32 (BitVec.ofNat 32 (j + 1)) := by
  unfold Value.step_main_v27_5
  rw [H.n]
  funext i
  show BitVec.ofNat 32 j + 1#32 = BitVec.ofNat 32 (j + 1)
  simp only [BitVec.ofNat_add]

/-- One trip. -/
theorem Holds.trip (H : Holds V s j) : Holds (STEP V) (step j s) (j + 1) where
  h := (STEP_main_v27_6 V).trans (hid_eq H)
  c := (STEP_main_v27_7 V).trans (cell_eq H)
  hs := (STEP_main_v27_8 V).trans (stored_eq H)
  n := (STEP_main_v27_5 V).trans (count_eq H)
  x := (STEP_main_v27_0 V).trans H.x
  wih := (STEP_main_v27_1 V).trans H.wih
  whh := (STEP_main_v27_2 V).trans H.whh
  bih := (STEP_main_v27_3 V).trans H.bih
  bhh := (STEP_main_v27_4 V).trans H.bhh

/-- The state before the first trip, of the arguments. -/
abbrev start (m : (ℓ : Loc nD τ sig) → Buf (Elt F) ℓ) (c : Dev nD) : State F :=
  init (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg0)) (m ((c.tc : Thread nD τ).loc main_arg1))
    (m ((c.tc : Thread nD τ).loc main_arg2)) (m ((c.tc : Thread nD τ).loc main_arg3))

variable (m : (ℓ : Loc nD τ sig) → Buf (Elt F) ℓ) (c : Dev nD)

set_option maxRecDepth 65536 in
set_option maxHeartbeats 400000 in
theorem holds_start : Holds (entryContents preI m c) (start m c) 0 := by
  constructor <;> (simp only [entryContents, afterL_cons, afterL_nil]; after_reads_simp) <;> rfl

theorem holds_trips : ∀ k, Holds (STEP^[k] (entryContents preI m c)) (trips (start m c) k) k
  | 0 => holds_start m c
  | k + 1 => by
    rw [Function.iterate_succ_apply']
    exact (holds_trips k).trip

theorem out_eq (H : Holds V s j) : out_main_v28 V = Step.R_main_v28 s := by
  unfold out_main_v28
  rw [H.hs]
  rfl

/-- The reference leaves the hidden states of sixty trips, its arguments as they were. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v28) = Step.R_main_v28 (trips (start m c) 60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (out_eq (holds_trips m c 60)), (h c).2⟩) (Value.run m ρ)

end Cert.LstmRefIdeal.Trips

end
-- ==== Proof.LstmHost.lean ====
/-  The idealized LSTM call's operands, read element by element: what the host leaves in the arrays the launch stages, and what
    the body loads of them. -/
module

public import proofs.«01_k».proof.Proof.LstmIdealRun
public import Idealize.ShloMosaic.Lib.Pointwise
public import Idealize.ShloMosaic.Lib.StableHlo.ReadAt
public import Idealize.ShloMosaic.Lib.Pipeline.ValueKit
public import Idealize.ShloMosaic.Lib.VecWindow

@[expose] public section

set_option maxRecDepth 16384

noncomputable section

namespace Cert.LstmIdeal.Host

open Idealize.ShloMosaic Idealize.ShloMosaic.TcCoe Idealize.ShloMosaic.StableHlo Idealize.SL.Sem
open Cert.LstmIdeal Cert.LstmIdeal.Gen Cert.LstmIdeal.Run

variable (m : (ℓ : Loc nD τ sig) → Buf (Elt Ideal) ℓ) (c : Dev nD)

/-! ## The arguments, as arrays of extended reals -/

def A0 : S2x15360x384.Idx → EReal := m ((c : Thread nD τ).loc main_arg0)
def A1 : S2x2x384.Idx → EReal := m ((c : Thread nD τ).loc main_arg1)
def A2 : S300.Idx → EReal := m ((c : Thread nD τ).loc main_arg2)
def A3 : S300.Idx → EReal := m ((c : Thread nD τ).loc main_arg3)
def A4 : S2048x300.Idx → EReal := m ((c : Thread nD τ).loc main_arg4)
def A5 : S2048x512.Idx → EReal := m ((c : Thread nD τ).loc main_arg5)
def A6 : S2048.Idx → EReal := m ((c : Thread nD τ).loc main_arg6)
def A7 : S2048.Idx → EReal := m ((c : Thread nD τ).loc main_arg7)

/-! ## The arrays the host leaves -/

theorem sitofp_zero : (FloatOps.sitofp (F := Ideal) FTy.f32 (0#32 : BitVec 32)) = (0 : EReal) := by
  show (((0#32 : BitVec 32).toInt : ℝ) : EReal) = 0
  simp

/-- The batch-norm scale, padded with zeros. -/
theorem bng_at (j : Fin 384) : (V m c main_v6 : S1x384.Idx → EReal) (ix2 0 j)
    = if h : j.val < 300 then A2 m c (ix1 ⟨j.val, h⟩) else 0 := by
  after_reads_at
  rw [sitofp_zero]; rfl
/-- The batch-norm shift, padded with zeros. -/
theorem bnb_at (j : Fin 384) : (V m c main_v8 : S1x384.Idx → EReal) (ix2 0 j)
    = if h : j.val < 300 then A3 m c (ix1 ⟨j.val, h⟩) else 0 := by
  after_reads_at
  rw [sitofp_zero]; rfl
/-- The input weights, transposed and padded with zero rows. -/
theorem wih_at (j : Fin 384) (n : Fin 2048) : (V m c main_v2 : S384x2048.Idx → EReal) (ix2 j n)
    = if h : j.val < 300 then A4 m c (ix2 n ⟨j.val, h⟩) else 0 := by
  after_reads_at
  rw [sitofp_zero]; rfl
/-- The recurrent weights, transposed. -/
theorem whh_at (j : Fin 512) (n : Fin 2048) : (V m c main_v4 : S512x2048.Idx → EReal) (ix2 j n)
    = A5 m c (ix2 n j) := by
  after_reads_at
  rfl
theorem bih_at (n : Fin 2048) : (V m c main_v9 : S1x2048.Idx → EReal) (ix2 0 n)
    = A6 m c (ix1 n) := by
  after_reads_at
  rfl
theorem bhh_at (n : Fin 2048) : (V m c main_v10 : S1x2048.Idx → EReal) (ix2 0 n)
    = A7 m c (ix1 n) := by
  after_reads_at
  rfl

/-! ## The staged blocks -/

theorem idx : ∀ t : Fin cfg0.N, win0_0.index t = ![t.val, 0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

theorem blk0 (p : Fin 2) (r : Fin 2) (j : Fin 384) : iblk m c 0 (tp p) (ix3 0 r j) = V m c main_arg1 (ix3 p r j) := by
  have : (tp p).val = p.val := rfl
  blk_ext! [iblk, idx (tp p)]
theorem blk1 (t : Fin cfg0.N) : iblk m c 1 t = V m c main_v6 := by blk_ext! [iblk, idx t]
theorem blk2 (t : Fin cfg0.N) : iblk m c 2 t = V m c main_v8 := by blk_ext! [iblk, idx t]
theorem blk3 (t : Fin cfg0.N) : iblk m c 3 t = V m c main_v2 := by blk_ext! [iblk, idx t]
theorem blk4 (t : Fin cfg0.N) : iblk m c 4 t = V m c main_v4 := by blk_ext! [iblk, idx t]
theorem blk5 (t : Fin cfg0.N) : iblk m c 5 t = V m c main_v9 := by blk_ext! [iblk, idx t]
theorem blk6 (t : Fin cfg0.N) : iblk m c 6 t = V m c main_v10 := by blk_ext! [iblk, idx t]

/-! ## What the body holds of them -/

/-- A row of the sums staged for a grid point. -/
theorem stats_at (p : Fin 2) (r : Fin 2) (j : Fin 384) (hh) :
    ((st0_0 (tp p)).view.readAt (Elt Ideal) (Rect.unit (s := S1x2x384) ![0, r.val, 0] S1x1x384.size hh).toLoadRect
      ((st0_0 (tp p)).view.rep (iblk m c 0 (tp p))) : S1x1x384.Idx → EReal) (ix3 0 0 j)
    = A1 m c (ix3 p r j) := by
  unfold A1
  rw [View.readAt_rep, ← V_main_arg1 m c, ← blk0]
  show iblk m c 0 (tp p) _ = _
  refine congrArg (iblk m c 0 (tp p)) ?_
  funext a; apply Fin.ext; fin_cases a
  · rfl
  · show r.val + 1 * 0 = r.val; omega
  · show 0 + 1 * j.val = j.val; omega

theorem mean_at (p : Fin 2) (j : Fin 384) : V8 c (st0_0 (tp p)) ((st0_0 (tp p)).view.rep (iblk m c 0 (tp p))) (ix2 0 j)
    = Ideal.div (A1 m c (ix3 p 0 j)) (Ideal.ofBits .f32 0x46700000#32) := by
  have e := stats_at m c p 0 j
  pointwise [k0_pay13]
  exact congrArg (Ideal.div · _) (e _)
theorem rstd_at (p : Fin 2) (j : Fin 384) : V17 c (st0_0 (tp p)) ((st0_0 (tp p)).view.rep (iblk m c 0 (tp p))) (ix2 0 j)
    = Ideal.rsqrt (Ideal.div (A1 m c (ix3 p 1 j)) (Ideal.ofBits .f32 0x46700000#32)
        - Ideal.div (A1 m c (ix3 p 0 j)) (Ideal.ofBits .f32 0x46700000#32)
          * Ideal.div (A1 m c (ix3 p 0 j)) (Ideal.ofBits .f32 0x46700000#32)
        + Ideal.ofBits .f32 0x3727C5AC#32) := by
  have e0 := stats_at m c p 0 j
  have e1 := stats_at m c p 1 j
  rw [← e0 (by decide), ← e1 (by decide)]
  pointwise [k0_pay14, k0_pay13]
theorem scale_eq (t : Fin cfg0.N) : V19 c (st0_1 t) ((st0_1 t).view.rep (iblk m c 1 t)) = V m c main_v6 := by
  unfold V19 k0_pay15; dsimp only; rw [View.readAt_rep_full, shapeCast_same, blk1]
theorem shift_eq (t : Fin cfg0.N) : V21 c (st0_2 t) ((st0_2 t).view.rep (iblk m c 2 t)) = V m c main_v8 := by
  unfold V21 k0_pay16; dsimp only; rw [View.readAt_rep_full, shapeCast_same, blk2]
theorem win_eq (t : Fin cfg0.N) : V31 c (st0_3 t) ((st0_3 t).view.rep (iblk m c 3 t)) = V m c main_v2 := by
  unfold V31 k0_pay19; dsimp only; rw [View.readAt_rep_full, shapeCast_same, blk3]
theorem wrec_eq (t : Fin cfg0.N) : k0_pay1 (V32 c (st0_4 t) ((st0_4 t).view.rep (iblk m c 4 t))) = V m c main_v4 := by
  unfold V32 k0_pay1; dsimp only; rw [View.readAt_rep_full, shapeCast_same, blk4]
theorem bias_at (t : Fin cfg0.N) (n : Fin 2048) : V4 c (st0_5 t) (st0_6 t) ((st0_5 t).view.rep (iblk m c 5 t)) ((st0_6 t).view.rep (iblk m c 6 t)) (ix2 0 n)
    = A6 m c (ix1 n) + A7 m c (ix1 n) := by
  unfold V4 k0_pay12; dsimp only
  rw [View.readAt_rep_full, View.readAt_rep_full, shapeCast_same, shapeCast_same, blk5, blk6, ← bih_at, ← bhh_at]
  rfl

/-- Step `k`'s embeddings of a sentence. -/
theorem x_at (p : Fin 2) (k : ℕ) (hk : k < 60) (b : Fin 256) (j : Fin 384) (XA : Buf (Elt Ideal) (yM.view.loc (c : Thread nD τ))) :
    xBlk c XA p k (ix3 0 b j) = XA (ix3 p ⟨k * 256 + b.val, by omega⟩ j) := by
  unfold xBlk
  rw [View.read_apply]
  refine congrArg XA ?_
  funext a; apply Fin.ext; fin_cases a
  · show p.val + 1 * 0 = p.val; omega
  · show 256 * (Ring.bk 60 k : Fin 60).val + 1 * b.val = k * 256 + b.val; rw [Ring.bk_val hk]; omega
  · show 0 + 1 * j.val = j.val; omega
end Cert.LstmIdeal.Host
end
-- ==== Proof.LstmRefValue.lean ====
/-  The reference's scan over the extended reals, read element by element: the pre-activations, the two new states of a trip, the
    array of hidden states, and the normalised embeddings a trip takes. -/
module

public import proofs.«01_k».proof.Proof.LstmRefSteps
public import Idealize.ShloMosaic.Lib.Pointwise
public import Idealize.ShloMosaic.Lib.DynamicIndex
public import Idealize.ShloMosaic.Lib.Pipeline.Value

@[expose] public section

set_option maxRecDepth 16384

noncomputable section

namespace Cert.LstmRefIdeal.Read

open Idealize.ShloMosaic
open Cert.LstmRefIdeal Cert.LstmRefIdeal.Gen
open Cert.LstmRefIdeal.Step (State step init)
open Cert.LstmRefIdeal.Trips (trips)

variable (s : State Ideal)

/-! ## One trip -/

theorem starts (j : ℕ) (hj : j < 60) (a : Fin 4) :
    (((![(constantI S_ 32 (BitVec.ofNat 32 j)), (constantI S_ 32 0#32), (constantI S_ 32 0#32), (constantI S_ 32 0#32)] : Fin 4 → S_.Idx → BitVec 32))
      a (Shape.Idx.first h_S_)).toInt = ((![j, 0, 0, 0] : Fin 4 → ℕ) a : Int) := by
  fin_cases a
  · show (BitVec.ofNat 32 j).toInt = (j : Int); exact toInt_ofNat_of_lt (by omega)
  · rfl
  · rfl
  · rfl

/-- The embeddings of a trip. -/
theorem x_at (j : Fin 60) (p : Fin 2) (b : Fin 256) (k : Fin 300) : Step.b3 j.val s (ix4 0 p b k) = s.main_v27_0 (ix4 j p b k) := by
  have hs : S60x2x256x300.Slices ![j.val, 0, 0, 0] S1x2x256x300 :=
    ⟨rfl, fun a => by have := j.isLt; fin_cases a <;> simp <;> omega⟩
  unfold Step.b3 Step.b0 Step.b1 Step.b2
  rw [Host.dynamicSlice_eq_extractStridedSlice S1x2x256x300 _ _ ![j.val, 0, 0, 0] _ hs (starts j.val j.isLt)]
  pointwise

/-- The pre-activations of a trip. -/
theorem gates_at (j : Fin 60) (p : Fin 2) (b : Fin 256) (n : Fin 2048) : Step.b13 j.val s (ix3 p b n)
    = ∑ k : Fin 300, s.main_v27_0 (ix4 j p b k) * s.main_v27_1 (ix2 n k) + ∑ k : Fin 512, s.main_v27_6 (ix3 p b k) * s.main_v27_2 (ix2 n k)
      + (s.main_v27_3 (ix1 n) + s.main_v27_4 (ix1 n)) := by
  simp only [← x_at]
  pointwise [Step.b13, Step.b12, Step.b11, Step.b10, Step.b9, Step.b8, Step.b7, Step.b6, Step.b5, Step.b4]

/-- The new cell state of a trip. -/
theorem cell_at (j : ℕ) (p : Fin 2) (b : Fin 256) (n : Fin 512) : Step.b37 j s (ix3 p b n)
    = Ideal.logistic (Step.b13 j s (ix3 p b ⟨512 + n.val, by omega⟩)) * s.main_v27_7 (ix3 p b n)
      + Ideal.logistic (Step.b13 j s (ix3 p b ⟨n.val, by omega⟩)) * Ideal.tanh (Step.b13 j s (ix3 p b ⟨1024 + n.val, by omega⟩)) := by
  pointwise [Step.b37, Step.b36, Step.b35, Step.b34, Step.b33, Step.b32, Step.b31, Step.b30, Step.b29, Step.b28, Step.b27, Step.b26, Step.b25,
    Step.b24, Step.b23, Step.b22, Step.b21, Step.b20, Step.b19, Step.b18, Step.b16, Step.b15, Step.b14, Ideal.logistic]

/-- The new hidden state of a trip. -/
theorem hid_at (j : ℕ) (p : Fin 2) (b : Fin 256) (n : Fin 512) : Step.b47 j s (ix3 p b n)
    = Ideal.logistic (Step.b13 j s (ix3 p b ⟨1536 + n.val, by omega⟩)) * Ideal.tanh (Step.b37 j s (ix3 p b n)) := by
  pointwise [Step.b47, Step.b46, Step.b45, Step.b44, Step.b43, Step.b42, Step.b41, Step.b40, Step.b39, Step.b38, Step.b17, Ideal.logistic]

/-- The array of hidden states after a trip: the trip's own in its place, the rest as it was. -/
theorem stored_at (j : ℕ) (hj : j < 60) (q : Fin 60) (p : Fin 2) (b : Fin 256) (n : Fin 512) : Step.b52 j s (ix4 q p b n)
    = if q.val = j then Step.b47 j s (ix3 p b n) else s.main_v27_8 (ix4 q p b n) := by
  have hs : S60x2x256x512.Slices ![j, 0, 0, 0] S1x2x256x512 :=
    ⟨rfl, fun a => by fin_cases a <;> simp <;> omega⟩
  have e : Step.b52 j s = updateSlice s.main_v27_8 (Step.b48 j s) ![j, 0, 0, 0] hs := by
    unfold Step.b52 Step.b49 Step.b50 Step.b51
    refine Host.dynamicUpdateSlice_eq_updateSlice _ _ _ _ _ (fun a => ?_) hs
    have h1 := starts j hj a
    have h2 := hs.2 a
    rw [h1]; omega
  rw [e]
  pointwise [Step.b48]
  by_cases hq : q.val = j
  · rw [dif_pos (by omega), if_pos hq]
  · rw [dif_neg (by omega), if_neg hq]

/-! ## The scan -/

theorem trips_x : ∀ k, (trips s k).main_v27_0 = s.main_v27_0
  | 0 => rfl
  | k + 1 => trips_x k
theorem trips_wih : ∀ k, (trips s k).main_v27_1 = s.main_v27_1
  | 0 => rfl
  | k + 1 => trips_wih k
theorem trips_whh : ∀ k, (trips s k).main_v27_2 = s.main_v27_2
  | 0 => rfl
  | k + 1 => trips_whh k
theorem trips_bih : ∀ k, (trips s k).main_v27_3 = s.main_v27_3
  | 0 => rfl
  | k + 1 => trips_bih k
theorem trips_bhh : ∀ k, (trips s k).main_v27_4 = s.main_v27_4
  | 0 => rfl
  | k + 1 => trips_bhh k

/-- After `k` trips the array of hidden states holds those of every trip done. -/
theorem trips_stored (p : Fin 2) (b : Fin 256) (n : Fin 512) (q : Fin 60) : ∀ k, k ≤ 60 → q.val < k →
    (trips s k).main_v27_8 (ix4 q p b n) = (trips s (q.val + 1)).main_v27_6 (ix3 p b n)
  | 0, _, h => absurd h (Nat.not_lt_zero _)
  | k + 1, hk, h => by
    show Step.b52 k (trips s k) (ix4 q p b n) = Step.b47 q.val (trips s q.val) (ix3 p b n)
    rw [stored_at _ k (by omega)]
    by_cases hq : q.val = k
    · rw [if_pos hq, hq]
    · rw [if_neg hq]
      exact trips_stored p b n q k (by omega) (by omega)

/-- The result: the hidden state after step `q` of sentence `p`. -/
theorem result_at (p : Fin 2) (q : Fin 60) (b : Fin 256) (n : Fin 512) :
    Step.R_main_v28 (trips s 60) (ix4 p q b n) = (trips s (q.val + 1)).main_v27_6 (ix3 p b n) := by
  rw [← trips_stored s p b n q 60 (le_refl _) q.isLt]
  pointwise [Step.R_main_v28]

/-! ## The normalised embeddings -/

theorem norm_at (a0 : S2x15360x384.Idx → EReal) (a1 : S2x2x384.Idx → EReal) (a2 a3 : S300.Idx → EReal) (j : Fin 60) (p : Fin 2) (b : Fin 256) (k : Fin 300) :
    Step.A_main_v23 (F := Ideal) a0 a1 a2 a3 (ix4 j p b k)
    = (a0 (ix3 p ⟨j.val * 256 + b.val, by omega⟩ ⟨k.val, by omega⟩) - Ideal.div (a1 (ix3 p 0 ⟨k.val, by omega⟩)) (Ideal.ofBits .f32 0x46700000#32))
        * Ideal.rsqrt (Ideal.div (a1 (ix3 p 1 ⟨k.val, by omega⟩)) (Ideal.ofBits .f32 0x46700000#32)
          - Ideal.div (a1 (ix3 p 0 ⟨k.val, by omega⟩)) (Ideal.ofBits .f32 0x46700000#32)
            * Ideal.div (a1 (ix3 p 0 ⟨k.val, by omega⟩)) (Ideal.ofBits .f32 0x46700000#32)
          + Ideal.ofBits .f32 0x3727C5AC#32)
        * a2 (ix1 k) + a3 (ix1 k) := by
  have mean_at (k : Fin 300) : Step.A_main_v3 (F := Ideal) a0 a1 a2 a3 (ix3 p 0 k) = Ideal.div (a1 (ix3 p 0 ⟨k.val, by omega⟩)) (Ideal.ofBits .f32 0x46700000#32) := by
    pointwise [Step.A_main_v3, Step.A_main_v1, Step.K_main_v2, Step.K_main_cst]
  have rstd_at (k : Fin 300) : Step.A_main_v13 (F := Ideal) a0 a1 a2 a3 (ix3 p 0 k) = Ideal.rsqrt (Ideal.div (a1 (ix3 p 1 ⟨k.val, by omega⟩)) (Ideal.ofBits .f32 0x46700000#32)
          - Ideal.div (a1 (ix3 p 0 ⟨k.val, by omega⟩)) (Ideal.ofBits .f32 0x46700000#32)
            * Ideal.div (a1 (ix3 p 0 ⟨k.val, by omega⟩)) (Ideal.ofBits .f32 0x46700000#32)
          + Ideal.ofBits .f32 0x3727C5AC#32) := by
    simp only [← mean_at]
    pointwise [Step.A_main_v13, Step.A_main_v12, Step.A_main_v8, Step.A_main_v7, Step.A_main_v6, Step.A_main_v4, Step.K_main_v11, Step.K_main_v5, Step.K_main_cst_0, Step.K_main_cst_1]
  rw [← rstd_at, ← mean_at]
  unfold Step.A_main_v23 Step.A_main_v22
  pointwise []
  unfold Step.A_main_v21 Step.A_main_v18 Step.A_main_v15 Step.A_main_v10
  pointwise [Step.A_main_v20, Step.A_main_v19, Step.A_main_v17, Step.A_main_v16, Step.A_main_v14, Step.A_main_v9, Step.A_main_v0]

end Cert.LstmRefIdeal.Read
end
-- ==== Proof.LstmValue.lean ====
/-  The LSTM call's value over the extended reals: step by step the launch's two states are the reference's, so the hidden states
    the launch leaves are the reference's result. -/
module

public import proofs.«01_k».proof.Proof.LstmHost
public import proofs.«01_k».proof.Proof.LstmRefValue

@[expose] public section

set_option maxRecDepth 16384

noncomputable section

namespace Cert.LstmIdeal.Tie

open Idealize.ShloMosaic Idealize.ShloMosaic.TcCoe Idealize.SL.Sem
open Cert.LstmIdeal Cert.LstmIdeal.Gen Cert.LstmIdeal.Run Cert.LstmIdeal.Host
open Cert.LstmRefIdeal.Trips (trips)

/-! ## The body's cell, element by element -/

section Cell
variable (v4 : FVec Ideal S1x2048 .f32) (v8 v17 v19 v21 : FVec Ideal S1x384 .f32) (v31 : FVec Ideal S384x2048 .bf16) (v32 : Vec Ideal S512x2048 .bf16)
  (xv : Vec Ideal S1x256x384 .f32) (h cc : Vec Ideal S256x512 .f32)

theorem pre_at (v33 : FVec Ideal S512x2048 .bf16) (b : Fin 256) (n : Fin 2048) : k0_pay7 v4 v8 v17 v19 v21 v31 v33 xv h (ix2 b n)
    = ∑ k : Fin 384, ((xv (ix3 0 b k) - v8 (ix2 0 k)) * v17 (ix2 0 k) * v19 (ix2 0 k) + v21 (ix2 0 k)) * v31 (ix2 k n)
      + ∑ k : Fin 512, h (ix2 b k) * v33 (ix2 k n) + v4 (ix2 0 n) := by
  pointwise [k0_pay7]

theorem cNext_at (b : Fin 256) (n : Fin 512) : cNext v4 v8 v17 v19 v21 v31 v32 xv h cc (ix2 b n)
    = Ideal.logistic (k0_pay7 v4 v8 v17 v19 v21 v31 (k0_pay1 v32) xv h (ix2 b ⟨512 + n.val, by omega⟩)) * cc (ix2 b n)
      + Ideal.logistic (k0_pay7 v4 v8 v17 v19 v21 v31 (k0_pay1 v32) xv h (ix2 b ⟨n.val, by omega⟩))
        * Ideal.tanh (k0_pay7 v4 v8 v17 v19 v21 v31 (k0_pay1 v32) xv h (ix2 b ⟨1024 + n.val, by omega⟩)) := by
  pointwise [cNext, k0_pay4, k0_pay2, k0_pay8, k0_pay9, k0_pay11]

theorem hNext_at (b : Fin 256) (n : Fin 512) : hNext v4 v8 v17 v19 v21 v31 v32 xv h cc (ix2 b n)
    = Ideal.logistic (k0_pay7 v4 v8 v17 v19 v21 v31 (k0_pay1 v32) xv h (ix2 b ⟨1536 + n.val, by omega⟩))
      * Ideal.tanh (cNext v4 v8 v17 v19 v21 v31 v32 xv h cc (ix2 b n)) := by
  rw [cNext_at]
  pointwise [hNext, k0_pay5, k0_pay3, k0_pay2, k0_pay8, k0_pay9, k0_pay10, k0_pay11]

theorem hc_succ (x : ℕ → Vec Ideal S1x256x384 .f32) (k : ℕ) : hc v4 v8 v17 v19 v21 v31 v32 x (k + 1)
    = (hNext v4 v8 v17 v19 v21 v31 v32 (x k) (hc v4 v8 v17 v19 v21 v31 v32 x k).1 (hc v4 v8 v17 v19 v21 v31 v32 x k).2,
      cNext v4 v8 v17 v19 v21 v31 v32 (x k) (hc v4 v8 v17 v19 v21 v31 v32 x k).1 (hc v4 v8 v17 v19 v21 v31 v32 x k).2) := rfl

end Cell

variable (m : (ℓ : Loc nD τ sig) → Buf (Elt Ideal) ℓ) (c : Dev nD)

/-- The reference's state before its first trip, at the launch's arguments. -/
abbrev start : Cert.LstmRefIdeal.Step.State Ideal :=
  Cert.LstmRefIdeal.Step.init (F := Ideal) (A4 m c) (A5 m c) (A6 m c) (A7 m c) (A0 m c) (A1 m c) (A2 m c) (A3 m c)

/-- A sum over the padded columns: the padding's terms vanish. -/
theorem sum_padded (f : Fin 384 → EReal) (g : Fin 300 → EReal) (h1 : ∀ k : Fin 300, f ⟨k.val, by omega⟩ = g k)
    (h2 : ∀ k : Fin 384, 300 ≤ k.val → f k = 0) : ∑ k, f k = ∑ k, g k := by
  rw [show (∑ k, f k) = ∑ k : Fin (300 + 84), f k from rfl, Fin.sum_univ_add]
  rw [Finset.sum_eq_zero (s := (Finset.univ : Finset (Fin 84))) (fun k _ => h2 _ (by show 300 ≤ 300 + k.val; omega)), add_zero]
  exact Finset.sum_congr rfl fun k _ => h1 k

/-- A step's pre-activations, of the hidden state before it. -/
def pre (p : Fin 2) (k : ℕ) (h : Vec Ideal S256x512 .f32) : FVec Ideal S256x2048 .f32 :=
  k0_pay7 (V4 c (st0_5 (tp p)) (st0_6 (tp p)) ((st0_5 (tp p)).view.rep (iblk m c 5 (tp p))) ((st0_6 (tp p)).view.rep (iblk m c 6 (tp p))))
      (V8 c (st0_0 (tp p)) ((st0_0 (tp p)).view.rep (iblk m c 0 (tp p)))) (V17 c (st0_0 (tp p)) ((st0_0 (tp p)).view.rep (iblk m c 0 (tp p))))
      (V19 c (st0_1 (tp p)) ((st0_1 (tp p)).view.rep (iblk m c 1 (tp p)))) (V21 c (st0_2 (tp p)) ((st0_2 (tp p)).view.rep (iblk m c 2 (tp p))))
      (V31 c (st0_3 (tp p)) ((st0_3 (tp p)).view.rep (iblk m c 3 (tp p)))) (k0_pay1 (V32 c (st0_4 (tp p)) ((st0_4 (tp p)).view.rep (iblk m c 4 (tp p)))))
      (xBlk c (V m c main_arg0) p k) h

theorem cell_succ (p : Fin 2) (k : ℕ) : (hcT m c (tp p) (k + 1)).2
    = cNext (V4 c (st0_5 (tp p)) (st0_6 (tp p)) ((st0_5 (tp p)).view.rep (iblk m c 5 (tp p))) ((st0_6 (tp p)).view.rep (iblk m c 6 (tp p))))
      (V8 c (st0_0 (tp p)) ((st0_0 (tp p)).view.rep (iblk m c 0 (tp p)))) (V17 c (st0_0 (tp p)) ((st0_0 (tp p)).view.rep (iblk m c 0 (tp p))))
      (V19 c (st0_1 (tp p)) ((st0_1 (tp p)).view.rep (iblk m c 1 (tp p)))) (V21 c (st0_2 (tp p)) ((st0_2 (tp p)).view.rep (iblk m c 2 (tp p))))
      (V31 c (st0_3 (tp p)) ((st0_3 (tp p)).view.rep (iblk m c 3 (tp p)))) (V32 c (st0_4 (tp p)) ((st0_4 (tp p)).view.rep (iblk m c 4 (tp p))))
      (xBlk c (V m c main_arg0) p k) (hcT m c (tp p) k).1 (hcT m c (tp p) k).2 := by
  unfold hcT hcS hcAt
  rw [hc_succ]
  dsimp only
  rw [pt_tp]
theorem hid_succ (p : Fin 2) (k : ℕ) : (hcT m c (tp p) (k + 1)).1
    = hNext (V4 c (st0_5 (tp p)) (st0_6 (tp p)) ((st0_5 (tp p)).view.rep (iblk m c 5 (tp p))) ((st0_6 (tp p)).view.rep (iblk m c 6 (tp p))))
      (V8 c (st0_0 (tp p)) ((st0_0 (tp p)).view.rep (iblk m c 0 (tp p)))) (V17 c (st0_0 (tp p)) ((st0_0 (tp p)).view.rep (iblk m c 0 (tp p))))
      (V19 c (st0_1 (tp p)) ((st0_1 (tp p)).view.rep (iblk m c 1 (tp p)))) (V21 c (st0_2 (tp p)) ((st0_2 (tp p)).view.rep (iblk m c 2 (tp p))))
      (V31 c (st0_3 (tp p)) ((st0_3 (tp p)).view.rep (iblk m c 3 (tp p)))) (V32 c (st0_4 (tp p)) ((st0_4 (tp p)).view.rep (iblk m c 4 (tp p))))
      (xBlk c (V m c main_arg0) p k) (hcT m c (tp p) k).1 (hcT m c (tp p) k).2 := by
  unfold hcT hcS hcAt
  rw [hc_succ]
  dsimp only
  rw [pt_tp]

theorem cell_at (p : Fin 2) (k : ℕ) (b : Fin 256) (n : Fin 512) : (hcT m c (tp p) (k + 1)).2 (ix2 b n)
    = Ideal.logistic (pre m c p k (hcT m c (tp p) k).1 (ix2 b ⟨512 + n.val, by omega⟩)) * (hcT m c (tp p) k).2 (ix2 b n)
      + Ideal.logistic (pre m c p k (hcT m c (tp p) k).1 (ix2 b ⟨n.val, by omega⟩))
        * Ideal.tanh (pre m c p k (hcT m c (tp p) k).1 (ix2 b ⟨1024 + n.val, by omega⟩)) := by
  rw [cell_succ]; exact cNext_at ..
theorem hid_at (p : Fin 2) (k : ℕ) (b : Fin 256) (n : Fin 512) : (hcT m c (tp p) (k + 1)).1 (ix2 b n)
    = Ideal.logistic (pre m c p k (hcT m c (tp p) k).1 (ix2 b ⟨1536 + n.val, by omega⟩)) * Ideal.tanh ((hcT m c (tp p) (k + 1)).2 (ix2 b n)) := by
  rw [cell_succ, hid_succ]; exact hNext_at ..

/-- A step's pre-activations are the reference's, at equal hidden states. -/
theorem gates_eq (p : Fin 2) (k : Fin 60) (h : Vec Ideal S256x512 .f32)
    (hh : ∀ (b : Fin 256) (n : Fin 512), h (ix2 b n) = (trips (start m c) k.val).main_v27_6 (ix3 p b n)) (b : Fin 256) (n : Fin 2048) :
    pre m c p k.val h (ix2 b n)
    = Cert.LstmRefIdeal.Step.b13 k.val (trips (start m c) k.val) (ix3 p b n) := by
  unfold pre
  rw [pre_at, Cert.LstmRefIdeal.Read.gates_at, Cert.LstmRefIdeal.Read.trips_x, Cert.LstmRefIdeal.Read.trips_wih, Cert.LstmRefIdeal.Read.trips_whh,
    Cert.LstmRefIdeal.Read.trips_bih, Cert.LstmRefIdeal.Read.trips_bhh, scale_eq, shift_eq, win_eq, wrec_eq, bias_at]
  refine congrArg₂ (· + ·) (congrArg₂ (· + ·) (sum_padded _ _ (fun j => ?_) (fun j hj => ?_)) (Finset.sum_congr rfl fun j _ => ?_)) rfl
  · rw [x_at _ _ _ k.isLt, mean_at, rstd_at, bng_at, bnb_at, wih_at, dif_pos j.isLt, dif_pos j.isLt, dif_pos j.isLt, V_main_arg0]
    refine congrArg₂ (· * ·) (Eq.symm (Cert.LstmRefIdeal.Read.norm_at (A0 m c) (A1 m c) (A2 m c) (A3 m c) k p b j)) rfl
  · rw [wih_at, dif_neg (by omega), mul_zero]
  · rw [hh, whh_at]; rfl

/-- Step by step the launch's two states are the reference's. -/
theorem states_eq (p : Fin 2) : ∀ k, k ≤ 60 → ∀ (b : Fin 256) (n : Fin 512),
    (hcT m c (tp p) k).1 (ix2 b n) = (trips (start m c) k).main_v27_6 (ix3 p b n)
      ∧ (hcT m c (tp p) k).2 (ix2 b n) = (trips (start m c) k).main_v27_7 (ix3 p b n)
  | 0, _, b, n => by
    constructor
    · show k0_pay17 (F := Ideal) (ix2 b n) = Cert.LstmRefIdeal.Step.K_main_v24 (F := Ideal) (ix3 p b n)
      pointwise [k0_pay17, Cert.LstmRefIdeal.Step.K_main_v24, Cert.LstmRefIdeal.Step.K_main_cst_2]
    · show k0_pay18 (F := Ideal) (ix2 b n) = Cert.LstmRefIdeal.Step.K_main_v25 (F := Ideal) (ix3 p b n)
      pointwise [k0_pay18, Cert.LstmRefIdeal.Step.K_main_v25, Cert.LstmRefIdeal.Step.K_main_cst_3]
  | k + 1, hk, b, n => by
    have IH := states_eq p k (by omega)
    have G := gates_eq m c p ⟨k, by omega⟩ (hcT m c (tp p) k).1 (fun b n => (IH b n).1)
    have e2 : (hcT m c (tp p) (k + 1)).2 (ix2 b n) = Cert.LstmRefIdeal.Step.b37 k (trips (start m c) k) (ix3 p b n) := by
      rw [cell_at, Cert.LstmRefIdeal.Read.cell_at, G, G, G, (IH b n).2]
    refine ⟨?_, e2⟩
    show _ = Cert.LstmRefIdeal.Step.b47 k (trips (start m c) k) (ix3 p b n)
    rw [hid_at, Cert.LstmRefIdeal.Read.hid_at, G, e2]

/-- The launch's hidden states are the reference's result. -/
theorem out_eq : Gout m c = Cert.LstmRefIdeal.Step.R_main_v28 (trips (start m c) 60) := by
  funext j
  obtain ⟨p, q, b, n, rfl⟩ : ∃ (p : Fin 2) (q : Fin 60) (b : Fin 256) (n : Fin 512), j = ix4 p q b n := ⟨j 0, j 1, j 2, j 3, eq_ix4 j⟩
  rw [Cert.LstmRefIdeal.Read.result_at]
  exact (states_eq m c p (q.val + 1) (by omega) b n).1

end Cert.LstmIdeal.Tie
end
-- ==== Proof.RealValues.lean ====
/-  The extended reals that are real numbers: sums, products, differences, quotients by a nonzero number and square roots stay
    among them, and a difference of one with itself is zero. Both the distances and the MLP head are compared on them. -/
module

public import Idealize.ShloMosaic.Lib.IdealHost
public import Idealize.ShloMosaic.Lib.ReduceAll
public import Idealize.ShloMosaic.Lib.Pointwise

@[expose] public section

noncomputable section

namespace Cert.Reals

open Idealize.ShloMosaic

/-- `x` is a real number. -/
def Fin' (x : EReal) : Prop := ∃ r : ℝ, x = r

theorem fin_coe (r : ℝ) : Fin' (r : EReal) := ⟨r, rfl⟩
theorem fin_zero : Fin' 0 := ⟨0, EReal.coe_zero.symm⟩
theorem fin_one : Fin' 1 := ⟨1, EReal.coe_one.symm⟩
theorem Fin'.add {x y : EReal} : Fin' x → Fin' y → Fin' (x + y) := by
  rintro ⟨a, rfl⟩ ⟨b, rfl⟩; exact ⟨a + b, (EReal.coe_add a b).symm⟩
theorem Fin'.sub {x y : EReal} : Fin' x → Fin' y → Fin' (x - y) := by
  rintro ⟨a, rfl⟩ ⟨b, rfl⟩; exact ⟨a - b, (EReal.coe_sub a b).symm⟩
theorem Fin'.mul {x y : EReal} : Fin' x → Fin' y → Fin' (x * y) := by
  rintro ⟨a, rfl⟩ ⟨b, rfl⟩; exact ⟨a * b, (EReal.coe_mul a b).symm⟩
theorem Fin'.sum {ι : Type} (s : Finset ι) (f : ι → EReal) (h : ∀ i, Fin' (f i)) : Fin' (∑ i ∈ s, f i) := by
  classical
  induction s using Finset.induction_on with
  | empty => rw [Finset.sum_empty]; exact fin_zero
  | insert a s ha ih => rw [Finset.sum_insert ha]; exact (h a).add ih
theorem Fin'.min {x y : EReal} (hx : Fin' x) (hy : Fin' y) : Fin' (min x y) := by
  rcases min_choice x y with h | h <;> rw [h] <;> assumption
theorem Fin'.max {x y : EReal} (hx : Fin' x) (hy : Fin' y) : Fin' (max x y) := by
  rcases max_choice x y with h | h <;> rw [h] <;> assumption
theorem Fin'.sub_self {x : EReal} : Fin' x → x - x = 0 := by
  rintro ⟨a, rfl⟩; rw [← EReal.coe_sub, _root_.sub_self, EReal.coe_zero]
theorem Fin'.div {x y : EReal} : Fin' x → (∃ r : ℝ, r ≠ 0 ∧ y = r) → Fin' (Ideal.div x y) := by
  rintro ⟨a, rfl⟩ ⟨b, hb, rfl⟩
  rw [Ideal.div, if_neg (fun h => hb (by exact_mod_cast h))]
  exact ⟨a * b⁻¹, by rw [← EReal.coe_inv, ← EReal.coe_mul]⟩
theorem Fin'.of_ne {x : EReal} (hb : x ≠ ⊥) (ht : x ≠ ⊤) : Fin' x := ⟨x.toReal, (EReal.coe_toReal ht hb).symm⟩

/-- The square root is monotone. -/
theorem sqrt_mono : Monotone Ideal.sqrt := by
  intro x y hxy
  induction x with
  | bot => exact bot_le
  | top => rw [top_le_iff.1 hxy]
  | coe a => induction y with
    | bot => simp at hxy
    | top => exact le_top
    | coe b =>
      have hab : a ≤ b := by exact_mod_cast hxy
      rw [Ideal.sqrt_coe, Ideal.sqrt_coe]
      by_cases ha : a < 0
      · rw [if_pos ha]; exact bot_le
      · rw [if_neg ha, if_neg (fun hb => ha (lt_of_le_of_lt hab hb))]
        exact_mod_cast Real.sqrt_le_sqrt hab

theorem fin_two : Fin' (Ideal.ofBits .f32 0x40000000#32) := by
  refine ⟨2, ?_⟩
  simp [Ideal.ofBits, Ideal.ieee, -EReal.coe_mul]; norm_num

theorem inf_top : Ideal.ofBits .f32 0x7F800000#32 = ⊤ := by
  simp [Ideal.ofBits, Ideal.ieee]

/-- An element whose magnitude is below infinity is a real number. -/
theorem fin_of_abs (x : EReal) (h : FloatOps.cmpf (F := Ideal) (φ := .f32) .olt (FloatOps.absf (F := Ideal) (φ := .f32) x) (Ideal.ofBits .f32 0x7F800000#32) = 1#1) :
    Fin' x := by
  rw [Ideal.cmpf_def, Ideal.absf_def, inf_top] at h
  have hd : (decide (max x (-x) < (⊤ : EReal))) = true := by
    by_contra hc
    rw [Bool.not_eq_true] at hc
    have : BitVec.ofBool (decide (max x (-x) < (⊤ : EReal))) = 1#1 := h
    rw [hc] at this
    exact absurd this (by decide)
  have hl := of_decide_eq_true hd
  refine Fin'.of_ne (fun hx => ?_) (fun hx => ?_)
  · subst hx; simp at hl
  · subst hx; simp at hl

end Cert.Reals
end
-- ==== Proof.FiniteStates.lean ====
/-  What the two preconditions say: every element of every named argument is a real number. -/
module

public import proofs.«01_k».proof.Pre_finite_states
public import proofs.«01_k».proof.Proof.RealValues

@[expose] public section

namespace Cert.Reals

open Idealize.ShloMosaic

/-- The side conditions of the states' precondition. -/
instance statesFacts : Cert.Pre_finite_states.Facts where
  bcast_S_S2x60x256x512 := by decide
  reducesTo_S2x60x256x512_S_d0_1_2_3 := by decide
  h_S_ := by decide

instance : Subsingleton (⟨0, ![]⟩ : Shape).Idx := ⟨fun a b => funext fun x => x.elim0⟩

/-- An `and` of the comparisons of every element's magnitude with infinity that is one says every element is a real number. -/
theorem fin_of_all {s : Shape} {axes : List (Fin s.rank)} {t u : Shape} [Subsingleton t.Idx] (x : FVec Ideal s .f32) (top : FVec Ideal s .f32)
    (htop : ∀ i, top i = Ideal.ofBits .f32 0x7F800000#32) (init : u.Idx → BitVec 1) (h : s.ReducesTo axes t) (hu : 0 < u.numel) (j : t.Idx)
    (e : Host.reduce IntOp.andi (cmpf .olt (Host.absf x) top) init h hu j = 1#1) (i : s.Idx) : Fin' (x i) := by
  have hi := Host.reduce_andi_all _ _ h hu j e i
  refine fin_of_abs (x i) ?_
  have h2 : FloatOps.cmpf (F := Ideal) (φ := .f32) .olt (FloatOps.absf (F := Ideal) (φ := .f32) (x i)) (top i) = 1#1 := hi
  rw [htop i] at h2
  exact h2

theorem states_fin (x : FVec Ideal Cert.Pre_finite_states.S2x60x256x512 .f32) (h : Cert.Pre_finite_states.fn (F := Ideal) x = fun _ => 1#1)
    (i : Cert.Pre_finite_states.S2x60x256x512.Idx) : Fin' (x i) := by
  have h0 := congrFun h (fun a => a.elim0)
  unfold Cert.Pre_finite_states.fn at h0
  refine fin_of_all x _ ?_ _ _ _ _ h0 i
  intro j
  rfl

end Cert.Reals
-- ==== Proof.DistBody.lean ====
/-  The body of the distances call, read element by element: every sentence's 15x15 block is one function of the two sides'
    hidden states. -/
module

public import proofs.«01_k».proof.Proof.Gen.DistIdeal.Value
public import proofs.«01_k».proof.Proof.RealValues

@[expose] public section

set_option maxRecDepth 16384
set_option maxHeartbeats 1000000

noncomputable section

namespace Cert.DistIdeal.Body

open Idealize.ShloMosaic
open Cert.DistIdeal Cert.DistIdeal.Gen Cert.Reals

section
variable {F : FTy → Type} [FloatOps F]

/-- The least of each entry and the three entries to its right, the columns read in a circle. -/
def right (sq : FVec F S60x60 .f32) : FVec F S60x60 .f32 :=
  minimumf (minimumf (minimumf sq
      (concatenate S60x60 1 [⟨S60x59, extractStridedSlice S60x59 ![0, 1] sq slices_S60x60_o0_1_S60x59⟩,
        ⟨S60x1, extractStridedSlice S60x1 ![0, 0] sq slices_S60x60_o0_0_S60x1⟩] concatenates_S60x59_S60x1_S60x60_d1))
      (concatenate S60x60 1 [⟨S60x58, extractStridedSlice S60x58 ![0, 2] sq slices_S60x60_o0_2_S60x58⟩,
        ⟨S60x2, extractStridedSlice S60x2 ![0, 0] sq slices_S60x60_o0_0_S60x2⟩] concatenates_S60x58_S60x2_S60x60_d1))
      (concatenate S60x60 1 [⟨S60x57, extractStridedSlice S60x57 ![0, 3] sq slices_S60x60_o0_3_S60x57⟩,
        ⟨S60x3, extractStridedSlice S60x3 ![0, 0] sq slices_S60x60_o0_0_S60x3⟩] concatenates_S60x57_S60x3_S60x60_d1)

/-- The least of each entry and the three entries below it, the rows read in a circle. -/
def below (mc : FVec F S60x15 .f32) : FVec F S60x15 .f32 :=
  minimumf (minimumf (minimumf mc
      (concatenate S60x15 0 [⟨S59x15, extractStridedSlice S59x15 ![1, 0] mc slices_S60x15_o1_0_S59x15⟩,
        ⟨S1x15, extractStridedSlice S1x15 ![0, 0] mc slices_S60x15_o0_0_S1x15⟩] concatenates_S59x15_S1x15_S60x15_d0))
      (concatenate S60x15 0 [⟨S58x15, extractStridedSlice S58x15 ![2, 0] mc slices_S60x15_o2_0_S58x15⟩,
        ⟨S2x15, extractStridedSlice S2x15 ![0, 0] mc slices_S60x15_o0_0_S2x15⟩] concatenates_S58x15_S2x15_S60x15_d0))
      (concatenate S60x15 0 [⟨S57x15, extractStridedSlice S57x15 ![3, 0] mc slices_S60x15_o3_0_S57x15⟩,
        ⟨S3x15, extractStridedSlice S3x15 ![0, 0] mc slices_S60x15_o0_0_S3x15⟩] concatenates_S57x15_S3x15_S60x15_d0)

/-- The high half of a value's split, and the low half. -/
def high {s : Shape} (x : FVec F s .f32) : FVec F s .bf16 := truncf .bf16 x bitsLt_bf16_f32
def low {s : Shape} (x : FVec F s .f32) : FVec F s .bf16 := truncf .bf16 (subf x (extf .f32 (high x) bitsLt_bf16_f32)) bitsLt_bf16_f32

/-- Every fourth column, picked out by a product with a selector. -/
def fourth (v7 : FVec F S60x15 .bf16) (x : FVec F S60x60 .f32) : FVec F S60x15 .f32 :=
  addf (matmul dot_S60x60_S60x15_S60x15_1_0_0_1_n_n none (high x) v7 (constant S60x15 .f32 0x00000000#32))
    (matmul dot_S60x60_S60x15_S60x15_1_0_0_1_n_n none (low x) v7 (constant S60x15 .f32 0x00000000#32))

/-- One sentence's block of pooled distances, of its two sides' hidden states. -/
def block (h1 h2 : Vec F S1x60x512 .f32) : FVec F S1x15x15 .f32 :=
  k0_pay9 k0_pay2 (below (fourth k0_pay1 (right (k0_pay4 h1 h2))))

theorem out_block (x0 x1 : Vec F S1x60x8192 .f32) : out0_2 x0 x1 = View.canon [
    ⟨r0_31, block (View.ld x0 r0_30) (View.ld x1 r0_30)⟩, ⟨r0_29, block (View.ld x0 r0_28) (View.ld x1 r0_28)⟩,
    ⟨r0_27, block (View.ld x0 r0_26) (View.ld x1 r0_26)⟩, ⟨r0_25, block (View.ld x0 r0_24) (View.ld x1 r0_24)⟩,
    ⟨r0_23, block (View.ld x0 r0_22) (View.ld x1 r0_22)⟩, ⟨r0_21, block (View.ld x0 r0_20) (View.ld x1 r0_20)⟩,
    ⟨r0_19, block (View.ld x0 r0_18) (View.ld x1 r0_18)⟩, ⟨r0_17, block (View.ld x0 r0_16) (View.ld x1 r0_16)⟩,
    ⟨r0_15, block (View.ld x0 r0_14) (View.ld x1 r0_14)⟩, ⟨r0_13, block (View.ld x0 r0_12) (View.ld x1 r0_12)⟩,
    ⟨r0_11, block (View.ld x0 r0_10) (View.ld x1 r0_10)⟩, ⟨r0_9, block (View.ld x0 r0_8) (View.ld x1 r0_8)⟩,
    ⟨r0_7, block (View.ld x0 r0_6) (View.ld x1 r0_6)⟩, ⟨r0_5, block (View.ld x0 r0_4) (View.ld x1 r0_4)⟩,
    ⟨r0_3, block (View.ld x0 r0_2) (View.ld x1 r0_2)⟩, ⟨r0_1, block (View.ld x0 r0_0) (View.ld x1 r0_0)⟩] := rfl
end

/-! ## The stages at an index, over the extended reals -/

variable (h1 h2 : Vec Ideal S1x60x512 .f32)

theorem sq_at (s t : Fin 60) : k0_pay4 (F := Ideal) h1 h2 (ix2 s t)
    = ∑ x : Fin 512, h1 (ix3 0 s x) * h1 (ix3 0 s x) + (∑ x : Fin 512, h2 (ix3 0 t x) * h2 (ix3 0 t x)
        + ∑ x : Fin 512, (h2 (ix3 0 t x) * h2 (ix3 0 t x) - h2 (ix3 0 t x) * h2 (ix3 0 t x)))
      - Ideal.ofBits .f32 0x40000000#32 * ∑ x : Fin 512, h1 (ix3 0 s x) * h2 (ix3 0 t x) := by
  pointwise [k0_pay4, k0_pay3]

/-- The selector of a word's equality. -/
theorem sel_word : ∀ (k : Fin 60) (j : Fin 15), BitVec.setWidth 32 (IntOp.cmpi CmpIPredicate.eq (BitVec.ofNat 32 k.val) (IntOp.muli (4#32) (BitVec.ofNat 32 j.val)))
    = if k.val = 4 * j.val then 1#32 else 0#32 := by decide +kernel

theorem word_fp (p : Prop) [Decidable p] : FloatOps.sitofp (F := Ideal) FTy.f32 (if p then 1#32 else 0#32) = if p then (1 : EReal) else 0 := by
  split
  · show (((1#32 : BitVec 32).toInt : ℝ) : EReal) = 1
    norm_num
  · show (((0#32 : BitVec 32).toInt : ℝ) : EReal) = 0
    norm_num

theorem colsel_at (k : Fin 60) (j : Fin 15) : k0_pay1 (F := Ideal) (ix2 k j) = if k.val = 4 * j.val then (1 : EReal) else 0 := by
  pointwise [k0_pay1]
  rw [sel_word]; exact word_fp _
theorem rowsel_at (j : Fin 15) (k : Fin 60) : k0_pay2 (F := Ideal) (ix2 j k) = if k.val = 4 * j.val then (1 : EReal) else 0 := by
  pointwise [k0_pay2]
  rw [sel_word]; exact word_fp _

/-- The `d`-th entry of the `j`-th group of four. -/
def at4 (j : Fin 15) (d : Fin 4) : Fin 60 := ⟨4 * j.val + d.val, by omega⟩

theorem right_at (sq : FVec Ideal S60x60 .f32) (s : Fin 60) (j : Fin 15) : right sq (ix2 s (at4 j 0))
    = min (min (min (sq (ix2 s (at4 j 0))) (sq (ix2 s (at4 j 1)))) (sq (ix2 s (at4 j 2)))) (sq (ix2 s (at4 j 3))) := by
  pointwise [right]
  rw [dif_pos (by show 4 * j.val + 0 < 59; omega), dif_pos (by show 4 * j.val + 0 < 58; omega), dif_pos (by show 4 * j.val + 0 < 57; omega)]
  refine congrArg₂ _ (congrArg₂ _ (congrArg₂ _ rfl ?_) ?_) ?_ <;>
  exact congrArg (fun t => sq (ix2 s t)) (Fin.ext (Nat.add_comm ..))
theorem below_at (mc : FVec Ideal S60x15 .f32) (i j : Fin 15) : below mc (ix2 (at4 i 0) j)
    = min (min (min (mc (ix2 (at4 i 0) j)) (mc (ix2 (at4 i 1) j))) (mc (ix2 (at4 i 2) j))) (mc (ix2 (at4 i 3) j)) := by
  pointwise [below]
  rw [dif_pos (by show 4 * i.val + 0 < 59; omega), dif_pos (by show 4 * i.val + 0 < 58; omega), dif_pos (by show 4 * i.val + 0 < 57; omega)]
  refine congrArg₂ _ (congrArg₂ _ (congrArg₂ _ rfl ?_) ?_) ?_ <;>
  exact congrArg (fun t => mc (ix2 t j)) (Fin.ext (Nat.add_comm ..))

/-- A sum of products with the selector picks its entry. -/
theorem sum_pick (f : Fin 60 → EReal) (j : Fin 15) : ∑ k : Fin 60, f k * (if k.val = 4 * j.val then (1 : EReal) else 0) = f (at4 j 0) := by
  rw [Finset.sum_eq_single (at4 j 0)]
  · rw [if_pos (show (at4 j 0).val = 4 * j.val from rfl), mul_one]
  · intro k _ hk; rw [if_neg (show ¬ k.val = 4 * j.val from fun h => hk (Fin.ext h)), mul_zero]
  · intro h; exact absurd (Finset.mem_univ _) h

theorem fourth_at (x : FVec Ideal S60x60 .f32) (s : Fin 60) (j : Fin 15) (hx : Fin' (x (ix2 s (at4 j 0)))) :
    fourth k0_pay1 x (ix2 s j) = x (ix2 s (at4 j 0)) := by
  pointwise [fourth, high, low]
  simp only [colsel_at]
  rw [sum_pick (fun k => x (ix2 s k)), sum_pick (fun k => x (ix2 s k) - x (ix2 s k)), hx.sub_self, add_zero]

theorem last_at (x : FVec Ideal S60x15 .f32) (i j : Fin 15) (hx : Fin' (x (ix2 (at4 i 0) j))) :
    k0_pay9 k0_pay2 x (ix3 0 i j) = Ideal.sqrt (max (x (ix2 (at4 i 0) j)) 0 + Ideal.ofBits .f32 0x2B8CBCCC#32) := by
  pointwise [k0_pay9]
  simp only [rowsel_at, mul_comm (ite _ (1 : EReal) 0)]
  rw [sum_pick (fun k => x (ix2 k j)), sum_pick (fun k => x (ix2 k j) - x (ix2 k j)), hx.sub_self, add_zero]

/-- The squared distance of two of a sentence's positions, written out. -/
def sqd (h1 h2 : Vec Ideal S1x60x512 .f32) (s t : Fin 60) : EReal :=
  ∑ x : Fin 512, h1 (ix3 0 s x) * h1 (ix3 0 s x) + ∑ x : Fin 512, h2 (ix3 0 t x) * h2 (ix3 0 t x)
    - Ideal.ofBits .f32 0x40000000#32 * ∑ x : Fin 512, h1 (ix3 0 s x) * h2 (ix3 0 t x)

/-- The least of four. -/
def min4 (f : Fin 4 → EReal) : EReal := min (min (min (f 0) (f 1)) (f 2)) (f 3)

section Finite
variable (f1 : ∀ i, Fin' (h1 i)) (f2 : ∀ i, Fin' (h2 i))
include f1 f2

theorem sq_eq (s t : Fin 60) : k0_pay4 (F := Ideal) h1 h2 (ix2 s t) = sqd h1 h2 s t := by
  rw [sq_at, sqd, Finset.sum_eq_zero (f := fun x => h2 (ix3 0 t x) * h2 (ix3 0 t x) - h2 (ix3 0 t x) * h2 (ix3 0 t x))
    (fun x _ => ((f2 _).mul (f2 _)).sub_self), add_zero]

theorem sqd_fin (s t : Fin 60) : Fin' (sqd h1 h2 s t) :=
  ((Fin'.sum _ _ fun x => (f1 _).mul (f1 _)).add (Fin'.sum _ _ fun x => (f2 _).mul (f2 _))).sub
    (fin_two.mul (Fin'.sum _ _ fun x => (f1 _).mul (f2 _)))

theorem right_eq (s : Fin 60) (j : Fin 15) : right (k0_pay4 (F := Ideal) h1 h2) (ix2 s (at4 j 0)) = min4 fun e => sqd h1 h2 s (at4 j e) := by
  rw [right_at, sq_eq h1 h2 f1 f2, sq_eq h1 h2 f1 f2, sq_eq h1 h2 f1 f2, sq_eq h1 h2 f1 f2]; rfl

theorem right_fin (s : Fin 60) (j : Fin 15) : Fin' (min4 fun e => sqd h1 h2 s (at4 j e)) :=
  (((sqd_fin h1 h2 f1 f2 s _).min (sqd_fin h1 h2 f1 f2 s _)).min (sqd_fin h1 h2 f1 f2 s _)).min (sqd_fin h1 h2 f1 f2 s _)

theorem pick_eq (s : Fin 60) (j : Fin 15) : fourth k0_pay1 (right (k0_pay4 (F := Ideal) h1 h2)) (ix2 s j) = min4 fun e => sqd h1 h2 s (at4 j e) := by
  have e := right_eq h1 h2 f1 f2 s j
  rw [fourth_at _ s j (by rw [e]; exact right_fin h1 h2 f1 f2 s j), e]

/-- A sentence's block at an index: the square root of the least squared distance of the four by four positions. -/
theorem block_at (i j : Fin 15) : block (F := Ideal) h1 h2 (ix3 0 i j)
    = Ideal.sqrt (max (min4 fun d => min4 fun e => sqd h1 h2 (at4 i d) (at4 j e)) 0 + Ideal.ofBits .f32 0x2B8CBCCC#32) := by
  have e : below (fourth k0_pay1 (right (k0_pay4 (F := Ideal) h1 h2))) (ix2 (at4 i 0) j) = min4 fun d => min4 fun e => sqd h1 h2 (at4 i d) (at4 j e) := by
    rw [below_at, pick_eq h1 h2 f1 f2, pick_eq h1 h2 f1 f2, pick_eq h1 h2 f1 f2, pick_eq h1 h2 f1 f2]; rfl
  have hf : Fin' (min4 fun d => min4 fun e => sqd h1 h2 (at4 i d) (at4 j e)) :=
    (((right_fin h1 h2 f1 f2 _ j).min (right_fin h1 h2 f1 f2 _ j)).min (right_fin h1 h2 f1 f2 _ j)).min (right_fin h1 h2 f1 f2 _ j)
  unfold block
  rw [last_at _ i j (by rw [e]; exact hf), e]

end Finite

end Cert.DistIdeal.Body
end
-- ==== Proof.DistOut.lean ====
/-  The distances call's output block, read element by element: sentence `q` of the block comes from the `q`-th 512 columns of
    the two input blocks. -/
module

public import proofs.«01_k».proof.Proof.DistBody

@[expose] public section

set_option maxRecDepth 16384
set_option maxHeartbeats 1000000

noncomputable section

namespace Cert.DistIdeal.Body

open Idealize.ShloMosaic
open Cert.DistIdeal Cert.DistIdeal.Gen Cert.Reals

variable {F : FTy → Type} [FloatOps F]

theorem col_lt (q : Fin 16) (x : Fin 512) : 512 * q.val + x.val < 8192 := by omega

/-- Sentence `q`'s columns of an input block. -/
def colsOf (X : Vec F S1x60x8192 .f32) (q : Fin 16) : Vec F S1x60x512 .f32 :=
  fun y => X (ix3 0 (y 1 : Fin 60) ⟨512 * q.val + (y 2 : Fin 512).val, col_lt q (y 2)⟩)

/-- The output block's element. -/
def outAt (X Y : Vec F S1x60x8192 .f32) (y : S16x15x15.Idx) : Elt F .f32 :=
  block (colsOf X (y 0 : Fin 16)) (colsOf Y (y 0 : Fin 16)) (ix3 0 (y 1 : Fin 15) (y 2 : Fin 15))

theorem ld_cols (X : Vec F S1x60x8192 .f32) (o : ℕ) (q : Fin 16) (ho : o = 512 * q.val) (inb : ∀ a, ![0, 0, o] a + S1x60x512.size a ≤ S1x60x8192.size a) :
    View.ld X (Rect.unit (s := S1x60x8192) ![0, 0, o] S1x60x512.size inb) = colsOf X q := by
  subst ho
  funext y
  obtain ⟨z, s, x, rfl⟩ : ∃ (z : Fin 1) (s : Fin 60) (x : Fin 512), y = ix3 z s x := ⟨y 0, y 1, y 2, eq_ix3 y⟩
  show X ((Rect.unit (s := S1x60x8192) ![0, 0, 512 * q.val] S1x60x512.size inb).emb (ix3 z s x)) = X (ix3 0 s ⟨512 * q.val + x.val, col_lt q x⟩)
  obtain rfl : z = 0 := Subsingleton.elim _ _
  refine congrArg X (funext fun a => Fin.ext ?_)
  rw [Rect.emb_apply]
  fin_cases a
  · rfl
  · show 0 + 1 * s.val = s.val; omega
  · show 512 * q.val + 1 * x.val = 512 * q.val + x.val; omega

theorem piece_at (X Y : Vec F S1x60x8192 .f32) (o q : ℕ) (hq : q < 16) (ho : o = 512 * q)
    (inb : ∀ a, ![0, 0, o] a + S1x60x512.size a ≤ S1x60x8192.size a) (inb' : ∀ a, ![q, 0, 0] a + S1x15x15.size a ≤ S16x15x15.size a)
    (x : S1x15x15.Idx) :
    block (View.ld X (Rect.unit (s := S1x60x8192) ![0, 0, o] S1x60x512.size inb)) (View.ld Y (Rect.unit (s := S1x60x8192) ![0, 0, o] S1x60x512.size inb)) x
      = outAt X Y ((Rect.unit (s := S16x15x15) ![q, 0, 0] S1x15x15.size inb').emb x) := by
  rw [ld_cols X o ⟨q, hq⟩ ho, ld_cols Y o ⟨q, hq⟩ ho]
  obtain ⟨z, i, j, rfl⟩ : ∃ (z : Fin 1) (i : Fin 15) (j : Fin 15), x = ix3 z i j := ⟨x 0, x 1, x 2, eq_ix3 x⟩
  obtain rfl : z = 0 := Subsingleton.elim _ _
  have e : (Rect.unit (s := S16x15x15) ![q, 0, 0] S1x15x15.size inb').emb (ix3 0 i j) = ix3 (⟨q, hq⟩ : Fin 16) i j := by
    funext a
    apply Fin.ext
    rw [Rect.emb_apply]
    fin_cases a
    · show q + 1 * 0 = q; omega
    · show 0 + 1 * i.val = i.val; omega
    · show 0 + 1 * j.val = j.val; omega
  rw [e]; rfl

theorem out_at (X Y : Vec F S1x60x8192 .f32) (y : S16x15x15.Idx) : out0_2 X Y y = outAt X Y y := by
  rw [out_block]
  refine View.canon_apply_of_pieces (outAt X Y) _ ?_ y (cover0_2 _ _ _ _ _ _ _ _ _ _ _ _ _ _ _ _ y)
  simp only [List.mem_cons, List.not_mem_nil, or_false, forall_eq_or_imp, forall_eq]
  exact ⟨piece_at X Y 7680 15 (by decide) rfl _ _, piece_at X Y 7168 14 (by decide) rfl _ _, piece_at X Y 6656 13 (by decide) rfl _ _,
    piece_at X Y 6144 12 (by decide) rfl _ _, piece_at X Y 5632 11 (by decide) rfl _ _, piece_at X Y 5120 10 (by decide) rfl _ _,
    piece_at X Y 4608 9 (by decide) rfl _ _, piece_at X Y 4096 8 (by decide) rfl _ _, piece_at X Y 3584 7 (by decide) rfl _ _,
    piece_at X Y 3072 6 (by decide) rfl _ _, piece_at X Y 2560 5 (by decide) rfl _ _, piece_at X Y 2048 4 (by decide) rfl _ _,
    piece_at X Y 1536 3 (by decide) rfl _ _, piece_at X Y 1024 2 (by decide) rfl _ _, piece_at X Y 512 1 (by decide) rfl _ _,
    piece_at X Y 0 0 (by decide) rfl _ _⟩

end Cert.DistIdeal.Body
end
-- ==== Proof.DistValue.lean ====
/-  The distances call's value over the extended reals: on finite hidden states its array is the reference's. -/
module

public import proofs.«01_k».proof.Proof.DistOut
public import proofs.«01_k».proof.Proof.Gen.DistRefIdeal.Run
public import Idealize.ShloMosaic.Lib.Pipeline.ValueKit
public import Idealize.ShloMosaic.Lib.StableHlo.ReadAt

@[expose] public section

set_option maxRecDepth 16384
set_option maxHeartbeats 1000000

noncomputable section

namespace Cert.DistIdeal.Tie

open Idealize.ShloMosaic Idealize.ShloMosaic.TcCoe Idealize.SL.Sem
open Cert.DistIdeal Cert.DistIdeal.Gen Cert.DistIdeal.Body Cert.Reals

/-- The squared distance of positions `s` and `t` of sentence `b`'s two sides. -/
def sqA (A : S2x60x256x512.Idx → EReal) (b : Fin 256) (s t : Fin 60) : EReal :=
  ∑ x : Fin 512, A (ix4 0 s b x) * A (ix4 0 s b x) + ∑ x : Fin 512, A (ix4 1 t b x) * A (ix4 1 t b x)
    - Ideal.ofBits .f32 0x40000000#32 * ∑ x : Fin 512, A (ix4 0 s b x) * A (ix4 1 t b x)

/-- The pooled distances, written out. -/
def G (A : S2x60x256x512.Idx → EReal) (y : S256x15x15.Idx) : EReal :=
  Ideal.sqrt (max (min4 fun d => min4 fun e => sqA A (y 0 : Fin 256) (at4 (y 1 : Fin 15) d) (at4 (y 2 : Fin 15) e)) 0 + Ideal.ofBits .f32 0x2B8CBCCC#32)

variable (m : (ℓ : Loc nD τ sig) → Buf (Elt Ideal) ℓ) (c : Dev nD)

/-- The hidden states, as an array of extended reals. -/
def A0 : S2x60x256x512.Idx → EReal := m ((c : Thread nD τ).loc main_arg0)

theorem flat_at (p : Fin 2) (s : Fin 60) (l : Fin 131072) : (V m c main_v0 : S2x60x131072.Idx → EReal) (ix3 p s l)
    = A0 m c (ix4 p s ⟨l.val / 512, by omega⟩ ⟨l.val % 512, by omega⟩) := by
  after_reads_at
  rfl

theorem idx : ∀ t : Fin cfg0.N, win0_0.index t = ![0, 0, t.val] ∧ win0_1.index t = ![1, 0, t.val] ∧ win0_2.index t = ![t.val, 0, 0] :=
  (by decide +kernel : ∀ t : Fin grid0.N, _)

theorem lane_lt (t : Fin cfg0.N) (l : Fin 8192) : 8192 * t.val + l.val < 131072 := by
  have : t.val < 16 := t.isLt
  omega

theorem blk0 (t : Fin cfg0.N) (s : Fin 60) (l : Fin 8192) : iblk m c 0 t (ix3 0 s l) = V m c main_v0 (ix3 0 s ⟨8192 * t.val + l.val, lane_lt t l⟩) := by
  blk_ext! [iblk, idx t]
theorem blk1 (t : Fin cfg0.N) (s : Fin 60) (l : Fin 8192) : iblk m c 1 t (ix3 0 s l) = V m c main_v0 (ix3 1 s ⟨8192 * t.val + l.val, lane_lt t l⟩) := by
  blk_ext! [iblk, idx t]

theorem cols0 (t : Fin cfg0.N) (q : Fin 16) (b : Fin 256) (hb : b.val = 16 * t.val + q.val) (s : Fin 60) (x : Fin 512) :
    colsOf (iblk m c 0 t) q (ix3 0 s x) = A0 m c (ix4 0 s b x) := by
  show iblk m c 0 t (ix3 0 s ⟨512 * q.val + x.val, col_lt q x⟩) = _
  rw [blk0, flat_at]
  refine congrArg₂ (fun u v => A0 m c (ix4 0 s u v)) (Fin.ext ?_) (Fin.ext ?_)
  · show (8192 * t.val + (512 * q.val + x.val)) / 512 = b.val; omega
  · show (8192 * t.val + (512 * q.val + x.val)) % 512 = x.val; omega
theorem cols1 (t : Fin cfg0.N) (q : Fin 16) (b : Fin 256) (hb : b.val = 16 * t.val + q.val) (s : Fin 60) (x : Fin 512) :
    colsOf (iblk m c 1 t) q (ix3 0 s x) = A0 m c (ix4 1 s b x) := by
  show iblk m c 1 t (ix3 0 s ⟨512 * q.val + x.val, col_lt q x⟩) = _
  rw [blk1, flat_at]
  refine congrArg₂ (fun u v => A0 m c (ix4 1 s u v)) (Fin.ext ?_) (Fin.ext ?_)
  · show (8192 * t.val + (512 * q.val + x.val)) / 512 = b.val; omega
  · show (8192 * t.val + (512 * q.val + x.val)) % 512 = x.val; omega

section Finite
variable (hA : ∀ i, Fin' (A0 m c i))
include hA

theorem cols0_fin (t : Fin cfg0.N) (q : Fin 16) (i : S1x60x512.Idx) : Fin' (colsOf (iblk m c 0 t) q i) := by
  obtain ⟨z, s, x, rfl⟩ : ∃ (z : Fin 1) (s : Fin 60) (x : Fin 512), i = ix3 z s x := ⟨i 0, i 1, i 2, eq_ix3 i⟩
  obtain rfl : z = 0 := Subsingleton.elim _ _
  have ht : t.val < 16 := t.isLt
  rw [cols0 m c t q ⟨16 * t.val + q.val, by omega⟩ rfl]
  exact hA _
theorem cols1_fin (t : Fin cfg0.N) (q : Fin 16) (i : S1x60x512.Idx) : Fin' (colsOf (iblk m c 1 t) q i) := by
  obtain ⟨z, s, x, rfl⟩ : ∃ (z : Fin 1) (s : Fin 60) (x : Fin 512), i = ix3 z s x := ⟨i 0, i 1, i 2, eq_ix3 i⟩
  obtain rfl : z = 0 := Subsingleton.elim _ _
  have ht : t.val < 16 := t.isLt
  rw [cols1 m c t q ⟨16 * t.val + q.val, by omega⟩ rfl]
  exact hA _

/-- What a grid point's block holds, of the hidden states. -/
theorem point_at (t : Fin cfg0.N) (q : Fin 16) (b : Fin 256) (hb : b.val = 16 * t.val + q.val) (i j : Fin 15) :
    out0_2 (iblk m c 0 t) (iblk m c 1 t) (ix3 q i j) = G (A0 m c) (ix3 b i j) := by
  rw [out_at]
  show block (colsOf (iblk m c 0 t) q) (colsOf (iblk m c 1 t) q) (ix3 0 i j) = _
  rw [block_at _ _ (cols0_fin m c hA t q) (cols1_fin m c hA t q)]
  have e : ∀ s t' : Fin 60, sqd (colsOf (iblk m c 0 t) q) (colsOf (iblk m c 1 t) q) s t' = sqA (A0 m c) b s t' := fun s t' => by
    unfold sqd sqA
    simp only [cols0 m c t q b hb, cols1 m c t q b hb]
  simp only [e]
  rfl

/-- The array after the run. -/
theorem final : (dats m 0 c).arrAt 2 cfg0.N = G (A0 m c) := by
  refine (dats m 0 c).arrAt_eq_of_covers 2 _ (by decide +kernel) fun t hf y => ?_
  blk_simp
  rw [after0_2]
  obtain ⟨q, i, j, rfl⟩ : ∃ (q : Fin 16) (i : Fin 15) (j : Fin 15), y = ix3 q i j := ⟨y 0, y 1, y 2, eq_ix3 y⟩
  have ht : t.val < 16 := t.isLt
  rw [point_at m c hA t q ⟨16 * t.val + q.val, by omega⟩ rfl]
  refine congrArg (G (A0 m c)) ?_
  blk_ext [idx t]

end Finite

/-! ## The reference -/

section Ref
open Cert.DistRefIdeal

theorem min4_le (f : Fin 4 → EReal) (d : Fin 4) : min4 f ≤ f d := by
  unfold min4
  fin_cases d
  · exact ((min_le_left _ _).trans (min_le_left _ _)).trans (min_le_left _ _)
  · exact ((min_le_left _ _).trans (min_le_left _ _)).trans (min_le_right _ _)
  · exact (min_le_left _ _).trans (min_le_right _ _)
  · exact min_le_right _ _
theorem min4_mem (f : Fin 4 → EReal) : ∃ d, min4 f = f d := by
  unfold min4
  rcases min_choice (min (min (f 0) (f 1)) (f 2)) (f 3) with h | h
  · rw [h]
    rcases min_choice (min (f 0) (f 1)) (f 2) with h | h
    · rw [h]
      rcases min_choice (f 0) (f 1) with h | h
      · exact ⟨0, h⟩
      · exact ⟨1, h⟩
    · exact ⟨2, h⟩
  · exact ⟨3, h⟩

/-- A distance, of a squared distance. -/
def root (x : EReal) : EReal := Ideal.sqrt (max x 0 + Ideal.ofBits .f32 0x2B8CBCCC#32)

theorem root_mono : Monotone root := fun x y h => sqrt_mono (add_le_add_left (max_le_max h le_rfl) _)

/-- The least distance of each four by four group is the distance of the least. -/
theorem pool_eq (X : S256x15x4x15x4.Idx → EReal) (init : S_.Idx → EReal) (hi : ∀ z, init z = ⊤) (sq : Fin 256 → Fin 60 → Fin 60 → EReal)
    (hX : ∀ b i d j e, X (ix5 b i d j e) = root (sq b (at4 i d) (at4 j e))) (b : Fin 256) (i j : Fin 15) :
    Host.reduce (FloatOps.minimumf (F := Ideal) (φ := .f32)) X init Cert.DistRefIdeal.Gen.reducesTo_S256x15x4x15x4_S256x15x15_d2_4 Cert.DistRefIdeal.Gen.h_S_ (ix3 b i j)
      = root (min4 fun d => min4 fun e => sq b (at4 i d) (at4 j e)) := by
  rw [Host.reduce_eq_fold]
  apply le_antisymm
  · refine (Finset.fold_min_le _).2 (Or.inr ?_)
    obtain ⟨d, hd⟩ := min4_mem fun d => min4 fun e => sq b (at4 i d) (at4 j e)
    obtain ⟨e, he⟩ := min4_mem fun e => sq b (at4 i d) (at4 j e)
    refine ⟨ix5 b i d j e, ?_, ?_⟩
    · rw [Finset.mem_filter]
      refine ⟨Finset.mem_univ _, ?_⟩
      funext a; fin_cases a <;> rfl
    · rw [hX, hd, he]
  · refine (Finset.le_fold_min _).2 ⟨?_, ?_⟩
    · rw [hi]; exact le_top
    · intro x hx
      rw [Finset.mem_filter] at hx
      obtain ⟨b', i', d, j', e, rfl⟩ : ∃ (b' : Fin 256) (i' : Fin 15) (d : Fin 4) (j' : Fin 15) (e : Fin 4), x = ix5 b' i' d j' e :=
        ⟨x 0, x 1, x 2, x 3, x 4, eq_ix5 x⟩
      have h := hx.2
      have hb : b' = b := congrFun h 0
      have hi' : i' = i := congrFun h 1
      have hj : j' = j := congrFun h 2
      subst hb; subst hi'; subst hj
      rw [hX]
      exact root_mono ((min4_le _ d).trans (min4_le _ e))

/-- The reference's run: its result is the pooled distances written out. -/
theorem ref_run (m : (ℓ : Loc Cert.DistRefIdeal.nD Cert.DistRefIdeal.τ Cert.DistRefIdeal.sig) → Buf (Elt Ideal) ℓ) (ρ : Dev Cert.DistRefIdeal.nD → PrngReg) :
    θ_run (Cert.DistRefIdeal.defs (F := Ideal)) (onTc (τ := Cert.DistRefIdeal.τ) (Cert.DistRefIdeal.main (F := Ideal))) ⟨m, fun _ => 0, ρ⟩ fun r => ∀ c : Dev Cert.DistRefIdeal.nD,
      r.2.mem ((c.tc : Thread Cert.DistRefIdeal.nD Cert.DistRefIdeal.τ).loc Cert.DistRefIdeal.main_v25)
          = G (m ((c.tc : Thread Cert.DistRefIdeal.nD Cert.DistRefIdeal.τ).loc Cert.DistRefIdeal.main_arg0))
        ∧ r.2.mem ((c.tc : Thread Cert.DistRefIdeal.nD Cert.DistRefIdeal.τ).loc Cert.DistRefIdeal.main_arg0)
          = m ((c.tc : Thread Cert.DistRefIdeal.nD Cert.DistRefIdeal.τ).loc Cert.DistRefIdeal.main_arg0) := by
  refine (θ_run _ _ _).mono (fun r h c => ⟨(h c).1.trans ?_, (h c).2⟩) (Cert.DistRefIdeal.Value.run m ρ)
  generalize m ((c.tc : Thread Cert.DistRefIdeal.nD Cert.DistRefIdeal.τ).loc Cert.DistRefIdeal.main_arg0) = A
  funext y
  obtain ⟨b, i, j, rfl⟩ : ∃ (b : Fin 256) (i j : Fin 15), y = ix3 b i j := ⟨y 0, y 1, y 2, eq_ix3 y⟩
  refine pool_eq _ _ (fun z => inf_top) (sqA A) (fun b i d j e => ?_) b i j
  pointwise
  have e1 : ∀ (k : Fin 15) (n : Fin 4) (hn : k.val * 4 + n.val < 60), (⟨k.val * 4 + n.val, hn⟩ : Fin 60) = at4 k n :=
    fun k n hn => Fin.ext (congrArg (· + n.val) (Nat.mul_comm ..))
  simp only [e1]
  rfl

end Ref

end Cert.DistIdeal.Tie
end
-- ==== Proof.Head.lean ====
/-  The MLP head as functions of extended reals: a linear layer, batch normalisation over the 256 sentences, and the
    log-softmax of two logits in the kernel's form and the reference's. On real numbers every layer's values are real, and the
    two forms agree. -/
module

public import proofs.«01_k».proof.Proof.RealValues

@[expose] public section

noncomputable section

namespace Cert.Head

open Idealize.ShloMosaic Cert.Reals

/-- The number of sentences, and the constant added to a variance. -/
def nB : EReal := Ideal.ofBits .f32 0x43800000#32
def eps : EReal := Ideal.ofBits .f32 0x3727C5AC#32

theorem nB_eq : nB = ((256 : ℝ) : EReal) := by
  unfold nB
  simp [Ideal.ofBits, Ideal.ieee, -EReal.coe_mul]; norm_num

theorem eps_pos : ∃ e : ℝ, 0 < e ∧ eps = (e : EReal) := by
  unfold eps
  refine ⟨10995116 * 2 ^ (-40 : ℤ), by positivity, ?_⟩
  simp [Ideal.ofBits, Ideal.ieee, -EReal.coe_mul]

theorem neg_inf : Ideal.ofBits .f32 0xFF800000#32 = ⊥ := by
  simp [Ideal.ofBits, Ideal.ieee]

theorem int_zero : (((0#32 : BitVec 32).toInt : ℝ) : EReal) = 0 := by simp

theorem n_sub : nB - (((0#32 : BitVec 32).toInt : ℝ) : EReal) = nB := by rw [int_zero, sub_zero]

theorem n_pos : 0 < nB := by rw [nB_eq]; exact_mod_cast (by norm_num : (0 : ℝ) < 256)

/-- Mean and variance of a column, and the column normalised. -/
def mean (z : Fin 256 → EReal) : EReal := Ideal.div (∑ i, z i) nB
def var (z : Fin 256 → EReal) : EReal := Ideal.div (∑ i, (z i - mean z) * (z i - mean z)) nB
def bn (z : Fin 256 → EReal) (g be : EReal) (i : Fin 256) : EReal := (z i - mean z) * Ideal.rsqrt (var z + eps) * g + be

/-- A linear layer. -/
def lin {K N : ℕ} (x : Fin 256 → Fin K → EReal) (w : Fin K → Fin N → EReal) (b : Fin N → EReal) (i : Fin 256) (j : Fin N) : EReal :=
  ∑ k, x i k * w k j + b j

/-- A hidden layer: linear, its negative values cut off, each column normalised. -/
def hidden {K N : ℕ} (x : Fin 256 → Fin K → EReal) (w : Fin K → Fin N → EReal) (b g be : Fin N → EReal) (i : Fin 256) (j : Fin N) : EReal :=
  bn (fun i => max (lin x w b i j) 0) (g j) (be j) i

/-- The two logits' log-softmax, as the reference takes it. -/
def soft (z : Fin 2 → EReal) (j : Fin 2) : EReal :=
  z j - max (z 0) (z 1) - Ideal.log (Ideal.exp (z 0 - max (z 0) (z 1)) + Ideal.exp (z 1 - max (z 0) (z 1)))

/-! ## Real values -/

theorem sum_coe {n : ℕ} (f : Fin n → ℝ) : ∑ i, (f i : EReal) = ((∑ i, f i : ℝ) : EReal) := by
  induction n with
  | zero => simp
  | succ n ih => rw [Fin.sum_univ_succ, Fin.sum_univ_succ, ih, EReal.coe_add]

theorem fin_mean {z : Fin 256 → EReal} (hz : ∀ i, Fin' (z i)) : Fin' (mean z) :=
  (Fin'.sum _ _ hz).div ⟨256, by norm_num, nB_eq⟩

theorem fin_rsqrt {z : Fin 256 → EReal} (hz : ∀ i, Fin' (z i)) : Fin' (Ideal.rsqrt (var z + eps)) := by
  obtain ⟨e, he, hE⟩ := eps_pos
  choose d hd using fun i => (hz i).sub (fin_mean hz)
  have hv : var z = (((∑ i, d i * d i) * 256⁻¹ : ℝ) : EReal) := by
    unfold var
    simp only [hd, ← EReal.coe_mul, sum_coe]
    rw [nB_eq, Ideal.div, if_neg (by exact_mod_cast (by norm_num : (256 : ℝ) ≠ 0)), ← EReal.coe_inv, ← EReal.coe_mul]
  have hp : 0 < (∑ i, d i * d i) * 256⁻¹ + e :=
    add_pos_of_nonneg_of_pos (mul_nonneg (Finset.sum_nonneg fun i _ => mul_self_nonneg _) (by norm_num)) he
  rw [hv, hE, ← EReal.coe_add, Ideal.rsqrt_coe]
  rw [if_neg (not_lt.2 hp.le), if_neg hp.ne']
  exact fin_coe _

theorem fin_bn {z : Fin 256 → EReal} {g be : EReal} (hz : ∀ i, Fin' (z i)) (hg : Fin' g) (hb : Fin' be) (i : Fin 256) : Fin' (bn z g be i) :=
  ((((hz i).sub (fin_mean hz)).mul (fin_rsqrt hz)).mul hg).add hb

section
variable {K N : ℕ} {x : Fin 256 → Fin K → EReal} {w : Fin K → Fin N → EReal} {b g be : Fin N → EReal}

theorem fin_lin (hx : ∀ i k, Fin' (x i k)) (hw : ∀ k j, Fin' (w k j)) (hb : ∀ j, Fin' (b j)) (i : Fin 256) (j : Fin N) : Fin' (lin x w b i j) :=
  (Fin'.sum _ _ fun k => (hx i k).mul (hw k j)).add (hb j)

theorem fin_hidden (hx : ∀ i k, Fin' (x i k)) (hw : ∀ k j, Fin' (w k j)) (hb : ∀ j, Fin' (b j)) (hg : ∀ j, Fin' (g j)) (hbe : ∀ j, Fin' (be j))
    (i : Fin 256) (j : Fin N) : Fin' (hidden x w b g be i j) :=
  fin_bn (fun i => (fin_lin hx hw hb i j).max fin_zero) (hg j) (hbe j) i
end

/-! ## The padded lanes -/

theorem lane : ∀ l : Fin 128, IntOp.cmpi .slt (BitVec.ofNat 32 l.val) 2#32 = if l.val < 2 then 1#1 else 0#1 := by decide

theorem lane_select (l : Fin 128) (a b : EReal) : Scalar.select (IntOp.cmpi .slt (BitVec.ofNat 32 l.val) 2#32) a b = if l.val < 2 then a else b := by
  rw [lane]
  by_cases h : l.val < 2
  · rw [if_pos h, if_pos h]; rfl
  · rw [if_neg h, if_neg h]; rfl

/-- The greatest of the lanes that hold a logit. -/
theorem max_lanes (Z : Fin 128 → EReal) : Finset.fold max ⊥ (fun l : Fin 128 => if l.val < 2 then Z l else ⊥) Finset.univ = max (Z 0) (Z 1) := by
  apply le_antisymm
  · refine (Finset.fold_max_le _).2 ⟨bot_le, fun l _ => ?_⟩
    by_cases h : l.val < 2
    · rw [if_pos h]
      rcases (by omega : l.val = 0 ∨ l.val = 1) with h0 | h1
      · rw [show l = 0 from Fin.ext h0]; exact le_max_left _ _
      · rw [show l = 1 from Fin.ext h1]; exact le_max_right _ _
    · rw [if_neg h]; exact bot_le
  · refine max_le ((Finset.le_fold_max _).2 (Or.inr ⟨0, Finset.mem_univ _, le_of_eq ?_⟩)) ((Finset.le_fold_max _).2 (Or.inr ⟨1, Finset.mem_univ _, le_of_eq ?_⟩))
    · rw [if_pos (by decide)]
    · rw [if_pos (by decide)]

/-- The sum of the lanes that hold a logit. -/
theorem sum_lanes (f : Fin 128 → EReal) : ∑ l : Fin 128, (if l.val < 2 then f l else 0) = f 0 + f 1 := by
  rw [Fin.sum_univ_succ, Fin.sum_univ_succ, Finset.sum_eq_zero, add_zero]
  · rfl
  · intro l _
    rw [if_neg]
    show ¬ (l.val + 1 + 1 < 2)
    omega

/-- The kernel's order of the last subtraction gives the reference's: where logit and maximum are real. -/
theorem sub_swap {a b : EReal} (ha : Fin' a) (hb : Fin' b) (l : EReal) : a - (l + b) = a - b - l := by
  obtain ⟨a, rfl⟩ := ha
  obtain ⟨b, rfl⟩ := hb
  induction l with
  | bot => rw [EReal.bot_add, ← EReal.coe_sub, EReal.coe_sub_bot, EReal.coe_sub_bot]
  | top => rw [EReal.top_add_coe, ← EReal.coe_sub, sub_eq_add_neg, sub_eq_add_neg, EReal.neg_top, EReal.add_bot, EReal.add_bot]
  | coe r => norm_cast; ring

/-! ## The whole head -/

/-- The type of an array of one axis, and of two. -/
abbrev Arr1 (n : ℕ) := (⟨1, ![n]⟩ : Shape).Idx → EReal
abbrev Arr2 (n k : ℕ) := (⟨2, ![n, k]⟩ : Shape).Idx → EReal

/-- The arguments: pooled distances and further features, then each layer's weights, bias, and batch-norm scale and shift. -/
structure Args where
  P : (⟨3, ![256, 15, 15]⟩ : Shape).Idx → EReal
  W1 : Arr2 1024 232
  b1 : Arr1 1024
  g1 : Arr1 1024
  e1 : Arr1 1024
  W2 : Arr2 1024 1024
  b2 : Arr1 1024
  g2 : Arr1 1024
  e2 : Arr1 1024
  W3 : Arr2 2 1024
  b3 : Arr1 2
  X : Arr2 256 7

namespace Args
variable (a : Args)

theorem row_lt (k : Fin 225) : k.val / 15 < 15 := by omega
theorem col_lt (k : Fin 225) : k.val % 15 < 15 := by omega
theorem dist_lt (k : Fin 225) : k.val < 232 := by omega
theorem extra_lt (k : Fin 7) : 225 + k.val < 232 := by omega

/-- The first layer before its negative values are cut off: the pooled distances' part and the further features' part. -/
def first (i : Fin 256) (j : Fin 1024) : EReal :=
  ∑ k : Fin 225, a.P (ix3 i ⟨k.val / 15, row_lt k⟩ ⟨k.val % 15, col_lt k⟩) * a.W1 (ix2 j ⟨k.val, dist_lt k⟩)
    + ∑ k : Fin 7, a.X (ix2 i k) * a.W1 (ix2 j ⟨225 + k.val, extra_lt k⟩) + a.b1 (ix1 j)
def hid1 (i : Fin 256) (j : Fin 1024) : EReal := bn (fun i => max (a.first i j) 0) (a.g1 (ix1 j)) (a.e1 (ix1 j)) i
def hid2 : Fin 256 → Fin 1024 → EReal := hidden a.hid1 (fun k j => a.W2 (ix2 j k)) (fun j => a.b2 (ix1 j)) (fun j => a.g2 (ix1 j)) (fun j => a.e2 (ix1 j))
def logits : Fin 256 → Fin 2 → EReal := lin a.hid2 (fun k j => a.W3 (ix2 j k)) (fun j => a.b3 (ix1 j))

/-- The result. -/
def out (y : (⟨2, ![256, 2]⟩ : Shape).Idx) : EReal := soft (a.logits (y 0 : Fin 256)) (y 1 : Fin 2)

/-- Every argument real. -/
structure Real : Prop where
  P : ∀ i, Fin' (a.P i)
  W1 : ∀ i, Fin' (a.W1 i)
  b1 : ∀ i, Fin' (a.b1 i)
  g1 : ∀ i, Fin' (a.g1 i)
  e1 : ∀ i, Fin' (a.e1 i)
  W2 : ∀ i, Fin' (a.W2 i)
  b2 : ∀ i, Fin' (a.b2 i)
  g2 : ∀ i, Fin' (a.g2 i)
  e2 : ∀ i, Fin' (a.e2 i)
  W3 : ∀ i, Fin' (a.W3 i)
  b3 : ∀ i, Fin' (a.b3 i)
  X : ∀ i, Fin' (a.X i)

variable {a}

theorem fin_logits (h : a.Real) (i : Fin 256) (j : Fin 2) : Fin' (a.logits i j) := by
  have h1 : ∀ i j, Fin' (a.first i j) := fun i j =>
    ((Fin'.sum _ _ fun k => (h.P _).mul (h.W1 _)).add (Fin'.sum _ _ fun k => (h.X _).mul (h.W1 _))).add (h.b1 _)
  have h2 : ∀ i j, Fin' (a.hid1 i j) := fun i j => fin_bn (fun i => (h1 i j).max fin_zero) (h.g1 _) (h.e1 _) i
  exact fin_lin (fin_hidden h2 (fun _ _ => h.W2 _) (fun _ => h.b2 _) (fun _ => h.g2 _) (fun _ => h.e2 _)) (fun _ _ => h.W3 _) (fun _ => h.b3 _) i j

/-- On real arguments, the kernel's last subtraction gives the result. -/
theorem soft_of_real (h : a.Real) (i : Fin 256) (j : Fin 2) (z : Fin 2 → EReal) (hz : a.logits i = z) :
    z j - (Ideal.log (Ideal.exp (z 0 - max (z 0) (z 1)) + Ideal.exp (z 1 - max (z 0) (z 1))) + max (z 0) (z 1)) = a.out (ix2 i j) := by
  subst hz
  exact sub_swap (fin_logits h i j) ((fin_logits h i 0).max (fin_logits h i 1)) _

end Args

/-- A sum over the padded features, in its three parts. -/
theorem sum_parts (f : Fin 256 → EReal) :
    ∑ k, f k = ∑ k : Fin 225, f ⟨k.val, by omega⟩ + ∑ k : Fin 7, f ⟨225 + k.val, by omega⟩ + ∑ k : Fin 24, f ⟨232 + k.val, by omega⟩ := by
  rw [Fin.sum_univ_add (a := 232) (b := 24) f, Fin.sum_univ_add (a := 225) (b := 7)]
  rfl

end Cert.Head
end
-- ==== Proof.FiniteHead.lean ====
/-  What the head's precondition says: every element of every argument is a real number. -/
module

public import proofs.«01_k».proof.Pre_finite_head
public import proofs.«01_k».proof.Proof.FiniteStates
public import proofs.«01_k».proof.Proof.Head

@[expose] public section

set_option maxRecDepth 16384

namespace Cert.Reals

open Idealize.ShloMosaic
open Cert.Pre_finite_head (S256x15x15 S1024x232 S1024 S1024x1024 S2x1024 S2 S256x7)

/-- The side conditions of the head's precondition. -/
instance headFacts : Cert.Pre_finite_head.Facts where
  bcast_S_S256x15x15 := by decide
  reducesTo_S256x15x15_S_d0_1_2 := by decide
  h_S_ := by decide
  bcast_S_S1024x232 := by decide
  reducesTo_S1024x232_S_d0_1 := by decide
  bcast_S_S1024 := by decide
  reducesTo_S1024_S_d0 := by decide
  bcast_S_S1024x1024 := by decide
  reducesTo_S1024x1024_S_d0_1 := by decide
  bcast_S_S2x1024 := by decide
  reducesTo_S2x1024_S_d0_1 := by decide
  bcast_S_S2 := by decide
  reducesTo_S2_S_d0 := by decide
  bcast_S_S256x7 := by decide
  reducesTo_S256x7_S_d0_1 := by decide

theorem andi_one {s : Shape} {a b : IVec s 1} {j : s.Idx} (h : andi a b j = 1#1) : a j = 1#1 ∧ b j = 1#1 := by
  have h' : a j &&& b j = 1#1 := h
  revert h'
  generalize a j = u
  generalize b j = v
  revert u v
  decide

/-- One argument's share of the precondition. -/
theorem fin_arg {s : Shape} {axes : List (Fin s.rank)} (x : FVec Ideal s .f32) (b : Shape.BroadcastsInDim Cert.Pre_finite_head.S_ s ![])
    (init : Cert.Pre_finite_head.S_.Idx → BitVec 1) (h : s.ReducesTo axes Cert.Pre_finite_head.S_) (hu) (j)
    (e : Host.reduce IntOp.andi (cmpf .olt (Host.absf x) (broadcastInDim s ![] b (constant Cert.Pre_finite_head.S_ .f32 0x7F800000#32))) init h hu j = 1#1)
    (i : s.Idx) : Fin' (x i) :=
  fin_of_all x _ (fun _ => rfl) _ _ _ _ e i

theorem head_fin (P : FVec Ideal S256x15x15 .f32) (W1 : FVec Ideal S1024x232 .f32) (b1 g1 e1 : FVec Ideal S1024 .f32) (W2 : FVec Ideal S1024x1024 .f32)
    (b2 g2 e2 : FVec Ideal S1024 .f32) (W3 : FVec Ideal S2x1024 .f32) (b3 : FVec Ideal S2 .f32) (X : FVec Ideal S256x7 .f32)
    (h : Cert.Pre_finite_head.fn (F := Ideal) P W1 b1 g1 e1 W2 b2 g2 e2 W3 b3 X = fun _ => 1#1) :
    (⟨P, W1, b1, g1, e1, W2, b2, g2, e2, W3, b3, X⟩ : Cert.Head.Args).Real := by
  have h0 := congrFun h (fun a => a.elim0)
  unfold Cert.Pre_finite_head.fn Cert.Pre_finite_head.fn_part1 Cert.Pre_finite_head.fn_part2 Cert.Pre_finite_head.fn_part3 at h0
  obtain ⟨h0, h11⟩ := andi_one h0
  obtain ⟨h0, h10⟩ := andi_one h0
  obtain ⟨h0, h9⟩ := andi_one h0
  obtain ⟨h0, h8⟩ := andi_one h0
  obtain ⟨h0, h7⟩ := andi_one h0
  obtain ⟨h0, h6⟩ := andi_one h0
  obtain ⟨h0, h5⟩ := andi_one h0
  obtain ⟨h0, h4⟩ := andi_one h0
  obtain ⟨h0, h3⟩ := andi_one h0
  obtain ⟨h0, h2⟩ := andi_one h0
  obtain ⟨h0, h1⟩ := andi_one h0
  exact ⟨fin_arg P _ _ _ _ _ h0, fin_arg W1 _ _ _ _ _ h1, fin_arg b1 _ _ _ _ _ h2, fin_arg g1 _ _ _ _ _ h3, fin_arg e1 _ _ _ _ _ h4, fin_arg W2 _ _ _ _ _ h5,
    fin_arg b2 _ _ _ _ _ h6, fin_arg g2 _ _ _ _ _ h7, fin_arg e2 _ _ _ _ _ h8, fin_arg W3 _ _ _ _ _ h9, fin_arg b3 _ _ _ _ _ h10, fin_arg X _ _ _ _ _ h11⟩

end Cert.Reals
-- ==== Proof.MlpBody.lean ====
/-  The MLP head's body over the extended reals, an entry of each stage at a time: the stages are the layers of `Head`, and the
    result's first two lanes are the logits less their log-sum of exponentials. -/
module

public import proofs.«01_k».proof.Proof.Gen.MlpIdeal.Frame
public import proofs.«01_k».proof.Proof.Head
public import Idealize.ShloMosaic.Lib.Pipeline.ValueKit

@[expose] public section

set_option maxRecDepth 16384
set_option maxHeartbeats 1000000

noncomputable section

namespace Cert.MlpIdeal.Body

open Idealize.ShloMosaic
open Cert.MlpIdeal Cert.MlpIdeal.Gen Cert.Reals Cert.Head

/-- A two-axis array's entries. -/
def mat {n k : ℕ} (x : (⟨2, ![n, k]⟩ : Shape).Idx → EReal) (i : Fin n) (j : Fin k) : EReal := x (ix2 i j)

theorem n_cond : 0 < Ideal.ofBits .f32 1132462080#32 - (((0#32 : BitVec 32).toInt : ℝ) : EReal) := by
  rw [int_zero, sub_zero]
  exact n_pos

section First
variable (x : Vec Ideal S256x256 .f32) (w : Vec Ideal S256x1024 .f32) (b : Vec Ideal S1x1024 .f32)

theorem z1_at (i : Fin 256) (j : Fin 1024) :
    k0_pay2 (F := Ideal) x w b (ix2 i j) = max (lin (mat x) (mat w) (mat b 0) i j) 0 := by
  pointwise [k0_pay2]
  rfl

theorem var1_at (j : Fin 1024) :
    k0_pay5 (F := Ideal) x w b (ix2 0 j) = var fun i => k0_pay2 (F := Ideal) x w b (ix2 i j) := by
  unfold k0_pay5
  generalize k0_pay2 (F := Ideal) x w b = z
  pointwise
  rw [if_pos n_cond]
  pointwise
  rw [int_zero, sub_zero]
  rfl

theorem cen1_at (i : Fin 256) (j : Fin 1024) :
    k0_pay6 (F := Ideal) x w b (ix2 i j) = k0_pay2 (F := Ideal) x w b (ix2 i j) - mean fun i => k0_pay2 (F := Ideal) x w b (ix2 i j) := by
  unfold k0_pay6
  generalize k0_pay2 (F := Ideal) x w b = z
  pointwise
  rfl
end First

section Second
variable (g be v : FVec Ideal S1x1024 .f32) (d : FVec Ideal S256x1024 .f32) (e : FVec Ideal S1x1024 .f32) (w : Vec Ideal S1024x1024 .f32) (b : Vec Ideal S1x1024 .f32)

theorem z2_at (i : Fin 256) (j : Fin 1024) :
    k0_pay8 (F := Ideal) g be v d e w b (ix2 i j)
      = max (lin (fun i k => d (ix2 i k) * Ideal.rsqrt (v (ix2 0 k) + e (ix2 0 k)) * g (ix2 0 k) + be (ix2 0 k)) (mat w) (mat b 0) i j) 0 := by
  pointwise [k0_pay8]
  rfl

theorem mean2_at (j : Fin 1024) :
    k0_pay11 (F := Ideal) g be v d e w b (ix2 0 j) = mean fun i => k0_pay8 (F := Ideal) g be v d e w b (ix2 i j) := by
  unfold k0_pay11
  generalize k0_pay8 (F := Ideal) g be v d e w b = z
  pointwise
  rfl

theorem var2_at (j : Fin 1024) :
    k0_pay12 (F := Ideal) g be v d e w b (ix2 0 j) = var fun i => k0_pay8 (F := Ideal) g be v d e w b (ix2 i j) := by
  unfold k0_pay12
  generalize k0_pay8 (F := Ideal) g be v d e w b = z
  pointwise
  rw [if_pos n_cond]
  pointwise
  rw [int_zero, sub_zero]
  rfl
end Second

theorem last_at (z : FVec Ideal S256x1024 .f32) (g be m v : FVec Ideal S1x1024 .f32) (w : Vec Ideal S1024x128 .f32) (b : Vec Ideal S1x128 .f32)
    (Z : Fin 256 → Fin 128 → EReal)
    (hZ : Z = lin (fun i k => (z (ix2 i k) - m (ix2 0 k)) * Ideal.rsqrt (v (ix2 0 k) + eps) * g (ix2 0 k) + be (ix2 0 k)) (mat w) (mat b 0))
    (i : Fin 256) (j : Fin 128) :
    k0_pay1 (F := Ideal) z g be m v w b (ix2 i j)
      = Z i j - (Ideal.log (Ideal.exp (Z i 0 - max (Z i 0) (Z i 1)) + Ideal.exp (Z i 1 - max (Z i 0) (Z i 1))) + max (Z i 0) (Z i 1)) := by
  have hz : ∀ i j, Z i j = ∑ k, ((z (ix2 i k) - m (ix2 0 k)) * Ideal.rsqrt (v (ix2 0 k) + Ideal.ofBits .f32 925353388#32) * g (ix2 0 k) + be (ix2 0 k)) * w (ix2 k j) + b (ix2 0 j) := by
    intro i j; rw [hZ]; rfl
  pointwise [k0_pay1]
  simp only [← hz]
  simp only [lane_select, show Ideal.ofBits .f32 4286578688#32 = ⊥ from neg_inf]
  rw [max_lanes]
  refine congrArg (fun y => Z i j - (Ideal.log y + max (Z i 0) (Z i 1))) ?_
  have e : ∀ l : Fin 128, (if l.val < 2 then Ideal.exp ((if l.val < 2 then Z i l else ⊥) - max (Z i 0) (Z i 1)) else 0)
      = if l.val < 2 then Ideal.exp (Z i l - max (Z i 0) (Z i 1)) else 0 := fun l => by
    by_cases h : l.val < 2
    · simp only [if_pos h]
    · simp only [if_neg h]
  rw [Finset.sum_congr rfl fun l _ => e l]
  exact sum_lanes fun l => Ideal.exp (Z i l - max (Z i 0) (Z i 1))

section Whole
variable (x0 : Vec Ideal S256x256 .f32) (x1 : Vec Ideal S256x1024 .f32) (x2 x3 x4 : Vec Ideal S1x1024 .f32) (x5 : Vec Ideal S1024x1024 .f32)
  (x6 x7 x8 : Vec Ideal S1x1024 .f32) (x9 : Vec Ideal S1024x128 .f32) (x10 : Vec Ideal S1x128 .f32)

/-- The two hidden layers' values and the lanes of the last layer, of the windows' blocks. -/
def L1 : Fin 256 → Fin 1024 → EReal := hidden (mat x0) (mat x1) (mat x2 0) (mat x3 0) (mat x4 0)
def L2 : Fin 256 → Fin 1024 → EReal := hidden (L1 x0 x1 x2 x3 x4) (mat x5) (mat x6 0) (mat x7 0) (mat x8 0)
def Z3 : Fin 256 → Fin 128 → EReal := lin (L2 x0 x1 x2 x3 x4 x5 x6 x7 x8) (mat x9) (mat x10 0)

theorem pay3_eq : k0_pay3 (F := Ideal) x3 = x3 := by
  funext y
  obtain ⟨z, j, rfl⟩ : ∃ (z : Fin 1) (j : Fin 1024), y = ix2 z j := ⟨y 0, y 1, eq_ix2 y⟩
  pointwise [k0_pay3]

/-- The second layer's values before they are normalised. -/
theorem second_at (i : Fin 256) (j : Fin 1024) :
    k0_pay8 (F := Ideal) (k0_pay3 x3) (k0_pay3 x4) (k0_pay5 x0 x1 x2) (k0_pay6 x0 x1 x2) k0_pay7 x5 x6 (ix2 i j)
      = max (lin (L1 x0 x1 x2 x3 x4) (mat x5) (mat x6 0) i j) 0 := by
  rw [z2_at, pay3_eq, pay3_eq]
  refine congrArg (fun f => max (lin f (mat x5) (mat x6 0) i j) 0) (funext fun i => funext fun k => ?_)
  rw [cen1_at, var1_at]
  simp only [z1_at]
  rfl

theorem pay9_eq : k0_pay9 (F := Ideal) x7 = x7 := pay3_eq x7
theorem pay10_eq : k0_pay10 (F := Ideal) x8 = x8 := pay3_eq x8

/-- The body's result, of its own values before the loads and the store are read. -/
theorem chain_at (i : Fin 256) (j : Fin 128) (Z : Fin 128 → EReal) (hZ : Z = Z3 x0 x1 x2 x3 x4 x5 x6 x7 x8 x9 x10 i) :
    k0_pay1 (F := Ideal) (k0_pay8 (k0_pay3 x3) (k0_pay3 x4) (k0_pay5 x0 x1 x2) (k0_pay6 x0 x1 x2) k0_pay7 x5 x6) (k0_pay9 x7) (k0_pay10 x8)
        (k0_pay11 (k0_pay3 x3) (k0_pay3 x4) (k0_pay5 x0 x1 x2) (k0_pay6 x0 x1 x2) k0_pay7 x5 x6)
        (k0_pay12 (k0_pay3 x3) (k0_pay3 x4) (k0_pay5 x0 x1 x2) (k0_pay6 x0 x1 x2) k0_pay7 x5 x6) x9 x10 (ix2 i j)
      = Z j - (Ideal.log (Ideal.exp (Z 0 - max (Z 0) (Z 1)) + Ideal.exp (Z 1 - max (Z 0) (Z 1))) + max (Z 0) (Z 1)) := by
  subst hZ
  refine last_at _ _ _ _ _ _ _ (Z3 x0 x1 x2 x3 x4 x5 x6 x7 x8 x9 x10) ?_ i j
  refine congrArg (fun f => lin f (mat x9) (mat x10 0)) (funext fun i => funext fun k => ?_)
  rw [mean2_at, var2_at, pay9_eq, pay10_eq]
  simp only [second_at]
  rfl

theorem result_at (i : Fin 256) (j : Fin 128) (Z : Fin 128 → EReal) (hZ : Z = Z3 x0 x1 x2 x3 x4 x5 x6 x7 x8 x9 x10 i) :
    out0_11 x0 x1 x2 x3 x4 x5 x6 x7 x8 x9 x10 (ix2 i j)
      = Z j - (Ideal.log (Ideal.exp (Z 0 - max (Z 0) (Z 1)) + Ideal.exp (Z 1 - max (Z 0) (Z 1))) + max (Z 0) (Z 1)) := by
  rw [← chain_at x0 x1 x2 x3 x4 x5 x6 x7 x8 x9 x10 i j Z hZ]
  unfold_out out0_11
  refine (congrFun (View.canon_cons_unit_lit _ _ _ (by decide)) _).trans ?_
  rw [View.ld_unit_lit _ x0 (by decide), View.ld_unit_lit _ x1 (by decide), View.ld_unit_lit _ x2 (by decide), View.ld_unit_lit _ x3 (by decide),
    View.ld_unit_lit _ x4 (by decide), View.ld_unit_lit _ x5 (by decide), View.ld_unit_lit _ x6 (by decide), View.ld_unit_lit _ x7 (by decide),
    View.ld_unit_lit _ x8 (by decide), View.ld_unit_lit _ x9 (by decide), View.ld_unit_lit _ x10 (by decide)]
  rfl
end Whole

end Cert.MlpIdeal.Body
end
-- ==== Proof.MlpValue.lean ====
/-  The MLP head's call over the extended reals: the arrays the host leaves, the blocks staged of them, the array after the run. -/
module

public import proofs.«01_k».proof.Proof.MlpBody
public import Idealize.ShloMosaic.Lib.Pointwise
public import Idealize.ShloMosaic.Lib.StableHlo.ReadAt
public import Idealize.ShloMosaic.Lib.Pipeline.ValueKit

@[expose] public section

set_option maxRecDepth 16384
set_option maxHeartbeats 1000000

noncomputable section

namespace Cert.MlpIdeal.Tie

open Idealize.ShloMosaic Idealize.ShloMosaic.TcCoe Idealize.SL.Sem
open Cert.MlpIdeal Cert.MlpIdeal.Gen Cert.MlpIdeal.Body Cert.Reals Cert.Head

variable (m : (ℓ : Loc nD τ sig) → Buf (Elt Ideal) ℓ) (c : Dev nD)

/-! ## The arguments, as arrays of extended reals -/

def A0 : S256x15x15.Idx → EReal := m ((c : Thread nD τ).loc main_arg0)
def A1 : S1024x232.Idx → EReal := m ((c : Thread nD τ).loc main_arg1)
def A2 : S1024.Idx → EReal := m ((c : Thread nD τ).loc main_arg2)
def A3 : S1024.Idx → EReal := m ((c : Thread nD τ).loc main_arg3)
def A4 : S1024.Idx → EReal := m ((c : Thread nD τ).loc main_arg4)
def A5 : S1024x1024.Idx → EReal := m ((c : Thread nD τ).loc main_arg5)
def A6 : S1024.Idx → EReal := m ((c : Thread nD τ).loc main_arg6)
def A7 : S1024.Idx → EReal := m ((c : Thread nD τ).loc main_arg7)
def A8 : S1024.Idx → EReal := m ((c : Thread nD τ).loc main_arg8)
def A9 : S2x1024.Idx → EReal := m ((c : Thread nD τ).loc main_arg9)
def A10 : S2.Idx → EReal := m ((c : Thread nD τ).loc main_arg10)
def A11 : S256x7.Idx → EReal := m ((c : Thread nD τ).loc main_arg11)

/-! ## The arrays the host leaves -/

theorem sitofp_zero : (FloatOps.sitofp (F := Ideal) FTy.f32 (0#32 : BitVec 32)) = (0 : EReal) := int_zero

theorem b1_at (j : Fin 1024) : (V m c main_v7 : S1x1024.Idx → EReal) (ix2 0 j) = A2 m c (ix1 j) := by
  after_reads_at
  rfl
theorem g1_at (j : Fin 1024) : (V m c main_v8 : S1x1024.Idx → EReal) (ix2 0 j) = A3 m c (ix1 j) := by
  after_reads_at
  rfl
theorem be1_at (j : Fin 1024) : (V m c main_v9 : S1x1024.Idx → EReal) (ix2 0 j) = A4 m c (ix1 j) := by
  after_reads_at
  rfl
theorem w2_at (k j : Fin 1024) : (V m c main_v10 : S1024x1024.Idx → EReal) (ix2 k j) = A5 m c (ix2 j k) := by
  after_reads_at
  rfl
theorem b2_at (j : Fin 1024) : (V m c main_v11 : S1x1024.Idx → EReal) (ix2 0 j) = A6 m c (ix1 j) := by
  after_reads_at
  rfl
theorem g2_at (j : Fin 1024) : (V m c main_v12 : S1x1024.Idx → EReal) (ix2 0 j) = A7 m c (ix1 j) := by
  after_reads_at
  rfl
theorem be2_at (j : Fin 1024) : (V m c main_v13 : S1x1024.Idx → EReal) (ix2 0 j) = A8 m c (ix1 j) := by
  after_reads_at
  rfl
/-- The last layer's weights, transposed and padded with zero columns. -/
theorem w3_at (k : Fin 1024) (j : Fin 128) : (V m c main_v6 : S1024x128.Idx → EReal) (ix2 k j)
    = if h : j.val < 2 then A9 m c (ix2 ⟨j.val, h⟩ k) else 0 := by
  after_reads_at
  rw [sitofp_zero]; rfl
theorem b3_at (j : Fin 128) : (V m c main_v15 : S1x128.Idx → EReal) (ix2 0 j)
    = if h : j.val < 2 then A10 m c (ix1 ⟨j.val, h⟩) else 0 := by
  after_reads_at
  rw [sitofp_zero]; rfl
/-- The first layer's weights, transposed and padded with zero rows. -/
theorem w1_at (k : Fin 256) (j : Fin 1024) : (V m c main_v4 : S256x1024.Idx → EReal) (ix2 k j)
    = if h : k.val < 232 then A1 m c (ix2 j ⟨k.val, h⟩) else 0 := by
  after_reads_at
  rw [sitofp_zero]; rfl
/-- The features: pooled distances, further features, zeros. -/
theorem x_at (i : Fin 256) (k : Fin 256) : (V m c main_v2 : S256x256.Idx → EReal) (ix2 i k)
    = if h : k.val < 225 then A0 m c (ix3 i ⟨k.val / 15, by omega⟩ ⟨k.val % 15, by omega⟩)
      else if h : k.val - 225 < 7 then A11 m c (ix2 i ⟨k.val - 225, h⟩) else Ideal.ofBits .f32 0#32 := by
  after_reads_at
  by_cases h1 : k.val < 225
  · rw [dif_pos h1, dif_pos h1]
    refine (congrFun (StableHlo.reshape_result' _ _ _ _ _) _).trans ?_
    show shapeCast S256x225 (A0 m c) shapeCasts_S256x15x15_S256x225 _ = _
    pointwise
  · rw [dif_neg h1, dif_neg h1]
    by_cases h2 : k.val - 225 < 7
    · rw [dif_pos h2, dif_pos h2]; rfl
    · rw [dif_neg h2, dif_neg h2]
      refine (congrFun (StableHlo.unary_result' _ _ _ _) _).trans ?_
      show Ideal.ofBits .f32 0#32 = 0
      simp [Ideal.ofBits, Ideal.ieee]

/-! ## The staged blocks -/

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] ∧ win0_11.index t = ![0, 0] :=
  (by decide +kernel : ∀ t : Fin grid0.N, _)

theorem blk0 (t : Fin cfg0.N) : iblk m c 0 t = V m c main_v2 := by blk_ext! [iblk, idx t]
theorem blk1 (t : Fin cfg0.N) : iblk m c 1 t = V m c main_v4 := by blk_ext! [iblk, idx t]
theorem blk2 (t : Fin cfg0.N) : iblk m c 2 t = V m c main_v7 := by blk_ext! [iblk, idx t]
theorem blk3 (t : Fin cfg0.N) : iblk m c 3 t = V m c main_v8 := by blk_ext! [iblk, idx t]
theorem blk4 (t : Fin cfg0.N) : iblk m c 4 t = V m c main_v9 := by blk_ext! [iblk, idx t]
theorem blk5 (t : Fin cfg0.N) : iblk m c 5 t = V m c main_v10 := by blk_ext! [iblk, idx t]
theorem blk6 (t : Fin cfg0.N) : iblk m c 6 t = V m c main_v11 := by blk_ext! [iblk, idx t]
theorem blk7 (t : Fin cfg0.N) : iblk m c 7 t = V m c main_v12 := by blk_ext! [iblk, idx t]
theorem blk8 (t : Fin cfg0.N) : iblk m c 8 t = V m c main_v13 := by blk_ext! [iblk, idx t]
theorem blk9 (t : Fin cfg0.N) : iblk m c 9 t = V m c main_v6 := by blk_ext! [iblk, idx t]
theorem blk10 (t : Fin cfg0.N) : iblk m c 10 t = V m c main_v15 := by blk_ext! [iblk, idx t]

theorem arr_inj : Function.Injective (Pipeline.arrRef (cfgs 0).spec) := by
  unfold Function.Injective
  decide

theorem result (b : Fin 256) (j : Fin 2) :
    (Pipeline.afterTail₀ cfgs (dats m) 0 (V0 m) [hostOps1] c main_v17 : S256x2.Idx → EReal) (ix2 b j) = (dats m 0 c).arrAt 11 cfg0.N (ix2 b ⟨j.val, by omega⟩) := by
  unfold Pipeline.afterTail₀
  after_reads_at
  exact congrFun (Pipeline.withArrays_arr (cfgs 0).spec arr_inj c (V0 m c) (fun w => (dats m 0 c).arrAt w (cfgs 0).N) 11) _

/-! ## The array after the run -/

theorem final : (dats m 0 c).arrAt 11 cfg0.N
    = out0_11 (F := Ideal) (V m c main_v2) (V m c main_v4) (V m c main_v7) (V m c main_v8) (V m c main_v9) (V m c main_v10) (V m c main_v11) (V m c main_v12)
        (V m c main_v13) (V m c main_v6) (V m c main_v15) := by
  refine (dats m 0 c).arrAt_eq_of_covers 11 _ (by decide +kernel) fun t hf y => ?_
  blk_simp
  rw [after0_11, blk0, blk1, blk2, blk3, blk4, blk5, blk6, blk7, blk8, blk9, blk10]
  refine congrArg (out0_11 (F := Ideal) (V m c main_v2) (V m c main_v4) (V m c main_v7) (V m c main_v8) (V m c main_v9) (V m c main_v10) (V m c main_v11)
    (V m c main_v12) (V m c main_v13) (V m c main_v6) (V m c main_v15)) ?_
  blk_ext [idx t]

/-- The arguments of the head. -/
def args : Args := ⟨A0 m c, A1 m c, A2 m c, A3 m c, A4 m c, A5 m c, A6 m c, A7 m c, A8 m c, A9 m c, A10 m c, A11 m c⟩

/-- The padded features' sum is the two parts'. -/
theorem first_eq (i : Fin 256) (j : Fin 1024) :
    lin (mat (V m c main_v2 : S256x256.Idx → EReal)) (mat (V m c main_v4 : S256x1024.Idx → EReal)) (mat (V m c main_v7 : S1x1024.Idx → EReal) 0) i j
      = (args m c).first i j := by
  unfold lin Args.first
  rw [sum_parts]
  have e3 : ∀ k : Fin 24, mat (V m c main_v2 : S256x256.Idx → EReal) i ⟨232 + k.val, by omega⟩
      * mat (V m c main_v4 : S256x1024.Idx → EReal) ⟨232 + k.val, by omega⟩ j = 0 := fun k => by
    unfold mat
    rw [w1_at, dif_neg (by show ¬ 232 + k.val < 232; omega), mul_zero]
  have e2 : ∀ k : Fin 7, mat (V m c main_v2 : S256x256.Idx → EReal) i ⟨225 + k.val, by omega⟩
      * mat (V m c main_v4 : S256x1024.Idx → EReal) ⟨225 + k.val, by omega⟩ j
      = A11 m c (ix2 i k) * A1 m c (ix2 j ⟨225 + k.val, Args.extra_lt k⟩) := fun k => by
    have hk : 225 + k.val - 225 = k.val := by omega
    unfold mat
    rw [w1_at, dif_pos (by show 225 + k.val < 232; omega), x_at, dif_neg (by show ¬ 225 + k.val < 225; omega),
      dif_pos (by show 225 + k.val - 225 < 7; omega)]
    exact congrArg (fun q => A11 m c (ix2 i q) * _) (Fin.ext hk)
  have e1 : ∀ k : Fin 225, mat (V m c main_v2 : S256x256.Idx → EReal) i ⟨k.val, by omega⟩
      * mat (V m c main_v4 : S256x1024.Idx → EReal) ⟨k.val, by omega⟩ j
      = A0 m c (ix3 i ⟨k.val / 15, Args.row_lt k⟩ ⟨k.val % 15, Args.col_lt k⟩) * A1 m c (ix2 j ⟨k.val, Args.dist_lt k⟩) := fun k => by
    unfold mat
    rw [w1_at, dif_pos (by show k.val < 232; omega), x_at, dif_pos (by show k.val < 225; omega)]
  rw [Finset.sum_congr rfl fun k _ => e1 k, Finset.sum_congr rfl fun k _ => e2 k, Finset.sum_congr rfl fun k _ => e3 k, Finset.sum_const_zero, add_zero]
  exact congrArg (_ + ·) (b1_at m c j)

theorem hid1_eq : L1 (V m c main_v2) (V m c main_v4) (V m c main_v7) (V m c main_v8) (V m c main_v9) = (args m c).hid1 := by
  funext i j
  refine (congrArg (fun f => bn f _ _ i) (funext fun i => congrArg (fun u => max u 0) (first_eq m c i j))).trans ?_
  exact congrArg₂ (fun u v => bn (fun i => max ((args m c).first i j) 0) u v i) (g1_at m c j) (be1_at m c j)

theorem hid2_eq : L2 (V m c main_v2) (V m c main_v4) (V m c main_v7) (V m c main_v8) (V m c main_v9) (V m c main_v10) (V m c main_v11) (V m c main_v12)
    (V m c main_v13) = (args m c).hid2 := by
  have e1 : mat (V m c main_v10 : S1024x1024.Idx → EReal) = fun k j => (args m c).W2 (ix2 j k) := funext fun k => funext fun j => w2_at m c k j
  have e2 : mat (V m c main_v11 : S1x1024.Idx → EReal) 0 = fun j => (args m c).b2 (ix1 j) := funext fun j => b2_at m c j
  have e3 : mat (V m c main_v12 : S1x1024.Idx → EReal) 0 = fun j => (args m c).g2 (ix1 j) := funext fun j => g2_at m c j
  have e4 : mat (V m c main_v13 : S1x1024.Idx → EReal) 0 = fun j => (args m c).e2 (ix1 j) := funext fun j => be2_at m c j
  unfold L2 Args.hid2
  rw [hid1_eq, e1, e2, e3, e4]

theorem logits_eq (i : Fin 256) (j : Fin 2) :
    Z3 (V m c main_v2) (V m c main_v4) (V m c main_v7) (V m c main_v8) (V m c main_v9) (V m c main_v10) (V m c main_v11) (V m c main_v12)
      (V m c main_v13) (V m c main_v6) (V m c main_v15) i ⟨j.val, by omega⟩ = (args m c).logits i j := by
  unfold Z3 Args.logits lin mat
  rw [hid2_eq, b3_at, dif_pos j.isLt]
  refine congrArg (· + _) (Finset.sum_congr rfl fun k _ => ?_)
  rw [w3_at, dif_pos j.isLt]
  rfl

/-- The call's result, on real arguments. -/
theorem value (h : (args m c).Real) : (Pipeline.afterTail₀ cfgs (dats m) 0 (V0 m) [hostOps1] c main_v17 : S256x2.Idx → EReal) = (args m c).out := by
  funext y
  obtain ⟨i, j, rfl⟩ : ∃ (i : Fin 256) (j : Fin 2), y = ix2 i j := ⟨y 0, y 1, eq_ix2 y⟩
  rw [result, final]
  refine (result_at _ _ _ _ _ _ _ _ _ _ _ i ⟨j.val, by omega⟩ _ rfl).trans ?_
  have e : ∀ j : Fin 2, _ := logits_eq m c i
  have e0 := e 0
  have e1 := e 1
  refine Eq.trans ?_ (Args.soft_of_real h i j _ rfl)
  rw [← e j, ← e0, ← e1]
  rfl

end Cert.MlpIdeal.Tie
end
-- ==== Proof.MlpRefValue.lean ====
/-  The MLP head's reference over the extended reals: its named values, an entry at a time, are the layers of `Head`. -/
module

public import proofs.«01_k».proof.Proof.Head
public import proofs.«01_k».proof.Proof.Gen.MlpRefIdeal.Run
public import Idealize.ShloMosaic.Lib.Pointwise

@[expose] public section

set_option maxRecDepth 16384
set_option maxHeartbeats 1000000

noncomputable section

namespace Cert.MlpRefIdeal.Steps

open Idealize.ShloMosaic Idealize.ShloMosaic.TcCoe Idealize.SL.Sem
open Cert.MlpRefIdeal Cert.MlpRefIdeal.Value Cert.Reals Cert.Head

variable (L : Valuation τ sig (Elt Ideal))

/-- The arguments of the head. -/
def args : Args :=
  ⟨L (Proc.devRef .tc main_arg0), L (Proc.devRef .tc main_arg1), L (Proc.devRef .tc main_arg2), L (Proc.devRef .tc main_arg3), L (Proc.devRef .tc main_arg4),
    L (Proc.devRef .tc main_arg5), L (Proc.devRef .tc main_arg6), L (Proc.devRef .tc main_arg7), L (Proc.devRef .tc main_arg8), L (Proc.devRef .tc main_arg9),
    L (Proc.devRef .tc main_arg10), L (Proc.devRef .tc main_arg11)⟩

theorem sitofp_zero : (FloatOps.sitofp (F := Ideal) FTy.f32 (0#32 : BitVec 32)) = (0 : EReal) := int_zero

theorem n_cond : 0 < Ideal.ofBits .f32 1132462080#32 := n_pos

theorem v7_at (i : Fin 256) (j : Fin 1024) : (res_main_v7 L : S256x1024.Idx → EReal) (ix2 i j) = max ((args L).first i j) 0 := by
  pointwise [res_main_v7]
  rfl

theorem v31_at (i : Fin 256) (j : Fin 1024) : (res_main_v31 L : S256x1024.Idx → EReal) (ix2 i j)
    = max (lin (fun i k => bn (fun i => (res_main_v7 L : S256x1024.Idx → EReal) (ix2 i k)) ((args L).g1 (ix1 k)) ((args L).e1 (ix1 k)) i)
        (fun k j => (args L).W2 (ix2 j k)) (fun j => (args L).b2 (ix1 j)) i j) 0 := by
  unfold res_main_v31 res_main_call1_v5 res_main_call1_v8
  generalize res_main_v7 L = z
  pointwise
  simp only [sitofp_zero, sub_zero, if_pos n_cond]
  rfl

theorem v54_at (i : Fin 256) (j : Fin 2) : (res_main_v54 L : S256x2.Idx → EReal) (ix2 i j)
    = lin (fun i k => bn (fun i => (res_main_v31 L : S256x1024.Idx → EReal) (ix2 i k)) ((args L).g2 (ix1 k)) ((args L).e2 (ix1 k)) i)
        (fun k j => (args L).W3 (ix2 j k)) (fun j => (args L).b3 (ix1 j)) i j := by
  unfold res_main_v54 res_main_call3_v5 res_main_call3_v8
  generalize res_main_v31 L = z
  pointwise
  simp only [sitofp_zero, sub_zero, if_pos n_cond]
  rfl

theorem logits_at (i : Fin 256) (j : Fin 2) : (res_main_v54 L : S256x2.Idx → EReal) (ix2 i j) = (args L).logits i j := by
  rw [v54_at]
  simp only [v31_at, v7_at]
  rfl

/-- The greatest of a row's two entries, as the host's reduction takes it. -/
theorem row_max (z : S256x2.Idx → EReal) (i : Fin 256) :
    Finset.fold max ⊥ z (Finset.univ.filter fun q => Gen.reducesTo_S256x2_S256_d1.drop q = ix1 i) = max (z (ix2 i 0)) (z (ix2 i 1)) := by
  apply le_antisymm
  · refine (Finset.fold_max_le _).2 ⟨bot_le, fun q hq => ?_⟩
    obtain ⟨i', l, rfl⟩ : ∃ (i' : Fin 256) (l : Fin 2), q = ix2 i' l := ⟨q 0, q 1, eq_ix2 q⟩
    rw [Finset.mem_filter] at hq
    have hi : i' = i := congrFun hq.2 0
    subst hi
    fin_cases l
    · exact le_max_left _ _
    · exact le_max_right _ _
  · have hm : ∀ l : Fin 2, ix2 i l ∈ Finset.univ.filter fun q => Gen.reducesTo_S256x2_S256_d1.drop q = ix1 i := fun l => by
      rw [Finset.mem_filter]
      refine ⟨Finset.mem_univ _, ?_⟩
      funext a; fin_cases a; rfl
    exact max_le ((Finset.le_fold_max _).2 (Or.inr ⟨_, hm 0, le_rfl⟩)) ((Finset.le_fold_max _).2 (Or.inr ⟨_, hm 1, le_rfl⟩))

theorem sub_of {a b c : EReal} (h : b = c) : a - b = a - c := by rw [h]

theorem shifted_at (i : Fin 256) (j : Fin 2) : (res_main_call4_v5 L : S256x2.Idx → EReal) (ix2 i j)
    = (args L).logits i j - max ((args L).logits i 0) ((args L).logits i 1) := by
  rw [← logits_at, ← logits_at, ← logits_at]
  unfold res_main_call4_v5
  generalize (res_main_v54 L : S256x2.Idx → EReal) = z
  pointwise
  rw [show Ideal.ofBits .f32 4286578688#32 = ⊥ from neg_inf]
  exact sub_of ((max_eq_right bot_le).trans (row_max z i))

/-- What the reference's run leaves is the head's result. -/
theorem out_eq : subf (res_main_call4_v5 L) (broadcastInDim S256x2 ![0, 1] Gen.bcast_S256x1_S256x2_0_1 (Host.log (broadcastInDim S256x1 ![0]
    Gen.bcast_S256_S256x1_0 (Host.reduceAdd (Host.exp (res_main_call4_v5 L)) (constant S_ .f32 0x00000000#32) Gen.reducesTo_S256x2_S256_d1 Gen.h_S_))))
      = (args L).out := by
  funext y
  obtain ⟨i, j, rfl⟩ : ∃ (i : Fin 256) (j : Fin 2), y = ix2 i j := ⟨y 0, y 1, eq_ix2 y⟩
  have e := shifted_at L i
  revert e
  unfold Args.out soft
  generalize res_main_call4_v5 L = z
  generalize (args L).logits = u
  intro e
  pointwise
  simp only [e, Fin.sum_univ_two]

end Cert.MlpRefIdeal.Steps
end
-- ==== Proof.Tokens.lean ====
/-  What the tokens' precondition says: every token of either sentence, read as a number, is below the table's 50000 rows. -/
module

public import proofs.«01_k».proof.Pre_tokens
public import proofs.«01_k».proof.Proof.FiniteStates
public import proofs.«01_k».proof.Proof.FiniteHead

@[expose] public section

set_option maxRecDepth 16384

namespace Cert.Tokens

open Idealize.ShloMosaic
open Cert.Pre_tokens (S100000x128 S300x300 S300 S60x256)

/-- The side conditions of the tokens' precondition. -/
instance tokensFacts : Cert.Pre_tokens.Facts where
  bcast_S_S60x256 := by decide
  reducesTo_S60x256_S_d0_1 := by decide
  h_S_ := by decide

/-- A word that is not negative and below 50000 as a signed number is below 50000 as a number. -/
theorem word_lt (t : BitVec 32) (h0 : IntOp.cmpi .sge t 0#32 = 1#1) (h1 : IntOp.cmpi .slt t 50000#32 = 1#1) : t.toNat < 50000 := by
  have r0 : IntOp.cmpi .sge t 0#32 = BitVec.ofBool (decide ((0#32 : BitVec 32).toInt ≤ t.toInt)) := rfl
  have r1 : IntOp.cmpi .slt t 50000#32 = BitVec.ofBool (decide (t.toInt < (50000#32 : BitVec 32).toInt)) := rfl
  rw [r0] at h0
  rw [r1] at h1
  have e0 : (0#32 : BitVec 32).toInt ≤ t.toInt := by
    by_contra hn
    rw [decide_eq_false hn] at h0
    exact absurd h0 (by decide)
  have e1 : t.toInt < (50000#32 : BitVec 32).toInt := by
    by_contra hn
    rw [decide_eq_false hn] at h1
    exact absurd h1 (by decide)
  have k0 : (0#32 : BitVec 32).toInt = 0 := by decide
  have k1 : (50000#32 : BitVec 32).toInt = 50000 := by decide
  rw [k0] at e0
  rw [k1] at e1
  rw [BitVec.toInt_eq_toNat_cond] at e0 e1
  split at e0 <;> rename_i hc
  · rw [if_pos hc] at e1
    omega
  · rw [if_neg hc] at e1
    have := t.isLt
    omega

/-- The row of the packed table a token's first word lies in. -/
theorem word_double (t : BitVec 32) (h : t.toNat < 50000) : (t * 2#32).toNat = 2 * t.toNat := by
  rw [BitVec.toNat_mul]
  have : (2#32 : BitVec 32).toNat = 2 := by decide
  rw [this]
  omega

theorem tokens_lt {F : FTy → Type} [FloatOps F] (T : IVec S100000x128 32) (W : FVec F S300x300 .f32) (b : FVec F S300 .f32) (s1 s2 : IVec S60x256 32)
    (h : Cert.Pre_tokens.fn (F := F) T W b s1 s2 = fun _ => 1#1) (i : S60x256.Idx) : (s1 i).toNat < 50000 ∧ (s2 i).toNat < 50000 := by
  have h0 := congrFun h (fun a => a.elim0)
  unfold Cert.Pre_tokens.fn at h0
  have hi := Host.reduce_andi_all _ _ _ _ _ h0 i
  obtain ⟨hi, h4⟩ := Cert.Reals.andi_one hi
  obtain ⟨hi, h3⟩ := Cert.Reals.andi_one hi
  obtain ⟨h1, h2⟩ := Cert.Reals.andi_one hi
  exact ⟨word_lt _ h1 h2, word_lt _ h3 h4⟩

end Cert.Tokens
-- ==== Proof.EmbedIdealHyps.lean ====
/-  The embedding call's tokens over the extended reals: the doubled tokens the host leaves in scalar memory, and that each names two rows of the
    packed table where every token is a row of the table. -/
module

public import proofs.«01_k».proof.Proof.Gen.EmbedIdeal.Frame.Runs
public import proofs.«01_k».proof.Proof.Tokens
public import proofs.«01_k».proof.Proof.Head
public import Idealize.ShloMosaic.Lib.Pointwise
public import Idealize.ShloMosaic.Lib.StableHlo.ReadAt
public import Idealize.ShloMosaic.Lib.Pipeline.ValueKit

@[expose] public section

set_option maxRecDepth 16384
set_option maxHeartbeats 8000000

noncomputable section

namespace Cert.EmbedIdeal.Tok

open Idealize.ShloMosaic Idealize.ShloMosaic.TcCoe Idealize.SL.Sem
open Cert.EmbedIdeal Cert.EmbedIdeal.Gen Cert.Reals Cert.Head

variable {F : FTy → Type} [FloatOps F] (m : (ℓ : Loc nD τ sig) → Buf (Elt F) ℓ) (c : Dev nD)

def s1 : S60x256.Idx → BitVec 32 := m ((c : Thread nD τ).loc main_arg3)
def s2 : S60x256.Idx → BitVec 32 := m ((c : Thread nD τ).loc main_arg4)

/-- The tokens in the kernel's order: the first sentence's, then the second's. -/
def tok (r : Fin 30720) : BitVec 32 :=
  if h : r.val < 15360 then s1 m c (ix2 ⟨r.val / 256, by omega⟩ ⟨r.val % 256, by omega⟩)
  else s2 m c (ix2 ⟨(r.val - 15360) / 256, by omega⟩ ⟨(r.val - 15360) % 256, by omega⟩)

theorem words_at (r : Fin 30720) : (V m c main_v4 : S30720.Idx → BitVec 32) (ix1 r) = tok m c r * 2#32 := by
  after_reads_at
  show _ * 2#32 = _
  congr 1
  unfold tok
  by_cases h : r.val < 15360
  · rw [dif_pos h, dif_pos h]
    show shapeCast S15360 (s1 m c) shapeCasts_S60x256_S15360 _ = _
    pointwise
  · rw [dif_neg h, dif_neg h]
    show shapeCast S15360 (s2 m c) shapeCasts_S60x256_S15360 _ = _
    pointwise

/-- A word that is twice a row of the table: even, and its two rows of the packed table are inside it. -/
theorem chk_of (w t : BitVec 32) (h : t.toNat < 50000) (e : w = t * 2#32) : k0_chk1 w := by
  have ew : w.toNat = 2 * t.toNat := by rw [e]; exact Cert.Tokens.word_double t h
  refine ⟨⟨t.toNat, ew⟩, fun a => ?_⟩
  fin_cases a
  · show w.toNat + 2 ≤ 100000
    omega
  · show 0 + 128 ≤ 128
    omega

/-- Every token is a row of the table. -/
def Small : Prop := ∀ (c : Dev nD) (i : S60x256.Idx), (s1 m c i).toNat < 50000 ∧ (s2 m c i).toNat < 50000

variable {m}

theorem tok_lt (hm : Small m) (c : Dev nD) (r : Fin 30720) : (tok m c r).toNat < 50000 := by
  unfold tok
  split
  · exact (hm c _).1
  · exact (hm c _).2

theorem ok : Ok m := trivial

theorem chk_at (hm : Small m) (i : S30720.Idx) : k0_chk1 (tbl m 0 i : BitVec 32) := by
  have e : i = ix1 (i 0) := by funext a; fin_cases a; rfl
  rw [e]
  exact chk_of _ _ (tok_lt hm 0 (i 0)) (words_at m 0 (i 0))

/-- The side conditions of the body, at every point: its 256 tokens each name two rows of the packed table. -/
theorem hyps (hm : Small m) : Hyps m ok := by
  intro c t
  iterate 255 refine ⟨chk_at hm _, ?_⟩
  exact chk_at hm _

end Cert.EmbedIdeal.Tok
-- ==== Proof.EmbedTile.lean ====
/-  The embedding call over the extended reals, one point of its grid: the words gathered into the tile. The body reads 256 tokens and copies
    two rows of the packed table for each; whatever the point, the tile read back is those rows. -/
module

public import proofs.«01_k».proof.Proof.EmbedIdealHyps
public import proofs.«01_k».proof.Proof.Gen.EmbedIdeal.Frame
public import Idealize.ShloMosaic.Lib.Pipeline.ReadBack

@[expose] public section

set_option maxRecDepth 131072
set_option maxHeartbeats 4000000

noncomputable section

namespace Cert.EmbedIdeal.Body

open Idealize.ShloMosaic Idealize.ShloMosaic.TcCoe Idealize.SL.Sem
open Cert.EmbedIdeal Cert.EmbedIdeal.Gen Cert.EmbedIdeal.Tok Cert.Reals Cert.Head

variable (m : (ℓ : Loc nD τ sig) → Buf (Elt Ideal) ℓ) (c : Dev nD)

/-- The packed table's words. -/
def words : S100000x128.Idx → BitVec 32 := m ((c : Thread nD τ).loc main_arg0)

/-- Row `n` of the packed table. -/
def row (n : ℕ) (l : Fin 128) : BitVec 32 := if h : n < 100000 then words m c (ix2 ⟨n, h⟩ l) else 0#32

theorem tok_bound (t : Fin 120) (p : ℕ) (hp : p < 256) : t.val * 256 + p < 30720 := by omega

/-- The tile at point `t`: for each of its 256 tokens, the two rows of the packed table. -/
def tile (t : Fin 120) : S512x128.Idx → BitVec 32 := fun y =>
  row m c (2 * (tok m c ⟨t.val * 256 + (y 0).val / 2, tok_bound t _ (by have := (y 0).isLt; change (y 0).val < 512 at this; omega)⟩).toNat + (y 0).val % 2) (y 1)

/-- The offset of token `kw` of a point, as the body computes it. -/
def offK (kw : BitVec 32) (i : grid0.Coords) : Fin 1 → ℕ :=
  ![(Scalar.indexCast (Scalar.addi (Scalar.addi (Scalar.muli (BitVec.ofNat 32 (i 0).val) 15360#32) (Scalar.muli (BitVec.ofNat 32 (i 1).val) 256#32)) kw)).toNat]

theorem coords_at : ∀ t : Fin grid0.N, (grid0.coords t 0).val = t.val / 60 ∧ (grid0.coords t 1).val = t.val % 60 := by decide +kernel

theorem offK_at (t : Fin grid0.N) (k : ℕ) (hk : k < 256) : offK (BitVec.ofNat 32 k) (grid0.coords t) = ![t.val * 256 + k] := by
  obtain ⟨e0, e1⟩ := coords_at t
  have ht : t.val < 120 := t.isLt
  unfold offK
  rw [e0, e1]
  congr 1
  show (BitVec.ofNat 32 (t.val / 60) * 15360#32 + BitVec.ofNat 32 (t.val % 60) * 256#32 + BitVec.ofNat 32 k).toNat = _
  simp only [BitVec.toNat_add, BitVec.toNat_mul, BitVec.toNat_ofNat]
  omega

/-- The word read there is twice the token. -/
theorem word_at (t : Fin grid0.N) (k : ℕ) (hk : k < 256) (inb) (p) :
    tbM0_0.view.readAt (Elt Ideal) (Rect.unit (s := S30720) (offK (BitVec.ofNat 32 k) (grid0.coords t)) S1.size inb).toLoadRect (tbl m 0) (Shape.Idx.first p)
      = tok m 0 ⟨t.val * 256 + k, tok_bound t k hk⟩ * 2#32 := by
  refine Eq.trans ?_ (words_at m 0 _)
  show (V m 0 main_v4 : S30720.Idx → BitVec 32) _ = _
  congr 1
  funext a
  fin_cases a
  refine Fin.ext ?_
  show offK (BitVec.ofNat 32 k) (grid0.coords t) 0 + 1 * 0 = t.val * 256 + k
  rw [offK_at t k hk]
  rfl

/-- Two rows of the packed table from row `2 * n` on, copied to rows `2 * k` and `2 * k + 1` of the tile. -/
theorem rows (X : S100000x128.Idx → BitVec 32) (w : BitVec 32) (n k : ℕ) (hn : n < 50000) (hw : w.toNat = 2 * n) (inbX) (hc) (inbO)
    (G : S512x128.Idx → BitVec 32) (hG : ∀ (r : Fin 2) (l : Fin 128) (h1 : 2 * k + r.val < 512) (h2 : 2 * n + r.val < 100000), G (ix2 ⟨2 * k + r.val, h1⟩ l) = X (ix2 ⟨2 * n + r.val, h2⟩ l)) (hk : k < 256) :
    ∀ x : (Rect.unit (s := S512x128) ![2 * k, 0] S2x128.size inbO).shape.Idx,
      shapeCast S2x128 (View.ld (Val := Elt Ideal) (e' := .i32) X (Rect.unit (s := S100000x128) (k0_off2 w) S2x128.size inbX)) hc x
        = G ((Rect.unit (s := S512x128) ![2 * k, 0] S2x128.size inbO).emb x) := by
  intro x
  obtain ⟨r, l, rfl⟩ : ∃ (r : Fin 2) (l : Fin 128), x = ix2 r l := ⟨x 0, x 1, eq_ix2 x⟩
  have h1 : 2 * k + r.val < 512 := by have := r.isLt; omega
  have h2 : 2 * n + r.val < 100000 := by have := r.isLt; omega
  have e : (Rect.unit (s := S512x128) ![2 * k, 0] S2x128.size inbO).emb (ix2 r l) = ix2 ⟨2 * k + r.val, h1⟩ l := by
    funext a
    refine Fin.ext ?_
    fin_cases a
    · show 2 * k + 1 * r.val = 2 * k + r.val; omega
    · show 0 + 1 * l.val = l.val; omega
  rw [e, hG r l h1 h2]
  refine (congrFun (shapeCast_self _ hc) _).trans ?_
  refine congrArg X (?_ : (_ : S100000x128.Idx) = _)
  funext a
  refine Fin.ext ?_
  fin_cases a
  · show w.toNat + 1 * r.val = 2 * n + r.val; omega
  · show 0 + 1 * l.val = l.val; omega

/-- The tile's rows are the packed table's. -/
theorem tile_at (t : Fin 120) (k : ℕ) (hk : k < 256) (r : Fin 2) (l : Fin 128) (h1 : 2 * k + r.val < 512) (h2 : 2 * (tok m c ⟨t.val * 256 + k, tok_bound t k hk⟩).toNat + r.val < 100000) :
    tile m c t (ix2 ⟨2 * k + r.val, h1⟩ l) = words m c (ix2 ⟨2 * (tok m c ⟨t.val * 256 + k, tok_bound t k hk⟩).toNat + r.val, h2⟩ l) := by
  have hd : (2 * k + r.val) / 2 = k := by have := r.isLt; omega
  have hr : (2 * k + r.val) % 2 = r.val := by have := r.isLt; omega
  have et : tile m c t (ix2 ⟨2 * k + r.val, h1⟩ l) = row m c (2 * (tok m c ⟨t.val * 256 + k, tok_bound t k hk⟩).toNat + r.val) l := by
    show row m c (2 * (tok m c ⟨t.val * 256 + (2 * k + r.val) / 2, _⟩).toNat + (2 * k + r.val) % 2) l = _
    simp only [hd, hr]
  rw [et]
  unfold row
  rw [dif_pos h2]

/-- One token's two rows, as the body copies them, are the tile's. -/
theorem piece (hm : Small m) (t : Fin grid0.N) (X : S100000x128.Idx → BitVec 32) (hX : X = words m 0) {k o : ℕ} (hk : k < 256) (ho : o = 2 * k) (inbT) (p) (inbX) (hc) (inbO) :
    ∀ x : (Rect.unit (s := S512x128) ![o, 0] S2x128.size inbO).shape.Idx,
      shapeCast S2x128 (View.ld (Val := Elt Ideal) (e' := .i32) X (Rect.unit (s := S100000x128) (k0_off2 (tbM0_0.view.readAt (Elt Ideal) (Rect.unit (s := S30720) (offK (BitVec.ofNat 32 k) (grid0.coords t)) S1.size inbT).toLoadRect (tbl m 0) (Shape.Idx.first p))) S2x128.size inbX)) hc x
        = tile m 0 t ((Rect.unit (s := S512x128) ![o, 0] S2x128.size inbO).emb x) := by
  subst hX ho
  have hlt := tok_lt hm 0 ⟨t.val * 256 + k, tok_bound t k hk⟩
  exact rows (words m 0) _ _ k hlt ((congrArg BitVec.toNat (word_at m t k hk inbT p)).trans (Cert.Tokens.word_double _ hlt)) inbX hc inbO (tile m 0 t) (fun r l h1 h2 => tile_at m 0 t k hk r l h1 h2) hk

/-- The same, the token's place in its point as the word the body adds. -/
theorem pieceW (hm : Small m) (t : Fin grid0.N) (X : S100000x128.Idx → BitVec 32) (hX : X = words m 0) {kw : BitVec 32} {o : ℕ} (hk : kw.toNat < 256) (ho : o = 2 * kw.toNat) (inbT) (p) (inbX) (hc) (inbO) :
    ∀ x : (Rect.unit (s := S512x128) ![o, 0] S2x128.size inbO).shape.Idx,
      shapeCast S2x128 (View.ld (Val := Elt Ideal) (e' := .i32) X (Rect.unit (s := S100000x128) (k0_off2 (tbM0_0.view.readAt (Elt Ideal) (Rect.unit (s := S30720) (offK kw (grid0.coords t)) S1.size inbT).toLoadRect (tbl m 0) (Shape.Idx.first p))) S2x128.size inbX)) hc x
        = tile m 0 t ((Rect.unit (s := S512x128) ![o, 0] S2x128.size inbO).emb x) := by
  obtain ⟨k, e⟩ : ∃ k : ℕ, kw = BitVec.ofNat 32 k ∧ kw.toNat = k := ⟨kw.toNat, by simp, rfl⟩
  obtain ⟨e1, e2⟩ := e
  rw [e2] at hk ho
  subst e1
  exact piece m hm t X hX hk ho inbT p inbX hc inbO

/-- The same, where the table's scratch is read as the launch left it, -/
theorem pieceB (hm : Small m) (t : Fin grid0.N) (A : Memref sig .tc .vmem S100000x128 .i32) (hA : A.IsWhole) (X : S100000x128.Idx → BitVec 32) (hX : X = words m 0) {kw : BitVec 32} {o : ℕ} (hk : kw.toNat < 256) (ho : o = 2 * kw.toNat) (inbT) (p) (inbX) (hc) (inbO) :
    ∀ x : (Rect.unit (s := S512x128) ![o, 0] S2x128.size inbO).shape.Idx,
      shapeCast S2x128 (A.view.readAt (Elt Ideal) (Rect.unit (s := S100000x128) (k0_off2 (tbM0_0.view.readAt (Elt Ideal) (Rect.unit (s := S30720) (offK kw (grid0.coords t)) S1.size inbT).toLoadRect (tbl m 0) (Shape.Idx.first p))) S2x128.size inbX).toLoadRect (hA.unread X)) hc x
        = tile m 0 t ((Rect.unit (s := S512x128) ![o, 0] S2x128.size inbO).emb x) := by
  rw [View.readAt_eq_ld, hA.read_unread]
  exact pieceW m hm t X hX hk ho inbT p inbX hc inbO

/-- A buffer written whole holds what was written. -/
theorem canon_whole (X : S100000x128.Idx → BitVec 32) : View.canon (Val := Elt Ideal) [(⟨Rect.whole S100000x128, X⟩ : View.Piece (Elt Ideal) S100000x128 .i32)] = X := by
  funext y
  have h1 := View.canon_cons_emb (Val := Elt Ideal) (e := .i32) (Rect.whole S100000x128) X [] y
  have h2 : (Rect.whole S100000x128).emb y = y := by
    funext a; refine Fin.ext ?_; show 0 + 1 * (y a).val = (y a).val; omega
  rw [h2] at h1
  exact h1

/-- The pieces, and where the same point has just copied the table in. -/
theorem pieceA (hm : Small m) (t : Fin grid0.N) (A : Memref sig .tc .vmem S100000x128 .i32) (X : S100000x128.Idx → BitVec 32) (hX : X = words m 0) {kw : BitVec 32} {o : ℕ} (hk : kw.toNat < 256) (ho : o = 2 * kw.toNat) (inbT) (p) (inbX) (hc) (inbO) :
    ∀ x : (Rect.unit (s := S512x128) ![o, 0] S2x128.size inbO).shape.Idx,
      shapeCast S2x128 (A.view.readCov (Val := Elt Ideal) [⟨Rect.whole S100000x128, X⟩] (Rect.unit (s := S100000x128) (k0_off2 (tbM0_0.view.readAt (Elt Ideal) (Rect.unit (s := S30720) (offK kw (grid0.coords t)) S1.size inbT).toLoadRect (tbl m 0) (Shape.Idx.first p))) S2x128.size inbX).toLoadRect) hc x
        = tile m 0 t ((Rect.unit (s := S512x128) ![o, 0] S2x128.size inbO).emb x) := by
  rw [View.readCov_eq_canon', canon_whole X]
  exact pieceW m hm t X hX hk ho inbT p inbX hc inbO

end Cert.EmbedIdeal.Body
-- ==== Proof.EmbedStep.lean ====
/-  The embedding call over the extended reals : what one point of its grid leaves, in terms of the tile it gathered, its blocks of the weights and
    the bias, and the running sums it found. -/
module

public import proofs.«01_k».proof.Proof.EmbedIdealHyps
public import proofs.«01_k».proof.Proof.EmbedTile
public import Idealize.ShloMosaic.Lib.Pipeline.ReadBack

@[expose] public section

set_option maxRecDepth 131072
set_option maxHeartbeats 4000000

noncomputable section

namespace Cert.EmbedIdeal.Body

open Idealize.ShloMosaic Idealize.ShloMosaic.TcCoe Idealize.SL.Sem
open Cert.EmbedIdeal Cert.EmbedIdeal.Gen Cert.EmbedIdeal.Tok Cert.Reals Cert.Head

variable (m : (ℓ : Loc nD τ sig) → Buf (Elt Ideal) ℓ)

/-- A buffer read through a window of it. -/
theorem readAt_at {S : Shape} {e : EltTy} (A : Memref sig .tc .vmem S e) (hA : A.IsWhole) (X : S.Idx → Elt Ideal e) (r : Rect S) (y : r.shape.Idx) :
    A.view.readAt (Elt Ideal) r.toLoadRect (hA.unread X) y = X (r.emb y) := by
  rw [View.readAt_eq_ld, hA.read_unread]
  rfl

/-- Pieces that are all blocks of one array leave that array where they cover. -/
theorem canon_of_pieces {S : Shape} (G : S.Idx → BitVec 32) (L : List (View.Piece (Elt Ideal) S .i32)) (h : View.PiecesOf G L) (y : S.Idx) (hc : ∃ p ∈ L, y ∈ p.1.set) :
    View.canon (Val := Elt Ideal) L y = G y := by
  have := View.canon_append_of_piecesOf (Val := Elt Ideal) (e := .i32) G [] L h y hc
  rwa [List.append_nil] at this

/-- What a point leaves: its block of results, and its two running sums over those it found. -/
def Leaves (t : Fin 120) (x0 : FVec Ideal S512x384 .bf16) (x1 : FVec Ideal S1x384 .f32) (p3 p4 : Fin 384 → Ideal .f32) (o1 : FVec Ideal S1x256x384 .f32) (o2 : FVec Ideal S1x2x384 .f32) : Prop :=
  ∃ (T : S512x128.Idx → BitVec 32) (bb : FVec Ideal S1x384 .f32) (w0 w1 w2 w3 : FVec Ideal S128x384 .bf16) (u3 u4 : FVec Ideal S1x1x384 .f32) (L : List (View.Piece (Elt Ideal) S1x2x384 .f32)),
    T = tile m 0 t
    ∧ o1 = View.canon (Val := Elt Ideal) (e := .f32) [⟨Rect.unit (s := S1x256x384) ![0, 0, 0] ![1, 256, 384] inb_S1x256x384_S1x256x384_0_0_0, k0_pay1 (k0_pay261 (F := Ideal) T bb w0 w1 w2 w3)⟩]
    ∧ o2 = View.canon (Val := Elt Ideal) (e := .f32) (⟨Rect.unit (s := S1x2x384) ![0, 1, 0] ![1, 1, 384] inb_S1x2x384_S1x1x384_0_1_0, k0_pay4 (k0_pay261 (F := Ideal) T bb w0 w1 w2 w3) u4⟩ :: ⟨Rect.unit (s := S1x2x384) ![0, 0, 0] ![1, 1, 384] inb_S1x2x384_S1x1x384_0_0_0, k0_pay3 (k0_pay261 (F := Ideal) T bb w0 w1 w2 w3) u3⟩ :: L)
    ∧ (∀ y, bb y = x1 ((Rect.unit (s := S1x384) ![0, 0] S1x384.size inb_S1x384_S1x384_0_0).emb y))
    ∧ (∀ y, w0 y = x0 ((Rect.unit (s := S512x384) ![0, 0] S128x384.size inb_S512x384_S128x384_0_0).emb y))
    ∧ (∀ y, w1 y = x0 ((Rect.unit (s := S512x384) ![128, 0] S128x384.size inb_S512x384_S128x384_128_0).emb y))
    ∧ (∀ y, w2 y = x0 ((Rect.unit (s := S512x384) ![256, 0] S128x384.size inb_S512x384_S128x384_256_0).emb y))
    ∧ (∀ y, w3 y = x0 ((Rect.unit (s := S512x384) ![384, 0] S128x384.size inb_S512x384_S128x384_384_0).emb y))
    ∧ (∀ j, u3 (ix3 0 0 j) = p3 j) ∧ (∀ j, u4 (ix3 0 0 j) = p4 j)

end Cert.EmbedIdeal.Body
-- ==== Proof.EmbedMath.lean ====
/-  The embedding and its projection as plain numbers: a word of the packed table holds two halves of a row, a token's row is 512 of them, and
    the projection takes the first 300. -/
module

public import proofs.«01_k».proof.Proof.Head

@[expose] public section

noncomputable section

namespace Cert.Emb

open Idealize.ShloMosaic

/-- Half `h` of a word, as a number. -/
def half (w : BitVec 32) (h : ℕ) : EReal := Ideal.ofBits .bf16 (w.extractLsb' (16 * h) 16)

section
variable (A : (⟨2, ![100000, 128]⟩ : Shape).Idx → BitVec 32) (W : (⟨2, ![300, 300]⟩ : Shape).Idx → EReal) (b : (⟨1, ![300]⟩ : Shape).Idx → EReal)

/-- Row `n` of the packed table. -/
def word (n : ℕ) (l : Fin 128) : BitVec 32 := if h : n < 100000 then A (ix2 ⟨n, h⟩ l) else 0#32

/-- Entry `d` of token `n`'s row. -/
def entry (n : ℕ) (d : ℕ) : EReal := half (word A (2 * n + d / 256) ⟨d % 128, Nat.mod_lt _ (by decide)⟩) (d / 128 % 2)

/-- The projection of token `n`'s row, padded with zeros to 384 columns. -/
def proj (n : ℕ) (j : Fin 384) : EReal :=
  if h : j.val < 300 then ∑ k : Fin 300, entry A n k.val * W (ix2 ⟨j.val, h⟩ k) + b (ix1 ⟨j.val, h⟩) else 0
end

theorem sum_four (f : ℕ → EReal) : ∑ d : Fin 512, f d.val
    = (∑ l : Fin 128, f l.val) + (∑ l : Fin 128, f (128 + l.val)) + (∑ l : Fin 128, f (256 + l.val)) + (∑ l : Fin 128, f (384 + l.val)) := by
  simp only [Fin.sum_univ_eq_sum_range (fun d => f d), Fin.sum_univ_eq_sum_range (fun d => f (128 + d)), Fin.sum_univ_eq_sum_range (fun d => f (256 + d)),
    Fin.sum_univ_eq_sum_range (fun d => f (384 + d))]
  rw [show (512 : ℕ) = 384 + 128 from rfl, Finset.sum_range_add, show (384 : ℕ) = 256 + 128 from rfl, Finset.sum_range_add,
    show (256 : ℕ) = 128 + 128 from rfl, Finset.sum_range_add]

theorem sum_pad (f : ℕ → EReal) (hf : ∀ d, 300 ≤ d → f d = 0) : ∑ d : Fin 512, f d.val = ∑ k : Fin 300, f k.val := by
  rw [Fin.sum_univ_eq_sum_range f, Fin.sum_univ_eq_sum_range f, show (512 : ℕ) = 300 + 212 from rfl, Finset.sum_range_add,
    Finset.sum_eq_zero (s := Finset.range 212) fun i _ => hf _ (by omega), add_zero]

theorem sum_blocks (f : ℕ → EReal) (n : ℕ) : ∑ r ∈ Finset.range (n * 256), f r = ∑ b ∈ Finset.range n, ∑ p : Fin 256, f (b * 256 + p.val) := by
  induction n with
  | zero => simp
  | succ n ih => rw [Finset.sum_range_succ, ← ih, Fin.sum_univ_eq_sum_range (fun p => f (n * 256 + p)), ← Finset.sum_range_add, Nat.succ_mul]

end Cert.Emb
-- ==== Proof.EmbedBody.lean ====
/-  The embedding call's body over the extended reals, an entry at a time. -/
module

public import proofs.«01_k».proof.Proof.EmbedStep
public import proofs.«01_k».proof.Proof.EmbedMath
public import proofs.«01_k».proof.Proof.MlpBody
public import Idealize.ShloMosaic.Lib.Pipeline.ValueKit
public import Idealize.ShloMosaic.Lib.BitcastPair

@[expose] public section

set_option maxRecDepth 16384
set_option maxHeartbeats 2000000

noncomputable section

namespace Cert.EmbedIdeal.Body

open Idealize.ShloMosaic
open Cert.EmbedIdeal Cert.EmbedIdeal.Gen Cert.EmbedIdeal.Tok Cert.Reals Cert.Head

section
variable (T : S512x128.Idx → BitVec 32) (bb : FVec Ideal S1x384 .f32) (w0 w1 w2 w3 : FVec Ideal S128x384 .bf16)

/-- Row `r` of the tile's words read as halves. -/
theorem halves_at (r : Fin 1024) (l : Fin 128) :
    (bitcastToFloat (F := Ideal) .bf16 (bitcast S1024x128 16 T bitcasts_S512x128_w32_S1024x128_w16) : S1024x128.Idx → EReal) (ix2 r l)
      = Cert.Emb.half (T (ix2 ⟨r.val / 2, by omega⟩ l)) (r.val % 2) := by
  rw [bitcastToFloat_apply, bitcast_32_16]
  refine congrArg (fun y => Cert.Emb.half (T y) (r.val % 2)) ?_
  funext a
  refine Fin.ext ?_
  fin_cases a
  · rfl
  · rfl

theorem pay261_at (p : Fin 256) (j : Fin 384) :
    k0_pay261 (F := Ideal) T bb w0 w1 w2 w3 (ix2 p j)
      = (∑ l : Fin 128, Cert.Emb.half (T (ix2 ⟨2 * p.val, by omega⟩ l)) 0 * w0 (ix2 l j))
        + (∑ l : Fin 128, Cert.Emb.half (T (ix2 ⟨2 * p.val, by omega⟩ l)) 1 * w1 (ix2 l j))
        + (∑ l : Fin 128, Cert.Emb.half (T (ix2 ⟨2 * p.val + 1, by omega⟩ l)) 0 * w2 (ix2 l j))
        + (∑ l : Fin 128, Cert.Emb.half (T (ix2 ⟨2 * p.val + 1, by omega⟩ l)) 1 * w3 (ix2 l j)) + bb (ix2 0 j) := by
  have hT := halves_at T
  unfold k0_pay261
  revert hT
  generalize (bitcastToFloat (F := Ideal) .bf16 (bitcast S1024x128 16 T bitcasts_S512x128_w32_S1024x128_w16) : S1024x128.Idx → EReal) = H
  intro hT
  pointwise
  simp only [hT]
  have e0 : p.val * 4 / 2 = 2 * p.val ∧ p.val * 4 % 2 = 0 := by omega
  have e1 : (p.val * 4 + 1) / 2 = 2 * p.val ∧ (p.val * 4 + 1) % 2 = 1 := by omega
  have e2 : (p.val * 4 + 2) / 2 = 2 * p.val + 1 ∧ (p.val * 4 + 2) % 2 = 0 := by omega
  have e3 : (p.val * 4 + 3) / 2 = 2 * p.val + 1 ∧ (p.val * 4 + 3) % 2 = 1 := by omega
  simp only [e0.1, e0.2, e1.1, e1.2, e2.1, e2.2, e3.1, e3.2]

theorem pay1_at (Y : FVec Ideal S256x384 .f32) (p : Fin 256) (j : Fin 384) : k0_pay1 (F := Ideal) Y (ix3 0 p j) = Y (ix2 p j) := by
  pointwise [k0_pay1]

theorem pay3_at (Y : FVec Ideal S256x384 .f32) (u : FVec Ideal S1x1x384 .f32) (j : Fin 384) :
    k0_pay3 (F := Ideal) Y u (ix3 0 0 j) = u (ix3 0 0 j) + ∑ p : Fin 256, Y (ix2 p j) := by
  pointwise [k0_pay3]

theorem pay4_at (Y : FVec Ideal S256x384 .f32) (u : FVec Ideal S1x1x384 .f32) (j : Fin 384) :
    k0_pay4 (F := Ideal) Y u (ix3 0 0 j) = u (ix3 0 0 j) + ∑ p : Fin 256, Y (ix2 p j) * Y (ix2 p j) := by
  pointwise [k0_pay4]
end

end Cert.EmbedIdeal.Body
-- ==== Proof.EmbedHost.lean ====
/-  The arrays the host hands the embedding call: the packed table, the projection's weights and its bias, both padded with zeros. -/
module

public import proofs.«01_k».proof.Proof.EmbedIdealHyps
public import proofs.«01_k».proof.Proof.MlpBody
public import Idealize.ShloMosaic.Lib.Pipeline.ValueKit

@[expose] public section

set_option maxHeartbeats 2000000
noncomputable section

namespace Cert.EmbedIdeal.Body

open Idealize.ShloMosaic Idealize.ShloMosaic.TcCoe Idealize.SL.Sem
open Cert.EmbedIdeal Cert.EmbedIdeal.Gen Cert.EmbedIdeal.Tok Cert.Reals Cert.Head

variable (m : (ℓ : Loc nD τ sig) → Buf (Elt Ideal) ℓ) (c : Dev nD)

def W : S300x300.Idx → EReal := m ((c : Thread nD τ).loc main_arg1)
def b : S300.Idx → EReal := m ((c : Thread nD τ).loc main_arg2)

theorem table_read : (V m c main_arg0 : S100000x128.Idx → BitVec 32) = m ((c : Thread nD τ).loc main_arg0) := by
  after_reads_at

theorem w_at (d : Fin 512) (j : Fin 384) : (V m c main_v7 : S512x384.Idx → EReal) (ix2 d j) = if h : d.val < 300 ∧ j.val < 300 then W m c (ix2 ⟨j.val, h.2⟩ ⟨d.val, h.1⟩) else 0 := by
  after_reads_at
  rw [show (FloatOps.sitofp (F := Ideal) FTy.f32 (0#32 : BitVec 32)) = (0 : EReal) from int_zero]
  rfl

theorem b_at (j : Fin 384) : (V m c main_v9 : S1x384.Idx → EReal) (ix2 0 j) = if h : j.val < 300 then b m c (ix1 ⟨j.val, h⟩) else 0 := by
  after_reads_at
  rw [show (FloatOps.sitofp (F := Ideal) FTy.f32 (0#32 : BitVec 32)) = (0 : EReal) from int_zero]
  rfl

/-! ## The staged blocks -/

theorem idx0 (t : Fin (cfgM m ok).N) : (pcfg0.win (adm m ok) 0).index t = ![0, 0] := by
  funext a; fin_cases a <;> rfl
theorem idx1 (t : Fin (cfgM m ok).N) : (pcfg0.win (adm m ok) 1).index t = ![0, 0] := by
  funext a; fin_cases a <;> rfl
theorem idx2 (t : Fin (cfgM m ok).N) : (pcfg0.win (adm m ok) 2).index t = ![t.val / 60, t.val % 60, 0] :=
  (by decide +kernel : ∀ t : Fin grid0.N, cc0_transform_3 (grid0.coords t) = ![t.val / 60, t.val % 60, 0]) t
theorem idx3 (t : Fin (cfgM m ok).N) : (pcfg0.win (adm m ok) 3).index t = ![t.val / 60, 0, 0] :=
  (by decide +kernel : ∀ t : Fin grid0.N, cc0_transform_4 (grid0.coords t) = ![t.val / 60, 0, 0]) t

theorem blk0 (t : Fin (cfgM m ok).N) : iblk m ok c 0 t = V m c main_v7 := by
  blk_ext! [iblk]
  · exact (congrArg (· * 512 + _) (congrFun (idx0 m t) 0)).trans (by simp)
  · exact (congrArg (· * 384 + _) (congrFun (idx0 m t) 1)).trans (by simp)
theorem blk1 (t : Fin (cfgM m ok).N) : iblk m ok c 1 t = V m c main_v9 := by
  blk_ext! [iblk]
  · exact congrFun (idx1 m t) 0
  · exact (congrArg (· * 384 + _) (congrFun (idx1 m t) 1)).trans (by simp)

end Cert.EmbedIdeal.Body
-- ==== Proof.EmbedPoint.lean ====
/-  What a point of the embedding call leaves, as values: the projected embeddings of its tokens, and its sums added to those it found. -/
module

public import proofs.«01_k».proof.Proof.EmbedBody
public import proofs.«01_k».proof.Proof.EmbedHost

@[expose] public section

set_option maxRecDepth 16384
set_option maxHeartbeats 2000000

noncomputable section

namespace Cert.EmbedIdeal.Body

open Idealize.ShloMosaic Idealize.ShloMosaic.TcCoe Idealize.SL.Sem
open Cert.EmbedIdeal Cert.EmbedIdeal.Gen Cert.EmbedIdeal.Tok Cert.Reals Cert.Head Cert.Emb

variable (m : (ℓ : Loc nD τ sig) → Buf (Elt Ideal) ℓ)

/-- The projected embedding of token `r`, column `j`. -/
def val (r : ℕ) (j : Fin 384) : EReal :=
  if h : r < 30720 then proj (words m 0) (W m 0) (b m 0) (tok m 0 ⟨r, h⟩).toNat j else 0

/-- Entry `d` of a padded column of the weights. -/
def col (j : Fin 384) (d : ℕ) : EReal := if h : d < 300 ∧ j.val < 300 then W m 0 (ix2 ⟨j.val, h.2⟩ ⟨d, h.1⟩) else 0

theorem proj_eq (n : ℕ) (j : Fin 384) :
    (∑ l : Fin 128, entry (words m 0) n l.val * col m j l.val) + (∑ l : Fin 128, entry (words m 0) n (128 + l.val) * col m j (128 + l.val))
      + (∑ l : Fin 128, entry (words m 0) n (256 + l.val) * col m j (256 + l.val)) + (∑ l : Fin 128, entry (words m 0) n (384 + l.val) * col m j (384 + l.val))
      + (if h : j.val < 300 then b m 0 (ix1 ⟨j.val, h⟩) else 0) = proj (words m 0) (W m 0) (b m 0) n j := by
  rw [← sum_four fun d => entry (words m 0) n d * col m j d]
  rw [sum_pad (fun d => entry (words m 0) n d * col m j d) fun d hd => by unfold col; rw [dif_neg (by omega), mul_zero]]
  unfold proj
  by_cases h : j.val < 300
  · rw [dif_pos h, dif_pos h]
    refine congrArg (· + _) (Finset.sum_congr rfl fun k _ => congrArg (_ * ·) ?_)
    unfold col
    rw [dif_pos ⟨k.isLt, h⟩]
  · rw [dif_neg h, dif_neg h, add_zero]
    refine Finset.sum_eq_zero fun k _ => ?_
    unfold col
    rw [dif_neg (by omega), mul_zero]

theorem half_tile (t : Fin 120) (p : Fin 256) (l : Fin 128) (d r q : ℕ) (hr : r < 2) (hd : d = r * 256 + q * 128 + l.val) (hq : q < 2) (R : Fin 512) (hR : R.val = 2 * p.val + r)
    (ht : t.val * 256 + p.val < 30720) :
    half (tile m 0 t (ix2 R l)) q = entry (words m 0) (tok m 0 ⟨t.val * 256 + p.val, ht⟩).toNat d := by
  have hl := l.isLt
  obtain ⟨R, h⟩ := R
  obtain rfl : R = 2 * p.val + r := hR
  have e1 : (2 * p.val + r) / 2 = p.val := by omega
  have e2 : (2 * p.val + r) % 2 = r := by omega
  have e : tile m 0 t (ix2 ⟨2 * p.val + r, h⟩ l) = row m 0 (2 * (tok m 0 ⟨t.val * 256 + p.val, ht⟩).toNat + r) l := by
    show row m 0 (2 * (tok m 0 ⟨t.val * 256 + (2 * p.val + r) / 2, _⟩).toNat + (2 * p.val + r) % 2) l = _
    simp only [e1, e2]
  rw [e]
  unfold entry
  have f1 : d / 256 = r := by omega
  have f2 : d % 128 = l.val := by omega
  have f3 : d / 128 % 2 = q := by omega
  have f4 : (⟨d % 128, Nat.mod_lt _ (by decide)⟩ : Fin 128) = l := Fin.ext f2
  rw [f1, f3, f4]
  rfl

/-- A point's block of projected embeddings. -/
theorem y_at (t : Fin 120) (x0 : FVec Ideal S512x384 .bf16) (x1 : FVec Ideal S1x384 .f32) (hx0 : ∀ (d : Fin 512) (j : Fin 384), x0 (ix2 d j) = col m j d.val)
    (hx1 : ∀ j : Fin 384, x1 (ix2 0 j) = if h : j.val < 300 then b m 0 (ix1 ⟨j.val, h⟩) else 0)
    (bb : FVec Ideal S1x384 .f32) (w0 w1 w2 w3 : FVec Ideal S128x384 .bf16)
    (hb : ∀ j, bb (ix2 0 j) = x1 (ix2 0 j)) (h0 : ∀ (l : Fin 128) j, w0 (ix2 l j) = x0 (ix2 ⟨l.val, by omega⟩ j)) (h1 : ∀ (l : Fin 128) j, w1 (ix2 l j) = x0 (ix2 ⟨128 + l.val, by omega⟩ j))
    (h2 : ∀ (l : Fin 128) j, w2 (ix2 l j) = x0 (ix2 ⟨256 + l.val, by omega⟩ j)) (h3 : ∀ (l : Fin 128) j, w3 (ix2 l j) = x0 (ix2 ⟨384 + l.val, by omega⟩ j))
    (p : Fin 256) (j : Fin 384) :
    k0_pay261 (F := Ideal) (tile m 0 t) bb w0 w1 w2 w3 (ix2 p j) = val m (t.val * 256 + p.val) j := by
  have ht : t.val * 256 + p.val < 30720 := by omega
  unfold val
  rw [pay261_at, dif_pos ht, ← proj_eq, hb, hx1]
  simp only [h0, h1, h2, h3, hx0]
  refine congrArg (· + _) (congrArg₂ (· + ·) (congrArg₂ (· + ·) (congrArg₂ (· + ·) ?_ ?_) ?_) ?_)
  · refine Finset.sum_congr rfl fun l _ => ?_
    rw [half_tile m t p l l.val 0 0 (by decide) (by omega) (by decide) _ rfl ht]
  · refine Finset.sum_congr rfl fun l _ => ?_
    rw [half_tile m t p l (128 + l.val) 0 1 (by decide) (by omega) (by decide) _ rfl ht]
  · refine Finset.sum_congr rfl fun l _ => ?_
    rw [half_tile m t p l (256 + l.val) 1 0 (by decide) (by omega) (by decide) _ rfl ht]
  · refine Finset.sum_congr rfl fun l _ => ?_
    rw [half_tile m t p l (384 + l.val) 1 1 (by decide) (by omega) (by decide) _ rfl ht]

/-- A block of shape `[1, 256, 384]` stored whole, -/
theorem canon_block (Y : FVec Ideal S1x256x384 .f32) (inb) (p : Fin 256) (j : Fin 384) :
    View.canon (Val := Elt Ideal) (e := .f32) [⟨Rect.unit (s := S1x256x384) ![0, 0, 0] ![1, 256, 384] inb, Y⟩] (ix3 0 p j) = Y (ix3 0 p j) := by
  have h := View.canon_cons_emb (Val := Elt Ideal) (e := .f32) (Rect.unit (s := S1x256x384) ![0, 0, 0] ![1, 256, 384] inb) Y [] (ix3 0 p j)
  have e : (Rect.unit (s := S1x256x384) ![0, 0, 0] ![1, 256, 384] inb).emb (ix3 0 p j) = ix3 0 p j := by
    funext a; refine Fin.ext ?_; fin_cases a
    · rfl
    · show 0 + 1 * p.val = p.val; omega
    · show 0 + 1 * j.val = j.val; omega
  rwa [e] at h

theorem canon_top (U : FVec Ideal S1x1x384 .f32) (L : List (View.Piece (Elt Ideal) S1x2x384 .f32)) (k : Fin 2) (inb) (j : Fin 384) :
    View.canon (Val := Elt Ideal) (e := .f32) (⟨Rect.unit (s := S1x2x384) ![0, k.val, 0] ![1, 1, 384] inb, U⟩ :: L) (ix3 0 k j) = U (ix3 0 0 j) := by
  have h := View.canon_cons_emb (Val := Elt Ideal) (e := .f32) (Rect.unit (s := S1x2x384) ![0, k.val, 0] ![1, 1, 384] inb) U L (ix3 0 0 j)
  have e : (Rect.unit (s := S1x2x384) ![0, k.val, 0] ![1, 1, 384] inb).emb (ix3 0 0 j) = ix3 0 k j := by
    funext a; refine Fin.ext ?_; fin_cases a
    · rfl
    · rfl
    · show 0 + 1 * j.val = j.val; omega
  rwa [e] at h

/-- and the two rows of sums stored over it. -/
theorem canon_rows (U V : FVec Ideal S1x1x384 .f32) (L : List (View.Piece (Elt Ideal) S1x2x384 .f32)) (inb1 inb0) (j : Fin 384) :
    View.canon (Val := Elt Ideal) (e := .f32) (⟨Rect.unit (s := S1x2x384) ![0, 1, 0] ![1, 1, 384] inb1, V⟩ :: ⟨Rect.unit (s := S1x2x384) ![0, 0, 0] ![1, 1, 384] inb0, U⟩ :: L) (ix3 0 0 j) = U (ix3 0 0 j)
    ∧ View.canon (Val := Elt Ideal) (e := .f32) (⟨Rect.unit (s := S1x2x384) ![0, 1, 0] ![1, 1, 384] inb1, V⟩ :: ⟨Rect.unit (s := S1x2x384) ![0, 0, 0] ![1, 1, 384] inb0, U⟩ :: L) (ix3 0 1 j) = V (ix3 0 0 j) := by
  constructor
  · refine (View.canon_cons_of_not_mem (Val := Elt Ideal) (e := .f32) _ _ ?_).trans (canon_top U L 0 inb0 j)
    rw [Rect.mem_set_unit]
    intro h
    have h1 : 1 ≤ 0 := (h 1).1
    exact absurd h1 (by decide)
  · exact canon_top V _ 1 inb1 j

theorem emb0 (inb) (j : Fin 384) : (Rect.unit (s := S1x384) ![0, 0] S1x384.size inb).emb (ix2 0 j) = ix2 0 j := by
  funext a; refine Fin.ext ?_; fin_cases a
  · rfl
  · show 0 + 1 * j.val = j.val; omega

theorem embW (o : ℕ) (inb) (l : Fin 128) (j : Fin 384) (h : o + l.val < 512) : (Rect.unit (s := S512x384) ![o, 0] S128x384.size inb).emb (ix2 l j) = ix2 ⟨o + l.val, h⟩ j := by
  funext a; refine Fin.ext ?_; fin_cases a
  · show o + 1 * l.val = o + l.val; omega
  · show 0 + 1 * j.val = j.val; omega

/-- What a point leaves, in values. -/
theorem leaves_at {t : Fin 120} {x0 : FVec Ideal S512x384 .bf16} {x1 : FVec Ideal S1x384 .f32} {p3 p4 : Fin 384 → Ideal .f32} {o1 : FVec Ideal S1x256x384 .f32} {o2 : FVec Ideal S1x2x384 .f32}
    (hL : Leaves m t x0 x1 p3 p4 o1 o2) (hx0 : ∀ (d : Fin 512) (j : Fin 384), x0 (ix2 d j) = col m j d.val)
    (hx1 : ∀ j : Fin 384, x1 (ix2 0 j) = if h : j.val < 300 then b m 0 (ix1 ⟨j.val, h⟩) else 0) :
    (∀ (p : Fin 256) (j : Fin 384), o1 (ix3 0 p j) = val m (t.val * 256 + p.val) j)
    ∧ (∀ j : Fin 384, o2 (ix3 0 0 j) = p3 j + ∑ p : Fin 256, val m (t.val * 256 + p.val) j)
    ∧ (∀ j : Fin 384, o2 (ix3 0 1 j) = p4 j + ∑ p : Fin 256, val m (t.val * 256 + p.val) j * val m (t.val * 256 + p.val) j) := by
  obtain ⟨T, bb, w0, w1, w2, w3, u3, u4, L, rfl, ho1, ho2, hbb, h0, h1, h2, h3, hu3, hu4⟩ := hL
  have hY := y_at m t x0 x1 hx0 hx1 bb w0 w1 w2 w3
    (fun j => (hbb _).trans (congrArg x1 (emb0 _ j)))
    (fun l j => (h0 _).trans (congrArg x0 ((embW 0 _ l j (by omega)).trans (congrArg (fun d => ix2 d j) (Fin.ext (Nat.zero_add _))))))
    (fun l j => (h1 _).trans (congrArg x0 (embW 128 _ l j (by omega))))
    (fun l j => (h2 _).trans (congrArg x0 (embW 256 _ l j (by omega))))
    (fun l j => (h3 _).trans (congrArg x0 (embW 384 _ l j (by omega))))
  generalize k0_pay261 (F := Ideal) (tile m 0 t) bb w0 w1 w2 w3 = Y at ho1 ho2 hY
  refine ⟨fun p j => ?_, fun j => ?_, fun j => ?_⟩
  · rw [ho1, canon_block, pay1_at, hY]
  · rw [ho2, (canon_rows _ _ L _ _ j).1, pay3_at, hu3]
    simp only [hY]
  · rw [ho2, (canon_rows _ _ L _ _ j).2, pay4_at, hu4]
    simp only [hY]

end Cert.EmbedIdeal.Body
-- ==== Proof.EmbedStepB.lean ====
/-  The embedding call over the extended reals : what one point of its grid leaves, in terms of the tile it gathered, its blocks of the weights and
    the bias, and the running sums it found. -/
module

public import proofs.«01_k».proof.Proof.EmbedIdealHyps
public import proofs.«01_k».proof.Proof.EmbedStep
public import Idealize.ShloMosaic.Lib.Pipeline.ReadBack

@[expose] public section

set_option maxRecDepth 131072
set_option maxHeartbeats 40000000

noncomputable section

namespace Cert.EmbedIdeal.Body

open Idealize.ShloMosaic Idealize.ShloMosaic.TcCoe Idealize.SL.Sem
open Cert.EmbedIdeal Cert.EmbedIdeal.Gen Cert.EmbedIdeal.Tok Cert.Reals Cert.Head

variable (m : (ℓ : Loc nD τ sig) → Buf (Elt Ideal) ℓ)

/-- A point after its core's first adds to the sums it found. -/
theorem stepB (hm : Small m) (t : Fin (cfgM m ok).N) (h0 : ¬ t.val % 60 = 0)
    (hX : (outsAt0 m ok (hyps hm) 0 (t.val - 1) (Nat.lt_of_le_of_lt (Nat.sub_le _ _) t.isLt)).2.2 = words m 0) :
    Leaves m t (iblk m ok 0 0 t) (iblk m ok 0 1 t)
      (fun j => (outsAt0 m ok (hyps hm) 0 (t.val - 1) (Nat.lt_of_le_of_lt (Nat.sub_le _ _) t.isLt)).2.1 (ix3 0 0 j))
      (fun j => (outsAt0 m ok (hyps hm) 0 (t.val - 1) (Nat.lt_of_le_of_lt (Nat.sub_le _ _) t.isLt)).2.1 (ix3 0 1 j))
      (outsAt0 m ok (hyps hm) 0 t.val t.isLt).1 (outsAt0 m ok (hyps hm) 0 t.val t.isLt).2.1 := by
  iterate 9 apply Exists.intro
  refine ⟨?tile, ?out, ?sums, ?bb, ?w0, ?w1, ?w2, ?w3, ?u3, ?u4⟩
  case out =>
    refine (congrArg Prod.fst (outsAt0_B m ok (hyps hm) 0 t h0 h0)).trans ?_
    refine (View.read_writes_junk_eq_canon (Val := Elt Ideal) VO0_2 _).trans ?_
    refine congrArg View.canon ?_
    with_unfolding_all rfl
  case sums =>
    refine (congrArg (fun o => o.2.1) (outsAt0_B m ok (hyps hm) 0 t h0 h0)).trans ?_
    refine (View.read_writes_junk_eq_canon (Val := Elt Ideal) VO0_3 _).trans ?_
    refine congrArg View.canon ?_
    with_unfolding_all rfl
  case tile =>
    funext y
    refine (congrFun (View.readCov_eq_canon' (Val := Elt Ideal) scM0_1.view _ _) y).trans ?_
    have e : (Rect.unit (s := S512x128) ![0, 0] S512x128.size inb_S512x128_S512x128_0_0).toLoadRect.idx y = y := by
      funext a; refine Fin.ext ?_; fin_cases a
      · show 0 + 1 * (y 0).val = (y 0).val; omega
      · show 0 + 1 * (y 1).val = (y 1).val; omega
    rw [e]
    refine canon_of_pieces (tile m 0 t) _ ?_ y (View.cover_of_tiledL (s := S512x128) _ S2x128.size ?_ y)
    · iterate 256
        refine And.intro ?_ ?_
        · dsimp only
          refine pieceB m hm t _ _ _ hX ?_ ?_ _ _ _ _ _
          · decide
          · rfl
      exact True.intro
    · sl_kernel_rfl
  case bb => exact fun y => readAt_at _ _ _ _ _
  case w0 => exact fun y => readAt_at _ _ _ _ _
  case w1 => exact fun y => readAt_at _ _ _ _ _
  case w2 => exact fun y => readAt_at _ _ _ _ _
  case w3 => exact fun y => readAt_at _ _ _ _ _
  case u3 =>
    intro j
    refine (readAt_at _ _ _ _ _).trans (congrArg _ ?_)
    funext a; refine Fin.ext ?_; fin_cases a
    · rfl
    · rfl
    · show 0 + 1 * j.val = j.val; omega
  case u4 =>
    intro j
    refine (readAt_at _ _ _ _ _).trans (congrArg _ ?_)
    funext a; refine Fin.ext ?_; fin_cases a
    · rfl
    · rfl
    · show 0 + 1 * j.val = j.val; omega

end Cert.EmbedIdeal.Body
-- ==== Proof.EmbedStepA.lean ====
/-  The embedding call over the extended reals : what one point of its grid leaves, in terms of the tile it gathered, its blocks of the weights and
    the bias, and the running sums it found. -/
module

public import proofs.«01_k».proof.Proof.EmbedIdealHyps
public import proofs.«01_k».proof.Proof.EmbedStep
public import proofs.«01_k».proof.Proof.EmbedHost
public import Idealize.ShloMosaic.Lib.Pipeline.ReadBack
public import Idealize.ShloMosaic.Lib.Pipeline.ValueKit

@[expose] public section

set_option maxRecDepth 131072
set_option maxHeartbeats 40000000

noncomputable section

namespace Cert.EmbedIdeal.Body

open Idealize.ShloMosaic Idealize.ShloMosaic.TcCoe Idealize.SL.Sem
open Cert.EmbedIdeal Cert.EmbedIdeal.Gen Cert.EmbedIdeal.Tok Cert.Reals Cert.Head

variable (m : (ℓ : Loc nD τ sig) → Buf (Elt Ideal) ℓ)

/-- The sums' block as it is first filled. -/
theorem zeros_at (i : S1x2x384.Idx) (inb : ∀ a : Fin 3, ![0, 0, 0] a + ![1, 2, 384] a ≤ S1x2x384.size a) :
    View.canon (Val := Elt Ideal) (e := .f32) [(⟨Rect.unit (s := S1x2x384) ![0, 0, 0] ![1, 2, 384] inb, k0_pay2 (F := Ideal)⟩ : View.Piece (Elt Ideal) S1x2x384 .f32)] i = (0 : EReal) := by
  refine (congrFun (View.canon_cons_unit_lit (Val := Elt Ideal) (S := S1x2x384) (e := .f32) inb (k0_pay2 (F := Ideal)) [] (by decide)) i).trans ?_
  pointwise [k0_pay2]

/-- A core's first point starts the sums at zero. -/
theorem stepA (hm : Small m) (t : Fin (cfgM m ok).N) (h0 : t.val % 60 = 0) :
    Leaves m t (iblk m ok 0 0 t) (iblk m ok 0 1 t) (fun _ => 0) (fun _ => 0)
      (outsAt0 m ok (hyps hm) 0 t.val t.isLt).1 (outsAt0 m ok (hyps hm) 0 t.val t.isLt).2.1 := by
  iterate 9 apply Exists.intro
  refine ⟨?tile, ?out, ?sums, ?bb, ?w0, ?w1, ?w2, ?w3, ?u3, ?u4⟩
  case out =>
    refine (congrArg Prod.fst (outsAt0_A m ok (hyps hm) 0 t h0 h0)).trans ?_
    refine (View.read_writes_junk_eq_canon (Val := Elt Ideal) VO0_2 _).trans ?_
    refine congrArg View.canon ?_
    with_unfolding_all rfl
  case sums =>
    refine (congrArg (fun o => o.2.1) (outsAt0_A m ok (hyps hm) 0 t h0 h0)).trans ?_
    refine (View.read_writes_junk_eq_canon (Val := Elt Ideal) VO0_3 _).trans ?_
    refine congrArg View.canon ?_
    with_unfolding_all rfl
  case tile =>
    funext y
    refine (congrFun (View.readCov_eq_canon' (Val := Elt Ideal) scM0_1.view _ _) y).trans ?_
    have e : (Rect.unit (s := S512x128) ![0, 0] S512x128.size inb_S512x128_S512x128_0_0).toLoadRect.idx y = y := by
      funext a; refine Fin.ext ?_; fin_cases a
      · show 0 + 1 * (y 0).val = (y 0).val; omega
      · show 0 + 1 * (y 1).val = (y 1).val; omega
    rw [e]
    refine canon_of_pieces (tile m 0 t) _ ?_ y (View.cover_of_tiledL (s := S512x128) _ S2x128.size ?_ y)
    · iterate 256
        refine And.intro ?_ ?_
        · dsimp only
          refine pieceA m hm t _ _ ?_ ?_ ?_ _ _ _ _ _
          · exact table_read m 0
          · decide
          · rfl
      exact True.intro
    · sl_kernel_rfl
  case bb => exact fun y => readAt_at _ _ _ _ _
  case w0 => exact fun y => readAt_at _ _ _ _ _
  case w1 => exact fun y => readAt_at _ _ _ _ _
  case w2 => exact fun y => readAt_at _ _ _ _ _
  case w3 => exact fun y => readAt_at _ _ _ _ _
  case u3 =>
    intro j
    refine (congrFun (View.readCov_eq_canon' (Val := Elt Ideal) (e := .f32) _ _ _) _).trans ?_
    exact zeros_at _ _
  case u4 =>
    intro j
    refine (congrFun (View.readCov_eq_canon' (Val := Elt Ideal) (e := .f32) _ _ _) _).trans ?_
    refine (View.canon_cons_of_not_mem (Val := Elt Ideal) (e := .f32) (s := S1x2x384) _ _ ?_).trans ?_
    · rw [Rect.mem_set_unit]
      intro h
      have h1 := (h 1).2
      change 1 + 1 * 0 < 0 + 1 at h1
      omega
    · exact zeros_at _ _

end Cert.EmbedIdeal.Body
-- ==== Proof.EmbedScr.lean ====
/-  The table's scratch: each core copies the packed table in at its first point, and holds it from there. -/
module

public import proofs.«01_k».proof.Proof.EmbedIdealHyps
public import proofs.«01_k».proof.Proof.EmbedStep
public import proofs.«01_k».proof.Proof.EmbedHost
public import Idealize.ShloMosaic.Lib.Pipeline.ReadBack

@[expose] public section

set_option maxRecDepth 131072
set_option maxHeartbeats 4000000

noncomputable section

namespace Cert.EmbedIdeal.Body

open Idealize.ShloMosaic Idealize.ShloMosaic.TcCoe Idealize.SL.Sem
open Cert.EmbedIdeal Cert.EmbedIdeal.Gen Cert.EmbedIdeal.Tok Cert.Reals Cert.Head

variable (m : (ℓ : Loc nD τ sig) → Buf (Elt Ideal) ℓ)

/-- What the copy moves is the packed table. -/
theorem copied : kernelRun0_A.sl.dma0 (F := Ideal) 0 (V m 0 main_arg0) = words m 0 := table_read m 0

/-- A core's first point copies the table in. -/
theorem scrA (hm : Small m) (t : Fin (cfgM m ok).N) (h0 : t.val % 60 = 0) : (outsAt0 m ok (hyps hm) 0 t.val t.isLt).2.2 = words m 0 := by
  have h := congrArg (fun o => o.2.2) (outsAt0_A m ok (hyps hm) 0 t h0 h0)
  refine h.trans ?_
  clear h
  dsimp only
  delta sout0_A_0
  refine (View.read_writes_junk_eq_canon (Val := Elt Ideal) VS0_0 _).trans ?_
  refine Eq.trans ?_ ((canon_whole (kernelRun0_A.sl.dma0 (F := Ideal) 0 (V m 0 main_arg0))).trans (copied m))
  refine congrArg (View.canon (Val := Elt Ideal)) ?_
  rfl

/-- A point after its core's first keeps the table's scratch. -/
theorem scrB (hm : Small m) (t : Fin (cfgM m ok).N) (h0 : ¬ t.val % 60 = 0) :
    (outsAt0 m ok (hyps hm) 0 t.val t.isLt).2.2 = (outsAt0 m ok (hyps hm) 0 (t.val - 1) (Nat.lt_of_le_of_lt (Nat.sub_le _ _) t.isLt)).2.2 :=
  congrArg (fun o => o.2.2) (outsAt0_B m ok (hyps hm) 0 t h0 h0)

/-- The table's scratch holds the packed table after every point. -/
theorem scr (hm : Small m) : ∀ (n : ℕ) (hn : n < (cfgM m ok).N), (outsAt0 m ok (hyps hm) 0 n hn).2.2 = words m 0
  | 0, hn => scrA m hm ⟨0, hn⟩ (Nat.zero_mod _)
  | n + 1, hn => by
    by_cases h : (n + 1) % 60 = 0
    · exact scrA m hm ⟨n + 1, hn⟩ h
    · exact (scrB m hm ⟨n + 1, hn⟩ h).trans (scr hm n _)

end Cert.EmbedIdeal.Body
-- ==== Proof.EmbedValue.lean ====
/-  The two arrays the embedding call leaves: the projected embeddings, and the sums of each sentence's over its tokens. -/
module

public import proofs.«01_k».proof.Proof.EmbedPoint
public import proofs.«01_k».proof.Proof.EmbedStepB
public import Idealize.ShloMosaic.Lib.Pipeline.Covers
public import proofs.«01_k».proof.Proof.EmbedStepA
public import proofs.«01_k».proof.Proof.EmbedScr

@[expose] public section

set_option maxRecDepth 16384
set_option maxHeartbeats 2000000

noncomputable section

namespace Cert.EmbedIdeal.Body

open Idealize.ShloMosaic Idealize.ShloMosaic.TcCoe Idealize.SL.Sem
open Cert.EmbedIdeal Cert.EmbedIdeal.Gen Cert.EmbedIdeal.Tok Cert.Reals Cert.Head Cert.Emb

variable (m : (ℓ : Loc nD τ sig) → Buf (Elt Ideal) ℓ)

theorem x0_at (t : Fin (cfgM m ok).N) (d : Fin 512) (j : Fin 384) : (iblk m ok 0 0 t : FVec Ideal S512x384 .bf16) (ix2 d j) = col m j d.val :=
  (congrFun (blk0 m 0 t) (ix2 d j)).trans (w_at m 0 d j)

theorem x1_at (t : Fin (cfgM m ok).N) (j : Fin 384) : (iblk m ok 0 1 t : FVec Ideal S1x384 .f32) (ix2 0 j) = if h : j.val < 300 then b m 0 (ix1 ⟨j.val, h⟩) else 0 :=
  (congrFun (blk1 m 0 t) (ix2 0 j)).trans (b_at m 0 j)

/-- A core's running sum of `f` over its tokens, after the point `n`. -/
def run (f : ℕ → EReal) (n : ℕ) : EReal := ∑ k ∈ Finset.range (n % 60 + 1), ∑ p : Fin 256, f ((n / 60 * 60 + k) * 256 + p.val)

theorem run_zero (f : ℕ → EReal) (n : ℕ) (h : n % 60 = 0) : 0 + ∑ p : Fin 256, f (n * 256 + p.val) = run f n := by
  unfold run
  rw [h, zero_add, zero_add, Finset.sum_range_one, show n / 60 * 60 + 0 = n by omega]

theorem run_succ (f : ℕ → EReal) (n : ℕ) (h : ¬ n % 60 = 0) : run f (n - 1) + ∑ p : Fin 256, f (n * 256 + p.val) = run f n := by
  unfold run
  rw [show n % 60 + 1 = (n - 1) % 60 + 1 + 1 by omega, Finset.sum_range_succ _ ((n - 1) % 60 + 1), show (n - 1) / 60 = n / 60 by omega,
    show n / 60 * 60 + ((n - 1) % 60 + 1) = n by omega]

theorem run_all (f : ℕ → EReal) (n h : ℕ) (hn : n % 60 = 59) (hh : n / 60 = h) : run f n = ∑ r : Fin 15360, f (h * 15360 + r.val) := by
  unfold run
  rw [hn, hh, Fin.sum_univ_eq_sum_range (fun r => f (h * 15360 + r)), show (15360 : ℕ) = 60 * 256 from rfl, sum_blocks]
  refine Finset.sum_congr rfl fun k _ => Finset.sum_congr rfl fun p _ => congrArg f ?_
  ring

/-- The buffers after every point. -/
theorem points (hm : Small m) : ∀ (n : ℕ) (hn : n < (cfgM m ok).N),
    (∀ (p : Fin 256) (j : Fin 384), (outsAt0 m ok (hyps hm) 0 n hn).1 (ix3 0 p j) = val m (n * 256 + p.val) j)
    ∧ (∀ j : Fin 384, (outsAt0 m ok (hyps hm) 0 n hn).2.1 (ix3 0 0 j) = run (fun r => val m r j) n)
    ∧ (∀ j : Fin 384, (outsAt0 m ok (hyps hm) 0 n hn).2.1 (ix3 0 1 j) = run (fun r => val m r j * val m r j) n) := by
  intro n
  induction n with
  | zero =>
    intro hn
    obtain ⟨h1, h2, h3⟩ := leaves_at m (stepA m hm ⟨0, hn⟩ (Nat.zero_mod _)) (x0_at m _) (x1_at m _)
    exact ⟨h1, fun j => (h2 j).trans (run_zero (fun r => val m r j) 0 (Nat.zero_mod _)), fun j => (h3 j).trans (run_zero (fun r => val m r j * val m r j) 0 (Nat.zero_mod _))⟩
  | succ n ih =>
    intro hn
    by_cases h : (n + 1) % 60 = 0
    · obtain ⟨h1, h2, h3⟩ := leaves_at m (stepA m hm ⟨n + 1, hn⟩ h) (x0_at m _) (x1_at m _)
      exact ⟨h1, fun j => (h2 j).trans (run_zero (fun r => val m r j) (n + 1) h), fun j => (h3 j).trans (run_zero (fun r => val m r j * val m r j) (n + 1) h)⟩
    · obtain ⟨h1, h2, h3⟩ := leaves_at m (stepB m hm ⟨n + 1, hn⟩ h (scr m hm _ _)) (x0_at m _) (x1_at m _)
      obtain ⟨_, i2, i3⟩ := ih (Nat.lt_of_succ_lt hn)
      refine ⟨h1, fun j => (h2 j).trans ?_, fun j => (h3 j).trans ?_⟩
      · rw [← run_succ _ (n + 1) h]
        exact congrArg (· + _) (i2 j)
      · rw [← run_succ _ (n + 1) h]
        exact congrArg (· + _) (i3 j)

/-- The projected embeddings. -/
def P : S2x15360x384.Idx → EReal := fun y => val m ((y 0).val * 15360 + (y 1).val) (y 2)

/-- Their sums, and the sums of their squares. -/
def Q : S2x2x384.Idx → EReal := fun y =>
  if (y 1).val = 0 then ∑ r : Fin 15360, val m ((y 0).val * 15360 + r.val) (y 2)
  else ∑ r : Fin 15360, val m ((y 0).val * 15360 + r.val) (y 2) * val m ((y 0).val * 15360 + r.val) (y 2)

theorem covers2 : ((cfgM m ok).win 2).Covers := by
  refine Pipeline.Window.covers_of_index_surj _ rfl ?_ fun β => ?_
  · intro a; fin_cases a <;> exact Nat.succ_pos _
  have b0 : (β (0 : Fin 3)).val < (2 + 1 - 1) / 1 := (β (0 : Fin 3)).isLt
  have b1 : (β (1 : Fin 3)).val < (15360 + 256 - 1) / 256 := (β (1 : Fin 3)).isLt
  have b2 : (β (2 : Fin 3)).val < (384 + 384 - 1) / 384 := (β (2 : Fin 3)).isLt
  refine ⟨(⟨(β (0 : Fin 3)).val * 60 + (β (1 : Fin 3)).val, by show _ < 120; omega⟩ : Fin grid0.N), fun a => ?_⟩
  refine (congrFun (idx2 m _) a).trans ?_
  fin_cases a
  · show ((β (0 : Fin 3)).val * 60 + (β (1 : Fin 3)).val) / 60 = (β (0 : Fin 3)).val; omega
  · show ((β (0 : Fin 3)).val * 60 + (β (1 : Fin 3)).val) % 60 = (β (1 : Fin 3)).val; omega
  · show 0 = (β (2 : Fin 3)).val; omega

theorem covers3 : ((cfgM m ok).win 3).Covers := by
  refine Pipeline.Window.covers_of_index_surj _ rfl ?_ fun β => ?_
  · intro a; fin_cases a <;> exact Nat.succ_pos _
  have b0 : (β (0 : Fin 3)).val < (2 + 1 - 1) / 1 := (β (0 : Fin 3)).isLt
  have b1 : (β (1 : Fin 3)).val < (2 + 2 - 1) / 2 := (β (1 : Fin 3)).isLt
  have b2 : (β (2 : Fin 3)).val < (384 + 384 - 1) / 384 := (β (2 : Fin 3)).isLt
  refine ⟨(⟨(β (0 : Fin 3)).val * 60, by show _ < 120; omega⟩ : Fin grid0.N), fun a => ?_⟩
  refine (congrFun (idx3 m _) a).trans ?_
  fin_cases a
  · show ((β (0 : Fin 3)).val * 60) / 60 = (β (0 : Fin 3)).val; omega
  · show 0 = (β (1 : Fin 3)).val; omega
  · show 0 = (β (2 : Fin 3)).val; omega

theorem final2 (hm : Small m) : (dats m ok (hyps hm) 0 0).arrAt 2 (cfgM m ok).N = P m := by
  refine (dats m ok (hyps hm) 0 0).arrAt_eq_of_covers 2 _ (covers2 m) fun t hf y => ?_
  blk_simp
  rw [after0_2]
  obtain ⟨q, p, j, rfl⟩ : ∃ (q : Fin 1) (p : Fin 256) (j : Fin 384), (y : S1x256x384.Idx) = ix3 q p j := ⟨_, _, _, eq_ix3 y⟩
  obtain rfl : q = 0 := Subsingleton.elim _ _
  have ht : t.val < 120 := t.isLt
  refine ((points m hm t.val t.isLt).1 p j).trans ?_
  have e : (((cfgM m ok).win 2).blk t).view.emb (ix3 0 p j) = (ix3 ⟨t.val / 60, by omega⟩ ⟨t.val % 60 * 256 + p.val, by omega⟩ j : S2x15360x384.Idx) := by
    blk_ext []
    · exact congrFun (idx2 m t) 0
    · refine (congrArg (· * 256 + _) (congrFun (idx2 m t) 1)).trans ?_
      rfl
    · refine (congrArg (· * 384 + _) (congrFun (idx2 m t) 2)).trans ?_
      show 0 * 384 + _ = _
      simp
  rw [e]
  show _ = val m (t.val / 60 * 15360 + (t.val % 60 * 256 + p.val)) j
  congr 1
  omega

theorem final3 (hm : Small m) : (dats m ok (hyps hm) 0 0).arrAt 3 (cfgM m ok).N = Q m := by
  refine (dats m ok (hyps hm) 0 0).arrAt_eq_of_covers 3 _ (covers3 m) fun t hf y => ?_
  blk_simp
  rw [after0_3]
  obtain ⟨q, k, j, rfl⟩ : ∃ (q : Fin 1) (k : Fin 2) (j : Fin 384), (y : S1x2x384.Idx) = ix3 q k j := ⟨_, _, _, eq_ix3 y⟩
  obtain rfl : q = 0 := Subsingleton.elim _ _
  have ht : t.val < 120 := t.isLt
  have h59 : t.val % 60 = 59 := (flush0_3 _ t).mp hf
  have e : (((cfgM m ok).win 3).blk t).view.emb (ix3 0 k j) = (ix3 ⟨t.val / 60, by omega⟩ k j : S2x2x384.Idx) := by
    blk_ext []
    · exact congrFun (idx3 m t) 0
    · refine (congrArg (· * 2 + _) (congrFun (idx3 m t) 1)).trans ?_
      show 0 * 2 + _ = _
      simp
    · refine (congrArg (· * 384 + _) (congrFun (idx3 m t) 2)).trans ?_
      show 0 * 384 + _ = _
      simp
  rw [e]
  obtain ⟨_, h2, h3⟩ := points m hm t.val t.isLt
  fin_cases k
  · exact (h2 j).trans (run_all _ t.val (t.val / 60) h59 rfl)
  · exact (h3 j).trans (run_all _ t.val (t.val / 60) h59 rfl)

end Cert.EmbedIdeal.Body
-- ==== Proof.EmbedRef.lean ====
/-  The reference of the embedding call over the extended reals, an entry at a time: the token's row out of the unpacked table, its projection
    and bias, the padding, and the sums down the rows. -/
module

public import proofs.«01_k».proof.Proof.Gen.EmbedRefIdeal.Run
public import proofs.«01_k».proof.Proof.EmbedMath
public import proofs.«01_k».proof.Proof.MlpBody
public import Idealize.ShloMosaic.Lib.Pointwise
public import Idealize.ShloMosaic.Lib.BitcastConvert
public import Idealize.ShloMosaic.Lib.Pipeline.ValueKit

@[expose] public section

set_option maxRecDepth 16384
set_option maxHeartbeats 2000000

noncomputable section

namespace Cert.EmbedRefIdeal.Steps

open Idealize.ShloMosaic
open Cert.EmbedRefIdeal Cert.EmbedRefIdeal.Gen Cert.Reals Cert.Head Cert.Emb

/-- The rows a gather takes. -/
theorem gather_at (x : S50000x300.Idx → EReal) (idx : IVec S30720x1 32) (r : Fin 30720) (k : Fin 300) :
    Host.gather gather_S50000x300_S30720x1_S30720x300_1_0_n_n_0_1_1300 x idx (ix2 r k)
      = x (ix2 ⟨min (idx (ix2 r 0)).toInt.toNat 49999, by omega⟩ k) := by
  unfold Host.gather
  congr 1
  funext a
  refine Fin.ext ?_
  fin_cases a
  · show (gather_S50000x300_S30720x1_S30720x300_1_0_n_n_0_1_1300).start (ix2 r k) idx 0 + (gather_S50000x300_S30720x1_S30720x300_1_0_n_n_0_1_1300).batchCoord (ix2 r k) 0
      + (gather_S50000x300_S30720x1_S30720x300_1_0_n_n_0_1_1300).offCoord (ix2 r k) 0 = _
    rw [GatherDims.batchCoord_eq_zero _ _ _ (fun h => by simp [gather_S50000x300_S30720x1_S30720x300_1_0_n_n_0_1_1300] at h),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S50000x300_S30720x1_S30720x300_1_0_n_n_0_1_1300).startIndexMap from List.mem_singleton.mpr rfl)]
    have hsi : (gather_S50000x300_S30720x1_S30720x300_1_0_n_n_0_1_1300).siIdx (ix2 r k) ⟨List.idxOf (0 : Fin 2) (gather_S50000x300_S30720x1_S30720x300_1_0_n_n_0_1_1300).startIndexMap,
        List.idxOf_lt_length_iff.2 (List.mem_singleton.mpr rfl)⟩ = ix2 r 0 := by
      funext b
      refine Fin.ext ?_
      fin_cases b
      · rfl
      · rfl
    rw [hsi]
    rfl
  · show (gather_S50000x300_S30720x1_S30720x300_1_0_n_n_0_1_1300).start (ix2 r k) idx 1 + (gather_S50000x300_S30720x1_S30720x300_1_0_n_n_0_1_1300).batchCoord (ix2 r k) 1
      + (gather_S50000x300_S30720x1_S30720x300_1_0_n_n_0_1_1300).offCoord (ix2 r k) 1 = _
    rw [GatherDims.batchCoord_eq_zero _ _ _ (fun h => by simp [gather_S50000x300_S30720x1_S30720x300_1_0_n_n_0_1_1300] at h)]
    have hs : (gather_S50000x300_S30720x1_S30720x300_1_0_n_n_0_1_1300).start (ix2 r k) idx 1 = 0 := by
      unfold GatherDims.start
      exact dif_neg (by decide)
    rw [hs]
    simp only [Nat.add_zero, Nat.zero_add]
    rfl

/-- The table unpacked. -/
theorem table_at (A : IVec S100000x128 32) (n : Fin 50000) (k : Fin 300) :
    (extractStridedSlice S50000x300 ![0, 0] (shapeCast S50000x512 (transpose S50000x2x2x128 [0, 1, 3, 2] (shapeCast S50000x2x128x2 (extf (F := Ideal) .f32
      (bitcastToFloat (F := Ideal) .bf16 (Host.bitcastConvertNarrow S100000x128x2 16 A splits_S100000x128_w32_S100000x128x2_w16)) bitsLt_bf16_f32)
        shapeCasts_S100000x128x2_S50000x2x128x2) transposes_S50000x2x128x2_S50000x2x2x128_0_1_3_2) shapeCasts_S50000x2x2x128_S50000x512) slices_S50000x512_S50000x300_0_0 : S50000x300.Idx → EReal) (ix2 n k)
      = entry A n.val k.val := by
  pointwise
  have h1 : 2 * n.val + k.val / 256 < 100000 := by omega
  have e : splits_S100000x128_w32_S100000x128x2_w16.drop (ix3 ⟨n.val * 2 + k.val / 256, by omega⟩ ⟨k.val % 128, by omega⟩ ⟨k.val / 128 % 2, by omega⟩)
      = ix2 ⟨2 * n.val + k.val / 256, h1⟩ ⟨k.val % 128, Nat.mod_lt _ (by decide)⟩ := by
    funext a
    refine Fin.ext ?_
    fin_cases a
    · show n.val * 2 + k.val / 256 = 2 * n.val + k.val / 256; omega
    · rfl
  unfold entry half word
  rw [dif_pos h1, Nat.mul_comm 16]
  exact congrArg (fun y => Ideal.ofBits .bf16 (BitVec.extractLsb' (k.val / 128 % 2 * 16) 16 (A y))) e

theorem slt_small (x : BitVec 32) (h : x.toNat < 50000) : IntOp.cmpi .slt x 0#32 = 0#1 := by
  have h2 : x.toInt = x.toNat := by rw [BitVec.toInt_eq_toNat_cond, if_pos (by omega)]
  have h3 : BitVec.slt x 0#32 = false := by
    rw [BitVec.slt_eq_decide, h2]
    simp
  show BitVec.ofBool (BitVec.slt x 0#32) = 0#1
  rw [h3]
  rfl

theorem row_at (x : IVec S30720 32) (n : Fin 30720 → ℕ) (h : ∀ r, (x (ix1 r)).toNat = n r) (hn : ∀ r, n r < 50000) (r : Fin 30720) :
    (broadcastInDim S30720x1 ![0] bcast_S30720_S30720x1_0 (select (cmpi .slt x (broadcastInDim S30720 ![] bcast_S_S30720 (constantI S_ 32 0#32)))
      (addi x (broadcastInDim S30720 ![] bcast_S_S30720 (constantI S_ 32 50000#32))) x) : IVec S30720x1 32) (ix2 r 0) = x (ix1 r) := by
  pointwise
  rw [slt_small _ (by rw [h]; exact hn r)]
  rfl

end Cert.EmbedRefIdeal.Steps
-- ==== Proof.EmbedRefValue.lean ====
/-  The reference of the embedding call over the extended reals, whole: the projected embedding of a token, padded, and the two sums down the rows. -/
module

public import proofs.«01_k».proof.Proof.Gen.EmbedRefIdeal.Run
public import proofs.«01_k».proof.Proof.EmbedRef
public import proofs.«01_k».proof.Proof.MlpBody
public import Idealize.ShloMosaic.Lib.Pointwise
public import Idealize.ShloMosaic.Lib.BitcastConvert
public import Idealize.ShloMosaic.Lib.Pipeline.ValueKit

@[expose] public section

set_option maxRecDepth 16384
set_option maxHeartbeats 2000000

noncomputable section

namespace Cert.EmbedRefIdeal.Steps

open Idealize.ShloMosaic
open Cert.EmbedRefIdeal Cert.EmbedRefIdeal.Gen Cert.Reals Cert.Head Cert.Emb

/-- The tokens in the reference's order. -/
def toks (s1 s2 : IVec S60x256 32) : IVec S30720 32 :=
  concatenate S30720 0 [⟨S15360, shapeCast _ s1 shapeCasts_S60x256_S15360⟩, ⟨S15360, shapeCast _ s2 shapeCasts_S60x256_S15360⟩] concatenates_S15360_S15360_S30720_d0

theorem toks_at (s1 s2 : IVec S60x256 32) (r : Fin 30720) : toks s1 s2 (ix1 r)
    = if h : r.val < 15360 then s1 (ix2 ⟨r.val / 256, by omega⟩ ⟨r.val % 256, by omega⟩)
      else s2 (ix2 ⟨(r.val - 15360) / 256, by omega⟩ ⟨(r.val - 15360) % 256, by omega⟩) := by
  unfold toks
  pointwise

/-- The projection of gathered rows `E`, in two sentences and padded. -/
def projOf (E : FVec Ideal S30720x300 .f32) (W : FVec Ideal S300x300 .f32) (b : FVec Ideal S300 .f32) : FVec Ideal S2x15360x384 .f32 :=
  pad S2x15360x384 ![0, 0, 0] ![0, 0, 84] ![0, 0, 0] (shapeCast _ (addf (Host.dotGeneral dot_S30720x300_S300x300_S30720x300_1_0_0_1_n_n none E
    (transpose S300x300 [1, 0] W transposes_S300x300_S300x300_1_0)) (broadcastInDim S30720x300 ![0, 1] bcast_S1x300_S30720x300_0_1 (broadcastInDim S1x300 ![1] bcast_S300_S1x300_1 b)))
      shapeCasts_S30720x300_S2x15360x300) (sitofp .f32 (constantI S_ 32 0#32)) pads_S2x15360x300_S2x15360x384_000_000_0840 h_S_

theorem projOf_at (E : FVec Ideal S30720x300 .f32) (W : FVec Ideal S300x300 .f32) (b : FVec Ideal S300 .f32) (h : Fin 2) (r : Fin 15360) (j : Fin 384) :
    projOf E W b (ix3 h r j) = if hj : j.val < 300 then (∑ k : Fin 300, E (ix2 ⟨h.val * 15360 + r.val, by omega⟩ k) * W (ix2 ⟨j.val, hj⟩ k) : EReal) + b (ix1 ⟨j.val, hj⟩) else 0 := by
  unfold projOf
  pointwise
  rw [show (FloatOps.sitofp (F := Ideal) FTy.f32 (0#32 : BitVec 32)) = (0 : EReal) from int_zero]

/-- The projected embeddings, as the reference computes them. -/
def projT (A : IVec S100000x128 32) (W : FVec Ideal S300x300 .f32) (b : FVec Ideal S300 .f32) (s1 s2 : IVec S60x256 32) : FVec Ideal S2x15360x384 .f32 :=
  projOf (Host.gather gather_S50000x300_S30720x1_S30720x300_1_0_n_n_0_1_1300 (extractStridedSlice S50000x300 ![0, 0] (shapeCast S50000x512 (transpose S50000x2x2x128 [0, 1, 3, 2] (shapeCast S50000x2x128x2 (extf (F := Ideal) .f32
      (bitcastToFloat (F := Ideal) .bf16 (Host.bitcastConvertNarrow S100000x128x2 16 A splits_S100000x128_w32_S100000x128x2_w16)) bitsLt_bf16_f32)
        shapeCasts_S100000x128x2_S50000x2x128x2) transposes_S50000x2x128x2_S50000x2x2x128_0_1_3_2) shapeCasts_S50000x2x2x128_S50000x512) slices_S50000x512_S50000x300_0_0)
    (broadcastInDim S30720x1 ![0] bcast_S30720_S30720x1_0 (select (cmpi .slt (toks s1 s2) (broadcastInDim S30720 ![] bcast_S_S30720 (constantI S_ 32 0#32)))
      (addi (toks s1 s2) (broadcastInDim S30720 ![] bcast_S_S30720 (constantI S_ 32 50000#32))) (toks s1 s2)))) W b

theorem gathered (T : S50000x300.Idx → EReal) (A : IVec S100000x128 32) (hT : ∀ n k, T (ix2 n k) = entry A n.val k.val) (x : IVec S30720 32)
    (hn : ∀ r, (x (ix1 r)).toNat < 50000) (r : Fin 30720) (k : Fin 300) (idx : IVec S30720x1 32) (hi : idx (ix2 r 0) = x (ix1 r)) :
    Host.gather gather_S50000x300_S30720x1_S30720x300_1_0_n_n_0_1_1300 T idx (ix2 r k) = entry A (x (ix1 r)).toNat k.val := by
  rw [gather_at, hT]
  have hb := hn r
  have e : (x (ix1 r)).toInt = ((x (ix1 r)).toNat : ℤ) := by rw [BitVec.toInt_eq_toNat_cond, if_pos (by omega)]
  have e2 : min (idx (ix2 r 0)).toInt.toNat 49999 = (x (ix1 r)).toNat := by rw [hi, e, Int.toNat_natCast]; omega
  exact congrArg (fun n => entry A n k.val) e2

theorem proj_of (E : FVec Ideal S30720x300 .f32) (W : FVec Ideal S300x300 .f32) (b : FVec Ideal S300 .f32) (A : IVec S100000x128 32) (n : Fin 30720 → ℕ)
    (hE : ∀ r k, E (ix2 r k) = entry A (n r) k.val) (h : Fin 2) (r : Fin 15360) (j : Fin 384) :
    projOf E W b (ix3 h r j) = proj A W b (n ⟨h.val * 15360 + r.val, by omega⟩) j := by
  rw [projOf_at]
  unfold proj
  split
  · simp only [hE]
  · rfl

theorem projT_at (A : IVec S100000x128 32) (W : FVec Ideal S300x300 .f32) (b : FVec Ideal S300 .f32) (s1 s2 : IVec S60x256 32)
    (hn : ∀ r, (toks s1 s2 (ix1 r)).toNat < 50000) (h : Fin 2) (r : Fin 15360) (j : Fin 384) :
    projT A W b s1 s2 (ix3 h r j) = proj A W b (toks s1 s2 (ix1 ⟨h.val * 15360 + r.val, by omega⟩)).toNat j := by
  unfold projT
  exact proj_of _ W b A (fun r => (toks s1 s2 (ix1 r)).toNat)
    (fun r k => gathered _ A (table_at A) (toks s1 s2) hn r k _ (row_at (toks s1 s2) (fun r => (toks s1 s2 (ix1 r)).toNat) (fun _ => rfl) hn r)) h r j

/-- The two sums down the rows. -/
def statsOf (P : FVec Ideal S2x15360x384 .f32) : FVec Ideal S2x2x384 .f32 :=
  concatenate S2x2x384 1 [⟨S2x1x384, broadcastInDim S2x1x384 ![0, 2] bcast_S2x384_S2x1x384_0_2 (Host.reduceAdd P (constant S_ .f32 0x00000000#32) reducesTo_S2x15360x384_S2x384_d1 h_S_)⟩,
    ⟨S2x1x384, broadcastInDim S2x1x384 ![0, 2] bcast_S2x384_S2x1x384_0_2 (Host.reduceAdd (mulf P P) (constant S_ .f32 0x00000000#32) reducesTo_S2x15360x384_S2x384_d1 h_S_)⟩]
    concatenates_S2x1x384_S2x1x384_S2x2x384_d1

theorem sum_at (P : FVec Ideal S2x15360x384 .f32) (h : Fin 2) (j : Fin 384) : statsOf P (ix3 h 0 j) = (∑ r : Fin 15360, P (ix3 h r j) : EReal) := by
  unfold statsOf
  pointwise

theorem square_at (P : FVec Ideal S2x15360x384 .f32) (h : Fin 2) (j : Fin 384) : statsOf P (ix3 h 1 j) = (∑ r : Fin 15360, P (ix3 h r j) * P (ix3 h r j) : EReal) := by
  unfold statsOf
  pointwise

end Cert.EmbedRefIdeal.Steps
-- ==== Proof.EmbedTie.lean ====
/-  The embedding call's two results are the reference's: the same projected rows, and the same sums over each sentence's rows. -/
module

public import proofs.«01_k».proof.Proof.EmbedValue
public import proofs.«01_k».proof.Proof.EmbedRefValue

@[expose] public section

set_option maxHeartbeats 2000000
noncomputable section

namespace Cert.EmbedIdeal.Body

open Idealize.ShloMosaic Idealize.ShloMosaic.TcCoe Idealize.SL.Sem
open Cert.EmbedIdeal Cert.EmbedIdeal.Gen Cert.EmbedIdeal.Tok Cert.Reals Cert.Head Cert.Emb
open Cert.EmbedRefIdeal.Steps

variable (m : (ℓ : Loc nD τ sig) → Buf (Elt Ideal) ℓ)

/-- Both programs read the tokens in one order. -/
theorem toks_eq (r : Fin 30720) : toks (s1 m 0) (s2 m 0) (ix1 r) = tok m 0 r := by
  rw [toks_at]
  rfl

/-- The reference's projected rows, of the kernel's arguments. -/
def R : S2x15360x384.Idx → EReal := projT (words m 0) (W m 0) (b m 0) (s1 m 0) (s2 m 0)

theorem R_at (hm : Small m) (h : Fin 2) (r : Fin 15360) (j : Fin 384) : R m (ix3 h r j) = val m (h.val * 15360 + r.val) j := by
  unfold R val
  rw [projT_at _ _ _ _ _ (fun r => (congrArg BitVec.toNat (toks_eq m r)).trans_lt (tok_lt hm 0 r)), dif_pos (by omega), toks_eq]

theorem rows_eq (hm : Small m) : P m = R m := by
  funext y
  have e : y = ix3 (y 0) (y 1) (y 2) := by funext a; fin_cases a <;> rfl
  exact (R_at m hm (y 0) (y 1) (y 2)).symm.trans (congrArg (R m) e.symm)

theorem sums_eq (hm : Small m) : Q m = statsOf (R m) := by
  funext y
  have e : y = ix3 (y 0) (y 1) (y 2) := by funext a; fin_cases a <;> rfl
  have k : y 1 = (0 : Fin 2) ∨ y 1 = (1 : Fin 2) := by
    rcases (show (y 1).val = 0 ∨ (y 1).val = 1 by
      have : (y 1).val < 2 := (y 1).isLt
      omega) with h | h
    · exact Or.inl (Fin.ext h)
    · exact Or.inr (Fin.ext h)
  rcases k with k | k <;> rw [k] at e
  · refine Eq.trans ?_ ((sum_at (R m) (y 0) (y 2)).symm.trans (congrArg (statsOf (R m)) e.symm))
    refine (if_pos (show (y 1).val = 0 from congrArg Fin.val k)).trans ?_
    exact Finset.sum_congr rfl fun r _ => (R_at m hm (y 0) r (y 2)).symm
  · refine Eq.trans ?_ ((square_at (R m) (y 0) (y 2)).symm.trans (congrArg (statsOf (R m)) e.symm))
    refine (if_neg (show ¬ (y 1).val = 0 from fun h => Nat.one_ne_zero ((congrArg Fin.val k).symm.trans h))).trans ?_
    exact Finset.sum_congr rfl fun r _ => congrArg₂ (· * ·) (R_at m hm (y 0) r (y 2)).symm (R_at m hm (y 0) r (y 2)).symm

end Cert.EmbedIdeal.Body
-- ==== Proof.lean ====
/-  The claims of this certificate, from the modules under Proof/. The LSTM call: both programs run and leave the hidden states
    named by `Run.Gout` (Proof/LstmRun, Proof/LstmIdealRun); the reference runs to its loop's state after 60 trips
    (Proof/LstmRefSteps); over the extended reals the two are one array (Proof/LstmValue). The distances' call: the two results are
    one array where the states are numbers (Proof/DistValue). The head's call: on real arguments the kernel's result and the
    reference's are both the head's (Proof/MlpValue, Proof/MlpRefValue). -/
module

public import proofs.«01_k».proof.Defs
public import proofs.«01_k».proof.Proof.Gen.Lstm
public import proofs.«01_k».proof.Proof.Gen.Lstm.Skeleton
public import proofs.«01_k».proof.Proof.Gen.Lstm.Loops
public import proofs.«01_k».proof.Proof.Gen.Lstm.Launch
public import proofs.«01_k».proof.Proof.Gen.Lstm.Points
public import proofs.«01_k».proof.Proof.Gen.Lstm.Frame
public import proofs.«01_k».proof.Proof.Gen.LstmIdeal
public import proofs.«01_k».proof.Proof.Gen.LstmIdeal.Skeleton
public import proofs.«01_k».proof.Proof.Gen.LstmIdeal.Loops
public import proofs.«01_k».proof.Proof.Gen.LstmIdeal.Launch
public import proofs.«01_k».proof.Proof.Gen.LstmIdeal.Points
public import proofs.«01_k».proof.Proof.Gen.LstmIdeal.Frame
public import proofs.«01_k».proof.Proof.Gen.LstmRefIdeal
public import proofs.«01_k».proof.Proof.Gen.LstmRefIdeal.Step
public import proofs.«01_k».proof.Proof.Gen.LstmRefIdeal.Run
public import proofs.«01_k».proof.Proof.LstmRun
public import proofs.«01_k».proof.Proof.LstmIdealRun
public import proofs.«01_k».proof.Proof.LstmRefSteps
public import proofs.«01_k».proof.Proof.LstmValue
public import proofs.«01_k».proof.Proof.Gen.Dist
public import proofs.«01_k».proof.Proof.Gen.Dist.Frame
public import proofs.«01_k».proof.Proof.Gen.DistIdeal
public import proofs.«01_k».proof.Proof.Gen.DistIdeal.Frame
public import proofs.«01_k».proof.Proof.Gen.DistIdeal.Value
public import proofs.«01_k».proof.Proof.Gen.DistRefIdeal
public import proofs.«01_k».proof.Proof.Gen.DistRefIdeal.Run
public import proofs.«01_k».proof.Proof.Gen.Mlp
public import proofs.«01_k».proof.Proof.Gen.Mlp.Frame
public import proofs.«01_k».proof.Proof.Gen.MlpIdeal
public import proofs.«01_k».proof.Proof.Gen.MlpIdeal.Frame
public import proofs.«01_k».proof.Proof.Gen.MlpRefIdeal
public import proofs.«01_k».proof.Proof.Gen.MlpRefIdeal.Run
public import proofs.«01_k».proof.Proof.FiniteStates
public import proofs.«01_k».proof.Proof.DistValue
public import proofs.«01_k».proof.Proof.FiniteHead
public import proofs.«01_k».proof.Proof.MlpValue
public import proofs.«01_k».proof.Proof.MlpRefValue
public import Idealize.ShloMosaic.Lib.Quiescent
public import proofs.«01_k».proof.Proof.EmbedHyps
public import proofs.«01_k».proof.Proof.EmbedIdealHyps
public import proofs.«01_k».proof.Proof.EmbedTie
public import proofs.«01_k».proof.Proof.EmbedRefValue
public import proofs.«01_k».proof.Proof.Tokens
public import proofs.«01_k».proof.Proof.Gen.Embed
public import proofs.«01_k».proof.Proof.Gen.Embed.Frame
public import proofs.«01_k».proof.Proof.Gen.EmbedIdeal
public import proofs.«01_k».proof.Proof.Gen.EmbedIdeal.Frame
public import proofs.«01_k».proof.Proof.Gen.EmbedRefIdeal
public import proofs.«01_k».proof.Proof.Gen.EmbedRefIdeal.Run

@[expose] public section

noncomputable section

namespace Cert.Proof

open Idealize.ShloMosaic Idealize.ShloMosaic.TcCoe Idealize.SL.Sem

/-! ## The LSTM call -/

theorem lstm_frame : Cert.quiescent_Lstm := fun m g _ =>
  (θ_run _ _ _).mono (fun r h => ⟨fun c => (h.1 c).2, h.2⟩) (Cert.Lstm.Run.run m g)

theorem lstmIdeal_frame : Cert.quiescent_LstmIdeal := fun m g _ =>
  (θ_run _ _ _).mono (fun r h => ⟨fun c => (h.1 c).2, h.2⟩) (Cert.LstmIdeal.Run.run m g)

theorem lstmRef_frame : Cert.quiescent_LstmRefIdeal := fun m g _ =>
  (θ_run _ _ _).mono (fun r h => ⟨fun c => (h c).2, sem_eq_zero_of_no_sems (by decide) r.2⟩) (Cert.LstmRefIdeal.Trips.run m g)

theorem lstm_value : Cert.algebraic_LstmIdeal_LstmRefIdeal := fun m g m' g' _ hagree => by
  refine ⟨fun c => Cert.LstmIdeal.Run.Gout m c, (θ_run _ _ _).mono (fun r h => h.1) (Cert.LstmIdeal.Run.run m g),
    (θ_run _ _ _).mono (fun r h c => ⟨(h c).1.trans ?_, (h c).2⟩) (Cert.LstmRefIdeal.Trips.run m' g')⟩
  obtain ⟨h0, h1, h2, h3, h4, h5, h6, h7⟩ := hagree c
  refine Eq.trans ?_ (Cert.LstmIdeal.Tie.out_eq m c).symm
  have e : Cert.LstmRefIdeal.Trips.start m' c = Cert.LstmIdeal.Tie.start m c := by
    unfold Cert.LstmRefIdeal.Trips.start
    rw [h0, h1, h2, h3, h4, h5, h6, h7]
    rfl
  rw [e]

/-! ## The pairwise distances' call -/

theorem dist_frame : Cert.quiescent_Dist := fun m g _ => Cert.Dist.Gen.frame m g

theorem distIdeal_frame : Cert.quiescent_DistIdeal := fun m g _ => Cert.DistIdeal.Gen.frame m g

theorem distRef_frame : Cert.quiescent_DistRefIdeal := fun m g _ =>
  (θ_run _ _ _).mono (fun r h => ⟨fun c => (h c).2, sem_eq_zero_of_no_sems (by decide) r.2⟩) (Cert.DistRefIdeal.Value.run m g)

theorem dist_value : Cert.algebraic_DistIdeal_DistRefIdeal_pre_finite_states := fun m g m' g' hpre hagree => by
  refine ⟨fun c => Cert.DistIdeal.Tie.G (Cert.DistIdeal.Tie.A0 m c),
    (θ_run _ _ _).mono (fun r h c => ⟨(h c).1.trans (Cert.DistIdeal.Tie.final m c (Cert.Reals.states_fin _ (hpre c))), (h c).2⟩)
      (Cert.DistIdeal.Value.run_blocks m g),
    (θ_run _ _ _).mono (fun r h c => ⟨(h c).1.trans ?_, (h c).2⟩) (Cert.DistIdeal.Tie.ref_run m' g')⟩
  rw [hagree c]
  rfl

/-! ## The MLP head's call -/

theorem mlp_frame : Cert.quiescent_Mlp := fun m g _ => Cert.Mlp.Gen.frame m g

theorem mlpIdeal_frame : Cert.quiescent_MlpIdeal := fun m g _ => Cert.MlpIdeal.Gen.frame m g

theorem mlpRef_frame : Cert.quiescent_MlpRefIdeal := fun m g _ =>
  (θ_run _ _ _).mono (fun r h => ⟨fun c => (h c).2, sem_eq_zero_of_no_sems (by decide) r.2⟩) (Cert.MlpRefIdeal.Value.run m g)

section
open Cert.MlpIdeal Cert.MlpIdeal.Gen

/-- The head's run, with its result on real arguments. -/
theorem mlp_run (m : (ℓ : Loc nD τ sig) → Buf (Elt Ideal) ℓ) (g : Dev nD → PrngReg) (hpre : ∀ c, (Cert.MlpIdeal.Tie.args m c).Real) :
    θ_run (defs (F := Ideal)) (onTc (τ := τ) (main (F := Ideal))) ⟨m, fun _ => 0, g⟩ fun r => ∀ c : Dev nD,
      r.2.mem ((c.tc : Thread nD τ).loc main_v17) = (Cert.MlpIdeal.Tie.args m c).out ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) := by
  refine (θ_run _ _ _).mono (fun r h c => ?_) (run_main m g)
  have k : ∀ b hb, _ := (h c).2
  exact ⟨(k main_v17 (Pipeline.mem_restRefs_of main_v17 (by decide) (by decide))).trans (Cert.MlpIdeal.Tie.value m c (hpre c)),
    (k main_arg0 (Pipeline.mem_restRefs_of main_arg0 (by decide) (by decide))).trans (W_main_arg0 m (dats m) c),
    (k main_arg1 (Pipeline.mem_restRefs_of main_arg1 (by decide) (by decide))).trans (W_main_arg1 m (dats m) c),
    (k main_arg2 (Pipeline.mem_restRefs_of main_arg2 (by decide) (by decide))).trans (W_main_arg2 m (dats m) c),
    (k main_arg3 (Pipeline.mem_restRefs_of main_arg3 (by decide) (by decide))).trans (W_main_arg3 m (dats m) c),
    (k main_arg4 (Pipeline.mem_restRefs_of main_arg4 (by decide) (by decide))).trans (W_main_arg4 m (dats m) c),
    (k main_arg5 (Pipeline.mem_restRefs_of main_arg5 (by decide) (by decide))).trans (W_main_arg5 m (dats m) c),
    (k main_arg6 (Pipeline.mem_restRefs_of main_arg6 (by decide) (by decide))).trans (W_main_arg6 m (dats m) c),
    (k main_arg7 (Pipeline.mem_restRefs_of main_arg7 (by decide) (by decide))).trans (W_main_arg7 m (dats m) c),
    (k main_arg8 (Pipeline.mem_restRefs_of main_arg8 (by decide) (by decide))).trans (W_main_arg8 m (dats m) c),
    (k main_arg9 (Pipeline.mem_restRefs_of main_arg9 (by decide) (by decide))).trans (W_main_arg9 m (dats m) c),
    (k main_arg10 (Pipeline.mem_restRefs_of main_arg10 (by decide) (by decide))).trans (W_main_arg10 m (dats m) c),
    (k main_arg11 (Pipeline.mem_restRefs_of main_arg11 (by decide) (by decide))).trans (W_main_arg11 m (dats m) c)⟩

end

theorem mlp_value : Cert.algebraic_MlpIdeal_MlpRefIdeal_pre_finite_head := fun m g m' g' hpre hagree => by
  refine ⟨fun c => (Cert.MlpIdeal.Tie.args m c).out, mlp_run m g fun c => Cert.Reals.head_fin _ _ _ _ _ _ _ _ _ _ _ _ (hpre c),
    (θ_run _ _ _).mono (fun r h c => ⟨(h c).1.trans ((Cert.MlpRefIdeal.Steps.out_eq _).trans ?_), (h c).2⟩) (Cert.MlpRefIdeal.Value.run m' g')⟩
  obtain ⟨h0, h1, h2, h3, h4, h5, h6, h7, h8, h9, h10, h11⟩ := hagree c
  have e : Cert.MlpRefIdeal.Steps.args (StableHlo.launchContents m' c) = Cert.MlpIdeal.Tie.args m c := by
    show Cert.Head.Args.mk (m' ((c.tc : Thread Cert.MlpRefIdeal.nD Cert.MlpRefIdeal.τ).loc Cert.MlpRefIdeal.main_arg0))
      (m' ((c.tc : Thread Cert.MlpRefIdeal.nD Cert.MlpRefIdeal.τ).loc Cert.MlpRefIdeal.main_arg1))
      (m' ((c.tc : Thread Cert.MlpRefIdeal.nD Cert.MlpRefIdeal.τ).loc Cert.MlpRefIdeal.main_arg2))
      (m' ((c.tc : Thread Cert.MlpRefIdeal.nD Cert.MlpRefIdeal.τ).loc Cert.MlpRefIdeal.main_arg3))
      (m' ((c.tc : Thread Cert.MlpRefIdeal.nD Cert.MlpRefIdeal.τ).loc Cert.MlpRefIdeal.main_arg4))
      (m' ((c.tc : Thread Cert.MlpRefIdeal.nD Cert.MlpRefIdeal.τ).loc Cert.MlpRefIdeal.main_arg5))
      (m' ((c.tc : Thread Cert.MlpRefIdeal.nD Cert.MlpRefIdeal.τ).loc Cert.MlpRefIdeal.main_arg6))
      (m' ((c.tc : Thread Cert.MlpRefIdeal.nD Cert.MlpRefIdeal.τ).loc Cert.MlpRefIdeal.main_arg7))
      (m' ((c.tc : Thread Cert.MlpRefIdeal.nD Cert.MlpRefIdeal.τ).loc Cert.MlpRefIdeal.main_arg8))
      (m' ((c.tc : Thread Cert.MlpRefIdeal.nD Cert.MlpRefIdeal.τ).loc Cert.MlpRefIdeal.main_arg9))
      (m' ((c.tc : Thread Cert.MlpRefIdeal.nD Cert.MlpRefIdeal.τ).loc Cert.MlpRefIdeal.main_arg10))
      (m' ((c.tc : Thread Cert.MlpRefIdeal.nD Cert.MlpRefIdeal.τ).loc Cert.MlpRefIdeal.main_arg11)) = _
    rw [h0, h1, h2, h3, h4, h5, h6, h7, h8, h9, h10, h11]
    rfl
  rw [e]

/-! ## The embedding's call -/

theorem embed_frame : Cert.quiescent_Embed := fun m g h =>
  Cert.Embed.Gen.frame m g Cert.Embed.Tok.ok (Cert.Embed.Tok.hyps fun c i => Cert.Tokens.tokens_lt _ _ _ _ _ (h c) i)

theorem small_of (m : (ℓ : Loc Cert.EmbedIdeal.nD Cert.EmbedIdeal.τ Cert.EmbedIdeal.sig) → Buf (Elt Ideal) ℓ) (h : Cert.Pre_EmbedIdeal m) : Cert.EmbedIdeal.Tok.Small m :=
  fun c i => Cert.Tokens.tokens_lt _ _ _ _ _ (h c) i

theorem embedIdeal_frame : Cert.quiescent_EmbedIdeal := fun m g h =>
  Cert.EmbedIdeal.Gen.frame m g Cert.EmbedIdeal.Tok.ok (Cert.EmbedIdeal.Tok.hyps (small_of m h))

theorem embedRef_frame : Cert.quiescent_EmbedRefIdeal := fun m g _ =>
  (θ_run _ _ _).mono (fun r h => ⟨fun c => (h c).2.2, sem_eq_zero_of_no_sems (by decide) r.2⟩) (Cert.EmbedRefIdeal.Value.run m g)

section
open Cert.EmbedIdeal Cert.EmbedIdeal.Gen Cert.EmbedIdeal.Tok Cert.EmbedIdeal.Body

/-- The embedding's run, with its two results. -/
theorem embed_run (m : (ℓ : Loc nD τ sig) → Buf (Elt Ideal) ℓ) (g : Dev nD → PrngReg) (hm : Small m) :
    θ_run (defs (F := Ideal)) (onTc (τ := τ) (main (F := Ideal))) ⟨m, fun _ => 0, g⟩ fun r => ∀ c : Dev nD,
      r.2.mem ((c.tc : Thread nD τ).loc main_v10_0) = R m ∧
      r.2.mem ((c.tc : Thread nD τ).loc main_v10_1) = Cert.EmbedRefIdeal.Steps.statsOf (R m) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) := by
  refine (θ_run _ _ _).mono (fun r h c => ?_) (θ_run_and (run_main m g ok (hyps hm)) (unchanged m g ok (hyps hm)))
  obtain rfl : c = 0 := Subsingleton.elim c 0
  exact ⟨((h.1 0).1 2).trans ((final2 m hm).trans (rows_eq m hm)), ((h.1 0).1 3).trans ((final3 m hm).trans (sums_eq m hm)), h.2 0⟩

end

theorem embed_value : Cert.algebraic_EmbedIdeal_EmbedRefIdeal := fun m g m' g' hpre hagree => by
  refine ⟨fun _ => Cert.EmbedIdeal.Body.R m, fun _ => Cert.EmbedRefIdeal.Steps.statsOf (Cert.EmbedIdeal.Body.R m), embed_run m g (small_of m hpre),
    (θ_run _ _ _).mono (fun r h c => ?_) (Cert.EmbedRefIdeal.Value.run m' g')⟩
  obtain rfl : c = 0 := Subsingleton.elim c 0
  obtain ⟨h0, h1, h2⟩ := h 0
  obtain ⟨a0, a1, a2, a3, a4⟩ := hagree 0
  have e : Cert.EmbedIdeal.Body.R m = Cert.EmbedRefIdeal.Steps.projT (m' ((0 : Dev Cert.EmbedRefIdeal.nD).tc.loc Cert.EmbedRefIdeal.main_arg0))
      (m' ((0 : Dev Cert.EmbedRefIdeal.nD).tc.loc Cert.EmbedRefIdeal.main_arg1)) (m' ((0 : Dev Cert.EmbedRefIdeal.nD).tc.loc Cert.EmbedRefIdeal.main_arg2))
      (m' ((0 : Dev Cert.EmbedRefIdeal.nD).tc.loc Cert.EmbedRefIdeal.main_arg3)) (m' ((0 : Dev Cert.EmbedRefIdeal.nD).tc.loc Cert.EmbedRefIdeal.main_arg4)) := by
    rw [a0, a1, a2, a3, a4]
    rfl
  exact ⟨h0.trans (Eq.trans (by rfl) e.symm), h1.trans (Eq.trans (by rfl) (congrArg Cert.EmbedRefIdeal.Steps.statsOf e.symm)), h2⟩

theorem claim : Cert.Claim :=
  ⟨Cert.Lstm.Gen.facts, Cert.LstmIdeal.Gen.facts, Cert.LstmRefIdeal.Gen.facts,
    Cert.Dist.Gen.facts, Cert.DistIdeal.Gen.facts, Cert.DistRefIdeal.Gen.facts,
    Cert.Mlp.Gen.facts, Cert.MlpIdeal.Gen.facts, Cert.MlpRefIdeal.Gen.facts, Cert.Embed.Gen.facts, Cert.EmbedIdeal.Gen.facts, Cert.EmbedRefIdeal.Gen.facts, Cert.Reals.statesFacts, Cert.Reals.headFacts, Cert.Tokens.tokensFacts,
    lstm_frame, lstmIdeal_frame, lstmRef_frame,
    dist_frame, distIdeal_frame, fun m g _ => distIdeal_frame m g trivial, distRef_frame, fun m g _ => distRef_frame m g trivial,
    mlp_frame, mlpIdeal_frame, fun m g _ => mlpIdeal_frame m g trivial, mlpRef_frame, fun m g _ => mlpRef_frame m g trivial,
    embed_frame, embedIdeal_frame, embedRef_frame, fun m g _ => embedRef_frame m g trivial,
    trivial, lstm_value, trivial, dist_value, trivial, mlp_value, trivial, embed_value⟩

end Cert.Proof

end
